-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  IdealRules.named_const.Statement Cert.KernelIdeal.κ "scale2" .f32 0x3E16C740#32 (((3424635 / 33554432) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v27)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v68_2)) (v1 : (c : Dev Cert.Kernel4Ideal.nD) → Buf (Elt Ideal) ((c.tc : Thread Cert.Kernel4Ideal.nD Cert.Kernel4Ideal.τ).loc Cert.Kernel4Ideal.main_v68_3)) (v2 : (c : Dev Cert.Kernel4Ideal.nD) → Buf (Elt Ideal) ((c.tc : Thread Cert.Kernel4Ideal.nD Cert.Kernel4Ideal.τ).loc Cert.Kernel4Ideal.main_v68_6)) (v3 : (c : Dev Cert.Kernel4Ideal.nD) → Buf (Elt Ideal) ((c.tc : Thread Cert.Kernel4Ideal.nD Cert.Kernel4Ideal.τ).loc Cert.Kernel4Ideal.main_v68_7)) (v4 : (c : Dev Cert.Kernel4Ideal.nD) → Buf (Elt Ideal) ((c.tc : Thread Cert.Kernel4Ideal.nD Cert.Kernel4Ideal.τ).loc Cert.Kernel4Ideal.main_v68_10)) (v5 : (c : Dev Cert.Kernel4Ideal.nD) → Buf (Elt Ideal) ((c.tc : Thread Cert.Kernel4Ideal.nD Cert.Kernel4Ideal.τ).loc Cert.Kernel4Ideal.main_v68_11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v68_2) = v0 c
          ∧ r.2.mem ((c.tc : Thread Cert.Kernel4Ideal.nD Cert.Kernel4Ideal.τ).loc Cert.Kernel4Ideal.main_v68_3) = v1 c
          ∧ r.2.mem ((c.tc : Thread Cert.Kernel4Ideal.nD Cert.Kernel4Ideal.τ).loc Cert.Kernel4Ideal.main_v68_6) = v2 c
          ∧ r.2.mem ((c.tc : Thread Cert.Kernel4Ideal.nD Cert.Kernel4Ideal.τ).loc Cert.Kernel4Ideal.main_v68_7) = v3 c
          ∧ r.2.mem ((c.tc : Thread Cert.Kernel4Ideal.nD Cert.Kernel4Ideal.τ).loc Cert.Kernel4Ideal.main_v68_10) = v4 c
          ∧ r.2.mem ((c.tc : Thread Cert.Kernel4Ideal.nD Cert.Kernel4Ideal.τ).loc Cert.Kernel4Ideal.main_v68_11) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v54) = v0 c
          ∧ r.2.mem ((c.tc : Thread Cert.Reference4Ideal.nD Cert.Reference4Ideal.τ).loc Cert.Reference4Ideal.main_v51) = v1 c
          ∧ r.2.mem ((c.tc : Thread Cert.Reference4Ideal.nD Cert.Reference4Ideal.τ).loc Cert.Reference4Ideal.main_v34) = v2 c
          ∧ r.2.mem ((c.tc : Thread Cert.Reference4Ideal.nD Cert.Reference4Ideal.τ).loc Cert.Reference4Ideal.main_v35) = v3 c
          ∧ r.2.mem ((c.tc : Thread Cert.Reference4Ideal.nD Cert.Reference4Ideal.τ).loc Cert.Reference4Ideal.main_v55) = v4 c
          ∧ r.2.mem ((c.tc : Thread Cert.Reference4Ideal.nD Cert.Reference4Ideal.τ).loc Cert.Reference4Ideal.main_v37) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x4096x8x64 : Shape := ⟨4, ![8, 4096, 8, 64]⟩
abbrev S8x4096x8x32 : Shape := ⟨4, ![8, 4096, 8, 32]⟩
abbrev S8x4096x32 : Shape := ⟨3, ![8, 4096, 32]⟩
abbrev S_ : Shape := ⟨0, ![]⟩

class Facts : Prop where
  bcast_S_S8x4096x8x64 : S_.BroadcastsInDim S8x4096x8x64 (![] : Fin 0 → Fin S8x4096x8x64.rank)
  bcast_S_S8x4096x8x32 : S_.BroadcastsInDim S8x4096x8x32 (![] : Fin 0 → Fin S8x4096x8x32.rank)
  bcast_S_S8x4096x32 : S_.BroadcastsInDim S8x4096x32 (![] : Fin 0 → Fin S8x4096x32.rank)

variable [Facts]

def fn {F : FTy → Type} [FloatOps F] (main_arg0 : FVec F S8x4096x8x64 .f32) (main_arg1 : FVec F S8x4096x8x32 .f32) (main_arg2 : FVec F S8x4096x8x64 .f32) (main_arg3 : FVec F S8x4096x32 .f32) (main_arg4 : FVec F S8x4096x8x64 .f32) : IVec S8x4096x8x64 1 × IVec S8x4096x8x32 1 × IVec S8x4096x8x64 1 × IVec S8x4096x32 1 :=
  let main_v0 : FVec F S8x4096x8x64 .f32 := Host.absf main_arg0
  let main_cst : FVec F S_ .f32 := constant S_ .f32 0x7F800000#32
  let main_v1 : FVec F S8x4096x8x64 .f32 := broadcastInDim S8x4096x8x64 ![] bcast_S_S8x4096x8x64 main_cst
  let main_v2 : IVec S8x4096x8x64 1 := cmpf .olt main_v0 main_v1
  let main_v3 : FVec F S8x4096x8x32 .f32 := Host.absf main_arg1
  let main_cst_0 : FVec F S_ .f32 := constant S_ .f32 0x7F800000#32
  let main_v4 : FVec F S8x4096x8x32 .f32 := broadcastInDim S8x4096x8x32 ![] bcast_S_S8x4096x8x32 main_cst_0
  let main_v5 : IVec S8x4096x8x32 1 := cmpf .olt main_v3 main_v4
  let main_v6 : FVec F S8x4096x8x64 .f32 := Host.absf main_arg2
  let main_cst_1 : FVec F S_ .f32 := constant S_ .f32 0x7F800000#32
  let main_v7 : FVec F S8x4096x8x64 .f32 := broadcastInDim S8x4096x8x64 ![] bcast_S_S8x4096x8x64 main_cst_1
  let main_v8 : IVec S8x4096x8x64 1 := cmpf .olt main_v6 main_v7
  let main_v9 : FVec F S8x4096x32 .f32 := Host.absf main_arg3
  let main_cst_2 : FVec F S_ .f32 := constant S_ .f32 0x7F800000#32
  let main_v10 : FVec F S8x4096x32 .f32 := broadcastInDim S8x4096x32 ![] bcast_S_S8x4096x32 main_cst_2
  let main_v11 : IVec S8x4096x32 1 := cmpf .olt main_v9 main_v10
  (main_v2, main_v5, main_v8, main_v11)
-- ==== Kernel.lean ====
abbrev S8x4096x8x64 : Shape := ⟨4, ![8, 4096, 8, 64]⟩
abbrev S8x4096x8x32 : Shape := ⟨4, ![8, 4096, 8, 32]⟩
abbrev S8x4096x32 : Shape := ⟨3, ![8, 4096, 32]⟩
abbrev S_ : Shape := ⟨0, ![]⟩
abbrev S8x4096x1x32 : Shape := ⟨4, ![8, 4096, 1, 32]⟩
abbrev S8x4096x8x128 : Shape := ⟨4, ![8, 4096, 8, 128]⟩
abbrev S8x4096x1024 : Shape := ⟨3, ![8, 4096, 1024]⟩
abbrev S8x4096x512 : Shape := ⟨3, ![8, 4096, 512]⟩
abbrev S1x256x1024 : Shape := ⟨3, ![1, 256, 1024]⟩
abbrev S1x4096x1024 : Shape := ⟨3, ![1, 4096, 1024]⟩
abbrev S1x4096x512 : Shape := ⟨3, ![1, 4096, 512]⟩
abbrev S1x256x512 : Shape := ⟨3, ![1, 256, 512]⟩
abbrev S8x256x128 : Shape := ⟨3, ![8, 256, 128]⟩
abbrev S4x256x128 : Shape := ⟨3, ![4, 256, 128]⟩
abbrev S256x128 : Shape := ⟨2, ![256, 128]⟩
abbrev S256x256 : Shape := ⟨2, ![256, 256]⟩
abbrev S1x256x128 : Shape := ⟨3, ![1, 256, 128]⟩
abbrev S1x512x128 : Shape := ⟨3, ![1, 512, 128]⟩
abbrev S512x128 : Shape := ⟨2, ![512, 128]⟩
abbrev S256x512 : Shape := ⟨2, ![256, 512]⟩
abbrev S256 : Shape := ⟨1, ![256]⟩
abbrev S256x1 : Shape := ⟨2, ![256, 1]⟩

abbrev nBuf : Space → Nat
  | .hbm => 18
  | .vmem => 11
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x8x32, .f32⟩
  | .hbm, ⟨2, _⟩ => ⟨S8x4096x8x64, .f32⟩
  | .hbm, ⟨3, _⟩ => ⟨S8x4096x32, .f32⟩
  | .hbm, ⟨4, _⟩ => ⟨S8x4096x8x64, .f32⟩
  | .hbm, ⟨5, _⟩ => ⟨S_, .f32⟩
  | .hbm, ⟨6, _⟩ => ⟨S8x4096x8x32, .f32⟩
  | .hbm, ⟨7, _⟩ => ⟨S8x4096x1x32, .f32⟩
  | .hbm, ⟨8, _⟩ => ⟨S8x4096x8x32, .f32⟩
  | .hbm, ⟨9, _⟩ => ⟨S8x4096x8x128, .f32⟩
  | .hbm, ⟨10, _⟩ => ⟨S8x4096x1024, .f32⟩
  | .hbm, ⟨11, _⟩ => ⟨S8x4096x1024, .bf16⟩
  | .hbm, ⟨12, _⟩ => ⟨S8x4096x8x128, .f32⟩
  | .hbm, ⟨13, _⟩ => ⟨S8x4096x1024, .f32⟩
  | .hbm, ⟨14, _⟩ => ⟨S8x4096x1024, .bf16⟩
  | .hbm, ⟨15, _⟩ => ⟨S8x4096x512, .f32⟩
  | .hbm, ⟨16, _⟩ => ⟨S8x4096x512, .bf16⟩
  | .hbm, ⟨17, _⟩ => ⟨S8x4096x512, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x256x512, .bf16⟩
  | .local _ .vmem, ⟨7, _⟩ => ⟨S1x256x512, .bf16⟩
  | .local _ .vmem, ⟨8, _⟩ => ⟨S8x256x128, .f32⟩
  | .local _ .vmem, ⟨9, _⟩ => ⟨S8x256x128, .f32⟩
  | .local _ .vmem, ⟨10, _⟩ => ⟨S4x256x128, .f32⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_15 : BitVec 32 := 0#32
  let arg1 : BitVec 32 := BitVec.ofNat 32 (i 1).val
  let c0_i32 : BitVec 32 := 0#32
  let v18 : BitVec 1 := Scalar.cmpi .sgt arg1 c0_i32
  let v19 : BitVec 32 := Scalar.extui v18
  let c0_i32_10 : BitVec 32 := 0#32
  let v20 : BitVec 1 := Scalar.cmpi .slt arg1 c0_i32_10
  let v21 : BitVec 32 := Scalar.extui v20
  let v22 : BitVec 32 := Scalar.subi v19 v21
  let c2_i32 : BitVec 32 := 2#32
  let c0_i32_11 : BitVec 32 := 0#32
  let v23 : BitVec 1 := Scalar.cmpi .sgt c2_i32 c0_i32_11
  let v24 : BitVec 32 := Scalar.extui v23
  let c0_i32_12 : BitVec 32 := 0#32
  let v25 : BitVec 1 := Scalar.cmpi .slt c2_i32 c0_i32_12
  let v26 : BitVec 32 := Scalar.extui v25
  let v27 : BitVec 32 := Scalar.subi v24 v26
  let v28 : BitVec 1 := Scalar.cmpi .ne v22 v27
  let v29 : BitVec 32 := Scalar.remsi arg1 c2_i32
  let c0_i32_13 : BitVec 32 := 0#32
  let v30 : BitVec 1 := Scalar.cmpi .ne v29 c0_i32_13
  let v31 : BitVec 1 := Scalar.andi v28 v30
  let v17 : BitVec 32 := Scalar.divsi arg1 c2_i32
  let c1_i32 : BitVec 32 := 1#32
  let v32 : BitVec 32 := Scalar.subi v17 c1_i32
  let v33 : BitVec 32 := Scalar.select v31 v32 v17
  let v34 : BitVec 32 := Scalar.subi v33 c0_i32_15
  let c1_i32_16 : BitVec 32 := 1#32
  let v36 : BitVec 32 := Scalar.divsi v34 c1_i32_16
  let v37 : BitVec 32 := Scalar.muli v36 c1_i32_16
  let v38 : BitVec 32 := Scalar.addi c0_i32_15 v37
  let c1_i32_17 : BitVec 32 := 1#32
  ⟨c0_i32_15, v38, c1_i32_17⟩
def k0_mult1 (i : grid0.Coords) (k0_t1 : Fin (k0_t1_loop i).trips) : BitVec 32 :=
  let c0_i32_15 : BitVec 32 := 0#32
  let c1_i32_17 : BitVec 32 := 1#32
  let arg9 : BitVec 32 := Scf.iv c0_i32_15 c1_i32_17 k0_t1
  let c512_i32 : BitVec 32 := 512#32
  let v538 : BitVec 32 := Scalar.muli arg9 c512_i32
  v538
def k0_off1 (i : grid0.Coords) (k0_t1 : Fin (k0_t1_loop i).trips) : Fin 3 → Nat :=
  let c0_296 : Index := 0#32
  let c0_i32_15 : BitVec 32 := 0#32
  let c1_i32_17 : BitVec 32 := 1#32
  let arg9 : BitVec 32 := Scf.iv c0_i32_15 c1_i32_17 k0_t1
  let c512_i32 : BitVec 32 := 512#32
  let v538 : BitVec 32 := Scalar.muli arg9 c512_i32
  let v539 : BitVec 32 := v538
  let v542 : Index := Scalar.indexCast v539
  let c0_297 : Index := 0#32
  ![0, v542.toNat, 0]
def k0_off2 (i : grid0.Coords) (k0_t1 : Fin (k0_t1_loop i).trips) : Fin 3 → Nat :=
  let c0_300 : Index := 0#32
  let c0_i32_15 : BitVec 32 := 0#32
  let c1_i32_17 : BitVec 32 := 1#32
  let arg9 : BitVec 32 := Scf.iv c0_i32_15 c1_i32_17 k0_t1
  let c512_i32 : BitVec 32 := 512#32
  let v538 : BitVec 32 := Scalar.muli arg9 c512_i32
  let v539 : BitVec 32 := v538
  let v548 : Index := Scalar.indexCast v539
  let c0_301 : Index := 0#32
  ![0, v548.toNat, 0]
def k0_off3 (i : grid0.Coords) (k0_t1 : Fin (k0_t1_loop i).trips) : Fin 3 → Nat :=
  let c0_319 : Index := 0#32
  let c0_i32_15 : BitVec 32 := 0#32
  let c1_i32_17 : BitVec 32 := 1#32
  let arg9 : BitVec 32 := Scf.iv c0_i32_15 c1_i32_17 k0_t1
  let c512_i32 : BitVec 32 := 512#32
  let v538 : BitVec 32 := Scalar.muli arg9 c512_i32
  let v539 : BitVec 32 := v538
  let v595 : Index := Scalar.indexCast v539
  let c128_320 : Index := 128#32
  ![0, v595.toNat, 128]
def k0_off4 (i : grid0.Coords) (k0_t1 : Fin (k0_t1_loop i).trips) : Fin 3 → Nat :=
  let c0_348 : Index := 0#32
  let c0_i32_15 : BitVec 32 := 0#32
  let c1_i32_17 : BitVec 32 := 1#32
  let arg9 : BitVec 32 := Scf.iv c0_i32_15 c1_i32_17 k0_t1
  let c512_i32 : BitVec 32 := 512#32
  let v538 : BitVec 32 := Scalar.muli arg9 c512_i32
  let v539 : BitVec 32 := v538
  let v657 : Index := Scalar.indexCast v539
  let c256_349 : Index := 256#32
  ![0, v657.toNat, 256]
def k0_off5 (i : grid0.Coords) (k0_t1 : Fin (k0_t1_loop i).trips) : Fin 3 → Nat :=
  let c0_352 : Index := 0#32
  let c0_i32_15 : BitVec 32 := 0#32
  let c1_i32_17 : BitVec 32 := 1#32
  let arg9 : BitVec 32 := Scf.iv c0_i32_15 c1_i32_17 k0_t1
  let c512_i32 : BitVec 32 := 512#32
  let v538 : BitVec 32 := Scalar.muli arg9 c512_i32
  let v539 : BitVec 32 := v538
  let v663 : Index := Scalar.indexCast v539
  let c128_353 : Index := 128#32
  ![0, v663.toNat, 128]
def k0_off6 (i : grid0.Coords) (k0_t1 : Fin (k0_t1_loop i).trips) : Fin 3 → Nat :=
  let c0_371 : Index := 0#32
  let c0_i32_15 : BitVec 32 := 0#32
  let c1_i32_17 : BitVec 32 := 1#32
  let arg9 : BitVec 32 := Scf.iv c0_i32_15 c1_i32_17 k0_t1
  let c512_i32 : BitVec 32 := 512#32
  let v538 : BitVec 32 := Scalar.muli arg9 c512_i32
  let v539 : BitVec 32 := v538
  let v710 : Index := Scalar.indexCast v539
  let c384_372 : Index := 384#32
  ![0, v710.toNat, 384]
def k0_off7 (i : grid0.Coords) (k0_t1 : Fin (k0_t1_loop i).trips) : Fin 3 → Nat :=
  let c0_400 : Index := 0#32
  let c0_i32_15 : BitVec 32 := 0#32
  let c1_i32_17 : BitVec 32 := 1#32
  let arg9 : BitVec 32 := Scf.iv c0_i32_15 c1_i32_17 k0_t1
  let c512_i32 : BitVec 32 := 512#32
  let v538 : BitVec 32 := Scalar.muli arg9 c512_i32
  let v539 : BitVec 32 := v538
  let v772 : Index := Scalar.indexCast v539
  let c512_401 : Index := 512#32
  ![0, v772.toNat, 512]
def k0_off8 (i : grid0.Coords) (k0_t1 : Fin (k0_t1_loop i).trips) : Fin 3 → Nat :=
  let c0_404 : Index := 0#32
  let c0_i32_15 : BitVec 32 := 0#32
  let c1_i32_17 : BitVec 32 := 1#32
  let arg9 : BitVec 32 := Scf.iv c0_i32_15 c1_i32_17 k0_t1
  let c512_i32 : BitVec 32 := 512#32
  let v538 : BitVec 32 := Scalar.muli arg9 c512_i32
  let v539 : BitVec 32 := v538
  let v778 : Index := Scalar.indexCast v539
  let c256_405 : Index := 256#32
  ![0, v778.toNat, 256]
def k0_off9 (i : grid0.Coords) (k0_t1 : Fin (k0_t1_loop i).trips) : Fin 3 → Nat :=
  let c0_423 : Index := 0#32
  let c0_i32_15 : BitVec 32 := 0#32
  let c1_i32_17 : BitVec 32 := 1#32
  let arg9 : BitVec 32 := Scf.iv c0_i32_15 c1_i32_17 k0_t1
  let c512_i32 : BitVec 32 := 512#32
  let v538 : BitVec 32 := Scalar.muli arg9 c512_i32
  let v539 : BitVec 32 := v538
  let v825 : Index := Scalar.indexCast v539
  let c640_424 : Index := 640#32
  ![0, v825.toNat, 640]
def k0_off10 (i : grid0.Coords) (k0_t1 : Fin (k0_t1_loop i).trips) : Fin 3 → Nat :=
  let c0_452 : Index := 0#32
  let c0_i32_15 : BitVec 32 := 0#32
  let c1_i32_17 : BitVec 32 := 1#32
  let arg9 : BitVec 32 := Scf.iv c0_i32_15 c1_i32_17 k0_t1
  let c512_i32 : BitVec 32 := 512#32
  let v538 : BitVec 32 := Scalar.muli arg9 c512_i32
  let v539 : BitVec 32 := v538
  let v887 : Index := Scalar.indexCast v539
  let c768_453 : Index := 768#32
  ![0, v887.toNat, 768]
def k0_off11 (i : grid0.Coords) (k0_t1 : Fin (k0_t1_loop i).trips) : Fin 3 → Nat :=
  let c0_456 : Index := 0#32
  let c0_i32_15 : BitVec 32 := 0#32
  let c1_i32_17 : BitVec 32 := 1#32
  let arg9 : BitVec 32 := Scf.iv c0_i32_15 c1_i32_17 k0_t1
  let c512_i32 : BitVec 32 := 512#32
  let v538 : BitVec 32 := Scalar.muli arg9 c512_i32
  let v539 : BitVec 32 := v538
  let v893 : Index := Scalar.indexCast v539
  let c384_457 : Index := 384#32
  ![0, v893.toNat, 384]
def k0_off12 (i : grid0.Coords) (k0_t1 : Fin (k0_t1_loop i).trips) : Fin 3 → Nat :=
  let c0_475 : Index := 0#32
  let c0_i32_15 : BitVec 32 := 0#32
  let c1_i32_17 : BitVec 32 := 1#32
  let arg9 : BitVec 32 := Scf.iv c0_i32_15 c1_i32_17 k0_t1
  let c512_i32 : BitVec 32 := 512#32
  let v538 : BitVec 32 := Scalar.muli arg9 c512_i32
  let v539 : BitVec 32 := v538
  let v940 : Index := Scalar.indexCast v539
  let c896_476 : Index := 896#32
  ![0, v940.toNat, 896]
@[reducible] def k0_t2_loop (i : grid0.Coords) : Scf.Loop 32 :=
  let c0_i32_15 : BitVec 32 := 0#32
  let arg1 : BitVec 32 := BitVec.ofNat 32 (i 1).val
  let c0_i32 : BitVec 32 := 0#32
  let v18 : BitVec 1 := Scalar.cmpi .sgt arg1 c0_i32
  let v19 : BitVec 32 := Scalar.extui v18
  let c0_i32_10 : BitVec 32 := 0#32
  let v20 : BitVec 1 := Scalar.cmpi .slt arg1 c0_i32_10
  let v21 : BitVec 32 := Scalar.extui v20
  let v22 : BitVec 32 := Scalar.subi v19 v21
  let c2_i32 : BitVec 32 := 2#32
  let c0_i32_11 : BitVec 32 := 0#32
  let v23 : BitVec 1 := Scalar.cmpi .sgt c2_i32 c0_i32_11
  let v24 : BitVec 32 := Scalar.extui v23
  let c0_i32_12 : BitVec 32 := 0#32
  let v25 : BitVec 1 := Scalar.cmpi .slt c2_i32 c0_i32_12
  let v26 : BitVec 32 := Scalar.extui v25
  let v27 : BitVec 32 := Scalar.subi v24 v26
  let v28 : BitVec 1 := Scalar.cmpi .ne v22 v27
  let v29 : BitVec 32 := Scalar.remsi arg1 c2_i32
  let c0_i32_13 : BitVec 32 := 0#32
  let v30 : BitVec 1 := Scalar.cmpi .ne v29 c0_i32_13
  let v31 : BitVec 1 := Scalar.andi v28 v30
  let v17 : BitVec 32 := Scalar.divsi arg1 c2_i32
  let c1_i32 : BitVec 32 := 1#32
  let v32 : BitVec 32 := Scalar.subi v17 c1_i32
  let v33 : BitVec 32 := Scalar.select v31 v32 v17
  let v34 : BitVec 32 := Scalar.subi v33 c0_i32_15
  let c1_i32_16 : BitVec 32 := 1#32
  let v36 : BitVec 32 := Scalar.divsi v34 c1_i32_16
  let v37 : BitVec 32 := Scalar.muli v36 c1_i32_16
  let v38 : BitVec 32 := Scalar.addi c0_i32_15 v37
  let v35 : BitVec 32 := Scalar.addi c0_i32_15 v34
  let c1_i32_18 : BitVec 32 := 1#32
  ⟨v38, v35, c1_i32_18⟩
def k0_mult2 (i : grid0.Coords) (k0_t2 : Fin (k0_t2_loop i).trips) : BitVec 32 :=
  let c0_i32_15 : BitVec 32 := 0#32
  let arg1 : BitVec 32 := BitVec.ofNat 32 (i 1).val
  let c0_i32 : BitVec 32 := 0#32
  let v18 : BitVec 1 := Scalar.cmpi .sgt arg1 c0_i32
  let v19 : BitVec 32 := Scalar.extui v18
  let c0_i32_10 : BitVec 32 := 0#32
  let v20 : BitVec 1 := Scalar.cmpi .slt arg1 c0_i32_10
  let v21 : BitVec 32 := Scalar.extui v20
  let v22 : BitVec 32 := Scalar.subi v19 v21
  let c2_i32 : BitVec 32 := 2#32
  let c0_i32_11 : BitVec 32 := 0#32
  let v23 : BitVec 1 := Scalar.cmpi .sgt c2_i32 c0_i32_11
  let v24 : BitVec 32 := Scalar.extui v23
  let c0_i32_12 : BitVec 32 := 0#32
  let v25 : BitVec 1 := Scalar.cmpi .slt c2_i32 c0_i32_12
  let v26 : BitVec 32 := Scalar.extui v25
  let v27 : BitVec 32 := Scalar.subi v24 v26
  let v28 : BitVec 1 := Scalar.cmpi .ne v22 v27
  let v29 : BitVec 32 := Scalar.remsi arg1 c2_i32
  let c0_i32_13 : BitVec 32 := 0#32
  let v30 : BitVec 1 := Scalar.cmpi .ne v29 c0_i32_13
  let v31 : BitVec 1 := Scalar.andi v28 v30
  let v17 : BitVec 32 := Scalar.divsi arg1 c2_i32
  let c1_i32 : BitVec 32 := 1#32
  let v32 : BitVec 32 := Scalar.subi v17 c1_i32
  let v33 : BitVec 32 := Scalar.select v31 v32 v17
  let v34 : BitVec 32 := Scalar.subi v33 c0_i32_15
  let c1_i32_16 : BitVec 32 := 1#32
  let v36 : BitVec 32 := Scalar.divsi v34 c1_i32_16
  let v37 : BitVec 32 := Scalar.muli v36 c1_i32_16
  let v38 : BitVec 32 := Scalar.addi c0_i32_15 v37
  let c1_i32_18 : BitVec 32 := 1#32
  let arg9 : BitVec 32 := Scf.iv v38 c1_i32_18 k0_t2
  let c512_i32 : BitVec 32 := 512#32
  let v538 : BitVec 32 := Scalar.muli arg9 c512_i32
  v538
def k0_off13 (i : grid0.Coords) (k0_t2 : Fin (k0_t2_loop i).trips) : Fin 3 → Nat :=
  let c0_296 : Index := 0#32
  let c0_i32_15 : BitVec 32 := 0#32
  let arg1 : BitVec 32 := BitVec.ofNat 32 (i 1).val
  let c0_i32 : BitVec 32 := 0#32
  let v18 : BitVec 1 := Scalar.cmpi .sgt arg1 c0_i32
  let v19 : BitVec 32 := Scalar.extui v18
  let c0_i32_10 : BitVec 32 := 0#32
  let v20 : BitVec 1 := Scalar.cmpi .slt arg1 c0_i32_10
  let v21 : BitVec 32 := Scalar.extui v20
  let v22 : BitVec 32 := Scalar.subi v19 v21
  let c2_i32 : BitVec 32 := 2#32
  let c0_i32_11 : BitVec 32 := 0#32
  let v23 : BitVec 1 := Scalar.cmpi .sgt c2_i32 c0_i32_11
  let v24 : BitVec 32 := Scalar.extui v23
  let c0_i32_12 : BitVec 32 := 0#32
  let v25 : BitVec 1 := Scalar.cmpi .slt c2_i32 c0_i32_12
  let v26 : BitVec 32 := Scalar.extui v25
  let v27 : BitVec 32 := Scalar.subi v24 v26
  let v28 : BitVec 1 := Scalar.cmpi .ne v22 v27
  let v29 : BitVec 32 := Scalar.remsi arg1 c2_i32
  let c0_i32_13 : BitVec 32 := 0#32
  let v30 : BitVec 1 := Scalar.cmpi .ne v29 c0_i32_13
  let v31 : BitVec 1 := Scalar.andi v28 v30
  let v17 : BitVec 32 := Scalar.divsi arg1 c2_i32
  let c1_i32 : BitVec 32 := 1#32
  let v32 : BitVec 32 := Scalar.subi v17 c1_i32
  let v33 : BitVec 32 := Scalar.select v31 v32 v17
  let v34 : BitVec 32 := Scalar.subi v33 c0_i32_15
  let c1_i32_16 : BitVec 32 := 1#32
  let v36 : BitVec 32 := Scalar.divsi v34 c1_i32_16
  let v37 : BitVec 32 := Scalar.muli v36 c1_i32_16
  let v38 : BitVec 32 := Scalar.addi c0_i32_15 v37
  let c1_i32_18 : BitVec 32 := 1#32
  let arg9 : BitVec 32 := Scf.iv v38 c1_i32_18 k0_t2
  let c512_i32 : BitVec 32 := 512#32
  let v538 : BitVec 32 := Scalar.muli arg9 c512_i32
  let v539 : BitVec 32 := v538
  let v542 : Index := Scalar.indexCast v539
  let c0_297 : Index := 0#32
  ![0, v542.toNat, 0]
def k0_off14 (i : grid0.Coords) (k0_t2 : Fin (k0_t2_loop i).trips) : Fin 3 → Nat :=
  let c0_300 : Index := 0#32
  let c0_i32_15 : BitVec 32 := 0#32
  let arg1 : BitVec 32 := BitVec.ofNat 32 (i 1).val
  let c0_i32 : BitVec 32 := 0#32
  let v18 : BitVec 1 := Scalar.cmpi .sgt arg1 c0_i32
  let v19 : BitVec 32 := Scalar.extui v18
  let c0_i32_10 : BitVec 32 := 0#32
  let v20 : BitVec 1 := Scalar.cmpi .slt arg1 c0_i32_10
  let v21 : BitVec 32 := Scalar.extui v20
  let v22 : BitVec 32 := Scalar.subi v19 v21
  let c2_i32 : BitVec 32 := 2#32
  let c0_i32_11 : BitVec 32 := 0#32
  let v23 : BitVec 1 := Scalar.cmpi .sgt c2_i32 c0_i32_11
  let v24 : BitVec 32 := Scalar.extui v23
  let c0_i32_12 : BitVec 32 := 0#32
  let v25 : BitVec 1 := Scalar.cmpi .slt c2_i32 c0_i32_12
  let v26 : BitVec 32 := Scalar.extui v25
  let v27 : BitVec 32 := Scalar.subi v24 v26
  let v28 : BitVec 1 := Scalar.cmpi .ne v22 v27
  let v29 : BitVec 32 := Scalar.remsi arg1 c2_i32
  let c0_i32_13 : BitVec 32 := 0#32
  let v30 : BitVec 1 := Scalar.cmpi .ne v29 c0_i32_13
  let v31 : BitVec 1 := Scalar.andi v28 v30
  let v17 : BitVec 32 := Scalar.divsi arg1 c2_i32
  let c1_i32 : BitVec 32 := 1#32
  let v32 : BitVec 32 := Scalar.subi v17 c1_i32
  let v33 : BitVec 32 := Scalar.select v31 v32 v17
  let v34 : BitVec 32 := Scalar.subi v33 c0_i32_15
  let c1_i32_16 : BitVec 32 := 1#32
  let v36 : BitVec 32 := Scalar.divsi v34 c1_i32_16
  let v37 : BitVec 32 := Scalar.muli v36 c1_i32_16
  let v38 : BitVec 32 := Scalar.addi c0_i32_15 v37
  let c1_i32_18 : BitVec 32 := 1#32
  let arg9 : BitVec 32 := Scf.iv v38 c1_i32_18 k0_t2
  let c512_i32 : BitVec 32 := 512#32
  let v538 : BitVec 32 := Scalar.muli arg9 c512_i32
  let v539 : BitVec 32 := v538
  let v548 : Index := Scalar.indexCast v539
  let c0_301 : Index := 0#32
  ![0, v548.toNat, 0]
def k0_off15 (i : grid0.Coords) (k0_t2 : Fin (k0_t2_loop i).trips) : Fin 3 → Nat :=
  let c0_319 : Index := 0#32
  let c0_i32_15 : BitVec 32 := 0#32
  let arg1 : BitVec 32 := BitVec.ofNat 32 (i 1).val
  let c0_i32 : BitVec 32 := 0#32
  let v18 : BitVec 1 := Scalar.cmpi .sgt arg1 c0_i32
  let v19 : BitVec 32 := Scalar.extui v18
  let c0_i32_10 : BitVec 32 := 0#32
  let v20 : BitVec 1 := Scalar.cmpi .slt arg1 c0_i32_10
  let v21 : BitVec 32 := Scalar.extui v20
  let v22 : BitVec 32 := Scalar.subi v19 v21
  let c2_i32 : BitVec 32 := 2#32
  let c0_i32_11 : BitVec 32 := 0#32
  let v23 : BitVec 1 := Scalar.cmpi .sgt c2_i32 c0_i32_11
  let v24 : BitVec 32 := Scalar.extui v23
  let c0_i32_12 : BitVec 32 := 0#32
  let v25 : BitVec 1 := Scalar.cmpi .slt c2_i32 c0_i32_12
  let v26 : BitVec 32 := Scalar.extui v25
  let v27 : BitVec 32 := Scalar.subi v24 v26
  let v28 : BitVec 1 := Scalar.cmpi .ne v22 v27
  let v29 : BitVec 32 := Scalar.remsi arg1 c2_i32
  let c0_i32_13 : BitVec 32 := 0#32
  let v30 : BitVec 1 := Scalar.cmpi .ne v29 c0_i32_13
  let v31 : BitVec 1 := Scalar.andi v28 v30
  let v17 : BitVec 32 := Scalar.divsi arg1 c2_i32
  let c1_i32 : BitVec 32 := 1#32
  let v32 : BitVec 32 := Scalar.subi v17 c1_i32
  let v33 : BitVec 32 := Scalar.select v31 v32 v17
  let v34 : BitVec 32 := Scalar.subi v33 c0_i32_15
  let c1_i32_16 : BitVec 32 := 1#32
  let v36 : BitVec 32 := Scalar.divsi v34 c1_i32_16
  let v37 : BitVec 32 := Scalar.muli v36 c1_i32_16
  let v38 : BitVec 32 := Scalar.addi c0_i32_15 v37
  let c1_i32_18 : BitVec 32 := 1#32
  let arg9 : BitVec 32 := Scf.iv v38 c1_i32_18 k0_t2
  let c512_i32 : BitVec 32 := 512#32
  let v538 : BitVec 32 := Scalar.muli arg9 c512_i32
  let v539 : BitVec 32 := v538
  let v595 : Index := Scalar.indexCast v539
  let c128_320 : Index := 128#32
  ![0, v595.toNat, 128]
def k0_off16 (i : grid0.Coords) (k0_t2 : Fin (k0_t2_loop i).trips) : Fin 3 → Nat :=
  let c0_348 : Index := 0#32
  let c0_i32_15 : BitVec 32 := 0#32
  let arg1 : BitVec 32 := BitVec.ofNat 32 (i 1).val
  let c0_i32 : BitVec 32 := 0#32
  let v18 : BitVec 1 := Scalar.cmpi .sgt arg1 c0_i32
  let v19 : BitVec 32 := Scalar.extui v18
  let c0_i32_10 : BitVec 32 := 0#32
  let v20 : BitVec 1 := Scalar.cmpi .slt arg1 c0_i32_10
  let v21 : BitVec 32 := Scalar.extui v20
  let v22 : BitVec 32 := Scalar.subi v19 v21
  let c2_i32 : BitVec 32 := 2#32
  let c0_i32_11 : BitVec 32 := 0#32
  let v23 : BitVec 1 := Scalar.cmpi .sgt c2_i32 c0_i32_11
  let v24 : BitVec 32 := Scalar.extui v23
  let c0_i32_12 : BitVec 32 := 0#32
  let v25 : BitVec 1 := Scalar.cmpi .slt c2_i32 c0_i32_12
  let v26 : BitVec 32 := Scalar.extui v25
  let v27 : BitVec 32 := Scalar.subi v24 v26
  let v28 : BitVec 1 := Scalar.cmpi .ne v22 v27
  let v29 : BitVec 32 := Scalar.remsi arg1 c2_i32
  let c0_i32_13 : BitVec 32 := 0#32
  let v30 : BitVec 1 := Scalar.cmpi .ne v29 c0_i32_13
  let v31 : BitVec 1 := Scalar.andi v28 v30
  let v17 : BitVec 32 := Scalar.divsi arg1 c2_i32
  let c1_i32 : BitVec 32 := 1#32
  let v32 : BitVec 32 := Scalar.subi v17 c1_i32
  let v33 : BitVec 32 := Scalar.select v31 v32 v17
  let v34 : BitVec 32 := Scalar.subi v33 c0_i32_15
  let c1_i32_16 : BitVec 32 := 1#32
  let v36 : BitVec 32 := Scalar.divsi v34 c1_i32_16
  let v37 : BitVec 32 := Scalar.muli v36 c1_i32_16
  let v38 : BitVec 32 := Scalar.addi c0_i32_15 v37
  let c1_i32_18 : BitVec 32 := 1#32
  let arg9 : BitVec 32 := Scf.iv v38 c1_i32_18 k0_t2
  let c512_i32 : BitVec 32 := 512#32
  let v538 : BitVec 32 := Scalar.muli arg9 c512_i32
  let v539 : BitVec 32 := v538
  let v657 : Index := Scalar.indexCast v539
  let c256_349 : Index := 256#32
  ![0, v657.toNat, 256]
def k0_off17 (i : grid0.Coords) (k0_t2 : Fin (k0_t2_loop i).trips) : Fin 3 → Nat :=
  let c0_352 : Index := 0#32
  let c0_i32_15 : BitVec 32 := 0#32
  let arg1 : BitVec 32 := BitVec.ofNat 32 (i 1).val
  let c0_i32 : BitVec 32 := 0#32
  let v18 : BitVec 1 := Scalar.cmpi .sgt arg1 c0_i32
  let v19 : BitVec 32 := Scalar.extui v18
  let c0_i32_10 : BitVec 32 := 0#32
  let v20 : BitVec 1 := Scalar.cmpi .slt arg1 c0_i32_10
  let v21 : BitVec 32 := Scalar.extui v20
  let v22 : BitVec 32 := Scalar.subi v19 v21
  let c2_i32 : BitVec 32 := 2#32
  let c0_i32_11 : BitVec 32 := 0#32
  let v23 : BitVec 1 := Scalar.cmpi .sgt c2_i32 c0_i32_11
  let v24 : BitVec 32 := Scalar.extui v23
  let c0_i32_12 : BitVec 32 := 0#32
  let v25 : BitVec 1 := Scalar.cmpi .slt c2_i32 c0_i32_12
  let v26 : BitVec 32 := Scalar.extui v25
  let v27 : BitVec 32 := Scalar.subi v24 v26
  let v28 : BitVec 1 := Scalar.cmpi .ne v22 v27
  let v29 : BitVec 32 := Scalar.remsi arg1 c2_i32
  let c0_i32_13 : BitVec 32 := 0#32
  let v30 : BitVec 1 := Scalar.cmpi .ne v29 c0_i32_13
  let v31 : BitVec 1 := Scalar.andi v28 v30
  let v17 : BitVec 32 := Scalar.divsi arg1 c2_i32
  let c1_i32 : BitVec 32 := 1#32
  let v32 : BitVec 32 := Scalar.subi v17 c1_i32
  let v33 : BitVec 32 := Scalar.select v31 v32 v17
  let v34 : BitVec 32 := Scalar.subi v33 c0_i32_15
  let c1_i32_16 : BitVec 32 := 1#32
  let v36 : BitVec 32 := Scalar.divsi v34 c1_i32_16
  let v37 : BitVec 32 := Scalar.muli v36 c1_i32_16
  let v38 : BitVec 32 := Scalar.addi c0_i32_15 v37
  let c1_i32_18 : BitVec 32 := 1#32
  let arg9 : BitVec 32 := Scf.iv v38 c1_i32_18 k0_t2
  let c512_i32 : BitVec 32 := 512#32
  let v538 : BitVec 32 := Scalar.muli arg9 c512_i32
  let v539 : BitVec 32 := v538
  let v663 : Index := Scalar.indexCast v539
  let c128_353 : Index := 128#32
  ![0, v663.toNat, 128]
def k0_off18 (i : grid0.Coords) (k0_t2 : Fin (k0_t2_loop i).trips) : Fin 3 → Nat :=
  let c0_371 : Index := 0#32
  let c0_i32_15 : BitVec 32 := 0#32
  let arg1 : BitVec 32 := BitVec.ofNat 32 (i 1).val
  let c0_i32 : BitVec 32 := 0#32
  let v18 : BitVec 1 := Scalar.cmpi .sgt arg1 c0_i32
  let v19 : BitVec 32 := Scalar.extui v18
  let c0_i32_10 : BitVec 32 := 0#32
  let v20 : BitVec 1 := Scalar.cmpi .slt arg1 c0_i32_10
  let v21 : BitVec 32 := Scalar.extui v20
  let v22 : BitVec 32 := Scalar.subi v19 v21
  let c2_i32 : BitVec 32 := 2#32
  let c0_i32_11 : BitVec 32 := 0#32
  let v23 : BitVec 1 := Scalar.cmpi .sgt c2_i32 c0_i32_11
  let v24 : BitVec 32 := Scalar.extui v23
  let c0_i32_12 : BitVec 32 := 0#32
  let v25 : BitVec 1 := Scalar.cmpi .slt c2_i32 c0_i32_12
  let v26 : BitVec 32 := Scalar.extui v25
  let v27 : BitVec 32 := Scalar.subi v24 v26
  let v28 : BitVec 1 := Scalar.cmpi .ne v22 v27
  let v29 : BitVec 32 := Scalar.remsi arg1 c2_i32
  let c0_i32_13 : BitVec 32 := 0#32
  let v30 : BitVec 1 := Scalar.cmpi .ne v29 c0_i32_13
  let v31 : BitVec 1 := Scalar.andi v28 v30
  let v17 : BitVec 32 := Scalar.divsi arg1 c2_i32
  let c1_i32 : BitVec 32 := 1#32
  let v32 : BitVec 32 := Scalar.subi v17 c1_i32
  let v33 : BitVec 32 := Scalar.select v31 v32 v17
  let v34 : BitVec 32 := Scalar.subi v33 c0_i32_15
  let c1_i32_16 : BitVec 32 := 1#32
  let v36 : BitVec 32 := Scalar.divsi v34 c1_i32_16
  let v37 : BitVec 32 := Scalar.muli v36 c1_i32_16
  let v38 : BitVec 32 := Scalar.addi c0_i32_15 v37
  let c1_i32_18 : BitVec 32 := 1#32
  let arg9 : BitVec 32 := Scf.iv v38 c1_i32_18 k0_t2
  let c512_i32 : BitVec 32 := 512#32
  let v538 : BitVec 32 := Scalar.muli arg9 c512_i32
  let v539 : BitVec 32 := v538
  let v710 : Index := Scalar.indexCast v539
  let c384_372 : Index := 384#32
  ![0, v710.toNat, 384]
def k0_off19 (i : grid0.Coords) (k0_t2 : Fin (k0_t2_loop i).trips) : Fin 3 → Nat :=
  let c0_400 : Index := 0#32
  let c0_i32_15 : BitVec 32 := 0#32
  let arg1 : BitVec 32 := BitVec.ofNat 32 (i 1).val
  let c0_i32 : BitVec 32 := 0#32
  let v18 : BitVec 1 := Scalar.cmpi .sgt arg1 c0_i32
  let v19 : BitVec 32 := Scalar.extui v18
  let c0_i32_10 : BitVec 32 := 0#32
  let v20 : BitVec 1 := Scalar.cmpi .slt arg1 c0_i32_10
  let v21 : BitVec 32 := Scalar.extui v20
  let v22 : BitVec 32 := Scalar.subi v19 v21
  let c2_i32 : BitVec 32 := 2#32
  let c0_i32_11 : BitVec 32 := 0#32
  let v23 : BitVec 1 := Scalar.cmpi .sgt c2_i32 c0_i32_11
  let v24 : BitVec 32 := Scalar.extui v23
  let c0_i32_12 : BitVec 32 := 0#32
  let v25 : BitVec 1 := Scalar.cmpi .slt c2_i32 c0_i32_12
  let v26 : BitVec 32 := Scalar.extui v25
  let v27 : BitVec 32 := Scalar.subi v24 v26
  let v28 : BitVec 1 := Scalar.cmpi .ne v22 v27
  let v29 : BitVec 32 := Scalar.remsi arg1 c2_i32
  let c0_i32_13 : BitVec 32 := 0#32
  let v30 : BitVec 1 := Scalar.cmpi .ne v29 c0_i32_13
  let v31 : BitVec 1 := Scalar.andi v28 v30
  let v17 : BitVec 32 := Scalar.divsi arg1 c2_i32
  let c1_i32 : BitVec 32 := 1#32
  let v32 : BitVec 32 := Scalar.subi v17 c1_i32
  let v33 : BitVec 32 := Scalar.select v31 v32 v17
  let v34 : BitVec 32 := Scalar.subi v33 c0_i32_15
  let c1_i32_16 : BitVec 32 := 1#32
  let v36 : BitVec 32 := Scalar.divsi v34 c1_i32_16
  let v37 : BitVec 32 := Scalar.muli v36 c1_i32_16
  let v38 : BitVec 32 := Scalar.addi c0_i32_15 v37
  let c1_i32_18 : BitVec 32 := 1#32
  let arg9 : BitVec 32 := Scf.iv v38 c1_i32_18 k0_t2
  let c512_i32 : BitVec 32 := 512#32
  let v538 : BitVec 32 := Scalar.muli arg9 c512_i32
  let v539 : BitVec 32 := v538
  let v772 : Index := Scalar.indexCast v539
  let c512_401 : Index := 512#32
  ![0, v772.toNat, 512]
def k0_off20 (i : grid0.Coords) (k0_t2 : Fin (k0_t2_loop i).trips) : Fin 3 → Nat :=
  let c0_404 : Index := 0#32
  let c0_i32_15 : BitVec 32 := 0#32
  let arg1 : BitVec 32 := BitVec.ofNat 32 (i 1).val
  let c0_i32 : BitVec 32 := 0#32
  let v18 : BitVec 1 := Scalar.cmpi .sgt arg1 c0_i32
  let v19 : BitVec 32 := Scalar.extui v18
  let c0_i32_10 : BitVec 32 := 0#32
  let v20 : BitVec 1 := Scalar.cmpi .slt arg1 c0_i32_10
  let v21 : BitVec 32 := Scalar.extui v20
  let v22 : BitVec 32 := Scalar.subi v19 v21
  let c2_i32 : BitVec 32 := 2#32
  let c0_i32_11 : BitVec 32 := 0#32
  let v23 : BitVec 1 := Scalar.cmpi .sgt c2_i32 c0_i32_11
  let v24 : BitVec 32 := Scalar.extui v23
  let c0_i32_12 : BitVec 32 := 0#32
  let v25 : BitVec 1 := Scalar.cmpi .slt c2_i32 c0_i32_12
  let v26 : BitVec 32 := Scalar.extui v25
  let v27 : BitVec 32 := Scalar.subi v24 v26
  let v28 : BitVec 1 := Scalar.cmpi .ne v22 v27
  let v29 : BitVec 32 := Scalar.remsi arg1 c2_i32
  let c0_i32_13 : BitVec 32 := 0#32
  let v30 : BitVec 1 := Scalar.cmpi .ne v29 c0_i32_13
  let v31 : BitVec 1 := Scalar.andi v28 v30
  let v17 : BitVec 32 := Scalar.divsi arg1 c2_i32
  let c1_i32 : BitVec 32 := 1#32
  let v32 : BitVec 32 := Scalar.subi v17 c1_i32
  let v33 : BitVec 32 := Scalar.select v31 v32 v17
  let v34 : BitVec 32 := Scalar.subi v33 c0_i32_15
  let c1_i32_16 : BitVec 32 := 1#32
  let v36 : BitVec 32 := Scalar.divsi v34 c1_i32_16
  let v37 : BitVec 32 := Scalar.muli v36 c1_i32_16
  let v38 : BitVec 32 := Scalar.addi c0_i32_15 v37
  let c1_i32_18 : BitVec 32 := 1#32
  let arg9 : BitVec 32 := Scf.iv v38 c1_i32_18 k0_t2
  let c512_i32 : BitVec 32 := 512#32
  let v538 : BitVec 32 := Scalar.muli arg9 c512_i32
  let v539 : BitVec 32 := v538
  let v778 : Index := Scalar.indexCast v539
  let c256_405 : Index := 256#32
  ![0, v778.toNat, 256]
def k0_off21 (i : grid0.Coords) (k0_t2 : Fin (k0_t2_loop i).trips) : Fin 3 → Nat :=
  let c0_423 : Index := 0#32
  let c0_i32_15 : BitVec 32 := 0#32
  let arg1 : BitVec 32 := BitVec.ofNat 32 (i 1).val
  let c0_i32 : BitVec 32 := 0#32
  let v18 : BitVec 1 := Scalar.cmpi .sgt arg1 c0_i32
  let v19 : BitVec 32 := Scalar.extui v18
  let c0_i32_10 : BitVec 32 := 0#32
  let v20 : BitVec 1 := Scalar.cmpi .slt arg1 c0_i32_10
  let v21 : BitVec 32 := Scalar.extui v20
  let v22 : BitVec 32 := Scalar.subi v19 v21
  let c2_i32 : BitVec 32 := 2#32
  let c0_i32_11 : BitVec 32 := 0#32
  let v23 : BitVec 1 := Scalar.cmpi .sgt c2_i32 c0_i32_11
  let v24 : BitVec 32 := Scalar.extui v23
  let c0_i32_12 : BitVec 32 := 0#32
  let v25 : BitVec 1 := Scalar.cmpi .slt c2_i32 c0_i32_12
  let v26 : BitVec 32 := Scalar.extui v25
  let v27 : BitVec 32 := Scalar.subi v24 v26
  let v28 : BitVec 1 := Scalar.cmpi .ne v22 v27
  let v29 : BitVec 32 := Scalar.remsi arg1 c2_i32
  let c0_i32_13 : BitVec 32 := 0#32
  let v30 : BitVec 1 := Scalar.cmpi .ne v29 c0_i32_13
  let v31 : BitVec 1 := Scalar.andi v28 v30
  let v17 : BitVec 32 := Scalar.divsi arg1 c2_i32
  let c1_i32 : BitVec 32 := 1#32
  let v32 : BitVec 32 := Scalar.subi v17 c1_i32
  let v33 : BitVec 32 := Scalar.select v31 v32 v17
  let v34 : BitVec 32 := Scalar.subi v33 c0_i32_15
  let c1_i32_16 : BitVec 32 := 1#32
  let v36 : BitVec 32 := Scalar.divsi v34 c1_i32_16
  let v37 : BitVec 32 := Scalar.muli v36 c1_i32_16
  let v38 : BitVec 32 := Scalar.addi c0_i32_15 v37
  let c1_i32_18 : BitVec 32 := 1#32
  let arg9 : BitVec 32 := Scf.iv v38 c1_i32_18 k0_t2
  let c512_i32 : BitVec 32 := 512#32
  let v538 : BitVec 32 := Scalar.muli arg9 c512_i32
  let v539 : BitVec 32 := v538
  let v825 : Index := Scalar.indexCast v539
  let c640_424 : Index := 640#32
  ![0, v825.toNat, 640]
def k0_off22 (i : grid0.Coords) (k0_t2 : Fin (k0_t2_loop i).trips) : Fin 3 → Nat :=
  let c0_452 : Index := 0#32
  let c0_i32_15 : BitVec 32 := 0#32
  let arg1 : BitVec 32 := BitVec.ofNat 32 (i 1).val
  let c0_i32 : BitVec 32 := 0#32
  let v18 : BitVec 1 := Scalar.cmpi .sgt arg1 c0_i32
  let v19 : BitVec 32 := Scalar.extui v18
  let c0_i32_10 : BitVec 32 := 0#32
  let v20 : BitVec 1 := Scalar.cmpi .slt arg1 c0_i32_10
  let v21 : BitVec 32 := Scalar.extui v20
  let v22 : BitVec 32 := Scalar.subi v19 v21
  let c2_i32 : BitVec 32 := 2#32
  let c0_i32_11 : BitVec 32 := 0#32
  let v23 : BitVec 1 := Scalar.cmpi .sgt c2_i32 c0_i32_11
  let v24 : BitVec 32 := Scalar.extui v23
  let c0_i32_12 : BitVec 32 := 0#32
  let v25 : BitVec 1 := Scalar.cmpi .slt c2_i32 c0_i32_12
  let v26 : BitVec 32 := Scalar.extui v25
  let v27 : BitVec 32 := Scalar.subi v24 v26
  let v28 : BitVec 1 := Scalar.cmpi .ne v22 v27
  let v29 : BitVec 32 := Scalar.remsi arg1 c2_i32
  let c0_i32_13 : BitVec 32 := 0#32
  let v30 : BitVec 1 := Scalar.cmpi .ne v29 c0_i32_13
  let v31 : BitVec 1 := Scalar.andi v28 v30
  let v17 : BitVec 32 := Scalar.divsi arg1 c2_i32
  let c1_i32 : BitVec 32 := 1#32
  let v32 : BitVec 32 := Scalar.subi v17 c1_i32
  let v33 : BitVec 32 := Scalar.select v31 v32 v17
  let v34 : BitVec 32 := Scalar.subi v33 c0_i32_15
  let c1_i32_16 : BitVec 32 := 1#32
  let v36 : BitVec 32 := Scalar.divsi v34 c1_i32_16
  let v37 : BitVec 32 := Scalar.muli v36 c1_i32_16
  let v38 : BitVec 32 := Scalar.addi c0_i32_15 v37
  let c1_i32_18 : BitVec 32 := 1#32
  let arg9 : BitVec 32 := Scf.iv v38 c1_i32_18 k0_t2
  let c512_i32 : BitVec 32 := 512#32
  let v538 : BitVec 32 := Scalar.muli arg9 c512_i32
  let v539 : BitVec 32 := v538
  let v887 : Index := Scalar.indexCast v539
  let c768_453 : Index := 768#32
  ![0, v887.toNat, 768]
def k0_off23 (i : grid0.Coords) (k0_t2 : Fin (k0_t2_loop i).trips) : Fin 3 → Nat :=
  let c0_456 : Index := 0#32
  let c0_i32_15 : BitVec 32 := 0#32
  let arg1 : BitVec 32 := BitVec.ofNat 32 (i 1).val
  let c0_i32 : BitVec 32 := 0#32
  let v18 : BitVec 1 := Scalar.cmpi .sgt arg1 c0_i32
  let v19 : BitVec 32 := Scalar.extui v18
  let c0_i32_10 : BitVec 32 := 0#32
  let v20 : BitVec 1 := Scalar.cmpi .slt arg1 c0_i32_10
  let v21 : BitVec 32 := Scalar.extui v20
  let v22 : BitVec 32 := Scalar.subi v19 v21
  let c2_i32 : BitVec 32 := 2#32
  let c0_i32_11 : BitVec 32 := 0#32
  let v23 : BitVec 1 := Scalar.cmpi .sgt c2_i32 c0_i32_11
  let v24 : BitVec 32 := Scalar.extui v23
  let c0_i32_12 : BitVec 32 := 0#32
  let v25 : BitVec 1 := Scalar.cmpi .slt c2_i32 c0_i32_12
  let v26 : BitVec 32 := Scalar.extui v25
  let v27 : BitVec 32 := Scalar.subi v24 v26
  let v28 : BitVec 1 := Scalar.cmpi .ne v22 v27
  let v29 : BitVec 32 := Scalar.remsi arg1 c2_i32
  let c0_i32_13 : BitVec 32 := 0#32
  let v30 : BitVec 1 := Scalar.cmpi .ne v29 c0_i32_13
  let v31 : BitVec 1 := Scalar.andi v28 v30
  let v17 : BitVec 32 := Scalar.divsi arg1 c2_i32
  let c1_i32 : BitVec 32 := 1#32
  let v32 : BitVec 32 := Scalar.subi v17 c1_i32
  let v33 : BitVec 32 := Scalar.select v31 v32 v17
  let v34 : BitVec 32 := Scalar.subi v33 c0_i32_15
  let c1_i32_16 : BitVec 32 := 1#32
  let v36 : BitVec 32 := Scalar.divsi v34 c1_i32_16
  let v37 : BitVec 32 := Scalar.muli v36 c1_i32_16
  let v38 : BitVec 32 := Scalar.addi c0_i32_15 v37
  let c1_i32_18 : BitVec 32 := 1#32
  let arg9 : BitVec 32 := Scf.iv v38 c1_i32_18 k0_t2
  let c512_i32 : BitVec 32 := 512#32
  let v538 : BitVec 32 := Scalar.muli arg9 c512_i32
  let v539 : BitVec 32 := v538
  let v893 : Index := Scalar.indexCast v539
  let c384_457 : Index := 384#32
  ![0, v893.toNat, 384]
def k0_off24 (i : grid0.Coords) (k0_t2 : Fin (k0_t2_loop i).trips) : Fin 3 → Nat :=
  let c0_475 : Index := 0#32
  let c0_i32_15 : BitVec 32 := 0#32
  let arg1 : BitVec 32 := BitVec.ofNat 32 (i 1).val
  let c0_i32 : BitVec 32 := 0#32
  let v18 : BitVec 1 := Scalar.cmpi .sgt arg1 c0_i32
  let v19 : BitVec 32 := Scalar.extui v18
  let c0_i32_10 : BitVec 32 := 0#32
  let v20 : BitVec 1 := Scalar.cmpi .slt arg1 c0_i32_10
  let v21 : BitVec 32 := Scalar.extui v20
  let v22 : BitVec 32 := Scalar.subi v19 v21
  let c2_i32 : BitVec 32 := 2#32
  let c0_i32_11 : BitVec 32 := 0#32
  let v23 : BitVec 1 := Scalar.cmpi .sgt c2_i32 c0_i32_11
  let v24 : BitVec 32 := Scalar.extui v23
  let c0_i32_12 : BitVec 32 := 0#32
  let v25 : BitVec 1 := Scalar.cmpi .slt c2_i32 c0_i32_12
  let v26 : BitVec 32 := Scalar.extui v25
  let v27 : BitVec 32 := Scalar.subi v24 v26
  let v28 : BitVec 1 := Scalar.cmpi .ne v22 v27
  let v29 : BitVec 32 := Scalar.remsi arg1 c2_i32
  let c0_i32_13 : BitVec 32 := 0#32
  let v30 : BitVec 1 := Scalar.cmpi .ne v29 c0_i32_13
  let v31 : BitVec 1 := Scalar.andi v28 v30
  let v17 : BitVec 32 := Scalar.divsi arg1 c2_i32
  let c1_i32 : BitVec 32 := 1#32
  let v32 : BitVec 32 := Scalar.subi v17 c1_i32
  let v33 : BitVec 32 := Scalar.select v31 v32 v17
  let v34 : BitVec 32 := Scalar.subi v33 c0_i32_15
  let c1_i32_16 : BitVec 32 := 1#32
  let v36 : BitVec 32 := Scalar.divsi v34 c1_i32_16
  let v37 : BitVec 32 := Scalar.muli v36 c1_i32_16
  let v38 : BitVec 32 := Scalar.addi c0_i32_15 v37
  let c1_i32_18 : BitVec 32 := 1#32
  let arg9 : BitVec 32 := Scf.iv v38 c1_i32_18 k0_t2
  let c512_i32 : BitVec 32 := 512#32
  let v538 : BitVec 32 := Scalar.muli arg9 c512_i32
  let v539 : BitVec 32 := v538
  let v940 : Index := Scalar.indexCast v539
  let c896_476 : Index := 896#32
  ![0, v940.toNat, 896]
def k0_cond1 (i : grid0.Coords) : BitVec 1 :=
  let arg1 : BitVec 32 := BitVec.ofNat 32 (i 1).val
  let c2_i32_19 : BitVec 32 := 2#32
  let c0_i32_20 : BitVec 32 := 0#32
  let v39 : BitVec 1 := Scalar.cmpi .eq c2_i32_19 c0_i32_20
  let c1_i32_21 : BitVec 32 := 1#32
  let v40 : BitVec 32 := Scalar.select v39 c1_i32_21 c2_i32_19
  let v41 : BitVec 32 := Scalar.remsi arg1 v40
  let c0_i32_23 : BitVec 32 := 0#32
  let v43 : BitVec 1 := Scalar.cmpi .slt v41 c0_i32_23
  let c0_i32_24 : BitVec 32 := 0#32
  let v44 : BitVec 1 := Scalar.cmpi .slt v40 c0_i32_24
  let v45 : BitVec 1 := Scalar.xori v43 v44
  let c0_i32_22 : BitVec 32 := 0#32
  let v42 : BitVec 1 := Scalar.cmpi .ne v41 c0_i32_22
  let v46 : BitVec 1 := Scalar.andi v45 v42
  let v47 : BitVec 32 := Scalar.addi v41 v40
  let v48 : BitVec 32 := Scalar.select v46 v47 v41
  let c1_i32_25 : BitVec 32 := 1#32
  let v49 : BitVec 1 := Scalar.cmpi .eq v48 c1_i32_25
  let v50 : BitVec 32 := Scalar.extui v49
  let c0_i32_26 : BitVec 32 := 0#32
  let v51 : BitVec 1 := Scalar.cmpi .ne v50 c0_i32_26
  v51

def k0_mult3 (i : grid0.Coords) : BitVec 32 :=
  let arg1 : BitVec 32 := BitVec.ofNat 32 (i 1).val
  let c1_i32_293 : BitVec 32 := 1#32
  let v538 : BitVec 32 := Scalar.subi arg1 c1_i32_293
  let c256_i32_294 : BitVec 32 := 256#32
  let v539 : BitVec 32 := Scalar.muli v538 c256_i32_294
  v539
def k0_off25 (i : grid0.Coords) : Fin 3 → Nat :=
  let c0_298 : Index := 0#32
  let arg1 : BitVec 32 := BitVec.ofNat 32 (i 1).val
  let c1_i32_293 : BitVec 32 := 1#32
  let v538 : BitVec 32 := Scalar.subi arg1 c1_i32_293
  let c256_i32_294 : BitVec 32 := 256#32
  let v539 : BitVec 32 := Scalar.muli v538 c256_i32_294
  let v540 : BitVec 32 := v539
  let v543 : Index := Scalar.indexCast v540
  let c0_299 : Index := 0#32
  ![0, v543.toNat, 0]
def k0_off26 (i : grid0.Coords) : Fin 3 → Nat :=
  let c0_302 : Index := 0#32
  let arg1 : BitVec 32 := BitVec.ofNat 32 (i 1).val
  let c1_i32_293 : BitVec 32 := 1#32
  let v538 : BitVec 32 := Scalar.subi arg1 c1_i32_293
  let c256_i32_294 : BitVec 32 := 256#32
  let v539 : BitVec 32 := Scalar.muli v538 c256_i32_294
  let v540 : BitVec 32 := v539
  let v549 : Index := Scalar.indexCast v540
  let c0_303 : Index := 0#32
  ![0, v549.toNat, 0]
def k0_off27 (i : grid0.Coords) : Fin 3 → Nat :=
  let c0_321 : Index := 0#32
  let arg1 : BitVec 32 := BitVec.ofNat 32 (i 1).val
  let c1_i32_293 : BitVec 32 := 1#32
  let v538 : BitVec 32 := Scalar.subi arg1 c1_i32_293
  let c256_i32_294 : BitVec 32 := 256#32
  let v539 : BitVec 32 := Scalar.muli v538 c256_i32_294
  let v540 : BitVec 32 := v539
  let v584 : Index := Scalar.indexCast v540
  let c128_322 : Index := 128#32
  ![0, v584.toNat, 128]
def k0_off28 (i : grid0.Coords) : Fin 3 → Nat :=
  let c0_350 : Index := 0#32
  let arg1 : BitVec 32 := BitVec.ofNat 32 (i 1).val
  let c1_i32_293 : BitVec 32 := 1#32
  let v538 : BitVec 32 := Scalar.subi arg1 c1_i32_293
  let c256_i32_294 : BitVec 32 := 256#32
  let v539 : BitVec 32 := Scalar.muli v538 c256_i32_294
  let v540 : BitVec 32 := v539
  let v634 : Index := Scalar.indexCast v540
  let c256_351 : Index := 256#32
  ![0, v634.toNat, 256]
def k0_off29 (i : grid0.Coords) : Fin 3 → Nat :=
  let c0_354 : Index := 0#32
  let arg1 : BitVec 32 := BitVec.ofNat 32 (i 1).val
  let c1_i32_293 : BitVec 32 := 1#32
  let v538 : BitVec 32 := Scalar.subi arg1 c1_i32_293
  let c256_i32_294 : BitVec 32 := 256#32
  let v539 : BitVec 32 := Scalar.muli v538 c256_i32_294
  let v540 : BitVec 32 := v539
  let v640 : Index := Scalar.indexCast v540
  let c128_355 : Index := 128#32
  ![0, v640.toNat, 128]
def k0_off30 (i : grid0.Coords) : Fin 3 → Nat :=
  let c0_373 : Index := 0#32
  let arg1 : BitVec 32 := BitVec.ofNat 32 (i 1).val
  let c1_i32_293 : BitVec 32 := 1#32
  let v538 : BitVec 32 := Scalar.subi arg1 c1_i32_293
  let c256_i32_294 : BitVec 32 := 256#32
  let v539 : BitVec 32 := Scalar.muli v538 c256_i32_294
  let v540 : BitVec 32 := v539
  let v675 : Index := Scalar.indexCast v540
  let c384_374 : Index := 384#32
  ![0, v675.toNat, 384]
def k0_off31 (i : grid0.Coords) : Fin 3 → Nat :=
  let c0_402 : Index := 0#32
  let arg1 : BitVec 32 := BitVec.ofNat 32 (i 1).val
  let c1_i32_293 : BitVec 32 := 1#32
  let v538 : BitVec 32 := Scalar.subi arg1 c1_i32_293
  let c256_i32_294 : BitVec 32 := 256#32
  let v539 : BitVec 32 := Scalar.muli v538 c256_i32_294
  let v540 : BitVec 32 := v539
  let v725 : Index := Scalar.indexCast v540
  let c512_403 : Index := 512#32
  ![0, v725.toNat, 512]
def k0_off32 (i : grid0.Coords) : Fin 3 → Nat :=
  let c0_406 : Index := 0#32
  let arg1 : BitVec 32 := BitVec.ofNat 32 (i 1).val
  let c1_i32_293 : BitVec 32 := 1#32
  let v538 : BitVec 32 := Scalar.subi arg1 c1_i32_293
  let c256_i32_294 : BitVec 32 := 256#32
  let v539 : BitVec 32 := Scalar.muli v538 c256_i32_294
  let v540 : BitVec 32 := v539
  let v731 : Index := Scalar.indexCast v540
  let c256_407 : Index := 256#32
  ![0, v731.toNat, 256]
def k0_off33 (i : grid0.Coords) : Fin 3 → Nat :=
  let c0_425 : Index := 0#32
  let arg1 : BitVec 32 := BitVec.ofNat 32 (i 1).val
  let c1_i32_293 : BitVec 32 := 1#32
  let v538 : BitVec 32 := Scalar.subi arg1 c1_i32_293
  let c256_i32_294 : BitVec 32 := 256#32
  let v539 : BitVec 32 := Scalar.muli v538 c256_i32_294
  let v540 : BitVec 32 := v539
  let v766 : Index := Scalar.indexCast v540
  let c640_426 : Index := 640#32
  ![0, v766.toNat, 640]
def k0_off34 (i : grid0.Coords) : Fin 3 → Nat :=
  let c0_454 : Index := 0#32
  let arg1 : BitVec 32 := BitVec.ofNat 32 (i 1).val
  let c1_i32_293 : BitVec 32 := 1#32
  let v538 : BitVec 32 := Scalar.subi arg1 c1_i32_293
  let c256_i32_294 : BitVec 32 := 256#32
  let v539 : BitVec 32 := Scalar.muli v538 c256_i32_294
  let v540 : BitVec 32 := v539
  let v816 : Index := Scalar.indexCast v540
  let c768_455 : Index := 768#32
  ![0, v816.toNat, 768]
def k0_off35 (i : grid0.Coords) : Fin 3 → Nat :=
  let c0_458 : Index := 0#32
  let arg1 : BitVec 32 := BitVec.ofNat 32 (i 1).val
  let c1_i32_293 : BitVec 32 := 1#32
  let v538 : BitVec 32 := Scalar.subi arg1 c1_i32_293
  let c256_i32_294 : BitVec 32 := 256#32
  let v539 : BitVec 32 := Scalar.muli v538 c256_i32_294
  let v540 : BitVec 32 := v539
  let v822 : Index := Scalar.indexCast v540
  let c384_459 : Index := 384#32
  ![0, v822.toNat, 384]
def k0_off36 (i : grid0.Coords) : Fin 3 → Nat :=
  let c0_477 : Index := 0#32
  let arg1 : BitVec 32 := BitVec.ofNat 32 (i 1).val
  let c1_i32_293 : BitVec 32 := 1#32
  let v538 : BitVec 32 := Scalar.subi arg1 c1_i32_293
  let c256_i32_294 : BitVec 32 := 256#32
  let v539 : BitVec 32 := Scalar.muli v538 c256_i32_294
  let v540 : BitVec 32 := v539
  let v857 : Index := Scalar.indexCast v540
  let c896_478 : Index := 896#32
  ![0, v857.toNat, 896]
def k0_mult4 (i : grid0.Coords) : BitVec 32 :=
  let arg1 : BitVec 32 := BitVec.ofNat 32 (i 1).val
  let c256_i32 : BitVec 32 := 256#32
  let v52 : BitVec 32 := Scalar.muli arg1 c256_i32
  v52
def k0_off37 (i : grid0.Coords) : Fin 3 → Nat :=
  let c0_30 : Index := 0#32
  let arg1 : BitVec 32 := BitVec.ofNat 32 (i 1).val
  let c256_i32 : BitVec 32 := 256#32
  let v52 : BitVec 32 := Scalar.muli arg1 c256_i32
  let v53 : BitVec 32 := v52
  let v56 : Index := Scalar.indexCast v53
  let c0_31 : Index := 0#32
  ![0, v56.toNat, 0]
def k0_off38 (i : grid0.Coords) : Fin 3 → Nat :=
  let c0_35 : Index := 0#32
  let arg1 : BitVec 32 := BitVec.ofNat 32 (i 1).val
  let c256_i32 : BitVec 32 := 256#32
  let v52 : BitVec 32 := Scalar.muli arg1 c256_i32
  let v53 : BitVec 32 := v52
  let v65 : Index := Scalar.indexCast v53
  let c0_36 : Index := 0#32
  ![0, v65.toNat, 0]
def k0_off39 (i : grid0.Coords) : Fin 3 → Nat :=
  let c0_53 : Index := 0#32
  let arg1 : BitVec 32 := BitVec.ofNat 32 (i 1).val
  let c256_i32 : BitVec 32 := 256#32
  let v52 : BitVec 32 := Scalar.muli arg1 c256_i32
  let v53 : BitVec 32 := v52
  let v100 : Index := Scalar.indexCast v53
  let c128_54 : Index := 128#32
  ![0, v100.toNat, 128]
def k0_off40 (i : grid0.Coords) : Fin 3 → Nat :=
  let c0_81 : Index := 0#32
  let arg1 : BitVec 32 := BitVec.ofNat 32 (i 1).val
  let c256_i32 : BitVec 32 := 256#32
  let v52 : BitVec 32 := Scalar.muli arg1 c256_i32
  let v53 : BitVec 32 := v52
  let v153 : Index := Scalar.indexCast v53
  let c256_82 : Index := 256#32
  ![0, v153.toNat, 256]
def k0_off41 (i : grid0.Coords) : Fin 3 → Nat :=
  let c0_86 : Index := 0#32
  let arg1 : BitVec 32 := BitVec.ofNat 32 (i 1).val
  let c256_i32 : BitVec 32 := 256#32
  let v52 : BitVec 32 := Scalar.muli arg1 c256_i32
  let v53 : BitVec 32 := v52
  let v162 : Index := Scalar.indexCast v53
  let c128_87 : Index := 128#32
  ![0, v162.toNat, 128]
def k0_off42 (i : grid0.Coords) : Fin 3 → Nat :=
  let c0_103 : Index := 0#32
  let arg1 : BitVec 32 := BitVec.ofNat 32 (i 1).val
  let c256_i32 : BitVec 32 := 256#32
  let v52 : BitVec 32 := Scalar.muli arg1 c256_i32
  let v53 : BitVec 32 := v52
  let v197 : Index := Scalar.indexCast v53
  let c384_104 : Index := 384#32
  ![0, v197.toNat, 384]
def k0_off43 (i : grid0.Coords) : Fin 3 → Nat :=
  let c0_131 : Index := 0#32
  let arg1 : BitVec 32 := BitVec.ofNat 32 (i 1).val
  let c256_i32 : BitVec 32 := 256#32
  let v52 : BitVec 32 := Scalar.muli arg1 c256_i32
  let v53 : BitVec 32 := v52
  let v250 : Index := Scalar.indexCast v53
  let c512_132 : Index := 512#32
  ![0, v250.toNat, 512]
def k0_off44 (i : grid0.Coords) : Fin 3 → Nat :=
  let c0_136 : Index := 0#32
  let arg1 : BitVec 32 := BitVec.ofNat 32 (i 1).val
  let c256_i32 : BitVec 32 := 256#32
  let v52 : BitVec 32 := Scalar.muli arg1 c256_i32
  let v53 : BitVec 32 := v52
  let v259 : Index := Scalar.indexCast v53
  let c256_137 : Index := 256#32
  ![0, v259.toNat, 256]
def k0_off45 (i : grid0.Coords) : Fin 3 → Nat :=
  let c0_153 : Index := 0#32
  let arg1 : BitVec 32 := BitVec.ofNat 32 (i 1).val
  let c256_i32 : BitVec 32 := 256#32
  let v52 : BitVec 32 := Scalar.muli arg1 c256_i32
  let v53 : BitVec 32 := v52
  let v294 : Index := Scalar.indexCast v53
  let c640_154 : Index := 640#32
  ![0, v294.toNat, 640]
def k0_off46 (i : grid0.Coords) : Fin 3 → Nat :=
  let c0_181 : Index := 0#32
  let arg1 : BitVec 32 := BitVec.ofNat 32 (i 1).val
  let c256_i32 : BitVec 32 := 256#32
  let v52 : BitVec 32 := Scalar.muli arg1 c256_i32
  let v53 : BitVec 32 := v52
  let v347 : Index := Scalar.indexCast v53
  let c768_182 : Index := 768#32
  ![0, v347.toNat, 768]
def k0_off47 (i : grid0.Coords) : Fin 3 → Nat :=
  let c0_186 : Index := 0#32
  let arg1 : BitVec 32 := BitVec.ofNat 32 (i 1).val
  let c256_i32 : BitVec 32 := 256#32
  let v52 : BitVec 32 := Scalar.muli arg1 c256_i32
  let v53 : BitVec 32 := v52
  let v356 : Index := Scalar.indexCast v53
  let c384_187 : Index := 384#32
  ![0, v356.toNat, 384]
def k0_off48 (i : grid0.Coords) : Fin 3 → Nat :=
  let c0_203 : Index := 0#32
  let arg1 : BitVec 32 := BitVec.ofNat 32 (i 1).val
  let c256_i32 : BitVec 32 := 256#32
  let v52 : BitVec 32 := Scalar.muli arg1 c256_i32
  let v53 : BitVec 32 := v52
  let v391 : Index := Scalar.indexCast v53
  let c896_204 : Index := 896#32
  ![0, v391.toNat, 896]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "scale2" => some (((3424635 / 33554432) * (Real.log 2)⁻¹ : ℝ) : EReal)
  | _ => none
-- ==== ReferenceIdeal.lean ====
abbrev S8x4096x8x64 : Shape := ⟨4, ![8, 4096, 8, 64]⟩
abbrev S8x4096x8x32 : Shape := ⟨4, ![8, 4096, 8, 32]⟩
abbrev S8x4096x32 : Shape := ⟨3, ![8, 4096, 32]⟩
abbrev S4096 : Shape := ⟨1, ![4096]⟩
abbrev S8x8x4096x4096 : Shape := ⟨4, ![8, 8, 4096, 4096]⟩
abbrev S8x4096x4096x8 : Shape := ⟨4, ![8, 4096, 4096, 8]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x4096x512 : Shape := ⟨3, ![8, 4096, 512]⟩

abbrev nBuf : Space → Nat
  | .hbm => 42
  | .vmem => 0
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x8x32, .f32⟩
  | .hbm, ⟨2, _⟩ => ⟨S8x4096x8x64, .f32⟩
  | .hbm, ⟨3, _⟩ => ⟨S8x4096x32, .f32⟩
  | .hbm, ⟨4, _⟩ => ⟨S8x4096x8x64, .f32⟩
  | .hbm, ⟨5, _⟩ => ⟨S4096, .i32⟩
  | .hbm, ⟨6, _⟩ => ⟨S4096, .i32⟩
  | .hbm, ⟨7, _⟩ => ⟨S8x8x4096x4096, .f32⟩
  | .hbm, ⟨8, _⟩ => ⟨S8x4096x4096x8, .f32⟩
  | .hbm, ⟨9, _⟩ => ⟨S8x8x4096x4096, .f32⟩
  | .hbm, ⟨10, _⟩ => ⟨S8x8x4096x4096, .f32⟩
  | .hbm, ⟨11, _⟩ => ⟨S_, .f32⟩
  | .hbm, ⟨12, _⟩ => ⟨S8x8x4096x4096, .f32⟩
  | .hbm, ⟨13, _⟩ => ⟨S8x8x4096x4096, .f32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S8x8x4096x4096, .i1⟩
  | .hbm, ⟨22, _⟩ => ⟨S8x8x4096x4096, .f32⟩
  | .hbm, ⟨23, _⟩ => ⟨S8x8x4096x4096, .f32⟩
  | .hbm, ⟨24, _⟩ => ⟨S_, .f32⟩
  | .hbm, ⟨25, _⟩ => ⟨S8x8x4096, .f32⟩
  | .hbm, ⟨26, _⟩ => ⟨S_, .f32⟩
  | .hbm, ⟨27, _⟩ => ⟨S8x8x4096, .f32⟩
  | .hbm, ⟨28, _⟩ => ⟨S8x8x4096, .f32⟩
  | .hbm, ⟨29, _⟩ => ⟨S8x8x4096x1, .f32⟩
  | .hbm, ⟨30, _⟩ => ⟨S8x8x4096x4096, .f32⟩
  | .hbm, ⟨31, _⟩ => ⟨S8x8x4096x4096, .f32⟩
  | .hbm, ⟨32, _⟩ => ⟨S8x8x4096x4096, .f32⟩
  | .hbm, ⟨33, _⟩ => ⟨S_, .f32⟩
  | .hbm, ⟨34, _⟩ => ⟨S8x8x4096, .f32⟩
  | .hbm, ⟨35, _⟩ => ⟨S8x8x4096x1, .f32⟩
  | .hbm, ⟨36, _⟩ => ⟨S8x8x4096x4096, .f32⟩
  | .hbm, ⟨37, _⟩ => ⟨S8x8x4096x4096, .f32⟩
  | .hbm, ⟨38, _⟩ => ⟨S8x8x64x4096, .f32⟩
  | .hbm, ⟨39, _⟩ => ⟨S8x4096x8x64, .f32⟩
  | .hbm, ⟨40, _⟩ => ⟨S8x4096x512, .f32⟩
  | .hbm, ⟨41, _⟩ => ⟨S8x4096x512, .bf16⟩
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x9216 : Shape := ⟨2, ![8, 9216]⟩
abbrev S1024 : Shape := ⟨1, ![1024]⟩
abbrev S1024x2816 : Shape := ⟨2, ![1024, 2816]⟩
abbrev S2816x1024 : Shape := ⟨2, ![2816, 1024]⟩
abbrev S8x1x9216 : Shape := ⟨3, ![8, 1, 9216]⟩
abbrev S1024x11x256 : Shape := ⟨3, ![1024, 11, 256]⟩
abbrev S11x1024x256 : Shape := ⟨3, ![11, 1024, 256]⟩
abbrev S11x256x1024 : Shape := ⟨3, ![11, 256, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 17
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8x1x9216, .f32⟩
  | .hbm, ⟨7, _⟩ => ⟨S1024x11x256, .f32⟩
  | .hbm, ⟨8, _⟩ => ⟨S11x1024x256, .f32⟩
  | .hbm, ⟨9, _⟩ => ⟨S11x1024x256, .bf16⟩
  | .hbm, ⟨10, _⟩ => ⟨S1024x11x256, .f32⟩
  | .hbm, ⟨11, _⟩ => ⟨S11x1024x256, .f32⟩
  | .hbm, ⟨12, _⟩ => ⟨S11x1024x256, .bf16⟩
  | .hbm, ⟨13, _⟩ => ⟨S11x256x1024, .f32⟩
  | .hbm, ⟨14, _⟩ => ⟨S11x256x1024, .bf16⟩
  | .hbm, ⟨15, _⟩ => ⟨S1x1024, .f32⟩
  | .hbm, ⟨16, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S11x1024x256, .bf16⟩
  | .local _ .vmem, ⟨10, _⟩ => ⟨S11x1024x256, .bf16⟩
  | .local _ .vmem, ⟨11, _⟩ => ⟨S11x256x1024, .bf16⟩
  | .local _ .vmem, ⟨12, _⟩ => ⟨S1x512x1024, .f32⟩
  | .local _ .vmem, ⟨13, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S11x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S11x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S11x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S8x4096x1024 : Shape := ⟨3, ![8, 4096, 1024]⟩
abbrev S8x9216 : Shape := ⟨2, ![8, 9216]⟩
abbrev S1024 : Shape := ⟨1, ![1024]⟩
abbrev S1024x2816 : Shape := ⟨2, ![1024, 2816]⟩
abbrev S2816x1024 : Shape := ⟨2, ![2816, 1024]⟩
abbrev S8x1x9216 : Shape := ⟨3, ![8, 1, 9216]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩

abbrev nBuf : Space → Nat
  | .hbm => 58
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8x1x9216, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x4096x1024, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x1, .f32⟩
  | .hbm, ⟨27, _⟩ => ⟨S8x4096x1024, .f32⟩
  | .hbm, ⟨28, _⟩ => ⟨S8x4096x1024, .f32⟩
  | .hbm, ⟨29, _⟩ => ⟨S1x1x1024, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S_, .f32⟩
  | .hbm, ⟨40, _⟩ => ⟨S8x1x1024, .f32⟩
  | .hbm, ⟨41, _⟩ => ⟨S8x1x1024, .f32⟩
  | .hbm, ⟨42, _⟩ => ⟨S8x4096x2816, .f32⟩
  | .hbm, ⟨43, _⟩ => ⟨S8x4096x2816, .f32⟩
  | .hbm, ⟨44, _⟩ => ⟨S8x4096x2816, .f32⟩
  | .hbm, ⟨45, _⟩ => ⟨S_, .f32⟩
  | .hbm, ⟨46, _⟩ => ⟨S8x4096x2816, .f32⟩
  | .hbm, ⟨47, _⟩ => ⟨S8x4096x2816, .f32⟩
  | .hbm, ⟨48, _⟩ => ⟨S_, .f32⟩
  | .hbm, ⟨49, _⟩ => ⟨S8x4096x2816, .f32⟩
  | .hbm, ⟨50, _⟩ => ⟨S8x4096x2816, .f32⟩
  | .hbm, ⟨51, _⟩ => ⟨S8x4096x2816, .f32⟩
  | .hbm, ⟨52, _⟩ => ⟨S8x4096x2816, .f32⟩
  | .hbm, ⟨53, _⟩ => ⟨S8x4096x2816, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x9216 : Shape := ⟨2, ![8, 9216]⟩
abbrev S8x4096x512 : Shape := ⟨3, ![8, 4096, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8 : Shape := ⟨1, ![8]⟩
abbrev S512x1024 : Shape := ⟨2, ![512, 1024]⟩
abbrev S8x64x1024 : Shape := ⟨3, ![8, 64, 1024]⟩
abbrev S_ : Shape := ⟨0, ![]⟩
abbrev S8x1 : Shape := ⟨2, ![8, 1]⟩
abbrev S8x4096x2x4x64 : Shape := ⟨5, ![8, 4096, 2, 4, 64]⟩
abbrev S8x4096x4x2x64 : Shape := ⟨5, ![8, 4096, 4, 2, 64]⟩
abbrev S8x1x9216 : Shape := ⟨3, ![8, 1, 9216]⟩
abbrev S1024x11x256 : Shape := ⟨3, ![1024, 11, 256]⟩
abbrev S11x1024x256 : Shape := ⟨3, ![11, 1024, 256]⟩
abbrev S11x256x1024 : Shape := ⟨3, ![11, 256, 1024]⟩
abbrev S1x1024 : Shape := ⟨2, ![1, 1024]⟩
abbrev S1x512x1024 : Shape := ⟨3, ![1, 512, 1024]⟩
abbrev S1x1x1024 : Shape := ⟨3, ![1, 1, 1024]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 41
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S8x4096x512, .bf16⟩
  | .hbm, ⟨3, _⟩ => ⟨S8x4096x512, .bf16⟩
  | .hbm, ⟨4, _⟩ => ⟨S1024x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S8, .i32⟩
  | .hbm, ⟨11, _⟩ => ⟨S512x1024, .f32⟩
  | .hbm, ⟨12, _⟩ => ⟨S8x64x1024, .f32⟩
  | .hbm, ⟨13, _⟩ => ⟨S_, .i32⟩
  | .hbm, ⟨14, _⟩ => ⟨S8, .i32⟩
  | .hbm, ⟨15, _⟩ => ⟨S8, .i1⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S8, .i32⟩
  | .hbm, ⟨20, _⟩ => ⟨S8x1, .i32⟩
  | .hbm, ⟨21, _⟩ => ⟨S8x64x1024, .f32⟩
  | .hbm, ⟨22, _⟩ => ⟨S512x1024, .f32⟩
  | .hbm, ⟨23, _⟩ => ⟨S512x1024, .f32⟩
  | .hbm, ⟨24, _⟩ => ⟨S1024x1024, .f32⟩
  | .hbm, ⟨25, _⟩ => ⟨S1024x1024, .bf16⟩
  | .hbm, ⟨26, _⟩ => ⟨S8x4096x2x4x64, .bf16⟩
  | .hbm, ⟨27, _⟩ => ⟨S8x4096x4x2x64, .bf16⟩
  | .hbm, ⟨28, _⟩ => ⟨S8x4096x512, .bf16⟩
  | .hbm, ⟨29, _⟩ => ⟨S8x1x9216, .f32⟩
  | .hbm, ⟨30, _⟩ => ⟨S1024x11x256, .f32⟩
  | .hbm, ⟨31, _⟩ => ⟨S11x1024x256, .f32⟩
  | .hbm, ⟨32, _⟩ => ⟨S11x1024x256, .bf16⟩
  | .hbm, ⟨33, _⟩ => ⟨S1024x11x256, .f32⟩
  | .hbm, ⟨34, _⟩ => ⟨S11x1024x256, .f32⟩
  | .hbm, ⟨35, _⟩ => ⟨S11x1024x256, .bf16⟩
  | .hbm, ⟨36, _⟩ => ⟨S11x256x1024, .f32⟩
  | .hbm, ⟨37, _⟩ => ⟨S11x256x1024, .bf16⟩
  | .hbm, ⟨38, _⟩ => ⟨S1x1024, .f32⟩
  | .hbm, ⟨39, _⟩ => ⟨S1x1024, .f32⟩
  | .hbm, ⟨40, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S11x1024x256, .bf16⟩
  | .local _ .vmem, ⟨10, _⟩ => ⟨S11x1024x256, .bf16⟩
  | .local _ .vmem, ⟨11, _⟩ => ⟨S11x256x1024, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1024x1024, .bf16⟩
  | .local _ .vmem, ⟨17, _⟩ => ⟨S1x1x1024, .f32⟩
  | .local _ .vmem, ⟨18, _⟩ => ⟨S1x1x1024, .f32⟩
  | .local _ .vmem, ⟨19, _⟩ => ⟨S1x1024, .f32⟩
  | .local _ .vmem, ⟨20, _⟩ => ⟨S1x512x1024, .f32⟩
  | .local _ .vmem, ⟨21, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_c_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c6_i32 : BitVec 32 := 6#32
  let c0_i32_0 : BitVec 32 := 0#32
  ![arg0.toNat, c0_i32.toNat, c6_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c7_i32 : BitVec 32 := 7#32
  let c0_i32_0 : BitVec 32 := 0#32
  ![arg0.toNat, c0_i32.toNat, c7_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c8_i32 : BitVec 32 := 8#32
  let c0_i32_0 : BitVec 32 := 0#32
  ![arg0.toNat, c0_i32.toNat, c8_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S11x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S11x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S11x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S8x4096x1024 : Shape := ⟨3, ![8, 4096, 1024]⟩
abbrev S8x9216 : Shape := ⟨2, ![8, 9216]⟩
abbrev S8x4096x512 : Shape := ⟨3, ![8, 4096, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8x1x9216 : Shape := ⟨3, ![8, 1, 9216]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩

abbrev nBuf : Space → Nat
  | .hbm => 84
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S8x4096x512, .bf16⟩
  | .hbm, ⟨3, _⟩ => ⟨S8x4096x512, .bf16⟩
  | .hbm, ⟨4, _⟩ => ⟨S1024x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S8x1x9216, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x4096x1024, .bf16⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S8x4096x1, .f32⟩
  | .hbm, ⟨37, _⟩ => ⟨S8x4096x1024, .f32⟩
  | .hbm, ⟨38, _⟩ => ⟨S8x4096x1024, .f32⟩
  | .hbm, ⟨39, _⟩ => ⟨S1x1x1024, .f32⟩
  | .hbm, ⟨40, _⟩ => ⟨S8x4096x1024, .f32⟩
  | .hbm, ⟨41, _⟩ => ⟨S8x4096x1024, .f32⟩
  | .hbm, ⟨42, _⟩ => ⟨S_, .f32⟩
  | .hbm, ⟨43, _⟩ => ⟨S8x1x1024, .f32⟩
  | .hbm, ⟨44, _⟩ => ⟨S8x1x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S_, .f32⟩
  | .hbm, ⟨50, _⟩ => ⟨S8x1x1024, .f32⟩
  | .hbm, ⟨51, _⟩ => ⟨S8x1x1024, .f32⟩
  | .hbm, ⟨52, _⟩ => ⟨S8x4096x2816, .f32⟩
  | .hbm, ⟨53, _⟩ => ⟨S8x4096x2816, .f32⟩
  | .hbm, ⟨54, _⟩ => ⟨S8x4096x2816, .f32⟩
  | .hbm, ⟨55, _⟩ => ⟨S_, .f32⟩
  | .hbm, ⟨56, _⟩ => ⟨S8x4096x2816, .f32⟩
  | .hbm, ⟨57, _⟩ => ⟨S8x4096x2816, .f32⟩
  | .hbm, ⟨58, _⟩ => ⟨S_, .f32⟩
  | .hbm, ⟨59, _⟩ => ⟨S8x4096x2816, .f32⟩
  | .hbm, ⟨60, _⟩ => ⟨S8x4096x2816, .f32⟩
  | .hbm, ⟨61, _⟩ => ⟨S8x4096x2816, .f32⟩
  | .hbm, ⟨62, _⟩ => ⟨S8x4096x2816, .f32⟩
  | .hbm, ⟨63, _⟩ => ⟨S8x4096x2816, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S_, .f32⟩
  | .hbm, ⟨70, _⟩ => ⟨S8x4096, .f32⟩
  | .hbm, ⟨71, _⟩ => ⟨S8x4096x1, .f32⟩
  | .hbm, ⟨72, _⟩ => ⟨S_, .f32⟩
  | .hbm, ⟨73, _⟩ => ⟨S8x4096x1, .f32⟩
  | .hbm, ⟨74, _⟩ => ⟨S8x4096x1, .f32⟩
  | .hbm, ⟨75, _⟩ => ⟨S_, .f32⟩
  | .hbm, ⟨76, _⟩ => ⟨S8x4096x1, .f32⟩
  | .hbm, ⟨77, _⟩ => ⟨S8x4096x1, .f32⟩
  | .hbm, ⟨78, _⟩ => ⟨S8x4096x1, .f32⟩
  | .hbm, ⟨79, _⟩ => ⟨S8x4096x1024, .f32⟩
  | .hbm, ⟨80, _⟩ => ⟨S8x4096x1024, .f32⟩
  | .hbm, ⟨81, _⟩ => ⟨S1x1x1024, .f32⟩
  | .hbm, ⟨82, _⟩ => ⟨S8x4096x1024, .f32⟩
  | .hbm, ⟨83, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_4 : Ref sig .tc := ⟨.hbm, 69, rfl⟩
abbrev main_v46 : Ref sig .tc := ⟨.hbm, 70, rfl⟩
abbrev main_v47 : Ref sig .tc := ⟨.hbm, 71, rfl⟩
abbrev main_cst_5 : Ref sig .tc := ⟨.hbm, 72, rfl⟩
abbrev main_v48 : Ref sig .tc := ⟨.hbm, 73, rfl⟩
abbrev main_v49 : Ref sig .tc := ⟨.hbm, 74, rfl⟩
abbrev main_cst_6 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x9216 : Shape := ⟨2, ![8, 9216]⟩
abbrev S1024 : Shape := ⟨1, ![1024]⟩
abbrev S1024x2024 : Shape := ⟨2, ![1024, 2024]⟩
abbrev S384 : Shape := ⟨1, ![384]⟩
abbrev S384x768 : Shape := ⟨2, ![384, 768]⟩
abbrev S256 : Shape := ⟨1, ![256]⟩
abbrev S256x8x64 : Shape := ⟨3, ![256, 8, 64]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x64 : Shape := ⟨2, ![4096, 64]⟩
abbrev S4096x128 : Shape := ⟨2, ![4096, 128]⟩
abbrev S8x1x9216 : Shape := ⟨3, ![8, 1, 9216]⟩
abbrev S1024x384 : Shape := ⟨2, ![1024, 384]⟩
abbrev S1024x256 : Shape := ⟨2, ![1024, 256]⟩
abbrev S1024x32 : Shape := ⟨2, ![1024, 32]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x16 : Shape := ⟨2, ![1024, 16]⟩
abbrev S1024x120 : Shape := ⟨2, ![1024, 120]⟩
abbrev S1024x2432 : Shape := ⟨2, ![1024, 2432]⟩
abbrev S384x8x96 : Shape := ⟨3, ![384, 8, 96]⟩
abbrev S384x8x64 : Shape := ⟨3, ![384, 8, 64]⟩
abbrev S384x8x16 : Shape := ⟨3, ![384, 8, 16]⟩
abbrev S384x8x32 : Shape := ⟨3, ![384, 8, 32]⟩
abbrev S384x8x128 : Shape := ⟨3, ![384, 8, 128]⟩
abbrev S384x1024 : Shape := ⟨2, ![384, 1024]⟩
abbrev S384x2048 : Shape := ⟨2, ![384, 2048]⟩
abbrev S256x8x128 : Shape := ⟨3, ![256, 8, 128]⟩
abbrev S256x1024 : Shape := ⟨2, ![256, 1024]⟩
abbrev S1x384 : Shape := ⟨2, ![1, 384]⟩
abbrev S1x256 : Shape := ⟨2, ![1, 256]⟩
abbrev S256x512 : Shape := ⟨2, ![256, 512]⟩
abbrev S1x1024 : Shape := ⟨2, ![1, 1024]⟩
abbrev S8x4096x512 : Shape := ⟨3, ![8, 4096, 512]⟩
abbrev S8x4096x256 : Shape := ⟨3, ![8, 4096, 256]⟩
abbrev S8x4096x32 : Shape := ⟨3, ![8, 4096, 32]⟩
abbrev S8x4096x128 : Shape := ⟨3, ![8, 4096, 128]⟩
abbrev S8x4096x64 : Shape := ⟨3, ![8, 4096, 64]⟩
abbrev S1x512x1024 : Shape := ⟨3, ![1, 512, 1024]⟩
abbrev S1x1x1024 : Shape := ⟨3, ![1, 1, 1024]⟩
abbrev S512x128 : Shape := ⟨2, ![512, 128]⟩
abbrev S1x512x512 : Shape := ⟨3, ![1, 512, 512]⟩
abbrev S1x512x256 : Shape := ⟨3, ![1, 512, 256]⟩
abbrev S1x512x32 : Shape := ⟨3, ![1, 512, 32]⟩
abbrev S1x512x128 : Shape := ⟨3, ![1, 512, 128]⟩
abbrev S1x512x64 : Shape := ⟨3, ![1, 512, 64]⟩
abbrev S512x1024 : Shape := ⟨2, ![512, 1024]⟩
abbrev S512 : Shape := ⟨1, ![512]⟩
abbrev S512x1 : Shape := ⟨2, ![512, 1]⟩
abbrev S512x384 : Shape := ⟨2, ![512, 384]⟩
abbrev S512x2048 : Shape := ⟨2, ![512, 2048]⟩
abbrev S512x256 : Shape := ⟨2, ![512, 256]⟩
abbrev S512x32 : Shape := ⟨2, ![512, 32]⟩
abbrev S512x512 : Shape := ⟨2, ![512, 512]⟩
abbrev S512x64 : Shape := ⟨2, ![512, 64]⟩

abbrev nBuf : Space → Nat
  | .hbm => 105
  | .vmem => 45
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S1024, .f32⟩
  | .hbm, ⟨3, _⟩ => ⟨S1024x2024, .f32⟩
  | .hbm, ⟨4, _⟩ => ⟨S384, .f32⟩
  | .hbm, ⟨5, _⟩ => ⟨S384x768, .f32⟩
  | .hbm, ⟨6, _⟩ => ⟨S256, .f32⟩
  | .hbm, ⟨7, _⟩ => ⟨S256x8x64, .f32⟩
  | .hbm, ⟨8, _⟩ => ⟨S256x8x64, .f32⟩
  | .hbm, ⟨9, _⟩ => ⟨S4096, .i32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S4096, .f32⟩
  | .hbm, ⟨19, _⟩ => ⟨S4096x1, .f32⟩
  | .hbm, ⟨20, _⟩ => ⟨S1x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S_, .f32⟩
  | .hbm, ⟨25, _⟩ => ⟨S4096x32, .f32⟩
  | .hbm, ⟨26, _⟩ => ⟨S_, .f32⟩
  | .hbm, ⟨27, _⟩ => ⟨S4096x64, .f32⟩
  | .hbm, ⟨28, _⟩ => ⟨S4096x16, .f32⟩
  | .hbm, ⟨29, _⟩ => ⟨S4096x16, .f32⟩
  | .hbm, ⟨30, _⟩ => ⟨S4096x128, .f32⟩
  | .hbm, ⟨31, _⟩ => ⟨S_, .f32⟩
  | .hbm, ⟨32, _⟩ => ⟨S4096x64, .f32⟩
  | .hbm, ⟨33, _⟩ => ⟨S4096x16, .f32⟩
  | .hbm, ⟨34, _⟩ => ⟨S4096x16, .f32⟩
  | .hbm, ⟨35, _⟩ => ⟨S4096x128, .f32⟩
  | .hbm, ⟨36, _⟩ => ⟨S8x1x9216, .f32⟩
  | .hbm, ⟨37, _⟩ => ⟨S1024x384, .f32⟩
  | .hbm, ⟨38, _⟩ => ⟨S1024x256, .f32⟩
  | .hbm, ⟨39, _⟩ => ⟨S1024x32, .f32⟩
  | .hbm, ⟨40, _⟩ => ⟨S1024x512, .f32⟩
  | .hbm, ⟨41, _⟩ => ⟨S1024x128, .f32⟩
  | .hbm, ⟨42, _⟩ => ⟨S1024x128, .f32⟩
  | .hbm, ⟨43, _⟩ => ⟨S1024x512, .f32⟩
  | .hbm, ⟨44, _⟩ => ⟨S1024x64, .f32⟩
  | .hbm, ⟨45, _⟩ => ⟨S1024x8, .f32⟩
  | .hbm, ⟨46, _⟩ => ⟨S1024x16, .f32⟩
  | .hbm, ⟨47, _⟩ => ⟨S1024x16, .f32⟩
  | .hbm, ⟨48, _⟩ => ⟨S1024x16, .f32⟩
  | .hbm, ⟨49, _⟩ => ⟨S1024x32, .f32⟩
  | .hbm, ⟨50, _⟩ => ⟨S_, .f32⟩
  | .hbm, ⟨51, _⟩ => ⟨S1024x64, .f32⟩
  | .hbm, ⟨52, _⟩ => ⟨S_, .f32⟩
  | .hbm, ⟨53, _⟩ => ⟨S1024x32, .f32⟩
  | .hbm, ⟨54, _⟩ => ⟨S1024x128, .f32⟩
  | .hbm, ⟨55, _⟩ => ⟨S_, .f32⟩
  | .hbm, ⟨56, _⟩ => ⟨S1024x64, .f32⟩
  | .hbm, ⟨57, _⟩ => ⟨S_, .f32⟩
  | .hbm, ⟨58, _⟩ => ⟨S1024x32, .f32⟩
  | .hbm, ⟨59, _⟩ => ⟨S1024x128, .f32⟩
  | .hbm, ⟨60, _⟩ => ⟨S_, .f32⟩
  | .hbm, ⟨61, _⟩ => ⟨S1024x120, .f32⟩
  | .hbm, ⟨62, _⟩ => ⟨S1024x2432, .f32⟩
  | .hbm, ⟨63, _⟩ => ⟨S1024x2432, .bf16⟩
  | .hbm, ⟨64, _⟩ => ⟨S384x8x96, .f32⟩
  | .hbm, ⟨65, _⟩ => ⟨S384x8x64, .f32⟩
  | .hbm, ⟨66, _⟩ => ⟨S384x8x16, .f32⟩
  | .hbm, ⟨67, _⟩ => ⟨S384x8x16, .f32⟩
  | .hbm, ⟨68, _⟩ => ⟨S_, .f32⟩
  | .hbm, ⟨69, _⟩ => ⟨S384x8x32, .f32⟩
  | .hbm, ⟨70, _⟩ => ⟨S384x8x128, .f32⟩
  | .hbm, ⟨71, _⟩ => ⟨S384x1024, .f32⟩
  | .hbm, ⟨72, _⟩ => ⟨S_, .f32⟩
  | .hbm, ⟨73, _⟩ => ⟨S384x8x64, .f32⟩
  | .hbm, ⟨74, _⟩ => ⟨S384x8x16, .f32⟩
  | .hbm, ⟨75, _⟩ => ⟨S_, .f32⟩
  | .hbm, ⟨76, _⟩ => ⟨S384x8x32, .f32⟩
  | .hbm, ⟨77, _⟩ => ⟨S384x8x128, .f32⟩
  | .hbm, ⟨78, _⟩ => ⟨S384x1024, .f32⟩
  | .hbm, ⟨79, _⟩ => ⟨S384x2048, .f32⟩
  | .hbm, ⟨80, _⟩ => ⟨S384x2048, .bf16⟩
  | .hbm, ⟨81, _⟩ => ⟨S_, .f32⟩
  | .hbm, ⟨82, _⟩ => ⟨S256x8x64, .f32⟩
  | .hbm, ⟨83, _⟩ => ⟨S256x8x128, .f32⟩
  | .hbm, ⟨84, _⟩ => ⟨S256x1024, .f32⟩
  | .hbm, ⟨85, _⟩ => ⟨S256x1024, .bf16⟩
  | .hbm, ⟨86, _⟩ => ⟨S1x384, .f32⟩
  | .hbm, ⟨87, _⟩ => ⟨S1x256, .f32⟩
  | .hbm, ⟨88, _⟩ => ⟨S256x512, .f32⟩
  | .hbm, ⟨89, _⟩ => ⟨S256x512, .bf16⟩
  | .hbm, ⟨90, _⟩ => ⟨S1x1024, .f32⟩
  | .hbm, ⟨91, _⟩ => ⟨S8x4096x1024, .bf16⟩
  | .hbm, ⟨92, _⟩ => ⟨S8x4096x1024, .bf16⟩
  | .hbm, ⟨93, _⟩ => ⟨S8x4096x512, .bf16⟩
  | .hbm, ⟨94, _⟩ => ⟨S8x4096x256, .f32⟩
  | .hbm, ⟨95, _⟩ => ⟨S8x4096x32, .f32⟩
  | .hbm, ⟨96, _⟩ => ⟨S8x4096x1024, .bf16⟩
  | .hbm, ⟨97, _⟩ => ⟨S8x4096x128, .f32⟩
  | .hbm, ⟨98, _⟩ => ⟨S8x4096x128, .f32⟩
  | .hbm, ⟨99, _⟩ => ⟨S8x4096x128, .bf16⟩
  | .hbm, ⟨100, _⟩ => ⟨S8x4096x128, .bf16⟩
  | .hbm, ⟨101, _⟩ => ⟨S8x4096x512, .bf16⟩
  | .hbm, ⟨102, _⟩ => ⟨S8x4096x64, .f32⟩
  | .hbm, ⟨103, _⟩ => ⟨S8x4096x128, .bf16⟩
  | .hbm, ⟨104, _⟩ => ⟨S8x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2432, .bf16⟩
  | .local _ .vmem, ⟨8, _⟩ => ⟨S1x384, .f32⟩
  | .local _ .vmem, ⟨9, _⟩ => ⟨S384x2048, .bf16⟩
  | .local _ .vmem, ⟨10, _⟩ => ⟨S1x256, .f32⟩
  | .local _ .vmem, ⟨11, _⟩ => ⟨S256x1024, .bf16⟩
  | .local _ .vmem, ⟨12, _⟩ => ⟨S256x512, .bf16⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x256, .f32⟩
  | .local _ .vmem, ⟨24, _⟩ => ⟨S1x512x256, .f32⟩
  | .local _ .vmem, ⟨25, _⟩ => ⟨S1x512x32, .f32⟩
  | .local _ .vmem, ⟨26, _⟩ => ⟨S1x512x32, .f32⟩
  | .local _ .vmem, ⟨27, _⟩ => ⟨S1x512x1024, .bf16⟩
  | .local _ .vmem, ⟨28, _⟩ => ⟨S1x512x1024, .bf16⟩
  | .local _ .vmem, ⟨29, _⟩ => ⟨S1x512x128, .f32⟩
  | .local _ .vmem, ⟨30, _⟩ => ⟨S1x512x128, .f32⟩
  | .local _ .vmem, ⟨31, _⟩ => ⟨S1x512x128, .f32⟩
  | .local _ .vmem, ⟨32, _⟩ => ⟨S1x512x128, .f32⟩
  | .local _ .vmem, ⟨33, _⟩ => ⟨S1x512x128, .bf16⟩
  | .local _ .vmem, ⟨34, _⟩ => ⟨S1x512x128, .bf16⟩
  | .local _ .vmem, ⟨35, _⟩ => ⟨S1x512x128, .bf16⟩
  | .local _ .vmem, ⟨36, _⟩ => ⟨S1x512x128, .bf16⟩
  | .local _ .vmem, ⟨37, _⟩ => ⟨S1x512x512, .bf16⟩
  | .local _ .vmem, ⟨38, _⟩ => ⟨S1x512x512, .bf16⟩
  | .local _ .vmem, ⟨39, _⟩ => ⟨S1x512x64, .f32⟩
  | .local _ .vmem, ⟨40, _⟩ => ⟨S1x512x64, .f32⟩
  | .local _ .vmem, ⟨41, _⟩ => ⟨S1x512x128, .bf16⟩
  | .local _ .vmem, ⟨42, _⟩ => ⟨S1x512x128, .bf16⟩
  | .local _ .vmem, ⟨43, _⟩ => ⟨S1x512x128, .f32⟩
  | .local _ .vmem, ⟨44, _⟩ => ⟨S1x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68_0 : Ref sig .tc := ⟨.hbm, 91, rfl⟩
abbrev main_v68_1 : Ref sig .tc := ⟨.hbm, 92, rfl⟩
abbrev main_v68_2 : Ref sig .tc := ⟨.hbm, 93, rfl⟩
abbrev main_v68_3 : Ref sig .tc := ⟨.hbm, 94, rfl⟩
abbrev main_v68_4 : Ref sig .tc := ⟨.hbm, 95, rfl⟩
abbrev main_v68_5 : Ref sig .tc := ⟨.hbm, 96, rfl⟩
abbrev main_v68_6 : Ref sig .tc := ⟨.hbm, 97, rfl⟩
abbrev main_v68_7 : Ref sig .tc := ⟨.hbm, 98, rfl⟩
abbrev main_v68_8 : Ref sig .tc := ⟨.hbm, 99, rfl⟩
abbrev main_v68_9 : Ref sig .tc := ⟨.hbm, 100, rfl⟩
abbrev main_v68_10 : Ref sig .tc := ⟨.hbm, 101, rfl⟩
abbrev main_v68_11 : Ref sig .tc := ⟨.hbm, 102, rfl⟩
abbrev main_v68_12 : Ref sig .tc := ⟨.hbm, 103, rfl⟩
abbrev main_v68_13 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_stg23_0 : Ref sig .tc := ⟨.vmem, 39, rfl⟩
abbrev cc0_stg23_1 : Ref sig .tc := ⟨.vmem, 40, rfl⟩
abbrev cc0_stg24_0 : Ref sig .tc := ⟨.vmem, 41, rfl⟩
abbrev cc0_stg24_1 : Ref sig .tc := ⟨.vmem, 42, rfl⟩
abbrev cc0_stg25_0 : Ref sig .tc := ⟨.vmem, 43, rfl⟩
abbrev cc0_stg25_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38
abbrev cc0_sem23_0 : DmaSem sig := 39
abbrev cc0_sem23_1 : DmaSem sig := 40
abbrev cc0_sem24_0 : DmaSem sig := 41
abbrev cc0_sem24_1 : DmaSem sig := 42
abbrev cc0_sem25_0 : DmaSem sig := 43
abbrev cc0_sem25_1 : DmaSem sig := 44

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x32 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x64 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x128 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x512x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== Reference4Ideal.lean ====
abbrev S8x4096x1024 : Shape := ⟨3, ![8, 4096, 1024]⟩
abbrev S8x9216 : Shape := ⟨2, ![8, 9216]⟩
abbrev S1024 : Shape := ⟨1, ![1024]⟩
abbrev S1024x2024 : Shape := ⟨2, ![1024, 2024]⟩
abbrev S384 : Shape := ⟨1, ![384]⟩
abbrev S384x768 : Shape := ⟨2, ![384, 768]⟩
abbrev S256 : Shape := ⟨1, ![256]⟩
abbrev S256x8x64 : Shape := ⟨3, ![256, 8, 64]⟩
abbrev S8x1x9216 : Shape := ⟨3, ![8, 1, 9216]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2024 : Shape := ⟨3, ![8, 4096, 2024]⟩
abbrev S8x4096x384 : Shape := ⟨3, ![8, 4096, 384]⟩
abbrev S8x4096x256 : Shape := ⟨3, ![8, 4096, 256]⟩
abbrev S8x4096x32 : Shape := ⟨3, ![8, 4096, 32]⟩
abbrev S8x4096x512 : Shape := ⟨3, ![8, 4096, 512]⟩
abbrev S8x4096x128 : Shape := ⟨3, ![8, 4096, 128]⟩
abbrev S8x4096x64 : Shape := ⟨3, ![8, 4096, 64]⟩
abbrev S8x4096x8 : Shape := ⟨3, ![8, 4096, 8]⟩
abbrev S1x1x256 : Shape := ⟨3, ![1, 1, 256]⟩
abbrev S8x4096x8x64 : Shape := ⟨4, ![8, 4096, 8, 64]⟩

abbrev nBuf : Space → Nat
  | .hbm => 72
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S1024, .f32⟩
  | .hbm, ⟨3, _⟩ => ⟨S1024x2024, .f32⟩
  | .hbm, ⟨4, _⟩ => ⟨S384, .f32⟩
  | .hbm, ⟨5, _⟩ => ⟨S384x768, .f32⟩
  | .hbm, ⟨6, _⟩ => ⟨S256, .f32⟩
  | .hbm, ⟨7, _⟩ => ⟨S256x8x64, .f32⟩
  | .hbm, ⟨8, _⟩ => ⟨S256x8x64, .f32⟩
  | .hbm, ⟨9, _⟩ => ⟨S8x1x9216, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x4096x1024, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S8x4096x1, .f32⟩
  | .hbm, ⟨30, _⟩ => ⟨S8x4096x1024, .f32⟩
  | .hbm, ⟨31, _⟩ => ⟨S8x4096x1024, .f32⟩
  | .hbm, ⟨32, _⟩ => ⟨S1x1x1024, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x1x1024, .f32⟩
  | .hbm, ⟨37, _⟩ => ⟨S8x1x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x2024, .f32⟩
  | .hbm, ⟨43, _⟩ => ⟨S8x4096x384, .f32⟩
  | .hbm, ⟨44, _⟩ => ⟨S8x4096x256, .f32⟩
  | .hbm, ⟨45, _⟩ => ⟨S8x4096x32, .f32⟩
  | .hbm, ⟨46, _⟩ => ⟨S8x4096x512, .f32⟩
  | .hbm, ⟨47, _⟩ => ⟨S8x4096x128, .f32⟩
  | .hbm, ⟨48, _⟩ => ⟨S8x4096x128, .f32⟩
  | .hbm, ⟨49, _⟩ => ⟨S8x4096x512, .f32⟩
  | .hbm, ⟨50, _⟩ => ⟨S8x4096x64, .f32⟩
  | .hbm, ⟨51, _⟩ => ⟨S8x4096x8, .f32⟩
  | .hbm, ⟨52, _⟩ => ⟨S8x4096x256, .f32⟩
  | .hbm, ⟨53, _⟩ => ⟨S_, .f32⟩
  | .hbm, ⟨54, _⟩ => ⟨S8x4096, .f32⟩
  | .hbm, ⟨55, _⟩ => ⟨S8x4096x1, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S_, .f32⟩
  | .hbm, ⟨60, _⟩ => ⟨S8x4096x1, .f32⟩
  | .hbm, ⟨61, _⟩ => ⟨S8x4096x1, .f32⟩
  | .hbm, ⟨62, _⟩ => ⟨S8x4096x1, .f32⟩
  | .hbm, ⟨63, _⟩ => ⟨S8x4096x256, .f32⟩
  | .hbm, ⟨64, _⟩ => ⟨S8x4096x256, .f32⟩
  | .hbm, ⟨65, _⟩ => ⟨S1x1x256, .f32⟩
  | .hbm, ⟨66, _⟩ => ⟨S8x4096x256, .f32⟩
  | .hbm, ⟨67, _⟩ => ⟨S8x4096x256, .f32⟩
  | .hbm, ⟨68, _⟩ => ⟨S8x4096x8x64, .f32⟩
  | .hbm, ⟨69, _⟩ => ⟨S8x4096x512, .f32⟩
  | .hbm, ⟨70, _⟩ => ⟨S8x4096x512, .bf16⟩
  | .hbm, ⟨71, _⟩ => ⟨S8x4096x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== Proof.Frame4.lean ====
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.Pipeline.Value
public import Idealize.ShloMosaic.Lib.WordCmp

@[expose] public section

set_option maxRecDepth 16384

noncomputable section

namespace Cert.Kernel4Ideal.Whole

open Cert.Kernel4Ideal Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of core `c` when the region is entered: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to its region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Window `w`'s block at point `t`, read from the array the region finds. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1560000 in
/-- From a run that leaves the arrays as the proof data say, the arguments end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) h

abbrev r0_0 : Rect S1x512x1024 := Rect.unit (s := S1x512x1024) ![0, 0, 0] S1x512x1024.size inb_S1x512x1024_S1x512x1024_0_0_0
abbrev r0_1 : Rect S1x1024 := Rect.unit (s := S1x1024) ![0, 0] S1x1024.size inb_S1x1024_S1x1024_0_0
abbrev r0_2 : Rect S1x1x1024 := Rect.unit (s := S1x1x1024) ![0, 0, 0] S1x1x1024.size inb_S1x1x1024_S1x1x1024_0_0_0
abbrev r0_3 : Rect S512x128 := Rect.unit (s := S512x128) ![0, 0] S512x128.size inb_S512x128_S512x128_0_0
abbrev r0_4 : Rect S1024x2432 := Rect.unit (s := S1024x2432) ![0, 0] S1024x384.size inb_S1024x2432_S1024x384_0_0
abbrev r0_5 : Rect S1x384 := Rect.unit (s := S1x384) ![0, 0] S1x384.size inb_S1x384_S1x384_0_0
abbrev r0_6 : Rect S384x2048 := Rect.unit (s := S384x2048) ![0, 0] S384x2048.size inb_S384x2048_S384x2048_0_0
abbrev r0_7 : Rect S1x512x1024 := Rect.unit (s := S1x512x1024) ![0, 0, 0] S1x512x128.size inb_S1x512x1024_S1x512x128_0_0_0
abbrev r0_8 : Rect S1x512x1024 := Rect.unit (s := S1x512x1024) ![0, 0, 128] S1x512x128.size inb_S1x512x1024_S1x512x128_0_0_128
abbrev r0_9 : Rect S1x512x1024 := Rect.unit (s := S1x512x1024) ![0, 0, 256] S1x512x128.size inb_S1x512x1024_S1x512x128_0_0_256
abbrev r0_10 : Rect S1x512x1024 := Rect.unit (s := S1x512x1024) ![0, 0, 384] S1x512x128.size inb_S1x512x1024_S1x512x128_0_0_384
abbrev r0_11 : Rect S1x512x1024 := Rect.unit (s := S1x512x1024) ![0, 0, 512] S1x512x128.size inb_S1x512x1024_S1x512x128_0_0_512
abbrev r0_12 : Rect S1x512x1024 := Rect.unit (s := S1x512x1024) ![0, 0, 640] S1x512x128.size inb_S1x512x1024_S1x512x128_0_0_640
abbrev r0_13 : Rect S1x512x1024 := Rect.unit (s := S1x512x1024) ![0, 0, 768] S1x512x128.size inb_S1x512x1024_S1x512x128_0_0_768
abbrev r0_14 : Rect S1x512x1024 := Rect.unit (s := S1x512x1024) ![0, 0, 896] S1x512x128.size inb_S1x512x1024_S1x512x128_0_0_896
abbrev r0_15 : Rect S1024x2432 := Rect.unit (s := S1024x2432) ![0, 384] S1024x256.size inb_S1024x2432_S1024x256_0_384
abbrev r0_16 : Rect S1x256 := Rect.unit (s := S1x256) ![0, 0] S1x256.size inb_S1x256_S1x256_0_0
abbrev r0_17 : Rect S1x512x256 := Rect.unit (s := S1x512x256) ![0, 0, 0] S1x512x256.size inb_S1x512x256_S1x512x256_0_0_0
abbrev r0_18 : Rect S1024x2432 := Rect.unit (s := S1024x2432) ![0, 640] S1024x256.size inb_S1024x2432_S1024x256_0_640
abbrev r0_19 : Rect S1x512x32 := Rect.unit (s := S1x512x32) ![0, 0, 0] S1x512x32.size inb_S1x512x32_S1x512x32_0_0_0
abbrev r0_20 : Rect S256x1024 := Rect.unit (s := S256x1024) ![0, 0] S256x1024.size inb_S256x1024_S256x1024_0_0
abbrev r0_21 : Rect S256x512 := Rect.unit (s := S256x512) ![0, 0] S256x512.size inb_S256x512_S256x512_0_0
abbrev r0_22 : Rect S1x512x512 := Rect.unit (s := S1x512x512) ![0, 0, 0] S1x512x512.size inb_S1x512x512_S1x512x512_0_0_0
abbrev r0_23 : Rect S1024x2432 := Rect.unit (s := S1024x2432) ![0, 896] S1024x512.size inb_S1024x2432_S1024x512_0_896
abbrev r0_24 : Rect S1024x2432 := Rect.unit (s := S1024x2432) ![0, 1408] S1024x256.size inb_S1024x2432_S1024x256_0_1408
abbrev r0_25 : Rect S1x512x128 := Rect.unit (s := S1x512x128) ![0, 0, 0] S1x512x128.size inb_S1x512x128_S1x512x128_0_0_0
abbrev r0_26 : Rect S1024x2432 := Rect.unit (s := S1024x2432) ![0, 1664] S1024x512.size inb_S1024x2432_S1024x512_0_1664
abbrev r0_27 : Rect S1024x2432 := Rect.unit (s := S1024x2432) ![0, 2176] S1024x256.size inb_S1024x2432_S1024x256_0_2176
abbrev r0_28 : Rect S1x512x64 := Rect.unit (s := S1x512x64) ![0, 0, 0] S1x512x64.size inb_S1x512x64_S1x512x64_0_0_0

section

variable (x0 : Vec F S1x512x1024 .f32) (x1 : Vec F S1x1x1024 .f32) (x2 : Vec F S1x1x1024 .f32) (x3 : Vec F S1x1024 .f32) (x4 : Vec F S1024x2432 .bf16) (x5 : Vec F S1x384 .f32) (x6 : Vec F S384x2048 .bf16) (x7 : Vec F S1x256 .f32) (x8 : Vec F S256x1024 .bf16) (x9 : Vec F S256x512 .bf16) (x10 : Vec F S512x128 .f32) (x11 : Vec F S512x128 .f32)

def k0_pay63 (x0 : Vec F S1x512x1024 .f32) (x1 : Vec F S1x1x1024 .f32) (x2 : Vec F S1x1x1024 .f32) (x3 : Vec F S1x1024 .f32) (x4 : Vec F S1024x2432 .bf16) (x5 : Vec F S1x384 .f32) (x6 : Vec F S384x2048 .bf16) (x7 : Vec F S1x256 .f32) (x8 : Vec F S256x1024 .bf16) (x9 : Vec F S256x512 .bf16) (x10 : Vec F S512x128 .f32) (x11 : Vec F S512x128 .f32) : FVec F S512x1024 .bf16 :=
  k0_pay2 (View.ld x0 r0_0) (View.ld x3 r0_1) (View.ld x2 r0_2) (View.ld x1 r0_2)
def k0_pay64 (x0 : Vec F S1x512x1024 .f32) (x1 : Vec F S1x1x1024 .f32) (x2 : Vec F S1x1x1024 .f32) (x3 : Vec F S1x1024 .f32) (x4 : Vec F S1024x2432 .bf16) (x5 : Vec F S1x384 .f32) (x6 : Vec F S384x2048 .bf16) (x7 : Vec F S1x256 .f32) (x8 : Vec F S256x1024 .bf16) (x9 : Vec F S256x512 .bf16) (x10 : Vec F S512x128 .f32) (x11 : Vec F S512x128 .f32) : FVec F S512x128 .f32 :=
  k0_pay3 (View.ld x10 r0_3)
def k0_pay65 (x0 : Vec F S1x512x1024 .f32) (x1 : Vec F S1x1x1024 .f32) (x2 : Vec F S1x1x1024 .f32) (x3 : Vec F S1x1024 .f32) (x4 : Vec F S1024x2432 .bf16) (x5 : Vec F S1x384 .f32) (x6 : Vec F S384x2048 .bf16) (x7 : Vec F S1x256 .f32) (x8 : Vec F S256x1024 .bf16) (x9 : Vec F S256x512 .bf16) (x10 : Vec F S512x128 .f32) (x11 : Vec F S512x128 .f32) : FVec F S512x128 .f32 :=
  k0_pay4 (View.ld x11 r0_3)
def k0_pay66 (x0 : Vec F S1x512x1024 .f32) (x1 : Vec F S1x1x1024 .f32) (x2 : Vec F S1x1x1024 .f32) (x3 : Vec F S1x1024 .f32) (x4 : Vec F S1024x2432 .bf16) (x5 : Vec F S1x384 .f32) (x6 : Vec F S384x2048 .bf16) (x7 : Vec F S1x256 .f32) (x8 : Vec F S256x1024 .bf16) (x9 : Vec F S256x512 .bf16) (x10 : Vec F S512x128 .f32) (x11 : Vec F S512x128 .f32) : FVec F S512x384 .f32 :=
  k0_pay5 (View.ld x0 r0_0) (View.ld x3 r0_1) (View.ld x2 r0_2) (View.ld x1 r0_2) (View.ld x4 r0_4)
def k0_pay67 : FVec F S512x2048 .f32 :=
  k0_pay6 (k0_pay66 x0 x1 x2 x3 x4 x5 x6 x7 x8 x9 x10 x11) (View.ld x5 r0_5) (View.ld x6 r0_6)
def k0_pay68 : FVec F S512x256 .bf16 :=
  k0_pay19 (k0_pay63 x0 x1 x2 x3 x4 x5 x6 x7 x8 x9 x10 x11) (View.ld x4 r0_15) (View.ld x7 r0_16)
def k0_pay69 : FVec F S512x128 .f32 :=
  k0_pay20 (k0_pay63 x0 x1 x2 x3 x4 x5 x6 x7 x8 x9 x10 x11) (k0_pay64 x0 x1 x2 x3 x4 x5 x6 x7 x8 x9 x10 x11) (k0_pay65 x0 x1 x2 x3 x4 x5 x6 x7 x8 x9 x10 x11) (View.ld x4 r0_18)
def k0_pay70 : FVec F S512x1024 .f32 :=
  k0_pay23 (k0_pay68 x0 x1 x2 x3 x4 x5 x6 x7 x8 x9 x10 x11) (View.ld x8 r0_20)
def k0_pay71 : FVec F S512x512 .f32 :=
  k0_pay34 (k0_pay63 x0 x1 x2 x3 x4 x5 x6 x7 x8 x9 x10 x11) (View.ld x4 r0_23)
def k0_pay72 (x0 : Vec F S1x512x1024 .f32) (x1 : Vec F S1x1x1024 .f32) (x2 : Vec F S1x1x1024 .f32) (x3 : Vec F S1x1024 .f32) (x4 : Vec F S1024x2432 .bf16) (x5 : Vec F S1x384 .f32) (x6 : Vec F S384x2048 .bf16) (x7 : Vec F S1x256 .f32) (x8 : Vec F S256x1024 .bf16) (x9 : Vec F S256x512 .bf16) (x10 : Vec F S512x128 .f32) (x11 : Vec F S512x128 .f32) : IVec S512x128 1 :=
  k0_pay35

/-- What the body leaves in each output window's buffer, from the blocks of the input windows. -/
def out0_12 : Vec F S1x512x1024 .bf16 :=
  View.canon [⟨r0_14, k0_pay16 (k0_pay15 (k0_pay64 x0 x1 x2 x3 x4 x5 x6 x7 x8 x9 x10 x11) (k0_pay65 x0 x1 x2 x3 x4 x5 x6 x7 x8 x9 x10 x11) (k0_pay67 x0 x1 x2 x3 x4 x5 x6 x7 x8 x9 x10 x11))⟩,
    ⟨r0_13, k0_pay14 (k0_pay64 x0 x1 x2 x3 x4 x5 x6 x7 x8 x9 x10 x11) (k0_pay65 x0 x1 x2 x3 x4 x5 x6 x7 x8 x9 x10 x11) (k0_pay67 x0 x1 x2 x3 x4 x5 x6 x7 x8 x9 x10 x11)⟩,
    ⟨r0_12, k0_pay13 (k0_pay64 x0 x1 x2 x3 x4 x5 x6 x7 x8 x9 x10 x11) (k0_pay65 x0 x1 x2 x3 x4 x5 x6 x7 x8 x9 x10 x11) (k0_pay67 x0 x1 x2 x3 x4 x5 x6 x7 x8 x9 x10 x11)⟩,
    ⟨r0_11, k0_pay12 (k0_pay64 x0 x1 x2 x3 x4 x5 x6 x7 x8 x9 x10 x11) (k0_pay65 x0 x1 x2 x3 x4 x5 x6 x7 x8 x9 x10 x11) (k0_pay67 x0 x1 x2 x3 x4 x5 x6 x7 x8 x9 x10 x11)⟩,
    ⟨r0_10, k0_pay11 (k0_pay64 x0 x1 x2 x3 x4 x5 x6 x7 x8 x9 x10 x11) (k0_pay65 x0 x1 x2 x3 x4 x5 x6 x7 x8 x9 x10 x11) (k0_pay67 x0 x1 x2 x3 x4 x5 x6 x7 x8 x9 x10 x11)⟩,
    ⟨r0_9, k0_pay10 (k0_pay9 (k0_pay64 x0 x1 x2 x3 x4 x5 x6 x7 x8 x9 x10 x11) (k0_pay65 x0 x1 x2 x3 x4 x5 x6 x7 x8 x9 x10 x11) (k0_pay66 x0 x1 x2 x3 x4 x5 x6 x7 x8 x9 x10 x11) (View.ld x5 r0_5) (View.ld x6 r0_6))⟩,
    ⟨r0_8, k0_pay8 (k0_pay64 x0 x1 x2 x3 x4 x5 x6 x7 x8 x9 x10 x11) (k0_pay65 x0 x1 x2 x3 x4 x5 x6 x7 x8 x9 x10 x11) (k0_pay66 x0 x1 x2 x3 x4 x5 x6 x7 x8 x9 x10 x11) (View.ld x5 r0_5) (View.ld x6 r0_6)⟩,
    ⟨r0_7, k0_pay7 (k0_pay64 x0 x1 x2 x3 x4 x5 x6 x7 x8 x9 x10 x11) (k0_pay65 x0 x1 x2 x3 x4 x5 x6 x7 x8 x9 x10 x11) (k0_pay66 x0 x1 x2 x3 x4 x5 x6 x7 x8 x9 x10 x11) (View.ld x5 r0_5) (View.ld x6 r0_6)⟩]

theorem cover0_12 (p0 : Vec F S1x512x128 .bf16) (p1 : Vec F S1x512x128 .bf16) (p2 : Vec F S1x512x128 .bf16) (p3 : Vec F S1x512x128 .bf16) (p4 : Vec F S1x512x128 .bf16) (p5 : Vec F S1x512x128 .bf16) (p6 : Vec F S1x512x128 .bf16) (p7 : Vec F S1x512x128 .bf16) (y : S1x512x1024.Idx) :
    ∃ pc ∈ ([⟨r0_14, p0⟩, ⟨r0_13, p1⟩, ⟨r0_12, p2⟩, ⟨r0_11, p3⟩, ⟨r0_10, p4⟩, ⟨r0_9, p5⟩, ⟨r0_8, p6⟩, ⟨r0_7, p7⟩] : List (View.Piece (Elt F) S1x512x1024 .bf16)), y ∈ pc.1.set :=
  View.cover_of_tiled [⟨r0_14, p0⟩, ⟨r0_13, p1⟩, ⟨r0_12, p2⟩, ⟨r0_11, p3⟩, ⟨r0_10, p4⟩, ⟨r0_9, p5⟩, ⟨r0_8, p6⟩, ⟨r0_7, p7⟩] S1x512x128.size (by rfl) y

def out0_13 : Vec F S1x512x1024 .bf16 :=
  View.canon [⟨r0_14, k0_pay32 (k0_pay69 x0 x1 x2 x3 x4 x5 x6 x7 x8 x9 x10 x11) (k0_pay70 x0 x1 x2 x3 x4 x5 x6 x7 x8 x9 x10 x11)⟩,
    ⟨r0_13, k0_pay31 (k0_pay69 x0 x1 x2 x3 x4 x5 x6 x7 x8 x9 x10 x11) (k0_pay70 x0 x1 x2 x3 x4 x5 x6 x7 x8 x9 x10 x11)⟩,
    ⟨r0_12, k0_pay30 (k0_pay29 (k0_pay68 x0 x1 x2 x3 x4 x5 x6 x7 x8 x9 x10 x11) (k0_pay69 x0 x1 x2 x3 x4 x5 x6 x7 x8 x9 x10 x11) (View.ld x8 r0_20))⟩,
    ⟨r0_11, k0_pay28 (k0_pay68 x0 x1 x2 x3 x4 x5 x6 x7 x8 x9 x10 x11) (k0_pay69 x0 x1 x2 x3 x4 x5 x6 x7 x8 x9 x10 x11) (View.ld x8 r0_20)⟩,
    ⟨r0_10, k0_pay27 (k0_pay68 x0 x1 x2 x3 x4 x5 x6 x7 x8 x9 x10 x11) (k0_pay69 x0 x1 x2 x3 x4 x5 x6 x7 x8 x9 x10 x11) (View.ld x8 r0_20)⟩,
    ⟨r0_9, k0_pay26 (k0_pay68 x0 x1 x2 x3 x4 x5 x6 x7 x8 x9 x10 x11) (k0_pay69 x0 x1 x2 x3 x4 x5 x6 x7 x8 x9 x10 x11) (View.ld x8 r0_20)⟩,
    ⟨r0_8, k0_pay25 (k0_pay68 x0 x1 x2 x3 x4 x5 x6 x7 x8 x9 x10 x11) (k0_pay69 x0 x1 x2 x3 x4 x5 x6 x7 x8 x9 x10 x11) (View.ld x8 r0_20)⟩,
    ⟨r0_7, k0_pay24 (k0_pay68 x0 x1 x2 x3 x4 x5 x6 x7 x8 x9 x10 x11) (k0_pay69 x0 x1 x2 x3 x4 x5 x6 x7 x8 x9 x10 x11) (View.ld x8 r0_20)⟩]

theorem cover0_13 (p0 : Vec F S1x512x128 .bf16) (p1 : Vec F S1x512x128 .bf16) (p2 : Vec F S1x512x128 .bf16) (p3 : Vec F S1x512x128 .bf16) (p4 : Vec F S1x512x128 .bf16) (p5 : Vec F S1x512x128 .bf16) (p6 : Vec F S1x512x128 .bf16) (p7 : Vec F S1x512x128 .bf16) (y : S1x512x1024.Idx) :
    ∃ pc ∈ ([⟨r0_14, p0⟩, ⟨r0_13, p1⟩, ⟨r0_12, p2⟩, ⟨r0_11, p3⟩, ⟨r0_10, p4⟩, ⟨r0_9, p5⟩, ⟨r0_8, p6⟩, ⟨r0_7, p7⟩] : List (View.Piece (Elt F) S1x512x1024 .bf16)), y ∈ pc.1.set :=
  View.cover_of_tiled [⟨r0_14, p0⟩, ⟨r0_13, p1⟩, ⟨r0_12, p2⟩, ⟨r0_11, p3⟩, ⟨r0_10, p4⟩, ⟨r0_9, p5⟩, ⟨r0_8, p6⟩, ⟨r0_7, p7⟩] S1x512x128.size (by rfl) y

def out0_14 : Vec F S1x512x512 .bf16 :=
  View.canon [⟨r0_22, k0_pay33 (k0_pay68 x0 x1 x2 x3 x4 x5 x6 x7 x8 x9 x10 x11) (View.ld x9 r0_21)⟩]

theorem cover0_14 (p0 : Vec F S1x512x512 .bf16) (y : S1x512x512.Idx) :
    ∃ pc ∈ ([⟨r0_22, p0⟩] : List (View.Piece (Elt F) S1x512x512 .bf16)), y ∈ pc.1.set :=
  View.cover_of_tiled [⟨r0_22, p0⟩] S1x512x512.size (by rfl) y

def out0_15 : Vec F S1x512x256 .f32 :=
  View.canon [⟨r0_17, k0_pay18 (k0_pay63 x0 x1 x2 x3 x4 x5 x6 x7 x8 x9 x10 x11) (View.ld x4 r0_15) (View.ld x7 r0_16)⟩]

theorem cover0_15 (p0 : Vec F S1x512x256 .f32) (y : S1x512x256.Idx) :
    ∃ pc ∈ ([⟨r0_17, p0⟩] : List (View.Piece (Elt F) S1x512x256 .f32)), y ∈ pc.1.set :=
  View.cover_of_tiled [⟨r0_17, p0⟩] S1x512x256.size (by rfl) y

def out0_16 : Vec F S1x512x32 .f32 :=
  View.canon [⟨r0_19, k0_pay22 (k0_pay21 (k0_pay63 x0 x1 x2 x3 x4 x5 x6 x7 x8 x9 x10 x11) (k0_pay64 x0 x1 x2 x3 x4 x5 x6 x7 x8 x9 x10 x11) (k0_pay65 x0 x1 x2 x3 x4 x5 x6 x7 x8 x9 x10 x11) (View.ld x4 r0_18))⟩]

theorem cover0_16 (p0 : Vec F S1x512x32 .f32) (y : S1x512x32.Idx) :
    ∃ pc ∈ ([⟨r0_19, p0⟩] : List (View.Piece (Elt F) S1x512x32 .f32)), y ∈ pc.1.set :=
  View.cover_of_tiled [⟨r0_19, p0⟩] S1x512x32.size (by rfl) y

def out0_17 : Vec F S1x512x1024 .bf16 :=
  View.canon [⟨r0_14, k0_pay51 (k0_pay71 x0 x1 x2 x3 x4 x5 x6 x7 x8 x9 x10 x11) (k0_pay72 x0 x1 x2 x3 x4 x5 x6 x7 x8 x9 x10 x11)⟩,
    ⟨r0_13, k0_pay50 (k0_pay71 x0 x1 x2 x3 x4 x5 x6 x7 x8 x9 x10 x11) (k0_pay72 x0 x1 x2 x3 x4 x5 x6 x7 x8 x9 x10 x11)⟩,
    ⟨r0_12, k0_pay48 (k0_pay45 (k0_pay71 x0 x1 x2 x3 x4 x5 x6 x7 x8 x9 x10 x11) (k0_pay72 x0 x1 x2 x3 x4 x5 x6 x7 x8 x9 x10 x11))⟩,
    ⟨r0_11, k0_pay47 (k0_pay46 (k0_pay71 x0 x1 x2 x3 x4 x5 x6 x7 x8 x9 x10 x11) (k0_pay72 x0 x1 x2 x3 x4 x5 x6 x7 x8 x9 x10 x11))⟩,
    ⟨r0_10, k0_pay43 (k0_pay71 x0 x1 x2 x3 x4 x5 x6 x7 x8 x9 x10 x11) (k0_pay72 x0 x1 x2 x3 x4 x5 x6 x7 x8 x9 x10 x11)⟩,
    ⟨r0_9, k0_pay42 (k0_pay71 x0 x1 x2 x3 x4 x5 x6 x7 x8 x9 x10 x11) (k0_pay72 x0 x1 x2 x3 x4 x5 x6 x7 x8 x9 x10 x11)⟩,
    ⟨r0_8, k0_pay40 (k0_pay72 x0 x1 x2 x3 x4 x5 x6 x7 x8 x9 x10 x11) (k0_pay37 (k0_pay63 x0 x1 x2 x3 x4 x5 x6 x7 x8 x9 x10 x11) (View.ld x4 r0_23))⟩,
    ⟨r0_7, k0_pay39 (k0_pay72 x0 x1 x2 x3 x4 x5 x6 x7 x8 x9 x10 x11) (k0_pay36 (k0_pay63 x0 x1 x2 x3 x4 x5 x6 x7 x8 x9 x10 x11) (View.ld x4 r0_23)) (k0_pay38 (F := F))⟩]

theorem cover0_17 (p0 : Vec F S1x512x128 .bf16) (p1 : Vec F S1x512x128 .bf16) (p2 : Vec F S1x512x128 .bf16) (p3 : Vec F S1x512x128 .bf16) (p4 : Vec F S1x512x128 .bf16) (p5 : Vec F S1x512x128 .bf16) (p6 : Vec F S1x512x128 .bf16) (p7 : Vec F S1x512x128 .bf16) (y : S1x512x1024.Idx) :
    ∃ pc ∈ ([⟨r0_14, p0⟩, ⟨r0_13, p1⟩, ⟨r0_12, p2⟩, ⟨r0_11, p3⟩, ⟨r0_10, p4⟩, ⟨r0_9, p5⟩, ⟨r0_8, p6⟩, ⟨r0_7, p7⟩] : List (View.Piece (Elt F) S1x512x1024 .bf16)), y ∈ pc.1.set :=
  View.cover_of_tiled [⟨r0_14, p0⟩, ⟨r0_13, p1⟩, ⟨r0_12, p2⟩, ⟨r0_11, p3⟩, ⟨r0_10, p4⟩, ⟨r0_9, p5⟩, ⟨r0_8, p6⟩, ⟨r0_7, p7⟩] S1x512x128.size (by rfl) y

def out0_18 : Vec F S1x512x128 .f32 :=
  View.canon [⟨r0_25, k0_pay53 (k0_pay63 x0 x1 x2 x3 x4 x5 x6 x7 x8 x9 x10 x11) (View.ld x4 r0_24)⟩]

theorem cover0_18 (p0 : Vec F S1x512x128 .f32) (y : S1x512x128.Idx) :
    ∃ pc ∈ ([⟨r0_25, p0⟩] : List (View.Piece (Elt F) S1x512x128 .f32)), y ∈ pc.1.set :=
  View.cover_of_tiled [⟨r0_25, p0⟩] S1x512x128.size (by rfl) y

def out0_19 : Vec F S1x512x128 .f32 :=
  View.canon [⟨r0_25, k0_pay54 (k0_pay63 x0 x1 x2 x3 x4 x5 x6 x7 x8 x9 x10 x11) (View.ld x4 r0_24)⟩]

theorem cover0_19 (p0 : Vec F S1x512x128 .f32) (y : S1x512x128.Idx) :
    ∃ pc ∈ ([⟨r0_25, p0⟩] : List (View.Piece (Elt F) S1x512x128 .f32)), y ∈ pc.1.set :=
  View.cover_of_tiled [⟨r0_25, p0⟩] S1x512x128.size (by rfl) y

def out0_20 : Vec F S1x512x128 .bf16 :=
  View.canon [⟨r0_25, k0_pay56 (k0_pay55 (k0_pay63 x0 x1 x2 x3 x4 x5 x6 x7 x8 x9 x10 x11) (View.ld x4 r0_24))⟩]

theorem cover0_20 (p0 : Vec F S1x512x128 .bf16) (y : S1x512x128.Idx) :
    ∃ pc ∈ ([⟨r0_25, p0⟩] : List (View.Piece (Elt F) S1x512x128 .bf16)), y ∈ pc.1.set :=
  View.cover_of_tiled [⟨r0_25, p0⟩] S1x512x128.size (by rfl) y

def out0_21 : Vec F S1x512x128 .bf16 :=
  View.canon [⟨r0_25, k0_pay57 (k0_pay52 (k0_pay63 x0 x1 x2 x3 x4 x5 x6 x7 x8 x9 x10 x11) (View.ld x4 r0_24))⟩]

theorem cover0_21 (p0 : Vec F S1x512x128 .bf16) (y : S1x512x128.Idx) :
    ∃ pc ∈ ([⟨r0_25, p0⟩] : List (View.Piece (Elt F) S1x512x128 .bf16)), y ∈ pc.1.set :=
  View.cover_of_tiled [⟨r0_25, p0⟩] S1x512x128.size (by rfl) y

def out0_22 : Vec F S1x512x512 .bf16 :=
  View.canon [⟨r0_22, k0_pay58 (k0_pay63 x0 x1 x2 x3 x4 x5 x6 x7 x8 x9 x10 x11) (View.ld x4 r0_26)⟩]

theorem cover0_22 (p0 : Vec F S1x512x512 .bf16) (y : S1x512x512.Idx) :
    ∃ pc ∈ ([⟨r0_22, p0⟩] : List (View.Piece (Elt F) S1x512x512 .bf16)), y ∈ pc.1.set :=
  View.cover_of_tiled [⟨r0_22, p0⟩] S1x512x512.size (by rfl) y

def out0_23 : Vec F S1x512x64 .f32 :=
  View.canon [⟨r0_28, k0_pay60 (k0_pay63 x0 x1 x2 x3 x4 x5 x6 x7 x8 x9 x10 x11) (View.ld x4 r0_27)⟩]

theorem cover0_23 (p0 : Vec F S1x512x64 .f32) (y : S1x512x64.Idx) :
    ∃ pc ∈ ([⟨r0_28, p0⟩] : List (View.Piece (Elt F) S1x512x64 .f32)), y ∈ pc.1.set :=
  View.cover_of_tiled [⟨r0_28, p0⟩] S1x512x64.size (by rfl) y

def out0_24 : Vec F S1x512x128 .bf16 :=
  View.canon [⟨r0_25, k0_pay61 (k0_pay63 x0 x1 x2 x3 x4 x5 x6 x7 x8 x9 x10 x11) (View.ld x4 r0_27)⟩]

theorem cover0_24 (p0 : Vec F S1x512x128 .bf16) (y : S1x512x128.Idx) :
    ∃ pc ∈ ([⟨r0_25, p0⟩] : List (View.Piece (Elt F) S1x512x128 .bf16)), y ∈ pc.1.set :=
  View.cover_of_tiled [⟨r0_25, p0⟩] S1x512x128.size (by rfl) y

def out0_25 : Vec F S1x512x128 .f32 :=
  View.canon [⟨r0_25, k0_pay1 (k0_pay62 (k0_pay63 x0 x1 x2 x3 x4 x5 x6 x7 x8 x9 x10 x11) (View.ld x4 r0_27))⟩]

theorem cover0_25 (p0 : Vec F S1x512x128 .f32) (y : S1x512x128.Idx) :
    ∃ pc ∈ ([⟨r0_25, p0⟩] : List (View.Piece (Elt F) S1x512x128 .f32)), y ∈ pc.1.set :=
  View.cover_of_tiled [⟨r0_25, p0⟩] S1x512x128.size (by rfl) y

end

set_option maxHeartbeats 1000000 in
/-- The body on whole buffers: the inputs stay as they are, and each output holds `out0_…` of them. -/
theorem sound_kernel (c : Dev nD) (E : Set ℕ) (i : grid0.Coords) (arg2 : Memref sig .tc .vmem S1x512x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x2432 .bf16) (harg6 : arg6.IsWhole) (arg7 : Memref sig .tc .vmem S1x384 .f32) (harg7 : arg7.IsWhole) (arg8 : Memref sig .tc .vmem S384x2048 .bf16) (harg8 : arg8.IsWhole) (arg9 : Memref sig .tc .vmem S1x256 .f32) (harg9 : arg9.IsWhole) (arg10 : Memref sig .tc .vmem S256x1024 .bf16) (harg10 : arg10.IsWhole) (arg11 : Memref sig .tc .vmem S256x512 .bf16) (harg11 : arg11.IsWhole) (arg12 : Memref sig .tc .vmem S512x128 .f32) (harg12 : arg12.IsWhole) (arg13 : Memref sig .tc .vmem S512x128 .f32) (harg13 : arg13.IsWhole) (arg14 : Memref sig .tc .vmem S1x512x1024 .bf16) (harg14 : arg14.IsWhole) (arg15 : Memref sig .tc .vmem S1x512x1024 .bf16) (harg15 : arg15.IsWhole) (arg16 : Memref sig .tc .vmem S1x512x512 .bf16) (harg16 : arg16.IsWhole) (arg17 : Memref sig .tc .vmem S1x512x256 .f32) (harg17 : arg17.IsWhole) (arg18 : Memref sig .tc .vmem S1x512x32 .f32) (harg18 : arg18.IsWhole) (arg19 : Memref sig .tc .vmem S1x512x1024 .bf16) (harg19 : arg19.IsWhole) (arg20 : Memref sig .tc .vmem S1x512x128 .f32) (harg20 : arg20.IsWhole) (arg21 : Memref sig .tc .vmem S1x512x128 .f32) (harg21 : arg21.IsWhole) (arg22 : Memref sig .tc .vmem S1x512x128 .bf16) (harg22 : arg22.IsWhole) (arg23 : Memref sig .tc .vmem S1x512x128 .bf16) (harg23 : arg23.IsWhole) (arg24 : Memref sig .tc .vmem S1x512x512 .bf16) (harg24 : arg24.IsWhole) (arg25 : Memref sig .tc .vmem S1x512x64 .f32) (harg25 : arg25.IsWhole) (arg26 : Memref sig .tc .vmem S1x512x128 .bf16) (harg26 : arg26.IsWhole) (arg27 : Memref sig .tc .vmem S1x512x128 .f32) (harg27 : arg27.IsWhole)
    (x0 : Vec F S1x512x1024 .f32) (x1 : Vec F S1x1x1024 .f32) (x2 : Vec F S1x1x1024 .f32) (x3 : Vec F S1x1024 .f32) (x4 : Vec F S1024x2432 .bf16) (x5 : Vec F S1x384 .f32) (x6 : Vec F S384x2048 .bf16) (x7 : Vec F S1x256 .f32) (x8 : Vec F S256x1024 .bf16) (x9 : Vec F S256x512 .bf16) (x10 : Vec F S512x128 .f32) (x11 : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (out0_12 x0 x1 x2 x3 x4 x5 x6 x7 x8 x9 x10 x11) ∗ owns (c : Thread nD τ) arg15 fullShare (out0_13 x0 x1 x2 x3 x4 x5 x6 x7 x8 x9 x10 x11) ∗ owns (c : Thread nD τ) arg16 fullShare (out0_14 x0 x1 x2 x3 x4 x5 x6 x7 x8 x9 x10 x11) ∗ owns (c : Thread nD τ) arg17 fullShare (out0_15 x0 x1 x2 x3 x4 x5 x6 x7 x8 x9 x10 x11) ∗ owns (c : Thread nD τ) arg18 fullShare (out0_16 x0 x1 x2 x3 x4 x5 x6 x7 x8 x9 x10 x11) ∗ owns (c : Thread nD τ) arg19 fullShare (out0_17 x0 x1 x2 x3 x4 x5 x6 x7 x8 x9 x10 x11) ∗ owns (c : Thread nD τ) arg20 fullShare (out0_18 x0 x1 x2 x3 x4 x5 x6 x7 x8 x9 x10 x11) ∗ owns (c : Thread nD τ) arg21 fullShare (out0_19 x0 x1 x2 x3 x4 x5 x6 x7 x8 x9 x10 x11) ∗ owns (c : Thread nD τ) arg22 fullShare (out0_20 x0 x1 x2 x3 x4 x5 x6 x7 x8 x9 x10 x11) ∗ owns (c : Thread nD τ) arg23 fullShare (out0_21 x0 x1 x2 x3 x4 x5 x6 x7 x8 x9 x10 x11) ∗ owns (c : Thread nD τ) arg24 fullShare (out0_22 x0 x1 x2 x3 x4 x5 x6 x7 x8 x9 x10 x11) ∗ owns (c : Thread nD τ) arg25 fullShare (out0_23 x0 x1 x2 x3 x4 x5 x6 x7 x8 x9 x10 x11) ∗ owns (c : Thread nD τ) arg26 fullShare (out0_24 x0 x1 x2 x3 x4 x5 x6 x7 x8 x9 x10 x11) ∗ owns (c : Thread nD τ) arg27 fullShare (out0_25 x0 x1 x2 x3 x4 x5 x6 x7 x8 x9 x10 x11)) -∗ K ⟨⟩))
      ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_proj_eq_skeleton]; unfold cc0_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    refine (View.read_writes_eq_canon _ _ _ (cover0_12 _ _ _ _ _ _ _ _)).trans ?_
    rfl
  isplitl [H13]
  · iexists _; isplitr
    swap; · iexact H13
    ipureintro
    refine (View.read_writes_eq_canon _ _ _ (cover0_13 _ _ _ _ _ _ _ _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _ _ _ _ _ _ _ _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  iexists _; isplitr
  swap; · iexact H25
  ipureintro
  refine (View.read_writes_eq_canon _ _ _ (cover0_25 _)).trans ?_
  rfl

/-- The proof data of the one pipeline: after the body at a point each input's buffer holds its block,
    each output's what the body leaves there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨_ + 26, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The obligation of the pipeline, at every point: the triple above, restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every array of the pipeline as the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The arguments end as launched, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

/-- What point `t` writes back of output window 14. -/
theorem flushed14 (c : Dev nD) (t : Fin cfg0.N) :
    (dats m 0 c).flushed 14 t = (cfg0.win 14).cut (grid0.coords t) (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 14).cut (grid0.coords t) ((dats m 0 c).after 14 t) = _
  rw [after0_14]

/-- What point `t` writes back of output window 15. -/
theorem flushed15 (c : Dev nD) (t : Fin cfg0.N) :
    (dats m 0 c).flushed 15 t = (cfg0.win 15).cut (grid0.coords t) (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 15).cut (grid0.coords t) ((dats m 0 c).after 15 t) = _
  rw [after0_15]

/-- What point `t` writes back of output window 18. -/
theorem flushed18 (c : Dev nD) (t : Fin cfg0.N) :
    (dats m 0 c).flushed 18 t = (cfg0.win 18).cut (grid0.coords t) (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 18).cut (grid0.coords t) ((dats m 0 c).after 18 t) = _
  rw [after0_18]

/-- What point `t` writes back of output window 19. -/
theorem flushed19 (c : Dev nD) (t : Fin cfg0.N) :
    (dats m 0 c).flushed 19 t = (cfg0.win 19).cut (grid0.coords t) (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 19).cut (grid0.coords t) ((dats m 0 c).after 19 t) = _
  rw [after0_19]

/-- What point `t` writes back of output window 22. -/
theorem flushed22 (c : Dev nD) (t : Fin cfg0.N) :
    (dats m 0 c).flushed 22 t = (cfg0.win 22).cut (grid0.coords t) (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 22).cut (grid0.coords t) ((dats m 0 c).after 22 t) = _
  rw [after0_22]

/-- What point `t` writes back of output window 23. -/
theorem flushed23 (c : Dev nD) (t : Fin cfg0.N) :
    (dats m 0 c).flushed 23 t = (cfg0.win 23).cut (grid0.coords t) (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 23).cut (grid0.coords t) ((dats m 0 c).after 23 t) = _
  rw [after0_23]

/-- The run with the six arrays named, and the arguments as launched. -/
theorem run_blocks : θ_run defs (onTc (τ := τ) (main (F := F))) ⟨m, fun _ => 0, ρ⟩ fun r => ∀ c : Dev nD,
      r.2.mem ((c : Thread nD τ).loc main_v68_2) = (dats m 0 c).arrAt 14 cfg0.N
      ∧ r.2.mem ((c : Thread nD τ).loc main_v68_3) = (dats m 0 c).arrAt 15 cfg0.N
      ∧ r.2.mem ((c : Thread nD τ).loc main_v68_6) = (dats m 0 c).arrAt 18 cfg0.N
      ∧ r.2.mem ((c : Thread nD τ).loc main_v68_7) = (dats m 0 c).arrAt 19 cfg0.N
      ∧ r.2.mem ((c : Thread nD τ).loc main_v68_10) = (dats m 0 c).arrAt 22 cfg0.N
      ∧ r.2.mem ((c : Thread nD τ).loc main_v68_11) = (dats m 0 c).arrAt 23 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h.1 c).1 14, (h.1 c).1 15, (h.1 c).1 18, (h.1 c).1 19, (h.1 c).1 22, (h.1 c).1 23, h.2 c⟩)
    (θ_run_and (run_main m ρ) (unchanged m ρ))

end Cert.Kernel4Ideal.Whole

end
-- ==== Proof.Frame4Kernel.lean ====
module

public import proofs.«01_k».proof.Defs
public import proofs.«01_k».proof.Proof.Gen.Kernel4
public import proofs.«01_k».proof.Proof.Frame4

public section

/-! The frame of the projection over machine words: the idealized program has the same text, and its run holds over any float values. -/

set_option maxRecDepth 65536

namespace Cert.Proof.Projection

open Idealize.ShloMosaic

set_option maxHeartbeats 8000000 in
set_option smartUnfolding false in
/-- The projection's program runs, leaves its arguments as they were and every counter at zero. -/
theorem frame_kernel : Cert.quiescent_Kernel4 := fun m ρ _ => Cert.Kernel4Ideal.Whole.frame (F := Bits) m ρ

end Cert.Proof.Projection
-- ==== Proof.Slab.lean ====
module
public import proofs.«01_k».proof.Proof.Gen.KernelIdeal.Frame
public import Idealize.ShloMosaic.Lib.Pipeline.ReadBack
public import Idealize.ShloMosaic.Lib.Pointwise
@[expose] public section

/-! Scratch arrays seen as a stack of 256 by 128 slabs, one for each head or each pair of heads: reading and
    writing one slab. -/

set_option maxRecDepth 16384

noncomputable section

namespace Cert.KernelIdeal.Hand
open Cert.KernelIdeal Cert.KernelIdeal.Gen Idealize.ShloMosaic

/-- A stack of `G` slabs. -/
abbrev Stk (G : Nat) : Shape := ⟨3, ![G, 256, 128]⟩

variable {G : Nat} {α : Type}

/-- Slab `h` of a stack, with a unit axis in front. -/
def slab (A : (Stk G).Idx → α) (h : Fin G) : S1x256x128.Idx → α := fun x => A (ix3 h (x 1) (x 2))

/-- The stack with slab `h` replaced. -/
def setSlab (A : (Stk G).Idx → α) (h : Fin G) (w : S1x256x128.Idx → α) : (Stk G).Idx → α :=
  fun y => (fun a : Fin G => if a = h then w (ix3 (0 : Fin 1) (y 1) (y 2)) else A y) (y 0)

/-- The stack whose slab `h` is `W h`. -/
def stack (W : Fin G → S1x256x128.Idx → α) : (Stk G).Idx → α := fun y => W (y 0) (ix3 (0 : Fin 1) (y 1) (y 2))

theorem s1_eta (x : S1x256x128.Idx) : ix3 (0 : Fin 1) (x 1) (x 2) = x := by
  funext a
  match a with
  | ⟨0, _⟩ => exact Fin.ext (by have := (x 0).isLt; simp only [ix3]; change 0 = (x 0).val; have h : (x 0).val < 1 := this; omega)
  | ⟨1, _⟩ => rfl
  | ⟨2, _⟩ => rfl

theorem slab_setSlab_self (A : (Stk G).Idx → α) (h : Fin G) (w : S1x256x128.Idx → α) : slab (setSlab A h w) h = w := by
  funext x
  unfold slab setSlab
  refine (if_pos rfl).trans ?_
  exact congrArg w (s1_eta x)

theorem slab_setSlab_ne (A : (Stk G).Idx → α) {h k : Fin G} (w : S1x256x128.Idx → α) (hk : k ≠ h) :
    slab (setSlab A h w) k = slab A k := by
  funext x
  unfold slab setSlab
  exact if_neg hk

theorem slab_stack (W : Fin G → S1x256x128.Idx → α) (h : Fin G) : slab (stack W) h = W h := by
  funext x
  exact congrArg (W h) (s1_eta x)

theorem slab_fun (g : (Stk G).Idx → α) (h : Fin G) (x : S1x256x128.Idx) : slab g h x = g (ix3 h (x 1) (x 2)) := rfl

theorem stack8 (A : (Stk 8).Idx → α) (W : Fin 8 → S1x256x128.Idx → α) {w0 w1 w2 w3 w4 w5 w6 w7 : S1x256x128.Idx → α}
    (h0 : w0 = W 0) (h1 : w1 = W 1) (h2 : w2 = W 2) (h3 : w3 = W 3) (h4 : w4 = W 4) (h5 : w5 = W 5) (h6 : w6 = W 6)
    (h7 : w7 = W 7) :
    setSlab (setSlab (setSlab (setSlab (setSlab (setSlab (setSlab (setSlab A 0 w0) 1 w1) 2 w2) 3 w3) 4 w4) 5 w5) 6 w6) 7 w7
      = stack W := by
  subst h0 h1 h2 h3 h4 h5 h6 h7
  funext y
  unfold setSlab stack
  have key : ∀ a : Fin 8, ∀ u : S1x256x128.Idx, (if a = 7 then W 7 u else if a = 6 then W 6 u else if a = 5 then W 5 u
      else if a = 4 then W 4 u else if a = 3 then W 3 u else if a = 2 then W 2 u else if a = 1 then W 1 u
      else if a = 0 then W 0 u else A y) = W a u := by
    intro a u
    match a with
    | 0 => rfl
    | 1 => rfl
    | 2 => rfl
    | 3 => rfl
    | 4 => rfl
    | 5 => rfl
    | 6 => rfl
    | 7 => rfl
  exact key (y 0) _

theorem stack4 (A : (Stk 4).Idx → α) (W : Fin 4 → S1x256x128.Idx → α) {w0 w1 w2 w3 : S1x256x128.Idx → α}
    (h0 : w0 = W 0) (h1 : w1 = W 1) (h2 : w2 = W 2) (h3 : w3 = W 3) :
    setSlab (setSlab (setSlab (setSlab A 0 w0) 1 w1) 2 w2) 3 w3 = stack W := by
  subst h0 h1 h2 h3
  funext y
  unfold setSlab stack
  have key : ∀ a : Fin 4, ∀ u : S1x256x128.Idx, (if a = 3 then W 3 u else if a = 2 then W 2 u else if a = 1 then W 1 u
      else if a = 0 then W 0 u else A y) = W a u := by
    intro a u
    match a with
    | 0 => rfl
    | 1 => rfl
    | 2 => rfl
    | 3 => rfl
  exact key (y 0) _

variable {Val : EltTy → Type} {sig : RefSig} {κ : Kind} {sp : Space} {e : EltTy}

theorem slab_inb {n : Nat} (inb : ∀ i, (![n, 0, 0] : Fin 3 → Nat) i + S1x256x128.size i ≤ (Stk G).size i) : n < G := by
  have := inb 0
  simpa using this

theorem slab_emb {n : Nat} (inb : ∀ i, (![n, 0, 0] : Fin 3 → Nat) i + S1x256x128.size i ≤ (Stk G).size i) (x : S1x256x128.Idx) :
    (Rect.unit (s := Stk G) ![n, 0, 0] S1x256x128.size inb).emb x = ix3 (⟨n, slab_inb inb⟩ : Fin G) (x 1) (x 2) := by
  funext a
  apply Fin.ext
  match a with
  | ⟨0, _⟩ =>
    have h : (x 0).val < 1 := (x 0).isLt
    change n + 1 * (x 0).val = n
    omega
  | ⟨1, _⟩ => change 0 + 1 * (x 1).val = (x 1).val; omega
  | ⟨2, _⟩ => change 0 + 1 * (x 2).val = (x 2).val; omega

theorem readAt_slab {n : Nat} (inb : ∀ i, (![n, 0, 0] : Fin 3 → Nat) i + S1x256x128.size i ≤ (Stk G).size i)
    (v : View sig κ sp (Stk G) e) (f : v.ty.Contents Val) :
    View.readAt Val v (Rect.unit (s := Stk G) ![n, 0, 0] S1x256x128.size inb).toLoadRect f
      = slab (v.read Val f) ⟨n, slab_inb inb⟩ := by
  rw [View.readAt_eq_ld]
  funext x
  exact congrArg (v.read Val f) (slab_emb inb x)

theorem readAt_slab' (h : Fin G) (inb : ∀ i, (![h.val, 0, 0] : Fin 3 → Nat) i + S1x256x128.size i ≤ (Stk G).size i)
    (v : View sig κ sp (Stk G) e) (f : v.ty.Contents Val) :
    View.readAt Val v (Rect.unit (s := Stk G) ![h.val, 0, 0] S1x256x128.size inb).toLoadRect f = slab (v.read Val f) h :=
  readAt_slab inb v f

theorem slab_at {n : Nat} (inb : ∀ i, (![n, 0, 0] : Fin 3 → Nat) i + S1x256x128.size i ≤ (Stk G).size i) {y : (Stk G).Idx}
    (h : y 0 = (⟨n, slab_inb inb⟩ : Fin G)) :
    y = (Rect.unit (s := Stk G) ![n, 0, 0] S1x256x128.size inb).emb (ix3 (0 : Fin 1) (y 1) (y 2)) := by
  refine Eq.trans ?_ (slab_emb inb (ix3 (0 : Fin 1) (y 1) (y 2))).symm
  funext a
  match a with
  | ⟨0, _⟩ => exact h
  | ⟨1, _⟩ => rfl
  | ⟨2, _⟩ => rfl

theorem slab_off {n : Nat} (inb : ∀ i, (![n, 0, 0] : Fin 3 → Nat) i + S1x256x128.size i ≤ (Stk G).size i) {y : (Stk G).Idx}
    (h : y 0 ≠ (⟨n, slab_inb inb⟩ : Fin G)) :
    y ∉ (Rect.unit (s := Stk G) ![n, 0, 0] S1x256x128.size inb).set := by
  intro hm
  obtain ⟨x, hx⟩ := LoadRect.exists_idx_of_mem _ hm
  have hx' := (slab_emb inb x).symm.trans hx
  exact h (by rw [← hx']; rfl)

theorem read_writes_slab {n : Nat} (inb : ∀ i, (![n, 0, 0] : Fin 3 → Nat) i + S1x256x128.size i ≤ (Stk G).size i)
    (v : View sig κ sp (Stk G) e) (f : v.ty.Contents Val) (w : S1x256x128.Idx → Val e) (L : List (View.Piece Val (Stk G) e)) :
    v.read Val (v.writes Val f (⟨Rect.unit (s := Stk G) ![n, 0, 0] S1x256x128.size inb, w⟩ :: L))
      = setSlab (v.read Val (v.writes Val f L)) ⟨n, slab_inb inb⟩ w := by
  funext y
  unfold setSlab
  by_cases h : y 0 = (⟨n, slab_inb inb⟩ : Fin G)
  · refine Eq.trans ?_ (if_pos h).symm
    have e := View.read_writes_cons_emb v f (Rect.unit (s := Stk G) ![n, 0, 0] S1x256x128.size inb) w L
      (ix3 (0 : Fin 1) (y 1) (y 2))
    rw [← slab_at inb h] at e
    exact e
  · refine Eq.trans ?_ (if_neg h).symm
    rw [View.writes_cons]
    refine View.read_slice_write_of_not_mem _ _ _ _ ?_
    rw [Rect.map_emb_univ]
    exact slab_off inb h

variable [∀ e, Nonempty (Val e)]

theorem readCov_slab {n : Nat} (inb : ∀ i, (![n, 0, 0] : Fin 3 → Nat) i + S1x256x128.size i ≤ (Stk G).size i)
    (v : View sig κ sp (Stk G) e) (L : List (View.Piece Val (Stk G) e)) :
    v.readCov L (Rect.unit (s := Stk G) ![n, 0, 0] S1x256x128.size inb).toLoadRect
      = slab (View.canon L) ⟨n, slab_inb inb⟩ := by
  rw [View.readCov_eq_canon']
  funext x
  exact congrArg (View.canon L) (slab_emb inb x)

theorem canon_slab {n : Nat} (inb : ∀ i, (![n, 0, 0] : Fin 3 → Nat) i + S1x256x128.size i ≤ (Stk G).size i)
    (w : S1x256x128.Idx → Val e) (L : List (View.Piece Val (Stk G) e)) :
    View.canon (⟨Rect.unit (s := Stk G) ![n, 0, 0] S1x256x128.size inb, w⟩ :: L)
      = setSlab (View.canon L) ⟨n, slab_inb inb⟩ w := by
  funext y
  unfold setSlab
  by_cases h : y 0 = (⟨n, slab_inb inb⟩ : Fin G)
  · refine Eq.trans ?_ (if_pos h).symm
    have e := View.canon_cons_emb (Rect.unit (s := Stk G) ![n, 0, 0] S1x256x128.size inb) w L (ix3 (0 : Fin 1) (y 1) (y 2))
    rw [← slab_at inb h] at e
    exact e
  · refine Eq.trans ?_ (if_neg h).symm
    exact View.canon_cons_of_not_mem _ L (slab_off inb h)

end Cert.KernelIdeal.Hand
-- ==== Proof.Step.lean ====
module

public import proofs.«01_k».proof.Proof.Slab

@[expose] public section

/-! One step of the streamed softmax for one head and for one pair of heads, on 512 or on 256 keys: what the step
    stores for the maximum, the lane sums and the weighted sum, as functions of what it loads. -/

set_option maxRecDepth 16384

noncomputable section

namespace Cert.KernelIdeal.Hand

open Cert.KernelIdeal Cert.KernelIdeal.Gen Idealize.ShloMosaic

variable {F : FTy → Type} [FloatOps F] [Named F]

/-- The four tiles of 128 columns of a 512-wide block of scores. -/
def tile5 (s : FVec F S256x512 .f32) (a : Fin 4) : FVec F S256x128 .f32 :=
  match a with
  | 0 => extractStridedSlice S256x128 ![0, 0] s slices_S256x512_o0_0_S256x128
  | 1 => extractStridedSlice S256x128 ![0, 128] s slices_S256x512_o0_128_S256x128
  | 2 => extractStridedSlice S256x128 ![0, 256] s slices_S256x512_o0_256_S256x128
  | 3 => extractStridedSlice S256x128 ![0, 384] s slices_S256x512_o0_384_S256x128

/-- A stored 1 by 256 by 128 slab as a matrix. -/
def flat (m : Vec F S1x256x128 .f32) : FVec F S256x128 .f32 := shapeCast S256x128 m shapeCasts_S1x256x128_S256x128

/-- A matrix as a stored slab. -/
def lift (w : FVec F S256x128 .f32) : FVec F S1x256x128 .f32 := shapeCast S1x256x128 w shapeCasts_S256x128_S1x256x128

/-- The maximum of each row, copied over the 128 lanes. -/
def rowMax (t : FVec F S256x128 .f32) : FVec F S256x128 .f32 :=
  broadcastTo S256x128 (shapeCast S256x1
    (multiReduction .maximumf [1] S256 t 0xFF800000#32 reduces_S256x128_S256 (.inl rfl) rfl) shapeCasts_S256_S256x1)
    broadcasts_S256x1_S256x128

/-- The new maximum after 512 keys. -/
def max5 (s : FVec F S256x512 .f32) (m : Vec F S1x256x128 .f32) : FVec F S256x128 .f32 :=
  maximumf (flat m) (rowMax (maximumf (maximumf (maximumf (tile5 s 0) (tile5 s 1)) (tile5 s 2)) (tile5 s 3)))

/-- The factor old sums are multiplied by. -/
def alpha5 (s : FVec F S256x512 .f32) (m : Vec F S1x256x128 .f32) : FVec F S256x128 .f32 :=
  exp2 (subf (flat m) (max5 s m))

/-- The weights of tile `a`. -/
def pow5 (s : FVec F S256x512 .f32) (m : Vec F S1x256x128 .f32) (a : Fin 4) : FVec F S256x128 .f32 :=
  exp2 (subf (tile5 s a) (max5 s m))

/-- The new lane sums. -/
def sum5 (s : FVec F S256x512 .f32) (m l : Vec F S1x256x128 .f32) : FVec F S256x128 .f32 :=
  addf (mulf (alpha5 s m) (flat l)) (addf (addf (addf (pow5 s m 0) (pow5 s m 1)) (pow5 s m 2)) (pow5 s m 3))

/-- The weights times the values. -/
def pv5 (s : FVec F S256x512 .f32) (m : Vec F S1x256x128 .f32) (v : Vec F S1x512x128 .bf16) : FVec F S256x128 .f32 :=
  k0_pay20 (k0_pay4 v) (pow5 s m 0) (pow5 s m 1) (pow5 s m 2) (pow5 s m 3)

/-- The new weighted sums of a pair of heads: the first head owns the first 64 lanes. -/
def mix (a0 r0 a1 r1 : FVec F S256x128 .f32) (acc : Vec F S1x256x128 .f32) : FVec F S1x256x128 .f32 :=
  lift (addf (mulf (flat acc) (select k0_pay369 a0 a1)) (select k0_pay369 r0 r1))

/-- The two tiles of a 256-wide block of scores. -/
def tile2 (s : FVec F S256x256 .f32) (a : Fin 2) : FVec F S256x128 .f32 :=
  match a with
  | 0 => extractStridedSlice S256x128 ![0, 0] s slices_S256x256_o0_0_S256x128
  | 1 => extractStridedSlice S256x128 ![0, 128] s slices_S256x256_o0_128_S256x128

/-- The new maximum after 256 keys. -/
def max2 (s : FVec F S256x256 .f32) (m : Vec F S1x256x128 .f32) : FVec F S256x128 .f32 :=
  maximumf (flat m) (rowMax (maximumf (tile2 s 0) (tile2 s 1)))

def alpha2 (s : FVec F S256x256 .f32) (m : Vec F S1x256x128 .f32) : FVec F S256x128 .f32 :=
  exp2 (subf (flat m) (max2 s m))

def pow2 (s : FVec F S256x256 .f32) (m : Vec F S1x256x128 .f32) (a : Fin 2) : FVec F S256x128 .f32 :=
  exp2 (subf (tile2 s a) (max2 s m))

def sum2 (s : FVec F S256x256 .f32) (m l : Vec F S1x256x128 .f32) : FVec F S256x128 .f32 :=
  addf (mulf (alpha2 s m) (flat l)) (addf (pow2 s m 0) (pow2 s m 1))

def pv2 (s : FVec F S256x256 .f32) (m : Vec F S1x256x128 .f32) (v : Vec F S1x256x128 .bf16) : FVec F S256x128 .f32 :=
  k0_pay280 (k0_pay270 v) (pow2 s m 0) (pow2 s m 1)

/-- The normalised output of a pair of heads. -/
def norm (l0 l1 acc : Vec F S1x256x128 .f32) : FVec F S1x256x128 .bf16 := k0_pay481 k0_pay369 l0 l1 acc

/-- The two heads of a pair. -/
def evenH (p : Fin 4) : Fin 8 := ⟨2 * p.val, by have := p.isLt; omega⟩
def oddH (p : Fin 4) : Fin 8 := ⟨2 * p.val + 1, by have := p.isLt; omega⟩

theorem evenH_0 : evenH 0 = 0 := rfl
theorem evenH_1 : evenH 1 = 2 := rfl
theorem evenH_2 : evenH 2 = 4 := rfl
theorem evenH_3 : evenH 3 = 6 := rfl
theorem oddH_0 : oddH 0 = 1 := rfl
theorem oddH_1 : oddH 1 = 3 := rfl
theorem oddH_2 : oddH 2 = 5 := rfl
theorem oddH_3 : oddH 3 = 7 := rfl

/-! The boxes of one slab and of the queries of one head lie inside. -/

theorem inq (h : Fin 8) : ∀ i, (![0, 0, 128 * h.val] : Fin 3 → Nat) i + S1x256x128.size i ≤ S1x256x1024.size i := by
  revert h; decide
theorem ins8 (h : Fin 8) : ∀ i, (![h.val, 0, 0] : Fin 3 → Nat) i + S1x256x128.size i ≤ (Stk 8).size i := by
  revert h; decide
theorem ins4 (h : Fin 4) : ∀ i, (![h.val, 0, 0] : Fin 3 → Nat) i + S1x256x128.size i ≤ (Stk 4).size i := by
  revert h; decide

/-! The blocks a step loads. -/

variable {α : Type}

/-- The 256 queries of head `h`. -/
def qB (X : S1x256x1024.Idx → α) (h : Fin 8) : S1x256x128.Idx → α :=
  fun x => X (ix3 (0 : Fin 1) (x 1) ⟨128 * h.val + (x 2).val, by have h2 : (x 2).val < 128 := (x 2).isLt; have := h.isLt; omega⟩)

/-- The keys of head `h` from key `n` on, 512 of them; past the end the last key. -/
def kB5 (X : S1x4096x1024.Idx → α) (n : Nat) (h : Fin 8) : S1x512x128.Idx → α :=
  fun x => X (ix3 (0 : Fin 1) ⟨min (n + (x 1).val) 4095, by omega⟩
    ⟨128 * h.val + (x 2).val, by have h2 : (x 2).val < 128 := (x 2).isLt; have := h.isLt; omega⟩)

def vB5 (X : S1x4096x512.Idx → α) (n : Nat) (p : Fin 4) : S1x512x128.Idx → α :=
  fun x => X (ix3 (0 : Fin 1) ⟨min (n + (x 1).val) 4095, by omega⟩
    ⟨128 * p.val + (x 2).val, by have h2 : (x 2).val < 128 := (x 2).isLt; have := p.isLt; omega⟩)

def kB2 (X : S1x4096x1024.Idx → α) (n : Nat) (h : Fin 8) : S1x256x128.Idx → α :=
  fun x => X (ix3 (0 : Fin 1) ⟨min (n + (x 1).val) 4095, by omega⟩
    ⟨128 * h.val + (x 2).val, by have h2 : (x 2).val < 128 := (x 2).isLt; have := h.isLt; omega⟩)

def vB2 (X : S1x4096x512.Idx → α) (n : Nat) (p : Fin 4) : S1x256x128.Idx → α :=
  fun x => X (ix3 (0 : Fin 1) ⟨min (n + (x 1).val) 4095, by omega⟩
    ⟨128 * p.val + (x 2).val, by have h2 : (x 2).val < 128 := (x 2).isLt; have := p.isLt; omega⟩)

section loads
variable {Val : EltTy → Type} {sg : RefSig} {κ' : Kind} {sp : Space} {e : EltTy}

theorem load_q {n : Nat} (h : Fin 8) (hn : n = 128 * h.val)
    (inb : ∀ i, (![0, 0, n] : Fin 3 → Nat) i + S1x256x128.size i ≤ S1x256x1024.size i)
    (v : View sg κ' sp S1x256x1024 e) (f : v.ty.Contents Val) :
    View.readAt Val v (Rect.unit (s := S1x256x1024) ![0, 0, n] S1x256x128.size inb).toLoadRect f = qB (v.read Val f) h := by
  rw [View.readAt_eq_ld]
  funext x
  refine congrArg (v.read Val f) ?_
  funext a
  apply Fin.ext
  match a with
  | ⟨0, _⟩ => have h0 : (x 0).val < 1 := (x 0).isLt; change 0 + 1 * (x 0).val = 0; omega
  | ⟨1, _⟩ => change 0 + 1 * (x 1).val = (x 1).val; omega
  | ⟨2, _⟩ => change n + 1 * (x 2).val = 128 * h.val + (x 2).val; omega

theorem load_k5 {o : Fin 3 → Nat} (n : Nat) (h : Fin 8) (ho : o = ![0, n, 128 * h.val])
    (inb : ∀ i, o i + S1x512x128.size i ≤ S1x4096x1024.size i)
    (v : View sg κ' sp S1x4096x1024 e) (f : v.ty.Contents Val) :
    View.readAt Val v (Rect.unit (s := S1x4096x1024) o S1x512x128.size inb).toLoadRect f = kB5 (v.read Val f) n h := by
  subst ho
  rw [View.readAt_eq_ld]
  funext x
  refine congrArg (v.read Val f) ?_
  have hb : n + 512 ≤ 4096 := inb 1
  funext a
  apply Fin.ext
  match a with
  | ⟨0, _⟩ => have h0 : (x 0).val < 1 := (x 0).isLt; change 0 + 1 * (x 0).val = 0; omega
  | ⟨1, _⟩ => have h1 : (x 1).val < 512 := (x 1).isLt; change n + 1 * (x 1).val = min (n + (x 1).val) 4095; omega
  | ⟨2, _⟩ => change 128 * h.val + 1 * (x 2).val = 128 * h.val + (x 2).val; omega

theorem load_v5 {o : Fin 3 → Nat} (n : Nat) (p : Fin 4) (ho : o = ![0, n, 128 * p.val])
    (inb : ∀ i, o i + S1x512x128.size i ≤ S1x4096x512.size i)
    (v : View sg κ' sp S1x4096x512 e) (f : v.ty.Contents Val) :
    View.readAt Val v (Rect.unit (s := S1x4096x512) o S1x512x128.size inb).toLoadRect f = vB5 (v.read Val f) n p := by
  subst ho
  rw [View.readAt_eq_ld]
  funext x
  refine congrArg (v.read Val f) ?_
  have hb : n + 512 ≤ 4096 := inb 1
  funext a
  apply Fin.ext
  match a with
  | ⟨0, _⟩ => have h0 : (x 0).val < 1 := (x 0).isLt; change 0 + 1 * (x 0).val = 0; omega
  | ⟨1, _⟩ => have h1 : (x 1).val < 512 := (x 1).isLt; change n + 1 * (x 1).val = min (n + (x 1).val) 4095; omega
  | ⟨2, _⟩ => change 128 * p.val + 1 * (x 2).val = 128 * p.val + (x 2).val; omega

theorem load_k2 {o : Fin 3 → Nat} (n : Nat) (h : Fin 8) (ho : o = ![0, n, 128 * h.val])
    (inb : ∀ i, o i + S1x256x128.size i ≤ S1x4096x1024.size i)
    (v : View sg κ' sp S1x4096x1024 e) (f : v.ty.Contents Val) :
    View.readAt Val v (Rect.unit (s := S1x4096x1024) o S1x256x128.size inb).toLoadRect f = kB2 (v.read Val f) n h := by
  subst ho
  rw [View.readAt_eq_ld]
  funext x
  refine congrArg (v.read Val f) ?_
  have hb : n + 256 ≤ 4096 := inb 1
  funext a
  apply Fin.ext
  match a with
  | ⟨0, _⟩ => have h0 : (x 0).val < 1 := (x 0).isLt; change 0 + 1 * (x 0).val = 0; omega
  | ⟨1, _⟩ => have h1 : (x 1).val < 256 := (x 1).isLt; change n + 1 * (x 1).val = min (n + (x 1).val) 4095; omega
  | ⟨2, _⟩ => change 128 * h.val + 1 * (x 2).val = 128 * h.val + (x 2).val; omega

theorem load_v2 {o : Fin 3 → Nat} (n : Nat) (p : Fin 4) (ho : o = ![0, n, 128 * p.val])
    (inb : ∀ i, o i + S1x256x128.size i ≤ S1x4096x512.size i)
    (v : View sg κ' sp S1x4096x512 e) (f : v.ty.Contents Val) :
    View.readAt Val v (Rect.unit (s := S1x4096x512) o S1x256x128.size inb).toLoadRect f = vB2 (v.read Val f) n p := by
  subst ho
  rw [View.readAt_eq_ld]
  funext x
  refine congrArg (v.read Val f) ?_
  have hb : n + 256 ≤ 4096 := inb 1
  funext a
  apply Fin.ext
  match a with
  | ⟨0, _⟩ => have h0 : (x 0).val < 1 := (x 0).isLt; change 0 + 1 * (x 0).val = 0; omega
  | ⟨1, _⟩ => have h1 : (x 1).val < 256 := (x 1).isLt; change n + 1 * (x 1).val = min (n + (x 1).val) 4095; omega
  | ⟨2, _⟩ => change 128 * p.val + 1 * (x 2).val = 128 * p.val + (x 2).val; omega

end loads

end Cert.KernelIdeal.Hand
-- ==== Proof.Trip.lean ====
module

public import proofs.«01_k».proof.Proof.Step

@[expose] public section

/-! One trip of the loop over full blocks of 512 keys: it leaves in the three scratch arrays, for every head, what one
    step of the streamed softmax makes of what it found there. -/

set_option maxRecDepth 16384

noncomputable section

namespace Cert.KernelIdeal.Hand

open Cert.KernelIdeal Cert.KernelIdeal.Gen Idealize.ShloMosaic Idealize.ShloMosaic.TcCoe Idealize.ShloMosaic.Tactic

variable {F : FTy → Type} [FloatOps F] [Named F]

theorem trips1 : ∀ i : grid0.Coords, (k0_t1_loop i).trips = (i 1).val / 2 := by decide +kernel

theorem start5 : ∀ k : Fin 8, (Scalar.indexCast (Scalar.muli (Scf.iv 0#32 1#32 k.val) 512#32)).toNat = 512 * k.val := by
  decide +kernel

theorem trip_lt (i : grid0.Coords) (k : Fin (k0_t1_loop i).trips) : k.val < 8 := by
  have h := lt_of_lt_of_eq k.isLt (trips1 i)
  have h2 : (i 1).val < 16 := (i 1).isLt
  omega

theorem start5' (i : grid0.Coords) (k : Fin (k0_t1_loop i).trips) :
    (Scalar.indexCast (Scalar.muli (Scf.iv 0#32 1#32 k.val) 512#32)).toNat = 512 * k.val :=
  start5 ⟨k.val, trip_lt i k⟩

theorem off1 (i : grid0.Coords) (k : Fin (k0_t1_loop i).trips) : k0_off1 i k = ![0, 512 * k.val, 0] := by
  unfold k0_off1; exact congrArg (fun n => ![0, n, 0]) (start5' i k)

theorem off2 (i : grid0.Coords) (k : Fin (k0_t1_loop i).trips) : k0_off2 i k = ![0, 512 * k.val, 0] := by
  unfold k0_off2; exact congrArg (fun n => ![0, n, 0]) (start5' i k)

theorem off3 (i : grid0.Coords) (k : Fin (k0_t1_loop i).trips) : k0_off3 i k = ![0, 512 * k.val, 128] := by
  unfold k0_off3; exact congrArg (fun n => ![0, n, 128]) (start5' i k)

theorem off4 (i : grid0.Coords) (k : Fin (k0_t1_loop i).trips) : k0_off4 i k = ![0, 512 * k.val, 256] := by
  unfold k0_off4; exact congrArg (fun n => ![0, n, 256]) (start5' i k)

theorem off5 (i : grid0.Coords) (k : Fin (k0_t1_loop i).trips) : k0_off5 i k = ![0, 512 * k.val, 128] := by
  unfold k0_off5; exact congrArg (fun n => ![0, n, 128]) (start5' i k)

theorem off6 (i : grid0.Coords) (k : Fin (k0_t1_loop i).trips) : k0_off6 i k = ![0, 512 * k.val, 384] := by
  unfold k0_off6; exact congrArg (fun n => ![0, n, 384]) (start5' i k)

theorem off7 (i : grid0.Coords) (k : Fin (k0_t1_loop i).trips) : k0_off7 i k = ![0, 512 * k.val, 512] := by
  unfold k0_off7; exact congrArg (fun n => ![0, n, 512]) (start5' i k)

theorem off8 (i : grid0.Coords) (k : Fin (k0_t1_loop i).trips) : k0_off8 i k = ![0, 512 * k.val, 256] := by
  unfold k0_off8; exact congrArg (fun n => ![0, n, 256]) (start5' i k)

theorem off9 (i : grid0.Coords) (k : Fin (k0_t1_loop i).trips) : k0_off9 i k = ![0, 512 * k.val, 640] := by
  unfold k0_off9; exact congrArg (fun n => ![0, n, 640]) (start5' i k)

theorem off10 (i : grid0.Coords) (k : Fin (k0_t1_loop i).trips) : k0_off10 i k = ![0, 512 * k.val, 768] := by
  unfold k0_off10; exact congrArg (fun n => ![0, n, 768]) (start5' i k)

theorem off11 (i : grid0.Coords) (k : Fin (k0_t1_loop i).trips) : k0_off11 i k = ![0, 512 * k.val, 384] := by
  unfold k0_off11; exact congrArg (fun n => ![0, n, 384]) (start5' i k)

theorem off12 (i : grid0.Coords) (k : Fin (k0_t1_loop i).trips) : k0_off12 i k = ![0, 512 * k.val, 896] := by
  unfold k0_off12; exact congrArg (fun n => ![0, n, 896]) (start5' i k)

theorem trip_max (𝒱 : Variants) (c : Dev nD) (bd : Option 𝒱.V) (i : grid0.Coords) (arg2 : Memref sig .tc .vmem S1x256x1024 .bf16) (harg2 : arg2.IsWhole) (arg3 : Memref sig .tc .vmem S1x4096x1024 .bf16) (harg3 : arg3.IsWhole) (arg4 : Memref sig .tc .vmem S1x4096x512 .bf16) (harg4 : arg4.IsWhole) (arg5 : Memref sig .tc .vmem S1x256x512 .bf16) (harg5 : arg5.IsWhole)
    (arg6 : Memref sig .tc .vmem S8x256x128 .f32) (harg6 : arg6.IsWhole) (arg7 : Memref sig .tc .vmem S8x256x128 .f32) (harg7 : arg7.IsWhole) (arg8 : Memref sig .tc .vmem S4x256x128 .f32) (harg8 : arg8.IsWhole)
    (arg1 : BitVec 32) (v3 v4 : IVec S256x256 32) (v33 : BitVec 32) (X2 : BufTy.Contents (Elt F) arg2.view.ty)
    (X3 : BufTy.Contents (Elt F) arg3.view.ty) (X4 : BufTy.Contents (Elt F) arg4.view.ty) (k : Fin (k0_t1_loop i).trips)
    (f6 : BufTy.Contents (Elt F) arg6.view.ty) (f7 : BufTy.Contents (Elt F) arg7.view.ty) (f8 : BufTy.Contents (Elt F) arg8.view.ty) :
    arg6.view.read (Elt F) (arg6.view.writes (Elt F) f6 ((trip_k0_t1 𝒱 c bd i arg2 harg2 arg3 harg3 arg4 harg4 arg5 harg5 arg6 harg6 arg7 harg7 arg8 harg8 arg1 k0_pay369 v3 v4 v33 X2 X3 X4 k).1 f6 f7 f8))
      = stack fun h => lift (max5 (k0_pay3 (qB (arg2.view.read (Elt F) X2) h) (kB5 (arg3.view.read (Elt F) X3) (512 * k.val) h)) (slab (arg6.view.read (Elt F) f6) h)) := by
  unfold trip_k0_t1
  dsimp only
  rw [read_writes_slab, read_writes_slab, read_writes_slab, read_writes_slab, read_writes_slab, read_writes_slab, read_writes_slab, read_writes_slab,
    View.writes_nil]
  refine stack8 _ _ ?_ ?_ ?_ ?_ ?_ ?_ ?_ ?_
  · rw [← load_q (n := 0) 0 rfl (inq 0), ← load_k5 _ 0 (off1 i k) (facts.k0_off1_inb i k),
      ← readAt_slab' 0 (ins8 0) (v := arg6.view)]
    rfl
  · rw [← load_q (n := 128) 1 rfl (inq 1), ← load_k5 _ 1 (off3 i k) (facts.k0_off3_inb i k),
      ← readAt_slab' 1 (ins8 1) (v := arg6.view)]
    rfl
  · rw [← load_q (n := 256) 2 rfl (inq 2), ← load_k5 _ 2 (off4 i k) (facts.k0_off4_inb i k),
      ← readAt_slab' 2 (ins8 2) (v := arg6.view)]
    rfl
  · rw [← load_q (n := 384) 3 rfl (inq 3), ← load_k5 _ 3 (off6 i k) (facts.k0_off6_inb i k),
      ← readAt_slab' 3 (ins8 3) (v := arg6.view)]
    rfl
  · rw [← load_q (n := 512) 4 rfl (inq 4), ← load_k5 _ 4 (off7 i k) (facts.k0_off7_inb i k),
      ← readAt_slab' 4 (ins8 4) (v := arg6.view)]
    rfl
  · rw [← load_q (n := 640) 5 rfl (inq 5), ← load_k5 _ 5 (off9 i k) (facts.k0_off9_inb i k),
      ← readAt_slab' 5 (ins8 5) (v := arg6.view)]
    rfl
  · rw [← load_q (n := 768) 6 rfl (inq 6), ← load_k5 _ 6 (off10 i k) (facts.k0_off10_inb i k),
      ← readAt_slab' 6 (ins8 6) (v := arg6.view)]
    rfl
  · rw [← load_q (n := 896) 7 rfl (inq 7), ← load_k5 _ 7 (off12 i k) (facts.k0_off12_inb i k),
      ← readAt_slab' 7 (ins8 7) (v := arg6.view)]
    rfl

theorem trip_sum (𝒱 : Variants) (c : Dev nD) (bd : Option 𝒱.V) (i : grid0.Coords) (arg2 : Memref sig .tc .vmem S1x256x1024 .bf16) (harg2 : arg2.IsWhole) (arg3 : Memref sig .tc .vmem S1x4096x1024 .bf16) (harg3 : arg3.IsWhole) (arg4 : Memref sig .tc .vmem S1x4096x512 .bf16) (harg4 : arg4.IsWhole) (arg5 : Memref sig .tc .vmem S1x256x512 .bf16) (harg5 : arg5.IsWhole)
    (arg6 : Memref sig .tc .vmem S8x256x128 .f32) (harg6 : arg6.IsWhole) (arg7 : Memref sig .tc .vmem S8x256x128 .f32) (harg7 : arg7.IsWhole) (arg8 : Memref sig .tc .vmem S4x256x128 .f32) (harg8 : arg8.IsWhole)
    (arg1 : BitVec 32) (v3 v4 : IVec S256x256 32) (v33 : BitVec 32) (X2 : BufTy.Contents (Elt F) arg2.view.ty)
    (X3 : BufTy.Contents (Elt F) arg3.view.ty) (X4 : BufTy.Contents (Elt F) arg4.view.ty) (k : Fin (k0_t1_loop i).trips)
    (f6 : BufTy.Contents (Elt F) arg6.view.ty) (f7 : BufTy.Contents (Elt F) arg7.view.ty) (f8 : BufTy.Contents (Elt F) arg8.view.ty) :
    arg7.view.read (Elt F) (arg7.view.writes (Elt F) f7 ((trip_k0_t1 𝒱 c bd i arg2 harg2 arg3 harg3 arg4 harg4 arg5 harg5 arg6 harg6 arg7 harg7 arg8 harg8 arg1 k0_pay369 v3 v4 v33 X2 X3 X4 k).2.1 f6 f7 f8))
      = stack fun h => lift (sum5 (k0_pay3 (qB (arg2.view.read (Elt F) X2) h) (kB5 (arg3.view.read (Elt F) X3) (512 * k.val) h)) (slab (arg6.view.read (Elt F) f6) h) (slab (arg7.view.read (Elt F) f7) h)) := by
  unfold trip_k0_t1
  dsimp only
  rw [read_writes_slab, read_writes_slab, read_writes_slab, read_writes_slab, read_writes_slab, read_writes_slab, read_writes_slab, read_writes_slab,
    View.writes_nil]
  refine stack8 _ _ ?_ ?_ ?_ ?_ ?_ ?_ ?_ ?_
  · rw [← load_q (n := 0) 0 rfl (inq 0), ← load_k5 _ 0 (off1 i k) (facts.k0_off1_inb i k),
      ← readAt_slab' 0 (ins8 0) (v := arg6.view), ← readAt_slab' 0 (ins8 0) (v := arg7.view)]
    rfl
  · rw [← load_q (n := 128) 1 rfl (inq 1), ← load_k5 _ 1 (off3 i k) (facts.k0_off3_inb i k),
      ← readAt_slab' 1 (ins8 1) (v := arg6.view), ← readAt_slab' 1 (ins8 1) (v := arg7.view)]
    rfl
  · rw [← load_q (n := 256) 2 rfl (inq 2), ← load_k5 _ 2 (off4 i k) (facts.k0_off4_inb i k),
      ← readAt_slab' 2 (ins8 2) (v := arg6.view), ← readAt_slab' 2 (ins8 2) (v := arg7.view)]
    rfl
  · rw [← load_q (n := 384) 3 rfl (inq 3), ← load_k5 _ 3 (off6 i k) (facts.k0_off6_inb i k),
      ← readAt_slab' 3 (ins8 3) (v := arg6.view), ← readAt_slab' 3 (ins8 3) (v := arg7.view)]
    rfl
  · rw [← load_q (n := 512) 4 rfl (inq 4), ← load_k5 _ 4 (off7 i k) (facts.k0_off7_inb i k),
      ← readAt_slab' 4 (ins8 4) (v := arg6.view), ← readAt_slab' 4 (ins8 4) (v := arg7.view)]
    rfl
  · rw [← load_q (n := 640) 5 rfl (inq 5), ← load_k5 _ 5 (off9 i k) (facts.k0_off9_inb i k),
      ← readAt_slab' 5 (ins8 5) (v := arg6.view), ← readAt_slab' 5 (ins8 5) (v := arg7.view)]
    rfl
  · rw [← load_q (n := 768) 6 rfl (inq 6), ← load_k5 _ 6 (off10 i k) (facts.k0_off10_inb i k),
      ← readAt_slab' 6 (ins8 6) (v := arg6.view), ← readAt_slab' 6 (ins8 6) (v := arg7.view)]
    rfl
  · rw [← load_q (n := 896) 7 rfl (inq 7), ← load_k5 _ 7 (off12 i k) (facts.k0_off12_inb i k),
      ← readAt_slab' 7 (ins8 7) (v := arg6.view), ← readAt_slab' 7 (ins8 7) (v := arg7.view)]
    rfl

theorem trip_acc (𝒱 : Variants) (c : Dev nD) (bd : Option 𝒱.V) (i : grid0.Coords) (arg2 : Memref sig .tc .vmem S1x256x1024 .bf16) (harg2 : arg2.IsWhole) (arg3 : Memref sig .tc .vmem S1x4096x1024 .bf16) (harg3 : arg3.IsWhole) (arg4 : Memref sig .tc .vmem S1x4096x512 .bf16) (harg4 : arg4.IsWhole) (arg5 : Memref sig .tc .vmem S1x256x512 .bf16) (harg5 : arg5.IsWhole)
    (arg6 : Memref sig .tc .vmem S8x256x128 .f32) (harg6 : arg6.IsWhole) (arg7 : Memref sig .tc .vmem S8x256x128 .f32) (harg7 : arg7.IsWhole) (arg8 : Memref sig .tc .vmem S4x256x128 .f32) (harg8 : arg8.IsWhole)
    (arg1 : BitVec 32) (v3 v4 : IVec S256x256 32) (v33 : BitVec 32) (X2 : BufTy.Contents (Elt F) arg2.view.ty)
    (X3 : BufTy.Contents (Elt F) arg3.view.ty) (X4 : BufTy.Contents (Elt F) arg4.view.ty) (k : Fin (k0_t1_loop i).trips)
    (f6 : BufTy.Contents (Elt F) arg6.view.ty) (f7 : BufTy.Contents (Elt F) arg7.view.ty) (f8 : BufTy.Contents (Elt F) arg8.view.ty) :
    arg8.view.read (Elt F) (arg8.view.writes (Elt F) f8 ((trip_k0_t1 𝒱 c bd i arg2 harg2 arg3 harg3 arg4 harg4 arg5 harg5 arg6 harg6 arg7 harg7 arg8 harg8 arg1 k0_pay369 v3 v4 v33 X2 X3 X4 k).2.2.1 f6 f7 f8))
      = stack fun p => mix (alpha5 (k0_pay3 (qB (arg2.view.read (Elt F) X2) (evenH p)) (kB5 (arg3.view.read (Elt F) X3) (512 * k.val) (evenH p))) (slab (arg6.view.read (Elt F) f6) (evenH p))) (pv5 (k0_pay3 (qB (arg2.view.read (Elt F) X2) (evenH p)) (kB5 (arg3.view.read (Elt F) X3) (512 * k.val) (evenH p))) (slab (arg6.view.read (Elt F) f6) (evenH p)) (vB5 (arg4.view.read (Elt F) X4) (512 * k.val) p))
          (alpha5 (k0_pay3 (qB (arg2.view.read (Elt F) X2) (oddH p)) (kB5 (arg3.view.read (Elt F) X3) (512 * k.val) (oddH p))) (slab (arg6.view.read (Elt F) f6) (oddH p))) (pv5 (k0_pay3 (qB (arg2.view.read (Elt F) X2) (oddH p)) (kB5 (arg3.view.read (Elt F) X3) (512 * k.val) (oddH p))) (slab (arg6.view.read (Elt F) f6) (oddH p)) (vB5 (arg4.view.read (Elt F) X4) (512 * k.val) p))
          (slab (arg8.view.read (Elt F) f8) p) := by
  unfold trip_k0_t1
  dsimp only
  rw [read_writes_slab, read_writes_slab, read_writes_slab, read_writes_slab, View.writes_nil]
  refine stack4 _ _ ?_ ?_ ?_ ?_
  · simp only [evenH_0, oddH_0]
    rw [← load_q (n := 0) 0 rfl (inq 0), ← load_k5 _ 0 (off1 i k) (facts.k0_off1_inb i k), ← load_v5 _ 0 (off2 i k) (facts.k0_off2_inb i k),
      ← readAt_slab' 0 (ins8 0) (v := arg6.view), ← load_q (n := 128) 1 rfl (inq 1),
      ← load_k5 _ 1 (off3 i k) (facts.k0_off3_inb i k), ← readAt_slab' 1 (ins8 1) (v := arg6.view), ← readAt_slab' 0 (ins4 0) (v := arg8.view)]
    rfl
  · simp only [evenH_1, oddH_1]
    rw [← load_q (n := 256) 2 rfl (inq 2), ← load_k5 _ 2 (off4 i k) (facts.k0_off4_inb i k), ← load_v5 _ 1 (off5 i k) (facts.k0_off5_inb i k),
      ← readAt_slab' 2 (ins8 2) (v := arg6.view), ← load_q (n := 384) 3 rfl (inq 3),
      ← load_k5 _ 3 (off6 i k) (facts.k0_off6_inb i k), ← readAt_slab' 3 (ins8 3) (v := arg6.view), ← readAt_slab' 1 (ins4 1) (v := arg8.view)]
    rfl
  · simp only [evenH_2, oddH_2]
    rw [← load_q (n := 512) 4 rfl (inq 4), ← load_k5 _ 4 (off7 i k) (facts.k0_off7_inb i k), ← load_v5 _ 2 (off8 i k) (facts.k0_off8_inb i k),
      ← readAt_slab' 4 (ins8 4) (v := arg6.view), ← load_q (n := 640) 5 rfl (inq 5),
      ← load_k5 _ 5 (off9 i k) (facts.k0_off9_inb i k), ← readAt_slab' 5 (ins8 5) (v := arg6.view), ← readAt_slab' 2 (ins4 2) (v := arg8.view)]
    rfl
  · simp only [evenH_3, oddH_3]
    rw [← load_q (n := 768) 6 rfl (inq 6), ← load_k5 _ 6 (off10 i k) (facts.k0_off10_inb i k), ← load_v5 _ 3 (off11 i k) (facts.k0_off11_inb i k),
      ← readAt_slab' 6 (ins8 6) (v := arg6.view), ← load_q (n := 896) 7 rfl (inq 7),
      ← load_k5 _ 7 (off12 i k) (facts.k0_off12_inb i k), ← readAt_slab' 7 (ins8 7) (v := arg6.view), ← readAt_slab' 3 (ins4 3) (v := arg8.view)]
    rfl

end Cert.KernelIdeal.Hand
-- ==== Proof.Common.lean ====
module

public import proofs.«01_k».proof.Proof.Trip

@[expose] public section

/-! What the two kinds of blocks of queries share: the scores of 256 keys, skipping a write to another slab, the
    output block out of its four column blocks. -/

set_option maxRecDepth 16384

noncomputable section

namespace Cert.KernelIdeal.Hand

open Cert.KernelIdeal Cert.KernelIdeal.Gen Idealize.ShloMosaic Idealize.ShloMosaic.TcCoe Idealize.ShloMosaic.Tactic

variable {F : FTy → Type} [FloatOps F] [Named F]

/-- The scaled scores of 256 queries with 256 keys, -/
def scU (q k : Vec F S1x256x128 .bf16) : FVec F S256x256 .f32 := k0_pay269 q k

/-- and with every key after its query masked. -/
def scC (q k : Vec F S1x256x128 .bf16) : FVec F S256x256 .f32 :=
  k0_pay380 (iota .tc S256x256 32 [0] iota_S256x256_d0_w32) (iota .tc S256x256 32 [1] iota_S256x256_d1_w32) q k

theorem off25' : ∀ i : grid0.Coords, cond0_0 i → k0_off25 i = ![0, 256 * ((i 1).val - 1), 0] := by decide +kernel
theorem off26' : ∀ i : grid0.Coords, cond0_0 i → k0_off26 i = ![0, 256 * ((i 1).val - 1), 0] := by decide +kernel
theorem off27' : ∀ i : grid0.Coords, cond0_0 i → k0_off27 i = ![0, 256 * ((i 1).val - 1), 128] := by decide +kernel
theorem off28' : ∀ i : grid0.Coords, cond0_0 i → k0_off28 i = ![0, 256 * ((i 1).val - 1), 256] := by decide +kernel
theorem off29' : ∀ i : grid0.Coords, cond0_0 i → k0_off29 i = ![0, 256 * ((i 1).val - 1), 128] := by decide +kernel
theorem off30' : ∀ i : grid0.Coords, cond0_0 i → k0_off30 i = ![0, 256 * ((i 1).val - 1), 384] := by decide +kernel
theorem off31' : ∀ i : grid0.Coords, cond0_0 i → k0_off31 i = ![0, 256 * ((i 1).val - 1), 512] := by decide +kernel
theorem off32' : ∀ i : grid0.Coords, cond0_0 i → k0_off32 i = ![0, 256 * ((i 1).val - 1), 256] := by decide +kernel
theorem off33' : ∀ i : grid0.Coords, cond0_0 i → k0_off33 i = ![0, 256 * ((i 1).val - 1), 640] := by decide +kernel
theorem off34' : ∀ i : grid0.Coords, cond0_0 i → k0_off34 i = ![0, 256 * ((i 1).val - 1), 768] := by decide +kernel
theorem off35' : ∀ i : grid0.Coords, cond0_0 i → k0_off35 i = ![0, 256 * ((i 1).val - 1), 384] := by decide +kernel
theorem off36' : ∀ i : grid0.Coords, cond0_0 i → k0_off36 i = ![0, 256 * ((i 1).val - 1), 896] := by decide +kernel

section generic
variable {Val : EltTy → Type} {sg : RefSig} {κ' : Kind} {e : EltTy}

theorem load_q' {sp : Space} {M : Memref sg κ' sp S1x256x1024 e} (hM : M.IsWhole) {X : S1x256x1024.Idx → Val e} {n : Nat} (h : Fin 8)
    (hn : n = 128 * h.val) (inb : ∀ i, (![0, 0, n] : Fin 3 → Nat) i + S1x256x128.size i ≤ S1x256x1024.size i) :
    View.readAt Val M.view (Rect.unit (s := S1x256x1024) ![0, 0, n] S1x256x128.size inb).toLoadRect (hM.unread X) = qB X h := by
  rw [load_q h hn, hM.read_unread]

theorem load_k2' {sp : Space} {M : Memref sg κ' sp S1x4096x1024 e} (hM : M.IsWhole) {X : S1x4096x1024.Idx → Val e} {o : Fin 3 → Nat}
    (n : Nat) (h : Fin 8) (ho : o = ![0, n, 128 * h.val]) (inb : ∀ i, o i + S1x256x128.size i ≤ S1x4096x1024.size i) :
    View.readAt Val M.view (Rect.unit (s := S1x4096x1024) o S1x256x128.size inb).toLoadRect (hM.unread X) = kB2 X n h := by
  rw [load_k2 n h ho, hM.read_unread]

theorem load_v2' {sp : Space} {M : Memref sg κ' sp S1x4096x512 e} (hM : M.IsWhole) {X : S1x4096x512.Idx → Val e} {o : Fin 3 → Nat}
    (n : Nat) (p : Fin 4) (ho : o = ![0, n, 128 * p.val]) (inb : ∀ i, o i + S1x256x128.size i ≤ S1x4096x512.size i) :
    View.readAt Val M.view (Rect.unit (s := S1x4096x512) o S1x256x128.size inb).toLoadRect (hM.unread X) = vB2 X n p := by
  rw [load_v2 n p ho, hM.read_unread]

variable {G : Nat} [∀ e, Nonempty (Val e)]

theorem slab_skip {n : Nat} {inb : ∀ i, (![n, 0, 0] : Fin 3 → Nat) i + S1x256x128.size i ≤ (Stk G).size i}
    {w : S1x256x128.Idx → Val e} (L : List (View.Piece Val (Stk G) e)) {h : Fin G} (hn : h.val ≠ n) :
    slab (View.canon (⟨Rect.unit (s := Stk G) ![n, 0, 0] S1x256x128.size inb, w⟩ :: L)) h = slab (View.canon L) h := by
  rw [canon_slab]
  exact slab_setSlab_ne _ _ fun e => hn (congrArg Fin.val e)

/-- A 256 by 512 block out of four blocks of 128 columns. -/
def quad {α : Type} (W : Fin 4 → S1x256x128.Idx → α) : S1x256x512.Idx → α :=
  fun y => W ⟨(y 2).val / 128, by have h : (y 2).val < 512 := (y 2).isLt; omega⟩
    (ix3 (0 : Fin 1) (y 1) ⟨(y 2).val % 128, Nat.mod_lt _ (by decide)⟩)

theorem col_piece {n : Nat} (p : Fin 4) (hn : n = 128 * p.val)
    (inb : ∀ i, (![0, 0, n] : Fin 3 → Nat) i + S1x256x128.size i ≤ S1x256x512.size i)
    (w : S1x256x128.Idx → Val e) (L : List (View.Piece Val S1x256x512 e)) (y : S1x256x512.Idx) :
    View.canon (⟨Rect.unit (s := S1x256x512) ![0, 0, n] S1x256x128.size inb, w⟩ :: L) y
      = if (y 2).val / 128 = p.val then w (ix3 (0 : Fin 1) (y 1) ⟨(y 2).val % 128, Nat.mod_lt _ (by decide)⟩)
        else View.canon L y := by
  subst hn
  have h2 : (y 2).val < 512 := (y 2).isLt
  by_cases h : (y 2).val / 128 = p.val
  · rw [if_pos h]
    have e := View.canon_cons_emb (Rect.unit (s := S1x256x512) ![0, 0, 128 * p.val] S1x256x128.size inb) w L
      (ix3 (0 : Fin 1) (y 1) ⟨(y 2).val % 128, Nat.mod_lt _ (by decide)⟩)
    have hy : (Rect.unit (s := S1x256x512) ![0, 0, 128 * p.val] S1x256x128.size inb).emb
        (ix3 (0 : Fin 1) (y 1) ⟨(y 2).val % 128, Nat.mod_lt _ (by decide)⟩) = y := by
      funext a
      apply Fin.ext
      match a with
      | ⟨0, _⟩ => have h0 : (y 0).val < 1 := (y 0).isLt; change 0 + 1 * 0 = (y 0).val; omega
      | ⟨1, _⟩ => change 0 + 1 * (y 1).val = (y 1).val; omega
      | ⟨2, _⟩ => change 128 * p.val + 1 * ((y 2).val % 128) = (y 2).val; omega
    rw [hy] at e
    exact e
  · rw [if_neg h]
    refine View.canon_cons_of_not_mem _ L fun hm => h ?_
    have := (Rect.mem_set_unit (inb := inb)).1 hm 2
    have h3 : 128 * p.val ≤ (y 2).val ∧ (y 2).val < 128 * p.val + 128 := this
    omega

theorem quad4 (W : Fin 4 → S1x256x128.Idx → Val e) {w0 w1 w2 w3 : S1x256x128.Idx → Val e}
    {i0 : ∀ i, (![0, 0, 0] : Fin 3 → Nat) i + S1x256x128.size i ≤ S1x256x512.size i}
    {i1 : ∀ i, (![0, 0, 128] : Fin 3 → Nat) i + S1x256x128.size i ≤ S1x256x512.size i}
    {i2 : ∀ i, (![0, 0, 256] : Fin 3 → Nat) i + S1x256x128.size i ≤ S1x256x512.size i}
    {i3 : ∀ i, (![0, 0, 384] : Fin 3 → Nat) i + S1x256x128.size i ≤ S1x256x512.size i}
    (h0 : w0 = W 0) (h1 : w1 = W 1) (h2 : w2 = W 2) (h3 : w3 = W 3) :
    View.canon (Val := Val) (s := S1x256x512) (e := e)
      [⟨Rect.unit (s := S1x256x512) ![0, 0, 384] S1x256x128.size i3, w3⟩, ⟨Rect.unit (s := S1x256x512) ![0, 0, 256] S1x256x128.size i2, w2⟩,
        ⟨Rect.unit (s := S1x256x512) ![0, 0, 128] S1x256x128.size i1, w1⟩, ⟨Rect.unit (s := S1x256x512) ![0, 0, 0] S1x256x128.size i0, w0⟩]
      = quad W := by
  subst h0 h1 h2 h3
  funext y
  rw [col_piece (n := 384) 3 rfl, col_piece (n := 256) 2 rfl, col_piece (n := 128) 1 rfl, col_piece (n := 0) 0 rfl]
  have h2 : (y 2).val < 512 := (y 2).isLt
  unfold quad
  have key : ∀ a : Fin 4, ∀ u : S1x256x128.Idx, ∀ z : Val e, (if a.val = (3 : Fin 4).val then W 3 u else if a.val = (2 : Fin 4).val then W 2 u
      else if a.val = (1 : Fin 4).val then W 1 u else if a.val = (0 : Fin 4).val then W 0 u else z) = W a u := by
    intro a u z
    match a with
    | 0 => rfl
    | 1 => rfl
    | 2 => rfl
    | 3 => rfl
  exact key ⟨(y 2).val / 128, by omega⟩ _ _

end generic

end Cert.KernelIdeal.Hand
-- ==== Proof.CaseA.lean ====
module

public import proofs.«01_k».proof.Proof.Common

@[expose] public section

/-! The body at an even block of queries: the loop, then the block on the diagonal. -/

set_option maxRecDepth 16384

noncomputable section

namespace Cert.KernelIdeal.Hand.CaseA

open Cert.KernelIdeal Cert.KernelIdeal.Gen Idealize.ShloMosaic Idealize.ShloMosaic.TcCoe Idealize.ShloMosaic.Tactic

variable {F : FTy → Type} [FloatOps F] [Named F]
variable (c : Dev nD) (i : grid0.Coords) (arg2 : Memref sig .tc .vmem S1x256x1024 .bf16) (harg2 : arg2.IsWhole)
  (arg3 : Memref sig .tc .vmem S1x4096x1024 .bf16) (harg3 : arg3.IsWhole) (arg4 : Memref sig .tc .vmem S1x4096x512 .bf16)
  (harg4 : arg4.IsWhole) (arg5 : Memref sig .tc .vmem S1x256x512 .bf16) (harg5 : arg5.IsWhole)
  (arg6 : Memref sig .tc .vmem S8x256x128 .f32) (harg6 : arg6.IsWhole) (arg7 : Memref sig .tc .vmem S8x256x128 .f32)
  (harg7 : arg7.IsWhole) (arg8 : Memref sig .tc .vmem S4x256x128 .f32) (harg8 : arg8.IsWhole) (hc0 : ¬cond0_0 i)
  (x0 : Vec F S1x256x1024 .bf16) (x1 : Vec F S1x4096x1024 .bf16) (x2 : Vec F S1x4096x512 .bf16)

/-- What the loop's writes leave in scratch array 6, before the steps after the loop. -/
def base6 := (kernelRun0_A.sl.HS0_1_1 c i arg2 harg2 arg3 harg3 arg4 harg4 arg5 harg5 arg6 harg6 arg7 harg7 arg8 harg8 x0 x1 x2).tail

/-- What the loop's writes leave in scratch array 7, before the steps after the loop. -/
def base7 := (kernelRun0_A.sl.HS1_1_1 c i arg2 harg2 arg3 harg3 arg4 harg4 arg5 harg5 arg6 harg6 arg7 harg7 arg8 harg8 x0 x1 x2).tail

/-- What the loop's writes leave in scratch array 8, before the steps after the loop. -/
def base8 := (kernelRun0_A.sl.HS2_1_1 c i arg2 harg2 arg3 harg3 arg4 harg4 arg5 harg5 arg6 harg6 arg7 harg7 arg8 harg8 x0 x1 x2).tail

theorem ldD0_0 : slab (View.canon (base6 c i arg2 harg2 arg3 harg3 arg4 harg4 arg5 harg5 arg6 harg6 arg7 harg7 arg8 harg8 x0 x1 x2)) 0
    = arg6.view.readCov (base6 c i arg2 harg2 arg3 harg3 arg4 harg4 arg5 harg5 arg6 harg6 arg7 harg7 arg8 harg8 x0 x1 x2) (Rect.unit (s := Stk 8) ![0, 0, 0] S1x256x128.size (ins8 0)).toLoadRect := by
  rw [readCov_slab]
  rfl

theorem ldD0_1 : slab (View.canon (base6 c i arg2 harg2 arg3 harg3 arg4 harg4 arg5 harg5 arg6 harg6 arg7 harg7 arg8 harg8 x0 x1 x2)) 1
    = arg6.view.readCov (kernelRun0_A.sl.HS0_1_1 c i arg2 harg2 arg3 harg3 arg4 harg4 arg5 harg5 arg6 harg6 arg7 harg7 arg8 harg8 x0 x1 x2) (Rect.unit (s := Stk 8) ![1, 0, 0] S1x256x128.size (ins8 1)).toLoadRect := by
  rw [readCov_slab]
  unfold kernelRun0_A.sl.HS0_1_1
  rw [slab_skip _ (by decide)]
  rfl

theorem ldD0_2 : slab (View.canon (base6 c i arg2 harg2 arg3 harg3 arg4 harg4 arg5 harg5 arg6 harg6 arg7 harg7 arg8 harg8 x0 x1 x2)) 2
    = arg6.view.readCov (kernelRun0_A.sl.HS0_2 c i arg2 harg2 arg3 harg3 arg4 harg4 arg5 harg5 arg6 harg6 arg7 harg7 arg8 harg8 x0 x1 x2) (Rect.unit (s := Stk 8) ![2, 0, 0] S1x256x128.size (ins8 2)).toLoadRect := by
  rw [readCov_slab]
  unfold kernelRun0_A.sl.HS0_2
  rw [slab_skip _ (by decide)]
  unfold kernelRun0_A.sl.HS0_1_1
  rw [slab_skip _ (by decide)]
  rfl

theorem ldD0_3 : slab (View.canon (base6 c i arg2 harg2 arg3 harg3 arg4 harg4 arg5 harg5 arg6 harg6 arg7 harg7 arg8 harg8 x0 x1 x2)) 3
    = arg6.view.readCov (kernelRun0_A.sl.HS0_3 c i arg2 harg2 arg3 harg3 arg4 harg4 arg5 harg5 arg6 harg6 arg7 harg7 arg8 harg8 x0 x1 x2) (Rect.unit (s := Stk 8) ![3, 0, 0] S1x256x128.size (ins8 3)).toLoadRect := by
  rw [readCov_slab]
  unfold kernelRun0_A.sl.HS0_3
  rw [slab_skip _ (by decide)]
  unfold kernelRun0_A.sl.HS0_2
  rw [slab_skip _ (by decide)]
  unfold kernelRun0_A.sl.HS0_1_1
  rw [slab_skip _ (by decide)]
  rfl

theorem ldD0_4 : slab (View.canon (base6 c i arg2 harg2 arg3 harg3 arg4 harg4 arg5 harg5 arg6 harg6 arg7 harg7 arg8 harg8 x0 x1 x2)) 4
    = arg6.view.readCov (kernelRun0_A.sl.HS0_4 c i arg2 harg2 arg3 harg3 arg4 harg4 arg5 harg5 arg6 harg6 arg7 harg7 arg8 harg8 x0 x1 x2) (Rect.unit (s := Stk 8) ![4, 0, 0] S1x256x128.size (ins8 4)).toLoadRect := by
  rw [readCov_slab]
  unfold kernelRun0_A.sl.HS0_4
  rw [slab_skip _ (by decide)]
  unfold kernelRun0_A.sl.HS0_3
  rw [slab_skip _ (by decide)]
  unfold kernelRun0_A.sl.HS0_2
  rw [slab_skip _ (by decide)]
  unfold kernelRun0_A.sl.HS0_1_1
  rw [slab_skip _ (by decide)]
  rfl

theorem ldD0_5 : slab (View.canon (base6 c i arg2 harg2 arg3 harg3 arg4 harg4 arg5 harg5 arg6 harg6 arg7 harg7 arg8 harg8 x0 x1 x2)) 5
    = arg6.view.readCov (kernelRun0_A.sl.HS0_5 c i arg2 harg2 arg3 harg3 arg4 harg4 arg5 harg5 arg6 harg6 arg7 harg7 arg8 harg8 x0 x1 x2) (Rect.unit (s := Stk 8) ![5, 0, 0] S1x256x128.size (ins8 5)).toLoadRect := by
  rw [readCov_slab]
  unfold kernelRun0_A.sl.HS0_5
  rw [slab_skip _ (by decide)]
  unfold kernelRun0_A.sl.HS0_4
  rw [slab_skip _ (by decide)]
  unfold kernelRun0_A.sl.HS0_3
  rw [slab_skip _ (by decide)]
  unfold kernelRun0_A.sl.HS0_2
  rw [slab_skip _ (by decide)]
  unfold kernelRun0_A.sl.HS0_1_1
  rw [slab_skip _ (by decide)]
  rfl

theorem ldD0_6 : slab (View.canon (base6 c i arg2 harg2 arg3 harg3 arg4 harg4 arg5 harg5 arg6 harg6 arg7 harg7 arg8 harg8 x0 x1 x2)) 6
    = arg6.view.readCov (kernelRun0_A.sl.HS0_6 c i arg2 harg2 arg3 harg3 arg4 harg4 arg5 harg5 arg6 harg6 arg7 harg7 arg8 harg8 x0 x1 x2) (Rect.unit (s := Stk 8) ![6, 0, 0] S1x256x128.size (ins8 6)).toLoadRect := by
  rw [readCov_slab]
  unfold kernelRun0_A.sl.HS0_6
  rw [slab_skip _ (by decide)]
  unfold kernelRun0_A.sl.HS0_5
  rw [slab_skip _ (by decide)]
  unfold kernelRun0_A.sl.HS0_4
  rw [slab_skip _ (by decide)]
  unfold kernelRun0_A.sl.HS0_3
  rw [slab_skip _ (by decide)]
  unfold kernelRun0_A.sl.HS0_2
  rw [slab_skip _ (by decide)]
  unfold kernelRun0_A.sl.HS0_1_1
  rw [slab_skip _ (by decide)]
  rfl

theorem ldD0_7 : slab (View.canon (base6 c i arg2 harg2 arg3 harg3 arg4 harg4 arg5 harg5 arg6 harg6 arg7 harg7 arg8 harg8 x0 x1 x2)) 7
    = arg6.view.readCov (kernelRun0_A.sl.HS0_7 c i arg2 harg2 arg3 harg3 arg4 harg4 arg5 harg5 arg6 harg6 arg7 harg7 arg8 harg8 x0 x1 x2) (Rect.unit (s := Stk 8) ![7, 0, 0] S1x256x128.size (ins8 7)).toLoadRect := by
  rw [readCov_slab]
  unfold kernelRun0_A.sl.HS0_7
  rw [slab_skip _ (by decide)]
  unfold kernelRun0_A.sl.HS0_6
  rw [slab_skip _ (by decide)]
  unfold kernelRun0_A.sl.HS0_5
  rw [slab_skip _ (by decide)]
  unfold kernelRun0_A.sl.HS0_4
  rw [slab_skip _ (by decide)]
  unfold kernelRun0_A.sl.HS0_3
  rw [slab_skip _ (by decide)]
  unfold kernelRun0_A.sl.HS0_2
  rw [slab_skip _ (by decide)]
  unfold kernelRun0_A.sl.HS0_1_1
  rw [slab_skip _ (by decide)]
  rfl

theorem ldD1_0 : slab (View.canon (base7 c i arg2 harg2 arg3 harg3 arg4 harg4 arg5 harg5 arg6 harg6 arg7 harg7 arg8 harg8 x0 x1 x2)) 0
    = arg7.view.readCov (base7 c i arg2 harg2 arg3 harg3 arg4 harg4 arg5 harg5 arg6 harg6 arg7 harg7 arg8 harg8 x0 x1 x2) (Rect.unit (s := Stk 8) ![0, 0, 0] S1x256x128.size (ins8 0)).toLoadRect := by
  rw [readCov_slab]
  rfl

theorem ldD1_1 : slab (View.canon (base7 c i arg2 harg2 arg3 harg3 arg4 harg4 arg5 harg5 arg6 harg6 arg7 harg7 arg8 harg8 x0 x1 x2)) 1
    = arg7.view.readCov (kernelRun0_A.sl.HS1_1_1 c i arg2 harg2 arg3 harg3 arg4 harg4 arg5 harg5 arg6 harg6 arg7 harg7 arg8 harg8 x0 x1 x2) (Rect.unit (s := Stk 8) ![1, 0, 0] S1x256x128.size (ins8 1)).toLoadRect := by
  rw [readCov_slab]
  unfold kernelRun0_A.sl.HS1_1_1
  rw [slab_skip _ (by decide)]
  rfl

theorem ldD1_2 : slab (View.canon (base7 c i arg2 harg2 arg3 harg3 arg4 harg4 arg5 harg5 arg6 harg6 arg7 harg7 arg8 harg8 x0 x1 x2)) 2
    = arg7.view.readCov (kernelRun0_A.sl.HS1_2 c i arg2 harg2 arg3 harg3 arg4 harg4 arg5 harg5 arg6 harg6 arg7 harg7 arg8 harg8 x0 x1 x2) (Rect.unit (s := Stk 8) ![2, 0, 0] S1x256x128.size (ins8 2)).toLoadRect := by
  rw [readCov_slab]
  unfold kernelRun0_A.sl.HS1_2
  rw [slab_skip _ (by decide)]
  unfold kernelRun0_A.sl.HS1_1_1
  rw [slab_skip _ (by decide)]
  rfl

theorem ldD1_3 : slab (View.canon (base7 c i arg2 harg2 arg3 harg3 arg4 harg4 arg5 harg5 arg6 harg6 arg7 harg7 arg8 harg8 x0 x1 x2)) 3
    = arg7.view.readCov (kernelRun0_A.sl.HS1_3 c i arg2 harg2 arg3 harg3 arg4 harg4 arg5 harg5 arg6 harg6 arg7 harg7 arg8 harg8 x0 x1 x2) (Rect.unit (s := Stk 8) ![3, 0, 0] S1x256x128.size (ins8 3)).toLoadRect := by
  rw [readCov_slab]
  unfold kernelRun0_A.sl.HS1_3
  rw [slab_skip _ (by decide)]
  unfold kernelRun0_A.sl.HS1_2
  rw [slab_skip _ (by decide)]
  unfold kernelRun0_A.sl.HS1_1_1
  rw [slab_skip _ (by decide)]
  rfl

theorem ldD1_4 : slab (View.canon (base7 c i arg2 harg2 arg3 harg3 arg4 harg4 arg5 harg5 arg6 harg6 arg7 harg7 arg8 harg8 x0 x1 x2)) 4
    = arg7.view.readCov (kernelRun0_A.sl.HS1_4 c i arg2 harg2 arg3 harg3 arg4 harg4 arg5 harg5 arg6 harg6 arg7 harg7 arg8 harg8 x0 x1 x2) (Rect.unit (s := Stk 8) ![4, 0, 0] S1x256x128.size (ins8 4)).toLoadRect := by
  rw [readCov_slab]
  unfold kernelRun0_A.sl.HS1_4
  rw [slab_skip _ (by decide)]
  unfold kernelRun0_A.sl.HS1_3
  rw [slab_skip _ (by decide)]
  unfold kernelRun0_A.sl.HS1_2
  rw [slab_skip _ (by decide)]
  unfold kernelRun0_A.sl.HS1_1_1
  rw [slab_skip _ (by decide)]
  rfl

theorem ldD1_5 : slab (View.canon (base7 c i arg2 harg2 arg3 harg3 arg4 harg4 arg5 harg5 arg6 harg6 arg7 harg7 arg8 harg8 x0 x1 x2)) 5
    = arg7.view.readCov (kernelRun0_A.sl.HS1_5 c i arg2 harg2 arg3 harg3 arg4 harg4 arg5 harg5 arg6 harg6 arg7 harg7 arg8 harg8 x0 x1 x2) (Rect.unit (s := Stk 8) ![5, 0, 0] S1x256x128.size (ins8 5)).toLoadRect := by
  rw [readCov_slab]
  unfold kernelRun0_A.sl.HS1_5
  rw [slab_skip _ (by decide)]
  unfold kernelRun0_A.sl.HS1_4
  rw [slab_skip _ (by decide)]
  unfold kernelRun0_A.sl.HS1_3
  rw [slab_skip _ (by decide)]
  unfold kernelRun0_A.sl.HS1_2
  rw [slab_skip _ (by decide)]
  unfold kernelRun0_A.sl.HS1_1_1
  rw [slab_skip _ (by decide)]
  rfl

theorem ldD1_6 : slab (View.canon (base7 c i arg2 harg2 arg3 harg3 arg4 harg4 arg5 harg5 arg6 harg6 arg7 harg7 arg8 harg8 x0 x1 x2)) 6
    = arg7.view.readCov (kernelRun0_A.sl.HS1_6 c i arg2 harg2 arg3 harg3 arg4 harg4 arg5 harg5 arg6 harg6 arg7 harg7 arg8 harg8 x0 x1 x2) (Rect.unit (s := Stk 8) ![6, 0, 0] S1x256x128.size (ins8 6)).toLoadRect := by
  rw [readCov_slab]
  unfold kernelRun0_A.sl.HS1_6
  rw [slab_skip _ (by decide)]
  unfold kernelRun0_A.sl.HS1_5
  rw [slab_skip _ (by decide)]
  unfold kernelRun0_A.sl.HS1_4
  rw [slab_skip _ (by decide)]
  unfold kernelRun0_A.sl.HS1_3
  rw [slab_skip _ (by decide)]
  unfold kernelRun0_A.sl.HS1_2
  rw [slab_skip _ (by decide)]
  unfold kernelRun0_A.sl.HS1_1_1
  rw [slab_skip _ (by decide)]
  rfl

theorem ldD1_7 : slab (View.canon (base7 c i arg2 harg2 arg3 harg3 arg4 harg4 arg5 harg5 arg6 harg6 arg7 harg7 arg8 harg8 x0 x1 x2)) 7
    = arg7.view.readCov (kernelRun0_A.sl.HS1_7 c i arg2 harg2 arg3 harg3 arg4 harg4 arg5 harg5 arg6 harg6 arg7 harg7 arg8 harg8 x0 x1 x2) (Rect.unit (s := Stk 8) ![7, 0, 0] S1x256x128.size (ins8 7)).toLoadRect := by
  rw [readCov_slab]
  unfold kernelRun0_A.sl.HS1_7
  rw [slab_skip _ (by decide)]
  unfold kernelRun0_A.sl.HS1_6
  rw [slab_skip _ (by decide)]
  unfold kernelRun0_A.sl.HS1_5
  rw [slab_skip _ (by decide)]
  unfold kernelRun0_A.sl.HS1_4
  rw [slab_skip _ (by decide)]
  unfold kernelRun0_A.sl.HS1_3
  rw [slab_skip _ (by decide)]
  unfold kernelRun0_A.sl.HS1_2
  rw [slab_skip _ (by decide)]
  unfold kernelRun0_A.sl.HS1_1_1
  rw [slab_skip _ (by decide)]
  rfl

theorem ldD2_0 : slab (View.canon (base8 c i arg2 harg2 arg3 harg3 arg4 harg4 arg5 harg5 arg6 harg6 arg7 harg7 arg8 harg8 x0 x1 x2)) 0
    = arg8.view.readCov (base8 c i arg2 harg2 arg3 harg3 arg4 harg4 arg5 harg5 arg6 harg6 arg7 harg7 arg8 harg8 x0 x1 x2) (Rect.unit (s := Stk 4) ![0, 0, 0] S1x256x128.size (ins4 0)).toLoadRect := by
  rw [readCov_slab]
  rfl

theorem ldD2_1 : slab (View.canon (base8 c i arg2 harg2 arg3 harg3 arg4 harg4 arg5 harg5 arg6 harg6 arg7 harg7 arg8 harg8 x0 x1 x2)) 1
    = arg8.view.readCov (kernelRun0_A.sl.HS2_1_1 c i arg2 harg2 arg3 harg3 arg4 harg4 arg5 harg5 arg6 harg6 arg7 harg7 arg8 harg8 x0 x1 x2) (Rect.unit (s := Stk 4) ![1, 0, 0] S1x256x128.size (ins4 1)).toLoadRect := by
  rw [readCov_slab]
  unfold kernelRun0_A.sl.HS2_1_1
  rw [slab_skip _ (by decide)]
  rfl

theorem ldD2_2 : slab (View.canon (base8 c i arg2 harg2 arg3 harg3 arg4 harg4 arg5 harg5 arg6 harg6 arg7 harg7 arg8 harg8 x0 x1 x2)) 2
    = arg8.view.readCov (kernelRun0_A.sl.HS2_2 c i arg2 harg2 arg3 harg3 arg4 harg4 arg5 harg5 arg6 harg6 arg7 harg7 arg8 harg8 x0 x1 x2) (Rect.unit (s := Stk 4) ![2, 0, 0] S1x256x128.size (ins4 2)).toLoadRect := by
  rw [readCov_slab]
  unfold kernelRun0_A.sl.HS2_2
  rw [slab_skip _ (by decide)]
  unfold kernelRun0_A.sl.HS2_1_1
  rw [slab_skip _ (by decide)]
  rfl

theorem ldD2_3 : slab (View.canon (base8 c i arg2 harg2 arg3 harg3 arg4 harg4 arg5 harg5 arg6 harg6 arg7 harg7 arg8 harg8 x0 x1 x2)) 3
    = arg8.view.readCov (kernelRun0_A.sl.HS2_3 c i arg2 harg2 arg3 harg3 arg4 harg4 arg5 harg5 arg6 harg6 arg7 harg7 arg8 harg8 x0 x1 x2) (Rect.unit (s := Stk 4) ![3, 0, 0] S1x256x128.size (ins4 3)).toLoadRect := by
  rw [readCov_slab]
  unfold kernelRun0_A.sl.HS2_3
  rw [slab_skip _ (by decide)]
  unfold kernelRun0_A.sl.HS2_2
  rw [slab_skip _ (by decide)]
  unfold kernelRun0_A.sl.HS2_1_1
  rw [slab_skip _ (by decide)]
  rfl

theorem sumD : View.canon (kernelRun0_A.sl.HS1_8 c i arg2 harg2 arg3 harg3 arg4 harg4 arg5 harg5 arg6 harg6 arg7 harg7 arg8 harg8 x0 x1 x2)
    = stack fun h => lift (sum2 (scC (qB x0 h) (kB2 x1 (256 * (i 1).val) h)) (slab (View.canon (base6 c i arg2 harg2 arg3 harg3 arg4 harg4 arg5 harg5 arg6 harg6 arg7 harg7 arg8 harg8 x0 x1 x2)) h) (slab (View.canon (base7 c i arg2 harg2 arg3 harg3 arg4 harg4 arg5 harg5 arg6 harg6 arg7 harg7 arg8 harg8 x0 x1 x2)) h)) := by
  unfold kernelRun0_A.sl.HS1_8
  rw [canon_slab]
  unfold kernelRun0_A.sl.HS1_7
  rw [canon_slab]
  unfold kernelRun0_A.sl.HS1_6
  rw [canon_slab]
  unfold kernelRun0_A.sl.HS1_5
  rw [canon_slab]
  unfold kernelRun0_A.sl.HS1_4
  rw [canon_slab]
  unfold kernelRun0_A.sl.HS1_3
  rw [canon_slab]
  unfold kernelRun0_A.sl.HS1_2
  rw [canon_slab]
  unfold kernelRun0_A.sl.HS1_1_1
  rw [canon_slab]
  refine stack8 _ _ ?_ ?_ ?_ ?_ ?_ ?_ ?_ ?_
  · rw [← load_q' harg2 (n := 0) 0 rfl (inq 0), ← load_k2' harg3 _ 0 (k0_off37_eq i) (facts.k0_off37_inb i), ldD0_0,
      ldD1_0]
    rfl
  · rw [← load_q' harg2 (n := 128) 1 rfl (inq 1), ← load_k2' harg3 _ 1 (k0_off39_eq i) (facts.k0_off39_inb i), ldD0_1,
      ldD1_1]
    rfl
  · rw [← load_q' harg2 (n := 256) 2 rfl (inq 2), ← load_k2' harg3 _ 2 (k0_off40_eq i) (facts.k0_off40_inb i), ldD0_2,
      ldD1_2]
    rfl
  · rw [← load_q' harg2 (n := 384) 3 rfl (inq 3), ← load_k2' harg3 _ 3 (k0_off42_eq i) (facts.k0_off42_inb i), ldD0_3,
      ldD1_3]
    rfl
  · rw [← load_q' harg2 (n := 512) 4 rfl (inq 4), ← load_k2' harg3 _ 4 (k0_off43_eq i) (facts.k0_off43_inb i), ldD0_4,
      ldD1_4]
    rfl
  · rw [← load_q' harg2 (n := 640) 5 rfl (inq 5), ← load_k2' harg3 _ 5 (k0_off45_eq i) (facts.k0_off45_inb i), ldD0_5,
      ldD1_5]
    rfl
  · rw [← load_q' harg2 (n := 768) 6 rfl (inq 6), ← load_k2' harg3 _ 6 (k0_off46_eq i) (facts.k0_off46_inb i), ldD0_6,
      ldD1_6]
    rfl
  · rw [← load_q' harg2 (n := 896) 7 rfl (inq 7), ← load_k2' harg3 _ 7 (k0_off48_eq i) (facts.k0_off48_inb i), ldD0_7,
      ldD1_7]
    rfl

theorem accD : View.canon (kernelRun0_A.sl.HS2_4 c i arg2 harg2 arg3 harg3 arg4 harg4 arg5 harg5 arg6 harg6 arg7 harg7 arg8 harg8 x0 x1 x2)
    = stack fun p => mix (alpha2 (scC (qB x0 (evenH p)) (kB2 x1 (256 * (i 1).val) (evenH p))) (slab (View.canon (base6 c i arg2 harg2 arg3 harg3 arg4 harg4 arg5 harg5 arg6 harg6 arg7 harg7 arg8 harg8 x0 x1 x2)) (evenH p)))
        (pv2 (scC (qB x0 (evenH p)) (kB2 x1 (256 * (i 1).val) (evenH p))) (slab (View.canon (base6 c i arg2 harg2 arg3 harg3 arg4 harg4 arg5 harg5 arg6 harg6 arg7 harg7 arg8 harg8 x0 x1 x2)) (evenH p)) (vB2 x2 (256 * (i 1).val) p))
        (alpha2 (scC (qB x0 (oddH p)) (kB2 x1 (256 * (i 1).val) (oddH p))) (slab (View.canon (base6 c i arg2 harg2 arg3 harg3 arg4 harg4 arg5 harg5 arg6 harg6 arg7 harg7 arg8 harg8 x0 x1 x2)) (oddH p)))
        (pv2 (scC (qB x0 (oddH p)) (kB2 x1 (256 * (i 1).val) (oddH p))) (slab (View.canon (base6 c i arg2 harg2 arg3 harg3 arg4 harg4 arg5 harg5 arg6 harg6 arg7 harg7 arg8 harg8 x0 x1 x2)) (oddH p)) (vB2 x2 (256 * (i 1).val) p)) (slab (View.canon (base8 c i arg2 harg2 arg3 harg3 arg4 harg4 arg5 harg5 arg6 harg6 arg7 harg7 arg8 harg8 x0 x1 x2)) p) := by
  unfold kernelRun0_A.sl.HS2_4
  rw [canon_slab]
  unfold kernelRun0_A.sl.HS2_3
  rw [canon_slab]
  unfold kernelRun0_A.sl.HS2_2
  rw [canon_slab]
  unfold kernelRun0_A.sl.HS2_1_1
  rw [canon_slab]
  refine stack4 _ _ ?_ ?_ ?_ ?_
  · simp only [evenH_0, oddH_0]
    rw [← load_q' harg2 (n := 0) 0 rfl (inq 0), ← load_k2' harg3 _ 0 (k0_off37_eq i) (facts.k0_off37_inb i),
      ← load_v2' harg4 _ 0 (k0_off38_eq i) (facts.k0_off38_inb i), ldD0_0, ← load_q' harg2 (n := 128) 1 rfl (inq 1),
      ← load_k2' harg3 _ 1 (k0_off39_eq i) (facts.k0_off39_inb i), ldD0_1, ldD2_0]
    rfl
  · simp only [evenH_1, oddH_1]
    rw [← load_q' harg2 (n := 256) 2 rfl (inq 2), ← load_k2' harg3 _ 2 (k0_off40_eq i) (facts.k0_off40_inb i),
      ← load_v2' harg4 _ 1 (k0_off41_eq i) (facts.k0_off41_inb i), ldD0_2, ← load_q' harg2 (n := 384) 3 rfl (inq 3),
      ← load_k2' harg3 _ 3 (k0_off42_eq i) (facts.k0_off42_inb i), ldD0_3, ldD2_1]
    rfl
  · simp only [evenH_2, oddH_2]
    rw [← load_q' harg2 (n := 512) 4 rfl (inq 4), ← load_k2' harg3 _ 4 (k0_off43_eq i) (facts.k0_off43_inb i),
      ← load_v2' harg4 _ 2 (k0_off44_eq i) (facts.k0_off44_inb i), ldD0_4, ← load_q' harg2 (n := 640) 5 rfl (inq 5),
      ← load_k2' harg3 _ 5 (k0_off45_eq i) (facts.k0_off45_inb i), ldD0_5, ldD2_2]
    rfl
  · simp only [evenH_3, oddH_3]
    rw [← load_q' harg2 (n := 768) 6 rfl (inq 6), ← load_k2' harg3 _ 6 (k0_off46_eq i) (facts.k0_off46_inb i),
      ← load_v2' harg4 _ 3 (k0_off47_eq i) (facts.k0_off47_inb i), ldD0_6, ← load_q' harg2 (n := 896) 7 rfl (inq 7),
      ← load_k2' harg3 _ 7 (k0_off48_eq i) (facts.k0_off48_inb i), ldD0_7, ldD2_3]
    rfl

theorem fin1_0 : slab (View.canon (kernelRun0_A.sl.HS1_8 c i arg2 harg2 arg3 harg3 arg4 harg4 arg5 harg5 arg6 harg6 arg7 harg7 arg8 harg8 x0 x1 x2)) 0
    = arg7.view.readCov (kernelRun0_A.sl.HS1_8 c i arg2 harg2 arg3 harg3 arg4 harg4 arg5 harg5 arg6 harg6 arg7 harg7 arg8 harg8 x0 x1 x2) (Rect.unit (s := Stk 8) ![0, 0, 0] S1x256x128.size (ins8 0)).toLoadRect := by
  rw [readCov_slab]; rfl

theorem fin1_1 : slab (View.canon (kernelRun0_A.sl.HS1_8 c i arg2 harg2 arg3 harg3 arg4 harg4 arg5 harg5 arg6 harg6 arg7 harg7 arg8 harg8 x0 x1 x2)) 1
    = arg7.view.readCov (kernelRun0_A.sl.HS1_8 c i arg2 harg2 arg3 harg3 arg4 harg4 arg5 harg5 arg6 harg6 arg7 harg7 arg8 harg8 x0 x1 x2) (Rect.unit (s := Stk 8) ![1, 0, 0] S1x256x128.size (ins8 1)).toLoadRect := by
  rw [readCov_slab]; rfl

theorem fin1_2 : slab (View.canon (kernelRun0_A.sl.HS1_8 c i arg2 harg2 arg3 harg3 arg4 harg4 arg5 harg5 arg6 harg6 arg7 harg7 arg8 harg8 x0 x1 x2)) 2
    = arg7.view.readCov (kernelRun0_A.sl.HS1_8 c i arg2 harg2 arg3 harg3 arg4 harg4 arg5 harg5 arg6 harg6 arg7 harg7 arg8 harg8 x0 x1 x2) (Rect.unit (s := Stk 8) ![2, 0, 0] S1x256x128.size (ins8 2)).toLoadRect := by
  rw [readCov_slab]; rfl

theorem fin1_3 : slab (View.canon (kernelRun0_A.sl.HS1_8 c i arg2 harg2 arg3 harg3 arg4 harg4 arg5 harg5 arg6 harg6 arg7 harg7 arg8 harg8 x0 x1 x2)) 3
    = arg7.view.readCov (kernelRun0_A.sl.HS1_8 c i arg2 harg2 arg3 harg3 arg4 harg4 arg5 harg5 arg6 harg6 arg7 harg7 arg8 harg8 x0 x1 x2) (Rect.unit (s := Stk 8) ![3, 0, 0] S1x256x128.size (ins8 3)).toLoadRect := by
  rw [readCov_slab]; rfl

theorem fin1_4 : slab (View.canon (kernelRun0_A.sl.HS1_8 c i arg2 harg2 arg3 harg3 arg4 harg4 arg5 harg5 arg6 harg6 arg7 harg7 arg8 harg8 x0 x1 x2)) 4
    = arg7.view.readCov (kernelRun0_A.sl.HS1_8 c i arg2 harg2 arg3 harg3 arg4 harg4 arg5 harg5 arg6 harg6 arg7 harg7 arg8 harg8 x0 x1 x2) (Rect.unit (s := Stk 8) ![4, 0, 0] S1x256x128.size (ins8 4)).toLoadRect := by
  rw [readCov_slab]; rfl

theorem fin1_5 : slab (View.canon (kernelRun0_A.sl.HS1_8 c i arg2 harg2 arg3 harg3 arg4 harg4 arg5 harg5 arg6 harg6 arg7 harg7 arg8 harg8 x0 x1 x2)) 5
    = arg7.view.readCov (kernelRun0_A.sl.HS1_8 c i arg2 harg2 arg3 harg3 arg4 harg4 arg5 harg5 arg6 harg6 arg7 harg7 arg8 harg8 x0 x1 x2) (Rect.unit (s := Stk 8) ![5, 0, 0] S1x256x128.size (ins8 5)).toLoadRect := by
  rw [readCov_slab]; rfl

theorem fin1_6 : slab (View.canon (kernelRun0_A.sl.HS1_8 c i arg2 harg2 arg3 harg3 arg4 harg4 arg5 harg5 arg6 harg6 arg7 harg7 arg8 harg8 x0 x1 x2)) 6
    = arg7.view.readCov (kernelRun0_A.sl.HS1_8 c i arg2 harg2 arg3 harg3 arg4 harg4 arg5 harg5 arg6 harg6 arg7 harg7 arg8 harg8 x0 x1 x2) (Rect.unit (s := Stk 8) ![6, 0, 0] S1x256x128.size (ins8 6)).toLoadRect := by
  rw [readCov_slab]; rfl

theorem fin1_7 : slab (View.canon (kernelRun0_A.sl.HS1_8 c i arg2 harg2 arg3 harg3 arg4 harg4 arg5 harg5 arg6 harg6 arg7 harg7 arg8 harg8 x0 x1 x2)) 7
    = arg7.view.readCov (kernelRun0_A.sl.HS1_8 c i arg2 harg2 arg3 harg3 arg4 harg4 arg5 harg5 arg6 harg6 arg7 harg7 arg8 harg8 x0 x1 x2) (Rect.unit (s := Stk 8) ![7, 0, 0] S1x256x128.size (ins8 7)).toLoadRect := by
  rw [readCov_slab]; rfl

theorem fin2_0 : slab (View.canon (kernelRun0_A.sl.HS2_4 c i arg2 harg2 arg3 harg3 arg4 harg4 arg5 harg5 arg6 harg6 arg7 harg7 arg8 harg8 x0 x1 x2)) 0
    = arg8.view.readCov (kernelRun0_A.sl.HS2_4 c i arg2 harg2 arg3 harg3 arg4 harg4 arg5 harg5 arg6 harg6 arg7 harg7 arg8 harg8 x0 x1 x2) (Rect.unit (s := Stk 4) ![0, 0, 0] S1x256x128.size (ins4 0)).toLoadRect := by
  rw [readCov_slab]; rfl

theorem fin2_1 : slab (View.canon (kernelRun0_A.sl.HS2_4 c i arg2 harg2 arg3 harg3 arg4 harg4 arg5 harg5 arg6 harg6 arg7 harg7 arg8 harg8 x0 x1 x2)) 1
    = arg8.view.readCov (kernelRun0_A.sl.HS2_4 c i arg2 harg2 arg3 harg3 arg4 harg4 arg5 harg5 arg6 harg6 arg7 harg7 arg8 harg8 x0 x1 x2) (Rect.unit (s := Stk 4) ![1, 0, 0] S1x256x128.size (ins4 1)).toLoadRect := by
  rw [readCov_slab]; rfl

theorem fin2_2 : slab (View.canon (kernelRun0_A.sl.HS2_4 c i arg2 harg2 arg3 harg3 arg4 harg4 arg5 harg5 arg6 harg6 arg7 harg7 arg8 harg8 x0 x1 x2)) 2
    = arg8.view.readCov (kernelRun0_A.sl.HS2_4 c i arg2 harg2 arg3 harg3 arg4 harg4 arg5 harg5 arg6 harg6 arg7 harg7 arg8 harg8 x0 x1 x2) (Rect.unit (s := Stk 4) ![2, 0, 0] S1x256x128.size (ins4 2)).toLoadRect := by
  rw [readCov_slab]; rfl

theorem fin2_3 : slab (View.canon (kernelRun0_A.sl.HS2_4 c i arg2 harg2 arg3 harg3 arg4 harg4 arg5 harg5 arg6 harg6 arg7 harg7 arg8 harg8 x0 x1 x2)) 3
    = arg8.view.readCov (kernelRun0_A.sl.HS2_4 c i arg2 harg2 arg3 harg3 arg4 harg4 arg5 harg5 arg6 harg6 arg7 harg7 arg8 harg8 x0 x1 x2) (Rect.unit (s := Stk 4) ![3, 0, 0] S1x256x128.size (ins4 3)).toLoadRect := by
  rw [readCov_slab]; rfl

theorem out : out0_A_3 c i arg2 harg2 arg3 harg3 arg4 harg4 arg5 harg5 arg6 harg6 arg7 harg7 arg8 harg8 hc0 x0 x1 x2
    = quad fun p => norm (slab (View.canon (kernelRun0_A.sl.HS1_8 c i arg2 harg2 arg3 harg3 arg4 harg4 arg5 harg5 arg6 harg6 arg7 harg7 arg8 harg8 x0 x1 x2)) (evenH p)) (slab (View.canon (kernelRun0_A.sl.HS1_8 c i arg2 harg2 arg3 harg3 arg4 harg4 arg5 harg5 arg6 harg6 arg7 harg7 arg8 harg8 x0 x1 x2)) (oddH p)) (slab (View.canon (kernelRun0_A.sl.HS2_4 c i arg2 harg2 arg3 harg3 arg4 harg4 arg5 harg5 arg6 harg6 arg7 harg7 arg8 harg8 x0 x1 x2)) p) := by
  unfold out0_A_3
  rw [View.read_writes_junk_eq_canon]
  unfold kernelRun0_A
  dsimp only
  refine quad4 _ ?_ ?_ ?_ ?_
  · simp only [evenH_0, oddH_0]
    rw [fin1_0, fin1_1, fin2_0]
    rfl
  · simp only [evenH_1, oddH_1]
    rw [fin1_2, fin1_3, fin2_1]
    rfl
  · simp only [evenH_2, oddH_2]
    rw [fin1_4, fin1_5, fin2_2]
    rfl
  · simp only [evenH_3, oddH_3]
    rw [fin1_6, fin1_7, fin2_3]
    rfl

end Cert.KernelIdeal.Hand.CaseA
-- ==== Proof.CaseB.lean ====
module

public import proofs.«01_k».proof.Proof.Common

@[expose] public section

/-! The body at an odd block of queries: the loop, one more full block of 256 keys, then the block on the diagonal. -/

set_option maxRecDepth 16384

noncomputable section

namespace Cert.KernelIdeal.Hand.CaseB

open Cert.KernelIdeal Cert.KernelIdeal.Gen Idealize.ShloMosaic Idealize.ShloMosaic.TcCoe Idealize.ShloMosaic.Tactic

variable {F : FTy → Type} [FloatOps F] [Named F]
variable (c : Dev nD) (i : grid0.Coords) (arg2 : Memref sig .tc .vmem S1x256x1024 .bf16) (harg2 : arg2.IsWhole)
  (arg3 : Memref sig .tc .vmem S1x4096x1024 .bf16) (harg3 : arg3.IsWhole) (arg4 : Memref sig .tc .vmem S1x4096x512 .bf16)
  (harg4 : arg4.IsWhole) (arg5 : Memref sig .tc .vmem S1x256x512 .bf16) (harg5 : arg5.IsWhole)
  (arg6 : Memref sig .tc .vmem S8x256x128 .f32) (harg6 : arg6.IsWhole) (arg7 : Memref sig .tc .vmem S8x256x128 .f32)
  (harg7 : arg7.IsWhole) (arg8 : Memref sig .tc .vmem S4x256x128 .f32) (harg8 : arg8.IsWhole) (hc0 : cond0_0 i)
  (x0 : Vec F S1x256x1024 .bf16) (x1 : Vec F S1x4096x1024 .bf16) (x2 : Vec F S1x4096x512 .bf16)

/-- What the loop's writes leave in scratch array 6, before the steps after the loop. -/
def base6 := (kernelRun0_B.sl.HS0_1_1 c i arg2 harg2 arg3 harg3 arg4 harg4 arg5 harg5 arg6 harg6 arg7 harg7 arg8 harg8 hc0 x0 x1 x2).tail

/-- What the loop's writes leave in scratch array 7, before the steps after the loop. -/
def base7 := (kernelRun0_B.sl.HS1_1_1 c i arg2 harg2 arg3 harg3 arg4 harg4 arg5 harg5 arg6 harg6 arg7 harg7 arg8 harg8 hc0 x0 x1 x2).tail

/-- What the loop's writes leave in scratch array 8, before the steps after the loop. -/
def base8 := (kernelRun0_B.sl.HS2_1_1 c i arg2 harg2 arg3 harg3 arg4 harg4 arg5 harg5 arg6 harg6 arg7 harg7 arg8 harg8 hc0 x0 x1 x2).tail

theorem ldU0_0 : slab (View.canon (base6 c i arg2 harg2 arg3 harg3 arg4 harg4 arg5 harg5 arg6 harg6 arg7 harg7 arg8 harg8 hc0 x0 x1 x2)) 0
    = arg6.view.readCov (base6 c i arg2 harg2 arg3 harg3 arg4 harg4 arg5 harg5 arg6 harg6 arg7 harg7 arg8 harg8 hc0 x0 x1 x2) (Rect.unit (s := Stk 8) ![0, 0, 0] S1x256x128.size (ins8 0)).toLoadRect := by
  rw [readCov_slab]
  rfl

theorem ldU0_1 : slab (View.canon (base6 c i arg2 harg2 arg3 harg3 arg4 harg4 arg5 harg5 arg6 harg6 arg7 harg7 arg8 harg8 hc0 x0 x1 x2)) 1
    = arg6.view.readCov (kernelRun0_B.sl.HS0_1_1 c i arg2 harg2 arg3 harg3 arg4 harg4 arg5 harg5 arg6 harg6 arg7 harg7 arg8 harg8 hc0 x0 x1 x2) (Rect.unit (s := Stk 8) ![1, 0, 0] S1x256x128.size (ins8 1)).toLoadRect := by
  rw [readCov_slab]
  unfold kernelRun0_B.sl.HS0_1_1
  rw [slab_skip _ (by decide)]
  rfl

theorem ldU0_2 : slab (View.canon (base6 c i arg2 harg2 arg3 harg3 arg4 harg4 arg5 harg5 arg6 harg6 arg7 harg7 arg8 harg8 hc0 x0 x1 x2)) 2
    = arg6.view.readCov (kernelRun0_B.sl.HS0_2 c i arg2 harg2 arg3 harg3 arg4 harg4 arg5 harg5 arg6 harg6 arg7 harg7 arg8 harg8 hc0 x0 x1 x2) (Rect.unit (s := Stk 8) ![2, 0, 0] S1x256x128.size (ins8 2)).toLoadRect := by
  rw [readCov_slab]
  unfold kernelRun0_B.sl.HS0_2
  rw [slab_skip _ (by decide)]
  unfold kernelRun0_B.sl.HS0_1_1
  rw [slab_skip _ (by decide)]
  rfl

theorem ldU0_3 : slab (View.canon (base6 c i arg2 harg2 arg3 harg3 arg4 harg4 arg5 harg5 arg6 harg6 arg7 harg7 arg8 harg8 hc0 x0 x1 x2)) 3
    = arg6.view.readCov (kernelRun0_B.sl.HS0_3 c i arg2 harg2 arg3 harg3 arg4 harg4 arg5 harg5 arg6 harg6 arg7 harg7 arg8 harg8 hc0 x0 x1 x2) (Rect.unit (s := Stk 8) ![3, 0, 0] S1x256x128.size (ins8 3)).toLoadRect := by
  rw [readCov_slab]
  unfold kernelRun0_B.sl.HS0_3
  rw [slab_skip _ (by decide)]
  unfold kernelRun0_B.sl.HS0_2
  rw [slab_skip _ (by decide)]
  unfold kernelRun0_B.sl.HS0_1_1
  rw [slab_skip _ (by decide)]
  rfl

theorem ldU0_4 : slab (View.canon (base6 c i arg2 harg2 arg3 harg3 arg4 harg4 arg5 harg5 arg6 harg6 arg7 harg7 arg8 harg8 hc0 x0 x1 x2)) 4
    = arg6.view.readCov (kernelRun0_B.sl.HS0_4 c i arg2 harg2 arg3 harg3 arg4 harg4 arg5 harg5 arg6 harg6 arg7 harg7 arg8 harg8 hc0 x0 x1 x2) (Rect.unit (s := Stk 8) ![4, 0, 0] S1x256x128.size (ins8 4)).toLoadRect := by
  rw [readCov_slab]
  unfold kernelRun0_B.sl.HS0_4
  rw [slab_skip _ (by decide)]
  unfold kernelRun0_B.sl.HS0_3
  rw [slab_skip _ (by decide)]
  unfold kernelRun0_B.sl.HS0_2
  rw [slab_skip _ (by decide)]
  unfold kernelRun0_B.sl.HS0_1_1
  rw [slab_skip _ (by decide)]
  rfl

theorem ldU0_5 : slab (View.canon (base6 c i arg2 harg2 arg3 harg3 arg4 harg4 arg5 harg5 arg6 harg6 arg7 harg7 arg8 harg8 hc0 x0 x1 x2)) 5
    = arg6.view.readCov (kernelRun0_B.sl.HS0_5 c i arg2 harg2 arg3 harg3 arg4 harg4 arg5 harg5 arg6 harg6 arg7 harg7 arg8 harg8 hc0 x0 x1 x2) (Rect.unit (s := Stk 8) ![5, 0, 0] S1x256x128.size (ins8 5)).toLoadRect := by
  rw [readCov_slab]
  unfold kernelRun0_B.sl.HS0_5
  rw [slab_skip _ (by decide)]
  unfold kernelRun0_B.sl.HS0_4
  rw [slab_skip _ (by decide)]
  unfold kernelRun0_B.sl.HS0_3
  rw [slab_skip _ (by decide)]
  unfold kernelRun0_B.sl.HS0_2
  rw [slab_skip _ (by decide)]
  unfold kernelRun0_B.sl.HS0_1_1
  rw [slab_skip _ (by decide)]
  rfl

theorem ldU0_6 : slab (View.canon (base6 c i arg2 harg2 arg3 harg3 arg4 harg4 arg5 harg5 arg6 harg6 arg7 harg7 arg8 harg8 hc0 x0 x1 x2)) 6
    = arg6.view.readCov (kernelRun0_B.sl.HS0_6 c i arg2 harg2 arg3 harg3 arg4 harg4 arg5 harg5 arg6 harg6 arg7 harg7 arg8 harg8 hc0 x0 x1 x2) (Rect.unit (s := Stk 8) ![6, 0, 0] S1x256x128.size (ins8 6)).toLoadRect := by
  rw [readCov_slab]
  unfold kernelRun0_B.sl.HS0_6
  rw [slab_skip _ (by decide)]
  unfold kernelRun0_B.sl.HS0_5
  rw [slab_skip _ (by decide)]
  unfold kernelRun0_B.sl.HS0_4
  rw [slab_skip _ (by decide)]
  unfold kernelRun0_B.sl.HS0_3
  rw [slab_skip _ (by decide)]
  unfold kernelRun0_B.sl.HS0_2
  rw [slab_skip _ (by decide)]
  unfold kernelRun0_B.sl.HS0_1_1
  rw [slab_skip _ (by decide)]
  rfl

theorem ldU0_7 : slab (View.canon (base6 c i arg2 harg2 arg3 harg3 arg4 harg4 arg5 harg5 arg6 harg6 arg7 harg7 arg8 harg8 hc0 x0 x1 x2)) 7
    = arg6.view.readCov (kernelRun0_B.sl.HS0_7 c i arg2 harg2 arg3 harg3 arg4 harg4 arg5 harg5 arg6 harg6 arg7 harg7 arg8 harg8 hc0 x0 x1 x2) (Rect.unit (s := Stk 8) ![7, 0, 0] S1x256x128.size (ins8 7)).toLoadRect := by
  rw [readCov_slab]
  unfold kernelRun0_B.sl.HS0_7
  rw [slab_skip _ (by decide)]
  unfold kernelRun0_B.sl.HS0_6
  rw [slab_skip _ (by decide)]
  unfold kernelRun0_B.sl.HS0_5
  rw [slab_skip _ (by decide)]
  unfold kernelRun0_B.sl.HS0_4
  rw [slab_skip _ (by decide)]
  unfold kernelRun0_B.sl.HS0_3
  rw [slab_skip _ (by decide)]
  unfold kernelRun0_B.sl.HS0_2
  rw [slab_skip _ (by decide)]
  unfold kernelRun0_B.sl.HS0_1_1
  rw [slab_skip _ (by decide)]
  rfl

theorem ldU1_0 : slab (View.canon (base7 c i arg2 harg2 arg3 harg3 arg4 harg4 arg5 harg5 arg6 harg6 arg7 harg7 arg8 harg8 hc0 x0 x1 x2)) 0
    = arg7.view.readCov (base7 c i arg2 harg2 arg3 harg3 arg4 harg4 arg5 harg5 arg6 harg6 arg7 harg7 arg8 harg8 hc0 x0 x1 x2) (Rect.unit (s := Stk 8) ![0, 0, 0] S1x256x128.size (ins8 0)).toLoadRect := by
  rw [readCov_slab]
  rfl

theorem ldU1_1 : slab (View.canon (base7 c i arg2 harg2 arg3 harg3 arg4 harg4 arg5 harg5 arg6 harg6 arg7 harg7 arg8 harg8 hc0 x0 x1 x2)) 1
    = arg7.view.readCov (kernelRun0_B.sl.HS1_1_1 c i arg2 harg2 arg3 harg3 arg4 harg4 arg5 harg5 arg6 harg6 arg7 harg7 arg8 harg8 hc0 x0 x1 x2) (Rect.unit (s := Stk 8) ![1, 0, 0] S1x256x128.size (ins8 1)).toLoadRect := by
  rw [readCov_slab]
  unfold kernelRun0_B.sl.HS1_1_1
  rw [slab_skip _ (by decide)]
  rfl

theorem ldU1_2 : slab (View.canon (base7 c i arg2 harg2 arg3 harg3 arg4 harg4 arg5 harg5 arg6 harg6 arg7 harg7 arg8 harg8 hc0 x0 x1 x2)) 2
    = arg7.view.readCov (kernelRun0_B.sl.HS1_2 c i arg2 harg2 arg3 harg3 arg4 harg4 arg5 harg5 arg6 harg6 arg7 harg7 arg8 harg8 hc0 x0 x1 x2) (Rect.unit (s := Stk 8) ![2, 0, 0] S1x256x128.size (ins8 2)).toLoadRect := by
  rw [readCov_slab]
  unfold kernelRun0_B.sl.HS1_2
  rw [slab_skip _ (by decide)]
  unfold kernelRun0_B.sl.HS1_1_1
  rw [slab_skip _ (by decide)]
  rfl

theorem ldU1_3 : slab (View.canon (base7 c i arg2 harg2 arg3 harg3 arg4 harg4 arg5 harg5 arg6 harg6 arg7 harg7 arg8 harg8 hc0 x0 x1 x2)) 3
    = arg7.view.readCov (kernelRun0_B.sl.HS1_3 c i arg2 harg2 arg3 harg3 arg4 harg4 arg5 harg5 arg6 harg6 arg7 harg7 arg8 harg8 hc0 x0 x1 x2) (Rect.unit (s := Stk 8) ![3, 0, 0] S1x256x128.size (ins8 3)).toLoadRect := by
  rw [readCov_slab]
  unfold kernelRun0_B.sl.HS1_3
  rw [slab_skip _ (by decide)]
  unfold kernelRun0_B.sl.HS1_2
  rw [slab_skip _ (by decide)]
  unfold kernelRun0_B.sl.HS1_1_1
  rw [slab_skip _ (by decide)]
  rfl

theorem ldU1_4 : slab (View.canon (base7 c i arg2 harg2 arg3 harg3 arg4 harg4 arg5 harg5 arg6 harg6 arg7 harg7 arg8 harg8 hc0 x0 x1 x2)) 4
    = arg7.view.readCov (kernelRun0_B.sl.HS1_4 c i arg2 harg2 arg3 harg3 arg4 harg4 arg5 harg5 arg6 harg6 arg7 harg7 arg8 harg8 hc0 x0 x1 x2) (Rect.unit (s := Stk 8) ![4, 0, 0] S1x256x128.size (ins8 4)).toLoadRect := by
  rw [readCov_slab]
  unfold kernelRun0_B.sl.HS1_4
  rw [slab_skip _ (by decide)]
  unfold kernelRun0_B.sl.HS1_3
  rw [slab_skip _ (by decide)]
  unfold kernelRun0_B.sl.HS1_2
  rw [slab_skip _ (by decide)]
  unfold kernelRun0_B.sl.HS1_1_1
  rw [slab_skip _ (by decide)]
  rfl

theorem ldU1_5 : slab (View.canon (base7 c i arg2 harg2 arg3 harg3 arg4 harg4 arg5 harg5 arg6 harg6 arg7 harg7 arg8 harg8 hc0 x0 x1 x2)) 5
    = arg7.view.readCov (kernelRun0_B.sl.HS1_5 c i arg2 harg2 arg3 harg3 arg4 harg4 arg5 harg5 arg6 harg6 arg7 harg7 arg8 harg8 hc0 x0 x1 x2) (Rect.unit (s := Stk 8) ![5, 0, 0] S1x256x128.size (ins8 5)).toLoadRect := by
  rw [readCov_slab]
  unfold kernelRun0_B.sl.HS1_5
  rw [slab_skip _ (by decide)]
  unfold kernelRun0_B.sl.HS1_4
  rw [slab_skip _ (by decide)]
  unfold kernelRun0_B.sl.HS1_3
  rw [slab_skip _ (by decide)]
  unfold kernelRun0_B.sl.HS1_2
  rw [slab_skip _ (by decide)]
  unfold kernelRun0_B.sl.HS1_1_1
  rw [slab_skip _ (by decide)]
  rfl

theorem ldU1_6 : slab (View.canon (base7 c i arg2 harg2 arg3 harg3 arg4 harg4 arg5 harg5 arg6 harg6 arg7 harg7 arg8 harg8 hc0 x0 x1 x2)) 6
    = arg7.view.readCov (kernelRun0_B.sl.HS1_6 c i arg2 harg2 arg3 harg3 arg4 harg4 arg5 harg5 arg6 harg6 arg7 harg7 arg8 harg8 hc0 x0 x1 x2) (Rect.unit (s := Stk 8) ![6, 0, 0] S1x256x128.size (ins8 6)).toLoadRect := by
  rw [readCov_slab]
  unfold kernelRun0_B.sl.HS1_6
  rw [slab_skip _ (by decide)]
  unfold kernelRun0_B.sl.HS1_5
  rw [slab_skip _ (by decide)]
  unfold kernelRun0_B.sl.HS1_4
  rw [slab_skip _ (by decide)]
  unfold kernelRun0_B.sl.HS1_3
  rw [slab_skip _ (by decide)]
  unfold kernelRun0_B.sl.HS1_2
  rw [slab_skip _ (by decide)]
  unfold kernelRun0_B.sl.HS1_1_1
  rw [slab_skip _ (by decide)]
  rfl

theorem ldU1_7 : slab (View.canon (base7 c i arg2 harg2 arg3 harg3 arg4 harg4 arg5 harg5 arg6 harg6 arg7 harg7 arg8 harg8 hc0 x0 x1 x2)) 7
    = arg7.view.readCov (kernelRun0_B.sl.HS1_7 c i arg2 harg2 arg3 harg3 arg4 harg4 arg5 harg5 arg6 harg6 arg7 harg7 arg8 harg8 hc0 x0 x1 x2) (Rect.unit (s := Stk 8) ![7, 0, 0] S1x256x128.size (ins8 7)).toLoadRect := by
  rw [readCov_slab]
  unfold kernelRun0_B.sl.HS1_7
  rw [slab_skip _ (by decide)]
  unfold kernelRun0_B.sl.HS1_6
  rw [slab_skip _ (by decide)]
  unfold kernelRun0_B.sl.HS1_5
  rw [slab_skip _ (by decide)]
  unfold kernelRun0_B.sl.HS1_4
  rw [slab_skip _ (by decide)]
  unfold kernelRun0_B.sl.HS1_3
  rw [slab_skip _ (by decide)]
  unfold kernelRun0_B.sl.HS1_2
  rw [slab_skip _ (by decide)]
  unfold kernelRun0_B.sl.HS1_1_1
  rw [slab_skip _ (by decide)]
  rfl

theorem ldU2_0 : slab (View.canon (base8 c i arg2 harg2 arg3 harg3 arg4 harg4 arg5 harg5 arg6 harg6 arg7 harg7 arg8 harg8 hc0 x0 x1 x2)) 0
    = arg8.view.readCov (base8 c i arg2 harg2 arg3 harg3 arg4 harg4 arg5 harg5 arg6 harg6 arg7 harg7 arg8 harg8 hc0 x0 x1 x2) (Rect.unit (s := Stk 4) ![0, 0, 0] S1x256x128.size (ins4 0)).toLoadRect := by
  rw [readCov_slab]
  rfl

theorem ldU2_1 : slab (View.canon (base8 c i arg2 harg2 arg3 harg3 arg4 harg4 arg5 harg5 arg6 harg6 arg7 harg7 arg8 harg8 hc0 x0 x1 x2)) 1
    = arg8.view.readCov (kernelRun0_B.sl.HS2_1_1 c i arg2 harg2 arg3 harg3 arg4 harg4 arg5 harg5 arg6 harg6 arg7 harg7 arg8 harg8 hc0 x0 x1 x2) (Rect.unit (s := Stk 4) ![1, 0, 0] S1x256x128.size (ins4 1)).toLoadRect := by
  rw [readCov_slab]
  unfold kernelRun0_B.sl.HS2_1_1
  rw [slab_skip _ (by decide)]
  rfl

theorem ldU2_2 : slab (View.canon (base8 c i arg2 harg2 arg3 harg3 arg4 harg4 arg5 harg5 arg6 harg6 arg7 harg7 arg8 harg8 hc0 x0 x1 x2)) 2
    = arg8.view.readCov (kernelRun0_B.sl.HS2_2 c i arg2 harg2 arg3 harg3 arg4 harg4 arg5 harg5 arg6 harg6 arg7 harg7 arg8 harg8 hc0 x0 x1 x2) (Rect.unit (s := Stk 4) ![2, 0, 0] S1x256x128.size (ins4 2)).toLoadRect := by
  rw [readCov_slab]
  unfold kernelRun0_B.sl.HS2_2
  rw [slab_skip _ (by decide)]
  unfold kernelRun0_B.sl.HS2_1_1
  rw [slab_skip _ (by decide)]
  rfl

theorem ldU2_3 : slab (View.canon (base8 c i arg2 harg2 arg3 harg3 arg4 harg4 arg5 harg5 arg6 harg6 arg7 harg7 arg8 harg8 hc0 x0 x1 x2)) 3
    = arg8.view.readCov (kernelRun0_B.sl.HS2_3 c i arg2 harg2 arg3 harg3 arg4 harg4 arg5 harg5 arg6 harg6 arg7 harg7 arg8 harg8 hc0 x0 x1 x2) (Rect.unit (s := Stk 4) ![3, 0, 0] S1x256x128.size (ins4 3)).toLoadRect := by
  rw [readCov_slab]
  unfold kernelRun0_B.sl.HS2_3
  rw [slab_skip _ (by decide)]
  unfold kernelRun0_B.sl.HS2_2
  rw [slab_skip _ (by decide)]
  unfold kernelRun0_B.sl.HS2_1_1
  rw [slab_skip _ (by decide)]
  rfl

theorem maxU : View.canon (kernelRun0_B.sl.HS0_8 c i arg2 harg2 arg3 harg3 arg4 harg4 arg5 harg5 arg6 harg6 arg7 harg7 arg8 harg8 hc0 x0 x1 x2)
    = stack fun h => lift (max2 (scU (qB x0 h) (kB2 x1 (256 * ((i 1).val - 1)) h)) (slab (View.canon (base6 c i arg2 harg2 arg3 harg3 arg4 harg4 arg5 harg5 arg6 harg6 arg7 harg7 arg8 harg8 hc0 x0 x1 x2)) h)) := by
  unfold kernelRun0_B.sl.HS0_8
  rw [canon_slab]
  unfold kernelRun0_B.sl.HS0_7
  rw [canon_slab]
  unfold kernelRun0_B.sl.HS0_6
  rw [canon_slab]
  unfold kernelRun0_B.sl.HS0_5
  rw [canon_slab]
  unfold kernelRun0_B.sl.HS0_4
  rw [canon_slab]
  unfold kernelRun0_B.sl.HS0_3
  rw [canon_slab]
  unfold kernelRun0_B.sl.HS0_2
  rw [canon_slab]
  unfold kernelRun0_B.sl.HS0_1_1
  rw [canon_slab]
  refine stack8 _ _ ?_ ?_ ?_ ?_ ?_ ?_ ?_ ?_
  · rw [← load_q' harg2 (n := 0) 0 rfl (inq 0), ← load_k2' harg3 _ 0 (off25' i hc0) (facts.k0_off25_inb i hc0), ldU0_0]
    rfl
  · rw [← load_q' harg2 (n := 128) 1 rfl (inq 1), ← load_k2' harg3 _ 1 (off27' i hc0) (facts.k0_off27_inb i hc0), ldU0_1]
    rfl
  · rw [← load_q' harg2 (n := 256) 2 rfl (inq 2), ← load_k2' harg3 _ 2 (off28' i hc0) (facts.k0_off28_inb i hc0), ldU0_2]
    rfl
  · rw [← load_q' harg2 (n := 384) 3 rfl (inq 3), ← load_k2' harg3 _ 3 (off30' i hc0) (facts.k0_off30_inb i hc0), ldU0_3]
    rfl
  · rw [← load_q' harg2 (n := 512) 4 rfl (inq 4), ← load_k2' harg3 _ 4 (off31' i hc0) (facts.k0_off31_inb i hc0), ldU0_4]
    rfl
  · rw [← load_q' harg2 (n := 640) 5 rfl (inq 5), ← load_k2' harg3 _ 5 (off33' i hc0) (facts.k0_off33_inb i hc0), ldU0_5]
    rfl
  · rw [← load_q' harg2 (n := 768) 6 rfl (inq 6), ← load_k2' harg3 _ 6 (off34' i hc0) (facts.k0_off34_inb i hc0), ldU0_6]
    rfl
  · rw [← load_q' harg2 (n := 896) 7 rfl (inq 7), ← load_k2' harg3 _ 7 (off36' i hc0) (facts.k0_off36_inb i hc0), ldU0_7]
    rfl

theorem sumU : View.canon (kernelRun0_B.sl.HS1_8 c i arg2 harg2 arg3 harg3 arg4 harg4 arg5 harg5 arg6 harg6 arg7 harg7 arg8 harg8 hc0 x0 x1 x2)
    = stack fun h => lift (sum2 (scU (qB x0 h) (kB2 x1 (256 * ((i 1).val - 1)) h)) (slab (View.canon (base6 c i arg2 harg2 arg3 harg3 arg4 harg4 arg5 harg5 arg6 harg6 arg7 harg7 arg8 harg8 hc0 x0 x1 x2)) h) (slab (View.canon (base7 c i arg2 harg2 arg3 harg3 arg4 harg4 arg5 harg5 arg6 harg6 arg7 harg7 arg8 harg8 hc0 x0 x1 x2)) h)) := by
  unfold kernelRun0_B.sl.HS1_8
  rw [canon_slab]
  unfold kernelRun0_B.sl.HS1_7
  rw [canon_slab]
  unfold kernelRun0_B.sl.HS1_6
  rw [canon_slab]
  unfold kernelRun0_B.sl.HS1_5
  rw [canon_slab]
  unfold kernelRun0_B.sl.HS1_4
  rw [canon_slab]
  unfold kernelRun0_B.sl.HS1_3
  rw [canon_slab]
  unfold kernelRun0_B.sl.HS1_2
  rw [canon_slab]
  unfold kernelRun0_B.sl.HS1_1_1
  rw [canon_slab]
  refine stack8 _ _ ?_ ?_ ?_ ?_ ?_ ?_ ?_ ?_
  · rw [← load_q' harg2 (n := 0) 0 rfl (inq 0), ← load_k2' harg3 _ 0 (off25' i hc0) (facts.k0_off25_inb i hc0), ldU0_0,
      ldU1_0]
    rfl
  · rw [← load_q' harg2 (n := 128) 1 rfl (inq 1), ← load_k2' harg3 _ 1 (off27' i hc0) (facts.k0_off27_inb i hc0), ldU0_1,
      ldU1_1]
    rfl
  · rw [← load_q' harg2 (n := 256) 2 rfl (inq 2), ← load_k2' harg3 _ 2 (off28' i hc0) (facts.k0_off28_inb i hc0), ldU0_2,
      ldU1_2]
    rfl
  · rw [← load_q' harg2 (n := 384) 3 rfl (inq 3), ← load_k2' harg3 _ 3 (off30' i hc0) (facts.k0_off30_inb i hc0), ldU0_3,
      ldU1_3]
    rfl
  · rw [← load_q' harg2 (n := 512) 4 rfl (inq 4), ← load_k2' harg3 _ 4 (off31' i hc0) (facts.k0_off31_inb i hc0), ldU0_4,
      ldU1_4]
    rfl
  · rw [← load_q' harg2 (n := 640) 5 rfl (inq 5), ← load_k2' harg3 _ 5 (off33' i hc0) (facts.k0_off33_inb i hc0), ldU0_5,
      ldU1_5]
    rfl
  · rw [← load_q' harg2 (n := 768) 6 rfl (inq 6), ← load_k2' harg3 _ 6 (off34' i hc0) (facts.k0_off34_inb i hc0), ldU0_6,
      ldU1_6]
    rfl
  · rw [← load_q' harg2 (n := 896) 7 rfl (inq 7), ← load_k2' harg3 _ 7 (off36' i hc0) (facts.k0_off36_inb i hc0), ldU0_7,
      ldU1_7]
    rfl

theorem accU : View.canon (kernelRun0_B.sl.HS2_4 c i arg2 harg2 arg3 harg3 arg4 harg4 arg5 harg5 arg6 harg6 arg7 harg7 arg8 harg8 hc0 x0 x1 x2)
    = stack fun p => mix (alpha2 (scU (qB x0 (evenH p)) (kB2 x1 (256 * ((i 1).val - 1)) (evenH p))) (slab (View.canon (base6 c i arg2 harg2 arg3 harg3 arg4 harg4 arg5 harg5 arg6 harg6 arg7 harg7 arg8 harg8 hc0 x0 x1 x2)) (evenH p)))
        (pv2 (scU (qB x0 (evenH p)) (kB2 x1 (256 * ((i 1).val - 1)) (evenH p))) (slab (View.canon (base6 c i arg2 harg2 arg3 harg3 arg4 harg4 arg5 harg5 arg6 harg6 arg7 harg7 arg8 harg8 hc0 x0 x1 x2)) (evenH p)) (vB2 x2 (256 * ((i 1).val - 1)) p))
        (alpha2 (scU (qB x0 (oddH p)) (kB2 x1 (256 * ((i 1).val - 1)) (oddH p))) (slab (View.canon (base6 c i arg2 harg2 arg3 harg3 arg4 harg4 arg5 harg5 arg6 harg6 arg7 harg7 arg8 harg8 hc0 x0 x1 x2)) (oddH p)))
        (pv2 (scU (qB x0 (oddH p)) (kB2 x1 (256 * ((i 1).val - 1)) (oddH p))) (slab (View.canon (base6 c i arg2 harg2 arg3 harg3 arg4 harg4 arg5 harg5 arg6 harg6 arg7 harg7 arg8 harg8 hc0 x0 x1 x2)) (oddH p)) (vB2 x2 (256 * ((i 1).val - 1)) p)) (slab (View.canon (base8 c i arg2 harg2 arg3 harg3 arg4 harg4 arg5 harg5 arg6 harg6 arg7 harg7 arg8 harg8 hc0 x0 x1 x2)) p) := by
  unfold kernelRun0_B.sl.HS2_4
  rw [canon_slab]
  unfold kernelRun0_B.sl.HS2_3
  rw [canon_slab]
  unfold kernelRun0_B.sl.HS2_2
  rw [canon_slab]
  unfold kernelRun0_B.sl.HS2_1_1
  rw [canon_slab]
  refine stack4 _ _ ?_ ?_ ?_ ?_
  · simp only [evenH_0, oddH_0]
    rw [← load_q' harg2 (n := 0) 0 rfl (inq 0), ← load_k2' harg3 _ 0 (off25' i hc0) (facts.k0_off25_inb i hc0),
      ← load_v2' harg4 _ 0 (off26' i hc0) (facts.k0_off26_inb i hc0), ldU0_0, ← load_q' harg2 (n := 128) 1 rfl (inq 1),
      ← load_k2' harg3 _ 1 (off27' i hc0) (facts.k0_off27_inb i hc0), ldU0_1, ldU2_0]
    rfl
  · simp only [evenH_1, oddH_1]
    rw [← load_q' harg2 (n := 256) 2 rfl (inq 2), ← load_k2' harg3 _ 2 (off28' i hc0) (facts.k0_off28_inb i hc0),
      ← load_v2' harg4 _ 1 (off29' i hc0) (facts.k0_off29_inb i hc0), ldU0_2, ← load_q' harg2 (n := 384) 3 rfl (inq 3),
      ← load_k2' harg3 _ 3 (off30' i hc0) (facts.k0_off30_inb i hc0), ldU0_3, ldU2_1]
    rfl
  · simp only [evenH_2, oddH_2]
    rw [← load_q' harg2 (n := 512) 4 rfl (inq 4), ← load_k2' harg3 _ 4 (off31' i hc0) (facts.k0_off31_inb i hc0),
      ← load_v2' harg4 _ 2 (off32' i hc0) (facts.k0_off32_inb i hc0), ldU0_4, ← load_q' harg2 (n := 640) 5 rfl (inq 5),
      ← load_k2' harg3 _ 5 (off33' i hc0) (facts.k0_off33_inb i hc0), ldU0_5, ldU2_2]
    rfl
  · simp only [evenH_3, oddH_3]
    rw [← load_q' harg2 (n := 768) 6 rfl (inq 6), ← load_k2' harg3 _ 6 (off34' i hc0) (facts.k0_off34_inb i hc0),
      ← load_v2' harg4 _ 3 (off35' i hc0) (facts.k0_off35_inb i hc0), ldU0_6, ← load_q' harg2 (n := 896) 7 rfl (inq 7),
      ← load_k2' harg3 _ 7 (off36' i hc0) (facts.k0_off36_inb i hc0), ldU0_7, ldU2_3]
    rfl

theorem ldD0_0 : slab (View.canon (kernelRun0_B.sl.HS0_8 c i arg2 harg2 arg3 harg3 arg4 harg4 arg5 harg5 arg6 harg6 arg7 harg7 arg8 harg8 hc0 x0 x1 x2)) 0
    = arg6.view.readCov (kernelRun0_B.sl.HS0_8 c i arg2 harg2 arg3 harg3 arg4 harg4 arg5 harg5 arg6 harg6 arg7 harg7 arg8 harg8 hc0 x0 x1 x2) (Rect.unit (s := Stk 8) ![0, 0, 0] S1x256x128.size (ins8 0)).toLoadRect := by
  rw [readCov_slab]
  rfl

theorem ldD0_1 : slab (View.canon (kernelRun0_B.sl.HS0_8 c i arg2 harg2 arg3 harg3 arg4 harg4 arg5 harg5 arg6 harg6 arg7 harg7 arg8 harg8 hc0 x0 x1 x2)) 1
    = arg6.view.readCov (kernelRun0_B.sl.HS0_9 c i arg2 harg2 arg3 harg3 arg4 harg4 arg5 harg5 arg6 harg6 arg7 harg7 arg8 harg8 hc0 x0 x1 x2) (Rect.unit (s := Stk 8) ![1, 0, 0] S1x256x128.size (ins8 1)).toLoadRect := by
  rw [readCov_slab]
  unfold kernelRun0_B.sl.HS0_9
  rw [slab_skip _ (by decide)]
  rfl

theorem ldD0_2 : slab (View.canon (kernelRun0_B.sl.HS0_8 c i arg2 harg2 arg3 harg3 arg4 harg4 arg5 harg5 arg6 harg6 arg7 harg7 arg8 harg8 hc0 x0 x1 x2)) 2
    = arg6.view.readCov (kernelRun0_B.sl.HS0_10 c i arg2 harg2 arg3 harg3 arg4 harg4 arg5 harg5 arg6 harg6 arg7 harg7 arg8 harg8 hc0 x0 x1 x2) (Rect.unit (s := Stk 8) ![2, 0, 0] S1x256x128.size (ins8 2)).toLoadRect := by
  rw [readCov_slab]
  unfold kernelRun0_B.sl.HS0_10
  rw [slab_skip _ (by decide)]
  unfold kernelRun0_B.sl.HS0_9
  rw [slab_skip _ (by decide)]
  rfl

theorem ldD0_3 : slab (View.canon (kernelRun0_B.sl.HS0_8 c i arg2 harg2 arg3 harg3 arg4 harg4 arg5 harg5 arg6 harg6 arg7 harg7 arg8 harg8 hc0 x0 x1 x2)) 3
    = arg6.view.readCov (kernelRun0_B.sl.HS0_11 c i arg2 harg2 arg3 harg3 arg4 harg4 arg5 harg5 arg6 harg6 arg7 harg7 arg8 harg8 hc0 x0 x1 x2) (Rect.unit (s := Stk 8) ![3, 0, 0] S1x256x128.size (ins8 3)).toLoadRect := by
  rw [readCov_slab]
  unfold kernelRun0_B.sl.HS0_11
  rw [slab_skip _ (by decide)]
  unfold kernelRun0_B.sl.HS0_10
  rw [slab_skip _ (by decide)]
  unfold kernelRun0_B.sl.HS0_9
  rw [slab_skip _ (by decide)]
  rfl

theorem ldD0_4 : slab (View.canon (kernelRun0_B.sl.HS0_8 c i arg2 harg2 arg3 harg3 arg4 harg4 arg5 harg5 arg6 harg6 arg7 harg7 arg8 harg8 hc0 x0 x1 x2)) 4
    = arg6.view.readCov (kernelRun0_B.sl.HS0_12 c i arg2 harg2 arg3 harg3 arg4 harg4 arg5 harg5 arg6 harg6 arg7 harg7 arg8 harg8 hc0 x0 x1 x2) (Rect.unit (s := Stk 8) ![4, 0, 0] S1x256x128.size (ins8 4)).toLoadRect := by
  rw [readCov_slab]
  unfold kernelRun0_B.sl.HS0_12
  rw [slab_skip _ (by decide)]
  unfold kernelRun0_B.sl.HS0_11
  rw [slab_skip _ (by decide)]
  unfold kernelRun0_B.sl.HS0_10
  rw [slab_skip _ (by decide)]
  unfold kernelRun0_B.sl.HS0_9
  rw [slab_skip _ (by decide)]
  rfl

theorem ldD0_5 : slab (View.canon (kernelRun0_B.sl.HS0_8 c i arg2 harg2 arg3 harg3 arg4 harg4 arg5 harg5 arg6 harg6 arg7 harg7 arg8 harg8 hc0 x0 x1 x2)) 5
    = arg6.view.readCov (kernelRun0_B.sl.HS0_13 c i arg2 harg2 arg3 harg3 arg4 harg4 arg5 harg5 arg6 harg6 arg7 harg7 arg8 harg8 hc0 x0 x1 x2) (Rect.unit (s := Stk 8) ![5, 0, 0] S1x256x128.size (ins8 5)).toLoadRect := by
  rw [readCov_slab]
  unfold kernelRun0_B.sl.HS0_13
  rw [slab_skip _ (by decide)]
  unfold kernelRun0_B.sl.HS0_12
  rw [slab_skip _ (by decide)]
  unfold kernelRun0_B.sl.HS0_11
  rw [slab_skip _ (by decide)]
  unfold kernelRun0_B.sl.HS0_10
  rw [slab_skip _ (by decide)]
  unfold kernelRun0_B.sl.HS0_9
  rw [slab_skip _ (by decide)]
  rfl

theorem ldD0_6 : slab (View.canon (kernelRun0_B.sl.HS0_8 c i arg2 harg2 arg3 harg3 arg4 harg4 arg5 harg5 arg6 harg6 arg7 harg7 arg8 harg8 hc0 x0 x1 x2)) 6
    = arg6.view.readCov (kernelRun0_B.sl.HS0_14 c i arg2 harg2 arg3 harg3 arg4 harg4 arg5 harg5 arg6 harg6 arg7 harg7 arg8 harg8 hc0 x0 x1 x2) (Rect.unit (s := Stk 8) ![6, 0, 0] S1x256x128.size (ins8 6)).toLoadRect := by
  rw [readCov_slab]
  unfold kernelRun0_B.sl.HS0_14
  rw [slab_skip _ (by decide)]
  unfold kernelRun0_B.sl.HS0_13
  rw [slab_skip _ (by decide)]
  unfold kernelRun0_B.sl.HS0_12
  rw [slab_skip _ (by decide)]
  unfold kernelRun0_B.sl.HS0_11
  rw [slab_skip _ (by decide)]
  unfold kernelRun0_B.sl.HS0_10
  rw [slab_skip _ (by decide)]
  unfold kernelRun0_B.sl.HS0_9
  rw [slab_skip _ (by decide)]
  rfl

theorem ldD0_7 : slab (View.canon (kernelRun0_B.sl.HS0_8 c i arg2 harg2 arg3 harg3 arg4 harg4 arg5 harg5 arg6 harg6 arg7 harg7 arg8 harg8 hc0 x0 x1 x2)) 7
    = arg6.view.readCov (kernelRun0_B.sl.HS0_15 c i arg2 harg2 arg3 harg3 arg4 harg4 arg5 harg5 arg6 harg6 arg7 harg7 arg8 harg8 hc0 x0 x1 x2) (Rect.unit (s := Stk 8) ![7, 0, 0] S1x256x128.size (ins8 7)).toLoadRect := by
  rw [readCov_slab]
  unfold kernelRun0_B.sl.HS0_15
  rw [slab_skip _ (by decide)]
  unfold kernelRun0_B.sl.HS0_14
  rw [slab_skip _ (by decide)]
  unfold kernelRun0_B.sl.HS0_13
  rw [slab_skip _ (by decide)]
  unfold kernelRun0_B.sl.HS0_12
  rw [slab_skip _ (by decide)]
  unfold kernelRun0_B.sl.HS0_11
  rw [slab_skip _ (by decide)]
  unfold kernelRun0_B.sl.HS0_10
  rw [slab_skip _ (by decide)]
  unfold kernelRun0_B.sl.HS0_9
  rw [slab_skip _ (by decide)]
  rfl

theorem ldD1_0 : slab (View.canon (kernelRun0_B.sl.HS1_8 c i arg2 harg2 arg3 harg3 arg4 harg4 arg5 harg5 arg6 harg6 arg7 harg7 arg8 harg8 hc0 x0 x1 x2)) 0
    = arg7.view.readCov (kernelRun0_B.sl.HS1_8 c i arg2 harg2 arg3 harg3 arg4 harg4 arg5 harg5 arg6 harg6 arg7 harg7 arg8 harg8 hc0 x0 x1 x2) (Rect.unit (s := Stk 8) ![0, 0, 0] S1x256x128.size (ins8 0)).toLoadRect := by
  rw [readCov_slab]
  rfl

theorem ldD1_1 : slab (View.canon (kernelRun0_B.sl.HS1_8 c i arg2 harg2 arg3 harg3 arg4 harg4 arg5 harg5 arg6 harg6 arg7 harg7 arg8 harg8 hc0 x0 x1 x2)) 1
    = arg7.view.readCov (kernelRun0_B.sl.HS1_9 c i arg2 harg2 arg3 harg3 arg4 harg4 arg5 harg5 arg6 harg6 arg7 harg7 arg8 harg8 hc0 x0 x1 x2) (Rect.unit (s := Stk 8) ![1, 0, 0] S1x256x128.size (ins8 1)).toLoadRect := by
  rw [readCov_slab]
  unfold kernelRun0_B.sl.HS1_9
  rw [slab_skip _ (by decide)]
  rfl

theorem ldD1_2 : slab (View.canon (kernelRun0_B.sl.HS1_8 c i arg2 harg2 arg3 harg3 arg4 harg4 arg5 harg5 arg6 harg6 arg7 harg7 arg8 harg8 hc0 x0 x1 x2)) 2
    = arg7.view.readCov (kernelRun0_B.sl.HS1_10 c i arg2 harg2 arg3 harg3 arg4 harg4 arg5 harg5 arg6 harg6 arg7 harg7 arg8 harg8 hc0 x0 x1 x2) (Rect.unit (s := Stk 8) ![2, 0, 0] S1x256x128.size (ins8 2)).toLoadRect := by
  rw [readCov_slab]
  unfold kernelRun0_B.sl.HS1_10
  rw [slab_skip _ (by decide)]
  unfold kernelRun0_B.sl.HS1_9
  rw [slab_skip _ (by decide)]
  rfl

theorem ldD1_3 : slab (View.canon (kernelRun0_B.sl.HS1_8 c i arg2 harg2 arg3 harg3 arg4 harg4 arg5 harg5 arg6 harg6 arg7 harg7 arg8 harg8 hc0 x0 x1 x2)) 3
    = arg7.view.readCov (kernelRun0_B.sl.HS1_11 c i arg2 harg2 arg3 harg3 arg4 harg4 arg5 harg5 arg6 harg6 arg7 harg7 arg8 harg8 hc0 x0 x1 x2) (Rect.unit (s := Stk 8) ![3, 0, 0] S1x256x128.size (ins8 3)).toLoadRect := by
  rw [readCov_slab]
  unfold kernelRun0_B.sl.HS1_11
  rw [slab_skip _ (by decide)]
  unfold kernelRun0_B.sl.HS1_10
  rw [slab_skip _ (by decide)]
  unfold kernelRun0_B.sl.HS1_9
  rw [slab_skip _ (by decide)]
  rfl

theorem ldD1_4 : slab (View.canon (kernelRun0_B.sl.HS1_8 c i arg2 harg2 arg3 harg3 arg4 harg4 arg5 harg5 arg6 harg6 arg7 harg7 arg8 harg8 hc0 x0 x1 x2)) 4
    = arg7.view.readCov (kernelRun0_B.sl.HS1_12 c i arg2 harg2 arg3 harg3 arg4 harg4 arg5 harg5 arg6 harg6 arg7 harg7 arg8 harg8 hc0 x0 x1 x2) (Rect.unit (s := Stk 8) ![4, 0, 0] S1x256x128.size (ins8 4)).toLoadRect := by
  rw [readCov_slab]
  unfold kernelRun0_B.sl.HS1_12
  rw [slab_skip _ (by decide)]
  unfold kernelRun0_B.sl.HS1_11
  rw [slab_skip _ (by decide)]
  unfold kernelRun0_B.sl.HS1_10
  rw [slab_skip _ (by decide)]
  unfold kernelRun0_B.sl.HS1_9
  rw [slab_skip _ (by decide)]
  rfl

theorem ldD1_5 : slab (View.canon (kernelRun0_B.sl.HS1_8 c i arg2 harg2 arg3 harg3 arg4 harg4 arg5 harg5 arg6 harg6 arg7 harg7 arg8 harg8 hc0 x0 x1 x2)) 5
    = arg7.view.readCov (kernelRun0_B.sl.HS1_13 c i arg2 harg2 arg3 harg3 arg4 harg4 arg5 harg5 arg6 harg6 arg7 harg7 arg8 harg8 hc0 x0 x1 x2) (Rect.unit (s := Stk 8) ![5, 0, 0] S1x256x128.size (ins8 5)).toLoadRect := by
  rw [readCov_slab]
  unfold kernelRun0_B.sl.HS1_13
  rw [slab_skip _ (by decide)]
  unfold kernelRun0_B.sl.HS1_12
  rw [slab_skip _ (by decide)]
  unfold kernelRun0_B.sl.HS1_11
  rw [slab_skip _ (by decide)]
  unfold kernelRun0_B.sl.HS1_10
  rw [slab_skip _ (by decide)]
  unfold kernelRun0_B.sl.HS1_9
  rw [slab_skip _ (by decide)]
  rfl

theorem ldD1_6 : slab (View.canon (kernelRun0_B.sl.HS1_8 c i arg2 harg2 arg3 harg3 arg4 harg4 arg5 harg5 arg6 harg6 arg7 harg7 arg8 harg8 hc0 x0 x1 x2)) 6
    = arg7.view.readCov (kernelRun0_B.sl.HS1_14 c i arg2 harg2 arg3 harg3 arg4 harg4 arg5 harg5 arg6 harg6 arg7 harg7 arg8 harg8 hc0 x0 x1 x2) (Rect.unit (s := Stk 8) ![6, 0, 0] S1x256x128.size (ins8 6)).toLoadRect := by
  rw [readCov_slab]
  unfold kernelRun0_B.sl.HS1_14
  rw [slab_skip _ (by decide)]
  unfold kernelRun0_B.sl.HS1_13
  rw [slab_skip _ (by decide)]
  unfold kernelRun0_B.sl.HS1_12
  rw [slab_skip _ (by decide)]
  unfold kernelRun0_B.sl.HS1_11
  rw [slab_skip _ (by decide)]
  unfold kernelRun0_B.sl.HS1_10
  rw [slab_skip _ (by decide)]
  unfold kernelRun0_B.sl.HS1_9
  rw [slab_skip _ (by decide)]
  rfl

theorem ldD1_7 : slab (View.canon (kernelRun0_B.sl.HS1_8 c i arg2 harg2 arg3 harg3 arg4 harg4 arg5 harg5 arg6 harg6 arg7 harg7 arg8 harg8 hc0 x0 x1 x2)) 7
    = arg7.view.readCov (kernelRun0_B.sl.HS1_15 c i arg2 harg2 arg3 harg3 arg4 harg4 arg5 harg5 arg6 harg6 arg7 harg7 arg8 harg8 hc0 x0 x1 x2) (Rect.unit (s := Stk 8) ![7, 0, 0] S1x256x128.size (ins8 7)).toLoadRect := by
  rw [readCov_slab]
  unfold kernelRun0_B.sl.HS1_15
  rw [slab_skip _ (by decide)]
  unfold kernelRun0_B.sl.HS1_14
  rw [slab_skip _ (by decide)]
  unfold kernelRun0_B.sl.HS1_13
  rw [slab_skip _ (by decide)]
  unfold kernelRun0_B.sl.HS1_12
  rw [slab_skip _ (by decide)]
  unfold kernelRun0_B.sl.HS1_11
  rw [slab_skip _ (by decide)]
  unfold kernelRun0_B.sl.HS1_10
  rw [slab_skip _ (by decide)]
  unfold kernelRun0_B.sl.HS1_9
  rw [slab_skip _ (by decide)]
  rfl

theorem ldD2_0 : slab (View.canon (kernelRun0_B.sl.HS2_4 c i arg2 harg2 arg3 harg3 arg4 harg4 arg5 harg5 arg6 harg6 arg7 harg7 arg8 harg8 hc0 x0 x1 x2)) 0
    = arg8.view.readCov (kernelRun0_B.sl.HS2_4 c i arg2 harg2 arg3 harg3 arg4 harg4 arg5 harg5 arg6 harg6 arg7 harg7 arg8 harg8 hc0 x0 x1 x2) (Rect.unit (s := Stk 4) ![0, 0, 0] S1x256x128.size (ins4 0)).toLoadRect := by
  rw [readCov_slab]
  rfl

theorem ldD2_1 : slab (View.canon (kernelRun0_B.sl.HS2_4 c i arg2 harg2 arg3 harg3 arg4 harg4 arg5 harg5 arg6 harg6 arg7 harg7 arg8 harg8 hc0 x0 x1 x2)) 1
    = arg8.view.readCov (kernelRun0_B.sl.HS2_5 c i arg2 harg2 arg3 harg3 arg4 harg4 arg5 harg5 arg6 harg6 arg7 harg7 arg8 harg8 hc0 x0 x1 x2) (Rect.unit (s := Stk 4) ![1, 0, 0] S1x256x128.size (ins4 1)).toLoadRect := by
  rw [readCov_slab]
  unfold kernelRun0_B.sl.HS2_5
  rw [slab_skip _ (by decide)]
  rfl

theorem ldD2_2 : slab (View.canon (kernelRun0_B.sl.HS2_4 c i arg2 harg2 arg3 harg3 arg4 harg4 arg5 harg5 arg6 harg6 arg7 harg7 arg8 harg8 hc0 x0 x1 x2)) 2
    = arg8.view.readCov (kernelRun0_B.sl.HS2_6 c i arg2 harg2 arg3 harg3 arg4 harg4 arg5 harg5 arg6 harg6 arg7 harg7 arg8 harg8 hc0 x0 x1 x2) (Rect.unit (s := Stk 4) ![2, 0, 0] S1x256x128.size (ins4 2)).toLoadRect := by
  rw [readCov_slab]
  unfold kernelRun0_B.sl.HS2_6
  rw [slab_skip _ (by decide)]
  unfold kernelRun0_B.sl.HS2_5
  rw [slab_skip _ (by decide)]
  rfl

theorem ldD2_3 : slab (View.canon (kernelRun0_B.sl.HS2_4 c i arg2 harg2 arg3 harg3 arg4 harg4 arg5 harg5 arg6 harg6 arg7 harg7 arg8 harg8 hc0 x0 x1 x2)) 3
    = arg8.view.readCov (kernelRun0_B.sl.HS2_7 c i arg2 harg2 arg3 harg3 arg4 harg4 arg5 harg5 arg6 harg6 arg7 harg7 arg8 harg8 hc0 x0 x1 x2) (Rect.unit (s := Stk 4) ![3, 0, 0] S1x256x128.size (ins4 3)).toLoadRect := by
  rw [readCov_slab]
  unfold kernelRun0_B.sl.HS2_7
  rw [slab_skip _ (by decide)]
  unfold kernelRun0_B.sl.HS2_6
  rw [slab_skip _ (by decide)]
  unfold kernelRun0_B.sl.HS2_5
  rw [slab_skip _ (by decide)]
  rfl

theorem sumD : View.canon (kernelRun0_B.sl.HS1_16 c i arg2 harg2 arg3 harg3 arg4 harg4 arg5 harg5 arg6 harg6 arg7 harg7 arg8 harg8 hc0 x0 x1 x2)
    = stack fun h => lift (sum2 (scC (qB x0 h) (kB2 x1 (256 * (i 1).val) h)) (slab (View.canon (kernelRun0_B.sl.HS0_8 c i arg2 harg2 arg3 harg3 arg4 harg4 arg5 harg5 arg6 harg6 arg7 harg7 arg8 harg8 hc0 x0 x1 x2)) h) (slab (View.canon (kernelRun0_B.sl.HS1_8 c i arg2 harg2 arg3 harg3 arg4 harg4 arg5 harg5 arg6 harg6 arg7 harg7 arg8 harg8 hc0 x0 x1 x2)) h)) := by
  unfold kernelRun0_B.sl.HS1_16
  rw [canon_slab]
  unfold kernelRun0_B.sl.HS1_15
  rw [canon_slab]
  unfold kernelRun0_B.sl.HS1_14
  rw [canon_slab]
  unfold kernelRun0_B.sl.HS1_13
  rw [canon_slab]
  unfold kernelRun0_B.sl.HS1_12
  rw [canon_slab]
  unfold kernelRun0_B.sl.HS1_11
  rw [canon_slab]
  unfold kernelRun0_B.sl.HS1_10
  rw [canon_slab]
  unfold kernelRun0_B.sl.HS1_9
  rw [canon_slab]
  refine stack8 _ _ ?_ ?_ ?_ ?_ ?_ ?_ ?_ ?_
  · rw [← load_q' harg2 (n := 0) 0 rfl (inq 0), ← load_k2' harg3 _ 0 (k0_off37_eq i) (facts.k0_off37_inb i), ldD0_0,
      ldD1_0]
    rfl
  · rw [← load_q' harg2 (n := 128) 1 rfl (inq 1), ← load_k2' harg3 _ 1 (k0_off39_eq i) (facts.k0_off39_inb i), ldD0_1,
      ldD1_1]
    rfl
  · rw [← load_q' harg2 (n := 256) 2 rfl (inq 2), ← load_k2' harg3 _ 2 (k0_off40_eq i) (facts.k0_off40_inb i), ldD0_2,
      ldD1_2]
    rfl
  · rw [← load_q' harg2 (n := 384) 3 rfl (inq 3), ← load_k2' harg3 _ 3 (k0_off42_eq i) (facts.k0_off42_inb i), ldD0_3,
      ldD1_3]
    rfl
  · rw [← load_q' harg2 (n := 512) 4 rfl (inq 4), ← load_k2' harg3 _ 4 (k0_off43_eq i) (facts.k0_off43_inb i), ldD0_4,
      ldD1_4]
    rfl
  · rw [← load_q' harg2 (n := 640) 5 rfl (inq 5), ← load_k2' harg3 _ 5 (k0_off45_eq i) (facts.k0_off45_inb i), ldD0_5,
      ldD1_5]
    rfl
  · rw [← load_q' harg2 (n := 768) 6 rfl (inq 6), ← load_k2' harg3 _ 6 (k0_off46_eq i) (facts.k0_off46_inb i), ldD0_6,
      ldD1_6]
    rfl
  · rw [← load_q' harg2 (n := 896) 7 rfl (inq 7), ← load_k2' harg3 _ 7 (k0_off48_eq i) (facts.k0_off48_inb i), ldD0_7,
      ldD1_7]
    rfl

theorem accD : View.canon (kernelRun0_B.sl.HS2_8 c i arg2 harg2 arg3 harg3 arg4 harg4 arg5 harg5 arg6 harg6 arg7 harg7 arg8 harg8 hc0 x0 x1 x2)
    = stack fun p => mix (alpha2 (scC (qB x0 (evenH p)) (kB2 x1 (256 * (i 1).val) (evenH p))) (slab (View.canon (kernelRun0_B.sl.HS0_8 c i arg2 harg2 arg3 harg3 arg4 harg4 arg5 harg5 arg6 harg6 arg7 harg7 arg8 harg8 hc0 x0 x1 x2)) (evenH p)))
        (pv2 (scC (qB x0 (evenH p)) (kB2 x1 (256 * (i 1).val) (evenH p))) (slab (View.canon (kernelRun0_B.sl.HS0_8 c i arg2 harg2 arg3 harg3 arg4 harg4 arg5 harg5 arg6 harg6 arg7 harg7 arg8 harg8 hc0 x0 x1 x2)) (evenH p)) (vB2 x2 (256 * (i 1).val) p))
        (alpha2 (scC (qB x0 (oddH p)) (kB2 x1 (256 * (i 1).val) (oddH p))) (slab (View.canon (kernelRun0_B.sl.HS0_8 c i arg2 harg2 arg3 harg3 arg4 harg4 arg5 harg5 arg6 harg6 arg7 harg7 arg8 harg8 hc0 x0 x1 x2)) (oddH p)))
        (pv2 (scC (qB x0 (oddH p)) (kB2 x1 (256 * (i 1).val) (oddH p))) (slab (View.canon (kernelRun0_B.sl.HS0_8 c i arg2 harg2 arg3 harg3 arg4 harg4 arg5 harg5 arg6 harg6 arg7 harg7 arg8 harg8 hc0 x0 x1 x2)) (oddH p)) (vB2 x2 (256 * (i 1).val) p)) (slab (View.canon (kernelRun0_B.sl.HS2_4 c i arg2 harg2 arg3 harg3 arg4 harg4 arg5 harg5 arg6 harg6 arg7 harg7 arg8 harg8 hc0 x0 x1 x2)) p) := by
  unfold kernelRun0_B.sl.HS2_8
  rw [canon_slab]
  unfold kernelRun0_B.sl.HS2_7
  rw [canon_slab]
  unfold kernelRun0_B.sl.HS2_6
  rw [canon_slab]
  unfold kernelRun0_B.sl.HS2_5
  rw [canon_slab]
  refine stack4 _ _ ?_ ?_ ?_ ?_
  · simp only [evenH_0, oddH_0]
    rw [← load_q' harg2 (n := 0) 0 rfl (inq 0), ← load_k2' harg3 _ 0 (k0_off37_eq i) (facts.k0_off37_inb i),
      ← load_v2' harg4 _ 0 (k0_off38_eq i) (facts.k0_off38_inb i), ldD0_0, ← load_q' harg2 (n := 128) 1 rfl (inq 1),
      ← load_k2' harg3 _ 1 (k0_off39_eq i) (facts.k0_off39_inb i), ldD0_1, ldD2_0]
    rfl
  · simp only [evenH_1, oddH_1]
    rw [← load_q' harg2 (n := 256) 2 rfl (inq 2), ← load_k2' harg3 _ 2 (k0_off40_eq i) (facts.k0_off40_inb i),
      ← load_v2' harg4 _ 1 (k0_off41_eq i) (facts.k0_off41_inb i), ldD0_2, ← load_q' harg2 (n := 384) 3 rfl (inq 3),
      ← load_k2' harg3 _ 3 (k0_off42_eq i) (facts.k0_off42_inb i), ldD0_3, ldD2_1]
    rfl
  · simp only [evenH_2, oddH_2]
    rw [← load_q' harg2 (n := 512) 4 rfl (inq 4), ← load_k2' harg3 _ 4 (k0_off43_eq i) (facts.k0_off43_inb i),
      ← load_v2' harg4 _ 2 (k0_off44_eq i) (facts.k0_off44_inb i), ldD0_4, ← load_q' harg2 (n := 640) 5 rfl (inq 5),
      ← load_k2' harg3 _ 5 (k0_off45_eq i) (facts.k0_off45_inb i), ldD0_5, ldD2_2]
    rfl
  · simp only [evenH_3, oddH_3]
    rw [← load_q' harg2 (n := 768) 6 rfl (inq 6), ← load_k2' harg3 _ 6 (k0_off46_eq i) (facts.k0_off46_inb i),
      ← load_v2' harg4 _ 3 (k0_off47_eq i) (facts.k0_off47_inb i), ldD0_6, ← load_q' harg2 (n := 896) 7 rfl (inq 7),
      ← load_k2' harg3 _ 7 (k0_off48_eq i) (facts.k0_off48_inb i), ldD0_7, ldD2_3]
    rfl

theorem fin1_0 : slab (View.canon (kernelRun0_B.sl.HS1_16 c i arg2 harg2 arg3 harg3 arg4 harg4 arg5 harg5 arg6 harg6 arg7 harg7 arg8 harg8 hc0 x0 x1 x2)) 0
    = arg7.view.readCov (kernelRun0_B.sl.HS1_16 c i arg2 harg2 arg3 harg3 arg4 harg4 arg5 harg5 arg6 harg6 arg7 harg7 arg8 harg8 hc0 x0 x1 x2) (Rect.unit (s := Stk 8) ![0, 0, 0] S1x256x128.size (ins8 0)).toLoadRect := by
  rw [readCov_slab]; rfl

theorem fin1_1 : slab (View.canon (kernelRun0_B.sl.HS1_16 c i arg2 harg2 arg3 harg3 arg4 harg4 arg5 harg5 arg6 harg6 arg7 harg7 arg8 harg8 hc0 x0 x1 x2)) 1
    = arg7.view.readCov (kernelRun0_B.sl.HS1_16 c i arg2 harg2 arg3 harg3 arg4 harg4 arg5 harg5 arg6 harg6 arg7 harg7 arg8 harg8 hc0 x0 x1 x2) (Rect.unit (s := Stk 8) ![1, 0, 0] S1x256x128.size (ins8 1)).toLoadRect := by
  rw [readCov_slab]; rfl

theorem fin1_2 : slab (View.canon (kernelRun0_B.sl.HS1_16 c i arg2 harg2 arg3 harg3 arg4 harg4 arg5 harg5 arg6 harg6 arg7 harg7 arg8 harg8 hc0 x0 x1 x2)) 2
    = arg7.view.readCov (kernelRun0_B.sl.HS1_16 c i arg2 harg2 arg3 harg3 arg4 harg4 arg5 harg5 arg6 harg6 arg7 harg7 arg8 harg8 hc0 x0 x1 x2) (Rect.unit (s := Stk 8) ![2, 0, 0] S1x256x128.size (ins8 2)).toLoadRect := by
  rw [readCov_slab]; rfl

theorem fin1_3 : slab (View.canon (kernelRun0_B.sl.HS1_16 c i arg2 harg2 arg3 harg3 arg4 harg4 arg5 harg5 arg6 harg6 arg7 harg7 arg8 harg8 hc0 x0 x1 x2)) 3
    = arg7.view.readCov (kernelRun0_B.sl.HS1_16 c i arg2 harg2 arg3 harg3 arg4 harg4 arg5 harg5 arg6 harg6 arg7 harg7 arg8 harg8 hc0 x0 x1 x2) (Rect.unit (s := Stk 8) ![3, 0, 0] S1x256x128.size (ins8 3)).toLoadRect := by
  rw [readCov_slab]; rfl

theorem fin1_4 : slab (View.canon (kernelRun0_B.sl.HS1_16 c i arg2 harg2 arg3 harg3 arg4 harg4 arg5 harg5 arg6 harg6 arg7 harg7 arg8 harg8 hc0 x0 x1 x2)) 4
    = arg7.view.readCov (kernelRun0_B.sl.HS1_16 c i arg2 harg2 arg3 harg3 arg4 harg4 arg5 harg5 arg6 harg6 arg7 harg7 arg8 harg8 hc0 x0 x1 x2) (Rect.unit (s := Stk 8) ![4, 0, 0] S1x256x128.size (ins8 4)).toLoadRect := by
  rw [readCov_slab]; rfl

theorem fin1_5 : slab (View.canon (kernelRun0_B.sl.HS1_16 c i arg2 harg2 arg3 harg3 arg4 harg4 arg5 harg5 arg6 harg6 arg7 harg7 arg8 harg8 hc0 x0 x1 x2)) 5
    = arg7.view.readCov (kernelRun0_B.sl.HS1_16 c i arg2 harg2 arg3 harg3 arg4 harg4 arg5 harg5 arg6 harg6 arg7 harg7 arg8 harg8 hc0 x0 x1 x2) (Rect.unit (s := Stk 8) ![5, 0, 0] S1x256x128.size (ins8 5)).toLoadRect := by
  rw [readCov_slab]; rfl

theorem fin1_6 : slab (View.canon (kernelRun0_B.sl.HS1_16 c i arg2 harg2 arg3 harg3 arg4 harg4 arg5 harg5 arg6 harg6 arg7 harg7 arg8 harg8 hc0 x0 x1 x2)) 6
    = arg7.view.readCov (kernelRun0_B.sl.HS1_16 c i arg2 harg2 arg3 harg3 arg4 harg4 arg5 harg5 arg6 harg6 arg7 harg7 arg8 harg8 hc0 x0 x1 x2) (Rect.unit (s := Stk 8) ![6, 0, 0] S1x256x128.size (ins8 6)).toLoadRect := by
  rw [readCov_slab]; rfl

theorem fin1_7 : slab (View.canon (kernelRun0_B.sl.HS1_16 c i arg2 harg2 arg3 harg3 arg4 harg4 arg5 harg5 arg6 harg6 arg7 harg7 arg8 harg8 hc0 x0 x1 x2)) 7
    = arg7.view.readCov (kernelRun0_B.sl.HS1_16 c i arg2 harg2 arg3 harg3 arg4 harg4 arg5 harg5 arg6 harg6 arg7 harg7 arg8 harg8 hc0 x0 x1 x2) (Rect.unit (s := Stk 8) ![7, 0, 0] S1x256x128.size (ins8 7)).toLoadRect := by
  rw [readCov_slab]; rfl

theorem fin2_0 : slab (View.canon (kernelRun0_B.sl.HS2_8 c i arg2 harg2 arg3 harg3 arg4 harg4 arg5 harg5 arg6 harg6 arg7 harg7 arg8 harg8 hc0 x0 x1 x2)) 0
    = arg8.view.readCov (kernelRun0_B.sl.HS2_8 c i arg2 harg2 arg3 harg3 arg4 harg4 arg5 harg5 arg6 harg6 arg7 harg7 arg8 harg8 hc0 x0 x1 x2) (Rect.unit (s := Stk 4) ![0, 0, 0] S1x256x128.size (ins4 0)).toLoadRect := by
  rw [readCov_slab]; rfl

theorem fin2_1 : slab (View.canon (kernelRun0_B.sl.HS2_8 c i arg2 harg2 arg3 harg3 arg4 harg4 arg5 harg5 arg6 harg6 arg7 harg7 arg8 harg8 hc0 x0 x1 x2)) 1
    = arg8.view.readCov (kernelRun0_B.sl.HS2_8 c i arg2 harg2 arg3 harg3 arg4 harg4 arg5 harg5 arg6 harg6 arg7 harg7 arg8 harg8 hc0 x0 x1 x2) (Rect.unit (s := Stk 4) ![1, 0, 0] S1x256x128.size (ins4 1)).toLoadRect := by
  rw [readCov_slab]; rfl

theorem fin2_2 : slab (View.canon (kernelRun0_B.sl.HS2_8 c i arg2 harg2 arg3 harg3 arg4 harg4 arg5 harg5 arg6 harg6 arg7 harg7 arg8 harg8 hc0 x0 x1 x2)) 2
    = arg8.view.readCov (kernelRun0_B.sl.HS2_8 c i arg2 harg2 arg3 harg3 arg4 harg4 arg5 harg5 arg6 harg6 arg7 harg7 arg8 harg8 hc0 x0 x1 x2) (Rect.unit (s := Stk 4) ![2, 0, 0] S1x256x128.size (ins4 2)).toLoadRect := by
  rw [readCov_slab]; rfl

theorem fin2_3 : slab (View.canon (kernelRun0_B.sl.HS2_8 c i arg2 harg2 arg3 harg3 arg4 harg4 arg5 harg5 arg6 harg6 arg7 harg7 arg8 harg8 hc0 x0 x1 x2)) 3
    = arg8.view.readCov (kernelRun0_B.sl.HS2_8 c i arg2 harg2 arg3 harg3 arg4 harg4 arg5 harg5 arg6 harg6 arg7 harg7 arg8 harg8 hc0 x0 x1 x2) (Rect.unit (s := Stk 4) ![3, 0, 0] S1x256x128.size (ins4 3)).toLoadRect := by
  rw [readCov_slab]; rfl

theorem out : out0_B_3 c i arg2 harg2 arg3 harg3 arg4 harg4 arg5 harg5 arg6 harg6 arg7 harg7 arg8 harg8 hc0 x0 x1 x2
    = quad fun p => norm (slab (View.canon (kernelRun0_B.sl.HS1_16 c i arg2 harg2 arg3 harg3 arg4 harg4 arg5 harg5 arg6 harg6 arg7 harg7 arg8 harg8 hc0 x0 x1 x2)) (evenH p)) (slab (View.canon (kernelRun0_B.sl.HS1_16 c i arg2 harg2 arg3 harg3 arg4 harg4 arg5 harg5 arg6 harg6 arg7 harg7 arg8 harg8 hc0 x0 x1 x2)) (oddH p)) (slab (View.canon (kernelRun0_B.sl.HS2_8 c i arg2 harg2 arg3 harg3 arg4 harg4 arg5 harg5 arg6 harg6 arg7 harg7 arg8 harg8 hc0 x0 x1 x2)) p) := by
  unfold out0_B_3
  rw [View.read_writes_junk_eq_canon]
  unfold kernelRun0_B
  dsimp only
  refine quad4 _ ?_ ?_ ?_ ?_
  · simp only [evenH_0, oddH_0]
    rw [fin1_0, fin1_1, fin2_0]
    rfl
  · simp only [evenH_1, oddH_1]
    rw [fin1_2, fin1_3, fin2_1]
    rfl
  · simp only [evenH_2, oddH_2]
    rw [fin1_4, fin1_5, fin2_2]
    rfl
  · simp only [evenH_3, oddH_3]
    rw [fin1_6, fin1_7, fin2_3]
    rfl

end Cert.KernelIdeal.Hand.CaseB
-- ==== Proof.Loop.lean ====
module

public import proofs.«01_k».proof.Proof.CaseA
public import proofs.«01_k».proof.Proof.CaseB

@[expose] public section

/-! The three scratch arrays as one state: the step on 512 keys, the step on 256 keys, the loop as an iteration, and
    the block each kind of grid point stores. -/

set_option maxRecDepth 16384

noncomputable section

namespace Cert.KernelIdeal.Hand

open Cert.KernelIdeal Cert.KernelIdeal.Gen Idealize.ShloMosaic Idealize.ShloMosaic.TcCoe Idealize.ShloMosaic.Tactic

variable {F : FTy → Type} [FloatOps F] [Named F]

/-- The contents of the three scratch arrays. -/
structure St (F : FTy → Type) where
  m : (Stk 8).Idx → Elt F .f32
  l : (Stk 8).Idx → Elt F .f32
  a : (Stk 4).Idx → Elt F .f32

/-- The step on 512 keys from key `n` on. -/
def wide (x0 : Vec F S1x256x1024 .bf16) (x1 : Vec F S1x4096x1024 .bf16) (x2 : Vec F S1x4096x512 .bf16) (n : Nat) (s : St F) : St F where
  m := stack fun h => lift (max5 (k0_pay3 (qB x0 h) (kB5 x1 n h)) (slab s.m h))
  l := stack fun h => lift (sum5 (k0_pay3 (qB x0 h) (kB5 x1 n h)) (slab s.m h) (slab s.l h))
  a := stack fun p => mix (alpha5 (k0_pay3 (qB x0 (evenH p)) (kB5 x1 n (evenH p))) (slab s.m (evenH p)))
    (pv5 (k0_pay3 (qB x0 (evenH p)) (kB5 x1 n (evenH p))) (slab s.m (evenH p)) (vB5 x2 n p))
    (alpha5 (k0_pay3 (qB x0 (oddH p)) (kB5 x1 n (oddH p))) (slab s.m (oddH p)))
    (pv5 (k0_pay3 (qB x0 (oddH p)) (kB5 x1 n (oddH p))) (slab s.m (oddH p)) (vB5 x2 n p)) (slab s.a p)

/-- The step on 256 keys from key `n` on, with the scores `sc`. -/
def narrow (sc : Vec F S1x256x128 .bf16 → Vec F S1x256x128 .bf16 → FVec F S256x256 .f32) (x0 : Vec F S1x256x1024 .bf16)
    (x1 : Vec F S1x4096x1024 .bf16) (x2 : Vec F S1x4096x512 .bf16) (n : Nat) (s : St F) : St F where
  m := stack fun h => lift (max2 (sc (qB x0 h) (kB2 x1 n h)) (slab s.m h))
  l := stack fun h => lift (sum2 (sc (qB x0 h) (kB2 x1 n h)) (slab s.m h) (slab s.l h))
  a := stack fun p => mix (alpha2 (sc (qB x0 (evenH p)) (kB2 x1 n (evenH p))) (slab s.m (evenH p)))
    (pv2 (sc (qB x0 (evenH p)) (kB2 x1 n (evenH p))) (slab s.m (evenH p)) (vB2 x2 n p))
    (alpha2 (sc (qB x0 (oddH p)) (kB2 x1 n (oddH p))) (slab s.m (oddH p)))
    (pv2 (sc (qB x0 (oddH p)) (kB2 x1 n (oddH p))) (slab s.m (oddH p)) (vB2 x2 n p)) (slab s.a p)

/-- The state before the loop, and after `k` trips. -/
def start : St F := ⟨k0_pay370, k0_pay371, k0_pay372⟩

def loop (x0 : Vec F S1x256x1024 .bf16) (x1 : Vec F S1x4096x1024 .bf16) (x2 : Vec F S1x4096x512 .bf16) : Nat → St F
  | 0 => start
  | k + 1 => wide x0 x1 x2 (512 * k) (loop x0 x1 x2 k)

/-- The block stored from a final state. -/
def block (s : St F) : S1x256x512.Idx → Elt F .bf16 :=
  quad fun p => norm (slab s.l (evenH p)) (slab s.l (oddH p)) (slab s.a p)

theorem trips2 : ∀ i : grid0.Coords, Scf.trips (k0_t2_loop i).lb (k0_t2_loop i).ub (k0_t2_loop i).st = 0 := by decide +kernel

theorem whole8 {Val : EltTy → Type} [∀ e, Nonempty (Val e)] {e : EltTy} (w : S8x256x128.Idx → Val e)
    (inb : ∀ i, (![0, 0, 0] : Fin 3 → Nat) i + S8x256x128.size i ≤ S8x256x128.size i) :
    View.canon (Val := Val) (s := S8x256x128) (e := e) [⟨Rect.unit (s := S8x256x128) ![0, 0, 0] S8x256x128.size inb, w⟩] = w := by
  funext y
  have e := View.canon_cons_emb (Rect.unit (s := S8x256x128) ![0, 0, 0] S8x256x128.size inb) w [] y
  have hy : (Rect.unit (s := S8x256x128) ![0, 0, 0] S8x256x128.size inb).emb y = y := by
    funext a
    apply Fin.ext
    match a with
    | ⟨0, _⟩ => change 0 + 1 * (y 0).val = (y 0).val; omega
    | ⟨1, _⟩ => change 0 + 1 * (y 1).val = (y 1).val; omega
    | ⟨2, _⟩ => change 0 + 1 * (y 2).val = (y 2).val; omega
  rw [hy] at e
  exact e

theorem whole4 {Val : EltTy → Type} [∀ e, Nonempty (Val e)] {e : EltTy} (w : S4x256x128.Idx → Val e)
    (inb : ∀ i, (![0, 0, 0] : Fin 3 → Nat) i + S4x256x128.size i ≤ S4x256x128.size i) :
    View.canon (Val := Val) (s := S4x256x128) (e := e) [⟨Rect.unit (s := S4x256x128) ![0, 0, 0] S4x256x128.size inb, w⟩] = w := by
  funext y
  have e := View.canon_cons_emb (Rect.unit (s := S4x256x128) ![0, 0, 0] S4x256x128.size inb) w [] y
  have hy : (Rect.unit (s := S4x256x128) ![0, 0, 0] S4x256x128.size inb).emb y = y := by
    funext a
    apply Fin.ext
    match a with
    | ⟨0, _⟩ => change 0 + 1 * (y 0).val = (y 0).val; omega
    | ⟨1, _⟩ => change 0 + 1 * (y 1).val = (y 1).val; omega
    | ⟨2, _⟩ => change 0 + 1 * (y 2).val = (y 2).val; omega
  rw [hy] at e
  exact e

variable (c : Dev nD) (i : grid0.Coords) (arg2 : Memref sig .tc .vmem S1x256x1024 .bf16) (harg2 : arg2.IsWhole)
  (arg3 : Memref sig .tc .vmem S1x4096x1024 .bf16) (harg3 : arg3.IsWhole) (arg4 : Memref sig .tc .vmem S1x4096x512 .bf16)
  (harg4 : arg4.IsWhole) (arg5 : Memref sig .tc .vmem S1x256x512 .bf16) (harg5 : arg5.IsWhole)
  (arg6 : Memref sig .tc .vmem S8x256x128 .f32) (harg6 : arg6.IsWhole) (arg7 : Memref sig .tc .vmem S8x256x128 .f32)
  (harg7 : arg7.IsWhole) (arg8 : Memref sig .tc .vmem S4x256x128 .f32) (harg8 : arg8.IsWhole)
  (x0 : Vec F S1x256x1024 .bf16) (x1 : Vec F S1x4096x1024 .bf16) (x2 : Vec F S1x4096x512 .bf16)

/-- After `k` trips the scratch arrays hold the iterated state. -/
theorem loop_eq (a1 : BitVec 32) (v3 v4 : IVec S256x256 32) (v33 : BitVec 32) (G6 : BufTy.Contents (Elt F) arg6.view.ty)
    (G7 : BufTy.Contents (Elt F) arg7.view.ty) (G8 : BufTy.Contents (Elt F) arg8.view.ty)
    (h6 : arg6.view.read (Elt F) G6 = (start (F := F)).m) (h7 : arg7.view.read (Elt F) G7 = (start (F := F)).l)
    (h8 : arg8.view.read (Elt F) G8 = (start (F := F)).a) (k : Nat) (hk : k ≤ (k0_t1_loop i).trips) :
    arg6.view.read (Elt F) (arg6.view.writes (Elt F) G6 (pb_k0_t1 Variants.none c none i arg2 harg2 arg3 harg3 arg4 harg4 arg5 harg5 arg6 harg6 arg7 harg7 arg8 harg8 a1 k0_pay369 v3 v4 v33 (harg2.unread x0) (harg3.unread x1) (harg4.unread x2) G6 G7 G8 k).1) = (loop x0 x1 x2 k).m
    ∧ arg7.view.read (Elt F) (arg7.view.writes (Elt F) G7 (pb_k0_t1 Variants.none c none i arg2 harg2 arg3 harg3 arg4 harg4 arg5 harg5 arg6 harg6 arg7 harg7 arg8 harg8 a1 k0_pay369 v3 v4 v33 (harg2.unread x0) (harg3.unread x1) (harg4.unread x2) G6 G7 G8 k).2.1) = (loop x0 x1 x2 k).l
    ∧ arg8.view.read (Elt F) (arg8.view.writes (Elt F) G8 (pb_k0_t1 Variants.none c none i arg2 harg2 arg3 harg3 arg4 harg4 arg5 harg5 arg6 harg6 arg7 harg7 arg8 harg8 a1 k0_pay369 v3 v4 v33 (harg2.unread x0) (harg3.unread x1) (harg4.unread x2) G6 G7 G8 k).2.2) = (loop x0 x1 x2 k).a := by
  induction k with
  | zero => exact ⟨h6, h7, h8⟩
  | succ k ih =>
    obtain ⟨i6, i7, i8⟩ := ih (by omega)
    rw [pb_k0_t1_succ Variants.none c none i arg2 harg2 arg3 harg3 arg4 harg4 arg5 harg5 arg6 harg6 arg7 harg7 arg8 harg8 a1 k0_pay369
      v3 v4 v33 (harg2.unread x0) (harg3.unread x1) (harg4.unread x2) G6 G7 G8 ⟨k, hk⟩]
    dsimp only [tripL_k0_t1]
    rw [View.writes_append, View.writes_append, View.writes_append, trip_max, trip_sum, trip_acc, i6, i7, i8, harg2.read_unread,
      harg3.read_unread, harg4.read_unread]
    exact ⟨rfl, rfl, rfl⟩

theorem baseA6 : View.canon (CaseA.base6 c i arg2 harg2 arg3 harg3 arg4 harg4 arg5 harg5 arg6 harg6 arg7 harg7 arg8 harg8 x0 x1 x2) = (loop x0 x1 x2 ((i 1).val / 2)).m := by
  unfold CaseA.base6 kernelRun0_A.sl.HS0_1_1
  rw [List.tail_cons, trips2 i]
  refine Eq.trans ?_ ((loop_eq c i arg2 harg2 arg3 harg3 arg4 harg4 arg5 harg5 arg6 harg6 arg7 harg7 arg8 harg8 x0 x1 x2
    (BitVec.ofNat 32 (i 1).val) kernelRun0_A.sl.v3 kernelRun0_A.sl.v4 (kernelRun0_A.sl.v33 i) (arg6.view.writes (Elt F) arg6.view.junk kernelRun0_A.sl.HS0_1)
    (arg7.view.writes (Elt F) arg7.view.junk kernelRun0_A.sl.HS1_1) (arg8.view.writes (Elt F) arg8.view.junk kernelRun0_A.sl.HS2_1)
    ((View.read_writes_junk_eq_canon _ _).trans (whole8 _ _)) ((View.read_writes_junk_eq_canon _ _).trans (whole8 _ _))
    ((View.read_writes_junk_eq_canon _ _).trans (whole4 _ _)) ((i 1).val / 2) (le_of_eq (trips1 i).symm)).1)
  rw [← View.writes_append, View.read_writes_junk_eq_canon, ← trips1 i]
  rfl

theorem baseA7 : View.canon (CaseA.base7 c i arg2 harg2 arg3 harg3 arg4 harg4 arg5 harg5 arg6 harg6 arg7 harg7 arg8 harg8 x0 x1 x2) = (loop x0 x1 x2 ((i 1).val / 2)).l := by
  unfold CaseA.base7 kernelRun0_A.sl.HS1_1_1
  rw [List.tail_cons, trips2 i]
  refine Eq.trans ?_ ((loop_eq c i arg2 harg2 arg3 harg3 arg4 harg4 arg5 harg5 arg6 harg6 arg7 harg7 arg8 harg8 x0 x1 x2
    (BitVec.ofNat 32 (i 1).val) kernelRun0_A.sl.v3 kernelRun0_A.sl.v4 (kernelRun0_A.sl.v33 i) (arg6.view.writes (Elt F) arg6.view.junk kernelRun0_A.sl.HS0_1)
    (arg7.view.writes (Elt F) arg7.view.junk kernelRun0_A.sl.HS1_1) (arg8.view.writes (Elt F) arg8.view.junk kernelRun0_A.sl.HS2_1)
    ((View.read_writes_junk_eq_canon _ _).trans (whole8 _ _)) ((View.read_writes_junk_eq_canon _ _).trans (whole8 _ _))
    ((View.read_writes_junk_eq_canon _ _).trans (whole4 _ _)) ((i 1).val / 2) (le_of_eq (trips1 i).symm)).2.1)
  rw [← View.writes_append, View.read_writes_junk_eq_canon, ← trips1 i]
  rfl

theorem baseA8 : View.canon (CaseA.base8 c i arg2 harg2 arg3 harg3 arg4 harg4 arg5 harg5 arg6 harg6 arg7 harg7 arg8 harg8 x0 x1 x2) = (loop x0 x1 x2 ((i 1).val / 2)).a := by
  unfold CaseA.base8 kernelRun0_A.sl.HS2_1_1
  rw [List.tail_cons, trips2 i]
  refine Eq.trans ?_ ((loop_eq c i arg2 harg2 arg3 harg3 arg4 harg4 arg5 harg5 arg6 harg6 arg7 harg7 arg8 harg8 x0 x1 x2
    (BitVec.ofNat 32 (i 1).val) kernelRun0_A.sl.v3 kernelRun0_A.sl.v4 (kernelRun0_A.sl.v33 i) (arg6.view.writes (Elt F) arg6.view.junk kernelRun0_A.sl.HS0_1)
    (arg7.view.writes (Elt F) arg7.view.junk kernelRun0_A.sl.HS1_1) (arg8.view.writes (Elt F) arg8.view.junk kernelRun0_A.sl.HS2_1)
    ((View.read_writes_junk_eq_canon _ _).trans (whole8 _ _)) ((View.read_writes_junk_eq_canon _ _).trans (whole8 _ _))
    ((View.read_writes_junk_eq_canon _ _).trans (whole4 _ _)) ((i 1).val / 2) (le_of_eq (trips1 i).symm)).2.2)
  rw [← View.writes_append, View.read_writes_junk_eq_canon, ← trips1 i]
  rfl

theorem baseB6 (hc0 : cond0_0 i) : View.canon (CaseB.base6 c i arg2 harg2 arg3 harg3 arg4 harg4 arg5 harg5 arg6 harg6 arg7 harg7 arg8 harg8 hc0 x0 x1 x2) = (loop x0 x1 x2 ((i 1).val / 2)).m := by
  unfold CaseB.base6 kernelRun0_B.sl.HS0_1_1
  rw [List.tail_cons, trips2 i]
  refine Eq.trans ?_ ((loop_eq c i arg2 harg2 arg3 harg3 arg4 harg4 arg5 harg5 arg6 harg6 arg7 harg7 arg8 harg8 x0 x1 x2
    (BitVec.ofNat 32 (i 1).val) kernelRun0_B.sl.v3 kernelRun0_B.sl.v4 (kernelRun0_B.sl.v33 i) (arg6.view.writes (Elt F) arg6.view.junk kernelRun0_B.sl.HS0_1)
    (arg7.view.writes (Elt F) arg7.view.junk kernelRun0_B.sl.HS1_1) (arg8.view.writes (Elt F) arg8.view.junk kernelRun0_B.sl.HS2_1)
    ((View.read_writes_junk_eq_canon _ _).trans (whole8 _ _)) ((View.read_writes_junk_eq_canon _ _).trans (whole8 _ _))
    ((View.read_writes_junk_eq_canon _ _).trans (whole4 _ _)) ((i 1).val / 2) (le_of_eq (trips1 i).symm)).1)
  rw [← View.writes_append, View.read_writes_junk_eq_canon, ← trips1 i]
  rfl

theorem baseB7 (hc0 : cond0_0 i) : View.canon (CaseB.base7 c i arg2 harg2 arg3 harg3 arg4 harg4 arg5 harg5 arg6 harg6 arg7 harg7 arg8 harg8 hc0 x0 x1 x2) = (loop x0 x1 x2 ((i 1).val / 2)).l := by
  unfold CaseB.base7 kernelRun0_B.sl.HS1_1_1
  rw [List.tail_cons, trips2 i]
  refine Eq.trans ?_ ((loop_eq c i arg2 harg2 arg3 harg3 arg4 harg4 arg5 harg5 arg6 harg6 arg7 harg7 arg8 harg8 x0 x1 x2
    (BitVec.ofNat 32 (i 1).val) kernelRun0_B.sl.v3 kernelRun0_B.sl.v4 (kernelRun0_B.sl.v33 i) (arg6.view.writes (Elt F) arg6.view.junk kernelRun0_B.sl.HS0_1)
    (arg7.view.writes (Elt F) arg7.view.junk kernelRun0_B.sl.HS1_1) (arg8.view.writes (Elt F) arg8.view.junk kernelRun0_B.sl.HS2_1)
    ((View.read_writes_junk_eq_canon _ _).trans (whole8 _ _)) ((View.read_writes_junk_eq_canon _ _).trans (whole8 _ _))
    ((View.read_writes_junk_eq_canon _ _).trans (whole4 _ _)) ((i 1).val / 2) (le_of_eq (trips1 i).symm)).2.1)
  rw [← View.writes_append, View.read_writes_junk_eq_canon, ← trips1 i]
  rfl

theorem baseB8 (hc0 : cond0_0 i) : View.canon (CaseB.base8 c i arg2 harg2 arg3 harg3 arg4 harg4 arg5 harg5 arg6 harg6 arg7 harg7 arg8 harg8 hc0 x0 x1 x2) = (loop x0 x1 x2 ((i 1).val / 2)).a := by
  unfold CaseB.base8 kernelRun0_B.sl.HS2_1_1
  rw [List.tail_cons, trips2 i]
  refine Eq.trans ?_ ((loop_eq c i arg2 harg2 arg3 harg3 arg4 harg4 arg5 harg5 arg6 harg6 arg7 harg7 arg8 harg8 x0 x1 x2
    (BitVec.ofNat 32 (i 1).val) kernelRun0_B.sl.v3 kernelRun0_B.sl.v4 (kernelRun0_B.sl.v33 i) (arg6.view.writes (Elt F) arg6.view.junk kernelRun0_B.sl.HS0_1)
    (arg7.view.writes (Elt F) arg7.view.junk kernelRun0_B.sl.HS1_1) (arg8.view.writes (Elt F) arg8.view.junk kernelRun0_B.sl.HS2_1)
    ((View.read_writes_junk_eq_canon _ _).trans (whole8 _ _)) ((View.read_writes_junk_eq_canon _ _).trans (whole8 _ _))
    ((View.read_writes_junk_eq_canon _ _).trans (whole4 _ _)) ((i 1).val / 2) (le_of_eq (trips1 i).symm)).2.2)
  rw [← View.writes_append, View.read_writes_junk_eq_canon, ← trips1 i]
  rfl

/-- What an even block of queries stores: the loop, then the block on the diagonal. -/
theorem outA (hc0 : ¬cond0_0 i) : out0_A_3 c i arg2 harg2 arg3 harg3 arg4 harg4 arg5 harg5 arg6 harg6 arg7 harg7 arg8 harg8 hc0 x0 x1 x2
    = block (narrow scC x0 x1 x2 (256 * (i 1).val) (loop x0 x1 x2 ((i 1).val / 2))) := by
  rw [CaseA.out, CaseA.sumD, CaseA.accD, baseA6, baseA7, baseA8]
  rfl

/-- What an odd block of queries stores: the loop, one more full block of 256 keys, then the block on the diagonal. -/
theorem outB (hc0 : cond0_0 i) : out0_B_3 c i arg2 harg2 arg3 harg3 arg4 harg4 arg5 harg5 arg6 harg6 arg7 harg7 arg8 harg8 hc0 x0 x1 x2
    = block (narrow scC x0 x1 x2 (256 * (i 1).val) (narrow scU x0 x1 x2 (256 * ((i 1).val - 1)) (loop x0 x1 x2 ((i 1).val / 2)))) := by
  rw [CaseB.out, CaseB.sumD, CaseB.accD, CaseB.maxU, CaseB.sumU, CaseB.accU, baseB6, baseB7, baseB8]
  rfl

end Cert.KernelIdeal.Hand
-- ==== Proof.Softmax.lean ====
/- The mathematics of the streamed softmax over the extended reals: a running maximum, a running sum of weights kept
   in 128 lanes and a running weighted sum, rescaled each time the maximum moves, end at the plain softmax average. -/
module

public import Idealize.ShloMosaic.PureOps.Ideal
public import Idealize.ShloMosaic.PureOps.Ideal.Laws

@[expose] public section

noncomputable section

namespace Cert.Proof.Softmax

open Idealize.ShloMosaic Finset

/-! ### Powers of two of extended reals -/

/-- Below plus infinity a power of two is a real that is not negative. -/
theorem exp2_real {z : EReal} (hz : z ≠ ⊤) : ∃ r : ℝ, 0 ≤ r ∧ Ideal.exp2 z = (r : EReal) := by
  induction z using EReal.rec with
  | bot => exact ⟨0, le_rfl, by simp⟩
  | coe x => exact ⟨Real.rpow 2 x, Real.rpow_nonneg (by norm_num) x, by simp⟩
  | top => exact absurd rfl hz

theorem exp2_nonneg {z : EReal} (hz : z ≠ ⊤) : 0 ≤ Ideal.exp2 z := by
  obtain ⟨r, h0, h⟩ := exp2_real hz
  rw [h]; exact_mod_cast h0

theorem exp2_ne_top {z : EReal} (hz : z ≠ ⊤) : Ideal.exp2 z ≠ ⊤ := by
  obtain ⟨r, -, h⟩ := exp2_real hz
  rw [h]; exact EReal.coe_ne_top r

/-- A difference of a value below plus infinity and a value above it is below plus infinity. -/
theorem sub_ne_top {x m : EReal} (hm : m ≠ ⊤) (h : x ≤ m) : x - m ≠ ⊤ := by
  induction m using EReal.rec with
  | bot => obtain rfl := le_bot_iff.mp h; simp
  | top => exact absurd rfl hm
  | coe m =>
    induction x using EReal.rec with
    | bot => simp
    | top => exact absurd (top_le_iff.mp h) hm
    | coe x => rw [← EReal.coe_sub]; exact EReal.coe_ne_top _

/-- Moving a weight from the maximum `m` to the maximum `m'`: one factor does it, whatever of the three is minus
    infinity. -/
theorem exp2_move {x m m' : EReal} (hx : x ≤ m) (hm : m ≤ m') (ht : m' ≠ ⊤) :
    Ideal.exp2 (m - m') * Ideal.exp2 (x - m) = Ideal.exp2 (x - m') := by
  induction m using EReal.rec with
  | bot =>
    obtain rfl := le_bot_iff.mp hx
    simp
  | top => exact absurd (top_le_iff.mp hm) ht
  | coe m =>
    induction m' using EReal.rec with
    | bot => exact absurd (le_bot_iff.mp hm) (EReal.coe_ne_bot m)
    | top => exact absurd rfl ht
    | coe m' =>
      induction x using EReal.rec with
      | bot => simp
      | top => exact absurd (top_le_iff.mp hx) (EReal.coe_ne_top m)
      | coe x =>
        rw [← EReal.coe_sub, ← EReal.coe_sub, ← EReal.coe_sub, Ideal.exp2_coe, Ideal.exp2_coe, Ideal.exp2_coe,
          ← EReal.coe_mul]
        congr 1
        show (2 : ℝ) ^ (m - m') * (2 : ℝ) ^ (x - m) = (2 : ℝ) ^ (x - m')
        rw [← Real.rpow_add (by norm_num)]
        congr 1; ring

/-- A factor that is a real and not negative goes into a sum. -/
theorem mul_sum_real {ι : Type} (s : Finset ι) (f : ι → EReal) {c : EReal} (h0 : 0 ≤ c) (ht : c ≠ ⊤) :
    c * ∑ j ∈ s, f j = ∑ j ∈ s, c * f j := by
  classical
  induction s using Finset.induction_on with
  | empty => simp
  | insert a s ha ih => rw [sum_insert ha, sum_insert ha, EReal.left_distrib_of_nonneg_of_ne_top h0 ht, ih]

/-- A sum of reals, read among the extended reals. -/
theorem coe_sum_real {ι : Type} (s : Finset ι) (f : ι → ℝ) : ((∑ j ∈ s, f j : ℝ) : EReal) = ∑ j ∈ s, (f j : EReal) := by
  classical
  induction s using Finset.induction_on with
  | empty => simp
  | insert a s ha ih => rw [sum_insert ha, sum_insert ha, EReal.coe_add, ih]

/-! ### The running state -/

section State

variable (y v : ℕ → EReal)

/-- The maximum of the first `n` scores, minus infinity before the first. -/
def mx (n : ℕ) : EReal := (range n).sup y

/-- Lane `a` of the sum of the weights of the first `128 t` keys. -/
def ls (t a : ℕ) : EReal := ∑ c ∈ range t, Ideal.exp2 (y (128 * c + a) - mx y (128 * t))

/-- The weighted sum of the values of the first `n` keys. -/
def ac (n : ℕ) : EReal := ∑ j ∈ range n, Ideal.exp2 (y j - mx y n) * v j

variable {y v}

theorem mx_ne_top (hy : ∀ j, y j ≠ ⊤) (n : ℕ) : mx y n ≠ ⊤ := by
  refine ne_of_lt ((Finset.sup_lt_iff bot_lt_top).mpr fun j _ => lt_top_iff_ne_top.mpr (hy j))

theorem le_mx {j n : ℕ} (h : j < n) : y j ≤ mx y n := Finset.le_sup (f := y) (mem_range.mpr h)

theorem mx_mono {n n' : ℕ} (h : n ≤ n') : mx y n ≤ mx y n' := Finset.sup_mono (range_mono h)

theorem mx_zero : mx y 0 = ⊥ := rfl

theorem mx_add (n w : ℕ) : mx y (n + w) = max (mx y n) ((univ : Finset (Fin w)).sup fun k => y (n + k)) := by
  refine le_antisymm (Finset.sup_le fun j hj => ?_) (max_le (mx_mono (Nat.le_add_right _ _)) (Finset.sup_le fun k _ => le_mx (by omega)))
  rw [mem_range] at hj
  by_cases h : j < n
  · exact le_max_of_le_left (le_mx h)
  · refine le_max_of_le_right (le_trans (le_of_eq ?_) (Finset.le_sup (mem_univ (⟨j - n, by omega⟩ : Fin w))))
    show y j = y (n + (j - n))
    congr 1; omega

theorem ls_zero (a : ℕ) : ls y 0 a = 0 := rfl

theorem ac_zero : ac y v 0 = 0 := rfl

/-- The lane sums after `w` more blocks of 128 keys. -/
theorem ls_add (hy : ∀ j, y j ≠ ⊤) (t w a : ℕ) (ha : a < 128) :
    ls y (t + w) a = Ideal.exp2 (mx y (128 * t) - mx y (128 * (t + w))) * ls y t a
      + ∑ c ∈ range w, Ideal.exp2 (y (128 * (t + c) + a) - mx y (128 * (t + w))) := by
  have hm : mx y (128 * t) ≤ mx y (128 * (t + w)) := mx_mono (by omega)
  have hz := sub_ne_top (mx_ne_top hy _) hm
  unfold ls
  rw [sum_range_add, mul_sum_real _ _ (exp2_nonneg hz) (exp2_ne_top hz)]
  congr 1
  refine sum_congr rfl fun c hc => ?_
  rw [mem_range] at hc
  rw [exp2_move (le_mx (by omega)) hm (mx_ne_top hy _)]

/-- The weighted sum after `w` more keys. -/
theorem ac_add (hy : ∀ j, y j ≠ ⊤) (n w : ℕ) :
    ac y v (n + w) = ac y v n * Ideal.exp2 (mx y n - mx y (n + w))
      + ∑ k : Fin w, Ideal.exp2 (y (n + k) - mx y (n + w)) * v (n + k) := by
  have hm : mx y n ≤ mx y (n + w) := mx_mono (by omega)
  have hz := sub_ne_top (mx_ne_top hy _) hm
  unfold ac
  rw [sum_range_add, mul_comm, mul_sum_real _ _ (exp2_nonneg hz) (exp2_ne_top hz)]
  congr 1
  · refine sum_congr rfl fun j hj => ?_
    rw [mem_range] at hj
    rw [← mul_assoc, exp2_move (le_mx hj) hm (mx_ne_top hy _)]
  · exact (Fin.sum_univ_eq_sum_range (fun k => Ideal.exp2 (y (n + k) - mx y (n + w)) * v (n + k)) w).symm

/-- The 128 lane sums add up to the sum of all weights. -/
theorem sum_ls (t : ℕ) : ∑ a : Fin 128, ls y t a = ∑ j ∈ range (128 * t), Ideal.exp2 (y j - mx y (128 * t)) := by
  have key : ∀ (f : ℕ → EReal) (t : ℕ), ∑ j ∈ range (128 * t), f j = ∑ c ∈ range t, ∑ a ∈ range 128, f (128 * c + a) := by
    intro f t
    induction t with
    | zero => simp
    | succ t ih => rw [Nat.mul_succ, sum_range_add, ih, sum_range_succ (fun c => ∑ a ∈ range 128, f (128 * c + a)) t]
  rw [key]
  rw [Fin.sum_univ_eq_sum_range (fun a => ls y t a) 128]
  unfold ls
  exact sum_comm

end State

/-! ### The streamed softmax is the softmax -/

/-- A positive real factor goes into a difference. -/
theorem sub_mul_real (x m : EReal) (hm : m ≠ ⊥) (hm' : m ≠ ⊤) (hx : x ≠ ⊤) {c : ℝ} (hc : 0 < c) :
    x * c - m * c = (x - m) * c := by
  induction m using EReal.rec with
  | bot => exact absurd rfl hm
  | top => exact absurd rfl hm'
  | coe m =>
    induction x using EReal.rec with
    | bot =>
      rw [EReal.bot_mul_coe_of_pos hc, EReal.bot_sub, EReal.bot_sub, EReal.bot_mul_coe_of_pos hc]
    | top => exact absurd rfl hx
    | coe x => norm_cast; ring

/-- `2 ^ (z / ln 2) = e ^ z`. -/
theorem exp2_log (z : EReal) : Ideal.exp2 (z * ((Real.log 2)⁻¹ : ℝ)) = Ideal.exp z := by
  have hl : 0 < (Real.log 2)⁻¹ := inv_pos.mpr (Real.log_pos (by norm_num))
  induction z using EReal.rec with
  | bot => rw [EReal.bot_mul_coe_of_pos hl]; simp
  | top => rw [EReal.top_mul_coe_of_pos hl]; simp
  | coe z =>
    rw [← EReal.coe_mul, Ideal.exp2_coe, Ideal.exp_coe]
    congr 1
    show (2 : ℝ) ^ (z * (Real.log 2)⁻¹) = Real.exp z
    rw [Real.rpow_def_of_pos (by norm_num)]
    congr 1
    have : Real.log 2 ≠ 0 := (Real.log_pos (by norm_num)).ne'
    field_simp

/-- The streamed state over `128 t` keys, of scores `x / ln 2`, gives the softmax average of the values over all `N`
    keys, where the keys past the first `128 t` are masked: the first score is a real, none is plus infinity. -/
theorem stream_eq (x v : ℕ → EReal) (t N : ℕ) (hN : 128 * t ≤ N) (ht : 0 < t) (hx : ∀ j, x j ≠ ⊤) (h0 : x 0 ≠ ⊥)
    (hmask : ∀ j, 128 * t ≤ j → j < N → x j = ⊥) :
    let y : ℕ → EReal := fun j => x j * ((Real.log 2)⁻¹ : ℝ)
    ac y v (128 * t) * Ideal.div 1 (∑ a : Fin 128, ls y t a)
      = ∑ j : Fin N, v j * Ideal.div (Ideal.exp (x j - mx x N)) (0 + ∑ k : Fin N, Ideal.exp (x k - mx x N)) := by
  intro y
  have hl : 0 < (Real.log 2)⁻¹ := inv_pos.mpr (Real.log_pos (by norm_num))
  have hMt : mx x N ≠ ⊤ := mx_ne_top hx N
  have hMb : mx x N ≠ ⊥ := fun h => h0 (le_bot_iff.mp (h ▸ le_mx (by omega)))
  -- the masked keys do not move the maximum
  have hMN : mx x N = mx x (128 * t) := by
    refine le_antisymm (Finset.sup_le fun j hj => ?_) (mx_mono hN)
    rw [mem_range] at hj
    by_cases h : j < 128 * t
    · exact le_mx h
    · rw [hmask j (by omega) hj]; exact bot_le
  have hMy : mx y (128 * t) = mx x (128 * t) * ((Real.log 2)⁻¹ : ℝ) := by
    refine ((Finset.comp_sup_eq_sup_comp_of_is_total (fun z : EReal => z * ((Real.log 2)⁻¹ : ℝ)) ?_ ?_)).symm
    · exact fun a b hab => mul_le_mul_of_nonneg_right hab (by exact_mod_cast hl.le)
    · exact EReal.bot_mul_coe_of_pos hl
  have he : ∀ j, Ideal.exp2 (y j - mx y (128 * t)) = Ideal.exp (x j - mx x N) := fun j => by
    rw [hMy, ← hMN, sub_mul_real _ _ hMb hMt (hx j) hl, exp2_log]
  have hz : ∀ j, 128 * t ≤ j → j < N → Ideal.exp (x j - mx x N) = 0 := fun j h h' => by
    rw [hmask j h h', EReal.bot_sub, Ideal.exp_bot]
  have cut : ∀ f : ℕ → EReal, (∀ j, 128 * t ≤ j → j < N → f j = 0) → ∑ j : Fin N, f j = ∑ j ∈ range (128 * t), f j := by
    intro f hf
    rw [Fin.sum_univ_eq_sum_range f N]
    refine (sum_subset (range_mono hN) fun j hj hj' => ?_).symm
    rw [mem_range] at hj hj'
    exact hf j (by omega) hj
  -- the sum of the weights is a positive real
  have hr : ∀ j, j < N → ∃ r : ℝ, 0 ≤ r ∧ Ideal.exp (x j - mx x N) = (r : EReal) := fun j hj => by
    have := sub_ne_top hMt (le_mx (y := x) hj)
    generalize x j - mx x N = z at this
    induction z using EReal.rec with
    | bot => exact ⟨0, le_rfl, by simp⟩
    | coe z => exact ⟨Real.exp z, (Real.exp_pos z).le, by simp⟩
    | top => exact absurd rfl this
  choose! e he0 hee using hr
  have hD : (0 + ∑ k : Fin N, Ideal.exp (x k - mx x N)) = ((∑ k : Fin N, e k : ℝ) : EReal) := by
    rw [zero_add, coe_sum_real]
    exact sum_congr rfl fun k _ => hee k k.isLt
  have hpos : 0 < ∑ k : Fin N, e k := by
    refine sum_pos' (fun k _ => he0 k k.isLt) ⟨⟨0, by omega⟩, mem_univ _, ?_⟩
    have h1 := hee 0 (by omega)
    have h2 : x 0 - mx x N ≠ ⊥ := by
      have ha := hx 0
      generalize x 0 = a at h0 ha
      generalize mx x N = b at hMt hMb
      induction a using EReal.rec with
      | bot => exact absurd rfl h0
      | top => exact absurd rfl ha
      | coe a =>
        induction b using EReal.rec with
        | bot => exact absurd rfl hMb
        | top => exact absurd rfl hMt
        | coe b => rw [← EReal.coe_sub]; exact EReal.coe_ne_bot _
    have h3 := sub_ne_top hMt (le_mx (y := x) (show 0 < N by omega))
    generalize x 0 - mx x N = z at h1 h2 h3
    induction z using EReal.rec with
    | bot => exact absurd rfl h2
    | top => exact absurd rfl h3
    | coe z =>
      rw [Ideal.exp_coe] at h1
      have : Real.exp z = e 0 := by exact_mod_cast h1
      show 0 < e 0
      rw [← this]; exact Real.exp_pos z
  have hne : ((∑ k : Fin N, e k : ℝ) : EReal) ≠ 0 := by exact_mod_cast hpos.ne'
  have hdiv : ∀ z : EReal, Ideal.div z ((∑ k : Fin N, e k : ℝ) : EReal) = z * (((∑ k : Fin N, e k)⁻¹ : ℝ) : EReal) := fun z => by
    rw [Ideal.div, if_neg hne, EReal.coe_inv]
  have hL : ∑ a : Fin 128, ls y t a = ((∑ k : Fin N, e k : ℝ) : EReal) := by
    rw [sum_ls, ← hD, zero_add, cut _ hz]
    exact sum_congr rfl fun j _ => he j
  rw [hD, hL, hdiv, one_mul]
  unfold ac
  rw [mul_comm, mul_sum_real _ _ (by exact_mod_cast (inv_pos.mpr hpos).le) (EReal.coe_ne_top _)]
  rw [cut (fun j => v j * Ideal.div (Ideal.exp (x j - mx x N)) ((∑ k : Fin N, e k : ℝ) : EReal))]
  · refine sum_congr rfl fun j _ => ?_
    rw [hdiv, he, mul_comm (v j), mul_comm, mul_right_comm]
  · intro j h h'
    show v j * Ideal.div (Ideal.exp (x j - mx x N)) _ = 0
    rw [hz j h h', hdiv, zero_mul, mul_zero]

end Cert.Proof.Softmax

end
-- ==== Proof.Read.lean ====
module

public import proofs.«01_k».proof.Proof.Loop
public import proofs.«01_k».proof.Proof.Softmax
public import Idealize.ShloMosaic.Lib.Pointwise

@[expose] public section

/-! The steps read at an index over the extended reals, and the invariant of the streamed softmax: after `128 t` keys the
    scratch arrays hold the maxima, lane sums and weighted sums of those keys. -/

set_option maxRecDepth 16384

noncomputable section

namespace Cert.KernelIdeal.Hand

open Cert.KernelIdeal Cert.KernelIdeal.Gen Idealize.ShloMosaic Cert.Proof.Softmax Finset

/-- The factor of the scores. -/
abbrev scale2 : EReal := (((3424635 / 33554432) * (Real.log 2)⁻¹ : ℝ) : EReal)

theorem scale2_named : Named.named (F := Ideal) (φ := .f32) κ "scale2" 0x3E16C740#32 = scale2 := rfl

theorem bot_bits : Ideal.ofBits FTy.f32 0xFF800000#32 = ⊥ := by
  simp [Ideal.ofBits, Ideal.ieee]

variable {S : Shape}

theorem max_at (a b : FVec Ideal S .f32) (x : S.Idx) : maximumf a b x = max (a x) (b x) := rfl
theorem add_at (a b : FVec Ideal S .f32) (x : S.Idx) : addf a b x = a x + b x := rfl
theorem mul_at (a b : FVec Ideal S .f32) (x : S.Idx) : mulf a b x = a x * b x := rfl
theorem sub_at (a b : FVec Ideal S .f32) (x : S.Idx) : subf a b x = a x - b x := rfl
theorem pow_at (a : FVec Ideal S .f32) (x : S.Idx) : exp2 a x = Ideal.exp2 (a x) := rfl

theorem flat_at (m : Vec Ideal S1x256x128 .f32) (r : Fin 256) (l : Fin 128) : flat m (ix2 r l) = m (ix3 0 r l) := by
  pointwise [flat]

theorem lift_at (w : FVec Ideal S256x128 .f32) (r : Fin 256) (l : Fin 128) : lift w (ix3 0 r l) = w (ix2 r l) := by
  pointwise [lift]

theorem rowMax_at (t : FVec Ideal S256x128 .f32) (r : Fin 256) (l : Fin 128) :
    rowMax t (ix2 r l) = univ.sup fun k : Fin 128 => t (ix2 r k) := by
  pointwise [rowMax]
  rw [bot_bits]
  rfl

theorem tile5_at (s : FVec Ideal S256x512 .f32) (a : Fin 4) (r : Fin 256) (l : Fin 128) :
    tile5 s a (ix2 r l) = s (ix2 r ⟨128 * a.val + l.val, by omega⟩) := by
  match a with
  | 0 => pointwise [tile5]
  | 1 => pointwise [tile5]
  | 2 => pointwise [tile5]
  | 3 => pointwise [tile5]

theorem tile2_at (s : FVec Ideal S256x256 .f32) (a : Fin 2) (r : Fin 256) (l : Fin 128) :
    tile2 s a (ix2 r l) = s (ix2 r ⟨128 * a.val + l.val, by omega⟩) := by
  match a with
  | 0 => pointwise [tile2]
  | 1 => pointwise [tile2]

theorem score5_at (q : Vec Ideal S1x256x128 .bf16) (k : Vec Ideal S1x512x128 .bf16) (r : Fin 256) (j : Fin 512) :
    k0_pay3 q k (ix2 r j) = (∑ d : Fin 128, q (ix3 0 r d) * k (ix3 0 j d)) * scale2 := by
  pointwise [k0_pay3]
  rw [scale2_named]

theorem scU_at (q k : Vec Ideal S1x256x128 .bf16) (r : Fin 256) (j : Fin 256) :
    scU q k (ix2 r j) = (∑ d : Fin 128, q (ix3 0 r d) * k (ix3 0 j d)) * scale2 := by
  pointwise [scU, k0_pay269]
  rw [scale2_named]

theorem sle_of : ∀ r j : Fin 256, IntOp.cmpi .sle (BitVec.ofNat 32 j.val) (BitVec.ofNat 32 r.val) = if j.val ≤ r.val then 1#1 else 0#1 := by
  intro r j
  rw [WordCmp.cmpi_sle_ofNat (by omega) (by omega)]
  by_cases h : j.val ≤ r.val
  · rw [if_pos h, decide_eq_true h]; rfl
  · rw [if_neg h, decide_eq_false h]; rfl

theorem scC_at (q k : Vec Ideal S1x256x128 .bf16) (r : Fin 256) (j : Fin 256) :
    scC q k (ix2 r j) = if j.val ≤ r.val then (∑ d : Fin 128, q (ix3 0 r d) * k (ix3 0 j d)) * scale2 else ⊥ := by
  pointwise [scC, k0_pay380]
  rw [sle_of, scale2_named, bot_bits]
  by_cases h : j.val ≤ r.val
  · rw [if_pos h, if_pos h]; rfl
  · rw [if_neg h, if_neg h]; rfl

theorem slt_of : ∀ l : Fin 128, IntOp.cmpi .slt (BitVec.ofNat 32 l.val) 64#32 = if l.val < 64 then 1#1 else 0#1 := by
  decide +kernel

theorem mask_at (r : Fin 256) (l : Fin 128) (x y : FVec Ideal S256x128 .f32) :
    select k0_pay369 x y (ix2 r l) = if l.val < 64 then x (ix2 r l) else y (ix2 r l) := by
  pointwise [k0_pay369]
  rw [slt_of]
  by_cases h : l.val < 64
  · rw [if_pos h, if_pos h]; rfl
  · rw [if_neg h, if_neg h]; rfl

theorem norm_at (l0 l1 acc : Vec Ideal S1x256x128 .f32) (r : Fin 256) (l : Fin 128) :
    norm l0 l1 acc (ix3 0 r l) = acc (ix3 0 r l)
      * (if l.val < 64 then Ideal.div 1 (∑ a, l0 (ix3 0 r a)) else Ideal.div 1 (∑ a, l1 (ix3 0 r a))) := by
  pointwise [norm, k0_pay481, k0_pay369]
  rw [slt_of]
  by_cases h : l.val < 64
  · rw [if_pos h, if_pos h]; rfl
  · rw [if_neg h, if_neg h]; rfl

theorem start_m (y : (Stk 8).Idx) : (start (F := Ideal)).m y = ⊥ := by
  unfold start
  pointwise [k0_pay370]
  exact bot_bits

theorem start_l (y : (Stk 8).Idx) : (start (F := Ideal)).l y = 0 := by
  unfold start
  pointwise [k0_pay371]

theorem start_a (y : (Stk 4).Idx) : (start (F := Ideal)).a y = 0 := by
  unfold start
  pointwise [k0_pay372]

theorem sup_tiles {n : ℕ} (f : ℕ → EReal) (w : ℕ) (hw : w = 128 * n) :
    (univ.sup fun l : Fin 128 => univ.sup fun a : Fin n => f (128 * a.val + l.val)) = (univ : Finset (Fin w)).sup fun k => f k.val := by
  subst hw
  refine le_antisymm (Finset.sup_le fun l _ => Finset.sup_le fun a _ => ?_) (Finset.sup_le fun k _ => ?_)
  · exact Finset.le_sup (f := fun k : Fin (128 * n) => f k.val) (mem_univ (⟨128 * a.val + l.val, by omega⟩ : Fin (128 * n)))
  · have h1 := Finset.le_sup (f := fun a : Fin n => f (128 * a.val + (⟨k.val % 128, Nat.mod_lt _ (by decide)⟩ : Fin 128).val))
      (mem_univ (⟨k.val / 128, by have := k.isLt; omega⟩ : Fin n))
    have h2 := Finset.le_sup (f := fun l : Fin 128 => univ.sup fun a : Fin n => f (128 * a.val + l.val))
      (mem_univ (⟨k.val % 128, Nat.mod_lt _ (by decide)⟩ : Fin 128))
    refine le_trans (le_of_eq ?_) (le_trans h1 h2)
    exact congrArg f (Nat.div_add_mod k.val 128).symm

section step
variable {y v : ℕ → EReal} (hy : ∀ j, y j ≠ ⊤) (t : ℕ) (r : Fin 256)

theorem max5_at (s : FVec Ideal S256x512 .f32) (m : Vec Ideal S1x256x128 .f32) (hs : ∀ k : Fin 512, s (ix2 r k) = y (128 * t + k.val))
    (hm : ∀ l, m (ix3 0 r l) = mx y (128 * t)) (l : Fin 128) : max5 s m (ix2 r l) = mx y (128 * (t + 4)) := by
  have e : max5 s m (ix2 r l) = max (flat m (ix2 r l)) (univ.sup fun l : Fin 128 => univ.sup fun a : Fin 4 => y (128 * t + (128 * a.val + l.val))) := by
    unfold max5
    rw [max_at, rowMax_at]
    refine congrArg _ (Finset.sup_congr rfl fun l _ => ?_)
    simp only [max_at, tile5_at, hs]
    refine le_antisymm ?_ (Finset.sup_le fun a _ => ?_)
    · refine max_le (max_le (max_le ?_ ?_) ?_) ?_
      · exact Finset.le_sup (f := fun a : Fin 4 => y (128 * t + (128 * a.val + l.val))) (mem_univ (0 : Fin 4))
      · exact Finset.le_sup (f := fun a : Fin 4 => y (128 * t + (128 * a.val + l.val))) (mem_univ (1 : Fin 4))
      · exact Finset.le_sup (f := fun a : Fin 4 => y (128 * t + (128 * a.val + l.val))) (mem_univ (2 : Fin 4))
      · exact Finset.le_sup (f := fun a : Fin 4 => y (128 * t + (128 * a.val + l.val))) (mem_univ (3 : Fin 4))
    · match a with
      | 0 => exact (le_max_of_le_left (le_max_of_le_left (le_max_left _ _)))
      | 1 => exact (le_max_of_le_left (le_max_of_le_left (le_max_right _ _)))
      | 2 => exact (le_max_of_le_left (le_max_right _ _))
      | 3 => exact (le_max_right _ _)
  rw [e, flat_at, hm, sup_tiles (fun j => y (128 * t + j)) 512 rfl, show 128 * (t + 4) = 128 * t + 512 by ring, mx_add]

theorem alpha5_at (s : FVec Ideal S256x512 .f32) (m : Vec Ideal S1x256x128 .f32) (hs : ∀ k : Fin 512, s (ix2 r k) = y (128 * t + k.val))
    (hm : ∀ l, m (ix3 0 r l) = mx y (128 * t)) (l : Fin 128) :
    alpha5 s m (ix2 r l) = Ideal.exp2 (mx y (128 * t) - mx y (128 * (t + 4))) := by
  unfold alpha5
  rw [pow_at, sub_at, max5_at t r s m hs hm, flat_at, hm]

theorem pow5_at (s : FVec Ideal S256x512 .f32) (m : Vec Ideal S1x256x128 .f32) (hs : ∀ k : Fin 512, s (ix2 r k) = y (128 * t + k.val))
    (hm : ∀ l, m (ix3 0 r l) = mx y (128 * t)) (a : Fin 4) (l : Fin 128) :
    pow5 s m a (ix2 r l) = Ideal.exp2 (y (128 * (t + a.val) + l.val) - mx y (128 * (t + 4))) := by
  unfold pow5
  rw [pow_at, sub_at, max5_at t r s m hs hm, tile5_at, hs, show 128 * (t + a.val) + l.val = 128 * t + (128 * a.val + l.val) by ring]

include hy in
theorem sum5_at (s : FVec Ideal S256x512 .f32) (m l : Vec Ideal S1x256x128 .f32) (hs : ∀ k : Fin 512, s (ix2 r k) = y (128 * t + k.val))
    (hm : ∀ a, m (ix3 0 r a) = mx y (128 * t)) (hl : ∀ a : Fin 128, l (ix3 0 r a) = ls y t a.val) (a : Fin 128) :
    sum5 s m l (ix2 r a) = ls y (t + 4) a.val := by
  unfold sum5
  simp only [add_at, mul_at, pow5_at t r s m hs hm, alpha5_at t r s m hs hm, flat_at, hl]
  rw [ls_add hy t 4 a.val a.isLt]
  simp only [Finset.sum_range_succ, Finset.sum_range_zero, zero_add]
  rfl

theorem pv5_at (s : FVec Ideal S256x512 .f32) (m : Vec Ideal S1x256x128 .f32) (w : Vec Ideal S1x512x128 .bf16)
    (hs : ∀ k : Fin 512, s (ix2 r k) = y (128 * t + k.val)) (hm : ∀ l, m (ix3 0 r l) = mx y (128 * t)) (l : Fin 128)
    (hv : ∀ k : Fin 512, w (ix3 0 k l) = v (128 * t + k.val)) :
    pv5 s m w (ix2 r l) = ∑ k : Fin 512, Ideal.exp2 (y (128 * t + k.val) - mx y (128 * t + 512)) * v (128 * t + k.val) := by
  have hp : ∀ (a : Fin 4) (l : Fin 128), pow5 s m a (ix2 r l) = Ideal.exp2 (y (128 * t + (128 * a.val + l.val)) - mx y (128 * t + 512)) := by
    intro a l
    rw [pow5_at t r s m hs hm, show 128 * (t + a.val) + l.val = 128 * t + (128 * a.val + l.val) by ring, show 128 * (t + 4) = 128 * t + 512 by ring]
  unfold pv5
  pointwise [k0_pay20, k0_pay4]
  simp only [hp, hv]
  refine Finset.sum_congr rfl fun k _ => congrArg (· * v (128 * t + k.val)) ?_
  split_ifs with h1 h2 h3
  · exact congrArg (fun z => Ideal.exp2 (y (128 * t + z) - _)) (by simp)
  · exact congrArg (fun z => Ideal.exp2 (y (128 * t + z) - _)) (by simp; omega)
  · exact congrArg (fun z => Ideal.exp2 (y (128 * t + z) - _)) (by simp; omega)
  · exact congrArg (fun z => Ideal.exp2 (y (128 * t + z) - _)) (by simp; omega)

theorem max2_at (s : FVec Ideal S256x256 .f32) (m : Vec Ideal S1x256x128 .f32) (hs : ∀ k : Fin 256, s (ix2 r k) = y (128 * t + k.val))
    (hm : ∀ l, m (ix3 0 r l) = mx y (128 * t)) (l : Fin 128) : max2 s m (ix2 r l) = mx y (128 * (t + 2)) := by
  have e : max2 s m (ix2 r l) = max (flat m (ix2 r l)) (univ.sup fun l : Fin 128 => univ.sup fun a : Fin 2 => y (128 * t + (128 * a.val + l.val))) := by
    unfold max2
    rw [max_at, rowMax_at]
    refine congrArg _ (Finset.sup_congr rfl fun l _ => ?_)
    simp only [max_at, tile2_at, hs]
    refine le_antisymm ?_ (Finset.sup_le fun a _ => ?_)
    · refine max_le ?_ ?_
      · exact Finset.le_sup (f := fun a : Fin 2 => y (128 * t + (128 * a.val + l.val))) (mem_univ (0 : Fin 2))
      · exact Finset.le_sup (f := fun a : Fin 2 => y (128 * t + (128 * a.val + l.val))) (mem_univ (1 : Fin 2))
    · match a with
      | 0 => exact (le_max_left _ _)
      | 1 => exact (le_max_right _ _)
  rw [e, flat_at, hm, sup_tiles (fun j => y (128 * t + j)) 256 rfl, show 128 * (t + 2) = 128 * t + 256 by ring, mx_add]

theorem alpha2_at (s : FVec Ideal S256x256 .f32) (m : Vec Ideal S1x256x128 .f32) (hs : ∀ k : Fin 256, s (ix2 r k) = y (128 * t + k.val))
    (hm : ∀ l, m (ix3 0 r l) = mx y (128 * t)) (l : Fin 128) :
    alpha2 s m (ix2 r l) = Ideal.exp2 (mx y (128 * t) - mx y (128 * (t + 2))) := by
  unfold alpha2
  rw [pow_at, sub_at, max2_at t r s m hs hm, flat_at, hm]

theorem pow2_at (s : FVec Ideal S256x256 .f32) (m : Vec Ideal S1x256x128 .f32) (hs : ∀ k : Fin 256, s (ix2 r k) = y (128 * t + k.val))
    (hm : ∀ l, m (ix3 0 r l) = mx y (128 * t)) (a : Fin 2) (l : Fin 128) :
    pow2 s m a (ix2 r l) = Ideal.exp2 (y (128 * (t + a.val) + l.val) - mx y (128 * (t + 2))) := by
  unfold pow2
  rw [pow_at, sub_at, max2_at t r s m hs hm, tile2_at, hs, show 128 * (t + a.val) + l.val = 128 * t + (128 * a.val + l.val) by ring]

include hy in
theorem sum2_at (s : FVec Ideal S256x256 .f32) (m l : Vec Ideal S1x256x128 .f32) (hs : ∀ k : Fin 256, s (ix2 r k) = y (128 * t + k.val))
    (hm : ∀ a, m (ix3 0 r a) = mx y (128 * t)) (hl : ∀ a : Fin 128, l (ix3 0 r a) = ls y t a.val) (a : Fin 128) :
    sum2 s m l (ix2 r a) = ls y (t + 2) a.val := by
  unfold sum2
  simp only [add_at, mul_at, pow2_at t r s m hs hm, alpha2_at t r s m hs hm, flat_at, hl]
  rw [ls_add hy t 2 a.val a.isLt]
  simp only [Finset.sum_range_succ, Finset.sum_range_zero, zero_add]
  rfl

theorem pv2_at (s : FVec Ideal S256x256 .f32) (m : Vec Ideal S1x256x128 .f32) (w : Vec Ideal S1x256x128 .bf16)
    (hs : ∀ k : Fin 256, s (ix2 r k) = y (128 * t + k.val)) (hm : ∀ l, m (ix3 0 r l) = mx y (128 * t)) (l : Fin 128)
    (hv : ∀ k : Fin 256, w (ix3 0 k l) = v (128 * t + k.val)) :
    pv2 s m w (ix2 r l) = ∑ k : Fin 256, Ideal.exp2 (y (128 * t + k.val) - mx y (128 * t + 256)) * v (128 * t + k.val) := by
  have hp : ∀ (a : Fin 2) (l : Fin 128), pow2 s m a (ix2 r l) = Ideal.exp2 (y (128 * t + (128 * a.val + l.val)) - mx y (128 * t + 256)) := by
    intro a l
    rw [pow2_at t r s m hs hm, show 128 * (t + a.val) + l.val = 128 * t + (128 * a.val + l.val) by ring, show 128 * (t + 2) = 128 * t + 256 by ring]
  unfold pv2
  pointwise [k0_pay280, k0_pay270]
  simp only [hp, hv]
  refine Eq.trans ?_ (Fin.sum_univ_add (a := 128) (b := 128) fun k => Ideal.exp2 (y (128 * t + k.val) - mx y (128 * t + 256)) * v (128 * t + k.val)).symm
  refine congrArg₂ (· + ·) (Finset.sum_congr rfl fun k _ => ?_) (Finset.sum_congr rfl fun k _ => ?_)
  · simp
  · simp [add_comm k.val 128]

end step

theorem mix_at (a0 r0 a1 r1 : FVec Ideal S256x128 .f32) (acc : Vec Ideal S1x256x128 .f32) (r : Fin 256) (l : Fin 128) :
    mix a0 r0 a1 r1 acc (ix3 0 r l) = acc (ix3 0 r l) * (if l.val < 64 then a0 (ix2 r l) else a1 (ix2 r l))
      + (if l.val < 64 then r0 (ix2 r l) else r1 (ix2 r l)) := by
  unfold mix
  rw [lift_at, add_at, mul_at, mask_at, mask_at, flat_at]

/-! The scores and values of a block of queries, and the invariant. -/

/-- The head lane `l` of the pair `p` belongs to. -/
def headOf (p : Fin 4) (l : Fin 128) : Fin 8 := if l.val < 64 then evenH p else oddH p

/-- The score of query `r` of the block `b` against key `j`: minus infinity for keys after the query. -/
def score (b : ℕ) (x0 : Vec Ideal S1x256x1024 .bf16) (x1 : Vec Ideal S1x4096x1024 .bf16) (h : Fin 8) (r : Fin 256) (j : ℕ) : EReal :=
  if j ≤ 256 * b + r.val then
    (∑ d : Fin 128, x0 (ix3 (0 : Fin 1) r ⟨128 * h.val + d.val, by omega⟩)
      * x1 (ix3 (0 : Fin 1) ⟨min j 4095, by omega⟩ ⟨128 * h.val + d.val, by omega⟩)) * scale2
  else ⊥

def value (x2 : Vec Ideal S1x4096x512 .bf16) (p : Fin 4) (l : Fin 128) (j : ℕ) : EReal :=
  x2 (ix3 (0 : Fin 1) ⟨min j 4095, by omega⟩ ⟨128 * p.val + l.val, by omega⟩)

/-- The scratch arrays after `128 t` keys. -/
structure Good (b : ℕ) (x0 : Vec Ideal S1x256x1024 .bf16) (x1 : Vec Ideal S1x4096x1024 .bf16) (x2 : Vec Ideal S1x4096x512 .bf16)
    (t : ℕ) (s : St Ideal) : Prop where
  m : ∀ h r l, slab s.m h (ix3 0 r l) = mx (score b x0 x1 h r) (128 * t)
  l : ∀ h r (l : Fin 128), slab s.l h (ix3 0 r l) = ls (score b x0 x1 h r) t l.val
  a : ∀ p r l, slab s.a p (ix3 0 r l) = ac (score b x0 x1 (headOf p l) r) (value x2 p l) (128 * t)

variable {b : ℕ} {x0 : Vec Ideal S1x256x1024 .bf16} {x1 : Vec Ideal S1x4096x1024 .bf16} {x2 : Vec Ideal S1x4096x512 .bf16}

theorem good_start : Good b x0 x1 x2 0 start where
  m h r l := start_m _
  l h r l := start_l _
  a p r l := start_a _

theorem score5_eq {t : ℕ} (h : Fin 8) (r : Fin 256) (ht : 128 * t + 512 ≤ 256 * b) (k : Fin 512) :
    k0_pay3 (qB x0 h) (kB5 x1 (128 * t) h) (ix2 r k) = score b x0 x1 h r (128 * t + k.val) := by
  rw [score5_at]
  exact (if_pos (by have := k.isLt; omega)).symm

theorem scU_eq {t : ℕ} (h : Fin 8) (r : Fin 256) (ht : 128 * t + 256 ≤ 256 * b) (k : Fin 256) :
    scU (qB x0 h) (kB2 x1 (128 * t) h) (ix2 r k) = score b x0 x1 h r (128 * t + k.val) := by
  rw [scU_at]
  exact (if_pos (by have := k.isLt; omega)).symm

theorem scC_eq {t : ℕ} (h : Fin 8) (r : Fin 256) (ht : 128 * t = 256 * b) (k : Fin 256) :
    scC (qB x0 h) (kB2 x1 (128 * t) h) (ix2 r k) = score b x0 x1 h r (128 * t + k.val) := by
  rw [scC_at]
  unfold score
  by_cases hk : k.val ≤ r.val
  · rw [if_pos hk]
    exact (if_pos (by omega)).symm
  · rw [if_neg hk]
    exact (if_neg (by omega)).symm

theorem slab_ext {G : ℕ} {α : Type} (W : Fin G → S1x256x128.Idx → α) (h : Fin G) (x : S1x256x128.Idx) : slab (stack W) h x = W h x :=
  congrFun (slab_stack W h) x

theorem acc_step {y v : ℕ → EReal} (hy : ∀ j, y j ≠ ⊤) (t w n : ℕ) (hw : 128 * (t + n) = 128 * t + w) {A P Q : EReal}
    (hA : A = ac y v (128 * t)) (hP : P = Ideal.exp2 (mx y (128 * t) - mx y (128 * (t + n))))
    (hQ : Q = ∑ k : Fin w, Ideal.exp2 (y (128 * t + k.val) - mx y (128 * t + w)) * v (128 * t + k.val)) :
    A * P + Q = ac y v (128 * (t + n)) := by
  rw [hA, hP, hQ, hw, ac_add hy]

theorem good_wide (hy : ∀ h r j, score b x0 x1 h r j ≠ ⊤) {t : ℕ} {s : St Ideal} (ht : 128 * t + 512 ≤ 256 * b)
    (g : Good b x0 x1 x2 t s) : Good b x0 x1 x2 (t + 4) (wide x0 x1 x2 (128 * t) s) where
  m h r l := by
    unfold wide
    rw [slab_ext, lift_at]
    exact max5_at t r _ _ (score5_eq h r ht) (g.m h r) l
  l h r l := by
    unfold wide
    rw [slab_ext, lift_at]
    exact sum5_at (hy h r) t r _ _ _ (score5_eq h r ht) (g.m h r) (g.l h r) l
  a p r l := by
    unfold wide
    rw [slab_ext, mix_at]
    have ga := g.a p r l
    unfold headOf at ga ⊢
    by_cases hl : l.val < 64
    · rw [if_pos hl] at ga
      rw [if_pos hl, if_pos hl, if_pos hl]
      exact acc_step (hy _ r) t 512 4 (by ring) ga (alpha5_at t r _ _ (score5_eq _ r ht) (g.m _ r) l)
        (pv5_at t r _ _ _ (score5_eq _ r ht) (g.m _ r) l fun _ => rfl)
    · rw [if_neg hl] at ga
      rw [if_neg hl, if_neg hl, if_neg hl]
      exact acc_step (hy _ r) t 512 4 (by ring) ga (alpha5_at t r _ _ (score5_eq _ r ht) (g.m _ r) l)
        (pv5_at t r _ _ _ (score5_eq _ r ht) (g.m _ r) l fun _ => rfl)

theorem good_narrow (hy : ∀ h r j, score b x0 x1 h r j ≠ ⊤) {t : ℕ} {s : St Ideal}
    (sc : Vec Ideal S1x256x128 .bf16 → Vec Ideal S1x256x128 .bf16 → FVec Ideal S256x256 .f32)
    (ht : ∀ h r (k : Fin 256), sc (qB x0 h) (kB2 x1 (128 * t) h) (ix2 r k) = score b x0 x1 h r (128 * t + k.val))
    (g : Good b x0 x1 x2 t s) : Good b x0 x1 x2 (t + 2) (narrow sc x0 x1 x2 (128 * t) s) where
  m h r l := by
    unfold narrow
    rw [slab_ext, lift_at]
    exact max2_at t r _ _ (ht h r) (g.m h r) l
  l h r l := by
    unfold narrow
    rw [slab_ext, lift_at]
    exact sum2_at (hy h r) t r _ _ _ (ht h r) (g.m h r) (g.l h r) l
  a p r l := by
    unfold narrow
    rw [slab_ext, mix_at]
    have ga := g.a p r l
    unfold headOf at ga ⊢
    by_cases hl : l.val < 64
    · rw [if_pos hl] at ga
      rw [if_pos hl, if_pos hl, if_pos hl]
      exact acc_step (hy _ r) t 256 2 (by ring) ga (alpha2_at t r _ _ (ht _ r) (g.m _ r) l)
        (pv2_at t r _ _ _ (ht _ r) (g.m _ r) l fun _ => rfl)
    · rw [if_neg hl] at ga
      rw [if_neg hl, if_neg hl, if_neg hl]
      exact acc_step (hy _ r) t 256 2 (by ring) ga (alpha2_at t r _ _ (ht _ r) (g.m _ r) l)
        (pv2_at t r _ _ _ (ht _ r) (g.m _ r) l fun _ => rfl)

theorem good_loop (hy : ∀ h r j, score b x0 x1 h r j ≠ ⊤) (k : ℕ) (hk : 2 * k ≤ b) : Good b x0 x1 x2 (4 * k) (loop x0 x1 x2 k) := by
  induction k with
  | zero => exact good_start
  | succ k ih =>
    have g := good_wide hy (t := 4 * k) (by omega) (ih (by omega))
    rw [show 128 * (4 * k) = 512 * k by ring] at g
    exact g

theorem good_diag (hy : ∀ h r j, score b x0 x1 h r j ≠ ⊤) {s : St Ideal} (g : Good b x0 x1 x2 (2 * b) s) :
    Good b x0 x1 x2 (2 * b + 2) (narrow scC x0 x1 x2 (256 * b) s) := by
  have e := good_narrow hy scC (t := 2 * b) (fun h r k => scC_eq h r (by ring) k) g
  rw [show 128 * (2 * b) = 256 * b by ring] at e
  exact e

/-- An even block of queries. -/
theorem good_even (hy : ∀ h r j, score b x0 x1 h r j ≠ ⊤) (hb : b % 2 = 0) :
    Good b x0 x1 x2 (2 * b + 2) (narrow scC x0 x1 x2 (256 * b) (loop x0 x1 x2 (b / 2))) := by
  refine good_diag hy ?_
  have g := good_loop (x2 := x2) hy (b / 2) (by omega)
  rw [show 4 * (b / 2) = 2 * b by omega] at g
  exact g

/-- An odd block of queries. -/
theorem good_odd (hy : ∀ h r j, score b x0 x1 h r j ≠ ⊤) (hb : b % 2 = 1) :
    Good b x0 x1 x2 (2 * b + 2) (narrow scC x0 x1 x2 (256 * b) (narrow scU x0 x1 x2 (256 * (b - 1)) (loop x0 x1 x2 (b / 2)))) := by
  refine good_diag hy ?_
  have g := good_narrow hy scU (t := 4 * (b / 2)) (fun h r k => scU_eq h r (by omega) k) (good_loop (x2 := x2) hy (b / 2) (by omega))
  rw [show 128 * (4 * (b / 2)) = 256 * (b - 1) by omega, show 4 * (b / 2) + 2 = 2 * b by omega] at g
  exact g

/-- The block stored from the final state, at row `r` and column `c`. -/
theorem block_at {t : ℕ} {s : St Ideal} (g : Good b x0 x1 x2 t s) (r : Fin 256) (p : Fin 4) (l : Fin 128) :
    block s (ix3 (0 : Fin 1) r ⟨128 * p.val + l.val, by omega⟩)
      = ac (score b x0 x1 (headOf p l) r) (value x2 p l) (128 * t) * Ideal.div 1 (∑ a : Fin 128, ls (score b x0 x1 (headOf p l) r) t a.val) := by
  have e : block s (ix3 (0 : Fin 1) r ⟨128 * p.val + l.val, by omega⟩)
      = norm (slab s.l (evenH p)) (slab s.l (oddH p)) (slab s.a p) (ix3 0 r l) := by
    have hp : (⟨(128 * p.val + l.val) / 128, by omega⟩ : Fin 4) = p := Fin.ext (by simp only; omega)
    have hl : (⟨(128 * p.val + l.val) % 128, by omega⟩ : Fin 128) = l := Fin.ext (by simp only; omega)
    change norm (slab s.l (evenH ⟨(128 * p.val + l.val) / 128, by omega⟩)) (slab s.l (oddH ⟨(128 * p.val + l.val) / 128, by omega⟩))
      (slab s.a ⟨(128 * p.val + l.val) / 128, by omega⟩) (ix3 0 r ⟨(128 * p.val + l.val) % 128, by omega⟩) = _
    rw [hp, hl]
  rw [e, norm_at, g.a]
  simp only [g.l]
  unfold headOf
  split_ifs <;> rfl

end Cert.KernelIdeal.Hand
-- ==== Proof.Array.lean ====
module

public import proofs.«01_k».proof.Proof.Read
public import proofs.«01_k».proof.Proof.Gen.KernelIdeal.Value

@[expose] public section

/-! The kernel's output array: each block is what its point stores, and the blocks cover the array. -/

set_option maxRecDepth 16384

noncomputable section

namespace Cert.KernelIdeal.Hand

open Cert.KernelIdeal Cert.KernelIdeal.Gen Cert.KernelIdeal.Value Idealize.ShloMosaic Idealize.ShloMosaic.TcCoe Idealize.SL.Sem
open Cert.Proof.Softmax

/-- The score of query `r` against key `j` for head `h` of batch `b`. -/
def rowScore (Q K : S8x4096x1024.Idx → EReal) (b h : Fin 8) (r j : ℕ) : EReal :=
  if j ≤ r then
    (∑ d : Fin 128, Q (ix3 b (⟨min r 4095, by omega⟩ : Fin 4096) (⟨128 * h.val + d.val, by omega⟩ : Fin 1024))
      * K (ix3 b (⟨min j 4095, by omega⟩ : Fin 4096) (⟨128 * h.val + d.val, by omega⟩ : Fin 1024))) * scale2
  else ⊥

/-- Column `c` of the value of key `j`. -/
def colValue (W : S8x4096x512.Idx → EReal) (b : Fin 8) (c : Fin 512) (j : ℕ) : EReal :=
  W (ix3 b (⟨min j 4095, by omega⟩ : Fin 4096) c)

/-- The output at an index, the keys streamed up to the end of the query's block. -/
def outAt (Q K : S8x4096x1024.Idx → EReal) (W : S8x4096x512.Idx → EReal) (b : Fin 8) (r : ℕ) (c : Fin 512) : EReal :=
  ac (rowScore Q K b ⟨c.val / 64, by omega⟩ r) (colValue W b c) (128 * (2 * (r / 256) + 2))
    * Ideal.div 1 (∑ a : Fin 128, ls (rowScore Q K b ⟨c.val / 64, by omega⟩ r) (2 * (r / 256) + 2) a.val)

def outArr (Q K : S8x4096x1024.Idx → EReal) (W : S8x4096x512.Idx → EReal) : S8x4096x512.Idx → EReal :=
  fun i => outAt Q K W (i 0) (i 1).val (i 2)

/-! The blocks of the windows. -/

theorem points : ∀ t : Fin cfg0.N, (grid0.coords t 0).val = t.val / 16 ∧ (grid0.coords t 1).val = t.val % 16 :=
  (by decide +kernel : ∀ t : Fin grid0.N, _)

theorem index0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)
theorem index1 : ∀ t : Fin cfg0.N, win0_1.index t (0 : Fin 3) = t.val / 16 ∧ win0_1.index t (1 : Fin 3) = 0 ∧ win0_1.index t (2 : Fin 3) = 0 :=
  (by decide +kernel : ∀ t : Fin grid0.N, _)
theorem index2 : ∀ t : Fin cfg0.N, win0_2.index t (0 : Fin 3) = t.val / 16 ∧ win0_2.index t (1 : Fin 3) = 0 ∧ win0_2.index t (2 : Fin 3) = 0 :=
  (by decide +kernel : ∀ t : Fin grid0.N, _)
theorem index3 : ∀ t : Fin cfg0.N, win0_3.index t (0 : Fin 3) = t.val / 16 ∧ win0_3.index t (1 : Fin 3) = t.val % 16 ∧ win0_3.index t (2 : Fin 3) = 0 :=
  (by decide +kernel : ∀ t : Fin grid0.N, _)

theorem lt128 (t : Fin cfg0.N) : t.val < 128 := t.isLt

theorem emb0 (t : Fin cfg0.N) (j : S1x256x1024.Idx) : ((cfg0.win 0).blk t).view.emb j
    = ix3 (⟨t.val / 16, by have := lt128 t; omega⟩ : Fin 8) (⟨256 * (t.val % 16) + (j 1).val, by have h : (j 1).val < 256 := (j 1).isLt; omega⟩ : Fin 4096) (j 2) := by
  obtain ⟨e0, e1, e2⟩ := index0 t
  funext a; apply Fin.ext
  match a with
  | ⟨0, _⟩ => have h : (j 0).val < 1 := (j 0).isLt; show win0_0.index t (0 : Fin 3) * 1 + 1 * (j 0).val = t.val / 16; omega
  | ⟨1, _⟩ => show win0_0.index t (1 : Fin 3) * 256 + 1 * (j 1).val = 256 * (t.val % 16) + (j 1).val; omega
  | ⟨2, _⟩ => show win0_0.index t (2 : Fin 3) * 1024 + 1 * (j 2).val = (j 2).val; omega
theorem emb1 (t : Fin cfg0.N) (j : S1x4096x1024.Idx) : ((cfg0.win 1).blk t).view.emb j
    = ix3 (⟨t.val / 16, by have := lt128 t; omega⟩ : Fin 8) (j 1) (j 2) := by
  obtain ⟨e0, e1, e2⟩ := index1 t
  funext a; apply Fin.ext
  match a with
  | ⟨0, _⟩ => have h : (j 0).val < 1 := (j 0).isLt; show win0_1.index t (0 : Fin 3) * 1 + 1 * (j 0).val = t.val / 16; omega
  | ⟨1, _⟩ => show win0_1.index t (1 : Fin 3) * 4096 + 1 * (j 1).val = (j 1).val; omega
  | ⟨2, _⟩ => show win0_1.index t (2 : Fin 3) * 1024 + 1 * (j 2).val = (j 2).val; omega
theorem emb2 (t : Fin cfg0.N) (j : S1x4096x512.Idx) : ((cfg0.win 2).blk t).view.emb j
    = ix3 (⟨t.val / 16, by have := lt128 t; omega⟩ : Fin 8) (j 1) (j 2) := by
  obtain ⟨e0, e1, e2⟩ := index2 t
  funext a; apply Fin.ext
  match a with
  | ⟨0, _⟩ => have h : (j 0).val < 1 := (j 0).isLt; show win0_2.index t (0 : Fin 3) * 1 + 1 * (j 0).val = t.val / 16; omega
  | ⟨1, _⟩ => show win0_2.index t (1 : Fin 3) * 4096 + 1 * (j 1).val = (j 1).val; omega
  | ⟨2, _⟩ => show win0_2.index t (2 : Fin 3) * 512 + 1 * (j 2).val = (j 2).val; omega
theorem emb3 (t : Fin cfg0.N) (j : S1x256x512.Idx) : ((cfg0.win 3).blk t).view.emb j
    = ix3 (⟨t.val / 16, by have := lt128 t; omega⟩ : Fin 8) (⟨256 * (t.val % 16) + (j 1).val, by have h : (j 1).val < 256 := (j 1).isLt; omega⟩ : Fin 4096) (j 2) := by
  obtain ⟨e0, e1, e2⟩ := index3 t
  funext a; apply Fin.ext
  match a with
  | ⟨0, _⟩ => have h : (j 0).val < 1 := (j 0).isLt; show win0_3.index t (0 : Fin 3) * 1 + 1 * (j 0).val = t.val / 16; omega
  | ⟨1, _⟩ => show win0_3.index t (1 : Fin 3) * 256 + 1 * (j 1).val = 256 * (t.val % 16) + (j 1).val; omega
  | ⟨2, _⟩ => show win0_3.index t (2 : Fin 3) * 512 + 1 * (j 2).val = (j 2).val; omega

/-- The blocks of the three arrays the grid reads. -/
def blk0 (Q : S8x4096x1024.Idx → EReal) (t : Fin cfg0.N) : S1x256x1024.Idx → EReal := ((cfg0.win 0).blk t).view.read (Elt Ideal) Q
def blk1 (K : S8x4096x1024.Idx → EReal) (t : Fin cfg0.N) : S1x4096x1024.Idx → EReal := ((cfg0.win 1).blk t).view.read (Elt Ideal) K
def blk2 (W : S8x4096x512.Idx → EReal) (t : Fin cfg0.N) : S1x4096x512.Idx → EReal := ((cfg0.win 2).blk t).view.read (Elt Ideal) W

theorem blk0_at (Q : S8x4096x1024.Idx → EReal) (t : Fin cfg0.N) (r : Fin 256) (l : Fin 1024) :
    blk0 Q t (ix3 (0 : Fin 1) r l)
      = Q (ix3 (⟨t.val / 16, by have := lt128 t; omega⟩ : Fin 8) (⟨256 * (t.val % 16) + r.val, by omega⟩ : Fin 4096) l) := by
  show Q (((cfg0.win 0).blk t).view.emb (ix3 (0 : Fin 1) r l)) = _
  rw [emb0]
  rfl
theorem blk1_at (K : S8x4096x1024.Idx → EReal) (t : Fin cfg0.N) (r : Fin 4096) (l : Fin 1024) :
    blk1 K t (ix3 (0 : Fin 1) r l) = K (ix3 (⟨t.val / 16, by have := lt128 t; omega⟩ : Fin 8) r l) := by
  show K (((cfg0.win 1).blk t).view.emb (ix3 (0 : Fin 1) r l)) = _
  rw [emb1]
  rfl
theorem blk2_at (W : S8x4096x512.Idx → EReal) (t : Fin cfg0.N) (r : Fin 4096) (l : Fin 512) :
    blk2 W t (ix3 (0 : Fin 1) r l) = W (ix3 (⟨t.val / 16, by have := lt128 t; omega⟩ : Fin 8) r l) := by
  show W (((cfg0.win 2).blk t).view.emb (ix3 (0 : Fin 1) r l)) = _
  rw [emb2]
  rfl

/-- The blocks of the queries and keys hold the rows of their arrays: the scores agree. -/
theorem score_eq (Q K : S8x4096x1024.Idx → EReal) (t : Fin cfg0.N) (h : Fin 8) (r : Fin 256) :
    score (t.val % 16) (blk0 Q t) (blk1 K t) h r
      = rowScore Q K ⟨t.val / 16, by have := lt128 t; omega⟩ h (256 * (t.val % 16) + r.val) := by
  funext j
  unfold score rowScore
  by_cases hj : j ≤ 256 * (t.val % 16) + r.val
  · rw [if_pos hj, if_pos hj]
    refine congrArg (· * scale2) (Finset.sum_congr rfl fun d _ => ?_)
    rw [blk0_at, blk1_at]
    have e : (⟨256 * (t.val % 16) + r.val, by omega⟩ : Fin 4096) = ⟨min (256 * (t.val % 16) + r.val) 4095, by omega⟩ :=
      Fin.ext (by show 256 * (t.val % 16) + r.val = min (256 * (t.val % 16) + r.val) 4095; omega)
    rw [e]
  · rw [if_neg hj, if_neg hj]

theorem value_eq (W : S8x4096x512.Idx → EReal) (t : Fin cfg0.N) (p : Fin 4) (l : Fin 128) :
    value (blk2 W t) p l = colValue W ⟨t.val / 16, by have := lt128 t; omega⟩ ⟨128 * p.val + l.val, by omega⟩ := by
  funext j
  unfold value colValue
  rw [blk2_at]

theorem headOf_eq (p : Fin 4) (l : Fin 128) : headOf p l = ⟨(128 * p.val + l.val) / 64, by omega⟩ := by
  unfold headOf evenH oddH
  by_cases h : l.val < 64
  · rw [if_pos h]; exact Fin.ext (by simp only; omega)
  · rw [if_neg h]; exact Fin.ext (by simp only; omega)

/-- A block stored from a final state is the block of the output. -/
theorem block_eq (Q K : S8x4096x1024.Idx → EReal) (W : S8x4096x512.Idx → EReal) (t : Fin cfg0.N) (s : St Ideal)
    (g : Good (t.val % 16) (blk0 Q t) (blk1 K t) (blk2 W t) (2 * (t.val % 16) + 2) s) :
    (cfg0.win 3).cut (grid0.coords t) (block s) = ((cfg0.win 3).blk t).view.read (Elt Ideal) (outArr Q K W) := by
  funext (j : S1x256x512.Idx)
  show block s j = outArr Q K W (((cfg0.win 3).blk t).view.emb j)
  rw [emb3]
  have h0 : (j 0).val < 1 := (j 0).isLt
  have h1 : (j 1).val < 256 := (j 1).isLt
  have h2 : (j 2).val < 512 := (j 2).isLt
  obtain ⟨p, l, hc⟩ : ∃ (p : Fin 4) (l : Fin 128), (j 2).val = 128 * p.val + l.val :=
    ⟨⟨(j 2).val / 128, by omega⟩, ⟨(j 2).val % 128, by omega⟩, by simp only; omega⟩
  have hj : ix3 (0 : Fin 1) (⟨(j 1).val, h1⟩ : Fin 256) (⟨128 * p.val + l.val, by omega⟩ : Fin 512) = j := by
    funext a; apply Fin.ext
    match a with
    | ⟨0, _⟩ => show 0 = (j 0).val; omega
    | ⟨1, _⟩ => rfl
    | ⟨2, _⟩ => exact hc.symm
  have e := block_at g (⟨(j 1).val, h1⟩ : Fin 256) p l
  rw [hj, score_eq, value_eq, headOf_eq] at e
  refine e.trans ?_
  show _ = outAt Q K W (⟨t.val / 16, by have := lt128 t; omega⟩ : Fin 8) (256 * (t.val % 16) + (j 1).val) (j 2)
  have hq : (256 * (t.val % 16) + (j 1).val) / 256 = t.val % 16 := by omega
  have hc' : j 2 = (⟨128 * p.val + l.val, by omega⟩ : Fin 512) := Fin.ext hc
  unfold outAt
  rw [hq, hc']

variable (m : (ℓ : Loc nD τ sig) → Buf (Elt Ideal) ℓ) (c : Dev nD)

theorem iblk_0 (t : Fin cfg0.N) : iblk m c 0 t = blk0 (V m c main_v5) t := rfl
theorem iblk_1 (t : Fin cfg0.N) : iblk m c 1 t = blk1 (V m c main_v8) t := rfl
theorem iblk_2 (t : Fin cfg0.N) : iblk m c 2 t = blk2 (V m c main_v10) t := rfl

/-- What each point writes back, where no score is plus infinity. -/
theorem flushed_eq (hs : ∀ b h r j, rowScore (V m c main_v5) (V m c main_v8) b h r j ≠ ⊤) (t : Fin cfg0.N) :
    (dats m 0 c).flushed 3 t
      = ((cfg0.win 3).blk t).view.read (Elt Ideal) (outArr (V m c main_v5) (V m c main_v8) (V m c main_v10)) := by
  have hy : ∀ h r j, score (t.val % 16) (blk0 (V m c main_v5) t) (blk1 (V m c main_v8) t) h r j ≠ ⊤ := fun h r j => by
    rw [score_eq]; exact hs _ _ _ _
  have hp := (points t).2
  by_cases h0 : t.val % 2 = 1
  · rw [flushed3_B m c t h0, outB, hp, iblk_0, iblk_1, iblk_2]
    exact block_eq _ _ _ t _ (good_odd hy (by omega))
  · rw [flushed3_A m c t h0, outA, hp, iblk_0, iblk_1, iblk_2]
    exact block_eq _ _ _ t _ (good_even hy (by omega))

theorem covered (i : S8x4096x512.Idx) : ∃ t : Fin cfg0.N, (cfg0.win 3).flush t = true ∧ i ∈ ((cfg0.win 3).blk t).view.set := by
  have h0 : (i 0).val < 8 := (i 0).isLt
  have h1 : (i 1).val < 4096 := (i 1).isLt
  refine ⟨(⟨16 * (i 0).val + (i 1).val / 256, by show _ < 128; omega⟩ : Fin cfg0.N), flush0_3 _, ?_⟩
  have h := ((cfg0.win 3).blk (⟨16 * (i 0).val + (i 1).val / 256, by show _ < 128; omega⟩ : Fin cfg0.N)).view.emb_mem_set
    (ix3 (0 : Fin 1) (⟨(i 1).val % 256, by omega⟩ : Fin 256) (i 2))
  rw [emb3] at h
  have e : ix3 (⟨(16 * (i 0).val + (i 1).val / 256) / 16, by omega⟩ : Fin 8)
      (⟨256 * ((16 * (i 0).val + (i 1).val / 256) % 16) + (i 1).val % 256, by omega⟩ : Fin 4096) (i 2) = i := by
    funext a; apply Fin.ext
    match a with
    | ⟨0, _⟩ => show (16 * (i 0).val + (i 1).val / 256) / 16 = (i 0).val; omega
    | ⟨1, _⟩ => show 256 * ((16 * (i 0).val + (i 1).val / 256) % 16) + (i 1).val % 256 = (i 1).val; omega
    | ⟨2, _⟩ => rfl
  have e' := e ▸ h
  exact e'

/-- The output array after the run. -/
theorem final_eq (hs : ∀ b h r j, rowScore (V m c main_v5) (V m c main_v8) b h r j ≠ ⊤) :
    (dats m 0 c).arrAt 3 cfg0.N = outArr (V m c main_v5) (V m c main_v8) (V m c main_v10) :=
  (dats m 0 c).arrAt_eq_of_cover 3 _ (fun t _ => flushed_eq m c hs t) covered

end Cert.KernelIdeal.Hand
-- ==== Proof.Pack.lean ====
module

public import proofs.«01_k».proof.Proof.Gen.KernelIdeal.Value
public import Idealize.ShloMosaic.Lib.Pointwise

@[expose] public section

/-! The arrays the kernel is entered with, read at an index: a head's 128 lanes are the 64 of the first part, the 32 of the
    second, and zeros. -/

set_option maxRecDepth 16384

noncomputable section

namespace Cert.KernelIdeal.Hand

open Cert.KernelIdeal Cert.KernelIdeal.Gen Idealize.ShloMosaic Idealize.ShloMosaic.TcCoe

def pack (x : FVec Ideal S8x4096x8x64 .f32) (y z : FVec Ideal S8x4096x8x32 .f32) : FVec Ideal S8x4096x8x128 .f32 :=
  concatenate S8x4096x8x128 3 [⟨S8x4096x8x64, x⟩, ⟨S8x4096x8x32, y⟩, ⟨S8x4096x8x32, z⟩]
    concatenates_S8x4096x8x64_S8x4096x8x32_S8x4096x8x32_S8x4096x8x128_d3

def merge (x : FVec Ideal S8x4096x8x128 .f32) : FVec Ideal S8x4096x1024 .bf16 :=
  truncf .bf16 (shapeCast S8x4096x1024 x shapeCasts_S8x4096x8x128_S8x4096x1024) bitsLt_bf16_f32

def zeros : FVec Ideal S8x4096x8x32 .f32 := broadcastInDim S8x4096x8x32 ![] bcast_S_S8x4096x8x32 (constant S_ .f32 0x00000000#32)

def shared (x : FVec Ideal S8x4096x32 .f32) : FVec Ideal S8x4096x8x32 .f32 :=
  broadcastInDim S8x4096x8x32 ![0, 1, 2, 3] bcast_S8x4096x1x32_S8x4096x8x32_0_1_2_3
    (broadcastInDim S8x4096x1x32 ![0, 1, 3] bcast_S8x4096x32_S8x4096x1x32_0_1_3 x)

def mergeV (x : FVec Ideal S8x4096x8x64 .f32) : FVec Ideal S8x4096x512 .bf16 :=
  truncf .bf16 (shapeCast S8x4096x512 x shapeCasts_S8x4096x8x64_S8x4096x512) bitsLt_bf16_f32

variable (m : (ℓ : Loc nD τ sig) → Buf (Elt Ideal) ℓ) (c : Dev nD)

theorem entry_q : V m c main_v5 = merge (pack (m ((c : Thread nD τ).loc main_arg0) : FVec Ideal S8x4096x8x64 .f32) (m ((c : Thread nD τ).loc main_arg1) : FVec Ideal S8x4096x8x32 .f32) zeros) := by
  show StableHlo.after hostOps0 _ (Proc.devRef .tc main_v5) = _
  after_results
  rfl

theorem entry_k : V m c main_v8 = merge (pack (m ((c : Thread nD τ).loc main_arg2) : FVec Ideal S8x4096x8x64 .f32) (shared (m ((c : Thread nD τ).loc main_arg3) : FVec Ideal S8x4096x32 .f32)) zeros) := by
  show StableHlo.after hostOps0 _ (Proc.devRef .tc main_v8) = _
  after_results
  rfl

theorem entry_v : V m c main_v10 = mergeV (m ((c : Thread nD τ).loc main_arg4) : FVec Ideal S8x4096x8x64 .f32) := by
  show StableHlo.after hostOps0 _ (Proc.devRef .tc main_v10) = _
  after_results
  rfl

theorem merge_at (x : FVec Ideal S8x4096x8x128 .f32) (b : Fin 8) (r : Fin 4096) (h : Fin 8) (d : Fin 128) :
    merge x (ix3 b r (⟨128 * h.val + d.val, by omega⟩ : Fin 1024)) = x (ix4 b r h d) := by
  pointwise [merge]

theorem mergeV_at (x : FVec Ideal S8x4096x8x64 .f32) (b : Fin 8) (r : Fin 4096) (h : Fin 8) (d : Fin 64) :
    mergeV x (ix3 b r (⟨64 * h.val + d.val, by omega⟩ : Fin 512)) = x (ix4 b r h d) := by
  pointwise [mergeV]

theorem zeros_at (j : S8x4096x8x32.Idx) : zeros j = (0 : EReal) := by
  pointwise [zeros]

theorem shared_at (x : FVec Ideal S8x4096x32 .f32) (b : Fin 8) (r : Fin 4096) (h : Fin 8) (e : Fin 32) :
    shared x (ix4 b r h e) = x (ix3 b r e) := by
  pointwise [shared]

theorem pack_at (x : FVec Ideal S8x4096x8x64 .f32) (y z : FVec Ideal S8x4096x8x32 .f32) (b : Fin 8) (r : Fin 4096) (h : Fin 8) (d : Fin 128) :
    pack x y z (ix4 b r h d) = if h1 : d.val < 64 then x (ix4 b r h (⟨d.val, h1⟩ : Fin 64))
      else if h2 : d.val - 64 < 32 then y (ix4 b r h (⟨d.val - 64, h2⟩ : Fin 32)) else z (ix4 b r h (⟨d.val - 64 - 32, by omega⟩ : Fin 32)) := by
  pointwise [pack]

/-- The product of a packed query and a packed key, lane by lane: the two parts' products, the zeros adding nothing. -/
theorem dot_pack (x x' : FVec Ideal S8x4096x8x64 .f32) (y y' : FVec Ideal S8x4096x8x32 .f32) (b : Fin 8) (r r' : Fin 4096) (h : Fin 8) :
    (∑ d : Fin 128, pack x y zeros (ix4 b r h d) * pack x' y' zeros (ix4 b r' h d) : EReal)
      = (∑ d : Fin 64, x (ix4 b r h d) * x' (ix4 b r' h d) : EReal) + ∑ e : Fin 32, y (ix4 b r h e) * y' (ix4 b r' h e) := by
  rw [Fin.sum_univ_add (a := 64) (b := 64)]
  refine congrArg₂ (· + ·) (Finset.sum_congr rfl fun d _ => ?_) ?_
  · have h1 : (Fin.castAdd 64 d).val < 64 := d.isLt
    rw [pack_at, pack_at, dif_pos h1, dif_pos h1]
    rfl
  · have e1 : (∑ e : Fin 32, pack x y zeros (ix4 b r h (Fin.natAdd 64 (Fin.natAdd 32 e))) * pack x' y' zeros (ix4 b r' h (Fin.natAdd 64 (Fin.natAdd 32 e))) : EReal) = 0 := by
      refine Finset.sum_eq_zero fun e _ => ?_
      have hv : (Fin.natAdd 64 (Fin.natAdd 32 e)).val = 64 + (32 + e.val) := rfl
      rw [pack_at, dif_neg (by omega), dif_neg (by omega), zeros_at, zero_mul]
    refine (Fin.sum_univ_add (a := 32) (b := 32) _).trans ?_
    rw [e1, add_zero]
    refine Finset.sum_congr rfl fun e _ => ?_
    have hv : (Fin.natAdd 64 (Fin.castAdd 32 e)).val = 64 + e.val := rfl
    have h1 : ¬(Fin.natAdd 64 (Fin.castAdd 32 e)).val < 64 := by omega
    have h2 : (Fin.natAdd 64 (Fin.castAdd 32 e)).val - 64 < 32 := by omega
    have he : (⟨(Fin.natAdd 64 (Fin.castAdd 32 e)).val - 64, h2⟩ : Fin 32) = e := Fin.ext (by simp only; omega)
    rw [pack_at, pack_at, dif_neg h1, dif_neg h1, dif_pos h2, dif_pos h2, he]

end Cert.KernelIdeal.Hand
-- ==== Proof.Ref.lean ====
module

public import proofs.«01_k».proof.Proof.Gen.ReferenceIdeal.Run
public import proofs.«01_k».proof.Proof.Softmax
public import Idealize.ShloMosaic.Lib.Pointwise
public import Idealize.ShloMosaic.Lib.WordCmp

@[expose] public section

/-! The reference's result read at an index: causal softmax attention over the extended reals. -/

set_option maxRecDepth 16384

noncomputable section

namespace Cert.ReferenceIdeal.Hand

open Cert.ReferenceIdeal Cert.ReferenceIdeal.Gen Cert.ReferenceIdeal.Value Idealize.ShloMosaic Idealize.ShloMosaic.TcCoe
open Cert.Proof.Softmax

/-! The result's term in stages. -/

def logits (q0 : FVec Ideal S8x4096x8x64 .f32) (q1 : FVec Ideal S8x4096x8x32 .f32) (k0 : FVec Ideal S8x4096x8x64 .f32)
    (k1 : FVec Ideal S8x4096x32 .f32) : FVec Ideal S8x8x4096x4096 .f32 :=
  select (broadcastInDim S8x8x4096x4096 ![2, 3] bcast_S4096x4096_S8x8x4096x4096_2_3 (cmpi .sle
      (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0)))))
    (mulf (addf (Host.dotGeneral dot_S8x4096x8x64_S8x4096x8x64_S8x8x4096x4096_3_3_1_1_02_02 none q0 k0)
        (transpose S8x8x4096x4096 [0, 3, 2, 1] (Host.dotGeneral dot_S8x4096x32_S8x4096x8x32_S8x4096x4096x8_2_3_1_12_0_0 none k1 q1)
          transposes_S8x4096x4096x8_S8x8x4096x4096_0_3_2_1))
      (broadcastInDim S8x8x4096x4096 ![] bcast_S_S8x8x4096x4096 (constant S_ .f32 0x3DD105EC#32)))
    (broadcastInDim S8x8x4096x4096 ![] bcast_S_S8x8x4096x4096 (id (constant S_ .f32 0xFF800000#32)))

def rowTop (L : FVec Ideal S8x8x4096x4096 .f32) : FVec Ideal S8x8x4096 .f32 :=
  Host.reduce FloatOps.maximumf L (constant S_ .f32 0xFF800000#32) reducesTo_S8x8x4096x4096_S8x8x4096_d3 h_S_

def spread (M : FVec Ideal S8x8x4096 .f32) : FVec Ideal S8x8x4096x4096 .f32 :=
  broadcastInDim S8x8x4096x4096 ![0, 1, 2, 3] bcast_S8x8x4096x1_S8x8x4096x4096_0_1_2_3
    (broadcastInDim S8x8x4096x1 ![0, 1, 2] bcast_S8x8x4096_S8x8x4096x1_0_1_2 M)

def tops (M : FVec Ideal S8x8x4096 .f32) : FVec Ideal S8x8x4096 .f32 :=
  maximumf (broadcastInDim S8x8x4096 ![] bcast_S_S8x8x4096 (constant S_ .f32 0xFF800000#32)) M

def weights (L : FVec Ideal S8x8x4096x4096 .f32) : FVec Ideal S8x8x4096x4096 .f32 := Host.exp (subf L (spread (tops (rowTop L))))

def sums (w : FVec Ideal S8x8x4096x4096 .f32) : FVec Ideal S8x8x4096 .f32 :=
  Host.reduceAdd w (constant S_ .f32 0x00000000#32) reducesTo_S8x8x4096x4096_S8x8x4096_d3 h_S_

def attend (w s : FVec Ideal S8x8x4096x4096 .f32) (v : FVec Ideal S8x4096x8x64 .f32) : FVec Ideal S8x4096x512 .bf16 :=
  truncf .bf16 (shapeCast S8x4096x512 (transpose S8x4096x8x64 [0, 3, 1, 2]
    (Host.dotGeneral dot_S8x4096x8x64_S8x8x4096x4096_S8x8x64x4096_1_3_3_2_02_01 none v (Host.divf w s))
    transposes_S8x8x64x4096_S8x4096x8x64_0_3_1_2) shapeCasts_S8x4096x8x64_S8x4096x512) bitsLt_bf16_f32

theorem res_eq (m : (ℓ : Loc nD τ sig) → Buf (Elt Ideal) ℓ) (c : Dev nD) :
    res_main_v28 m c = attend
      (weights (logits (m ((c.tc : Thread nD τ).loc main_arg0)) (m ((c.tc : Thread nD τ).loc main_arg1))
        (m ((c.tc : Thread nD τ).loc main_arg2)) (m ((c.tc : Thread nD τ).loc main_arg3))))
      (spread (sums (weights (logits (m ((c.tc : Thread nD τ).loc main_arg0)) (m ((c.tc : Thread nD τ).loc main_arg1))
        (m ((c.tc : Thread nD τ).loc main_arg2)) (m ((c.tc : Thread nD τ).loc main_arg3))))))
      (m ((c.tc : Thread nD τ).loc main_arg4)) := rfl

/-! Each stage at an index. -/

theorem bot_bits : Ideal.ofBits FTy.f32 0xFF800000#32 = ⊥ := by
  simp [Ideal.ofBits, Ideal.ieee]

/-- The word of 1 / sqrt 96. -/
theorem scale_bits : Ideal.ofBits FTy.f32 0x3DD105EC#32 = ((3424635 / 33554432 : ℝ) : EReal) := by
  simp [Ideal.ofBits, Ideal.ieee]
  rw [← EReal.coe_mul]
  norm_num

/-- The reference's score of query `r` against key `j`. -/
def logit (q0 : FVec Ideal S8x4096x8x64 .f32) (q1 : FVec Ideal S8x4096x8x32 .f32) (k0 : FVec Ideal S8x4096x8x64 .f32)
    (k1 : FVec Ideal S8x4096x32 .f32) (b h : Fin 8) (r : Fin 4096) (j : ℕ) : EReal :=
  if j ≤ r.val then
    ((∑ d : Fin 64, q0 (ix4 b r h d) * k0 (ix4 b (⟨min j 4095, by omega⟩ : Fin 4096) h d) : EReal)
      + ∑ e : Fin 32, k1 (ix3 b (⟨min j 4095, by omega⟩ : Fin 4096) e) * q1 (ix4 b r h e)) * ((3424635 / 33554432 : ℝ) : EReal)
  else ⊥

theorem logits_at (q0 : FVec Ideal S8x4096x8x64 .f32) (q1 : FVec Ideal S8x4096x8x32 .f32) (k0 : FVec Ideal S8x4096x8x64 .f32)
    (k1 : FVec Ideal S8x4096x32 .f32) (b h : Fin 8) (r j : Fin 4096) :
    logits q0 q1 k0 k1 (ix4 b h r j) = logit q0 q1 k0 k1 b h r j.val := by
  have hj : (⟨min j.val 4095, by omega⟩ : Fin 4096) = j := Fin.ext (by have := j.isLt; simp only; omega)
  unfold logit
  rw [hj]
  pointwise [logits]
  rw [WordCmp.cmpi_sle_ofNat (by omega) (by omega), scale_bits]
  by_cases hr : j.val ≤ r.val
  · rw [if_pos hr, decide_eq_true hr]; rfl
  · rw [if_neg hr, decide_eq_false hr]; exact bot_bits

theorem fold_last {a b c n : Nat} (h : (⟨4, ![a, b, c, n]⟩ : Shape).ReducesTo [3] ⟨3, ![a, b, c]⟩) {u : Shape} (hu : 0 < u.numel)
    (v : (⟨4, ![a, b, c, n]⟩ : Shape).Idx → EReal) (i0 : u.Idx → EReal) (hi : i0 (Shape.Idx.first hu) = ⊥) (x : Fin a) (y : Fin b) (z : Fin c) :
    Host.reduce (FloatOps.maximumf (F := Ideal) (φ := .f32)) v i0 h hu (ix3 x y z)
      = Finset.univ.sup fun k : Fin n => v (ix4 x y z k) := by
  pointwise
  rw [hi]
  rfl

theorem rowTop_at (L : S8x8x4096x4096.Idx → EReal) (b h : Fin 8) (r : Fin 4096) :
    (rowTop L (ix3 b h r) : EReal) = Finset.univ.sup fun k : Fin 4096 => L (ix4 b h r k) :=
  fold_last (a := 8) (b := 8) (c := 4096) (n := 4096) reducesTo_S8x8x4096x4096_S8x8x4096_d3 h_S_ L (constant (F := Ideal) S_ .f32 0xFF800000#32)
    bot_bits b h r

theorem spread_at (M : FVec Ideal S8x8x4096 .f32) (b h : Fin 8) (r j : Fin 4096) : spread M (ix4 b h r j) = M (ix3 b h r) := by
  pointwise [spread]

theorem tops_at (M : FVec Ideal S8x8x4096 .f32) (b h : Fin 8) (r : Fin 4096) : tops M (ix3 b h r) = M (ix3 b h r) := by
  pointwise [tops]
  rw [bot_bits]
  exact max_eq_right bot_le

theorem weights_at (L : S8x8x4096x4096.Idx → EReal) (b h : Fin 8) (r j : Fin 4096) :
    (weights L (ix4 b h r j) : EReal) = Ideal.exp (L (ix4 b h r j) - Finset.univ.sup fun k : Fin 4096 => L (ix4 b h r k)) := by
  change Ideal.exp (L (ix4 b h r j) - spread (tops (rowTop L)) (ix4 b h r j)) = _
  rw [spread_at, tops_at, rowTop_at]

theorem sums_at (w : FVec Ideal S8x8x4096x4096 .f32) (b h : Fin 8) (r : Fin 4096) :
    sums w (ix3 b h r) = (∑ k : Fin 4096, w (ix4 b h r k) : EReal) := by
  pointwise [sums]

theorem attend_at (w s : FVec Ideal S8x8x4096x4096 .f32) (v : FVec Ideal S8x4096x8x64 .f32) (b h : Fin 8) (r : Fin 4096) (d : Fin 64) :
    attend w s v (ix3 b r (⟨64 * h.val + d.val, by omega⟩ : Fin 512))
      = (∑ j : Fin 4096, v (ix4 b j h d) * Ideal.div (w (ix4 b h r j)) (s (ix4 b h r j)) : EReal) := by
  pointwise [attend]

theorem sup_mx (x : ℕ → EReal) (n : ℕ) : (Finset.univ.sup fun k : Fin n => x k.val) = mx x n := by
  have e := mx_add (y := x) 0 n
  rw [mx_zero, max_eq_right bot_le] at e
  simp only [Nat.zero_add] at e
  exact e.symm

/-- The reference's result at an index, as the softmax of the scores against the values. -/
theorem result_at (q0 : FVec Ideal S8x4096x8x64 .f32) (q1 : FVec Ideal S8x4096x8x32 .f32) (k0 : FVec Ideal S8x4096x8x64 .f32)
    (k1 : FVec Ideal S8x4096x32 .f32) (v : FVec Ideal S8x4096x8x64 .f32) (b h : Fin 8) (r : Fin 4096) (d : Fin 64) :
    attend (weights (logits q0 q1 k0 k1)) (spread (sums (weights (logits q0 q1 k0 k1)))) v (ix3 b r (⟨64 * h.val + d.val, by omega⟩ : Fin 512))
      = (∑ j : Fin 4096, v (ix4 b j h d) * Ideal.div (Ideal.exp (logit q0 q1 k0 k1 b h r j.val - mx (logit q0 q1 k0 k1 b h r) 4096))
          (0 + ∑ k : Fin 4096, Ideal.exp (logit q0 q1 k0 k1 b h r k.val - mx (logit q0 q1 k0 k1 b h r) 4096)) : EReal) := by
  have hw : ∀ j : Fin 4096, (weights (logits q0 q1 k0 k1) (ix4 b h r j) : EReal)
      = Ideal.exp (logit q0 q1 k0 k1 b h r j.val - mx (logit q0 q1 k0 k1 b h r) 4096) := by
    intro j
    rw [weights_at, logits_at, ← sup_mx]
    simp only [logits_at]
  rw [attend_at]
  simp only [spread_at, sums_at, hw, zero_add]

end Cert.ReferenceIdeal.Hand
-- ==== Proof.Join.lean ====
module

public import proofs.«01_k».proof.Proof.Array
public import proofs.«01_k».proof.Proof.Pack
public import proofs.«01_k».proof.Proof.Ref
public import proofs.«01_k».proof.Pre_finite

@[expose] public section

/-! The kernel's output and the reference's are one array, for queries and keys that are numbers. -/

set_option maxRecDepth 16384

noncomputable section

namespace Cert.KernelIdeal.Hand

open Cert.KernelIdeal Cert.KernelIdeal.Gen Idealize.ShloMosaic Idealize.ShloMosaic.TcCoe Idealize.SL.Sem
open Cert.Proof.Softmax
open Cert.ReferenceIdeal.Hand (logit)

/-- A number, neither infinity. -/
abbrev Num (x : EReal) : Prop := x ≠ ⊤ ∧ x ≠ ⊥

theorem num_mul {x y : EReal} (hx : Num x) (hy : Num y) : Num (x * y) := by
  lift x to ℝ using hx
  lift y to ℝ using hy
  rw [← EReal.coe_mul]
  exact ⟨EReal.coe_ne_top _, EReal.coe_ne_bot _⟩

theorem num_add {x y : EReal} (hx : Num x) (hy : Num y) : Num (x + y) := by
  lift x to ℝ using hx
  lift y to ℝ using hy
  rw [← EReal.coe_add]
  exact ⟨EReal.coe_ne_top _, EReal.coe_ne_bot _⟩

theorem num_sum {n : ℕ} {f : Fin n → EReal} (h : ∀ i, Num (f i)) : Num (∑ i, f i) :=
  Finset.sum_induction f Num (fun _ _ => num_add) ⟨EReal.zero_ne_top, EReal.zero_ne_bot⟩ fun i _ => h i

section
variable (q0 : FVec Ideal S8x4096x8x64 .f32) (q1 : FVec Ideal S8x4096x8x32 .f32) (k0 : FVec Ideal S8x4096x8x64 .f32)
  (k1 : FVec Ideal S8x4096x32 .f32) (v : FVec Ideal S8x4096x8x64 .f32)

/-- The kernel's scores carry the reference's, in powers of two. -/
theorem rowScore_eq (b h : Fin 8) (r : Fin 4096) (j : ℕ) :
    rowScore (merge (pack q0 q1 zeros)) (merge (pack k0 (shared k1) zeros)) b h r.val j
      = logit q0 q1 k0 k1 b h r j * ((Real.log 2)⁻¹ : ℝ) := by
  unfold rowScore logit
  by_cases hj : j ≤ r.val
  · rw [if_pos hj, if_pos hj]
    have hr : (⟨min r.val 4095, by omega⟩ : Fin 4096) = r := Fin.ext (by show min r.val 4095 = r.val; omega)
    have e : (∑ d : Fin 128, merge (pack q0 q1 zeros) (ix3 b (⟨min r.val 4095, by omega⟩ : Fin 4096) (⟨128 * h.val + d.val, by omega⟩ : Fin 1024))
        * merge (pack k0 (shared k1) zeros) (ix3 b (⟨min j 4095, by omega⟩ : Fin 4096) (⟨128 * h.val + d.val, by omega⟩ : Fin 1024)) : EReal)
        = (∑ d : Fin 64, q0 (ix4 b r h d) * k0 (ix4 b (⟨min j 4095, by omega⟩ : Fin 4096) h d) : EReal)
          + ∑ e : Fin 32, k1 (ix3 b (⟨min j 4095, by omega⟩ : Fin 4096) e) * q1 (ix4 b r h e) := by
      rw [hr]
      refine (Finset.sum_congr rfl fun d _ => congrArg₂ (fun x y : EReal => x * y) (merge_at _ b r h d) (merge_at _ b _ h d)).trans ?_
      refine (dot_pack q0 k0 q1 (shared k1) b r _ h).trans ?_
      refine congrArg (fun x : EReal => _ + x) (Finset.sum_congr rfl fun d _ => ?_)
      rw [shared_at]
      exact mul_comm (G := EReal) _ _
    rw [e, mul_assoc, ← EReal.coe_mul]
  · rw [if_neg hj, if_neg hj, EReal.bot_mul_coe_of_pos (inv_pos.mpr (Real.log_pos (by norm_num)))]

variable (h0 : ∀ i, Num (q0 i)) (h1 : ∀ i, Num (q1 i)) (h2 : ∀ i, Num (k0 i)) (h3 : ∀ i, Num (k1 i))
include h0 h1 h2 h3

theorem logit_num (b h : Fin 8) (r : Fin 4096) (j : ℕ) (hj : j ≤ r.val) : Num (logit q0 q1 k0 k1 b h r j) := by
  unfold logit
  rw [if_pos hj]
  exact num_mul (num_add (num_sum fun d => num_mul (h0 _) (h2 _)) (num_sum fun d => num_mul (h3 _) (h1 _)))
    ⟨EReal.coe_ne_top _, EReal.coe_ne_bot _⟩

theorem logit_ne_top (b h : Fin 8) (r : Fin 4096) (j : ℕ) : logit q0 q1 k0 k1 b h r j ≠ ⊤ := by
  by_cases hj : j ≤ r.val
  · exact (logit_num q0 q1 k0 k1 h0 h1 h2 h3 b h r j hj).1
  · unfold logit; rw [if_neg hj]; exact bot_ne_top

theorem rowScore_ne_top (b h : Fin 8) (r j : ℕ) :
    rowScore (merge (pack q0 q1 zeros)) (merge (pack k0 (shared k1) zeros)) b h r j ≠ ⊤ := by
  by_cases hj : j ≤ r
  · have e : rowScore (merge (pack q0 q1 zeros)) (merge (pack k0 (shared k1) zeros)) b h r j
        = rowScore (merge (pack q0 q1 zeros)) (merge (pack k0 (shared k1) zeros)) b h (min r 4095) (min j (min r 4095)) := by
      unfold rowScore
      rw [if_pos hj, if_pos (by omega : min j (min r 4095) ≤ min r 4095)]
      have e1 : (⟨min (min r 4095) 4095, by omega⟩ : Fin 4096) = ⟨min r 4095, by omega⟩ := Fin.ext (by simp only; omega)
      have e2 : (⟨min (min j (min r 4095)) 4095, by omega⟩ : Fin 4096) = ⟨min j 4095, by omega⟩ := Fin.ext (by simp only; omega)
      rw [e1, e2]
    rw [e, rowScore_eq q0 q1 k0 k1 b h (⟨min r 4095, by omega⟩ : Fin 4096)]
    exact (num_mul (logit_num q0 q1 k0 k1 h0 h1 h2 h3 b h _ _ (by simp only; omega)) ⟨EReal.coe_ne_top _, EReal.coe_ne_bot _⟩).1
  · unfold rowScore; rw [if_neg hj]; exact bot_ne_top

/-- The streamed softmax of the kernel is the reference's. -/
theorem outArr_at (b : Fin 8) (r : Fin 4096) (h : Fin 8) (d : Fin 64) :
    outArr (merge (pack q0 q1 zeros)) (merge (pack k0 (shared k1) zeros)) (mergeV v) (ix3 b r (⟨64 * h.val + d.val, by omega⟩ : Fin 512))
      = ∑ j : Fin 4096, v (ix4 b j h d) * Ideal.div (Ideal.exp (logit q0 q1 k0 k1 b h r j.val - mx (logit q0 q1 k0 k1 b h r) 4096))
          (0 + ∑ k : Fin 4096, Ideal.exp (logit q0 q1 k0 k1 b h r k.val - mx (logit q0 q1 k0 k1 b h r) 4096)) := by
  show outAt (merge (pack q0 q1 zeros)) (merge (pack k0 (shared k1) zeros)) (mergeV v) b r.val (⟨64 * h.val + d.val, by omega⟩ : Fin 512) = _
  unfold outAt
  have eh : (⟨(64 * h.val + d.val) / 64, by omega⟩ : Fin 8) = h := Fin.ext (by simp only; omega)
  have es : rowScore (merge (pack q0 q1 zeros)) (merge (pack k0 (shared k1) zeros)) b h r.val
      = fun j => logit q0 q1 k0 k1 b h r j * ((Real.log 2)⁻¹ : ℝ) := funext fun j => rowScore_eq q0 q1 k0 k1 b h r j
  have key := stream_eq (logit q0 q1 k0 k1 b h r) (colValue (mergeV v) b ⟨64 * h.val + d.val, by omega⟩)
    (2 * (r.val / 256) + 2) 4096 (by omega) (by omega) (logit_ne_top q0 q1 k0 k1 h0 h1 h2 h3 b h r)
    (logit_num q0 q1 k0 k1 h0 h1 h2 h3 b h r 0 (by omega)).2
    (fun j hj _ => by unfold logit; rw [if_neg (by omega)])
  rw [eh, es]
  refine key.trans (Finset.sum_congr rfl fun j _ => ?_)
  refine congrArg (· * _) ?_
  have ej : (⟨min j.val 4095, by omega⟩ : Fin 4096) = j := Fin.ext (by simp only; omega)
  unfold colValue
  rw [ej]
  exact mergeV_at v b j h d

end

/-! The precondition says the queries and keys are numbers. -/

theorem num_of_lt {x : Ideal .f32} (h : FloatOps.cmpf .olt (FloatOps.hostAbsf x) (Scalar.ofBits .f32 0x7F800000#32) = 1#1) : Num x := by
  have e : (Scalar.ofBits .f32 0x7F800000#32 : Ideal .f32) = (⊤ : EReal) := by
    show Ideal.ofBits .f32 0x7F800000#32 = _
    simp [Ideal.ofBits, Ideal.ieee]
  rw [e] at h
  have h' : BitVec.ofBool (decide (max (x : EReal) (-x) < ⊤)) = 1#1 := h
  have hlt : max (x : EReal) (-x) < ⊤ := by
    by_contra hn
    rw [decide_eq_false hn] at h'
    exact absurd h' (by decide)
  refine ⟨fun ht => ?_, fun hb => ?_⟩
  · rw [ht] at hlt; simp at hlt
  · rw [hb] at hlt; simp at hlt

theorem pre_at0 [Cert.Pre_finite.Facts] (q0 : FVec Ideal S8x4096x8x64 .f32) (q1 : FVec Ideal S8x4096x8x32 .f32) (k0 : FVec Ideal S8x4096x8x64 .f32)
    (k1 : FVec Ideal S8x4096x32 .f32) (v : FVec Ideal S8x4096x8x64 .f32)
    (h : (Cert.Pre_finite.fn (F := Ideal) q0 q1 k0 k1 v).1 = fun _ => 1#1) (i : S8x4096x8x64.Idx) : Num (q0 i) :=
  num_of_lt (x := q0 i) (congrFun h i)
theorem pre_at1 [Cert.Pre_finite.Facts] (q0 : FVec Ideal S8x4096x8x64 .f32) (q1 : FVec Ideal S8x4096x8x32 .f32) (k0 : FVec Ideal S8x4096x8x64 .f32)
    (k1 : FVec Ideal S8x4096x32 .f32) (v : FVec Ideal S8x4096x8x64 .f32)
    (h : (Cert.Pre_finite.fn (F := Ideal) q0 q1 k0 k1 v).2.1 = fun _ => 1#1) (i : S8x4096x8x32.Idx) : Num (q1 i) :=
  num_of_lt (x := q1 i) (congrFun h i)
theorem pre_at2 [Cert.Pre_finite.Facts] (q0 : FVec Ideal S8x4096x8x64 .f32) (q1 : FVec Ideal S8x4096x8x32 .f32) (k0 : FVec Ideal S8x4096x8x64 .f32)
    (k1 : FVec Ideal S8x4096x32 .f32) (v : FVec Ideal S8x4096x8x64 .f32)
    (h : (Cert.Pre_finite.fn (F := Ideal) q0 q1 k0 k1 v).2.2.1 = fun _ => 1#1) (i : S8x4096x8x64.Idx) : Num (k0 i) :=
  num_of_lt (x := k0 i) (congrFun h i)
theorem pre_at3 [Cert.Pre_finite.Facts] (q0 : FVec Ideal S8x4096x8x64 .f32) (q1 : FVec Ideal S8x4096x8x32 .f32) (k0 : FVec Ideal S8x4096x8x64 .f32)
    (k1 : FVec Ideal S8x4096x32 .f32) (v : FVec Ideal S8x4096x8x64 .f32)
    (h : (Cert.Pre_finite.fn (F := Ideal) q0 q1 k0 k1 v).2.2.2 = fun _ => 1#1) (i : S8x4096x32.Idx) : Num (k1 i) :=
  num_of_lt (x := k1 i) (congrFun h i)

end Cert.KernelIdeal.Hand
-- ==== Proof.Attention.lean ====
/- The claims about the attention: the kernel's output array and the reference's are one. -/
module

public import proofs.«01_k».proof.Defs
public import proofs.«01_k».proof.Proof.Join
public import proofs.«01_k».proof.Proof.Gen.ReferenceIdeal.Run

@[expose] public section

set_option maxRecDepth 16384

noncomputable section

namespace Cert.Proof.Attention

open Idealize.ShloMosaic Idealize.SL.Sem Cert.KernelIdeal Cert.KernelIdeal.Hand

instance preFacts : Cert.Pre_finite.Facts where
  bcast_S_S8x4096x8x64 := by decide
  bcast_S_S8x4096x8x32 := by decide
  bcast_S_S8x4096x32 := by decide

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- One array for both programs, wherever the queries and keys are numbers. -/
theorem same (q0 : FVec Ideal S8x4096x8x64 .f32) (q1 : FVec Ideal S8x4096x8x32 .f32) (k0 : FVec Ideal S8x4096x8x64 .f32)
    (k1 : FVec Ideal S8x4096x32 .f32) (v : FVec Ideal S8x4096x8x64 .f32)
    (h0 : ∀ i, Num (q0 i)) (h1 : ∀ i, Num (q1 i)) (h2 : ∀ i, Num (k0 i)) (h3 : ∀ i, Num (k1 i)) :
    outArr (merge (pack q0 q1 zeros)) (merge (pack k0 (shared k1) zeros)) (mergeV v)
      = Cert.ReferenceIdeal.Hand.attend (Cert.ReferenceIdeal.Hand.weights (Cert.ReferenceIdeal.Hand.logits q0 q1 k0 k1))
          (Cert.ReferenceIdeal.Hand.spread (Cert.ReferenceIdeal.Hand.sums (Cert.ReferenceIdeal.Hand.weights (Cert.ReferenceIdeal.Hand.logits q0 q1 k0 k1)))) v := by
  funext (i : S8x4096x512.Idx)
  have i2 : (i 2).val < 512 := (i 2).isLt
  have e : i = ix3 (i 0) (i 1) (⟨64 * ((i 2).val / 64) + (i 2).val % 64, by omega⟩ : Fin 512) := by
    funext a; apply Fin.ext
    match a with
    | ⟨0, _⟩ => rfl
    | ⟨1, _⟩ => rfl
    | ⟨2, _⟩ => show (i 2).val = 64 * ((i 2).val / 64) + (i 2).val % 64; omega
  rw [e]
  refine (outArr_at q0 q1 k0 k1 v h0 h1 h2 h3 (i 0) (i 1) ⟨(i 2).val / 64, by omega⟩ ⟨(i 2).val % 64, by omega⟩).trans ?_
  exact (Cert.ReferenceIdeal.Hand.result_at q0 q1 k0 k1 v (i 0) ⟨(i 2).val / 64, by omega⟩ (i 1) ⟨(i 2).val % 64, by omega⟩).symm

theorem algebraic : Cert.algebraic_KernelIdeal_ReferenceIdeal_pre_finite := by
  intro m g m' g' hpre hagree
  have hk : ∀ c : Dev Cert.KernelIdeal.nD, (Cert.KernelIdeal.Gen.dats m 0 c).arrAt 3 Cert.KernelIdeal.cfg0.N
      = Cert.ReferenceIdeal.Value.res_main_v28 m' c := by
    intro c
    obtain ⟨a0, a1, a2, a3, a4⟩ := hagree c
    obtain ⟨p0, p1, p2, p3⟩ := hpre c
    have h0 := pre_at0 _ _ _ _ _ p0
    have h1 := pre_at1 _ _ _ _ _ p1
    have h2 := pre_at2 _ _ _ _ _ p2
    have h3 := pre_at3 _ _ _ _ _ p3
    rw [Cert.ReferenceIdeal.Hand.res_eq, a0, a1, a2, a3, a4]
    rw [final_eq m c (fun b h r j => by
      rw [entry_q, entry_k]
      exact rowScore_ne_top _ _ _ _ h0 h1 h2 h3 b h r j), entry_q, entry_k, entry_v]
    exact same _ _ _ _ _ h0 h1 h2 h3
  refine ⟨fun c => Cert.ReferenceIdeal.Value.res_main_v28 m' c, ?_, Cert.ReferenceIdeal.Value.run (F := Ideal) m' g'⟩
  exact (θ_run Cert.KernelIdeal.defs _ _).mono (fun _ h c => ⟨(h c).1.trans (hk c), (h c).2⟩)
    (Cert.KernelIdeal.Value.run_blocks (F := Ideal) m g)

end Cert.Proof.Attention

end
-- ==== Proof.Half.lean ====
module

public import Idealize.ShloMosaic.Lib.Pointwise

@[expose] public section

/-! A half-step of the layer at one position, over the extended reals: the row normalised by its root mean square, scaled and
    shifted, sent through the gated two-layer network, and added back to the row. -/

set_option maxRecDepth 16384

noncomputable section

namespace Cert.Proof.Half

open Idealize.ShloMosaic

/-- The reciprocal root of a row's mean square. -/
def root (x : Fin 1024 → EReal) : EReal :=
  Ideal.rsqrt (Ideal.div (∑ k : Fin 1024, x k * x k) (Ideal.ofBits FTy.f32 0x44800000#32) + Ideal.ofBits FTy.f32 0x358637BD#32)

/-- The row normalised. -/
def normed (x g : Fin 1024 → EReal) (l : Fin 1024) : EReal := x l * root x * g l

/-- The row normalised, scaled and shifted: the network's input. -/
def entered (x g sc sh : Fin 1024 → EReal) (l : Fin 1024) : EReal := normed x g l * (1 + sc l) + sh l

/-- The gated unit: the first argument by its logistic, by the second. -/
def gated (a b : EReal) : EReal := a * Ideal.div 1 (1 + Ideal.exp (-a)) * b

/-- The hidden row. -/
def unit {n : ℕ} (h : Fin 1024 → EReal) (wg wu : Fin 1024 → Fin n → EReal) (f : Fin n) : EReal :=
  gated (∑ k : Fin 1024, h k * wg k f) (∑ k : Fin 1024, h k * wu k f)

/-- The network's output row. -/
def net {n : ℕ} (h : Fin 1024 → EReal) (wg wu : Fin 1024 → Fin n → EReal) (wd : Fin n → Fin 1024 → EReal) (l : Fin 1024) : EReal :=
  ∑ f : Fin n, unit h wg wu f * wd f l

/-- The half-step's row. -/
def half (x g sc sh gt : Fin 1024 → EReal) (wg wu : Fin 1024 → Fin 2816 → EReal) (wd : Fin 2816 → Fin 1024 → EReal) (l : Fin 1024) : EReal :=
  x l + Ideal.ofBits FTy.f32 0x3F000000#32 * gt l * net (entered x g sc sh) wg wu wd l

/-- The hidden positions of chunk `c`. -/
def at256 (c : Fin 11) (f : Fin 256) : Fin 2816 := ⟨256 * c.val + f.val, by omega⟩

theorem sum_chunks (F : Fin 2816 → EReal) : (∑ f : Fin 2816, F f) = ∑ c : Fin 11, ∑ f : Fin 256, F (at256 c f) := by
  rw [← Fintype.sum_prod_type' (fun (c : Fin 11) (f : Fin 256) => F (at256 c f))]
  refine (Fintype.sum_equiv (finProdFinEquiv (m := 11) (n := 256)) _ _ fun p => ?_).symm
  refine congrArg F (Fin.ext ?_)
  show 256 * p.1.val + p.2.val = p.2.val + 256 * p.1.val
  omega

/-- The network's output row, summed by chunks of 256 hidden positions in order. -/
theorem net_chunks (h : Fin 1024 → EReal) (wg wu : Fin 1024 → Fin 2816 → EReal) (wd : Fin 2816 → Fin 1024 → EReal) (l : Fin 1024)
    (S : Fin 11 → EReal) (hS : ∀ c, S c = net h (fun k f => wg k (at256 c f)) (fun k f => wu k (at256 c f)) (fun f => wd (at256 c f)) l) :
    0 + S 0 + S 1 + S 2 + S 3 + S 4 + S 5 + S 6 + S 7 + S 8 + S 9 + S 10 = net h wg wu wd l := by
  have e : net h wg wu wd l = ∑ c : Fin 11, S c := (sum_chunks _).trans (Finset.sum_congr rfl fun c _ => (hS c).symm)
  rw [e]
  simp only [Fin.sum_univ_castSucc, Fin.sum_univ_zero]
  rfl

end Cert.Proof.Half
-- ==== Proof.Body2.lean ====
module

public import proofs.«01_k».proof.Proof.Gen.Kernel2Ideal.Value
public import proofs.«01_k».proof.Proof.Half
public import Idealize.ShloMosaic.Lib.Pointwise

@[expose] public section

/-! The body of the first half-step's kernel: what a grid point stores, as a half-step of the rows of its block. -/

set_option maxRecDepth 16384

noncomputable section

namespace Cert.Kernel2Ideal.Hand

open Cert.Kernel2Ideal Cert.Kernel2Ideal.Gen Idealize.ShloMosaic Idealize.ShloMosaic.TcCoe Idealize.SL.Sem
open Cert.Proof.Half

/-! The body's term in stages. -/

def rootBlk (x : FVec Ideal S512x1024 .f32) : FVec Ideal S512x1 .f32 :=
  rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))

def normBlk (x : FVec Ideal S512x1024 .f32) (g : Vec Ideal S1x1024 .f32) : FVec Ideal S512x1024 .f32 :=
  mulf (mulf x (broadcastTo S512x1024 (rootBlk x) broadcasts_S512x1_S512x1024))
    (broadcastTo S512x1024 (shapeCast S1x1024 g shapeCasts_S1x1024_S1x1024 : FVec Ideal S1x1024 .f32) broadcasts_S1x1024_S512x1024)

def flat (s : Vec Ideal S1x1x1024 .f32) : FVec Ideal S1x1024 .f32 := shapeCast S1x1024 s shapeCasts_S1x1x1024_S1x1024

def enterBlk (n : FVec Ideal S512x1024 .f32) (sc sh : Vec Ideal S1x1x1024 .f32) : FVec Ideal S512x1024 .bf16 :=
  truncf .bf16 (addf (mulf n (broadcastTo S512x1024 (addf (broadcast S1x1024 (Scalar.ofBits .f32 0x3F800000#32)) (flat sc)) broadcasts_S1x1024_S512x1024))
    (broadcastTo S512x1024 (flat sh) broadcasts_S1x1024_S512x1024)) bitsLt_bf16_f32

def projBlk (h : FVec Ideal S512x1024 .bf16) (w : Vec Ideal S1x1024x256 .bf16) : FVec Ideal S512x256 .f32 :=
  matmul dot_S512x1024_S1024x256_S512x256_1_0_0_1_n_n none h (shapeCast S1024x256 w shapeCasts_S1x1024x256_S1024x256 : FVec Ideal S1024x256 .bf16)
    (constant S512x256 .f32 0x00000000#32)

def gateBlk (a b : FVec Ideal S512x256 .f32) : FVec Ideal S512x256 .bf16 :=
  truncf .bf16 (mulf (mulf a (divf (broadcast S512x256 (Scalar.ofBits .f32 0x3F800000#32))
    (addf (broadcast S512x256 (Scalar.ofBits .f32 0x3F800000#32)) (exp (subf (broadcast S512x256 (Scalar.ofBits .f32 0x00000000#32)) a))))) b) bitsLt_bf16_f32

def downBlk (t : FVec Ideal S512x256 .bf16) (w : Vec Ideal S1x256x1024 .bf16) : FVec Ideal S512x1024 .f32 :=
  matmul dot_S512x256_S256x1024_S512x1024_1_0_0_1_n_n none t (shapeCast S256x1024 w shapeCasts_S1x256x1024_S256x1024 : FVec Ideal S256x1024 .bf16)
    (constant S512x1024 .f32 0x00000000#32)

/-- One chunk of the network's output. -/
def chunk (h : FVec Ideal S512x1024 .bf16) (wg wu : Vec Ideal S1x1024x256 .bf16) (wd : Vec Ideal S1x256x1024 .bf16) : FVec Ideal S512x1024 .f32 :=
  downBlk (gateBlk (projBlk h wg) (projBlk h wu)) wd

def zeroBlk : FVec Ideal S512x1024 .f32 := broadcast S512x1024 (Scalar.ofBits .f32 0x00000000#32)

/-- The chunks added up in order. -/
def total (h : FVec Ideal S512x1024 .bf16) (wg wu : Fin 11 → Vec Ideal S1x1024x256 .bf16) (wd : Fin 11 → Vec Ideal S1x256x1024 .bf16) :
    FVec Ideal S512x1024 .f32 :=
  addf (addf (addf (addf (addf (addf (addf (addf (addf (addf (addf zeroBlk (chunk h (wg 0) (wu 0) (wd 0))) (chunk h (wg 1) (wu 1) (wd 1))) (chunk h (wg 2) (wu 2) (wd 2))) (chunk h (wg 3) (wu 3) (wd 3))) (chunk h (wg 4) (wu 4) (wd 4))) (chunk h (wg 5) (wu 5) (wd 5))) (chunk h (wg 6) (wu 6) (wd 6))) (chunk h (wg 7) (wu 7) (wd 7))) (chunk h (wg 8) (wu 8) (wd 8))) (chunk h (wg 9) (wu 9) (wd 9))) (chunk h (wg 10) (wu 10) (wd 10))

def addBlk (x : FVec Ideal S512x1024 .f32) (gt : Vec Ideal S1x1x1024 .f32) (d : FVec Ideal S512x1024 .f32) : FVec Ideal S512x1024 .f32 :=
  addf x (mulf (broadcastTo S512x1024 (mulf (broadcast S1x1024 (Scalar.ofBits .f32 0x3F000000#32)) (flat gt)) broadcasts_S1x1024_S512x1024) d)

def halfBlk (x : FVec Ideal S512x1024 .f32) (g : Vec Ideal S1x1024 .f32) (sc sh gt : Vec Ideal S1x1x1024 .f32)
    (wg wu : Fin 11 → Vec Ideal S1x1024x256 .bf16) (wd : Fin 11 → Vec Ideal S1x256x1024 .bf16) : FVec Ideal S512x1024 .f32 :=
  addBlk x gt (total (enterBlk (normBlk x g) sc sh) wg wu wd)

def flatX (x : Vec Ideal S1x512x1024 .f32) : FVec Ideal S512x1024 .f32 := shapeCast S512x1024 x shapeCasts_S1x512x1024_S512x1024
def unflat (x : FVec Ideal S512x1024 .f32) : Vec Ideal S1x512x1024 .f32 := shapeCast S1x512x1024 x shapeCasts_S512x1024_S1x512x1024

/-! Each stage at an index. -/

theorem rootBlk_at (x : FVec Ideal S512x1024 .f32) (r : Fin 512) : rootBlk x (ix2 r (0 : Fin 1)) = root fun k => x (ix2 r k) := by
  unfold root
  pointwise [rootBlk]

theorem normBlk_at (x : FVec Ideal S512x1024 .f32) (g : Vec Ideal S1x1024 .f32) (r : Fin 512) (l : Fin 1024) :
    normBlk x g (ix2 r l) = normed (fun k => x (ix2 r k)) (fun k => g (ix2 (0 : Fin 1) k)) l := by
  unfold normed
  rw [← rootBlk_at]
  pointwise [normBlk]

theorem flat_at (s : Vec Ideal S1x1x1024 .f32) (l : Fin 1024) : flat s (ix2 (0 : Fin 1) l) = s (ix3 (0 : Fin 1) (0 : Fin 1) l) := by
  pointwise [flat]

theorem enterBlk_at (n : FVec Ideal S512x1024 .f32) (sc sh : Vec Ideal S1x1x1024 .f32) (r : Fin 512) (l : Fin 1024) :
    enterBlk n sc sh (ix2 r l) = (n (ix2 r l) * (1 + sc (ix3 (0 : Fin 1) (0 : Fin 1) l)) + sh (ix3 (0 : Fin 1) (0 : Fin 1) l) : EReal) := by
  pointwise [enterBlk, flat]

theorem projBlk_at (h : FVec Ideal S512x1024 .bf16) (w : Vec Ideal S1x1024x256 .bf16) (r : Fin 512) (f : Fin 256) :
    projBlk h w (ix2 r f) = (∑ k : Fin 1024, h (ix2 r k) * w (ix3 (0 : Fin 1) k f) : EReal) := by
  pointwise [projBlk]

theorem one_bits : Ideal.ofBits FTy.f32 0x3F800000#32 = 1 := by
  simp [Ideal.ofBits, Ideal.ieee]
  rw [← EReal.coe_mul]
  norm_num

theorem zero_bits : Ideal.ofBits FTy.f32 0x00000000#32 = 0 := by
  simp [Ideal.ofBits, Ideal.ieee]

theorem gateBlk_at (a b : FVec Ideal S512x256 .f32) (i : S512x256.Idx) : gateBlk a b i = gated (a i) (b i) := by
  unfold gated
  rw [← zero_sub (a i : EReal), ← zero_bits, ← one_bits]
  rfl

theorem downBlk_at (t : FVec Ideal S512x256 .bf16) (w : Vec Ideal S1x256x1024 .bf16) (r : Fin 512) (l : Fin 1024) :
    downBlk t w (ix2 r l) = (∑ f : Fin 256, t (ix2 r f) * w (ix3 (0 : Fin 1) f l) : EReal) := by
  pointwise [downBlk]

theorem chunk_at (h : FVec Ideal S512x1024 .bf16) (wg wu : Vec Ideal S1x1024x256 .bf16) (wd : Vec Ideal S1x256x1024 .bf16) (r : Fin 512) (l : Fin 1024) :
    chunk h wg wu wd (ix2 r l) = net (fun k => h (ix2 r k)) (fun k f => wg (ix3 (0 : Fin 1) k f)) (fun k f => wu (ix3 (0 : Fin 1) k f))
      (fun f k => wd (ix3 (0 : Fin 1) f k)) l := by
  unfold chunk net unit
  rw [downBlk_at]
  refine Finset.sum_congr rfl fun f _ => congrArg (· * wd (ix3 (0 : Fin 1) f l)) ?_
  rw [gateBlk_at, projBlk_at, projBlk_at]

theorem total_at (h : FVec Ideal S512x1024 .bf16) (wg wu : Fin 11 → Vec Ideal S1x1024x256 .bf16) (wd : Fin 11 → Vec Ideal S1x256x1024 .bf16)
    (Wg Wu : Fin 1024 → Fin 2816 → EReal) (Wd : Fin 2816 → Fin 1024 → EReal)
    (hg : ∀ c k f, (wg c (ix3 (0 : Fin 1) k f) : EReal) = Wg k (at256 c f)) (hu : ∀ c k f, (wu c (ix3 (0 : Fin 1) k f) : EReal) = Wu k (at256 c f))
    (hd : ∀ c f k, (wd c (ix3 (0 : Fin 1) f k) : EReal) = Wd (at256 c f) k) (r : Fin 512) (l : Fin 1024) :
    total h wg wu wd (ix2 r l) = net (fun k => h (ix2 r k)) Wg Wu Wd l := by
  rw [← net_chunks (fun k => h (ix2 r k)) Wg Wu Wd l (fun c => chunk h (wg c) (wu c) (wd c) (ix2 r l)) fun c => by
    rw [chunk_at]
    refine congr (congrArg₂ (net _) ?_ ?_ |> congr <| ?_) rfl
    · funext k f; exact hg c k f
    · funext k f; exact hu c k f
    · funext f k; exact hd c f k]
  rw [← zero_bits]
  rfl

theorem addBlk_at (x : FVec Ideal S512x1024 .f32) (gt : Vec Ideal S1x1x1024 .f32) (d : FVec Ideal S512x1024 .f32) (r : Fin 512) (l : Fin 1024) :
    addBlk x gt d (ix2 r l) = (x (ix2 r l) + Ideal.ofBits FTy.f32 0x3F000000#32 * gt (ix3 (0 : Fin 1) (0 : Fin 1) l) * d (ix2 r l) : EReal) := by
  pointwise [addBlk, flat]

/-- The half-step of a row of the block. -/
theorem halfBlk_at (x : FVec Ideal S512x1024 .f32) (g : Vec Ideal S1x1024 .f32) (sc sh gt : Vec Ideal S1x1x1024 .f32)
    (wg wu : Fin 11 → Vec Ideal S1x1024x256 .bf16) (wd : Fin 11 → Vec Ideal S1x256x1024 .bf16)
    (Wg Wu : Fin 1024 → Fin 2816 → EReal) (Wd : Fin 2816 → Fin 1024 → EReal)
    (hg : ∀ c k f, (wg c (ix3 (0 : Fin 1) k f) : EReal) = Wg k (at256 c f)) (hu : ∀ c k f, (wu c (ix3 (0 : Fin 1) k f) : EReal) = Wu k (at256 c f))
    (hd : ∀ c f k, (wd c (ix3 (0 : Fin 1) f k) : EReal) = Wd (at256 c f) k) (r : Fin 512) (l : Fin 1024) :
    halfBlk x g sc sh gt wg wu wd (ix2 r l)
      = half (fun k => x (ix2 r k)) (fun k => g (ix2 (0 : Fin 1) k)) (fun k => sc (ix3 (0 : Fin 1) (0 : Fin 1) k))
          (fun k => sh (ix3 (0 : Fin 1) (0 : Fin 1) k)) (fun k => gt (ix3 (0 : Fin 1) (0 : Fin 1) k)) Wg Wu Wd l := by
  unfold halfBlk half
  rw [addBlk_at, total_at _ wg wu wd Wg Wu Wd hg hu hd]
  have e : (fun k => enterBlk (normBlk x g) sc sh (ix2 r k) : Fin 1024 → EReal)
      = entered (fun k => x (ix2 r k)) (fun k => g (ix2 (0 : Fin 1) k)) (fun k => sc (ix3 (0 : Fin 1) (0 : Fin 1) k))
          (fun k => sh (ix3 (0 : Fin 1) (0 : Fin 1) k)) := by
    funext k
    rw [enterBlk_at, normBlk_at]
    rfl
  rw [e]

theorem flatX_at (x : Vec Ideal S1x512x1024 .f32) (r : Fin 512) (l : Fin 1024) : flatX x (ix2 r l) = x (ix3 (0 : Fin 1) r l) := by
  pointwise [flatX]

theorem unflat_at (x : FVec Ideal S512x1024 .f32) (r : Fin 512) (l : Fin 1024) : unflat x (ix3 (0 : Fin 1) r l) = x (ix2 r l) := by
  pointwise [unflat]

/-! The loads. -/

/-- Chunk `c` of the weights. -/
def chunkG (x : S11x1024x256.Idx → EReal) (c : Fin 11) : Vec Ideal S1x1024x256 .bf16 := fun i => x (ix3 c (i 1) (i 2))
def chunkD (x : S11x256x1024.Idx → EReal) (c : Fin 11) : Vec Ideal S1x256x1024 .bf16 := fun i => x (ix3 c (i 1) (i 2))

theorem ld_r0_0 (x : Vec Ideal S1x512x1024 .f32) : View.ld x r0_0 = x := by
  funext (i : S1x512x1024.Idx)
  refine congrArg x (?_ : _ = i)
  funext a; apply Fin.ext
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega

theorem ld_r0_1 (x : Vec Ideal S1x1024 .f32) : View.ld x r0_1 = x := by
  funext (i : S1x1024.Idx)
  refine congrArg x (?_ : _ = i)
  funext a; apply Fin.ext
  match a with
  | ⟨0, _⟩ => show 0 + 1 * (i 0).val = (i 0).val; omega
  | ⟨1, _⟩ => show 0 + 1 * (i 1).val = (i 1).val; omega

theorem ld_r0_2 (x : Vec Ideal S1x1x1024 .f32) : View.ld x r0_2 = x := by
  funext (i : S1x1x1024.Idx)
  refine congrArg x (?_ : _ = i)
  funext a; apply Fin.ext
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega

theorem ld_r0_3 (x : Vec Ideal S11x1024x256 .bf16) : View.ld x r0_3 = chunkG x 0 := by
  funext (i : S1x1024x256.Idx)
  refine congrArg x (?_ : _ = ix3 (0 : Fin 11) (i 1) (i 2))
  funext a; apply Fin.ext
  match a with
  | ⟨0, _⟩ => have h : (i 0).val < 1 := (i 0).isLt; show 0 + 1 * (i 0).val = 0; omega
  | ⟨1, _⟩ => show 0 + 1 * (i 1).val = (i 1).val; omega
  | ⟨2, _⟩ => show 0 + 1 * (i 2).val = (i 2).val; omega

theorem ld_r0_4 (x : Vec Ideal S11x256x1024 .bf16) : View.ld x r0_4 = chunkD x 0 := by
  funext (i : S1x256x1024.Idx)
  refine congrArg x (?_ : _ = ix3 (0 : Fin 11) (i 1) (i 2))
  funext a; apply Fin.ext
  match a with
  | ⟨0, _⟩ => have h : (i 0).val < 1 := (i 0).isLt; show 0 + 1 * (i 0).val = 0; omega
  | ⟨1, _⟩ => show 0 + 1 * (i 1).val = (i 1).val; omega
  | ⟨2, _⟩ => show 0 + 1 * (i 2).val = (i 2).val; omega

theorem ld_r0_5 (x : Vec Ideal S11x1024x256 .bf16) : View.ld x r0_5 = chunkG x 1 := by
  funext (i : S1x1024x256.Idx)
  refine congrArg x (?_ : _ = ix3 (1 : Fin 11) (i 1) (i 2))
  funext a; apply Fin.ext
  match a with
  | ⟨0, _⟩ => have h : (i 0).val < 1 := (i 0).isLt; show 1 + 1 * (i 0).val = 1; omega
  | ⟨1, _⟩ => show 0 + 1 * (i 1).val = (i 1).val; omega
  | ⟨2, _⟩ => show 0 + 1 * (i 2).val = (i 2).val; omega

theorem ld_r0_6 (x : Vec Ideal S11x256x1024 .bf16) : View.ld x r0_6 = chunkD x 1 := by
  funext (i : S1x256x1024.Idx)
  refine congrArg x (?_ : _ = ix3 (1 : Fin 11) (i 1) (i 2))
  funext a; apply Fin.ext
  match a with
  | ⟨0, _⟩ => have h : (i 0).val < 1 := (i 0).isLt; show 1 + 1 * (i 0).val = 1; omega
  | ⟨1, _⟩ => show 0 + 1 * (i 1).val = (i 1).val; omega
  | ⟨2, _⟩ => show 0 + 1 * (i 2).val = (i 2).val; omega

theorem ld_r0_7 (x : Vec Ideal S11x1024x256 .bf16) : View.ld x r0_7 = chunkG x 2 := by
  funext (i : S1x1024x256.Idx)
  refine congrArg x (?_ : _ = ix3 (2 : Fin 11) (i 1) (i 2))
  funext a; apply Fin.ext
  match a with
  | ⟨0, _⟩ => have h : (i 0).val < 1 := (i 0).isLt; show 2 + 1 * (i 0).val = 2; omega
  | ⟨1, _⟩ => show 0 + 1 * (i 1).val = (i 1).val; omega
  | ⟨2, _⟩ => show 0 + 1 * (i 2).val = (i 2).val; omega

theorem ld_r0_8 (x : Vec Ideal S11x256x1024 .bf16) : View.ld x r0_8 = chunkD x 2 := by
  funext (i : S1x256x1024.Idx)
  refine congrArg x (?_ : _ = ix3 (2 : Fin 11) (i 1) (i 2))
  funext a; apply Fin.ext
  match a with
  | ⟨0, _⟩ => have h : (i 0).val < 1 := (i 0).isLt; show 2 + 1 * (i 0).val = 2; omega
  | ⟨1, _⟩ => show 0 + 1 * (i 1).val = (i 1).val; omega
  | ⟨2, _⟩ => show 0 + 1 * (i 2).val = (i 2).val; omega

theorem ld_r0_9 (x : Vec Ideal S11x1024x256 .bf16) : View.ld x r0_9 = chunkG x 3 := by
  funext (i : S1x1024x256.Idx)
  refine congrArg x (?_ : _ = ix3 (3 : Fin 11) (i 1) (i 2))
  funext a; apply Fin.ext
  match a with
  | ⟨0, _⟩ => have h : (i 0).val < 1 := (i 0).isLt; show 3 + 1 * (i 0).val = 3; omega
  | ⟨1, _⟩ => show 0 + 1 * (i 1).val = (i 1).val; omega
  | ⟨2, _⟩ => show 0 + 1 * (i 2).val = (i 2).val; omega

theorem ld_r0_10 (x : Vec Ideal S11x256x1024 .bf16) : View.ld x r0_10 = chunkD x 3 := by
  funext (i : S1x256x1024.Idx)
  refine congrArg x (?_ : _ = ix3 (3 : Fin 11) (i 1) (i 2))
  funext a; apply Fin.ext
  match a with
  | ⟨0, _⟩ => have h : (i 0).val < 1 := (i 0).isLt; show 3 + 1 * (i 0).val = 3; omega
  | ⟨1, _⟩ => show 0 + 1 * (i 1).val = (i 1).val; omega
  | ⟨2, _⟩ => show 0 + 1 * (i 2).val = (i 2).val; omega

theorem ld_r0_11 (x : Vec Ideal S11x1024x256 .bf16) : View.ld x r0_11 = chunkG x 4 := by
  funext (i : S1x1024x256.Idx)
  refine congrArg x (?_ : _ = ix3 (4 : Fin 11) (i 1) (i 2))
  funext a; apply Fin.ext
  match a with
  | ⟨0, _⟩ => have h : (i 0).val < 1 := (i 0).isLt; show 4 + 1 * (i 0).val = 4; omega
  | ⟨1, _⟩ => show 0 + 1 * (i 1).val = (i 1).val; omega
  | ⟨2, _⟩ => show 0 + 1 * (i 2).val = (i 2).val; omega

theorem ld_r0_12 (x : Vec Ideal S11x256x1024 .bf16) : View.ld x r0_12 = chunkD x 4 := by
  funext (i : S1x256x1024.Idx)
  refine congrArg x (?_ : _ = ix3 (4 : Fin 11) (i 1) (i 2))
  funext a; apply Fin.ext
  match a with
  | ⟨0, _⟩ => have h : (i 0).val < 1 := (i 0).isLt; show 4 + 1 * (i 0).val = 4; omega
  | ⟨1, _⟩ => show 0 + 1 * (i 1).val = (i 1).val; omega
  | ⟨2, _⟩ => show 0 + 1 * (i 2).val = (i 2).val; omega

theorem ld_r0_13 (x : Vec Ideal S11x1024x256 .bf16) : View.ld x r0_13 = chunkG x 5 := by
  funext (i : S1x1024x256.Idx)
  refine congrArg x (?_ : _ = ix3 (5 : Fin 11) (i 1) (i 2))
  funext a; apply Fin.ext
  match a with
  | ⟨0, _⟩ => have h : (i 0).val < 1 := (i 0).isLt; show 5 + 1 * (i 0).val = 5; omega
  | ⟨1, _⟩ => show 0 + 1 * (i 1).val = (i 1).val; omega
  | ⟨2, _⟩ => show 0 + 1 * (i 2).val = (i 2).val; omega

theorem ld_r0_14 (x : Vec Ideal S11x256x1024 .bf16) : View.ld x r0_14 = chunkD x 5 := by
  funext (i : S1x256x1024.Idx)
  refine congrArg x (?_ : _ = ix3 (5 : Fin 11) (i 1) (i 2))
  funext a; apply Fin.ext
  match a with
  | ⟨0, _⟩ => have h : (i 0).val < 1 := (i 0).isLt; show 5 + 1 * (i 0).val = 5; omega
  | ⟨1, _⟩ => show 0 + 1 * (i 1).val = (i 1).val; omega
  | ⟨2, _⟩ => show 0 + 1 * (i 2).val = (i 2).val; omega

theorem ld_r0_15 (x : Vec Ideal S11x1024x256 .bf16) : View.ld x r0_15 = chunkG x 6 := by
  funext (i : S1x1024x256.Idx)
  refine congrArg x (?_ : _ = ix3 (6 : Fin 11) (i 1) (i 2))
  funext a; apply Fin.ext
  match a with
  | ⟨0, _⟩ => have h : (i 0).val < 1 := (i 0).isLt; show 6 + 1 * (i 0).val = 6; omega
  | ⟨1, _⟩ => show 0 + 1 * (i 1).val = (i 1).val; omega
  | ⟨2, _⟩ => show 0 + 1 * (i 2).val = (i 2).val; omega

theorem ld_r0_16 (x : Vec Ideal S11x256x1024 .bf16) : View.ld x r0_16 = chunkD x 6 := by
  funext (i : S1x256x1024.Idx)
  refine congrArg x (?_ : _ = ix3 (6 : Fin 11) (i 1) (i 2))
  funext a; apply Fin.ext
  match a with
  | ⟨0, _⟩ => have h : (i 0).val < 1 := (i 0).isLt; show 6 + 1 * (i 0).val = 6; omega
  | ⟨1, _⟩ => show 0 + 1 * (i 1).val = (i 1).val; omega
  | ⟨2, _⟩ => show 0 + 1 * (i 2).val = (i 2).val; omega

theorem ld_r0_17 (x : Vec Ideal S11x1024x256 .bf16) : View.ld x r0_17 = chunkG x 7 := by
  funext (i : S1x1024x256.Idx)
  refine congrArg x (?_ : _ = ix3 (7 : Fin 11) (i 1) (i 2))
  funext a; apply Fin.ext
  match a with
  | ⟨0, _⟩ => have h : (i 0).val < 1 := (i 0).isLt; show 7 + 1 * (i 0).val = 7; omega
  | ⟨1, _⟩ => show 0 + 1 * (i 1).val = (i 1).val; omega
  | ⟨2, _⟩ => show 0 + 1 * (i 2).val = (i 2).val; omega

theorem ld_r0_18 (x : Vec Ideal S11x256x1024 .bf16) : View.ld x r0_18 = chunkD x 7 := by
  funext (i : S1x256x1024.Idx)
  refine congrArg x (?_ : _ = ix3 (7 : Fin 11) (i 1) (i 2))
  funext a; apply Fin.ext
  match a with
  | ⟨0, _⟩ => have h : (i 0).val < 1 := (i 0).isLt; show 7 + 1 * (i 0).val = 7; omega
  | ⟨1, _⟩ => show 0 + 1 * (i 1).val = (i 1).val; omega
  | ⟨2, _⟩ => show 0 + 1 * (i 2).val = (i 2).val; omega

theorem ld_r0_19 (x : Vec Ideal S11x1024x256 .bf16) : View.ld x r0_19 = chunkG x 8 := by
  funext (i : S1x1024x256.Idx)
  refine congrArg x (?_ : _ = ix3 (8 : Fin 11) (i 1) (i 2))
  funext a; apply Fin.ext
  match a with
  | ⟨0, _⟩ => have h : (i 0).val < 1 := (i 0).isLt; show 8 + 1 * (i 0).val = 8; omega
  | ⟨1, _⟩ => show 0 + 1 * (i 1).val = (i 1).val; omega
  | ⟨2, _⟩ => show 0 + 1 * (i 2).val = (i 2).val; omega

theorem ld_r0_20 (x : Vec Ideal S11x256x1024 .bf16) : View.ld x r0_20 = chunkD x 8 := by
  funext (i : S1x256x1024.Idx)
  refine congrArg x (?_ : _ = ix3 (8 : Fin 11) (i 1) (i 2))
  funext a; apply Fin.ext
  match a with
  | ⟨0, _⟩ => have h : (i 0).val < 1 := (i 0).isLt; show 8 + 1 * (i 0).val = 8; omega
  | ⟨1, _⟩ => show 0 + 1 * (i 1).val = (i 1).val; omega
  | ⟨2, _⟩ => show 0 + 1 * (i 2).val = (i 2).val; omega

theorem ld_r0_21 (x : Vec Ideal S11x1024x256 .bf16) : View.ld x r0_21 = chunkG x 9 := by
  funext (i : S1x1024x256.Idx)
  refine congrArg x (?_ : _ = ix3 (9 : Fin 11) (i 1) (i 2))
  funext a; apply Fin.ext
  match a with
  | ⟨0, _⟩ => have h : (i 0).val < 1 := (i 0).isLt; show 9 + 1 * (i 0).val = 9; omega
  | ⟨1, _⟩ => show 0 + 1 * (i 1).val = (i 1).val; omega
  | ⟨2, _⟩ => show 0 + 1 * (i 2).val = (i 2).val; omega

theorem ld_r0_22 (x : Vec Ideal S11x256x1024 .bf16) : View.ld x r0_22 = chunkD x 9 := by
  funext (i : S1x256x1024.Idx)
  refine congrArg x (?_ : _ = ix3 (9 : Fin 11) (i 1) (i 2))
  funext a; apply Fin.ext
  match a with
  | ⟨0, _⟩ => have h : (i 0).val < 1 := (i 0).isLt; show 9 + 1 * (i 0).val = 9; omega
  | ⟨1, _⟩ => show 0 + 1 * (i 1).val = (i 1).val; omega
  | ⟨2, _⟩ => show 0 + 1 * (i 2).val = (i 2).val; omega

theorem ld_r0_23 (x : Vec Ideal S11x1024x256 .bf16) : View.ld x r0_23 = chunkG x 10 := by
  funext (i : S1x1024x256.Idx)
  refine congrArg x (?_ : _ = ix3 (10 : Fin 11) (i 1) (i 2))
  funext a; apply Fin.ext
  match a with
  | ⟨0, _⟩ => have h : (i 0).val < 1 := (i 0).isLt; show 10 + 1 * (i 0).val = 10; omega
  | ⟨1, _⟩ => show 0 + 1 * (i 1).val = (i 1).val; omega
  | ⟨2, _⟩ => show 0 + 1 * (i 2).val = (i 2).val; omega

theorem ld_r0_24 (x : Vec Ideal S11x256x1024 .bf16) : View.ld x r0_24 = chunkD x 10 := by
  funext (i : S1x256x1024.Idx)
  refine congrArg x (?_ : _ = ix3 (10 : Fin 11) (i 1) (i 2))
  funext a; apply Fin.ext
  match a with
  | ⟨0, _⟩ => have h : (i 0).val < 1 := (i 0).isLt; show 10 + 1 * (i 0).val = 10; omega
  | ⟨1, _⟩ => show 0 + 1 * (i 1).val = (i 1).val; omega
  | ⟨2, _⟩ => show 0 + 1 * (i 2).val = (i 2).val; omega

theorem canon_whole (w : Vec Ideal S1x512x1024 .f32) : (View.canon [⟨r0_0, w⟩] : Vec Ideal S1x512x1024 .f32) = w := by
  funext (i : S1x512x1024.Idx)
  have e : r0_0.emb i = i := by
    funext a; apply Fin.ext
    match a with
    | ⟨0, _⟩ => show 0 + 1 * (i 0).val = (i 0).val; omega
    | ⟨1, _⟩ => show 0 + 1 * (i 1).val = (i 1).val; omega
    | ⟨2, _⟩ => show 0 + 1 * (i 2).val = (i 2).val; omega
  have h := View.canon_cons_emb (Val := Elt Ideal) r0_0 w [] i
  rw [e] at h
  exact h

/-- The stored block in stages, over what the body loads. -/
theorem out_loads (x0 : Vec Ideal S1x512x1024 .f32) (x1 x2 x3 : Vec Ideal S1x1x1024 .f32) (x4 : Vec Ideal S1x1024 .f32)
    (x5 x6 : Vec Ideal S11x1024x256 .bf16) (x7 : Vec Ideal S11x256x1024 .bf16) :
    out0_8 (F := Ideal) x0 x1 x2 x3 x4 x5 x6 x7 = View.canon [⟨r0_0, unflat (addBlk (flatX (View.ld x0 r0_0)) (View.ld x3 r0_2)
      (addf (addf (addf (addf (addf (addf (addf (addf (addf (addf (addf (zeroBlk) (chunk (enterBlk (normBlk (flatX (View.ld x0 r0_0)) (View.ld x4 r0_1)) (View.ld x2 r0_2) (View.ld x1 r0_2)) (View.ld x5 r0_3) (View.ld x6 r0_3) (View.ld x7 r0_4))) (chunk (enterBlk (normBlk (flatX (View.ld x0 r0_0)) (View.ld x4 r0_1)) (View.ld x2 r0_2) (View.ld x1 r0_2)) (View.ld x5 r0_5) (View.ld x6 r0_5) (View.ld x7 r0_6))) (chunk (enterBlk (normBlk (flatX (View.ld x0 r0_0)) (View.ld x4 r0_1)) (View.ld x2 r0_2) (View.ld x1 r0_2)) (View.ld x5 r0_7) (View.ld x6 r0_7) (View.ld x7 r0_8))) (chunk (enterBlk (normBlk (flatX (View.ld x0 r0_0)) (View.ld x4 r0_1)) (View.ld x2 r0_2) (View.ld x1 r0_2)) (View.ld x5 r0_9) (View.ld x6 r0_9) (View.ld x7 r0_10))) (chunk (enterBlk (normBlk (flatX (View.ld x0 r0_0)) (View.ld x4 r0_1)) (View.ld x2 r0_2) (View.ld x1 r0_2)) (View.ld x5 r0_11) (View.ld x6 r0_11) (View.ld x7 r0_12))) (chunk (enterBlk (normBlk (flatX (View.ld x0 r0_0)) (View.ld x4 r0_1)) (View.ld x2 r0_2) (View.ld x1 r0_2)) (View.ld x5 r0_13) (View.ld x6 r0_13) (View.ld x7 r0_14))) (chunk (enterBlk (normBlk (flatX (View.ld x0 r0_0)) (View.ld x4 r0_1)) (View.ld x2 r0_2) (View.ld x1 r0_2)) (View.ld x5 r0_15) (View.ld x6 r0_15) (View.ld x7 r0_16))) (chunk (enterBlk (normBlk (flatX (View.ld x0 r0_0)) (View.ld x4 r0_1)) (View.ld x2 r0_2) (View.ld x1 r0_2)) (View.ld x5 r0_17) (View.ld x6 r0_17) (View.ld x7 r0_18))) (chunk (enterBlk (normBlk (flatX (View.ld x0 r0_0)) (View.ld x4 r0_1)) (View.ld x2 r0_2) (View.ld x1 r0_2)) (View.ld x5 r0_19) (View.ld x6 r0_19) (View.ld x7 r0_20))) (chunk (enterBlk (normBlk (flatX (View.ld x0 r0_0)) (View.ld x4 r0_1)) (View.ld x2 r0_2) (View.ld x1 r0_2)) (View.ld x5 r0_21) (View.ld x6 r0_21) (View.ld x7 r0_22))) (chunk (enterBlk (normBlk (flatX (View.ld x0 r0_0)) (View.ld x4 r0_1)) (View.ld x2 r0_2) (View.ld x1 r0_2)) (View.ld x5 r0_23) (View.ld x6 r0_23) (View.ld x7 r0_24))))⟩] := rfl

theorem out_eq (x0 : Vec Ideal S1x512x1024 .f32) (x1 x2 x3 : Vec Ideal S1x1x1024 .f32) (x4 : Vec Ideal S1x1024 .f32)
    (x5 x6 : Vec Ideal S11x1024x256 .bf16) (x7 : Vec Ideal S11x256x1024 .bf16) :
    out0_8 (F := Ideal) x0 x1 x2 x3 x4 x5 x6 x7 = unflat (halfBlk (flatX x0) x4 x2 x1 x3 (chunkG x5) (chunkG x6) (chunkD x7)) := by
  rw [out_loads, canon_whole, ld_r0_0, ld_r0_1, ld_r0_2, ld_r0_2, ld_r0_2, ld_r0_3, ld_r0_3, ld_r0_4, ld_r0_5, ld_r0_5, ld_r0_6, ld_r0_7, ld_r0_7, ld_r0_8, ld_r0_9, ld_r0_9, ld_r0_10, ld_r0_11, ld_r0_11, ld_r0_12, ld_r0_13, ld_r0_13, ld_r0_14, ld_r0_15, ld_r0_15, ld_r0_16, ld_r0_17, ld_r0_17, ld_r0_18, ld_r0_19, ld_r0_19, ld_r0_20, ld_r0_21, ld_r0_21, ld_r0_22, ld_r0_23, ld_r0_23, ld_r0_24]
  rfl

end Cert.Kernel2Ideal.Hand
-- ==== Proof.Array2.lean ====
module

public import proofs.«01_k».proof.Proof.Body2

@[expose] public section

/-! The output array of the first half-step's kernel: each block is what its point stores, and the blocks cover the array. -/

set_option maxRecDepth 16384

noncomputable section

namespace Cert.Kernel2Ideal.Hand

open Cert.Kernel2Ideal Cert.Kernel2Ideal.Gen Idealize.ShloMosaic Idealize.ShloMosaic.TcCoe Idealize.SL.Sem
open Cert.Proof.Half

/-! The blocks of the windows. -/

theorem lt64 (t : Fin cfg0.N) : t.val < 64 := t.isLt

theorem index0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem emb0 (t : Fin cfg0.N) (j : S1x512x1024.Idx) : ((cfg0.win 0).blk t).view.emb j
    = ix3 (⟨t.val / 8, by have := lt64 t; omega⟩ : Fin 8) (⟨512 * (t.val % 8) + (j 1).val, by have h : (j 1).val < 512 := (j 1).isLt; omega⟩ : Fin 4096) (j 2) := by
  obtain ⟨e0, e1, e2⟩ := index0 t
  funext a; apply Fin.ext
  match a with
  | ⟨0, _⟩ => have h : (j 0).val < 1 := (j 0).isLt; show win0_0.index t (0 : Fin 3) * 1 + 1 * (j 0).val = t.val / 8; omega
  | ⟨1, _⟩ => show win0_0.index t (1 : Fin 3) * 512 + 1 * (j 1).val = 512 * (t.val % 8) + (j 1).val; omega
  | ⟨2, _⟩ => show win0_0.index t (2 : Fin 3) * 1024 + 1 * (j 2).val = (j 2).val; omega

theorem index1 : ∀ t : Fin cfg0.N, win0_1.index t (0 : Fin 3) = t.val / 8 ∧ win0_1.index t (1 : Fin 3) = 0 ∧ win0_1.index t (2 : Fin 3) = 0 :=
  (by decide +kernel : ∀ t : Fin grid0.N, _)
theorem emb1 (t : Fin cfg0.N) (j : S1x1x1024.Idx) : ((cfg0.win 1).blk t).view.emb j
    = ix3 (⟨t.val / 8, by have := lt64 t; omega⟩ : Fin 8) (j 1) (⟨0 + (j 2).val, by have h : (j 2).val < 1024 := (j 2).isLt; omega⟩ : Fin 9216) := by
  obtain ⟨e0, e1, e2⟩ := index1 t
  funext a; apply Fin.ext
  match a with
  | ⟨0, _⟩ => have h : (j 0).val < 1 := (j 0).isLt; show win0_1.index t (0 : Fin 3) * 1 + 1 * (j 0).val = t.val / 8; omega
  | ⟨1, _⟩ => show win0_1.index t (1 : Fin 3) * 1 + 1 * (j 1).val = (j 1).val; omega
  | ⟨2, _⟩ => show win0_1.index t (2 : Fin 3) * 1024 + 1 * (j 2).val = 0 + (j 2).val; omega

theorem index2 : ∀ t : Fin cfg0.N, win0_2.index t (0 : Fin 3) = t.val / 8 ∧ win0_2.index t (1 : Fin 3) = 0 ∧ win0_2.index t (2 : Fin 3) = 1 :=
  (by decide +kernel : ∀ t : Fin grid0.N, _)
theorem emb2 (t : Fin cfg0.N) (j : S1x1x1024.Idx) : ((cfg0.win 2).blk t).view.emb j
    = ix3 (⟨t.val / 8, by have := lt64 t; omega⟩ : Fin 8) (j 1) (⟨1024 + (j 2).val, by have h : (j 2).val < 1024 := (j 2).isLt; omega⟩ : Fin 9216) := by
  obtain ⟨e0, e1, e2⟩ := index2 t
  funext a; apply Fin.ext
  match a with
  | ⟨0, _⟩ => have h : (j 0).val < 1 := (j 0).isLt; show win0_2.index t (0 : Fin 3) * 1 + 1 * (j 0).val = t.val / 8; omega
  | ⟨1, _⟩ => show win0_2.index t (1 : Fin 3) * 1 + 1 * (j 1).val = (j 1).val; omega
  | ⟨2, _⟩ => show win0_2.index t (2 : Fin 3) * 1024 + 1 * (j 2).val = 1024 + (j 2).val; omega

theorem index3 : ∀ t : Fin cfg0.N, win0_3.index t (0 : Fin 3) = t.val / 8 ∧ win0_3.index t (1 : Fin 3) = 0 ∧ win0_3.index t (2 : Fin 3) = 2 :=
  (by decide +kernel : ∀ t : Fin grid0.N, _)
theorem emb3 (t : Fin cfg0.N) (j : S1x1x1024.Idx) : ((cfg0.win 3).blk t).view.emb j
    = ix3 (⟨t.val / 8, by have := lt64 t; omega⟩ : Fin 8) (j 1) (⟨2048 + (j 2).val, by have h : (j 2).val < 1024 := (j 2).isLt; omega⟩ : Fin 9216) := by
  obtain ⟨e0, e1, e2⟩ := index3 t
  funext a; apply Fin.ext
  match a with
  | ⟨0, _⟩ => have h : (j 0).val < 1 := (j 0).isLt; show win0_3.index t (0 : Fin 3) * 1 + 1 * (j 0).val = t.val / 8; omega
  | ⟨1, _⟩ => show win0_3.index t (1 : Fin 3) * 1 + 1 * (j 1).val = (j 1).val; omega
  | ⟨2, _⟩ => show win0_3.index t (2 : Fin 3) * 1024 + 1 * (j 2).val = 2048 + (j 2).val; omega

theorem index4 : ∀ t : Fin cfg0.N, win0_4.index t (0 : Fin 2) = 0 ∧ win0_4.index t (1 : Fin 2) = 0 :=
  (by decide +kernel : ∀ t : Fin grid0.N, _)
theorem emb4 (t : Fin cfg0.N) (j : S1x1024.Idx) : ((cfg0.win 4).blk t).view.emb j
    = ix2 (j 0) (j 1) := by
  obtain ⟨e0, e1⟩ := index4 t
  funext a; apply Fin.ext
  match a with
  | ⟨0, _⟩ => show win0_4.index t (0 : Fin 2) * 1 + 1 * (j 0).val = (j 0).val; omega
  | ⟨1, _⟩ => show win0_4.index t (1 : Fin 2) * 1024 + 1 * (j 1).val = (j 1).val; omega

theorem index5 : ∀ t : Fin cfg0.N, win0_5.index t (0 : Fin 3) = 0 ∧ win0_5.index t (1 : Fin 3) = 0 ∧ win0_5.index t (2 : Fin 3) = 0 :=
  (by decide +kernel : ∀ t : Fin grid0.N, _)
theorem emb5 (t : Fin cfg0.N) (j : S11x1024x256.Idx) : ((cfg0.win 5).blk t).view.emb j
    = ix3 (j 0) (j 1) (j 2) := by
  obtain ⟨e0, e1, e2⟩ := index5 t
  funext a; apply Fin.ext
  match a with
  | ⟨0, _⟩ => show win0_5.index t (0 : Fin 3) * 11 + 1 * (j 0).val = (j 0).val; omega
  | ⟨1, _⟩ => show win0_5.index t (1 : Fin 3) * 1024 + 1 * (j 1).val = (j 1).val; omega
  | ⟨2, _⟩ => show win0_5.index t (2 : Fin 3) * 256 + 1 * (j 2).val = (j 2).val; omega

theorem index6 : ∀ t : Fin cfg0.N, win0_6.index t (0 : Fin 3) = 0 ∧ win0_6.index t (1 : Fin 3) = 0 ∧ win0_6.index t (2 : Fin 3) = 0 :=
  (by decide +kernel : ∀ t : Fin grid0.N, _)
theorem emb6 (t : Fin cfg0.N) (j : S11x1024x256.Idx) : ((cfg0.win 6).blk t).view.emb j
    = ix3 (j 0) (j 1) (j 2) := by
  obtain ⟨e0, e1, e2⟩ := index6 t
  funext a; apply Fin.ext
  match a with
  | ⟨0, _⟩ => show win0_6.index t (0 : Fin 3) * 11 + 1 * (j 0).val = (j 0).val; omega
  | ⟨1, _⟩ => show win0_6.index t (1 : Fin 3) * 1024 + 1 * (j 1).val = (j 1).val; omega
  | ⟨2, _⟩ => show win0_6.index t (2 : Fin 3) * 256 + 1 * (j 2).val = (j 2).val; omega

theorem index7 : ∀ t : Fin cfg0.N, win0_7.index t (0 : Fin 3) = 0 ∧ win0_7.index t (1 : Fin 3) = 0 ∧ win0_7.index t (2 : Fin 3) = 0 :=
  (by decide +kernel : ∀ t : Fin grid0.N, _)
theorem emb7 (t : Fin cfg0.N) (j : S11x256x1024.Idx) : ((cfg0.win 7).blk t).view.emb j
    = ix3 (j 0) (j 1) (j 2) := by
  obtain ⟨e0, e1, e2⟩ := index7 t
  funext a; apply Fin.ext
  match a with
  | ⟨0, _⟩ => show win0_7.index t (0 : Fin 3) * 11 + 1 * (j 0).val = (j 0).val; omega
  | ⟨1, _⟩ => show win0_7.index t (1 : Fin 3) * 256 + 1 * (j 1).val = (j 1).val; omega
  | ⟨2, _⟩ => show win0_7.index t (2 : Fin 3) * 1024 + 1 * (j 2).val = (j 2).val; omega

theorem index8 : ∀ t : Fin cfg0.N, win0_8.index t (0 : Fin 3) = t.val / 8 ∧ win0_8.index t (1 : Fin 3) = t.val % 8 ∧ win0_8.index t (2 : Fin 3) = 0 :=
  (by decide +kernel : ∀ t : Fin grid0.N, _)
theorem emb8 (t : Fin cfg0.N) (j : S1x512x1024.Idx) : ((cfg0.win 8).blk t).view.emb j
    = ix3 (⟨t.val / 8, by have := lt64 t; omega⟩ : Fin 8) (⟨512 * (t.val % 8) + (j 1).val, by have h : (j 1).val < 512 := (j 1).isLt; omega⟩ : Fin 4096) (j 2) := by
  obtain ⟨e0, e1, e2⟩ := index8 t
  funext a; apply Fin.ext
  match a with
  | ⟨0, _⟩ => have h : (j 0).val < 1 := (j 0).isLt; show win0_8.index t (0 : Fin 3) * 1 + 1 * (j 0).val = t.val / 8; omega
  | ⟨1, _⟩ => show win0_8.index t (1 : Fin 3) * 512 + 1 * (j 1).val = 512 * (t.val % 8) + (j 1).val; omega
  | ⟨2, _⟩ => show win0_8.index t (2 : Fin 3) * 1024 + 1 * (j 2).val = (j 2).val; omega

/-! The blocks of the arrays the grid reads. -/

def blk0 (X : S8x4096x1024.Idx → EReal) (t : Fin cfg0.N) : S1x512x1024.Idx → EReal := ((cfg0.win 0).blk t).view.read (Elt Ideal) X
theorem blk0_at (X : S8x4096x1024.Idx → EReal) (t : Fin cfg0.N) (r : Fin 512) (l : Fin 1024) :
    blk0 X t (ix3 (0 : Fin 1) r l) = X (ix3 (⟨t.val / 8, by have := lt64 t; omega⟩ : Fin 8) (⟨512 * (t.val % 8) + r.val, by omega⟩ : Fin 4096) l) := by
  show X (((cfg0.win 0).blk t).view.emb (ix3 (0 : Fin 1) r l)) = _
  rw [emb0]
  rfl

def blk1 (X : S8x1x9216.Idx → EReal) (t : Fin cfg0.N) : S1x1x1024.Idx → EReal := ((cfg0.win 1).blk t).view.read (Elt Ideal) X
theorem blk1_at (X : S8x1x9216.Idx → EReal) (t : Fin cfg0.N) (l : Fin 1024) :
    blk1 X t (ix3 (0 : Fin 1) (0 : Fin 1) l) = X (ix3 (⟨t.val / 8, by have := lt64 t; omega⟩ : Fin 8) (0 : Fin 1) (⟨0 + l.val, by omega⟩ : Fin 9216)) := by
  show X (((cfg0.win 1).blk t).view.emb (ix3 (0 : Fin 1) (0 : Fin 1) l)) = _
  rw [emb1]
  rfl

def blk2 (X : S8x1x9216.Idx → EReal) (t : Fin cfg0.N) : S1x1x1024.Idx → EReal := ((cfg0.win 2).blk t).view.read (Elt Ideal) X
theorem blk2_at (X : S8x1x9216.Idx → EReal) (t : Fin cfg0.N) (l : Fin 1024) :
    blk2 X t (ix3 (0 : Fin 1) (0 : Fin 1) l) = X (ix3 (⟨t.val / 8, by have := lt64 t; omega⟩ : Fin 8) (0 : Fin 1) (⟨1024 + l.val, by omega⟩ : Fin 9216)) := by
  show X (((cfg0.win 2).blk t).view.emb (ix3 (0 : Fin 1) (0 : Fin 1) l)) = _
  rw [emb2]
  rfl

def blk3 (X : S8x1x9216.Idx → EReal) (t : Fin cfg0.N) : S1x1x1024.Idx → EReal := ((cfg0.win 3).blk t).view.read (Elt Ideal) X
theorem blk3_at (X : S8x1x9216.Idx → EReal) (t : Fin cfg0.N) (l : Fin 1024) :
    blk3 X t (ix3 (0 : Fin 1) (0 : Fin 1) l) = X (ix3 (⟨t.val / 8, by have := lt64 t; omega⟩ : Fin 8) (0 : Fin 1) (⟨2048 + l.val, by omega⟩ : Fin 9216)) := by
  show X (((cfg0.win 3).blk t).view.emb (ix3 (0 : Fin 1) (0 : Fin 1) l)) = _
  rw [emb3]
  rfl

def blk4 (X : S1x1024.Idx → EReal) (t : Fin cfg0.N) : S1x1024.Idx → EReal := ((cfg0.win 4).blk t).view.read (Elt Ideal) X
theorem blk4_at (X : S1x1024.Idx → EReal) (t : Fin cfg0.N) (l : Fin 1024) :
    blk4 X t (ix2 (0 : Fin 1) l) = X (ix2 (0 : Fin 1) l) := by
  show X (((cfg0.win 4).blk t).view.emb (ix2 (0 : Fin 1) l)) = _
  rw [emb4]
  rfl

def blk5 (X : S11x1024x256.Idx → EReal) (t : Fin cfg0.N) : S11x1024x256.Idx → EReal := ((cfg0.win 5).blk t).view.read (Elt Ideal) X
theorem blk5_at (X : S11x1024x256.Idx → EReal) (t : Fin cfg0.N) (c : Fin 11) (k : Fin 1024) (f : Fin 256) :
    blk5 X t (ix3 c k f) = X (ix3 c k f) := by
  show X (((cfg0.win 5).blk t).view.emb (ix3 c k f)) = _
  rw [emb5]
  rfl

def blk6 (X : S11x1024x256.Idx → EReal) (t : Fin cfg0.N) : S11x1024x256.Idx → EReal := ((cfg0.win 6).blk t).view.read (Elt Ideal) X
theorem blk6_at (X : S11x1024x256.Idx → EReal) (t : Fin cfg0.N) (c : Fin 11) (k : Fin 1024) (f : Fin 256) :
    blk6 X t (ix3 c k f) = X (ix3 c k f) := by
  show X (((cfg0.win 6).blk t).view.emb (ix3 c k f)) = _
  rw [emb6]
  rfl

def blk7 (X : S11x256x1024.Idx → EReal) (t : Fin cfg0.N) : S11x256x1024.Idx → EReal := ((cfg0.win 7).blk t).view.read (Elt Ideal) X
theorem blk7_at (X : S11x256x1024.Idx → EReal) (t : Fin cfg0.N) (c : Fin 11) (k : Fin 256) (f : Fin 1024) :
    blk7 X t (ix3 c k f) = X (ix3 c k f) := by
  show X (((cfg0.win 7).blk t).view.emb (ix3 c k f)) = _
  rw [emb7]
  rfl

/-- A chunked weight read by its hidden position. -/
def wide (W : S11x1024x256.Idx → EReal) (k : Fin 1024) (f : Fin 2816) : EReal := W (ix3 (⟨f.val / 256, by omega⟩ : Fin 11) k (⟨f.val % 256, by omega⟩ : Fin 256))
def tall (W : S11x256x1024.Idx → EReal) (f : Fin 2816) (k : Fin 1024) : EReal := W (ix3 (⟨f.val / 256, by omega⟩ : Fin 11) (⟨f.val % 256, by omega⟩ : Fin 256) k)

theorem div256 (c : Fin 11) (f : Fin 256) : (⟨(at256 c f).val / 256, by have := (at256 c f).isLt; omega⟩ : Fin 11) = c :=
  Fin.ext (by show (256 * c.val + f.val) / 256 = c.val; omega)
theorem mod256 (c : Fin 11) (f : Fin 256) : (⟨(at256 c f).val % 256, by omega⟩ : Fin 256) = f :=
  Fin.ext (by show (256 * c.val + f.val) % 256 = f.val; omega)

theorem wide_at (W : S11x1024x256.Idx → EReal) (c : Fin 11) (k : Fin 1024) (f : Fin 256) : wide W k (at256 c f) = W (ix3 c k f) := by
  unfold wide; rw [div256, mod256]
theorem tall_at (W : S11x256x1024.Idx → EReal) (c : Fin 11) (f : Fin 256) (k : Fin 1024) : tall W (at256 c f) k = W (ix3 c f k) := by
  unfold tall; rw [div256, mod256]

/-- The modulation's lanes from `o` on, for batch `b`. -/
def lanes (D : S8x1x9216.Idx → EReal) (b : Fin 8) (o : Nat) (h : o + 1024 ≤ 9216) (l : Fin 1024) : EReal :=
  D (ix3 b (0 : Fin 1) (⟨o + l.val, by omega⟩ : Fin 9216))

/-- The output at an index. -/
def outAt (X : S8x4096x1024.Idx → EReal) (D : S8x1x9216.Idx → EReal) (G : S1x1024.Idx → EReal) (Wg Wu : S11x1024x256.Idx → EReal) (Wd : S11x256x1024.Idx → EReal) (b : Fin 8) (r : Fin 4096) (l : Fin 1024) : EReal :=
  half (fun k => X (ix3 b r k)) (fun k => G (ix2 (0 : Fin 1) k)) (lanes D b 1024 (by omega)) (lanes D b 0 (by omega)) (lanes D b 2048 (by omega)) (wide Wg) (wide Wu) (tall Wd) l

def outArr (X : S8x4096x1024.Idx → EReal) (D : S8x1x9216.Idx → EReal) (G : S1x1024.Idx → EReal) (Wg Wu : S11x1024x256.Idx → EReal) (Wd : S11x256x1024.Idx → EReal) : S8x4096x1024.Idx → EReal := fun i => outAt X D G Wg Wu Wd (i 0) (i 1) (i 2)

/-- What a point stores is its block of the output. -/
theorem block_eq (X : S8x4096x1024.Idx → EReal) (D : S8x1x9216.Idx → EReal) (G : S1x1024.Idx → EReal) (Wg Wu : S11x1024x256.Idx → EReal) (Wd : S11x256x1024.Idx → EReal) (t : Fin cfg0.N) :
    (cfg0.win 8).cut (grid0.coords t) (unflat (halfBlk (flatX (blk0 X t)) (blk4 G t) (blk2 D t) (blk1 D t) (blk3 D t) (chunkG (blk5 Wg t)) (chunkG (blk6 Wu t)) (chunkD (blk7 Wd t))) : S1x512x1024.Idx → EReal)
      = ((cfg0.win 8).blk t).view.read (Elt Ideal) (outArr X D G Wg Wu Wd) := by
  funext (j : S1x512x1024.Idx)
  show (unflat (halfBlk (flatX (blk0 X t)) (blk4 G t) (blk2 D t) (blk1 D t) (blk3 D t) (chunkG (blk5 Wg t)) (chunkG (blk6 Wu t)) (chunkD (blk7 Wd t))) : S1x512x1024.Idx → EReal) j = outArr X D G Wg Wu Wd (((cfg0.win 8).blk t).view.emb j)
  rw [emb8]
  have h0 : (j 0).val < 1 := (j 0).isLt
  have h1 : (j 1).val < 512 := (j 1).isLt
  have h2 : (j 2).val < 1024 := (j 2).isLt
  have hj : ix3 (0 : Fin 1) (⟨(j 1).val, h1⟩ : Fin 512) (⟨(j 2).val, h2⟩ : Fin 1024) = j := by
    funext a; apply Fin.ext
    match a with
    | ⟨0, _⟩ => show 0 = (j 0).val; omega
    | ⟨1, _⟩ => rfl
    | ⟨2, _⟩ => rfl
  rw [← hj]
  generalize (⟨(j 1).val, h1⟩ : Fin 512) = r
  generalize (⟨(j 2).val, h2⟩ : Fin 1024) = l
  show _ = outAt X D G Wg Wu Wd (⟨t.val / 8, by have := lt64 t; omega⟩ : Fin 8) (⟨512 * (t.val % 8) + r.val, by omega⟩ : Fin 4096) l
  have e2 : (fun k => blk2 D t (ix3 (0 : Fin 1) (0 : Fin 1) k)) = lanes D (⟨t.val / 8, by have := lt64 t; omega⟩ : Fin 8) 1024 (by omega) := funext fun k => blk2_at D t k
  have e1 : (fun k => blk1 D t (ix3 (0 : Fin 1) (0 : Fin 1) k)) = lanes D (⟨t.val / 8, by have := lt64 t; omega⟩ : Fin 8) 0 (by omega) := funext fun k => blk1_at D t k
  have e3 : (fun k => blk3 D t (ix3 (0 : Fin 1) (0 : Fin 1) k)) = lanes D (⟨t.val / 8, by have := lt64 t; omega⟩ : Fin 8) 2048 (by omega) := funext fun k => blk3_at D t k
  have e4 : (fun k => blk4 G t (ix2 (0 : Fin 1) k)) = fun k => G (ix2 (0 : Fin 1) k) := funext fun k => blk4_at G t k
  have e0 : (fun k => flatX (blk0 X t) (ix2 r k)) = fun k => X (ix3 (⟨t.val / 8, by have := lt64 t; omega⟩ : Fin 8) (⟨512 * (t.val % 8) + r.val, by omega⟩ : Fin 4096) k) := funext fun k => (flatX_at (blk0 X t) r k).trans (blk0_at X t r k)
  have e := halfBlk_at (flatX (blk0 X t)) (blk4 G t) (blk2 D t) (blk1 D t) (blk3 D t) (chunkG (blk5 Wg t)) (chunkG (blk6 Wu t)) (chunkD (blk7 Wd t)) (wide Wg) (wide Wu) (tall Wd)
    (fun c k f => (blk5_at Wg t c k f).trans (wide_at Wg c k f).symm) (fun c k f => (blk6_at Wu t c k f).trans (wide_at Wu c k f).symm)
    (fun c f k => (blk7_at Wd t c f k).trans (tall_at Wd c f k).symm) r l
  rw [e0, e1, e2, e3, e4] at e
  exact (unflat_at _ r l).trans e

variable (m : (ℓ : Loc nD τ sig) → Buf (Elt Ideal) ℓ) (c : Dev nD)

theorem iblk_0 (t : Fin cfg0.N) : iblk m c 0 t = blk0 (V m c main_arg0) t := rfl
theorem iblk_1 (t : Fin cfg0.N) : iblk m c 1 t = blk1 (V m c main_v0) t := rfl
theorem iblk_2 (t : Fin cfg0.N) : iblk m c 2 t = blk2 (V m c main_v0) t := rfl
theorem iblk_3 (t : Fin cfg0.N) : iblk m c 3 t = blk3 (V m c main_v0) t := rfl
theorem iblk_4 (t : Fin cfg0.N) : iblk m c 4 t = blk4 (V m c main_v9) t := rfl
theorem iblk_5 (t : Fin cfg0.N) : iblk m c 5 t = blk5 (V m c main_v3) t := rfl
theorem iblk_6 (t : Fin cfg0.N) : iblk m c 6 t = blk6 (V m c main_v6) t := rfl
theorem iblk_7 (t : Fin cfg0.N) : iblk m c 7 t = blk7 (V m c main_v8) t := rfl

theorem flushed_eq (t : Fin cfg0.N) :
    (dats m 0 c).flushed 8 t = ((cfg0.win 8).blk t).view.read (Elt Ideal) (outArr (V m c main_arg0) (V m c main_v0) (V m c main_v9) (V m c main_v3) (V m c main_v6) (V m c main_v8)) := by
  rw [Value.flushed8 m c t, out_eq, iblk_0, iblk_1, iblk_2, iblk_3, iblk_4, iblk_5, iblk_6, iblk_7]
  exact block_eq (V m c main_arg0) (V m c main_v0) (V m c main_v9) (V m c main_v3) (V m c main_v6) (V m c main_v8) t

theorem covered (i : S8x4096x1024.Idx) : ∃ t : Fin cfg0.N, (cfg0.win 8).flush t = true ∧ i ∈ ((cfg0.win 8).blk t).view.set := by
  have h0 : (i 0).val < 8 := (i 0).isLt
  have h1 : (i 1).val < 4096 := (i 1).isLt
  refine ⟨(⟨8 * (i 0).val + (i 1).val / 512, by show _ < 64; omega⟩ : Fin cfg0.N), flush0_8 _, ?_⟩
  have h := ((cfg0.win 8).blk (⟨8 * (i 0).val + (i 1).val / 512, by show _ < 64; omega⟩ : Fin cfg0.N)).view.emb_mem_set
    (ix3 (0 : Fin 1) (⟨(i 1).val % 512, by omega⟩ : Fin 512) (i 2))
  rw [emb8] at h
  have e : ix3 (⟨(8 * (i 0).val + (i 1).val / 512) / 8, by omega⟩ : Fin 8)
      (⟨512 * ((8 * (i 0).val + (i 1).val / 512) % 8) + (i 1).val % 512, by omega⟩ : Fin 4096) (i 2) = i := by
    funext a; apply Fin.ext
    match a with
    | ⟨0, _⟩ => show (8 * (i 0).val + (i 1).val / 512) / 8 = (i 0).val; omega
    | ⟨1, _⟩ => show 512 * ((8 * (i 0).val + (i 1).val / 512) % 8) + (i 1).val % 512 = (i 1).val; omega
    | ⟨2, _⟩ => rfl
  have e' := e ▸ h
  exact e'

/-- The output array after the run. -/
theorem final_eq : (dats m 0 c).arrAt 8 cfg0.N = outArr (V m c main_arg0) (V m c main_v0) (V m c main_v9) (V m c main_v3) (V m c main_v6) (V m c main_v8) :=
  (dats m 0 c).arrAt_eq_of_cover 8 _ (fun t _ => flushed_eq m c t) covered

end Cert.Kernel2Ideal.Hand
-- ==== Proof.Pack2.lean ====
module

public import proofs.«01_k».proof.Proof.Array2

@[expose] public section

/-! The arrays the first half-step's kernel is entered with, read at an index. -/

set_option maxRecDepth 16384

noncomputable section

namespace Cert.Kernel2Ideal.Hand

open Cert.Kernel2Ideal Cert.Kernel2Ideal.Gen Idealize.ShloMosaic Idealize.ShloMosaic.TcCoe Idealize.SL.Sem
open Cert.Proof.Half

def modArr (d : FVec Ideal S8x9216 .f32) : FVec Ideal S8x1x9216 .f32 := shapeCast S8x1x9216 d shapeCasts_S8x9216_S8x1x9216
def gainArr (g : FVec Ideal S1024 .f32) : FVec Ideal S1x1024 .f32 := shapeCast S1x1024 g shapeCasts_S1024_S1x1024
def chunksG (w : FVec Ideal S1024x2816 .f32) : FVec Ideal S11x1024x256 .bf16 :=
  truncf .bf16 (transpose S11x1024x256 [1, 0, 2] (shapeCast S1024x11x256 w shapeCasts_S1024x2816_S1024x11x256) transposes_S1024x11x256_S11x1024x256_1_0_2) bitsLt_bf16_f32
def chunksD (w : FVec Ideal S2816x1024 .f32) : FVec Ideal S11x256x1024 .bf16 :=
  truncf .bf16 (shapeCast S11x256x1024 w shapeCasts_S2816x1024_S11x256x1024) bitsLt_bf16_f32

theorem modArr_at (d : FVec Ideal S8x9216 .f32) (b : Fin 8) (l : Fin 9216) : modArr d (ix3 b (0 : Fin 1) l) = d (ix2 b l) := by
  pointwise [modArr]
theorem gainArr_at (g : FVec Ideal S1024 .f32) (l : Fin 1024) : gainArr g (ix2 (0 : Fin 1) l) = g (ix1 l) := by
  pointwise [gainArr]
theorem chunksG_at (w : FVec Ideal S1024x2816 .f32) (c : Fin 11) (k : Fin 1024) (f : Fin 256) :
    chunksG w (ix3 c k f) = w (ix2 k (⟨256 * c.val + f.val, by omega⟩ : Fin 2816)) := by
  pointwise [chunksG]
  refine congrArg (fun j : Fin 2816 => w (ix2 k j)) (Fin.ext ?_)
  simp only
  omega
theorem chunksD_at (w : FVec Ideal S2816x1024 .f32) (c : Fin 11) (f : Fin 256) (k : Fin 1024) :
    chunksD w (ix3 c f k) = w (ix2 (⟨256 * c.val + f.val, by omega⟩ : Fin 2816) k) := by
  pointwise [chunksD]
  refine congrArg (fun j : Fin 2816 => w (ix2 j k)) (Fin.ext ?_)
  simp only
  omega

theorem joined (f : Fin 2816) : (⟨256 * (f.val / 256) + f.val % 256, by omega⟩ : Fin 2816) = f := Fin.ext (by simp only; omega)

theorem wide_chunks (w : FVec Ideal S1024x2816 .f32) : wide (chunksG w) = fun k f => w (ix2 k f) := by
  funext k f
  unfold wide
  rw [chunksG_at, joined]
theorem tall_chunks (w : FVec Ideal S2816x1024 .f32) : tall (chunksD w) = fun f k => w (ix2 f k) := by
  funext f k
  unfold tall
  rw [chunksD_at, joined]
theorem lanes_mod (d : FVec Ideal S8x9216 .f32) (b : Fin 8) (o : Nat) (h : o + 1024 ≤ 9216) :
    lanes (modArr d) b o h = fun l => d (ix2 b (⟨o + l.val, by omega⟩ : Fin 9216)) := funext fun l => modArr_at d b _
theorem gain_row (g : FVec Ideal S1024 .f32) : (fun k => gainArr g (ix2 (0 : Fin 1) k)) = fun k => g (ix1 k) := funext fun k => gainArr_at g k

variable (m : (ℓ : Loc nD τ sig) → Buf (Elt Ideal) ℓ) (c : Dev nD)

theorem entry_x : V m c main_arg0 = (m ((c : Thread nD τ).loc main_arg0) : FVec Ideal S8x4096x1024 .f32) := by
  show StableHlo.after hostOps0 _ (Proc.devRef .tc main_arg0) = _
  after_results

theorem entry_mod : V m c main_v0 = modArr (m ((c : Thread nD τ).loc main_arg1) : FVec Ideal S8x9216 .f32) := by
  show StableHlo.after hostOps0 _ (Proc.devRef .tc main_v0) = _
  after_results
  rfl

theorem entry_gain : V m c main_v9 = gainArr (m ((c : Thread nD τ).loc main_arg2) : FVec Ideal S1024 .f32) := by
  show StableHlo.after hostOps0 _ (Proc.devRef .tc main_v9) = _
  after_results
  rfl

theorem entry_gate : V m c main_v3 = chunksG (m ((c : Thread nD τ).loc main_arg3) : FVec Ideal S1024x2816 .f32) := by
  show StableHlo.after hostOps0 _ (Proc.devRef .tc main_v3) = _
  after_results
  rfl

theorem entry_up : V m c main_v6 = chunksG (m ((c : Thread nD τ).loc main_arg4) : FVec Ideal S1024x2816 .f32) := by
  show StableHlo.after hostOps0 _ (Proc.devRef .tc main_v6) = _
  after_results
  rfl

theorem entry_down : V m c main_v8 = chunksD (m ((c : Thread nD τ).loc main_arg5) : FVec Ideal S2816x1024 .f32) := by
  show StableHlo.after hostOps0 _ (Proc.devRef .tc main_v8) = _
  after_results
  rfl

end Cert.Kernel2Ideal.Hand
-- ==== Proof.Ref2.lean ====
module

public import proofs.«01_k».proof.Proof.Gen.Reference2Ideal.Run
public import proofs.«01_k».proof.Proof.Half
public import Idealize.ShloMosaic.Lib.Pointwise

@[expose] public section

/-! The reference of the first half-step, its result read at an index. -/

set_option maxRecDepth 16384

noncomputable section

namespace Cert.Reference2Ideal.Hand

open Cert.Reference2Ideal Cert.Reference2Ideal.Gen Cert.Reference2Ideal.Value Idealize.ShloMosaic Idealize.ShloMosaic.TcCoe
open Cert.Proof.Half

/-! The result's term in stages. -/

def rootArr (x : FVec Ideal S8x4096x1024 .f32) : FVec Ideal S8x4096x1 .f32 :=
  Host.rsqrt (addf (Host.divf (broadcastInDim S8x4096x1 ![0, 1] bcast_S8x4096_S8x4096x1_0_1
      (Host.reduceAdd (mulf x x) (constant S_ .f32 0x00000000#32) reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x358637BD#32)))

def normArr (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2 (rootArr x)))
    (broadcastInDim S8x4096x1024 ![0, 1, 2] bcast_S1x1x1024_S8x4096x1024_0_1_2 (broadcastInDim S1x1x1024 ![2] bcast_S1024_S1x1x1024_2 g))

def spreadMod (s : FVec Ideal S8x1x1024 .f32) : FVec Ideal S8x4096x1024 .f32 :=
  broadcastInDim S8x4096x1024 ![0, 1, 2] bcast_S8x1x1024_S8x4096x1024_0_1_2 s

def modRow (M : FVec Ideal S8x9216 .f32) : FVec Ideal S8x1x9216 .f32 := broadcastInDim S8x1x9216 ![0, 2] bcast_S8x9216_S8x1x9216_0_2 M

def enterArr (n : FVec Ideal S8x4096x1024 .f32) (sc sh : FVec Ideal S8x1x1024 .f32) : FVec Ideal S8x4096x1024 .f32 :=
  addf (mulf n (spreadMod (addf (broadcastInDim S8x1x1024 ![] bcast_S_S8x1x1024 (constant S_ .f32 0x3F800000#32)) sc))) (spreadMod sh)

def projArr (h : FVec Ideal S8x4096x1024 .f32) (w : FVec Ideal S1024x2816 .f32) : FVec Ideal S8x4096x2816 .f32 :=
  Host.dotGeneral dot_S8x4096x1024_S1024x2816_S8x4096x2816_2_0_01_1_n_n none h w

def gateArr (a b : FVec Ideal S8x4096x2816 .f32) : FVec Ideal S8x4096x2816 .f32 :=
  mulf (mulf a (Host.divf (broadcastInDim S8x4096x2816 ![] bcast_S_S8x4096x2816 (constant S_ .f32 0x3F800000#32))
    (addf (broadcastInDim S8x4096x2816 ![] bcast_S_S8x4096x2816 (constant S_ .f32 0x3F800000#32)) (Host.exp (Host.negf a))))) b

def downArr (t : FVec Ideal S8x4096x2816 .f32) (w : FVec Ideal S2816x1024 .f32) : FVec Ideal S8x4096x1024 .f32 :=
  Host.dotGeneral dot_S8x4096x2816_S2816x1024_S8x4096x1024_2_0_01_1_n_n none t w

def addArr (x : FVec Ideal S8x4096x1024 .f32) (gt : FVec Ideal S8x1x1024 .f32) (d : FVec Ideal S8x4096x1024 .f32) : FVec Ideal S8x4096x1024 .f32 :=
  addf x (mulf (spreadMod (mulf (broadcastInDim S8x1x1024 ![] bcast_S_S8x1x1024 (constant S_ .f32 0x3F000000#32)) gt)) d)

def halfArr (x : FVec Ideal S8x4096x1024 .f32) (g : FVec Ideal S1024 .f32) (sc sh gt : FVec Ideal S8x1x1024 .f32)
    (wg wu : FVec Ideal S1024x2816 .f32) (wd : FVec Ideal S2816x1024 .f32) : FVec Ideal S8x4096x1024 .f32 :=
  addArr x gt (downArr (gateArr (projArr (enterArr (normArr x g) sc sh) wg) (projArr (enterArr (normArr x g) sc sh) wu)) wd)

def result (X : FVec Ideal S8x4096x1024 .f32) (D : FVec Ideal S8x9216 .f32) (G : FVec Ideal S1024 .f32) (Wg Wu : FVec Ideal S1024x2816 .f32)
    (Wd : FVec Ideal S2816x1024 .f32) : FVec Ideal S8x4096x1024 .f32 :=
  halfArr X G (extractStridedSlice S8x1x1024 ![0, 0, 1024] (modRow D) slices_S8x1x9216_S8x1x1024_0_0_1024)
    (extractStridedSlice S8x1x1024 ![0, 0, 0] (modRow D) slices_S8x1x9216_S8x1x1024_0_0_0)
    (extractStridedSlice S8x1x1024 ![0, 0, 2048] (modRow D) slices_S8x1x9216_S8x1x1024_0_0_2048) Wg Wu Wd

theorem res_eq (m : (ℓ : Loc nD τ sig) → Buf (Elt Ideal) ℓ) (c : Dev nD) :
    res_main_v38 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

/-! Each stage at an index. -/

theorem one_bits : Ideal.ofBits FTy.f32 0x3F800000#32 = 1 := by
  simp [Ideal.ofBits, Ideal.ieee]
  rw [← EReal.coe_mul]
  norm_num

theorem rootArr_at (x : FVec Ideal S8x4096x1024 .f32) (b : Fin 8) (r : Fin 4096) :
    rootArr x (ix3 b r (0 : Fin 1)) = root fun k => x (ix3 b r k) := by
  unfold root
  pointwise [rootArr]

theorem normArr_at (x : FVec Ideal S8x4096x1024 .f32) (g : FVec Ideal S1024 .f32) (b : Fin 8) (r : Fin 4096) (l : Fin 1024) :
    normArr x g (ix3 b r l) = normed (fun k => x (ix3 b r k)) (fun k => g (ix1 k)) l := by
  unfold normed
  rw [← rootArr_at]
  pointwise [normArr]

theorem spreadMod_at (s : FVec Ideal S8x1x1024 .f32) (b : Fin 8) (r : Fin 4096) (l : Fin 1024) :
    spreadMod s (ix3 b r l) = s (ix3 b (0 : Fin 1) l) := by
  pointwise [spreadMod]

theorem modRow_at (M : FVec Ideal S8x9216 .f32) (b : Fin 8) (l : Fin 9216) : modRow M (ix3 b (0 : Fin 1) l) = M (ix2 b l) := by
  pointwise [modRow]

theorem enterArr_at (n : FVec Ideal S8x4096x1024 .f32) (sc sh : FVec Ideal S8x1x1024 .f32) (b : Fin 8) (r : Fin 4096) (l : Fin 1024) :
    enterArr n sc sh (ix3 b r l) = (n (ix3 b r l) * (1 + sc (ix3 b (0 : Fin 1) l)) + sh (ix3 b (0 : Fin 1) l) : EReal) := by
  pointwise [enterArr, spreadMod]

theorem projArr_at (h : FVec Ideal S8x4096x1024 .f32) (w : FVec Ideal S1024x2816 .f32) (b : Fin 8) (r : Fin 4096) (f : Fin 2816) :
    projArr h w (ix3 b r f) = (∑ k : Fin 1024, h (ix3 b r k) * w (ix2 k f) : EReal) := by
  pointwise [projArr]

theorem gateArr_at (a b : FVec Ideal S8x4096x2816 .f32) (i : S8x4096x2816.Idx) : gateArr a b i = gated (a i) (b i) := by
  unfold gated
  rw [← one_bits]
  rfl

theorem downArr_at (t : FVec Ideal S8x4096x2816 .f32) (w : FVec Ideal S2816x1024 .f32) (b : Fin 8) (r : Fin 4096) (l : Fin 1024) :
    downArr t w (ix3 b r l) = (∑ f : Fin 2816, t (ix3 b r f) * w (ix2 f l) : EReal) := by
  pointwise [downArr]

theorem addArr_at (x : FVec Ideal S8x4096x1024 .f32) (gt : FVec Ideal S8x1x1024 .f32) (d : FVec Ideal S8x4096x1024 .f32)
    (b : Fin 8) (r : Fin 4096) (l : Fin 1024) :
    addArr x gt d (ix3 b r l) = (x (ix3 b r l) + Ideal.ofBits FTy.f32 0x3F000000#32 * gt (ix3 b (0 : Fin 1) l) * d (ix3 b r l) : EReal) := by
  pointwise [addArr, spreadMod]

/-- The half-step at an index. -/
theorem halfArr_at (x : FVec Ideal S8x4096x1024 .f32) (g : FVec Ideal S1024 .f32) (sc sh gt : FVec Ideal S8x1x1024 .f32)
    (wg wu : FVec Ideal S1024x2816 .f32) (wd : FVec Ideal S2816x1024 .f32) (b : Fin 8) (r : Fin 4096) (l : Fin 1024) :
    halfArr x g sc sh gt wg wu wd (ix3 b r l)
      = half (fun k => x (ix3 b r k)) (fun k => g (ix1 k)) (fun k => sc (ix3 b (0 : Fin 1) k)) (fun k => sh (ix3 b (0 : Fin 1) k))
          (fun k => gt (ix3 b (0 : Fin 1) k)) (fun k f => wg (ix2 k f)) (fun k f => wu (ix2 k f)) (fun f k => wd (ix2 f k)) l := by
  unfold halfArr half net unit entered
  rw [addArr_at, downArr_at]
  refine congrArg (fun s : EReal => x (ix3 b r l) + Ideal.ofBits FTy.f32 0x3F000000#32 * gt (ix3 b (0 : Fin 1) l) * s) ?_
  refine Finset.sum_congr rfl fun f _ => congrArg (· * wd (ix2 f l)) ?_
  rw [gateArr_at, projArr_at, projArr_at]
  refine congrArg₂ gated (Finset.sum_congr rfl fun k _ => congrArg (· * wg (ix2 k f)) ?_) (Finset.sum_congr rfl fun k _ => congrArg (· * wu (ix2 k f)) ?_)
  · rw [enterArr_at, normArr_at]
  · rw [enterArr_at, normArr_at]

theorem slice_0_at (M : FVec Ideal S8x9216 .f32) (b : Fin 8) (l : Fin 1024) :
    extractStridedSlice S8x1x1024 ![0, 0, 0] (modRow M) slices_S8x1x9216_S8x1x1024_0_0_0 (ix3 b (0 : Fin 1) l) = M (ix2 b (⟨0 + l.val, by omega⟩ : Fin 9216)) := by
  refine Eq.trans ?_ (modRow_at M b _)
  pointwise

theorem slice_1024_at (M : FVec Ideal S8x9216 .f32) (b : Fin 8) (l : Fin 1024) :
    extractStridedSlice S8x1x1024 ![0, 0, 1024] (modRow M) slices_S8x1x9216_S8x1x1024_0_0_1024 (ix3 b (0 : Fin 1) l) = M (ix2 b (⟨1024 + l.val, by omega⟩ : Fin 9216)) := by
  refine Eq.trans ?_ (modRow_at M b _)
  pointwise

theorem slice_2048_at (M : FVec Ideal S8x9216 .f32) (b : Fin 8) (l : Fin 1024) :
    extractStridedSlice S8x1x1024 ![0, 0, 2048] (modRow M) slices_S8x1x9216_S8x1x1024_0_0_2048 (ix3 b (0 : Fin 1) l) = M (ix2 b (⟨2048 + l.val, by omega⟩ : Fin 9216)) := by
  refine Eq.trans ?_ (modRow_at M b _)
  pointwise

/-- The result at an index. -/
theorem result_at (X : FVec Ideal S8x4096x1024 .f32) (D : FVec Ideal S8x9216 .f32) (G : FVec Ideal S1024 .f32) (Wg Wu : FVec Ideal S1024x2816 .f32)
    (Wd : FVec Ideal S2816x1024 .f32) (b : Fin 8) (r : Fin 4096) (l : Fin 1024) :
    result X D G Wg Wu Wd (ix3 b r l)
      = half (fun k => X (ix3 b r k)) (fun k => G (ix1 k)) (fun k => D (ix2 b (⟨1024 + k.val, by omega⟩ : Fin 9216)))
          (fun k => D (ix2 b (⟨0 + k.val, by omega⟩ : Fin 9216))) (fun k => D (ix2 b (⟨2048 + k.val, by omega⟩ : Fin 9216)))
          (fun k f => Wg (ix2 k f)) (fun k f => Wu (ix2 k f)) (fun f k => Wd (ix2 f k)) l := by
  unfold result
  rw [halfArr_at, funext (slice_0_at D b), funext (slice_1024_at D b), funext (slice_2048_at D b)]

end Cert.Reference2Ideal.Hand
-- ==== Proof.FirstHalf.lean ====
module

public import proofs.«01_k».proof.Defs
public import proofs.«01_k».proof.Proof.Pack2
public import proofs.«01_k».proof.Proof.Ref2

@[expose] public section

/-! The first half-step's kernel and its reference leave the same array. -/

set_option maxRecDepth 16384

noncomputable section

namespace Cert.Proof.FirstHalf

open Idealize.ShloMosaic Idealize.ShloMosaic.TcCoe Idealize.SL.Sem
open Cert.Kernel2Ideal.Hand Cert.Proof.Half

theorem same_at (X : FVec Ideal Cert.Kernel2Ideal.S8x4096x1024 .f32) (D : FVec Ideal Cert.Kernel2Ideal.S8x9216 .f32) (G : FVec Ideal Cert.Kernel2Ideal.S1024 .f32)
    (Wg Wu : FVec Ideal Cert.Kernel2Ideal.S1024x2816 .f32) (Wd : FVec Ideal Cert.Kernel2Ideal.S2816x1024 .f32) (b : Fin 8) (r : Fin 4096) (l : Fin 1024) :
    outAt X (modArr D) (gainArr G) (chunksG Wg) (chunksG Wu) (chunksD Wd) b r l
      = Cert.Reference2Ideal.Hand.result X D G Wg Wu Wd (ix3 b r l) := by
  refine Eq.trans ?_ (Cert.Reference2Ideal.Hand.result_at X D G Wg Wu Wd b r l).symm
  unfold outAt
  rw [wide_chunks, wide_chunks, tall_chunks, lanes_mod, lanes_mod, lanes_mod, gain_row]

theorem same (X : FVec Ideal Cert.Kernel2Ideal.S8x4096x1024 .f32) (D : FVec Ideal Cert.Kernel2Ideal.S8x9216 .f32) (G : FVec Ideal Cert.Kernel2Ideal.S1024 .f32)
    (Wg Wu : FVec Ideal Cert.Kernel2Ideal.S1024x2816 .f32) (Wd : FVec Ideal Cert.Kernel2Ideal.S2816x1024 .f32) :
    outArr X (modArr D) (gainArr G) (chunksG Wg) (chunksG Wu) (chunksD Wd)
      = Cert.Reference2Ideal.Hand.result X D G Wg Wu Wd := by
  funext (i : Cert.Kernel2Ideal.S8x4096x1024.Idx)
  have hi : ix3 (i 0) (i 1) (i 2) = i := by
    funext a
    match a with
    | ⟨0, _⟩ => rfl
    | ⟨1, _⟩ => rfl
    | ⟨2, _⟩ => rfl
  exact (same_at X D G Wg Wu Wd (i 0) (i 1) (i 2)).trans (congrArg (Cert.Reference2Ideal.Hand.result X D G Wg Wu Wd) hi)

theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic : Cert.algebraic_Kernel2Ideal_Reference2Ideal := by
  intro m g m' g' hpre hagree
  have hk : ∀ c, (Cert.Kernel2Ideal.Gen.dats m 0 c).arrAt 8 Cert.Kernel2Ideal.cfg0.N = Cert.Reference2Ideal.Value.res_main_v38 m' c := by
    intro c
    obtain ⟨a0, a1, a2, a3, a4, a5⟩ := hagree c
    rw [Cert.Reference2Ideal.Hand.res_eq, a0, a1, a2, a3, a4, a5]
    rw [final_eq m c, entry_x, entry_mod, entry_gain, entry_gate, entry_up, entry_down]
    exact same _ _ _ _ _ _
  refine ⟨fun c => Cert.Reference2Ideal.Value.res_main_v38 m' c, ?_, Cert.Reference2Ideal.Value.run (F := Ideal) m' g'⟩
  exact (θ_run Cert.Kernel2Ideal.defs _ _).mono (fun _ h c => ⟨(h c).1.trans (hk c), (h c).2⟩) (Cert.Kernel2Ideal.Value.run_blocks (F := Ideal) m g)

end Cert.Proof.FirstHalf
-- ==== Proof.Body3.lean ====
module

public import proofs.«01_k».proof.Proof.Gen.Kernel3Ideal.Value
public import proofs.«01_k».proof.Proof.Half
public import Idealize.ShloMosaic.Lib.Pointwise

@[expose] public section

/-! The body of the second half-step's kernel: what a grid point stores, the attention outputs through the projection added to the row, then the half-step of that row, normalised. -/

set_option maxRecDepth 16384

noncomputable section

namespace Cert.Kernel3Ideal.Hand

open Cert.Kernel3Ideal Cert.Kernel3Ideal.Gen Idealize.ShloMosaic Idealize.ShloMosaic.TcCoe Idealize.SL.Sem
open Cert.Proof.Half

/-! The body's term in stages. -/

def rootBlk (x : FVec Ideal S512x1024 .f32) : FVec Ideal S512x1 .f32 :=
  rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))

def normBlk (x : FVec Ideal S512x1024 .f32) (g : Vec Ideal S1x1024 .f32) : FVec Ideal S512x1024 .f32 :=
  mulf (mulf x (broadcastTo S512x1024 (rootBlk x) broadcasts_S512x1_S512x1024))
    (broadcastTo S512x1024 (shapeCast S1x1024 g shapeCasts_S1x1024_S1x1024 : FVec Ideal S1x1024 .f32) broadcasts_S1x1024_S512x1024)

def flat (s : Vec Ideal S1x1x1024 .f32) : FVec Ideal S1x1024 .f32 := shapeCast S1x1024 s shapeCasts_S1x1x1024_S1x1024

def enterBlk (n : FVec Ideal S512x1024 .f32) (sc sh : Vec Ideal S1x1x1024 .f32) : FVec Ideal S512x1024 .bf16 :=
  truncf .bf16 (addf (mulf n (broadcastTo S512x1024 (addf (broadcast S1x1024 (Scalar.ofBits .f32 0x3F800000#32)) (flat sc)) broadcasts_S1x1024_S512x1024))
    (broadcastTo S512x1024 (flat sh) broadcasts_S1x1024_S512x1024)) bitsLt_bf16_f32

def projBlk (h : FVec Ideal S512x1024 .bf16) (w : Vec Ideal S1x1024x256 .bf16) : FVec Ideal S512x256 .f32 :=
  matmul dot_S512x1024_S1024x256_S512x256_1_0_0_1_n_n none h (shapeCast S1024x256 w shapeCasts_S1x1024x256_S1024x256 : FVec Ideal S1024x256 .bf16)
    (constant S512x256 .f32 0x00000000#32)

def gateBlk (a b : FVec Ideal S512x256 .f32) : FVec Ideal S512x256 .bf16 :=
  truncf .bf16 (mulf (mulf a (divf (broadcast S512x256 (Scalar.ofBits .f32 0x3F800000#32))
    (addf (broadcast S512x256 (Scalar.ofBits .f32 0x3F800000#32)) (exp (subf (broadcast S512x256 (Scalar.ofBits .f32 0x00000000#32)) a))))) b) bitsLt_bf16_f32

def downBlk (t : FVec Ideal S512x256 .bf16) (w : Vec Ideal S1x256x1024 .bf16) : FVec Ideal S512x1024 .f32 :=
  matmul dot_S512x256_S256x1024_S512x1024_1_0_0_1_n_n none t (shapeCast S256x1024 w shapeCasts_S1x256x1024_S256x1024 : FVec Ideal S256x1024 .bf16)
    (constant S512x1024 .f32 0x00000000#32)

/-- One chunk of the network's output. -/
def chunk (h : FVec Ideal S512x1024 .bf16) (wg wu : Vec Ideal S1x1024x256 .bf16) (wd : Vec Ideal S1x256x1024 .bf16) : FVec Ideal S512x1024 .f32 :=
  downBlk (gateBlk (projBlk h wg) (projBlk h wu)) wd

def zeroBlk : FVec Ideal S512x1024 .f32 := broadcast S512x1024 (Scalar.ofBits .f32 0x00000000#32)

/-- The chunks added up in order. -/
def total (h : FVec Ideal S512x1024 .bf16) (wg wu : Fin 11 → Vec Ideal S1x1024x256 .bf16) (wd : Fin 11 → Vec Ideal S1x256x1024 .bf16) :
    FVec Ideal S512x1024 .f32 :=
  addf (addf (addf (addf (addf (addf (addf (addf (addf (addf (addf zeroBlk (chunk h (wg 0) (wu 0) (wd 0))) (chunk h (wg 1) (wu 1) (wd 1))) (chunk h (wg 2) (wu 2) (wd 2))) (chunk h (wg 3) (wu 3) (wd 3))) (chunk h (wg 4) (wu 4) (wd 4))) (chunk h (wg 5) (wu 5) (wd 5))) (chunk h (wg 6) (wu 6) (wd 6))) (chunk h (wg 7) (wu 7) (wd 7))) (chunk h (wg 8) (wu 8) (wd 8))) (chunk h (wg 9) (wu 9) (wd 9))) (chunk h (wg 10) (wu 10) (wd 10))

def addBlk (x : FVec Ideal S512x1024 .f32) (gt : Vec Ideal S1x1x1024 .f32) (d : FVec Ideal S512x1024 .f32) : FVec Ideal S512x1024 .f32 :=
  addf x (mulf (broadcastTo S512x1024 (mulf (broadcast S1x1024 (Scalar.ofBits .f32 0x3F000000#32)) (flat gt)) broadcasts_S1x1024_S512x1024) d)

def halfBlk (x : FVec Ideal S512x1024 .f32) (g : Vec Ideal S1x1024 .f32) (sc sh gt : Vec Ideal S1x1x1024 .f32)
    (wg wu : Fin 11 → Vec Ideal S1x1024x256 .bf16) (wd : Fin 11 → Vec Ideal S1x256x1024 .bf16) : FVec Ideal S512x1024 .f32 :=
  addBlk x gt (total (enterBlk (normBlk x g) sc sh) wg wu wd)

def flatX (x : Vec Ideal S1x512x1024 .f32) : FVec Ideal S512x1024 .f32 := shapeCast S512x1024 x shapeCasts_S1x512x1024_S512x1024
def unflat (x : FVec Ideal S512x1024 .f32) : Vec Ideal S1x512x1024 .f32 := shapeCast S1x512x1024 x shapeCasts_S512x1024_S1x512x1024

/-! Each stage at an index. -/

theorem rootBlk_at (x : FVec Ideal S512x1024 .f32) (r : Fin 512) : rootBlk x (ix2 r (0 : Fin 1)) = root fun k => x (ix2 r k) := by
  unfold root
  pointwise [rootBlk]

theorem normBlk_at (x : FVec Ideal S512x1024 .f32) (g : Vec Ideal S1x1024 .f32) (r : Fin 512) (l : Fin 1024) :
    normBlk x g (ix2 r l) = normed (fun k => x (ix2 r k)) (fun k => g (ix2 (0 : Fin 1) k)) l := by
  unfold normed
  rw [← rootBlk_at]
  pointwise [normBlk]

theorem flat_at (s : Vec Ideal S1x1x1024 .f32) (l : Fin 1024) : flat s (ix2 (0 : Fin 1) l) = s (ix3 (0 : Fin 1) (0 : Fin 1) l) := by
  pointwise [flat]

theorem enterBlk_at (n : FVec Ideal S512x1024 .f32) (sc sh : Vec Ideal S1x1x1024 .f32) (r : Fin 512) (l : Fin 1024) :
    enterBlk n sc sh (ix2 r l) = (n (ix2 r l) * (1 + sc (ix3 (0 : Fin 1) (0 : Fin 1) l)) + sh (ix3 (0 : Fin 1) (0 : Fin 1) l) : EReal) := by
  pointwise [enterBlk, flat]

theorem projBlk_at (h : FVec Ideal S512x1024 .bf16) (w : Vec Ideal S1x1024x256 .bf16) (r : Fin 512) (f : Fin 256) :
    projBlk h w (ix2 r f) = (∑ k : Fin 1024, h (ix2 r k) * w (ix3 (0 : Fin 1) k f) : EReal) := by
  pointwise [projBlk]

theorem one_bits : Ideal.ofBits FTy.f32 0x3F800000#32 = 1 := by
  simp [Ideal.ofBits, Ideal.ieee]
  rw [← EReal.coe_mul]
  norm_num

theorem zero_bits : Ideal.ofBits FTy.f32 0x00000000#32 = 0 := by
  simp [Ideal.ofBits, Ideal.ieee]

theorem gateBlk_at (a b : FVec Ideal S512x256 .f32) (i : S512x256.Idx) : gateBlk a b i = gated (a i) (b i) := by
  unfold gated
  rw [← zero_sub (a i : EReal), ← zero_bits, ← one_bits]
  rfl

theorem downBlk_at (t : FVec Ideal S512x256 .bf16) (w : Vec Ideal S1x256x1024 .bf16) (r : Fin 512) (l : Fin 1024) :
    downBlk t w (ix2 r l) = (∑ f : Fin 256, t (ix2 r f) * w (ix3 (0 : Fin 1) f l) : EReal) := by
  pointwise [downBlk]

theorem chunk_at (h : FVec Ideal S512x1024 .bf16) (wg wu : Vec Ideal S1x1024x256 .bf16) (wd : Vec Ideal S1x256x1024 .bf16) (r : Fin 512) (l : Fin 1024) :
    chunk h wg wu wd (ix2 r l) = net (fun k => h (ix2 r k)) (fun k f => wg (ix3 (0 : Fin 1) k f)) (fun k f => wu (ix3 (0 : Fin 1) k f))
      (fun f k => wd (ix3 (0 : Fin 1) f k)) l := by
  unfold chunk net unit
  rw [downBlk_at]
  refine Finset.sum_congr rfl fun f _ => congrArg (· * wd (ix3 (0 : Fin 1) f l)) ?_
  rw [gateBlk_at, projBlk_at, projBlk_at]

theorem total_at (h : FVec Ideal S512x1024 .bf16) (wg wu : Fin 11 → Vec Ideal S1x1024x256 .bf16) (wd : Fin 11 → Vec Ideal S1x256x1024 .bf16)
    (Wg Wu : Fin 1024 → Fin 2816 → EReal) (Wd : Fin 2816 → Fin 1024 → EReal)
    (hg : ∀ c k f, (wg c (ix3 (0 : Fin 1) k f) : EReal) = Wg k (at256 c f)) (hu : ∀ c k f, (wu c (ix3 (0 : Fin 1) k f) : EReal) = Wu k (at256 c f))
    (hd : ∀ c f k, (wd c (ix3 (0 : Fin 1) f k) : EReal) = Wd (at256 c f) k) (r : Fin 512) (l : Fin 1024) :
    total h wg wu wd (ix2 r l) = net (fun k => h (ix2 r k)) Wg Wu Wd l := by
  rw [← net_chunks (fun k => h (ix2 r k)) Wg Wu Wd l (fun c => chunk h (wg c) (wu c) (wd c) (ix2 r l)) fun c => by
    rw [chunk_at]
    refine congr (congrArg₂ (net _) ?_ ?_ |> congr <| ?_) rfl
    · funext k f; exact hg c k f
    · funext k f; exact hu c k f
    · funext f k; exact hd c f k]
  rw [← zero_bits]
  rfl

theorem addBlk_at (x : FVec Ideal S512x1024 .f32) (gt : Vec Ideal S1x1x1024 .f32) (d : FVec Ideal S512x1024 .f32) (r : Fin 512) (l : Fin 1024) :
    addBlk x gt d (ix2 r l) = (x (ix2 r l) + Ideal.ofBits FTy.f32 0x3F000000#32 * gt (ix3 (0 : Fin 1) (0 : Fin 1) l) * d (ix2 r l) : EReal) := by
  pointwise [addBlk, flat]

/-- The half-step of a row of the block. -/
theorem halfBlk_at (x : FVec Ideal S512x1024 .f32) (g : Vec Ideal S1x1024 .f32) (sc sh gt : Vec Ideal S1x1x1024 .f32)
    (wg wu : Fin 11 → Vec Ideal S1x1024x256 .bf16) (wd : Fin 11 → Vec Ideal S1x256x1024 .bf16)
    (Wg Wu : Fin 1024 → Fin 2816 → EReal) (Wd : Fin 2816 → Fin 1024 → EReal)
    (hg : ∀ c k f, (wg c (ix3 (0 : Fin 1) k f) : EReal) = Wg k (at256 c f)) (hu : ∀ c k f, (wu c (ix3 (0 : Fin 1) k f) : EReal) = Wu k (at256 c f))
    (hd : ∀ c f k, (wd c (ix3 (0 : Fin 1) f k) : EReal) = Wd (at256 c f) k) (r : Fin 512) (l : Fin 1024) :
    halfBlk x g sc sh gt wg wu wd (ix2 r l)
      = half (fun k => x (ix2 r k)) (fun k => g (ix2 (0 : Fin 1) k)) (fun k => sc (ix3 (0 : Fin 1) (0 : Fin 1) k))
          (fun k => sh (ix3 (0 : Fin 1) (0 : Fin 1) k)) (fun k => gt (ix3 (0 : Fin 1) (0 : Fin 1) k)) Wg Wu Wd l := by
  unfold halfBlk half
  rw [addBlk_at, total_at _ wg wu wd Wg Wu Wd hg hu hd]
  have e : (fun k => enterBlk (normBlk x g) sc sh (ix2 r k) : Fin 1024 → EReal)
      = entered (fun k => x (ix2 r k)) (fun k => g (ix2 (0 : Fin 1) k)) (fun k => sc (ix3 (0 : Fin 1) (0 : Fin 1) k))
          (fun k => sh (ix3 (0 : Fin 1) (0 : Fin 1) k)) := by
    funext k
    rw [enterBlk_at, normBlk_at]
    rfl
  rw [e]

theorem flatX_at (x : Vec Ideal S1x512x1024 .f32) (r : Fin 512) (l : Fin 1024) : flatX x (ix2 r l) = x (ix3 (0 : Fin 1) r l) := by
  pointwise [flatX]

theorem unflat_at (x : FVec Ideal S512x1024 .f32) (r : Fin 512) (l : Fin 1024) : unflat x (ix3 (0 : Fin 1) r l) = x (ix2 r l) := by
  pointwise [unflat]

/-! The attention outputs through the projection. -/

def sideBlk (a : Vec Ideal S1x512x512 .bf16) (w : Vec Ideal S512x1024 .bf16) : FVec Ideal S512x1024 .f32 :=
  matmul dot_S512x512_S512x1024_S512x1024_1_0_0_1_n_n none (shapeCast S512x512 a shapeCasts_S1x512x512_S512x512 : FVec Ideal S512x512 .bf16)
    (shapeCast S512x1024 w shapeCasts_S512x1024_S512x1024 : FVec Ideal S512x1024 .bf16) (constant S512x1024 .f32 0x00000000#32)

def joinBlk (x : FVec Ideal S512x1024 .f32) (s t : FVec Ideal S512x1024 .f32) (gt : Vec Ideal S1x1x1024 .f32) : FVec Ideal S512x1024 .f32 :=
  addf x (mulf (broadcastTo S512x1024 (flat gt) broadcasts_S1x1024_S512x1024) (addf s t))

def mixBlk (x : Vec Ideal S1x512x1024 .f32) (a b : Vec Ideal S1x512x512 .bf16) (w v : Vec Ideal S512x1024 .bf16) (gt : Vec Ideal S1x1x1024 .f32) :
    FVec Ideal S512x1024 .f32 :=
  joinBlk (flatX x) (sideBlk a w) (sideBlk b v) gt

theorem sideBlk_at (a : Vec Ideal S1x512x512 .bf16) (w : Vec Ideal S512x1024 .bf16) (r : Fin 512) (l : Fin 1024) :
    sideBlk a w (ix2 r l) = (∑ k : Fin 512, a (ix3 (0 : Fin 1) r k) * w (ix2 k l) : EReal) := by
  pointwise [sideBlk]

theorem joinBlk_at (x s t : FVec Ideal S512x1024 .f32) (gt : Vec Ideal S1x1x1024 .f32) (r : Fin 512) (l : Fin 1024) :
    joinBlk x s t gt (ix2 r l) = (x (ix2 r l) + gt (ix3 (0 : Fin 1) (0 : Fin 1) l) * (s (ix2 r l) + t (ix2 r l)) : EReal) := by
  pointwise [joinBlk, flat]

theorem mixBlk_at (x : Vec Ideal S1x512x1024 .f32) (a b : Vec Ideal S1x512x512 .bf16) (w v : Vec Ideal S512x1024 .bf16) (gt : Vec Ideal S1x1x1024 .f32)
    (r : Fin 512) (l : Fin 1024) :
    mixBlk x a b w v gt (ix2 r l) = (x (ix3 (0 : Fin 1) r l) + gt (ix3 (0 : Fin 1) (0 : Fin 1) l)
      * ((∑ k : Fin 512, a (ix3 (0 : Fin 1) r k) * w (ix2 k l)) + ∑ k : Fin 512, b (ix3 (0 : Fin 1) r k) * v (ix2 k l)) : EReal) := by
  unfold mixBlk
  rw [joinBlk_at, flatX_at, sideBlk_at, sideBlk_at]

/-! The loads. -/

/-- The two halves of the projection's rows. -/
def upper (x : S1024x1024.Idx → EReal) : Vec Ideal S512x1024 .bf16 := fun i => x (ix2 (⟨(i 0).val, by have h : (i 0).val < 512 := (i 0).isLt; omega⟩ : Fin 1024) (i 1))
def lower (x : S1024x1024.Idx → EReal) : Vec Ideal S512x1024 .bf16 := fun i => x (ix2 (⟨512 + (i 0).val, by have h : (i 0).val < 512 := (i 0).isLt; omega⟩ : Fin 1024) (i 1))

theorem upper_at (x : S1024x1024.Idx → EReal) (k : Fin 512) (l : Fin 1024) : upper x (ix2 k l) = x (ix2 (⟨k.val, by omega⟩ : Fin 1024) l) := rfl
theorem lower_at (x : S1024x1024.Idx → EReal) (k : Fin 512) (l : Fin 1024) : lower x (ix2 k l) = x (ix2 (⟨512 + k.val, by omega⟩ : Fin 1024) l) := rfl

/-- Chunk `c` of the weights. -/
def chunkG (x : S11x1024x256.Idx → EReal) (c : Fin 11) : Vec Ideal S1x1024x256 .bf16 := fun i => x (ix3 c (i 1) (i 2))
def chunkD (x : S11x256x1024.Idx → EReal) (c : Fin 11) : Vec Ideal S1x256x1024 .bf16 := fun i => x (ix3 c (i 1) (i 2))

theorem ld_r0_0 (x : Vec Ideal S1x512x1024 .f32) : View.ld x r0_0 = x := by
  funext (i : S1x512x1024.Idx)
  refine congrArg x (?_ : _ = i)
  funext a; apply Fin.ext
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega

theorem ld_r0_1 (x : Vec Ideal S1x512x512 .bf16) : View.ld x r0_1 = x := by
  funext (i : S1x512x512.Idx)
  refine congrArg x (?_ : _ = i)
  funext a; apply Fin.ext
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega

theorem ld_r0_4 (x : Vec Ideal S1x1x1024 .f32) : View.ld x r0_4 = x := by
  funext (i : S1x1x1024.Idx)
  refine congrArg x (?_ : _ = i)
  funext a; apply Fin.ext
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega

theorem ld_r0_5 (x : Vec Ideal S1x1024 .f32) : View.ld x r0_5 = x := by
  funext (i : S1x1024.Idx)
  refine congrArg x (?_ : _ = i)
  funext a; apply Fin.ext
  match a with
  | ⟨0, _⟩ => show 0 + 1 * (i 0).val = (i 0).val; omega
  | ⟨1, _⟩ => show 0 + 1 * (i 1).val = (i 1).val; omega

theorem ld_r0_2 (x : Vec Ideal S1024x1024 .bf16) : View.ld x r0_2 = upper x := by
  funext (i : S512x1024.Idx)
  have h : (i 0).val < 512 := (i 0).isLt
  refine congrArg x (?_ : _ = ix2 (⟨(i 0).val, by omega⟩ : Fin 1024) (i 1))
  funext a; apply Fin.ext
  match a with
  | ⟨0, _⟩ => show 0 + 1 * (i 0).val = (i 0).val; omega
  | ⟨1, _⟩ => show 0 + 1 * (i 1).val = (i 1).val; omega

theorem ld_r0_3 (x : Vec Ideal S1024x1024 .bf16) : View.ld x r0_3 = lower x := by
  funext (i : S512x1024.Idx)
  have h : (i 0).val < 512 := (i 0).isLt
  refine congrArg x (?_ : _ = ix2 (⟨512 + (i 0).val, by omega⟩ : Fin 1024) (i 1))
  funext a; apply Fin.ext
  match a with
  | ⟨0, _⟩ => show 512 + 1 * (i 0).val = 512 + (i 0).val; omega
  | ⟨1, _⟩ => show 0 + 1 * (i 1).val = (i 1).val; omega

theorem ld_r0_6 (x : Vec Ideal S11x1024x256 .bf16) : View.ld x r0_6 = chunkG x 0 := by
  funext (i : S1x1024x256.Idx)
  refine congrArg x (?_ : _ = ix3 (0 : Fin 11) (i 1) (i 2))
  funext a; apply Fin.ext
  match a with
  | ⟨0, _⟩ => have h : (i 0).val < 1 := (i 0).isLt; show 0 + 1 * (i 0).val = 0; omega
  | ⟨1, _⟩ => show 0 + 1 * (i 1).val = (i 1).val; omega
  | ⟨2, _⟩ => show 0 + 1 * (i 2).val = (i 2).val; omega

theorem ld_r0_7 (x : Vec Ideal S11x256x1024 .bf16) : View.ld x r0_7 = chunkD x 0 := by
  funext (i : S1x256x1024.Idx)
  refine congrArg x (?_ : _ = ix3 (0 : Fin 11) (i 1) (i 2))
  funext a; apply Fin.ext
  match a with
  | ⟨0, _⟩ => have h : (i 0).val < 1 := (i 0).isLt; show 0 + 1 * (i 0).val = 0; omega
  | ⟨1, _⟩ => show 0 + 1 * (i 1).val = (i 1).val; omega
  | ⟨2, _⟩ => show 0 + 1 * (i 2).val = (i 2).val; omega

theorem ld_r0_8 (x : Vec Ideal S11x1024x256 .bf16) : View.ld x r0_8 = chunkG x 1 := by
  funext (i : S1x1024x256.Idx)
  refine congrArg x (?_ : _ = ix3 (1 : Fin 11) (i 1) (i 2))
  funext a; apply Fin.ext
  match a with
  | ⟨0, _⟩ => have h : (i 0).val < 1 := (i 0).isLt; show 1 + 1 * (i 0).val = 1; omega
  | ⟨1, _⟩ => show 0 + 1 * (i 1).val = (i 1).val; omega
  | ⟨2, _⟩ => show 0 + 1 * (i 2).val = (i 2).val; omega

theorem ld_r0_9 (x : Vec Ideal S11x256x1024 .bf16) : View.ld x r0_9 = chunkD x 1 := by
  funext (i : S1x256x1024.Idx)
  refine congrArg x (?_ : _ = ix3 (1 : Fin 11) (i 1) (i 2))
  funext a; apply Fin.ext
  match a with
  | ⟨0, _⟩ => have h : (i 0).val < 1 := (i 0).isLt; show 1 + 1 * (i 0).val = 1; omega
  | ⟨1, _⟩ => show 0 + 1 * (i 1).val = (i 1).val; omega
  | ⟨2, _⟩ => show 0 + 1 * (i 2).val = (i 2).val; omega

theorem ld_r0_10 (x : Vec Ideal S11x1024x256 .bf16) : View.ld x r0_10 = chunkG x 2 := by
  funext (i : S1x1024x256.Idx)
  refine congrArg x (?_ : _ = ix3 (2 : Fin 11) (i 1) (i 2))
  funext a; apply Fin.ext
  match a with
  | ⟨0, _⟩ => have h : (i 0).val < 1 := (i 0).isLt; show 2 + 1 * (i 0).val = 2; omega
  | ⟨1, _⟩ => show 0 + 1 * (i 1).val = (i 1).val; omega
  | ⟨2, _⟩ => show 0 + 1 * (i 2).val = (i 2).val; omega

theorem ld_r0_11 (x : Vec Ideal S11x256x1024 .bf16) : View.ld x r0_11 = chunkD x 2 := by
  funext (i : S1x256x1024.Idx)
  refine congrArg x (?_ : _ = ix3 (2 : Fin 11) (i 1) (i 2))
  funext a; apply Fin.ext
  match a with
  | ⟨0, _⟩ => have h : (i 0).val < 1 := (i 0).isLt; show 2 + 1 * (i 0).val = 2; omega
  | ⟨1, _⟩ => show 0 + 1 * (i 1).val = (i 1).val; omega
  | ⟨2, _⟩ => show 0 + 1 * (i 2).val = (i 2).val; omega

theorem ld_r0_12 (x : Vec Ideal S11x1024x256 .bf16) : View.ld x r0_12 = chunkG x 3 := by
  funext (i : S1x1024x256.Idx)
  refine congrArg x (?_ : _ = ix3 (3 : Fin 11) (i 1) (i 2))
  funext a; apply Fin.ext
  match a with
  | ⟨0, _⟩ => have h : (i 0).val < 1 := (i 0).isLt; show 3 + 1 * (i 0).val = 3; omega
  | ⟨1, _⟩ => show 0 + 1 * (i 1).val = (i 1).val; omega
  | ⟨2, _⟩ => show 0 + 1 * (i 2).val = (i 2).val; omega

theorem ld_r0_13 (x : Vec Ideal S11x256x1024 .bf16) : View.ld x r0_13 = chunkD x 3 := by
  funext (i : S1x256x1024.Idx)
  refine congrArg x (?_ : _ = ix3 (3 : Fin 11) (i 1) (i 2))
  funext a; apply Fin.ext
  match a with
  | ⟨0, _⟩ => have h : (i 0).val < 1 := (i 0).isLt; show 3 + 1 * (i 0).val = 3; omega
  | ⟨1, _⟩ => show 0 + 1 * (i 1).val = (i 1).val; omega
  | ⟨2, _⟩ => show 0 + 1 * (i 2).val = (i 2).val; omega

theorem ld_r0_14 (x : Vec Ideal S11x1024x256 .bf16) : View.ld x r0_14 = chunkG x 4 := by
  funext (i : S1x1024x256.Idx)
  refine congrArg x (?_ : _ = ix3 (4 : Fin 11) (i 1) (i 2))
  funext a; apply Fin.ext
  match a with
  | ⟨0, _⟩ => have h : (i 0).val < 1 := (i 0).isLt; show 4 + 1 * (i 0).val = 4; omega
  | ⟨1, _⟩ => show 0 + 1 * (i 1).val = (i 1).val; omega
  | ⟨2, _⟩ => show 0 + 1 * (i 2).val = (i 2).val; omega

theorem ld_r0_15 (x : Vec Ideal S11x256x1024 .bf16) : View.ld x r0_15 = chunkD x 4 := by
  funext (i : S1x256x1024.Idx)
  refine congrArg x (?_ : _ = ix3 (4 : Fin 11) (i 1) (i 2))
  funext a; apply Fin.ext
  match a with
  | ⟨0, _⟩ => have h : (i 0).val < 1 := (i 0).isLt; show 4 + 1 * (i 0).val = 4; omega
  | ⟨1, _⟩ => show 0 + 1 * (i 1).val = (i 1).val; omega
  | ⟨2, _⟩ => show 0 + 1 * (i 2).val = (i 2).val; omega

theorem ld_r0_16 (x : Vec Ideal S11x1024x256 .bf16) : View.ld x r0_16 = chunkG x 5 := by
  funext (i : S1x1024x256.Idx)
  refine congrArg x (?_ : _ = ix3 (5 : Fin 11) (i 1) (i 2))
  funext a; apply Fin.ext
  match a with
  | ⟨0, _⟩ => have h : (i 0).val < 1 := (i 0).isLt; show 5 + 1 * (i 0).val = 5; omega
  | ⟨1, _⟩ => show 0 + 1 * (i 1).val = (i 1).val; omega
  | ⟨2, _⟩ => show 0 + 1 * (i 2).val = (i 2).val; omega

theorem ld_r0_17 (x : Vec Ideal S11x256x1024 .bf16) : View.ld x r0_17 = chunkD x 5 := by
  funext (i : S1x256x1024.Idx)
  refine congrArg x (?_ : _ = ix3 (5 : Fin 11) (i 1) (i 2))
  funext a; apply Fin.ext
  match a with
  | ⟨0, _⟩ => have h : (i 0).val < 1 := (i 0).isLt; show 5 + 1 * (i 0).val = 5; omega
  | ⟨1, _⟩ => show 0 + 1 * (i 1).val = (i 1).val; omega
  | ⟨2, _⟩ => show 0 + 1 * (i 2).val = (i 2).val; omega

theorem ld_r0_18 (x : Vec Ideal S11x1024x256 .bf16) : View.ld x r0_18 = chunkG x 6 := by
  funext (i : S1x1024x256.Idx)
  refine congrArg x (?_ : _ = ix3 (6 : Fin 11) (i 1) (i 2))
  funext a; apply Fin.ext
  match a with
  | ⟨0, _⟩ => have h : (i 0).val < 1 := (i 0).isLt; show 6 + 1 * (i 0).val = 6; omega
  | ⟨1, _⟩ => show 0 + 1 * (i 1).val = (i 1).val; omega
  | ⟨2, _⟩ => show 0 + 1 * (i 2).val = (i 2).val; omega

theorem ld_r0_19 (x : Vec Ideal S11x256x1024 .bf16) : View.ld x r0_19 = chunkD x 6 := by
  funext (i : S1x256x1024.Idx)
  refine congrArg x (?_ : _ = ix3 (6 : Fin 11) (i 1) (i 2))
  funext a; apply Fin.ext
  match a with
  | ⟨0, _⟩ => have h : (i 0).val < 1 := (i 0).isLt; show 6 + 1 * (i 0).val = 6; omega
  | ⟨1, _⟩ => show 0 + 1 * (i 1).val = (i 1).val; omega
  | ⟨2, _⟩ => show 0 + 1 * (i 2).val = (i 2).val; omega

theorem ld_r0_20 (x : Vec Ideal S11x1024x256 .bf16) : View.ld x r0_20 = chunkG x 7 := by
  funext (i : S1x1024x256.Idx)
  refine congrArg x (?_ : _ = ix3 (7 : Fin 11) (i 1) (i 2))
  funext a; apply Fin.ext
  match a with
  | ⟨0, _⟩ => have h : (i 0).val < 1 := (i 0).isLt; show 7 + 1 * (i 0).val = 7; omega
  | ⟨1, _⟩ => show 0 + 1 * (i 1).val = (i 1).val; omega
  | ⟨2, _⟩ => show 0 + 1 * (i 2).val = (i 2).val; omega

theorem ld_r0_21 (x : Vec Ideal S11x256x1024 .bf16) : View.ld x r0_21 = chunkD x 7 := by
  funext (i : S1x256x1024.Idx)
  refine congrArg x (?_ : _ = ix3 (7 : Fin 11) (i 1) (i 2))
  funext a; apply Fin.ext
  match a with
  | ⟨0, _⟩ => have h : (i 0).val < 1 := (i 0).isLt; show 7 + 1 * (i 0).val = 7; omega
  | ⟨1, _⟩ => show 0 + 1 * (i 1).val = (i 1).val; omega
  | ⟨2, _⟩ => show 0 + 1 * (i 2).val = (i 2).val; omega

theorem ld_r0_22 (x : Vec Ideal S11x1024x256 .bf16) : View.ld x r0_22 = chunkG x 8 := by
  funext (i : S1x1024x256.Idx)
  refine congrArg x (?_ : _ = ix3 (8 : Fin 11) (i 1) (i 2))
  funext a; apply Fin.ext
  match a with
  | ⟨0, _⟩ => have h : (i 0).val < 1 := (i 0).isLt; show 8 + 1 * (i 0).val = 8; omega
  | ⟨1, _⟩ => show 0 + 1 * (i 1).val = (i 1).val; omega
  | ⟨2, _⟩ => show 0 + 1 * (i 2).val = (i 2).val; omega

theorem ld_r0_23 (x : Vec Ideal S11x256x1024 .bf16) : View.ld x r0_23 = chunkD x 8 := by
  funext (i : S1x256x1024.Idx)
  refine congrArg x (?_ : _ = ix3 (8 : Fin 11) (i 1) (i 2))
  funext a; apply Fin.ext
  match a with
  | ⟨0, _⟩ => have h : (i 0).val < 1 := (i 0).isLt; show 8 + 1 * (i 0).val = 8; omega
  | ⟨1, _⟩ => show 0 + 1 * (i 1).val = (i 1).val; omega
  | ⟨2, _⟩ => show 0 + 1 * (i 2).val = (i 2).val; omega

theorem ld_r0_24 (x : Vec Ideal S11x1024x256 .bf16) : View.ld x r0_24 = chunkG x 9 := by
  funext (i : S1x1024x256.Idx)
  refine congrArg x (?_ : _ = ix3 (9 : Fin 11) (i 1) (i 2))
  funext a; apply Fin.ext
  match a with
  | ⟨0, _⟩ => have h : (i 0).val < 1 := (i 0).isLt; show 9 + 1 * (i 0).val = 9; omega
  | ⟨1, _⟩ => show 0 + 1 * (i 1).val = (i 1).val; omega
  | ⟨2, _⟩ => show 0 + 1 * (i 2).val = (i 2).val; omega

theorem ld_r0_25 (x : Vec Ideal S11x256x1024 .bf16) : View.ld x r0_25 = chunkD x 9 := by
  funext (i : S1x256x1024.Idx)
  refine congrArg x (?_ : _ = ix3 (9 : Fin 11) (i 1) (i 2))
  funext a; apply Fin.ext
  match a with
  | ⟨0, _⟩ => have h : (i 0).val < 1 := (i 0).isLt; show 9 + 1 * (i 0).val = 9; omega
  | ⟨1, _⟩ => show 0 + 1 * (i 1).val = (i 1).val; omega
  | ⟨2, _⟩ => show 0 + 1 * (i 2).val = (i 2).val; omega

theorem ld_r0_26 (x : Vec Ideal S11x1024x256 .bf16) : View.ld x r0_26 = chunkG x 10 := by
  funext (i : S1x1024x256.Idx)
  refine congrArg x (?_ : _ = ix3 (10 : Fin 11) (i 1) (i 2))
  funext a; apply Fin.ext
  match a with
  | ⟨0, _⟩ => have h : (i 0).val < 1 := (i 0).isLt; show 10 + 1 * (i 0).val = 10; omega
  | ⟨1, _⟩ => show 0 + 1 * (i 1).val = (i 1).val; omega
  | ⟨2, _⟩ => show 0 + 1 * (i 2).val = (i 2).val; omega

theorem ld_r0_27 (x : Vec Ideal S11x256x1024 .bf16) : View.ld x r0_27 = chunkD x 10 := by
  funext (i : S1x256x1024.Idx)
  refine congrArg x (?_ : _ = ix3 (10 : Fin 11) (i 1) (i 2))
  funext a; apply Fin.ext
  match a with
  | ⟨0, _⟩ => have h : (i 0).val < 1 := (i 0).isLt; show 10 + 1 * (i 0).val = 10; omega
  | ⟨1, _⟩ => show 0 + 1 * (i 1).val = (i 1).val; omega
  | ⟨2, _⟩ => show 0 + 1 * (i 2).val = (i 2).val; omega

theorem canon_whole (w : Vec Ideal S1x512x1024 .f32) : (View.canon [⟨r0_0, w⟩] : Vec Ideal S1x512x1024 .f32) = w := by
  funext (i : S1x512x1024.Idx)
  have e : r0_0.emb i = i := by
    funext a; apply Fin.ext
    match a with
    | ⟨0, _⟩ => show 0 + 1 * (i 0).val = (i 0).val; omega
    | ⟨1, _⟩ => show 0 + 1 * (i 1).val = (i 1).val; omega
    | ⟨2, _⟩ => show 0 + 1 * (i 2).val = (i 2).val; omega
  have h := View.canon_cons_emb (Val := Elt Ideal) r0_0 w [] i
  rw [e] at h
  exact h

/-- The stored block in stages, over what the body loads. -/
theorem out_loads (x0 : Vec Ideal S1x512x1024 .f32) (x1 x2 x3 : Vec Ideal S1x1x1024 .f32) (x4 : Vec Ideal S1x1024 .f32)
    (x5 x6 : Vec Ideal S11x1024x256 .bf16) (x7 : Vec Ideal S11x256x1024 .bf16) (x8 x9 : Vec Ideal S1x512x512 .bf16) (x10 : Vec Ideal S1024x1024 .bf16)
    (x11 : Vec Ideal S1x1x1024 .f32) (x12 : Vec Ideal S1x1024 .f32) :
    out0_13 (F := Ideal) x0 x1 x2 x3 x4 x5 x6 x7 x8 x9 x10 x11 x12 = View.canon [⟨r0_0, unflat (normBlk (addBlk (mixBlk (View.ld x0 r0_0) (View.ld x8 r0_1) (View.ld x9 r0_1) (View.ld x10 r0_2) (View.ld x10 r0_3) (View.ld x11 r0_4)) (View.ld x3 r0_4)
      (addf (addf (addf (addf (addf (addf (addf (addf (addf (addf (addf (zeroBlk) (chunk (enterBlk (normBlk (mixBlk (View.ld x0 r0_0) (View.ld x8 r0_1) (View.ld x9 r0_1) (View.ld x10 r0_2) (View.ld x10 r0_3) (View.ld x11 r0_4)) (View.ld x4 r0_5)) (View.ld x2 r0_4) (View.ld x1 r0_4)) (View.ld x5 r0_6) (View.ld x6 r0_6) (View.ld x7 r0_7))) (chunk (enterBlk (normBlk (mixBlk (View.ld x0 r0_0) (View.ld x8 r0_1) (View.ld x9 r0_1) (View.ld x10 r0_2) (View.ld x10 r0_3) (View.ld x11 r0_4)) (View.ld x4 r0_5)) (View.ld x2 r0_4) (View.ld x1 r0_4)) (View.ld x5 r0_8) (View.ld x6 r0_8) (View.ld x7 r0_9))) (chunk (enterBlk (normBlk (mixBlk (View.ld x0 r0_0) (View.ld x8 r0_1) (View.ld x9 r0_1) (View.ld x10 r0_2) (View.ld x10 r0_3) (View.ld x11 r0_4)) (View.ld x4 r0_5)) (View.ld x2 r0_4) (View.ld x1 r0_4)) (View.ld x5 r0_10) (View.ld x6 r0_10) (View.ld x7 r0_11))) (chunk (enterBlk (normBlk (mixBlk (View.ld x0 r0_0) (View.ld x8 r0_1) (View.ld x9 r0_1) (View.ld x10 r0_2) (View.ld x10 r0_3) (View.ld x11 r0_4)) (View.ld x4 r0_5)) (View.ld x2 r0_4) (View.ld x1 r0_4)) (View.ld x5 r0_12) (View.ld x6 r0_12) (View.ld x7 r0_13))) (chunk (enterBlk (normBlk (mixBlk (View.ld x0 r0_0) (View.ld x8 r0_1) (View.ld x9 r0_1) (View.ld x10 r0_2) (View.ld x10 r0_3) (View.ld x11 r0_4)) (View.ld x4 r0_5)) (View.ld x2 r0_4) (View.ld x1 r0_4)) (View.ld x5 r0_14) (View.ld x6 r0_14) (View.ld x7 r0_15))) (chunk (enterBlk (normBlk (mixBlk (View.ld x0 r0_0) (View.ld x8 r0_1) (View.ld x9 r0_1) (View.ld x10 r0_2) (View.ld x10 r0_3) (View.ld x11 r0_4)) (View.ld x4 r0_5)) (View.ld x2 r0_4) (View.ld x1 r0_4)) (View.ld x5 r0_16) (View.ld x6 r0_16) (View.ld x7 r0_17))) (chunk (enterBlk (normBlk (mixBlk (View.ld x0 r0_0) (View.ld x8 r0_1) (View.ld x9 r0_1) (View.ld x10 r0_2) (View.ld x10 r0_3) (View.ld x11 r0_4)) (View.ld x4 r0_5)) (View.ld x2 r0_4) (View.ld x1 r0_4)) (View.ld x5 r0_18) (View.ld x6 r0_18) (View.ld x7 r0_19))) (chunk (enterBlk (normBlk (mixBlk (View.ld x0 r0_0) (View.ld x8 r0_1) (View.ld x9 r0_1) (View.ld x10 r0_2) (View.ld x10 r0_3) (View.ld x11 r0_4)) (View.ld x4 r0_5)) (View.ld x2 r0_4) (View.ld x1 r0_4)) (View.ld x5 r0_20) (View.ld x6 r0_20) (View.ld x7 r0_21))) (chunk (enterBlk (normBlk (mixBlk (View.ld x0 r0_0) (View.ld x8 r0_1) (View.ld x9 r0_1) (View.ld x10 r0_2) (View.ld x10 r0_3) (View.ld x11 r0_4)) (View.ld x4 r0_5)) (View.ld x2 r0_4) (View.ld x1 r0_4)) (View.ld x5 r0_22) (View.ld x6 r0_22) (View.ld x7 r0_23))) (chunk (enterBlk (normBlk (mixBlk (View.ld x0 r0_0) (View.ld x8 r0_1) (View.ld x9 r0_1) (View.ld x10 r0_2) (View.ld x10 r0_3) (View.ld x11 r0_4)) (View.ld x4 r0_5)) (View.ld x2 r0_4) (View.ld x1 r0_4)) (View.ld x5 r0_24) (View.ld x6 r0_24) (View.ld x7 r0_25))) (chunk (enterBlk (normBlk (mixBlk (View.ld x0 r0_0) (View.ld x8 r0_1) (View.ld x9 r0_1) (View.ld x10 r0_2) (View.ld x10 r0_3) (View.ld x11 r0_4)) (View.ld x4 r0_5)) (View.ld x2 r0_4) (View.ld x1 r0_4)) (View.ld x5 r0_26) (View.ld x6 r0_26) (View.ld x7 r0_27)))) (View.ld x12 r0_5))⟩] := rfl

theorem out_eq (x0 : Vec Ideal S1x512x1024 .f32) (x1 x2 x3 : Vec Ideal S1x1x1024 .f32) (x4 : Vec Ideal S1x1024 .f32)
    (x5 x6 : Vec Ideal S11x1024x256 .bf16) (x7 : Vec Ideal S11x256x1024 .bf16) (x8 x9 : Vec Ideal S1x512x512 .bf16) (x10 : Vec Ideal S1024x1024 .bf16)
    (x11 : Vec Ideal S1x1x1024 .f32) (x12 : Vec Ideal S1x1024 .f32) :
    out0_13 (F := Ideal) x0 x1 x2 x3 x4 x5 x6 x7 x8 x9 x10 x11 x12
      = unflat (normBlk (halfBlk (mixBlk x0 x8 x9 (upper x10) (lower x10) x11) x4 x2 x1 x3 (chunkG x5) (chunkG x6) (chunkD x7)) x12) := by
  rw [out_loads, canon_whole, ld_r0_0, ld_r0_1, ld_r0_1, ld_r0_2, ld_r0_3, ld_r0_4, ld_r0_4, ld_r0_4, ld_r0_4, ld_r0_5, ld_r0_5, ld_r0_6, ld_r0_6, ld_r0_7, ld_r0_8, ld_r0_8, ld_r0_9, ld_r0_10, ld_r0_10, ld_r0_11, ld_r0_12, ld_r0_12, ld_r0_13, ld_r0_14, ld_r0_14, ld_r0_15, ld_r0_16, ld_r0_16, ld_r0_17, ld_r0_18, ld_r0_18, ld_r0_19, ld_r0_20, ld_r0_20, ld_r0_21, ld_r0_22, ld_r0_22, ld_r0_23, ld_r0_24, ld_r0_24, ld_r0_25, ld_r0_26, ld_r0_26, ld_r0_27]
  rfl

end Cert.Kernel3Ideal.Hand
-- ==== Proof.Array3.lean ====
module

public import proofs.«01_k».proof.Proof.Body3

@[expose] public section

/-! The output array of the second half-step's kernel: each block is what its point stores, and the blocks cover the array. -/

set_option maxRecDepth 16384

noncomputable section

namespace Cert.Kernel3Ideal.Hand

open Cert.Kernel3Ideal Cert.Kernel3Ideal.Gen Idealize.ShloMosaic Idealize.ShloMosaic.TcCoe Idealize.SL.Sem
open Cert.Proof.Half

/-! The blocks of the windows. -/

theorem lt64 (t : Fin cfg0.N) : t.val < 64 := t.isLt

theorem index0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem emb0 (t : Fin cfg0.N) (j : S1x512x1024.Idx) : ((cfg0.win 0).blk t).view.emb j
    = ix3 (⟨t.val / 8, by have := lt64 t; omega⟩ : Fin 8) (⟨512 * (t.val % 8) + (j 1).val, by have h : (j 1).val < 512 := (j 1).isLt; omega⟩ : Fin 4096) (j 2) := by
  obtain ⟨e0, e1, e2⟩ := index0 t
  funext a; apply Fin.ext
  match a with
  | ⟨0, _⟩ => have h : (j 0).val < 1 := (j 0).isLt; show win0_0.index t (0 : Fin 3) * 1 + 1 * (j 0).val = t.val / 8; omega
  | ⟨1, _⟩ => show win0_0.index t (1 : Fin 3) * 512 + 1 * (j 1).val = 512 * (t.val % 8) + (j 1).val; omega
  | ⟨2, _⟩ => show win0_0.index t (2 : Fin 3) * 1024 + 1 * (j 2).val = (j 2).val; omega

theorem index1 : ∀ t : Fin cfg0.N, win0_1.index t (0 : Fin 3) = t.val / 8 ∧ win0_1.index t (1 : Fin 3) = 0 ∧ win0_1.index t (2 : Fin 3) = 6 :=
  (by decide +kernel : ∀ t : Fin grid0.N, _)
theorem emb1 (t : Fin cfg0.N) (j : S1x1x1024.Idx) : ((cfg0.win 1).blk t).view.emb j
    = ix3 (⟨t.val / 8, by have := lt64 t; omega⟩ : Fin 8) (j 1) (⟨6144 + (j 2).val, by have h : (j 2).val < 1024 := (j 2).isLt; omega⟩ : Fin 9216) := by
  obtain ⟨e0, e1, e2⟩ := index1 t
  funext a; apply Fin.ext
  match a with
  | ⟨0, _⟩ => have h : (j 0).val < 1 := (j 0).isLt; show win0_1.index t (0 : Fin 3) * 1 + 1 * (j 0).val = t.val / 8; omega
  | ⟨1, _⟩ => show win0_1.index t (1 : Fin 3) * 1 + 1 * (j 1).val = (j 1).val; omega
  | ⟨2, _⟩ => show win0_1.index t (2 : Fin 3) * 1024 + 1 * (j 2).val = 6144 + (j 2).val; omega

theorem index2 : ∀ t : Fin cfg0.N, win0_2.index t (0 : Fin 3) = t.val / 8 ∧ win0_2.index t (1 : Fin 3) = 0 ∧ win0_2.index t (2 : Fin 3) = 7 :=
  (by decide +kernel : ∀ t : Fin grid0.N, _)
theorem emb2 (t : Fin cfg0.N) (j : S1x1x1024.Idx) : ((cfg0.win 2).blk t).view.emb j
    = ix3 (⟨t.val / 8, by have := lt64 t; omega⟩ : Fin 8) (j 1) (⟨7168 + (j 2).val, by have h : (j 2).val < 1024 := (j 2).isLt; omega⟩ : Fin 9216) := by
  obtain ⟨e0, e1, e2⟩ := index2 t
  funext a; apply Fin.ext
  match a with
  | ⟨0, _⟩ => have h : (j 0).val < 1 := (j 0).isLt; show win0_2.index t (0 : Fin 3) * 1 + 1 * (j 0).val = t.val / 8; omega
  | ⟨1, _⟩ => show win0_2.index t (1 : Fin 3) * 1 + 1 * (j 1).val = (j 1).val; omega
  | ⟨2, _⟩ => show win0_2.index t (2 : Fin 3) * 1024 + 1 * (j 2).val = 7168 + (j 2).val; omega

theorem index3 : ∀ t : Fin cfg0.N, win0_3.index t (0 : Fin 3) = t.val / 8 ∧ win0_3.index t (1 : Fin 3) = 0 ∧ win0_3.index t (2 : Fin 3) = 8 :=
  (by decide +kernel : ∀ t : Fin grid0.N, _)
theorem emb3 (t : Fin cfg0.N) (j : S1x1x1024.Idx) : ((cfg0.win 3).blk t).view.emb j
    = ix3 (⟨t.val / 8, by have := lt64 t; omega⟩ : Fin 8) (j 1) (⟨8192 + (j 2).val, by have h : (j 2).val < 1024 := (j 2).isLt; omega⟩ : Fin 9216) := by
  obtain ⟨e0, e1, e2⟩ := index3 t
  funext a; apply Fin.ext
  match a with
  | ⟨0, _⟩ => have h : (j 0).val < 1 := (j 0).isLt; show win0_3.index t (0 : Fin 3) * 1 + 1 * (j 0).val = t.val / 8; omega
  | ⟨1, _⟩ => show win0_3.index t (1 : Fin 3) * 1 + 1 * (j 1).val = (j 1).val; omega
  | ⟨2, _⟩ => show win0_3.index t (2 : Fin 3) * 1024 + 1 * (j 2).val = 8192 + (j 2).val; omega

theorem index11 : ∀ t : Fin cfg0.N, win0_11.index t (0 : Fin 3) = t.val / 8 ∧ win0_11.index t (1 : Fin 3) = 0 ∧ win0_11.index t (2 : Fin 3) = 5 :=
  (by decide +kernel : ∀ t : Fin grid0.N, _)
theorem emb11 (t : Fin cfg0.N) (j : S1x1x1024.Idx) : ((cfg0.win 11).blk t).view.emb j
    = ix3 (⟨t.val / 8, by have := lt64 t; omega⟩ : Fin 8) (j 1) (⟨5120 + (j 2).val, by have h : (j 2).val < 1024 := (j 2).isLt; omega⟩ : Fin 9216) := by
  obtain ⟨e0, e1, e2⟩ := index11 t
  funext a; apply Fin.ext
  match a with
  | ⟨0, _⟩ => have h : (j 0).val < 1 := (j 0).isLt; show win0_11.index t (0 : Fin 3) * 1 + 1 * (j 0).val = t.val / 8; omega
  | ⟨1, _⟩ => show win0_11.index t (1 : Fin 3) * 1 + 1 * (j 1).val = (j 1).val; omega
  | ⟨2, _⟩ => show win0_11.index t (2 : Fin 3) * 1024 + 1 * (j 2).val = 5120 + (j 2).val; omega

theorem index4 : ∀ t : Fin cfg0.N, win0_4.index t (0 : Fin 2) = 0 ∧ win0_4.index t (1 : Fin 2) = 0 :=
  (by decide +kernel : ∀ t : Fin grid0.N, _)
theorem emb4 (t : Fin cfg0.N) (j : S1x1024.Idx) : ((cfg0.win 4).blk t).view.emb j
    = ix2 (j 0) (j 1) := by
  obtain ⟨e0, e1⟩ := index4 t
  funext a; apply Fin.ext
  match a with
  | ⟨0, _⟩ => show win0_4.index t (0 : Fin 2) * 1 + 1 * (j 0).val = (j 0).val; omega
  | ⟨1, _⟩ => show win0_4.index t (1 : Fin 2) * 1024 + 1 * (j 1).val = (j 1).val; omega

theorem index5 : ∀ t : Fin cfg0.N, win0_5.index t (0 : Fin 3) = 0 ∧ win0_5.index t (1 : Fin 3) = 0 ∧ win0_5.index t (2 : Fin 3) = 0 :=
  (by decide +kernel : ∀ t : Fin grid0.N, _)
theorem emb5 (t : Fin cfg0.N) (j : S11x1024x256.Idx) : ((cfg0.win 5).blk t).view.emb j
    = ix3 (j 0) (j 1) (j 2) := by
  obtain ⟨e0, e1, e2⟩ := index5 t
  funext a; apply Fin.ext
  match a with
  | ⟨0, _⟩ => show win0_5.index t (0 : Fin 3) * 11 + 1 * (j 0).val = (j 0).val; omega
  | ⟨1, _⟩ => show win0_5.index t (1 : Fin 3) * 1024 + 1 * (j 1).val = (j 1).val; omega
  | ⟨2, _⟩ => show win0_5.index t (2 : Fin 3) * 256 + 1 * (j 2).val = (j 2).val; omega

theorem index6 : ∀ t : Fin cfg0.N, win0_6.index t (0 : Fin 3) = 0 ∧ win0_6.index t (1 : Fin 3) = 0 ∧ win0_6.index t (2 : Fin 3) = 0 :=
  (by decide +kernel : ∀ t : Fin grid0.N, _)
theorem emb6 (t : Fin cfg0.N) (j : S11x1024x256.Idx) : ((cfg0.win 6).blk t).view.emb j
    = ix3 (j 0) (j 1) (j 2) := by
  obtain ⟨e0, e1, e2⟩ := index6 t
  funext a; apply Fin.ext
  match a with
  | ⟨0, _⟩ => show win0_6.index t (0 : Fin 3) * 11 + 1 * (j 0).val = (j 0).val; omega
  | ⟨1, _⟩ => show win0_6.index t (1 : Fin 3) * 1024 + 1 * (j 1).val = (j 1).val; omega
  | ⟨2, _⟩ => show win0_6.index t (2 : Fin 3) * 256 + 1 * (j 2).val = (j 2).val; omega

theorem index7 : ∀ t : Fin cfg0.N, win0_7.index t (0 : Fin 3) = 0 ∧ win0_7.index t (1 : Fin 3) = 0 ∧ win0_7.index t (2 : Fin 3) = 0 :=
  (by decide +kernel : ∀ t : Fin grid0.N, _)
theorem emb7 (t : Fin cfg0.N) (j : S11x256x1024.Idx) : ((cfg0.win 7).blk t).view.emb j
    = ix3 (j 0) (j 1) (j 2) := by
  obtain ⟨e0, e1, e2⟩ := index7 t
  funext a; apply Fin.ext
  match a with
  | ⟨0, _⟩ => show win0_7.index t (0 : Fin 3) * 11 + 1 * (j 0).val = (j 0).val; omega
  | ⟨1, _⟩ => show win0_7.index t (1 : Fin 3) * 256 + 1 * (j 1).val = (j 1).val; omega
  | ⟨2, _⟩ => show win0_7.index t (2 : Fin 3) * 1024 + 1 * (j 2).val = (j 2).val; omega

theorem index8 : ∀ t : Fin cfg0.N, win0_8.index t (0 : Fin 3) = t.val / 8 ∧ win0_8.index t (1 : Fin 3) = t.val % 8 ∧ win0_8.index t (2 : Fin 3) = 0 :=
  (by decide +kernel : ∀ t : Fin grid0.N, _)
theorem emb8 (t : Fin cfg0.N) (j : S1x512x512.Idx) : ((cfg0.win 8).blk t).view.emb j
    = ix3 (⟨t.val / 8, by have := lt64 t; omega⟩ : Fin 8) (⟨512 * (t.val % 8) + (j 1).val, by have h : (j 1).val < 512 := (j 1).isLt; omega⟩ : Fin 4096) (j 2) := by
  obtain ⟨e0, e1, e2⟩ := index8 t
  funext a; apply Fin.ext
  match a with
  | ⟨0, _⟩ => have h : (j 0).val < 1 := (j 0).isLt; show win0_8.index t (0 : Fin 3) * 1 + 1 * (j 0).val = t.val / 8; omega
  | ⟨1, _⟩ => show win0_8.index t (1 : Fin 3) * 512 + 1 * (j 1).val = 512 * (t.val % 8) + (j 1).val; omega
  | ⟨2, _⟩ => show win0_8.index t (2 : Fin 3) * 512 + 1 * (j 2).val = (j 2).val; omega

theorem index9 : ∀ t : Fin cfg0.N, win0_9.index t (0 : Fin 3) = t.val / 8 ∧ win0_9.index t (1 : Fin 3) = t.val % 8 ∧ win0_9.index t (2 : Fin 3) = 0 :=
  (by decide +kernel : ∀ t : Fin grid0.N, _)
theorem emb9 (t : Fin cfg0.N) (j : S1x512x512.Idx) : ((cfg0.win 9).blk t).view.emb j
    = ix3 (⟨t.val / 8, by have := lt64 t; omega⟩ : Fin 8) (⟨512 * (t.val % 8) + (j 1).val, by have h : (j 1).val < 512 := (j 1).isLt; omega⟩ : Fin 4096) (j 2) := by
  obtain ⟨e0, e1, e2⟩ := index9 t
  funext a; apply Fin.ext
  match a with
  | ⟨0, _⟩ => have h : (j 0).val < 1 := (j 0).isLt; show win0_9.index t (0 : Fin 3) * 1 + 1 * (j 0).val = t.val / 8; omega
  | ⟨1, _⟩ => show win0_9.index t (1 : Fin 3) * 512 + 1 * (j 1).val = 512 * (t.val % 8) + (j 1).val; omega
  | ⟨2, _⟩ => show win0_9.index t (2 : Fin 3) * 512 + 1 * (j 2).val = (j 2).val; omega

theorem index10 : ∀ t : Fin cfg0.N, win0_10.index t (0 : Fin 2) = 0 ∧ win0_10.index t (1 : Fin 2) = 0 :=
  (by decide +kernel : ∀ t : Fin grid0.N, _)
theorem emb10 (t : Fin cfg0.N) (j : S1024x1024.Idx) : ((cfg0.win 10).blk t).view.emb j
    = ix2 (j 0) (j 1) := by
  obtain ⟨e0, e1⟩ := index10 t
  funext a; apply Fin.ext
  match a with
  | ⟨0, _⟩ => show win0_10.index t (0 : Fin 2) * 1024 + 1 * (j 0).val = (j 0).val; omega
  | ⟨1, _⟩ => show win0_10.index t (1 : Fin 2) * 1024 + 1 * (j 1).val = (j 1).val; omega

theorem index12 : ∀ t : Fin cfg0.N, win0_12.index t (0 : Fin 2) = 0 ∧ win0_12.index t (1 : Fin 2) = 0 :=
  (by decide +kernel : ∀ t : Fin grid0.N, _)
theorem emb12 (t : Fin cfg0.N) (j : S1x1024.Idx) : ((cfg0.win 12).blk t).view.emb j
    = ix2 (j 0) (j 1) := by
  obtain ⟨e0, e1⟩ := index12 t
  funext a; apply Fin.ext
  match a with
  | ⟨0, _⟩ => show win0_12.index t (0 : Fin 2) * 1 + 1 * (j 0).val = (j 0).val; omega
  | ⟨1, _⟩ => show win0_12.index t (1 : Fin 2) * 1024 + 1 * (j 1).val = (j 1).val; omega

theorem index13 : ∀ t : Fin cfg0.N, win0_13.index t (0 : Fin 3) = t.val / 8 ∧ win0_13.index t (1 : Fin 3) = t.val % 8 ∧ win0_13.index t (2 : Fin 3) = 0 :=
  (by decide +kernel : ∀ t : Fin grid0.N, _)
theorem emb13 (t : Fin cfg0.N) (j : S1x512x1024.Idx) : ((cfg0.win 13).blk t).view.emb j
    = ix3 (⟨t.val / 8, by have := lt64 t; omega⟩ : Fin 8) (⟨512 * (t.val % 8) + (j 1).val, by have h : (j 1).val < 512 := (j 1).isLt; omega⟩ : Fin 4096) (j 2) := by
  obtain ⟨e0, e1, e2⟩ := index13 t
  funext a; apply Fin.ext
  match a with
  | ⟨0, _⟩ => have h : (j 0).val < 1 := (j 0).isLt; show win0_13.index t (0 : Fin 3) * 1 + 1 * (j 0).val = t.val / 8; omega
  | ⟨1, _⟩ => show win0_13.index t (1 : Fin 3) * 512 + 1 * (j 1).val = 512 * (t.val % 8) + (j 1).val; omega
  | ⟨2, _⟩ => show win0_13.index t (2 : Fin 3) * 1024 + 1 * (j 2).val = (j 2).val; omega

/-! The blocks of the arrays the grid reads. -/

def blk0 (X : S8x4096x1024.Idx → EReal) (t : Fin cfg0.N) : S1x512x1024.Idx → EReal := ((cfg0.win 0).blk t).view.read (Elt Ideal) X
theorem blk0_at (X : S8x4096x1024.Idx → EReal) (t : Fin cfg0.N) (r : Fin 512) (l : Fin 1024) :
    blk0 X t (ix3 (0 : Fin 1) r l) = X (ix3 (⟨t.val / 8, by have := lt64 t; omega⟩ : Fin 8) (⟨512 * (t.val % 8) + r.val, by omega⟩ : Fin 4096) l) := by
  show X (((cfg0.win 0).blk t).view.emb (ix3 (0 : Fin 1) r l)) = _
  rw [emb0]
  rfl

def blk1 (X : S8x1x9216.Idx → EReal) (t : Fin cfg0.N) : S1x1x1024.Idx → EReal := ((cfg0.win 1).blk t).view.read (Elt Ideal) X
theorem blk1_at (X : S8x1x9216.Idx → EReal) (t : Fin cfg0.N) (l : Fin 1024) :
    blk1 X t (ix3 (0 : Fin 1) (0 : Fin 1) l) = X (ix3 (⟨t.val / 8, by have := lt64 t; omega⟩ : Fin 8) (0 : Fin 1) (⟨6144 + l.val, by omega⟩ : Fin 9216)) := by
  show X (((cfg0.win 1).blk t).view.emb (ix3 (0 : Fin 1) (0 : Fin 1) l)) = _
  rw [emb1]
  rfl

def blk2 (X : S8x1x9216.Idx → EReal) (t : Fin cfg0.N) : S1x1x1024.Idx → EReal := ((cfg0.win 2).blk t).view.read (Elt Ideal) X
theorem blk2_at (X : S8x1x9216.Idx → EReal) (t : Fin cfg0.N) (l : Fin 1024) :
    blk2 X t (ix3 (0 : Fin 1) (0 : Fin 1) l) = X (ix3 (⟨t.val / 8, by have := lt64 t; omega⟩ : Fin 8) (0 : Fin 1) (⟨7168 + l.val, by omega⟩ : Fin 9216)) := by
  show X (((cfg0.win 2).blk t).view.emb (ix3 (0 : Fin 1) (0 : Fin 1) l)) = _
  rw [emb2]
  rfl

def blk3 (X : S8x1x9216.Idx → EReal) (t : Fin cfg0.N) : S1x1x1024.Idx → EReal := ((cfg0.win 3).blk t).view.read (Elt Ideal) X
theorem blk3_at (X : S8x1x9216.Idx → EReal) (t : Fin cfg0.N) (l : Fin 1024) :
    blk3 X t (ix3 (0 : Fin 1) (0 : Fin 1) l) = X (ix3 (⟨t.val / 8, by have := lt64 t; omega⟩ : Fin 8) (0 : Fin 1) (⟨8192 + l.val, by omega⟩ : Fin 9216)) := by
  show X (((cfg0.win 3).blk t).view.emb (ix3 (0 : Fin 1) (0 : Fin 1) l)) = _
  rw [emb3]
  rfl

def blk11 (X : S8x1x9216.Idx → EReal) (t : Fin cfg0.N) : S1x1x1024.Idx → EReal := ((cfg0.win 11).blk t).view.read (Elt Ideal) X
theorem blk11_at (X : S8x1x9216.Idx → EReal) (t : Fin cfg0.N) (l : Fin 1024) :
    blk11 X t (ix3 (0 : Fin 1) (0 : Fin 1) l) = X (ix3 (⟨t.val / 8, by have := lt64 t; omega⟩ : Fin 8) (0 : Fin 1) (⟨5120 + l.val, by omega⟩ : Fin 9216)) := by
  show X (((cfg0.win 11).blk t).view.emb (ix3 (0 : Fin 1) (0 : Fin 1) l)) = _
  rw [emb11]
  rfl

def blk4 (X : S1x1024.Idx → EReal) (t : Fin cfg0.N) : S1x1024.Idx → EReal := ((cfg0.win 4).blk t).view.read (Elt Ideal) X
theorem blk4_at (X : S1x1024.Idx → EReal) (t : Fin cfg0.N) (l : Fin 1024) :
    blk4 X t (ix2 (0 : Fin 1) l) = X (ix2 (0 : Fin 1) l) := by
  show X (((cfg0.win 4).blk t).view.emb (ix2 (0 : Fin 1) l)) = _
  rw [emb4]
  rfl

def blk5 (X : S11x1024x256.Idx → EReal) (t : Fin cfg0.N) : S11x1024x256.Idx → EReal := ((cfg0.win 5).blk t).view.read (Elt Ideal) X
theorem blk5_at (X : S11x1024x256.Idx → EReal) (t : Fin cfg0.N) (c : Fin 11) (k : Fin 1024) (f : Fin 256) :
    blk5 X t (ix3 c k f) = X (ix3 c k f) := by
  show X (((cfg0.win 5).blk t).view.emb (ix3 c k f)) = _
  rw [emb5]
  rfl

def blk6 (X : S11x1024x256.Idx → EReal) (t : Fin cfg0.N) : S11x1024x256.Idx → EReal := ((cfg0.win 6).blk t).view.read (Elt Ideal) X
theorem blk6_at (X : S11x1024x256.Idx → EReal) (t : Fin cfg0.N) (c : Fin 11) (k : Fin 1024) (f : Fin 256) :
    blk6 X t (ix3 c k f) = X (ix3 c k f) := by
  show X (((cfg0.win 6).blk t).view.emb (ix3 c k f)) = _
  rw [emb6]
  rfl

def blk7 (X : S11x256x1024.Idx → EReal) (t : Fin cfg0.N) : S11x256x1024.Idx → EReal := ((cfg0.win 7).blk t).view.read (Elt Ideal) X
theorem blk7_at (X : S11x256x1024.Idx → EReal) (t : Fin cfg0.N) (c : Fin 11) (k : Fin 256) (f : Fin 1024) :
    blk7 X t (ix3 c k f) = X (ix3 c k f) := by
  show X (((cfg0.win 7).blk t).view.emb (ix3 c k f)) = _
  rw [emb7]
  rfl

def blk8 (X : S8x4096x512.Idx → EReal) (t : Fin cfg0.N) : S1x512x512.Idx → EReal := ((cfg0.win 8).blk t).view.read (Elt Ideal) X
theorem blk8_at (X : S8x4096x512.Idx → EReal) (t : Fin cfg0.N) (r : Fin 512) (l : Fin 512) :
    blk8 X t (ix3 (0 : Fin 1) r l) = X (ix3 (⟨t.val / 8, by have := lt64 t; omega⟩ : Fin 8) (⟨512 * (t.val % 8) + r.val, by omega⟩ : Fin 4096) l) := by
  show X (((cfg0.win 8).blk t).view.emb (ix3 (0 : Fin 1) r l)) = _
  rw [emb8]
  rfl

def blk9 (X : S8x4096x512.Idx → EReal) (t : Fin cfg0.N) : S1x512x512.Idx → EReal := ((cfg0.win 9).blk t).view.read (Elt Ideal) X
theorem blk9_at (X : S8x4096x512.Idx → EReal) (t : Fin cfg0.N) (r : Fin 512) (l : Fin 512) :
    blk9 X t (ix3 (0 : Fin 1) r l) = X (ix3 (⟨t.val / 8, by have := lt64 t; omega⟩ : Fin 8) (⟨512 * (t.val % 8) + r.val, by omega⟩ : Fin 4096) l) := by
  show X (((cfg0.win 9).blk t).view.emb (ix3 (0 : Fin 1) r l)) = _
  rw [emb9]
  rfl

def blk10 (X : S1024x1024.Idx → EReal) (t : Fin cfg0.N) : S1024x1024.Idx → EReal := ((cfg0.win 10).blk t).view.read (Elt Ideal) X
theorem blk10_at (X : S1024x1024.Idx → EReal) (t : Fin cfg0.N) (k l : Fin 1024) :
    blk10 X t (ix2 k l) = X (ix2 k l) := by
  show X (((cfg0.win 10).blk t).view.emb (ix2 k l)) = _
  rw [emb10]
  rfl

def blk12 (X : S1x1024.Idx → EReal) (t : Fin cfg0.N) : S1x1024.Idx → EReal := ((cfg0.win 12).blk t).view.read (Elt Ideal) X
theorem blk12_at (X : S1x1024.Idx → EReal) (t : Fin cfg0.N) (l : Fin 1024) :
    blk12 X t (ix2 (0 : Fin 1) l) = X (ix2 (0 : Fin 1) l) := by
  show X (((cfg0.win 12).blk t).view.emb (ix2 (0 : Fin 1) l)) = _
  rw [emb12]
  rfl

/-- A chunked weight read by its hidden position. -/
def wide (W : S11x1024x256.Idx → EReal) (k : Fin 1024) (f : Fin 2816) : EReal := W (ix3 (⟨f.val / 256, by omega⟩ : Fin 11) k (⟨f.val % 256, by omega⟩ : Fin 256))
def tall (W : S11x256x1024.Idx → EReal) (f : Fin 2816) (k : Fin 1024) : EReal := W (ix3 (⟨f.val / 256, by omega⟩ : Fin 11) (⟨f.val % 256, by omega⟩ : Fin 256) k)

theorem div256 (c : Fin 11) (f : Fin 256) : (⟨(at256 c f).val / 256, by have := (at256 c f).isLt; omega⟩ : Fin 11) = c :=
  Fin.ext (by show (256 * c.val + f.val) / 256 = c.val; omega)
theorem mod256 (c : Fin 11) (f : Fin 256) : (⟨(at256 c f).val % 256, by omega⟩ : Fin 256) = f :=
  Fin.ext (by show (256 * c.val + f.val) % 256 = f.val; omega)

theorem wide_at (W : S11x1024x256.Idx → EReal) (c : Fin 11) (k : Fin 1024) (f : Fin 256) : wide W k (at256 c f) = W (ix3 c k f) := by
  unfold wide; rw [div256, mod256]
theorem tall_at (W : S11x256x1024.Idx → EReal) (c : Fin 11) (f : Fin 256) (k : Fin 1024) : tall W (at256 c f) k = W (ix3 c f k) := by
  unfold tall; rw [div256, mod256]

/-- The modulation's lanes from `o` on, for batch `b`. -/
def lanes (D : S8x1x9216.Idx → EReal) (b : Fin 8) (o : Nat) (h : o + 1024 ≤ 9216) (l : Fin 1024) : EReal :=
  D (ix3 b (0 : Fin 1) (⟨o + l.val, by omega⟩ : Fin 9216))

/-- The row entering the half-step: the first half's row and the attention outputs through the projection. -/
def mixAt (X : S8x4096x1024.Idx → EReal) (D : S8x1x9216.Idx → EReal) (A B : S8x4096x512.Idx → EReal) (Wo : S1024x1024.Idx → EReal)
    (b : Fin 8) (r : Fin 4096) (l : Fin 1024) : EReal :=
  X (ix3 b r l) + lanes D b 5120 (by omega) l
    * ((∑ k : Fin 512, A (ix3 b r k) * Wo (ix2 (⟨k.val, by omega⟩ : Fin 1024) l)) + ∑ k : Fin 512, B (ix3 b r k) * Wo (ix2 (⟨512 + k.val, by omega⟩ : Fin 1024) l))

/-- The output at an index. -/
def outAt (X : S8x4096x1024.Idx → EReal) (D : S8x1x9216.Idx → EReal) (G : S1x1024.Idx → EReal) (Wg Wu : S11x1024x256.Idx → EReal) (Wd : S11x256x1024.Idx → EReal) (A B : S8x4096x512.Idx → EReal) (Wo : S1024x1024.Idx → EReal) (Gf : S1x1024.Idx → EReal) (b : Fin 8) (r : Fin 4096) (l : Fin 1024) : EReal :=
  normed (half (mixAt X D A B Wo b r) (fun k => G (ix2 (0 : Fin 1) k)) (lanes D b 7168 (by omega)) (lanes D b 6144 (by omega)) (lanes D b 8192 (by omega)) (wide Wg) (wide Wu) (tall Wd)) (fun k => Gf (ix2 (0 : Fin 1) k)) l

def outArr (X : S8x4096x1024.Idx → EReal) (D : S8x1x9216.Idx → EReal) (G : S1x1024.Idx → EReal) (Wg Wu : S11x1024x256.Idx → EReal) (Wd : S11x256x1024.Idx → EReal) (A B : S8x4096x512.Idx → EReal) (Wo : S1024x1024.Idx → EReal) (Gf : S1x1024.Idx → EReal) : S8x4096x1024.Idx → EReal := fun i => outAt X D G Wg Wu Wd A B Wo Gf (i 0) (i 1) (i 2)

/-- What a point stores is its block of the output. -/
theorem block_eq (X : S8x4096x1024.Idx → EReal) (D : S8x1x9216.Idx → EReal) (G : S1x1024.Idx → EReal) (Wg Wu : S11x1024x256.Idx → EReal) (Wd : S11x256x1024.Idx → EReal) (A B : S8x4096x512.Idx → EReal) (Wo : S1024x1024.Idx → EReal) (Gf : S1x1024.Idx → EReal) (t : Fin cfg0.N) :
    (cfg0.win 13).cut (grid0.coords t) (unflat (normBlk (halfBlk (mixBlk (blk0 X t) (blk8 A t) (blk9 B t) (upper (blk10 Wo t)) (lower (blk10 Wo t)) (blk11 D t)) (blk4 G t) (blk2 D t) (blk1 D t) (blk3 D t) (chunkG (blk5 Wg t)) (chunkG (blk6 Wu t)) (chunkD (blk7 Wd t))) (blk12 Gf t)) : S1x512x1024.Idx → EReal)
      = ((cfg0.win 13).blk t).view.read (Elt Ideal) (outArr X D G Wg Wu Wd A B Wo Gf) := by
  funext (j : S1x512x1024.Idx)
  show (unflat (normBlk (halfBlk (mixBlk (blk0 X t) (blk8 A t) (blk9 B t) (upper (blk10 Wo t)) (lower (blk10 Wo t)) (blk11 D t)) (blk4 G t) (blk2 D t) (blk1 D t) (blk3 D t) (chunkG (blk5 Wg t)) (chunkG (blk6 Wu t)) (chunkD (blk7 Wd t))) (blk12 Gf t)) : S1x512x1024.Idx → EReal) j = outArr X D G Wg Wu Wd A B Wo Gf (((cfg0.win 13).blk t).view.emb j)
  rw [emb13]
  have h0 : (j 0).val < 1 := (j 0).isLt
  have h1 : (j 1).val < 512 := (j 1).isLt
  have h2 : (j 2).val < 1024 := (j 2).isLt
  have hj : ix3 (0 : Fin 1) (⟨(j 1).val, h1⟩ : Fin 512) (⟨(j 2).val, h2⟩ : Fin 1024) = j := by
    funext a; apply Fin.ext
    match a with
    | ⟨0, _⟩ => show 0 = (j 0).val; omega
    | ⟨1, _⟩ => rfl
    | ⟨2, _⟩ => rfl
  rw [← hj]
  generalize (⟨(j 1).val, h1⟩ : Fin 512) = r
  generalize (⟨(j 2).val, h2⟩ : Fin 1024) = l
  show _ = outAt X D G Wg Wu Wd A B Wo Gf (⟨t.val / 8, by have := lt64 t; omega⟩ : Fin 8) (⟨512 * (t.val % 8) + r.val, by omega⟩ : Fin 4096) l
  have e2 : (fun k => blk2 D t (ix3 (0 : Fin 1) (0 : Fin 1) k)) = lanes D (⟨t.val / 8, by have := lt64 t; omega⟩ : Fin 8) 7168 (by omega) := funext fun k => blk2_at D t k
  have e1 : (fun k => blk1 D t (ix3 (0 : Fin 1) (0 : Fin 1) k)) = lanes D (⟨t.val / 8, by have := lt64 t; omega⟩ : Fin 8) 6144 (by omega) := funext fun k => blk1_at D t k
  have e3 : (fun k => blk3 D t (ix3 (0 : Fin 1) (0 : Fin 1) k)) = lanes D (⟨t.val / 8, by have := lt64 t; omega⟩ : Fin 8) 8192 (by omega) := funext fun k => blk3_at D t k
  have e4 : (fun k => blk4 G t (ix2 (0 : Fin 1) k)) = fun k => G (ix2 (0 : Fin 1) k) := funext fun k => blk4_at G t k
  have e0 : (fun k => mixBlk (blk0 X t) (blk8 A t) (blk9 B t) (upper (blk10 Wo t)) (lower (blk10 Wo t)) (blk11 D t) (ix2 r k))
      = mixAt X D A B Wo (⟨t.val / 8, by have := lt64 t; omega⟩ : Fin 8) (⟨512 * (t.val % 8) + r.val, by omega⟩ : Fin 4096) := by
    funext k
    rw [mixBlk_at, blk0_at, blk11_at]
    unfold mixAt lanes
    refine congrArg (X _ + D _ * ·) (congrArg₂ (· + ·) (Finset.sum_congr rfl fun i _ => ?_) (Finset.sum_congr rfl fun i _ => ?_))
    · rw [blk8_at, upper_at, blk10_at]
    · rw [blk9_at, lower_at, blk10_at]
  have e12 : (fun k => blk12 Gf t (ix2 (0 : Fin 1) k)) = fun k => Gf (ix2 (0 : Fin 1) k) := funext fun k => blk12_at Gf t k
  have e := fun l => halfBlk_at (mixBlk (blk0 X t) (blk8 A t) (blk9 B t) (upper (blk10 Wo t)) (lower (blk10 Wo t)) (blk11 D t)) (blk4 G t) (blk2 D t) (blk1 D t) (blk3 D t) (chunkG (blk5 Wg t)) (chunkG (blk6 Wu t)) (chunkD (blk7 Wd t)) (wide Wg) (wide Wu) (tall Wd)
    (fun c k f => (blk5_at Wg t c k f).trans (wide_at Wg c k f).symm) (fun c k f => (blk6_at Wu t c k f).trans (wide_at Wu c k f).symm)
    (fun c f k => (blk7_at Wd t c f k).trans (tall_at Wd c f k).symm) r l
  rw [e0, e1, e2, e3, e4] at e
  refine (unflat_at _ r l).trans ((normBlk_at _ _ r l).trans ?_)
  rw [e12, funext e]
  rfl

variable (m : (ℓ : Loc nD τ sig) → Buf (Elt Ideal) ℓ) (c : Dev nD)

theorem iblk_0 (t : Fin cfg0.N) : iblk m c 0 t = blk0 (V m c main_arg0) t := rfl
theorem iblk_1 (t : Fin cfg0.N) : iblk m c 1 t = blk1 (V m c main_v16) t := rfl
theorem iblk_2 (t : Fin cfg0.N) : iblk m c 2 t = blk2 (V m c main_v16) t := rfl
theorem iblk_3 (t : Fin cfg0.N) : iblk m c 3 t = blk3 (V m c main_v16) t := rfl
theorem iblk_4 (t : Fin cfg0.N) : iblk m c 4 t = blk4 (V m c main_v25) t := rfl
theorem iblk_5 (t : Fin cfg0.N) : iblk m c 5 t = blk5 (V m c main_v19) t := rfl
theorem iblk_6 (t : Fin cfg0.N) : iblk m c 6 t = blk6 (V m c main_v22) t := rfl
theorem iblk_7 (t : Fin cfg0.N) : iblk m c 7 t = blk7 (V m c main_v24) t := rfl
theorem iblk_8 (t : Fin cfg0.N) : iblk m c 8 t = blk8 (V m c main_arg2) t := rfl
theorem iblk_9 (t : Fin cfg0.N) : iblk m c 9 t = blk9 (V m c main_v15) t := rfl
theorem iblk_10 (t : Fin cfg0.N) : iblk m c 10 t = blk10 (V m c main_v12) t := rfl
theorem iblk_11 (t : Fin cfg0.N) : iblk m c 11 t = blk11 (V m c main_v16) t := rfl
theorem iblk_12 (t : Fin cfg0.N) : iblk m c 12 t = blk12 (V m c main_v26) t := rfl

theorem flushed_eq (t : Fin cfg0.N) :
    (dats m 0 c).flushed 13 t = ((cfg0.win 13).blk t).view.read (Elt Ideal) (outArr (V m c main_arg0) (V m c main_v16) (V m c main_v25) (V m c main_v19) (V m c main_v22) (V m c main_v24) (V m c main_arg2) (V m c main_v15) (V m c main_v12) (V m c main_v26)) := by
  rw [Value.flushed13 m c t, out_eq, iblk_0, iblk_1, iblk_2, iblk_3, iblk_4, iblk_5, iblk_6, iblk_7, iblk_8, iblk_9, iblk_10, iblk_11, iblk_12]
  exact block_eq (V m c main_arg0) (V m c main_v16) (V m c main_v25) (V m c main_v19) (V m c main_v22) (V m c main_v24) (V m c main_arg2) (V m c main_v15) (V m c main_v12) (V m c main_v26) t

theorem covered (i : S8x4096x1024.Idx) : ∃ t : Fin cfg0.N, (cfg0.win 13).flush t = true ∧ i ∈ ((cfg0.win 13).blk t).view.set := by
  have h0 : (i 0).val < 8 := (i 0).isLt
  have h1 : (i 1).val < 4096 := (i 1).isLt
  refine ⟨(⟨8 * (i 0).val + (i 1).val / 512, by show _ < 64; omega⟩ : Fin cfg0.N), flush0_13 _, ?_⟩
  have h := ((cfg0.win 13).blk (⟨8 * (i 0).val + (i 1).val / 512, by show _ < 64; omega⟩ : Fin cfg0.N)).view.emb_mem_set
    (ix3 (0 : Fin 1) (⟨(i 1).val % 512, by omega⟩ : Fin 512) (i 2))
  rw [emb13] at h
  have e : ix3 (⟨(8 * (i 0).val + (i 1).val / 512) / 8, by omega⟩ : Fin 8)
      (⟨512 * ((8 * (i 0).val + (i 1).val / 512) % 8) + (i 1).val % 512, by omega⟩ : Fin 4096) (i 2) = i := by
    funext a; apply Fin.ext
    match a with
    | ⟨0, _⟩ => show (8 * (i 0).val + (i 1).val / 512) / 8 = (i 0).val; omega
    | ⟨1, _⟩ => show 512 * ((8 * (i 0).val + (i 1).val / 512) % 8) + (i 1).val % 512 = (i 1).val; omega
    | ⟨2, _⟩ => rfl
  have e' := e ▸ h
  exact e'

/-- The output array after the run. -/
theorem final_eq : (dats m 0 c).arrAt 13 cfg0.N = outArr (V m c main_arg0) (V m c main_v16) (V m c main_v25) (V m c main_v19) (V m c main_v22) (V m c main_v24) (V m c main_arg2) (V m c main_v15) (V m c main_v12) (V m c main_v26) :=
  (dats m 0 c).arrAt_eq_of_cover 13 _ (fun t _ => flushed_eq m c t) covered

end Cert.Kernel3Ideal.Hand
-- ==== Proof.Pack3.lean ====
module

public import proofs.«01_k».proof.Proof.Array3

@[expose] public section

/-! The arrays the second half-step's kernel is entered with, read at an index. -/

set_option maxRecDepth 16384

noncomputable section

namespace Cert.Kernel3Ideal.Hand

open Cert.Kernel3Ideal Cert.Kernel3Ideal.Gen Idealize.ShloMosaic Idealize.ShloMosaic.TcCoe Idealize.SL.Sem
open Cert.Proof.Half

def modArr (d : FVec Ideal S8x9216 .f32) : FVec Ideal S8x1x9216 .f32 := shapeCast S8x1x9216 d shapeCasts_S8x9216_S8x1x9216
def gainArr (g : FVec Ideal S1024 .f32) : FVec Ideal S1x1024 .f32 := shapeCast S1x1024 g shapeCasts_S1024_S1x1024
def chunksG (w : FVec Ideal S1024x2816 .f32) : FVec Ideal S11x1024x256 .bf16 :=
  truncf .bf16 (transpose S11x1024x256 [1, 0, 2] (shapeCast S1024x11x256 w shapeCasts_S1024x2816_S1024x11x256) transposes_S1024x11x256_S11x1024x256_1_0_2) bitsLt_bf16_f32
def chunksD (w : FVec Ideal S2816x1024 .f32) : FVec Ideal S11x256x1024 .bf16 :=
  truncf .bf16 (shapeCast S11x256x1024 w shapeCasts_S2816x1024_S11x256x1024) bitsLt_bf16_f32

theorem modArr_at (d : FVec Ideal S8x9216 .f32) (b : Fin 8) (l : Fin 9216) : modArr d (ix3 b (0 : Fin 1) l) = d (ix2 b l) := by
  pointwise [modArr]
theorem gainArr_at (g : FVec Ideal S1024 .f32) (l : Fin 1024) : gainArr g (ix2 (0 : Fin 1) l) = g (ix1 l) := by
  pointwise [gainArr]
theorem chunksG_at (w : FVec Ideal S1024x2816 .f32) (c : Fin 11) (k : Fin 1024) (f : Fin 256) :
    chunksG w (ix3 c k f) = w (ix2 k (⟨256 * c.val + f.val, by omega⟩ : Fin 2816)) := by
  pointwise [chunksG]
  refine congrArg (fun j : Fin 2816 => w (ix2 k j)) (Fin.ext ?_)
  simp only
  omega
theorem chunksD_at (w : FVec Ideal S2816x1024 .f32) (c : Fin 11) (f : Fin 256) (k : Fin 1024) :
    chunksD w (ix3 c f k) = w (ix2 (⟨256 * c.val + f.val, by omega⟩ : Fin 2816) k) := by
  pointwise [chunksD]
  refine congrArg (fun j : Fin 2816 => w (ix2 j k)) (Fin.ext ?_)
  simp only
  omega

theorem joined (f : Fin 2816) : (⟨256 * (f.val / 256) + f.val % 256, by omega⟩ : Fin 2816) = f := Fin.ext (by simp only; omega)

theorem wide_chunks (w : FVec Ideal S1024x2816 .f32) : wide (chunksG w) = fun k f => w (ix2 k f) := by
  funext k f
  unfold wide
  rw [chunksG_at, joined]
theorem tall_chunks (w : FVec Ideal S2816x1024 .f32) : tall (chunksD w) = fun f k => w (ix2 f k) := by
  funext f k
  unfold tall
  rw [chunksD_at, joined]
theorem lanes_mod (d : FVec Ideal S8x9216 .f32) (b : Fin 8) (o : Nat) (h : o + 1024 ≤ 9216) :
    lanes (modArr d) b o h = fun l => d (ix2 b (⟨o + l.val, by omega⟩ : Fin 9216)) := funext fun l => modArr_at d b _
theorem gain_row (g : FVec Ideal S1024 .f32) : (fun k => gainArr g (ix2 (0 : Fin 1) k)) = fun k => g (ix1 k) := funext fun k => gainArr_at g k

/-! The heads of the second attention output, in the order the kernel takes them. -/

/-- The head in position `j`. -/
def headAt (j : Fin 8) : Fin 8 := ⟨4 * (j.val % 2) + j.val / 2, by omega⟩

def headIdx : IVec S8 32 := fun i => lit0 (S8.rowMajor i)
def headRows : IVec S8x1 32 :=
  broadcastInDim S8x1 ![0] bcast_S8_S8x1_0 (select (cmpi .slt headIdx (broadcastInDim S8 ![] bcast_S_S8 (constantI S_ 32 0#32)))
    (addi headIdx (broadcastInDim S8 ![] bcast_S_S8 (constantI S_ 32 8#32))) headIdx)

theorem headRows_at (j : Fin 8) : headRows (ix2 j (0 : Fin 1)) = BitVec.ofNat 32 (headAt j).val := by
  fin_cases j <;> rfl

theorem gather_at (x : S8x64x1024.Idx → EReal) (idx : IVec S8x1 32) (j : Fin 8) (d : Fin 64) (l : Fin 1024) :
    Host.gather gather_S8x64x1024_S8x1_S8x64x1024_12_0_n_n_0_1_1641024 x idx (ix3 j d l)
      = x (ix3 (⟨min (idx (ix2 j (0 : Fin 1))).toInt.toNat 7, by omega⟩ : Fin 8) d l) := by
  unfold Host.gather
  refine congrArg x ?_
  funext a
  refine Fin.ext ?_
  show gather_S8x64x1024_S8x1_S8x64x1024_12_0_n_n_0_1_1641024.start (ix3 j d l) idx a
    + gather_S8x64x1024_S8x1_S8x64x1024_12_0_n_n_0_1_1641024.batchCoord (ix3 j d l) a
    + gather_S8x64x1024_S8x1_S8x64x1024_12_0_n_n_0_1_1641024.offCoord (ix3 j d l) a = _
  match a with
  | ⟨0, _⟩ =>
    have hs : gather_S8x64x1024_S8x1_S8x64x1024_12_0_n_n_0_1_1641024.siIdx (ix3 j d l) (⟨0, by decide⟩ : Fin 1) = ix2 j (0 : Fin 1) := by
      funext b; refine Fin.ext ?_
      match b with
      | ⟨0, _⟩ => rfl
      | ⟨1, _⟩ => rfl
    show min (idx (gather_S8x64x1024_S8x1_S8x64x1024_12_0_n_n_0_1_1641024.siIdx (ix3 j d l) (⟨0, by decide⟩ : Fin 1))).toInt.toNat 7 + 0 + 0 = _
    rw [hs]
    rfl
  | ⟨1, _⟩ => show 0 + 0 + d.val = d.val; omega
  | ⟨2, _⟩ => show 0 + 0 + l.val = l.val; omega

def lowRows (w : FVec Ideal S1024x1024 .f32) : FVec Ideal S8x64x1024 .f32 :=
  shapeCast S8x64x1024 (extractStridedSlice S512x1024 ![512, 0] w slices_S1024x1024_S512x1024_512_0) shapeCasts_S512x1024_S8x64x1024
def taken (w : FVec Ideal S1024x1024 .f32) : FVec Ideal S8x64x1024 .f32 :=
  Host.gather gather_S8x64x1024_S8x1_S8x64x1024_12_0_n_n_0_1_1641024 (lowRows w) headRows
def projection (w : FVec Ideal S1024x1024 .f32) : FVec Ideal S1024x1024 .bf16 :=
  truncf .bf16 (concatenate S1024x1024 0 [⟨S512x1024, extractStridedSlice S512x1024 ![0, 0] w slices_S1024x1024_S512x1024_0_0⟩,
    ⟨S512x1024, shapeCast S512x1024 (taken w) shapeCasts_S8x64x1024_S512x1024⟩] concatenates_S512x1024_S512x1024_S1024x1024_d0) bitsLt_bf16_f32

theorem lowRows_at (w : FVec Ideal S1024x1024 .f32) (j : Fin 8) (d : Fin 64) (l : Fin 1024) :
    lowRows w (ix3 j d l) = w (ix2 (⟨512 + (64 * j.val + d.val), by omega⟩ : Fin 1024) l) := by
  pointwise [lowRows]
  refine congrArg (fun k : Fin 1024 => w (ix2 k l)) (Fin.ext ?_)
  simp only
  omega

theorem taken_at (w : FVec Ideal S1024x1024 .f32) (j : Fin 8) (d : Fin 64) (l : Fin 1024) :
    taken w (ix3 j d l) = w (ix2 (⟨512 + (64 * (headAt j).val + d.val), by omega⟩ : Fin 1024) l) := by
  refine (gather_at (lowRows w) headRows j d l).trans ?_
  have e : (⟨min (headRows (ix2 j (0 : Fin 1))).toInt.toNat 7, by omega⟩ : Fin 8) = headAt j := by
    refine Fin.ext ?_
    show min (headRows (ix2 j (0 : Fin 1))).toInt.toNat 7 = (headAt j).val
    rw [headRows_at]
    revert j
    decide
  rw [e, lowRows_at]

theorem flatRows_at (y : FVec Ideal S8x64x1024 .f32) (j : Fin 8) (d : Fin 64) (l : Fin 1024) :
    (shapeCast S512x1024 y shapeCasts_S8x64x1024_S512x1024 : FVec Ideal S512x1024 .f32) (ix2 (⟨64 * j.val + d.val, by omega⟩ : Fin 512) l) = y (ix3 j d l) := by
  pointwise

theorem stack_at (u v : FVec Ideal S512x1024 .f32) (k : Fin 1024) (l : Fin 1024) :
    (concatenate S1024x1024 0 [⟨S512x1024, u⟩, ⟨S512x1024, v⟩] concatenates_S512x1024_S512x1024_S1024x1024_d0 : FVec Ideal S1024x1024 .f32) (ix2 k l)
      = if h : k.val < 512 then u (ix2 (⟨k.val, h⟩ : Fin 512) l) else v (ix2 (⟨k.val - 512, by omega⟩ : Fin 512) l) := by
  pointwise

theorem projection_upper (w : FVec Ideal S1024x1024 .f32) (k : Fin 512) (l : Fin 1024) :
    projection w (ix2 (⟨k.val, by omega⟩ : Fin 1024) l) = w (ix2 (⟨k.val, by omega⟩ : Fin 1024) l) := by
  refine (stack_at _ _ _ l).trans ?_
  rw [dif_pos k.isLt]
  pointwise

theorem projection_lower (w : FVec Ideal S1024x1024 .f32) (j : Fin 8) (d : Fin 64) (l : Fin 1024) :
    projection w (ix2 (⟨512 + (64 * j.val + d.val), by omega⟩ : Fin 1024) l)
      = w (ix2 (⟨512 + (64 * (headAt j).val + d.val), by omega⟩ : Fin 1024) l) := by
  refine (stack_at _ _ _ l).trans ?_
  rw [dif_neg (by simp only; omega)]
  refine Eq.trans ?_ ((flatRows_at (taken w) j d l).trans (taken_at w j d l))
  refine congrArg (fun k : Fin 512 => (shapeCast S512x1024 (taken w) shapeCasts_S8x64x1024_S512x1024 : FVec Ideal S512x1024 .f32) (ix2 k l)) (Fin.ext ?_)
  simp only
  omega

def splitHeads (b : FVec Ideal S8x4096x512 .bf16) : FVec Ideal S8x4096x2x4x64 .bf16 := shapeCast S8x4096x2x4x64 b shapeCasts_S8x4096x512_S8x4096x2x4x64
def reordered (b : FVec Ideal S8x4096x512 .bf16) : FVec Ideal S8x4096x512 .bf16 :=
  shapeCast S8x4096x512 (transpose S8x4096x4x2x64 [0, 1, 3, 2, 4] (splitHeads b) transposes_S8x4096x2x4x64_S8x4096x4x2x64_0_1_3_2_4)
    shapeCasts_S8x4096x4x2x64_S8x4096x512

theorem reordered_at (b : FVec Ideal S8x4096x512 .bf16) (n : Fin 8) (r : Fin 4096) (q : Fin 4) (p : Fin 2) (d : Fin 64) :
    reordered b (ix3 n r (⟨64 * (2 * q.val + p.val) + d.val, by omega⟩ : Fin 512)) = b (ix3 n r (⟨64 * (4 * p.val + q.val) + d.val, by omega⟩ : Fin 512)) := by
  pointwise [reordered, splitHeads]
  refine congrArg (fun k : Fin 512 => b (ix3 n r k)) (Fin.ext ?_)
  simp only
  omega

theorem reordered_head (b : FVec Ideal S8x4096x512 .bf16) (n : Fin 8) (r : Fin 4096) (j : Fin 8) (d : Fin 64) :
    reordered b (ix3 n r (⟨64 * j.val + d.val, by omega⟩ : Fin 512)) = b (ix3 n r (⟨64 * (headAt j).val + d.val, by omega⟩ : Fin 512)) := by
  have h := reordered_at b n r (⟨j.val / 2, by omega⟩ : Fin 4) (⟨j.val % 2, by omega⟩ : Fin 2) d
  have e : (⟨64 * (2 * (j.val / 2) + j.val % 2) + d.val, by omega⟩ : Fin 512) = ⟨64 * j.val + d.val, by omega⟩ := Fin.ext (by simp only; omega)
  exact (congrArg (fun k : Fin 512 => reordered b (ix3 n r k)) e.symm).trans h

theorem sum_heads (F : Fin 512 → EReal) : (∑ k : Fin 512, F k) = ∑ j : Fin 8, ∑ d : Fin 64, F ⟨64 * j.val + d.val, by omega⟩ := by
  rw [← Fintype.sum_prod_type' (fun (j : Fin 8) (d : Fin 64) => F ⟨64 * j.val + d.val, by omega⟩)]
  refine (Fintype.sum_equiv (finProdFinEquiv (m := 8) (n := 64)) _ _ fun p => ?_).symm
  refine congrArg F (Fin.ext ?_)
  show 64 * p.1.val + p.2.val = p.2.val + 64 * p.1.val
  omega

theorem headAt_bijective : Function.Bijective headAt := by decide

/-- The product over the reordered heads is the product over the heads. -/
theorem sum_reordered (b : FVec Ideal S8x4096x512 .bf16) (w : FVec Ideal S1024x1024 .f32) (n : Fin 8) (r : Fin 4096) (l : Fin 1024) :
    (∑ k : Fin 512, reordered b (ix3 n r k) * projection w (ix2 (⟨512 + k.val, by omega⟩ : Fin 1024) l) : EReal)
      = ∑ k : Fin 512, b (ix3 n r k) * w (ix2 (⟨512 + k.val, by omega⟩ : Fin 1024) l) := by
  rw [sum_heads, sum_heads]
  refine Fintype.sum_equiv (Equiv.ofBijective headAt headAt_bijective) _ _ fun j => Finset.sum_congr rfl fun d _ => ?_
  show (reordered b (ix3 n r (⟨64 * j.val + d.val, by omega⟩ : Fin 512)) * projection w (ix2 (⟨512 + (64 * j.val + d.val), by omega⟩ : Fin 1024) l) : EReal)
    = b (ix3 n r (⟨64 * (headAt j).val + d.val, by omega⟩ : Fin 512)) * w (ix2 (⟨512 + (64 * (headAt j).val + d.val), by omega⟩ : Fin 1024) l)
  rw [reordered_head, projection_lower]

variable (m : (ℓ : Loc nD τ sig) → Buf (Elt Ideal) ℓ) (c : Dev nD)

theorem entry_x : V m c main_arg0 = (m ((c : Thread nD τ).loc main_arg0) : FVec Ideal S8x4096x1024 .f32) := by
  show StableHlo.after hostOps0 _ (Proc.devRef .tc main_arg0) = _
  after_results

theorem entry_mod : V m c main_v16 = modArr (m ((c : Thread nD τ).loc main_arg1) : FVec Ideal S8x9216 .f32) := by
  show StableHlo.after hostOps0 _ (Proc.devRef .tc main_v16) = _
  after_results
  rfl

theorem entry_a : V m c main_arg2 = (m ((c : Thread nD τ).loc main_arg2) : FVec Ideal S8x4096x512 .bf16) := by
  show StableHlo.after hostOps0 _ (Proc.devRef .tc main_arg2) = _
  after_results

theorem entry_gain : V m c main_v25 = gainArr (m ((c : Thread nD τ).loc main_arg5) : FVec Ideal S1024 .f32) := by
  show StableHlo.after hostOps0 _ (Proc.devRef .tc main_v25) = _
  after_results
  rfl

theorem entry_final : V m c main_v26 = gainArr (m ((c : Thread nD τ).loc main_arg9) : FVec Ideal S1024 .f32) := by
  show StableHlo.after hostOps0 _ (Proc.devRef .tc main_v26) = _
  after_results
  rfl

theorem entry_gate : V m c main_v19 = chunksG (m ((c : Thread nD τ).loc main_arg6) : FVec Ideal S1024x2816 .f32) := by
  show StableHlo.after hostOps0 _ (Proc.devRef .tc main_v19) = _
  after_results
  rfl

theorem entry_up : V m c main_v22 = chunksG (m ((c : Thread nD τ).loc main_arg7) : FVec Ideal S1024x2816 .f32) := by
  show StableHlo.after hostOps0 _ (Proc.devRef .tc main_v22) = _
  after_results
  rfl

theorem entry_down : V m c main_v24 = chunksD (m ((c : Thread nD τ).loc main_arg8) : FVec Ideal S2816x1024 .f32) := by
  show StableHlo.after hostOps0 _ (Proc.devRef .tc main_v24) = _
  after_results
  rfl

theorem entry_b : V m c main_v15 = reordered (m ((c : Thread nD τ).loc main_arg3) : FVec Ideal S8x4096x512 .bf16) := by
  show StableHlo.after hostOps0 _ (Proc.devRef .tc main_v15) = _
  after_results
  rfl

theorem entry_wo : V m c main_v12 = projection (m ((c : Thread nD τ).loc main_arg4) : FVec Ideal S1024x1024 .f32) := by
  show StableHlo.after hostOps0 _ (Proc.devRef .tc main_v12) = _
  after_results
  rfl

end Cert.Kernel3Ideal.Hand
-- ==== Proof.Ref3.lean ====
module

public import proofs.«01_k».proof.Proof.Gen.Reference3Ideal.Run
public import proofs.«01_k».proof.Proof.Half
public import Idealize.ShloMosaic.Lib.Pointwise

@[expose] public section

/-! The reference of the second half-step, its result read at an index. -/

set_option maxRecDepth 16384

noncomputable section

namespace Cert.Reference3Ideal.Hand

open Cert.Reference3Ideal Cert.Reference3Ideal.Gen Cert.Reference3Ideal.Value Idealize.ShloMosaic Idealize.ShloMosaic.TcCoe
open Cert.Proof.Half

/-! The result's term in stages. -/

def rootArr (x : FVec Ideal S8x4096x1024 .f32) : FVec Ideal S8x4096x1 .f32 :=
  Host.rsqrt (addf (Host.divf (broadcastInDim S8x4096x1 ![0, 1] bcast_S8x4096_S8x4096x1_0_1
      (Host.reduceAdd (mulf x x) (constant S_ .f32 0x00000000#32) reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x358637BD#32)))

def normArr (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2 (rootArr x)))
    (broadcastInDim S8x4096x1024 ![0, 1, 2] bcast_S1x1x1024_S8x4096x1024_0_1_2 (broadcastInDim S1x1x1024 ![2] bcast_S1024_S1x1x1024_2 g))

def spreadMod (s : FVec Ideal S8x1x1024 .f32) : FVec Ideal S8x4096x1024 .f32 :=
  broadcastInDim S8x4096x1024 ![0, 1, 2] bcast_S8x1x1024_S8x4096x1024_0_1_2 s

def modRow (M : FVec Ideal S8x9216 .f32) : FVec Ideal S8x1x9216 .f32 := broadcastInDim S8x1x9216 ![0, 2] bcast_S8x9216_S8x1x9216_0_2 M

def enterArr (n : FVec Ideal S8x4096x1024 .f32) (sc sh : FVec Ideal S8x1x1024 .f32) : FVec Ideal S8x4096x1024 .f32 :=
  addf (mulf n (spreadMod (addf (broadcastInDim S8x1x1024 ![] bcast_S_S8x1x1024 (constant S_ .f32 0x3F800000#32)) sc))) (spreadMod sh)

def projArr (h : FVec Ideal S8x4096x1024 .f32) (w : FVec Ideal S1024x2816 .f32) : FVec Ideal S8x4096x2816 .f32 :=
  Host.dotGeneral dot_S8x4096x1024_S1024x2816_S8x4096x2816_2_0_01_1_n_n none h w

def gateArr (a b : FVec Ideal S8x4096x2816 .f32) : FVec Ideal S8x4096x2816 .f32 :=
  mulf (mulf a (Host.divf (broadcastInDim S8x4096x2816 ![] bcast_S_S8x4096x2816 (constant S_ .f32 0x3F800000#32))
    (addf (broadcastInDim S8x4096x2816 ![] bcast_S_S8x4096x2816 (constant S_ .f32 0x3F800000#32)) (Host.exp (Host.negf a))))) b

def downArr (t : FVec Ideal S8x4096x2816 .f32) (w : FVec Ideal S2816x1024 .f32) : FVec Ideal S8x4096x1024 .f32 :=
  Host.dotGeneral dot_S8x4096x2816_S2816x1024_S8x4096x1024_2_0_01_1_n_n none t w

def addArr (x : FVec Ideal S8x4096x1024 .f32) (gt : FVec Ideal S8x1x1024 .f32) (d : FVec Ideal S8x4096x1024 .f32) : FVec Ideal S8x4096x1024 .f32 :=
  addf x (mulf (spreadMod (mulf (broadcastInDim S8x1x1024 ![] bcast_S_S8x1x1024 (constant S_ .f32 0x3F000000#32)) gt)) d)

def halfArr (x : FVec Ideal S8x4096x1024 .f32) (g : FVec Ideal S1024 .f32) (sc sh gt : FVec Ideal S8x1x1024 .f32)
    (wg wu : FVec Ideal S1024x2816 .f32) (wd : FVec Ideal S2816x1024 .f32) : FVec Ideal S8x4096x1024 .f32 :=
  addArr x gt (downArr (gateArr (projArr (enterArr (normArr x g) sc sh) wg) (projArr (enterArr (normArr x g) sc sh) wu)) wd)

def catArr (A B : FVec Ideal S8x4096x512 .bf16) : FVec Ideal S8x4096x1024 .bf16 :=
  concatenate S8x4096x1024 2 [⟨S8x4096x512, A⟩, ⟨S8x4096x512, B⟩] concatenates_S8x4096x512_S8x4096x512_S8x4096x1024_d2

def outProj (A B : FVec Ideal S8x4096x512 .bf16) (w : FVec Ideal S1024x1024 .f32) : FVec Ideal S8x4096x1024 .f32 :=
  Host.dotGeneral dot_S8x4096x1024_S1024x1024_S8x4096x1024_2_0_01_1_n_n none (extf .f32 (catArr A B) bitsLt_bf16_f32) w

def mixArr (x : FVec Ideal S8x4096x1024 .f32) (gt : FVec Ideal S8x1x1024 .f32) (A B : FVec Ideal S8x4096x512 .bf16)
    (w : FVec Ideal S1024x1024 .f32) : FVec Ideal S8x4096x1024 .f32 :=
  addf x (mulf (spreadMod gt) (outProj A B w))

def result (X : FVec Ideal S8x4096x1024 .f32) (D : FVec Ideal S8x9216 .f32) (A B : FVec Ideal S8x4096x512 .bf16)
    (Wo : FVec Ideal S1024x1024 .f32) (G : FVec Ideal S1024 .f32) (Wg Wu : FVec Ideal S1024x2816 .f32) (Wd : FVec Ideal S2816x1024 .f32)
    (Gf : FVec Ideal S1024 .f32) : FVec Ideal S8x4096x1024 .f32 :=
  normArr (halfArr (mixArr X (extractStridedSlice S8x1x1024 ![0, 0, 5120] (modRow D) slices_S8x1x9216_S8x1x1024_0_0_5120) A B Wo) G (extractStridedSlice S8x1x1024 ![0, 0, 7168] (modRow D) slices_S8x1x9216_S8x1x1024_0_0_7168)
    (extractStridedSlice S8x1x1024 ![0, 0, 6144] (modRow D) slices_S8x1x9216_S8x1x1024_0_0_6144)
    (extractStridedSlice S8x1x1024 ![0, 0, 8192] (modRow D) slices_S8x1x9216_S8x1x1024_0_0_8192) Wg Wu Wd) Gf

theorem res_eq (m : (ℓ : Loc nD τ sig) → Buf (Elt Ideal) ℓ) (c : Dev nD) :
    res_main_v57 m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl

/-! Each stage at an index. -/

theorem one_bits : Ideal.ofBits FTy.f32 0x3F800000#32 = 1 := by
  simp [Ideal.ofBits, Ideal.ieee]
  rw [← EReal.coe_mul]
  norm_num

theorem rootArr_at (x : FVec Ideal S8x4096x1024 .f32) (b : Fin 8) (r : Fin 4096) :
    rootArr x (ix3 b r (0 : Fin 1)) = root fun k => x (ix3 b r k) := by
  unfold root
  pointwise [rootArr]

theorem normArr_at (x : FVec Ideal S8x4096x1024 .f32) (g : FVec Ideal S1024 .f32) (b : Fin 8) (r : Fin 4096) (l : Fin 1024) :
    normArr x g (ix3 b r l) = normed (fun k => x (ix3 b r k)) (fun k => g (ix1 k)) l := by
  unfold normed
  rw [← rootArr_at]
  pointwise [normArr]

theorem spreadMod_at (s : FVec Ideal S8x1x1024 .f32) (b : Fin 8) (r : Fin 4096) (l : Fin 1024) :
    spreadMod s (ix3 b r l) = s (ix3 b (0 : Fin 1) l) := by
  pointwise [spreadMod]

theorem modRow_at (M : FVec Ideal S8x9216 .f32) (b : Fin 8) (l : Fin 9216) : modRow M (ix3 b (0 : Fin 1) l) = M (ix2 b l) := by
  pointwise [modRow]

theorem enterArr_at (n : FVec Ideal S8x4096x1024 .f32) (sc sh : FVec Ideal S8x1x1024 .f32) (b : Fin 8) (r : Fin 4096) (l : Fin 1024) :
    enterArr n sc sh (ix3 b r l) = (n (ix3 b r l) * (1 + sc (ix3 b (0 : Fin 1) l)) + sh (ix3 b (0 : Fin 1) l) : EReal) := by
  pointwise [enterArr, spreadMod]

theorem projArr_at (h : FVec Ideal S8x4096x1024 .f32) (w : FVec Ideal S1024x2816 .f32) (b : Fin 8) (r : Fin 4096) (f : Fin 2816) :
    projArr h w (ix3 b r f) = (∑ k : Fin 1024, h (ix3 b r k) * w (ix2 k f) : EReal) := by
  pointwise [projArr]

theorem gateArr_at (a b : FVec Ideal S8x4096x2816 .f32) (i : S8x4096x2816.Idx) : gateArr a b i = gated (a i) (b i) := by
  unfold gated
  rw [← one_bits]
  rfl

theorem downArr_at (t : FVec Ideal S8x4096x2816 .f32) (w : FVec Ideal S2816x1024 .f32) (b : Fin 8) (r : Fin 4096) (l : Fin 1024) :
    downArr t w (ix3 b r l) = (∑ f : Fin 2816, t (ix3 b r f) * w (ix2 f l) : EReal) := by
  pointwise [downArr]

theorem addArr_at (x : FVec Ideal S8x4096x1024 .f32) (gt : FVec Ideal S8x1x1024 .f32) (d : FVec Ideal S8x4096x1024 .f32)
    (b : Fin 8) (r : Fin 4096) (l : Fin 1024) :
    addArr x gt d (ix3 b r l) = (x (ix3 b r l) + Ideal.ofBits FTy.f32 0x3F000000#32 * gt (ix3 b (0 : Fin 1) l) * d (ix3 b r l) : EReal) := by
  pointwise [addArr, spreadMod]

/-- The half-step at an index. -/
theorem halfArr_at (x : FVec Ideal S8x4096x1024 .f32) (g : FVec Ideal S1024 .f32) (sc sh gt : FVec Ideal S8x1x1024 .f32)
    (wg wu : FVec Ideal S1024x2816 .f32) (wd : FVec Ideal S2816x1024 .f32) (b : Fin 8) (r : Fin 4096) (l : Fin 1024) :
    halfArr x g sc sh gt wg wu wd (ix3 b r l)
      = half (fun k => x (ix3 b r k)) (fun k => g (ix1 k)) (fun k => sc (ix3 b (0 : Fin 1) k)) (fun k => sh (ix3 b (0 : Fin 1) k))
          (fun k => gt (ix3 b (0 : Fin 1) k)) (fun k f => wg (ix2 k f)) (fun k f => wu (ix2 k f)) (fun f k => wd (ix2 f k)) l := by
  unfold halfArr half net unit entered
  rw [addArr_at, downArr_at]
  refine congrArg (fun s : EReal => x (ix3 b r l) + Ideal.ofBits FTy.f32 0x3F000000#32 * gt (ix3 b (0 : Fin 1) l) * s) ?_
  refine Finset.sum_congr rfl fun f _ => congrArg (· * wd (ix2 f l)) ?_
  rw [gateArr_at, projArr_at, projArr_at]
  refine congrArg₂ gated (Finset.sum_congr rfl fun k _ => congrArg (· * wg (ix2 k f)) ?_) (Finset.sum_congr rfl fun k _ => congrArg (· * wu (ix2 k f)) ?_)
  · rw [enterArr_at, normArr_at]
  · rw [enterArr_at, normArr_at]

theorem catArr_at (A B : FVec Ideal S8x4096x512 .bf16) (b : Fin 8) (r : Fin 4096) (k : Fin 1024) :
    catArr A B (ix3 b r k) = if h : k.val < 512 then A (ix3 b r (⟨k.val, h⟩ : Fin 512)) else B (ix3 b r (⟨k.val - 512, by omega⟩ : Fin 512)) := by
  pointwise [catArr]

theorem outProj_sum (A B : FVec Ideal S8x4096x512 .bf16) (w : FVec Ideal S1024x1024 .f32) (b : Fin 8) (r : Fin 4096) (l : Fin 1024) :
    outProj A B w (ix3 b r l) = (∑ k : Fin 1024, catArr A B (ix3 b r k) * w (ix2 k l) : EReal) := by
  pointwise [outProj]

/-- The two halves of the sum: the first attention's channels, then the second's. -/
theorem outProj_at (A B : FVec Ideal S8x4096x512 .bf16) (w : FVec Ideal S1024x1024 .f32) (b : Fin 8) (r : Fin 4096) (l : Fin 1024) :
    outProj A B w (ix3 b r l) = ((∑ k : Fin 512, A (ix3 b r k) * w (ix2 (⟨k.val, by omega⟩ : Fin 1024) l))
      + ∑ k : Fin 512, B (ix3 b r k) * w (ix2 (⟨512 + k.val, by omega⟩ : Fin 1024) l) : EReal) := by
  rw [outProj_sum]
  refine (Fin.sum_univ_add (a := 512) (b := 512) (fun k : Fin (512 + 512) => (catArr A B (ix3 b r (k : Fin 1024)) * w (ix2 (k : Fin 1024) l) : EReal))).trans ?_
  refine congrArg₂ (fun s t : EReal => s + t) (Finset.sum_congr rfl fun k _ => ?_) (Finset.sum_congr rfl fun k _ => ?_)
  · refine congrArg (fun s : EReal => s * w (ix2 (⟨k.val, by omega⟩ : Fin 1024) l)) ?_
    exact (catArr_at A B b r (⟨k.val, by omega⟩ : Fin 1024)).trans (dif_pos k.isLt)
  · refine congrArg (fun s : EReal => s * w (ix2 (⟨512 + k.val, by omega⟩ : Fin 1024) l)) ?_
    refine (catArr_at A B b r (⟨512 + k.val, by omega⟩ : Fin 1024)).trans ((dif_neg (by simp only; omega)).trans ?_)
    refine congrArg (fun j : Fin 512 => B (ix3 b r j)) (Fin.ext ?_)
    simp only
    omega

theorem slice_5120_at (M : FVec Ideal S8x9216 .f32) (b : Fin 8) (l : Fin 1024) :
    extractStridedSlice S8x1x1024 ![0, 0, 5120] (modRow M) slices_S8x1x9216_S8x1x1024_0_0_5120 (ix3 b (0 : Fin 1) l) = M (ix2 b (⟨5120 + l.val, by omega⟩ : Fin 9216)) := by
  refine Eq.trans ?_ (modRow_at M b _)
  pointwise

theorem slice_6144_at (M : FVec Ideal S8x9216 .f32) (b : Fin 8) (l : Fin 1024) :
    extractStridedSlice S8x1x1024 ![0, 0, 6144] (modRow M) slices_S8x1x9216_S8x1x1024_0_0_6144 (ix3 b (0 : Fin 1) l) = M (ix2 b (⟨6144 + l.val, by omega⟩ : Fin 9216)) := by
  refine Eq.trans ?_ (modRow_at M b _)
  pointwise

theorem slice_7168_at (M : FVec Ideal S8x9216 .f32) (b : Fin 8) (l : Fin 1024) :
    extractStridedSlice S8x1x1024 ![0, 0, 7168] (modRow M) slices_S8x1x9216_S8x1x1024_0_0_7168 (ix3 b (0 : Fin 1) l) = M (ix2 b (⟨7168 + l.val, by omega⟩ : Fin 9216)) := by
  refine Eq.trans ?_ (modRow_at M b _)
  pointwise

theorem slice_8192_at (M : FVec Ideal S8x9216 .f32) (b : Fin 8) (l : Fin 1024) :
    extractStridedSlice S8x1x1024 ![0, 0, 8192] (modRow M) slices_S8x1x9216_S8x1x1024_0_0_8192 (ix3 b (0 : Fin 1) l) = M (ix2 b (⟨8192 + l.val, by omega⟩ : Fin 9216)) := by
  refine Eq.trans ?_ (modRow_at M b _)
  pointwise

/-- The row the second half-step starts from. -/
def mixed (X : FVec Ideal S8x4096x1024 .f32) (D : FVec Ideal S8x9216 .f32) (A B : FVec Ideal S8x4096x512 .bf16)
    (Wo : FVec Ideal S1024x1024 .f32) (b : Fin 8) (r : Fin 4096) (l : Fin 1024) : EReal :=
  X (ix3 b r l) + D (ix2 b (⟨5120 + l.val, by omega⟩ : Fin 9216))
    * ((∑ k : Fin 512, A (ix3 b r k) * Wo (ix2 (⟨k.val, by omega⟩ : Fin 1024) l))
      + ∑ k : Fin 512, B (ix3 b r k) * Wo (ix2 (⟨512 + k.val, by omega⟩ : Fin 1024) l))

theorem mixArr_at (X : FVec Ideal S8x4096x1024 .f32) (D : FVec Ideal S8x9216 .f32) (A B : FVec Ideal S8x4096x512 .bf16)
    (Wo : FVec Ideal S1024x1024 .f32) (b : Fin 8) (r : Fin 4096) (l : Fin 1024) :
    mixArr X (extractStridedSlice S8x1x1024 ![0, 0, 5120] (modRow D) slices_S8x1x9216_S8x1x1024_0_0_5120) A B Wo (ix3 b r l) = mixed X D A B Wo b r l := by
  unfold mixArr mixed
  rw [← outProj_at, ← slice_5120_at D b l, ← spreadMod_at (extractStridedSlice S8x1x1024 ![0, 0, 5120] (modRow D) slices_S8x1x9216_S8x1x1024_0_0_5120) b r l]
  rfl

/-- The result at an index. -/
theorem result_at (X : FVec Ideal S8x4096x1024 .f32) (D : FVec Ideal S8x9216 .f32) (A B : FVec Ideal S8x4096x512 .bf16)
    (Wo : FVec Ideal S1024x1024 .f32) (G : FVec Ideal S1024 .f32) (Wg Wu : FVec Ideal S1024x2816 .f32) (Wd : FVec Ideal S2816x1024 .f32)
    (Gf : FVec Ideal S1024 .f32) (b : Fin 8) (r : Fin 4096) (l : Fin 1024) :
    result X D A B Wo G Wg Wu Wd Gf (ix3 b r l)
      = normed (half (mixed X D A B Wo b r) (fun k => G (ix1 k)) (fun k => D (ix2 b (⟨7168 + k.val, by omega⟩ : Fin 9216)))
          (fun k => D (ix2 b (⟨6144 + k.val, by omega⟩ : Fin 9216))) (fun k => D (ix2 b (⟨8192 + k.val, by omega⟩ : Fin 9216)))
          (fun k f => Wg (ix2 k f)) (fun k f => Wu (ix2 k f)) (fun f k => Wd (ix2 f k))) (fun k => Gf (ix1 k)) l := by
  unfold result
  rw [normArr_at]
  refine congrArg (fun v => normed v (fun k => Gf (ix1 k)) l) (funext fun k => ?_)
  rw [halfArr_at, funext (slice_6144_at D b), funext (slice_7168_at D b), funext (slice_8192_at D b)]
  refine congrArg (fun v => half v _ _ _ _ _ _ _ k) (funext fun j => ?_)
  exact mixArr_at X D A B Wo b r j

end Cert.Reference3Ideal.Hand
-- ==== Proof.SecondHalf.lean ====
module

public import proofs.«01_k».proof.Defs
public import proofs.«01_k».proof.Proof.Pack3
public import proofs.«01_k».proof.Proof.Ref3

@[expose] public section

/-! The second half-step's kernel and its reference leave the same array. -/

set_option maxRecDepth 16384

noncomputable section

namespace Cert.Proof.SecondHalf

open Idealize.ShloMosaic Idealize.ShloMosaic.TcCoe Idealize.SL.Sem
open Cert.Kernel3Ideal.Hand Cert.Proof.Half

theorem mix_same (X : FVec Ideal Cert.Kernel3Ideal.S8x4096x1024 .f32) (D : FVec Ideal Cert.Kernel3Ideal.S8x9216 .f32) (A B : FVec Ideal Cert.Kernel3Ideal.S8x4096x512 .bf16)
    (Wo : FVec Ideal Cert.Kernel3Ideal.S1024x1024 .f32) (b : Fin 8) (r : Fin 4096) :
    mixAt X (modArr D) A (reordered B) (projection Wo) b r = Cert.Reference3Ideal.Hand.mixed X D A B Wo b r := by
  funext l
  unfold mixAt Cert.Reference3Ideal.Hand.mixed
  rw [lanes_mod, sum_reordered]
  refine congrArg (fun s : EReal => X (ix3 b r l) + D (ix2 b (⟨5120 + l.val, by omega⟩ : Fin 9216)) * (s + ∑ k : Fin 512, B (ix3 b r k) * Wo (ix2 (⟨512 + k.val, by omega⟩ : Fin 1024) l))) ?_
  exact Finset.sum_congr rfl fun k _ => congrArg (A (ix3 b r k) * ·) (projection_upper Wo k l)

theorem same_at (X : FVec Ideal Cert.Kernel3Ideal.S8x4096x1024 .f32) (D : FVec Ideal Cert.Kernel3Ideal.S8x9216 .f32) (A B : FVec Ideal Cert.Kernel3Ideal.S8x4096x512 .bf16)
    (Wo : FVec Ideal Cert.Kernel3Ideal.S1024x1024 .f32) (G : FVec Ideal Cert.Kernel3Ideal.S1024 .f32) (Wg Wu : FVec Ideal Cert.Kernel3Ideal.S1024x2816 .f32) (Wd : FVec Ideal Cert.Kernel3Ideal.S2816x1024 .f32)
    (Gf : FVec Ideal Cert.Kernel3Ideal.S1024 .f32) (b : Fin 8) (r : Fin 4096) (l : Fin 1024) :
    outAt X (modArr D) (gainArr G) (chunksG Wg) (chunksG Wu) (chunksD Wd) A (reordered B) (projection Wo) (gainArr Gf) b r l
      = Cert.Reference3Ideal.Hand.result X D A B Wo G Wg Wu Wd Gf (ix3 b r l) := by
  refine Eq.trans ?_ (Cert.Reference3Ideal.Hand.result_at X D A B Wo G Wg Wu Wd Gf b r l).symm
  unfold outAt
  rw [wide_chunks, wide_chunks, tall_chunks, lanes_mod, lanes_mod, lanes_mod, gain_row, gain_row, mix_same]

theorem same (X : FVec Ideal Cert.Kernel3Ideal.S8x4096x1024 .f32) (D : FVec Ideal Cert.Kernel3Ideal.S8x9216 .f32) (A B : FVec Ideal Cert.Kernel3Ideal.S8x4096x512 .bf16)
    (Wo : FVec Ideal Cert.Kernel3Ideal.S1024x1024 .f32) (G : FVec Ideal Cert.Kernel3Ideal.S1024 .f32) (Wg Wu : FVec Ideal Cert.Kernel3Ideal.S1024x2816 .f32) (Wd : FVec Ideal Cert.Kernel3Ideal.S2816x1024 .f32)
    (Gf : FVec Ideal Cert.Kernel3Ideal.S1024 .f32) :
    outArr X (modArr D) (gainArr G) (chunksG Wg) (chunksG Wu) (chunksD Wd) A (reordered B) (projection Wo) (gainArr Gf)
      = Cert.Reference3Ideal.Hand.result X D A B Wo G Wg Wu Wd Gf := by
  funext (i : Cert.Kernel3Ideal.S8x4096x1024.Idx)
  have hi : ix3 (i 0) (i 1) (i 2) = i := by
    funext a
    match a with
    | ⟨0, _⟩ => rfl
    | ⟨1, _⟩ => rfl
    | ⟨2, _⟩ => rfl
  exact (same_at X D A B Wo G Wg Wu Wd Gf (i 0) (i 1) (i 2)).trans (congrArg (Cert.Reference3Ideal.Hand.result X D A B Wo G Wg Wu Wd Gf) hi)

theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic : Cert.algebraic_Kernel3Ideal_Reference3Ideal := by
  intro m g m' g' hpre hagree
  have hk : ∀ c, (Cert.Kernel3Ideal.Gen.dats m 0 c).arrAt 13 Cert.Kernel3Ideal.cfg0.N = Cert.Reference3Ideal.Value.res_main_v57 m' c := by
    intro c
    obtain ⟨a0, a1, a2, a3, a4, a5, a6, a7, a8, a9⟩ := hagree c
    rw [Cert.Reference3Ideal.Hand.res_eq, a0, a1, a2, a3, a4, a5, a6, a7, a8, a9]
    rw [final_eq m c, entry_x, entry_mod, entry_gain, entry_gate, entry_up, entry_down, entry_a, entry_b, entry_wo, entry_final]
    exact same _ _ _ _ _ _ _ _ _ _
  refine ⟨fun c => Cert.Reference3Ideal.Value.res_main_v57 m' c, ?_, Cert.Reference3Ideal.Value.run (F := Ideal) m' g'⟩
  exact (θ_run Cert.Kernel3Ideal.defs _ _).mono (fun _ h c => ⟨(h c).1.trans (hk c), (h c).2⟩) (Cert.Kernel3Ideal.Value.run_blocks (F := Ideal) m g)

end Cert.Proof.SecondHalf
-- ==== Proof.Narrow.lean ====
module

public import Idealize.ShloMosaic.Lib.Pointwise
public import proofs.«01_k».proof.Proof.Half

@[expose] public section

/-! A row of the projection at one position, over the extended reals: the entering row times a weight's columns, the latent row's
    normalisation, and the values made of it. -/

set_option maxRecDepth 16384

noncomputable section

namespace Cert.Proof.Half

open Idealize.ShloMosaic

/-- A row times a column. -/
def dot {n : ℕ} (h w : Fin n → EReal) : EReal := ∑ k : Fin n, h k * w k

/-- The reciprocal root of a latent row's mean square. -/
def narrowRoot (y : Fin 256 → EReal) : EReal :=
  Ideal.rsqrt (Ideal.div (∑ k : Fin 256, y k * y k) (Ideal.ofBits FTy.f32 0x43800000#32) + Ideal.ofBits FTy.f32 0x358637BD#32)

/-- The latent row normalised. -/
def narrowNormed (y g : Fin 256 → EReal) (l : Fin 256) : EReal := y l * narrowRoot y * g l

/-- The latent row of an entering row: its product with the latent columns, normalised. -/
def latent (h : Fin 1024 → EReal) (w : Fin 256 → Fin 1024 → EReal) (g : Fin 256 → EReal) (q : Fin 256) : EReal :=
  narrowNormed (fun l => dot h (w l)) g q

end Cert.Proof.Half
-- ==== Proof.Body4.lean ====
module

public import proofs.«01_k».proof.Proof.Frame4
public import proofs.«01_k».proof.Proof.Narrow
public import Idealize.ShloMosaic.Lib.Pointwise

@[expose] public section

/-! The body of the projection's kernel: what a grid point stores in each output the claim names, read at a position of its block. -/

set_option maxRecDepth 16384

noncomputable section

namespace Cert.Kernel4Ideal.Hand

open Cert.Kernel4Ideal Cert.Kernel4Ideal.Gen Cert.Kernel4Ideal.Whole Idealize.ShloMosaic Idealize.ShloMosaic.TcCoe Idealize.SL.Sem
open Cert.Proof.Half

/-! The body's terms in stages. -/

def rootBlk (x : FVec Ideal S512x1024 .f32) : FVec Ideal S512x1 .f32 :=
  rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))

def normBlk (x : FVec Ideal S512x1024 .f32) (g : Vec Ideal S1x1024 .f32) : FVec Ideal S512x1024 .f32 :=
  mulf (mulf x (broadcastTo S512x1024 (rootBlk x) broadcasts_S512x1_S512x1024))
    (broadcastTo S512x1024 (shapeCast S1x1024 g shapeCasts_S1x1024_S1x1024 : FVec Ideal S1x1024 .f32) broadcasts_S1x1024_S512x1024)

def flat (s : Vec Ideal S1x1x1024 .f32) : FVec Ideal S1x1024 .f32 := shapeCast S1x1024 s shapeCasts_S1x1x1024_S1x1024

def enterBlk (n : FVec Ideal S512x1024 .f32) (sc sh : Vec Ideal S1x1x1024 .f32) : FVec Ideal S512x1024 .bf16 :=
  truncf .bf16 (addf (mulf n (broadcastTo S512x1024 (addf (broadcast S1x1024 (Scalar.ofBits .f32 0x3F800000#32)) (flat sc)) broadcasts_S1x1024_S512x1024))
    (broadcastTo S512x1024 (flat sh) broadcasts_S1x1024_S512x1024)) bitsLt_bf16_f32

def flatX (x : Vec Ideal S1x512x1024 .f32) : FVec Ideal S512x1024 .f32 := shapeCast S512x1024 x shapeCasts_S1x512x1024_S512x1024

/-- The entering rows of a block. -/
def hBlk (x0 : Vec Ideal S1x512x1024 .f32) (x1 x2 : Vec Ideal S1x1x1024 .f32) (x3 : Vec Ideal S1x1024 .f32) : FVec Ideal S512x1024 .bf16 :=
  enterBlk (normBlk (flatX x0) x3) x2 x1

def proj256 (h : FVec Ideal S512x1024 .bf16) (w : Vec Ideal S1024x256 .bf16) : FVec Ideal S512x256 .f32 :=
  matmul dot_S512x1024_S1024x256_S512x256_1_0_0_1_n_n none h (shapeCast S1024x256 w shapeCasts_S1024x256_S1024x256 : FVec Ideal S1024x256 .bf16)
    (constant S512x256 .f32 0x00000000#32)

def proj512 (h : FVec Ideal S512x1024 .bf16) (w : Vec Ideal S1024x512 .bf16) : FVec Ideal S512x512 .f32 :=
  matmul dot_S512x1024_S1024x512_S512x512_1_0_0_1_n_n none h (shapeCast S1024x512 w shapeCasts_S1024x512_S1024x512 : FVec Ideal S1024x512 .bf16)
    (constant S512x512 .f32 0x00000000#32)

def latentRootBlk (y : FVec Ideal S512x256 .f32) : FVec Ideal S512x1 .f32 :=
  rsqrt (addf (divf (shapeCast S512x1 (multiReduction .add [1] S512 (mulf y y) 0x00000000#32 reduces_S512x256_S512 (.inl rfl) rfl) shapeCasts_S512_S512x1)
    (broadcast S512x1 (Scalar.ofBits .f32 0x43800000#32))) (broadcast S512x1 (Scalar.ofBits .f32 0x358637BD#32)))

def latentNormBlk (y : FVec Ideal S512x256 .f32) (g : Vec Ideal S1x256 .f32) : FVec Ideal S512x256 .f32 :=
  mulf (mulf y (broadcastTo S512x256 (latentRootBlk y) broadcasts_S512x1_S512x256))
    (broadcastTo S512x256 (shapeCast S1x256 g shapeCasts_S1x256_S1x256 : FVec Ideal S1x256 .f32) broadcasts_S1x256_S512x256)

def valBlk (y : FVec Ideal S512x256 .f32) (w : Vec Ideal S256x512 .bf16) : FVec Ideal S512x512 .f32 :=
  matmul dot_S512x256_S256x512_S512x512_1_0_0_1_n_n none (truncf .bf16 y bitsLt_bf16_f32 : FVec Ideal S512x256 .bf16)
    (shapeCast S256x512 w shapeCasts_S256x512_S256x512 : FVec Ideal S256x512 .bf16) (constant S512x512 .f32 0x00000000#32)

def store14 (y : FVec Ideal S512x512 .f32) : Vec Ideal S1x512x512 .bf16 := shapeCast S1x512x512 (truncf .bf16 y bitsLt_bf16_f32 : FVec Ideal S512x512 .bf16) shapeCasts_S512x512_S1x512x512
def store15 (y : FVec Ideal S512x256 .f32) : Vec Ideal S1x512x256 .f32 := shapeCast S1x512x256 y shapeCasts_S512x256_S1x512x256
def store18 (y : FVec Ideal S512x256 .f32) : Vec Ideal S1x512x128 .f32 :=
  shapeCast S1x512x128 (extractStridedSlice S512x128 ![0, 0] y slices_S512x256_o0_0_S512x128) shapeCasts_S512x128_S1x512x128
def store19 (y : FVec Ideal S512x256 .f32) : Vec Ideal S1x512x128 .f32 :=
  shapeCast S1x512x128 (extractStridedSlice S512x128 ![0, 128] y slices_S512x256_o0_128_S512x128) shapeCasts_S512x128_S1x512x128
def store23 (y : FVec Ideal S512x256 .f32) : Vec Ideal S1x512x64 .f32 :=
  shapeCast S1x512x64 (extractStridedSlice S512x64 ![0, 0] y slices_S512x256_o0_0_S512x64) shapeCasts_S512x64_S1x512x64

/-- The columns of the projection's weight from `o` on. -/
def cols256 (w : Vec Ideal S1024x2432 .bf16) (o : Nat) (h : o + 256 ≤ 2432) : Vec Ideal S1024x256 .bf16 :=
  fun i => w (ix2 (i 0) (⟨o + (i 1).val, by have e : (i 1).val < 256 := (i 1).isLt; omega⟩ : Fin 2432))
def cols512 (w : Vec Ideal S1024x2432 .bf16) (o : Nat) (h : o + 512 ≤ 2432) : Vec Ideal S1024x512 .bf16 :=
  fun i => w (ix2 (i 0) (⟨o + (i 1).val, by have e : (i 1).val < 512 := (i 1).isLt; omega⟩ : Fin 2432))

/-! Each stage at an index. -/

theorem rootBlk_at (x : FVec Ideal S512x1024 .f32) (r : Fin 512) : rootBlk x (ix2 r (0 : Fin 1)) = root fun k => x (ix2 r k) := by
  unfold root
  pointwise [rootBlk]

theorem normBlk_at (x : FVec Ideal S512x1024 .f32) (g : Vec Ideal S1x1024 .f32) (r : Fin 512) (l : Fin 1024) :
    normBlk x g (ix2 r l) = normed (fun k => x (ix2 r k)) (fun k => g (ix2 (0 : Fin 1) k)) l := by
  unfold normed
  rw [← rootBlk_at]
  pointwise [normBlk]

theorem flat_at (s : Vec Ideal S1x1x1024 .f32) (l : Fin 1024) : flat s (ix2 (0 : Fin 1) l) = s (ix3 (0 : Fin 1) (0 : Fin 1) l) := by
  pointwise [flat]

theorem enterBlk_at (n : FVec Ideal S512x1024 .f32) (sc sh : Vec Ideal S1x1x1024 .f32) (r : Fin 512) (l : Fin 1024) :
    enterBlk n sc sh (ix2 r l) = (n (ix2 r l) * (1 + sc (ix3 (0 : Fin 1) (0 : Fin 1) l)) + sh (ix3 (0 : Fin 1) (0 : Fin 1) l) : EReal) := by
  pointwise [enterBlk, flat]

theorem flatX_at (x : Vec Ideal S1x512x1024 .f32) (r : Fin 512) (l : Fin 1024) : flatX x (ix2 r l) = x (ix3 (0 : Fin 1) r l) := by
  pointwise [flatX]

theorem hBlk_at (x0 : Vec Ideal S1x512x1024 .f32) (x1 x2 : Vec Ideal S1x1x1024 .f32) (x3 : Vec Ideal S1x1024 .f32) (r : Fin 512) (l : Fin 1024) :
    hBlk x0 x1 x2 x3 (ix2 r l) = entered (fun k => x0 (ix3 (0 : Fin 1) r k)) (fun k => x3 (ix2 (0 : Fin 1) k))
      (fun k => x2 (ix3 (0 : Fin 1) (0 : Fin 1) k)) (fun k => x1 (ix3 (0 : Fin 1) (0 : Fin 1) k)) l := by
  unfold hBlk entered
  rw [enterBlk_at, normBlk_at]
  have e : (fun k => flatX x0 (ix2 r k)) = fun k => x0 (ix3 (0 : Fin 1) r k) := funext fun k => flatX_at x0 r k
  rw [e]

theorem proj256_at (h : FVec Ideal S512x1024 .bf16) (w : Vec Ideal S1024x256 .bf16) (r : Fin 512) (f : Fin 256) :
    proj256 h w (ix2 r f) = dot (fun k : Fin 1024 => h (ix2 r k)) (fun k => w (ix2 k f)) := by
  unfold dot
  pointwise [proj256]

theorem proj512_at (h : FVec Ideal S512x1024 .bf16) (w : Vec Ideal S1024x512 .bf16) (r : Fin 512) (f : Fin 512) :
    proj512 h w (ix2 r f) = dot (fun k : Fin 1024 => h (ix2 r k)) (fun k => w (ix2 k f)) := by
  unfold dot
  pointwise [proj512]

theorem latentRootBlk_at (y : FVec Ideal S512x256 .f32) (r : Fin 512) : latentRootBlk y (ix2 r (0 : Fin 1)) = narrowRoot fun k => y (ix2 r k) := by
  unfold narrowRoot
  pointwise [latentRootBlk]

theorem latentNormBlk_at (y : FVec Ideal S512x256 .f32) (g : Vec Ideal S1x256 .f32) (r : Fin 512) (l : Fin 256) :
    latentNormBlk y g (ix2 r l) = narrowNormed (fun k => y (ix2 r k)) (fun k => g (ix2 (0 : Fin 1) k)) l := by
  unfold narrowNormed
  rw [← latentRootBlk_at]
  pointwise [latentNormBlk]

theorem valBlk_at (y : FVec Ideal S512x256 .f32) (w : Vec Ideal S256x512 .bf16) (r : Fin 512) (f : Fin 512) :
    valBlk y w (ix2 r f) = dot (fun k : Fin 256 => y (ix2 r k)) (fun k => w (ix2 k f)) := by
  unfold dot
  pointwise [valBlk]

theorem store14_at (y : FVec Ideal S512x512 .f32) (r : Fin 512) (l : Fin 512) : store14 y (ix3 (0 : Fin 1) r l) = (y (ix2 r l) : EReal) := by
  pointwise [store14]
theorem store15_at (y : FVec Ideal S512x256 .f32) (r : Fin 512) (l : Fin 256) : store15 y (ix3 (0 : Fin 1) r l) = (y (ix2 r l) : EReal) := by
  pointwise [store15]
theorem store18_at (y : FVec Ideal S512x256 .f32) (r : Fin 512) (l : Fin 128) : store18 y (ix3 (0 : Fin 1) r l) = (y (ix2 r (⟨0 + l.val, by omega⟩ : Fin 256)) : EReal) := by
  pointwise [store18]
theorem store19_at (y : FVec Ideal S512x256 .f32) (r : Fin 512) (l : Fin 128) : store19 y (ix3 (0 : Fin 1) r l) = (y (ix2 r (⟨128 + l.val, by omega⟩ : Fin 256)) : EReal) := by
  pointwise [store19]
theorem store23_at (y : FVec Ideal S512x256 .f32) (r : Fin 512) (l : Fin 64) : store23 y (ix3 (0 : Fin 1) r l) = (y (ix2 r (⟨0 + l.val, by omega⟩ : Fin 256)) : EReal) := by
  pointwise [store23]

/-! The loads and the stores of whole blocks. -/

theorem ld_r0_0 (x : Vec Ideal S1x512x1024 .f32) : View.ld x r0_0 = x := by
  funext (i : S1x512x1024.Idx)
  refine congrArg x (?_ : _ = i)
  funext a; apply Fin.ext
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega

theorem ld_r0_1 (x : Vec Ideal S1x1024 .f32) : View.ld x r0_1 = x := by
  funext (i : S1x1024.Idx)
  refine congrArg x (?_ : _ = i)
  funext a; apply Fin.ext
  match a with
  | ⟨0, _⟩ => show 0 + 1 * (i 0).val = (i 0).val; omega
  | ⟨1, _⟩ => show 0 + 1 * (i 1).val = (i 1).val; omega

theorem ld_r0_2 (x : Vec Ideal S1x1x1024 .f32) : View.ld x r0_2 = x := by
  funext (i : S1x1x1024.Idx)
  refine congrArg x (?_ : _ = i)
  funext a; apply Fin.ext
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega

theorem ld_r0_16 (x : Vec Ideal S1x256 .f32) : View.ld x r0_16 = x := by
  funext (i : S1x256.Idx)
  refine congrArg x (?_ : _ = i)
  funext a; apply Fin.ext
  match a with
  | ⟨0, _⟩ => show 0 + 1 * (i 0).val = (i 0).val; omega
  | ⟨1, _⟩ => show 0 + 1 * (i 1).val = (i 1).val; omega

theorem ld_r0_21 (x : Vec Ideal S256x512 .bf16) : View.ld x r0_21 = x := by
  funext (i : S256x512.Idx)
  refine congrArg x (?_ : _ = i)
  funext a; apply Fin.ext
  match a with
  | ⟨0, _⟩ => show 0 + 1 * (i 0).val = (i 0).val; omega
  | ⟨1, _⟩ => show 0 + 1 * (i 1).val = (i 1).val; omega

theorem ld_r0_15 (x : Vec Ideal S1024x2432 .bf16) : View.ld x r0_15 = cols256 x 384 (by omega) := by
  funext (i : S1024x256.Idx)
  refine congrArg x (?_ : _ = ix2 (i 0) (⟨384 + (i 1).val, by have e : (i 1).val < 256 := (i 1).isLt; omega⟩ : Fin 2432))
  funext a; apply Fin.ext
  match a with
  | ⟨0, _⟩ => show 0 + 1 * (i 0).val = (i 0).val; omega
  | ⟨1, _⟩ => show 384 + 1 * (i 1).val = 384 + (i 1).val; omega

theorem ld_r0_24 (x : Vec Ideal S1024x2432 .bf16) : View.ld x r0_24 = cols256 x 1408 (by omega) := by
  funext (i : S1024x256.Idx)
  refine congrArg x (?_ : _ = ix2 (i 0) (⟨1408 + (i 1).val, by have e : (i 1).val < 256 := (i 1).isLt; omega⟩ : Fin 2432))
  funext a; apply Fin.ext
  match a with
  | ⟨0, _⟩ => show 0 + 1 * (i 0).val = (i 0).val; omega
  | ⟨1, _⟩ => show 1408 + 1 * (i 1).val = 1408 + (i 1).val; omega

theorem ld_r0_27 (x : Vec Ideal S1024x2432 .bf16) : View.ld x r0_27 = cols256 x 2176 (by omega) := by
  funext (i : S1024x256.Idx)
  refine congrArg x (?_ : _ = ix2 (i 0) (⟨2176 + (i 1).val, by have e : (i 1).val < 256 := (i 1).isLt; omega⟩ : Fin 2432))
  funext a; apply Fin.ext
  match a with
  | ⟨0, _⟩ => show 0 + 1 * (i 0).val = (i 0).val; omega
  | ⟨1, _⟩ => show 2176 + 1 * (i 1).val = 2176 + (i 1).val; omega

theorem ld_r0_26 (x : Vec Ideal S1024x2432 .bf16) : View.ld x r0_26 = cols512 x 1664 (by omega) := by
  funext (i : S1024x512.Idx)
  refine congrArg x (?_ : _ = ix2 (i 0) (⟨1664 + (i 1).val, by have e : (i 1).val < 512 := (i 1).isLt; omega⟩ : Fin 2432))
  funext a; apply Fin.ext
  match a with
  | ⟨0, _⟩ => show 0 + 1 * (i 0).val = (i 0).val; omega
  | ⟨1, _⟩ => show 1664 + 1 * (i 1).val = 1664 + (i 1).val; omega

theorem canon_r0_17 (w : Vec Ideal S1x512x256 .f32) : (View.canon [⟨r0_17, w⟩] : Vec Ideal S1x512x256 .f32) = w := by
  funext (i : S1x512x256.Idx)
  have e : r0_17.emb i = i := by
    funext a; apply Fin.ext
    match a with
    | ⟨0, _⟩ => show 0 + 1 * (i 0).val = (i 0).val; omega
    | ⟨1, _⟩ => show 0 + 1 * (i 1).val = (i 1).val; omega
    | ⟨2, _⟩ => show 0 + 1 * (i 2).val = (i 2).val; omega
  have h := View.canon_cons_emb (Val := Elt Ideal) r0_17 w [] i
  rw [e] at h
  exact h

theorem canon_r0_22 (w : Vec Ideal S1x512x512 .bf16) : (View.canon [⟨r0_22, w⟩] : Vec Ideal S1x512x512 .bf16) = w := by
  funext (i : S1x512x512.Idx)
  have e : r0_22.emb i = i := by
    funext a; apply Fin.ext
    match a with
    | ⟨0, _⟩ => show 0 + 1 * (i 0).val = (i 0).val; omega
    | ⟨1, _⟩ => show 0 + 1 * (i 1).val = (i 1).val; omega
    | ⟨2, _⟩ => show 0 + 1 * (i 2).val = (i 2).val; omega
  have h := View.canon_cons_emb (Val := Elt Ideal) r0_22 w [] i
  rw [e] at h
  exact h

theorem canon_r0_25 (w : Vec Ideal S1x512x128 .f32) : (View.canon [⟨r0_25, w⟩] : Vec Ideal S1x512x128 .f32) = w := by
  funext (i : S1x512x128.Idx)
  have e : r0_25.emb i = i := by
    funext a; apply Fin.ext
    match a with
    | ⟨0, _⟩ => show 0 + 1 * (i 0).val = (i 0).val; omega
    | ⟨1, _⟩ => show 0 + 1 * (i 1).val = (i 1).val; omega
    | ⟨2, _⟩ => show 0 + 1 * (i 2).val = (i 2).val; omega
  have h := View.canon_cons_emb (Val := Elt Ideal) r0_25 w [] i
  rw [e] at h
  exact h

theorem canon_r0_28 (w : Vec Ideal S1x512x64 .f32) : (View.canon [⟨r0_28, w⟩] : Vec Ideal S1x512x64 .f32) = w := by
  funext (i : S1x512x64.Idx)
  have e : r0_28.emb i = i := by
    funext a; apply Fin.ext
    match a with
    | ⟨0, _⟩ => show 0 + 1 * (i 0).val = (i 0).val; omega
    | ⟨1, _⟩ => show 0 + 1 * (i 1).val = (i 1).val; omega
    | ⟨2, _⟩ => show 0 + 1 * (i 2).val = (i 2).val; omega
  have h := View.canon_cons_emb (Val := Elt Ideal) r0_28 w [] i
  rw [e] at h
  exact h

theorem out_loads14 (x0 : Vec Ideal S1x512x1024 .f32) (x1 x2 : Vec Ideal S1x1x1024 .f32) (x3 : Vec Ideal S1x1024 .f32)
    (x4 : Vec Ideal S1024x2432 .bf16) (x5 : Vec Ideal S1x384 .f32) (x6 : Vec Ideal S384x2048 .bf16) (x7 : Vec Ideal S1x256 .f32)
    (x8 : Vec Ideal S256x1024 .bf16) (x9 : Vec Ideal S256x512 .bf16) (x10 x11 : Vec Ideal S512x128 .f32) :
    out0_14 (F := Ideal) x0 x1 x2 x3 x4 x5 x6 x7 x8 x9 x10 x11 = View.canon [⟨r0_22, store14 (valBlk (latentNormBlk (proj256 (hBlk (View.ld x0 r0_0) (View.ld x1 r0_2) (View.ld x2 r0_2) (View.ld x3 r0_1)) (View.ld x4 r0_15)) (View.ld x7 r0_16)) (View.ld x9 r0_21))⟩] := rfl

theorem out_eq14 (x0 : Vec Ideal S1x512x1024 .f32) (x1 x2 : Vec Ideal S1x1x1024 .f32) (x3 : Vec Ideal S1x1024 .f32)
    (x4 : Vec Ideal S1024x2432 .bf16) (x5 : Vec Ideal S1x384 .f32) (x6 : Vec Ideal S384x2048 .bf16) (x7 : Vec Ideal S1x256 .f32)
    (x8 : Vec Ideal S256x1024 .bf16) (x9 : Vec Ideal S256x512 .bf16) (x10 x11 : Vec Ideal S512x128 .f32) :
    out0_14 (F := Ideal) x0 x1 x2 x3 x4 x5 x6 x7 x8 x9 x10 x11 = store14 (valBlk (latentNormBlk (proj256 (hBlk x0 x1 x2 x3) (cols256 x4 384 (by omega))) x7) x9) := by
  rw [out_loads14, canon_r0_22, ld_r0_0, ld_r0_1, ld_r0_2, ld_r0_2, ld_r0_15, ld_r0_16, ld_r0_21]

theorem out_loads15 (x0 : Vec Ideal S1x512x1024 .f32) (x1 x2 : Vec Ideal S1x1x1024 .f32) (x3 : Vec Ideal S1x1024 .f32)
    (x4 : Vec Ideal S1024x2432 .bf16) (x5 : Vec Ideal S1x384 .f32) (x6 : Vec Ideal S384x2048 .bf16) (x7 : Vec Ideal S1x256 .f32)
    (x8 : Vec Ideal S256x1024 .bf16) (x9 : Vec Ideal S256x512 .bf16) (x10 x11 : Vec Ideal S512x128 .f32) :
    out0_15 (F := Ideal) x0 x1 x2 x3 x4 x5 x6 x7 x8 x9 x10 x11 = View.canon [⟨r0_17, store15 (latentNormBlk (proj256 (hBlk (View.ld x0 r0_0) (View.ld x1 r0_2) (View.ld x2 r0_2) (View.ld x3 r0_1)) (View.ld x4 r0_15)) (View.ld x7 r0_16))⟩] := rfl

theorem out_eq15 (x0 : Vec Ideal S1x512x1024 .f32) (x1 x2 : Vec Ideal S1x1x1024 .f32) (x3 : Vec Ideal S1x1024 .f32)
    (x4 : Vec Ideal S1024x2432 .bf16) (x5 : Vec Ideal S1x384 .f32) (x6 : Vec Ideal S384x2048 .bf16) (x7 : Vec Ideal S1x256 .f32)
    (x8 : Vec Ideal S256x1024 .bf16) (x9 : Vec Ideal S256x512 .bf16) (x10 x11 : Vec Ideal S512x128 .f32) :
    out0_15 (F := Ideal) x0 x1 x2 x3 x4 x5 x6 x7 x8 x9 x10 x11 = store15 (latentNormBlk (proj256 (hBlk x0 x1 x2 x3) (cols256 x4 384 (by omega))) x7) := by
  rw [out_loads15, canon_r0_17, ld_r0_0, ld_r0_1, ld_r0_2, ld_r0_2, ld_r0_15, ld_r0_16]

theorem out_loads18 (x0 : Vec Ideal S1x512x1024 .f32) (x1 x2 : Vec Ideal S1x1x1024 .f32) (x3 : Vec Ideal S1x1024 .f32)
    (x4 : Vec Ideal S1024x2432 .bf16) (x5 : Vec Ideal S1x384 .f32) (x6 : Vec Ideal S384x2048 .bf16) (x7 : Vec Ideal S1x256 .f32)
    (x8 : Vec Ideal S256x1024 .bf16) (x9 : Vec Ideal S256x512 .bf16) (x10 x11 : Vec Ideal S512x128 .f32) :
    out0_18 (F := Ideal) x0 x1 x2 x3 x4 x5 x6 x7 x8 x9 x10 x11 = View.canon [⟨r0_25, store18 (proj256 (hBlk (View.ld x0 r0_0) (View.ld x1 r0_2) (View.ld x2 r0_2) (View.ld x3 r0_1)) (View.ld x4 r0_24))⟩] := rfl

theorem out_eq18 (x0 : Vec Ideal S1x512x1024 .f32) (x1 x2 : Vec Ideal S1x1x1024 .f32) (x3 : Vec Ideal S1x1024 .f32)
    (x4 : Vec Ideal S1024x2432 .bf16) (x5 : Vec Ideal S1x384 .f32) (x6 : Vec Ideal S384x2048 .bf16) (x7 : Vec Ideal S1x256 .f32)
    (x8 : Vec Ideal S256x1024 .bf16) (x9 : Vec Ideal S256x512 .bf16) (x10 x11 : Vec Ideal S512x128 .f32) :
    out0_18 (F := Ideal) x0 x1 x2 x3 x4 x5 x6 x7 x8 x9 x10 x11 = store18 (proj256 (hBlk x0 x1 x2 x3) (cols256 x4 1408 (by omega))) := by
  rw [out_loads18, canon_r0_25, ld_r0_0, ld_r0_1, ld_r0_2, ld_r0_2, ld_r0_24]

theorem out_loads19 (x0 : Vec Ideal S1x512x1024 .f32) (x1 x2 : Vec Ideal S1x1x1024 .f32) (x3 : Vec Ideal S1x1024 .f32)
    (x4 : Vec Ideal S1024x2432 .bf16) (x5 : Vec Ideal S1x384 .f32) (x6 : Vec Ideal S384x2048 .bf16) (x7 : Vec Ideal S1x256 .f32)
    (x8 : Vec Ideal S256x1024 .bf16) (x9 : Vec Ideal S256x512 .bf16) (x10 x11 : Vec Ideal S512x128 .f32) :
    out0_19 (F := Ideal) x0 x1 x2 x3 x4 x5 x6 x7 x8 x9 x10 x11 = View.canon [⟨r0_25, store19 (proj256 (hBlk (View.ld x0 r0_0) (View.ld x1 r0_2) (View.ld x2 r0_2) (View.ld x3 r0_1)) (View.ld x4 r0_24))⟩] := rfl

theorem out_eq19 (x0 : Vec Ideal S1x512x1024 .f32) (x1 x2 : Vec Ideal S1x1x1024 .f32) (x3 : Vec Ideal S1x1024 .f32)
    (x4 : Vec Ideal S1024x2432 .bf16) (x5 : Vec Ideal S1x384 .f32) (x6 : Vec Ideal S384x2048 .bf16) (x7 : Vec Ideal S1x256 .f32)
    (x8 : Vec Ideal S256x1024 .bf16) (x9 : Vec Ideal S256x512 .bf16) (x10 x11 : Vec Ideal S512x128 .f32) :
    out0_19 (F := Ideal) x0 x1 x2 x3 x4 x5 x6 x7 x8 x9 x10 x11 = store19 (proj256 (hBlk x0 x1 x2 x3) (cols256 x4 1408 (by omega))) := by
  rw [out_loads19, canon_r0_25, ld_r0_0, ld_r0_1, ld_r0_2, ld_r0_2, ld_r0_24]

theorem out_loads22 (x0 : Vec Ideal S1x512x1024 .f32) (x1 x2 : Vec Ideal S1x1x1024 .f32) (x3 : Vec Ideal S1x1024 .f32)
    (x4 : Vec Ideal S1024x2432 .bf16) (x5 : Vec Ideal S1x384 .f32) (x6 : Vec Ideal S384x2048 .bf16) (x7 : Vec Ideal S1x256 .f32)
    (x8 : Vec Ideal S256x1024 .bf16) (x9 : Vec Ideal S256x512 .bf16) (x10 x11 : Vec Ideal S512x128 .f32) :
    out0_22 (F := Ideal) x0 x1 x2 x3 x4 x5 x6 x7 x8 x9 x10 x11 = View.canon [⟨r0_22, store14 (proj512 (hBlk (View.ld x0 r0_0) (View.ld x1 r0_2) (View.ld x2 r0_2) (View.ld x3 r0_1)) (View.ld x4 r0_26))⟩] := rfl

theorem out_eq22 (x0 : Vec Ideal S1x512x1024 .f32) (x1 x2 : Vec Ideal S1x1x1024 .f32) (x3 : Vec Ideal S1x1024 .f32)
    (x4 : Vec Ideal S1024x2432 .bf16) (x5 : Vec Ideal S1x384 .f32) (x6 : Vec Ideal S384x2048 .bf16) (x7 : Vec Ideal S1x256 .f32)
    (x8 : Vec Ideal S256x1024 .bf16) (x9 : Vec Ideal S256x512 .bf16) (x10 x11 : Vec Ideal S512x128 .f32) :
    out0_22 (F := Ideal) x0 x1 x2 x3 x4 x5 x6 x7 x8 x9 x10 x11 = store14 (proj512 (hBlk x0 x1 x2 x3) (cols512 x4 1664 (by omega))) := by
  rw [out_loads22, canon_r0_22, ld_r0_0, ld_r0_1, ld_r0_2, ld_r0_2, ld_r0_26]

theorem out_loads23 (x0 : Vec Ideal S1x512x1024 .f32) (x1 x2 : Vec Ideal S1x1x1024 .f32) (x3 : Vec Ideal S1x1024 .f32)
    (x4 : Vec Ideal S1024x2432 .bf16) (x5 : Vec Ideal S1x384 .f32) (x6 : Vec Ideal S384x2048 .bf16) (x7 : Vec Ideal S1x256 .f32)
    (x8 : Vec Ideal S256x1024 .bf16) (x9 : Vec Ideal S256x512 .bf16) (x10 x11 : Vec Ideal S512x128 .f32) :
    out0_23 (F := Ideal) x0 x1 x2 x3 x4 x5 x6 x7 x8 x9 x10 x11 = View.canon [⟨r0_28, store23 (proj256 (hBlk (View.ld x0 r0_0) (View.ld x1 r0_2) (View.ld x2 r0_2) (View.ld x3 r0_1)) (View.ld x4 r0_27))⟩] := rfl

theorem out_eq23 (x0 : Vec Ideal S1x512x1024 .f32) (x1 x2 : Vec Ideal S1x1x1024 .f32) (x3 : Vec Ideal S1x1024 .f32)
    (x4 : Vec Ideal S1024x2432 .bf16) (x5 : Vec Ideal S1x384 .f32) (x6 : Vec Ideal S384x2048 .bf16) (x7 : Vec Ideal S1x256 .f32)
    (x8 : Vec Ideal S256x1024 .bf16) (x9 : Vec Ideal S256x512 .bf16) (x10 x11 : Vec Ideal S512x128 .f32) :
    out0_23 (F := Ideal) x0 x1 x2 x3 x4 x5 x6 x7 x8 x9 x10 x11 = store23 (proj256 (hBlk x0 x1 x2 x3) (cols256 x4 2176 (by omega))) := by
  rw [out_loads23, canon_r0_28, ld_r0_0, ld_r0_1, ld_r0_2, ld_r0_2, ld_r0_27]

/-! What is stored, at an index. -/

theorem hRow (x0 : Vec Ideal S1x512x1024 .f32) (x1 x2 : Vec Ideal S1x1x1024 .f32) (x3 : Vec Ideal S1x1024 .f32) (r : Fin 512) :
    (fun k => hBlk x0 x1 x2 x3 (ix2 r k)) = (entered (fun k => x0 (ix3 (0 : Fin 1) r k)) (fun k => x3 (ix2 (0 : Fin 1) k)) (fun k => x2 (ix3 (0 : Fin 1) (0 : Fin 1) k)) (fun k => x1 (ix3 (0 : Fin 1) (0 : Fin 1) k))) := funext fun k => hBlk_at x0 x1 x2 x3 r k

theorem proj_at256 (x0 : Vec Ideal S1x512x1024 .f32) (x1 x2 : Vec Ideal S1x1x1024 .f32) (x3 : Vec Ideal S1x1024 .f32)
    (x4 : Vec Ideal S1024x2432 .bf16) (o : Nat) (h : o + 256 ≤ 2432) (r : Fin 512) (f : Fin 256) :
    proj256 (hBlk x0 x1 x2 x3) (cols256 x4 o h) (ix2 r f) = dot (entered (fun k => x0 (ix3 (0 : Fin 1) r k)) (fun k => x3 (ix2 (0 : Fin 1) k)) (fun k => x2 (ix3 (0 : Fin 1) (0 : Fin 1) k)) (fun k => x1 (ix3 (0 : Fin 1) (0 : Fin 1) k))) (fun k => x4 (ix2 k (⟨o + f.val, by omega⟩ : Fin 2432))) := by
  rw [proj256_at, hRow]
  rfl

theorem proj_at512 (x0 : Vec Ideal S1x512x1024 .f32) (x1 x2 : Vec Ideal S1x1x1024 .f32) (x3 : Vec Ideal S1x1024 .f32)
    (x4 : Vec Ideal S1024x2432 .bf16) (o : Nat) (h : o + 512 ≤ 2432) (r : Fin 512) (f : Fin 512) :
    proj512 (hBlk x0 x1 x2 x3) (cols512 x4 o h) (ix2 r f) = dot (entered (fun k => x0 (ix3 (0 : Fin 1) r k)) (fun k => x3 (ix2 (0 : Fin 1) k)) (fun k => x2 (ix3 (0 : Fin 1) (0 : Fin 1) k)) (fun k => x1 (ix3 (0 : Fin 1) (0 : Fin 1) k))) (fun k => x4 (ix2 k (⟨o + f.val, by omega⟩ : Fin 2432))) := by
  rw [proj512_at, hRow]
  rfl

theorem latent_at (x0 : Vec Ideal S1x512x1024 .f32) (x1 x2 : Vec Ideal S1x1x1024 .f32) (x3 : Vec Ideal S1x1024 .f32)
    (x4 : Vec Ideal S1024x2432 .bf16) (x7 : Vec Ideal S1x256 .f32) (r : Fin 512) (q : Fin 256) :
    latentNormBlk (proj256 (hBlk x0 x1 x2 x3) (cols256 x4 384 (by omega))) x7 (ix2 r q)
      = latent (entered (fun k => x0 (ix3 (0 : Fin 1) r k)) (fun k => x3 (ix2 (0 : Fin 1) k)) (fun k => x2 (ix3 (0 : Fin 1) (0 : Fin 1) k)) (fun k => x1 (ix3 (0 : Fin 1) (0 : Fin 1) k))) (fun q k => x4 (ix2 k (⟨384 + q.val, by omega⟩ : Fin 2432))) (fun k => x7 (ix2 (0 : Fin 1) k)) q := by
  unfold latent
  rw [latentNormBlk_at]
  exact congrArg (fun y => narrowNormed y (fun k => x7 (ix2 (0 : Fin 1) k)) q) (funext fun f => proj_at256 x0 x1 x2 x3 x4 384 (by omega) r f)

end Cert.Kernel4Ideal.Hand
-- ==== Proof.Array4.lean ====
module

public import proofs.«01_k».proof.Proof.Body4

@[expose] public section

/-! The output arrays of the projection's kernel that the claim names: each block is what its point stores, and the blocks cover the array. -/

set_option maxRecDepth 16384

noncomputable section

namespace Cert.Kernel4Ideal.Hand

open Cert.Kernel4Ideal Cert.Kernel4Ideal.Gen Cert.Kernel4Ideal.Whole Idealize.ShloMosaic Idealize.ShloMosaic.TcCoe Idealize.SL.Sem
open Cert.Proof.Half

/-! The blocks of the windows. -/

theorem lt64 (t : Fin cfg0.N) : t.val < 64 := t.isLt

theorem index0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem emb0 (t : Fin cfg0.N) (j : S1x512x1024.Idx) : ((cfg0.win 0).blk t).view.emb j
    = ix3 (⟨t.val / 8, by have := lt64 t; omega⟩ : Fin 8) (⟨512 * (t.val % 8) + (j 1).val, by have h : (j 1).val < 512 := (j 1).isLt; omega⟩ : Fin 4096) (j 2) := by
  obtain ⟨e0, e1, e2⟩ := index0 t
  funext a; apply Fin.ext
  match a with
  | ⟨0, _⟩ => have h : (j 0).val < 1 := (j 0).isLt; show win0_0.index t (0 : Fin 3) * 1 + 1 * (j 0).val = t.val / 8; omega
  | ⟨1, _⟩ => show win0_0.index t (1 : Fin 3) * 512 + 1 * (j 1).val = 512 * (t.val % 8) + (j 1).val; omega
  | ⟨2, _⟩ => show win0_0.index t (2 : Fin 3) * 1024 + 1 * (j 2).val = (j 2).val; omega

theorem index1 : ∀ t : Fin cfg0.N, win0_1.index t (0 : Fin 3) = t.val / 8 ∧ win0_1.index t (1 : Fin 3) = 0 ∧ win0_1.index t (2 : Fin 3) = 3 :=
  (by decide +kernel : ∀ t : Fin grid0.N, _)
theorem emb1 (t : Fin cfg0.N) (j : S1x1x1024.Idx) : ((cfg0.win 1).blk t).view.emb j
    = ix3 (⟨t.val / 8, by have := lt64 t; omega⟩ : Fin 8) (j 1) (⟨3072 + (j 2).val, by have h : (j 2).val < 1024 := (j 2).isLt; omega⟩ : Fin 9216) := by
  obtain ⟨e0, e1, e2⟩ := index1 t
  funext a; apply Fin.ext
  match a with
  | ⟨0, _⟩ => have h : (j 0).val < 1 := (j 0).isLt; show win0_1.index t (0 : Fin 3) * 1 + 1 * (j 0).val = t.val / 8; omega
  | ⟨1, _⟩ => show win0_1.index t (1 : Fin 3) * 1 + 1 * (j 1).val = (j 1).val; omega
  | ⟨2, _⟩ => show win0_1.index t (2 : Fin 3) * 1024 + 1 * (j 2).val = 3072 + (j 2).val; omega

theorem index2 : ∀ t : Fin cfg0.N, win0_2.index t (0 : Fin 3) = t.val / 8 ∧ win0_2.index t (1 : Fin 3) = 0 ∧ win0_2.index t (2 : Fin 3) = 4 :=
  (by decide +kernel : ∀ t : Fin grid0.N, _)
theorem emb2 (t : Fin cfg0.N) (j : S1x1x1024.Idx) : ((cfg0.win 2).blk t).view.emb j
    = ix3 (⟨t.val / 8, by have := lt64 t; omega⟩ : Fin 8) (j 1) (⟨4096 + (j 2).val, by have h : (j 2).val < 1024 := (j 2).isLt; omega⟩ : Fin 9216) := by
  obtain ⟨e0, e1, e2⟩ := index2 t
  funext a; apply Fin.ext
  match a with
  | ⟨0, _⟩ => have h : (j 0).val < 1 := (j 0).isLt; show win0_2.index t (0 : Fin 3) * 1 + 1 * (j 0).val = t.val / 8; omega
  | ⟨1, _⟩ => show win0_2.index t (1 : Fin 3) * 1 + 1 * (j 1).val = (j 1).val; omega
  | ⟨2, _⟩ => show win0_2.index t (2 : Fin 3) * 1024 + 1 * (j 2).val = 4096 + (j 2).val; omega

theorem index3 : ∀ t : Fin cfg0.N, win0_3.index t (0 : Fin 2) = 0 ∧ win0_3.index t (1 : Fin 2) = 0 :=
  (by decide +kernel : ∀ t : Fin grid0.N, _)
theorem emb3 (t : Fin cfg0.N) (j : S1x1024.Idx) : ((cfg0.win 3).blk t).view.emb j
    = ix2 (j 0) (j 1) := by
  obtain ⟨e0, e1⟩ := index3 t
  funext a; apply Fin.ext
  match a with
  | ⟨0, _⟩ => show win0_3.index t (0 : Fin 2) * 1 + 1 * (j 0).val = (j 0).val; omega
  | ⟨1, _⟩ => show win0_3.index t (1 : Fin 2) * 1024 + 1 * (j 1).val = (j 1).val; omega

theorem index4 : ∀ t : Fin cfg0.N, win0_4.index t (0 : Fin 2) = 0 ∧ win0_4.index t (1 : Fin 2) = 0 :=
  (by decide +kernel : ∀ t : Fin grid0.N, _)
theorem emb4 (t : Fin cfg0.N) (j : S1024x2432.Idx) : ((cfg0.win 4).blk t).view.emb j
    = ix2 (j 0) (j 1) := by
  obtain ⟨e0, e1⟩ := index4 t
  funext a; apply Fin.ext
  match a with
  | ⟨0, _⟩ => show win0_4.index t (0 : Fin 2) * 1024 + 1 * (j 0).val = (j 0).val; omega
  | ⟨1, _⟩ => show win0_4.index t (1 : Fin 2) * 2432 + 1 * (j 1).val = (j 1).val; omega

theorem index7 : ∀ t : Fin cfg0.N, win0_7.index t (0 : Fin 2) = 0 ∧ win0_7.index t (1 : Fin 2) = 0 :=
  (by decide +kernel : ∀ t : Fin grid0.N, _)
theorem emb7 (t : Fin cfg0.N) (j : S1x256.Idx) : ((cfg0.win 7).blk t).view.emb j
    = ix2 (j 0) (j 1) := by
  obtain ⟨e0, e1⟩ := index7 t
  funext a; apply Fin.ext
  match a with
  | ⟨0, _⟩ => show win0_7.index t (0 : Fin 2) * 1 + 1 * (j 0).val = (j 0).val; omega
  | ⟨1, _⟩ => show win0_7.index t (1 : Fin 2) * 256 + 1 * (j 1).val = (j 1).val; omega

theorem index9 : ∀ t : Fin cfg0.N, win0_9.index t (0 : Fin 2) = 0 ∧ win0_9.index t (1 : Fin 2) = 0 :=
  (by decide +kernel : ∀ t : Fin grid0.N, _)
theorem emb9 (t : Fin cfg0.N) (j : S256x512.Idx) : ((cfg0.win 9).blk t).view.emb j
    = ix2 (j 0) (j 1) := by
  obtain ⟨e0, e1⟩ := index9 t
  funext a; apply Fin.ext
  match a with
  | ⟨0, _⟩ => show win0_9.index t (0 : Fin 2) * 256 + 1 * (j 0).val = (j 0).val; omega
  | ⟨1, _⟩ => show win0_9.index t (1 : Fin 2) * 512 + 1 * (j 1).val = (j 1).val; omega

theorem index14 : ∀ t : Fin cfg0.N, win0_14.index t (0 : Fin 3) = t.val / 8 ∧ win0_14.index t (1 : Fin 3) = t.val % 8 ∧ win0_14.index t (2 : Fin 3) = 0 :=
  (by decide +kernel : ∀ t : Fin grid0.N, _)
theorem emb14 (t : Fin cfg0.N) (j : S1x512x512.Idx) : ((cfg0.win 14).blk t).view.emb j
    = ix3 (⟨t.val / 8, by have := lt64 t; omega⟩ : Fin 8) (⟨512 * (t.val % 8) + (j 1).val, by have h : (j 1).val < 512 := (j 1).isLt; omega⟩ : Fin 4096) (j 2) := by
  obtain ⟨e0, e1, e2⟩ := index14 t
  funext a; apply Fin.ext
  match a with
  | ⟨0, _⟩ => have h : (j 0).val < 1 := (j 0).isLt; show win0_14.index t (0 : Fin 3) * 1 + 1 * (j 0).val = t.val / 8; omega
  | ⟨1, _⟩ => show win0_14.index t (1 : Fin 3) * 512 + 1 * (j 1).val = 512 * (t.val % 8) + (j 1).val; omega
  | ⟨2, _⟩ => show win0_14.index t (2 : Fin 3) * 512 + 1 * (j 2).val = (j 2).val; omega

theorem index15 : ∀ t : Fin cfg0.N, win0_15.index t (0 : Fin 3) = t.val / 8 ∧ win0_15.index t (1 : Fin 3) = t.val % 8 ∧ win0_15.index t (2 : Fin 3) = 0 :=
  (by decide +kernel : ∀ t : Fin grid0.N, _)
theorem emb15 (t : Fin cfg0.N) (j : S1x512x256.Idx) : ((cfg0.win 15).blk t).view.emb j
    = ix3 (⟨t.val / 8, by have := lt64 t; omega⟩ : Fin 8) (⟨512 * (t.val % 8) + (j 1).val, by have h : (j 1).val < 512 := (j 1).isLt; omega⟩ : Fin 4096) (j 2) := by
  obtain ⟨e0, e1, e2⟩ := index15 t
  funext a; apply Fin.ext
  match a with
  | ⟨0, _⟩ => have h : (j 0).val < 1 := (j 0).isLt; show win0_15.index t (0 : Fin 3) * 1 + 1 * (j 0).val = t.val / 8; omega
  | ⟨1, _⟩ => show win0_15.index t (1 : Fin 3) * 512 + 1 * (j 1).val = 512 * (t.val % 8) + (j 1).val; omega
  | ⟨2, _⟩ => show win0_15.index t (2 : Fin 3) * 256 + 1 * (j 2).val = (j 2).val; omega

theorem index18 : ∀ t : Fin cfg0.N, win0_18.index t (0 : Fin 3) = t.val / 8 ∧ win0_18.index t (1 : Fin 3) = t.val % 8 ∧ win0_18.index t (2 : Fin 3) = 0 :=
  (by decide +kernel : ∀ t : Fin grid0.N, _)
theorem emb18 (t : Fin cfg0.N) (j : S1x512x128.Idx) : ((cfg0.win 18).blk t).view.emb j
    = ix3 (⟨t.val / 8, by have := lt64 t; omega⟩ : Fin 8) (⟨512 * (t.val % 8) + (j 1).val, by have h : (j 1).val < 512 := (j 1).isLt; omega⟩ : Fin 4096) (j 2) := by
  obtain ⟨e0, e1, e2⟩ := index18 t
  funext a; apply Fin.ext
  match a with
  | ⟨0, _⟩ => have h : (j 0).val < 1 := (j 0).isLt; show win0_18.index t (0 : Fin 3) * 1 + 1 * (j 0).val = t.val / 8; omega
  | ⟨1, _⟩ => show win0_18.index t (1 : Fin 3) * 512 + 1 * (j 1).val = 512 * (t.val % 8) + (j 1).val; omega
  | ⟨2, _⟩ => show win0_18.index t (2 : Fin 3) * 128 + 1 * (j 2).val = (j 2).val; omega

theorem index19 : ∀ t : Fin cfg0.N, win0_19.index t (0 : Fin 3) = t.val / 8 ∧ win0_19.index t (1 : Fin 3) = t.val % 8 ∧ win0_19.index t (2 : Fin 3) = 0 :=
  (by decide +kernel : ∀ t : Fin grid0.N, _)
theorem emb19 (t : Fin cfg0.N) (j : S1x512x128.Idx) : ((cfg0.win 19).blk t).view.emb j
    = ix3 (⟨t.val / 8, by have := lt64 t; omega⟩ : Fin 8) (⟨512 * (t.val % 8) + (j 1).val, by have h : (j 1).val < 512 := (j 1).isLt; omega⟩ : Fin 4096) (j 2) := by
  obtain ⟨e0, e1, e2⟩ := index19 t
  funext a; apply Fin.ext
  match a with
  | ⟨0, _⟩ => have h : (j 0).val < 1 := (j 0).isLt; show win0_19.index t (0 : Fin 3) * 1 + 1 * (j 0).val = t.val / 8; omega
  | ⟨1, _⟩ => show win0_19.index t (1 : Fin 3) * 512 + 1 * (j 1).val = 512 * (t.val % 8) + (j 1).val; omega
  | ⟨2, _⟩ => show win0_19.index t (2 : Fin 3) * 128 + 1 * (j 2).val = (j 2).val; omega

theorem index22 : ∀ t : Fin cfg0.N, win0_22.index t (0 : Fin 3) = t.val / 8 ∧ win0_22.index t (1 : Fin 3) = t.val % 8 ∧ win0_22.index t (2 : Fin 3) = 0 :=
  (by decide +kernel : ∀ t : Fin grid0.N, _)
theorem emb22 (t : Fin cfg0.N) (j : S1x512x512.Idx) : ((cfg0.win 22).blk t).view.emb j
    = ix3 (⟨t.val / 8, by have := lt64 t; omega⟩ : Fin 8) (⟨512 * (t.val % 8) + (j 1).val, by have h : (j 1).val < 512 := (j 1).isLt; omega⟩ : Fin 4096) (j 2) := by
  obtain ⟨e0, e1, e2⟩ := index22 t
  funext a; apply Fin.ext
  match a with
  | ⟨0, _⟩ => have h : (j 0).val < 1 := (j 0).isLt; show win0_22.index t (0 : Fin 3) * 1 + 1 * (j 0).val = t.val / 8; omega
  | ⟨1, _⟩ => show win0_22.index t (1 : Fin 3) * 512 + 1 * (j 1).val = 512 * (t.val % 8) + (j 1).val; omega
  | ⟨2, _⟩ => show win0_22.index t (2 : Fin 3) * 512 + 1 * (j 2).val = (j 2).val; omega

theorem index23 : ∀ t : Fin cfg0.N, win0_23.index t (0 : Fin 3) = t.val / 8 ∧ win0_23.index t (1 : Fin 3) = t.val % 8 ∧ win0_23.index t (2 : Fin 3) = 0 :=
  (by decide +kernel : ∀ t : Fin grid0.N, _)
theorem emb23 (t : Fin cfg0.N) (j : S1x512x64.Idx) : ((cfg0.win 23).blk t).view.emb j
    = ix3 (⟨t.val / 8, by have := lt64 t; omega⟩ : Fin 8) (⟨512 * (t.val % 8) + (j 1).val, by have h : (j 1).val < 512 := (j 1).isLt; omega⟩ : Fin 4096) (j 2) := by
  obtain ⟨e0, e1, e2⟩ := index23 t
  funext a; apply Fin.ext
  match a with
  | ⟨0, _⟩ => have h : (j 0).val < 1 := (j 0).isLt; show win0_23.index t (0 : Fin 3) * 1 + 1 * (j 0).val = t.val / 8; omega
  | ⟨1, _⟩ => show win0_23.index t (1 : Fin 3) * 512 + 1 * (j 1).val = 512 * (t.val % 8) + (j 1).val; omega
  | ⟨2, _⟩ => show win0_23.index t (2 : Fin 3) * 64 + 1 * (j 2).val = (j 2).val; omega

/-! The blocks of the arrays the grid reads. -/

def blk0 (X : S8x4096x1024.Idx → EReal) (t : Fin cfg0.N) : S1x512x1024.Idx → EReal := ((cfg0.win 0).blk t).view.read (Elt Ideal) X
theorem blk0_at (X : S8x4096x1024.Idx → EReal) (t : Fin cfg0.N) (r : Fin 512) (l : Fin 1024) :
    blk0 X t (ix3 (0 : Fin 1) r l) = X (ix3 (⟨t.val / 8, by have := lt64 t; omega⟩ : Fin 8) (⟨512 * (t.val % 8) + r.val, by omega⟩ : Fin 4096) l) := by
  show X (((cfg0.win 0).blk t).view.emb (ix3 (0 : Fin 1) r l)) = _
  rw [emb0]
  rfl

def blk1 (X : S8x1x9216.Idx → EReal) (t : Fin cfg0.N) : S1x1x1024.Idx → EReal := ((cfg0.win 1).blk t).view.read (Elt Ideal) X
theorem blk1_at (X : S8x1x9216.Idx → EReal) (t : Fin cfg0.N) (l : Fin 1024) :
    blk1 X t (ix3 (0 : Fin 1) (0 : Fin 1) l) = X (ix3 (⟨t.val / 8, by have := lt64 t; omega⟩ : Fin 8) (0 : Fin 1) (⟨3072 + l.val, by omega⟩ : Fin 9216)) := by
  show X (((cfg0.win 1).blk t).view.emb (ix3 (0 : Fin 1) (0 : Fin 1) l)) = _
  rw [emb1]
  rfl

def blk2 (X : S8x1x9216.Idx → EReal) (t : Fin cfg0.N) : S1x1x1024.Idx → EReal := ((cfg0.win 2).blk t).view.read (Elt Ideal) X
theorem blk2_at (X : S8x1x9216.Idx → EReal) (t : Fin cfg0.N) (l : Fin 1024) :
    blk2 X t (ix3 (0 : Fin 1) (0 : Fin 1) l) = X (ix3 (⟨t.val / 8, by have := lt64 t; omega⟩ : Fin 8) (0 : Fin 1) (⟨4096 + l.val, by omega⟩ : Fin 9216)) := by
  show X (((cfg0.win 2).blk t).view.emb (ix3 (0 : Fin 1) (0 : Fin 1) l)) = _
  rw [emb2]
  rfl

def blk3 (X : S1x1024.Idx → EReal) (t : Fin cfg0.N) : S1x1024.Idx → EReal := ((cfg0.win 3).blk t).view.read (Elt Ideal) X
theorem blk3_at (X : S1x1024.Idx → EReal) (t : Fin cfg0.N) (l : Fin 1024) :
    blk3 X t (ix2 (0 : Fin 1) l) = X (ix2 (0 : Fin 1) l) := by
  show X (((cfg0.win 3).blk t).view.emb (ix2 (0 : Fin 1) l)) = _
  rw [emb3]
  rfl

def blk4 (X : S1024x2432.Idx → EReal) (t : Fin cfg0.N) : S1024x2432.Idx → EReal := ((cfg0.win 4).blk t).view.read (Elt Ideal) X
theorem blk4_at (X : S1024x2432.Idx → EReal) (t : Fin cfg0.N) (k : Fin 1024) (l : Fin 2432) :
    blk4 X t (ix2 k l) = X (ix2 k l) := by
  show X (((cfg0.win 4).blk t).view.emb (ix2 k l)) = _
  rw [emb4]
  rfl

def blk7 (X : S1x256.Idx → EReal) (t : Fin cfg0.N) : S1x256.Idx → EReal := ((cfg0.win 7).blk t).view.read (Elt Ideal) X
theorem blk7_at (X : S1x256.Idx → EReal) (t : Fin cfg0.N) (l : Fin 256) :
    blk7 X t (ix2 (0 : Fin 1) l) = X (ix2 (0 : Fin 1) l) := by
  show X (((cfg0.win 7).blk t).view.emb (ix2 (0 : Fin 1) l)) = _
  rw [emb7]
  rfl

def blk9 (X : S256x512.Idx → EReal) (t : Fin cfg0.N) : S256x512.Idx → EReal := ((cfg0.win 9).blk t).view.read (Elt Ideal) X
theorem blk9_at (X : S256x512.Idx → EReal) (t : Fin cfg0.N) (k : Fin 256) (l : Fin 512) :
    blk9 X t (ix2 k l) = X (ix2 k l) := by
  show X (((cfg0.win 9).blk t).view.emb (ix2 k l)) = _
  rw [emb9]
  rfl

/-- The modulation's lanes from `o` on, for batch `b`. -/
def lanes (D : S8x1x9216.Idx → EReal) (b : Fin 8) (o : Nat) (h : o + 1024 ≤ 9216) (l : Fin 1024) : EReal :=
  D (ix3 b (0 : Fin 1) (⟨o + l.val, by omega⟩ : Fin 9216))

/-- The entering row. -/
def rowAt (X : S8x4096x1024.Idx → EReal) (D : S8x1x9216.Idx → EReal) (G : S1x1024.Idx → EReal) (b : Fin 8) (r : Fin 4096) : Fin 1024 → EReal :=
  entered (fun k => X (ix3 b r k)) (fun k => G (ix2 (0 : Fin 1) k)) (lanes D b 4096 (by omega)) (lanes D b 3072 (by omega))

def latAt (X : S8x4096x1024.Idx → EReal) (D : S8x1x9216.Idx → EReal) (G : S1x1024.Idx → EReal) (W : S1024x2432.Idx → EReal) (K : S1x256.Idx → EReal) (b : Fin 8) (r : Fin 4096) : Fin 256 → EReal :=
  latent (rowAt X D G b r) (fun q k => W (ix2 k (⟨384 + q.val, by omega⟩ : Fin 2432))) (fun k => K (ix2 (0 : Fin 1) k))

theorem row_blk (X : S8x4096x1024.Idx → EReal) (D : S8x1x9216.Idx → EReal) (G : S1x1024.Idx → EReal) (t : Fin cfg0.N) (r : Fin 512) :
    entered (fun k => blk0 X t (ix3 (0 : Fin 1) r k)) (fun k => blk3 G t (ix2 (0 : Fin 1) k)) (fun k => blk2 D t (ix3 (0 : Fin 1) (0 : Fin 1) k))
      (fun k => blk1 D t (ix3 (0 : Fin 1) (0 : Fin 1) k)) = rowAt X D G (⟨t.val / 8, by have := lt64 t; omega⟩ : Fin 8) (⟨512 * (t.val % 8) + r.val, by omega⟩ : Fin 4096) := by
  have e2 : (fun k => blk2 D t (ix3 (0 : Fin 1) (0 : Fin 1) k)) = lanes D (⟨t.val / 8, by have := lt64 t; omega⟩ : Fin 8) 4096 (by omega) := funext fun k => blk2_at D t k
  have e1 : (fun k => blk1 D t (ix3 (0 : Fin 1) (0 : Fin 1) k)) = lanes D (⟨t.val / 8, by have := lt64 t; omega⟩ : Fin 8) 3072 (by omega) := funext fun k => blk1_at D t k
  have e3 : (fun k => blk3 G t (ix2 (0 : Fin 1) k)) = fun k => G (ix2 (0 : Fin 1) k) := funext fun k => blk3_at G t k
  have e0 : (fun k => blk0 X t (ix3 (0 : Fin 1) r k)) = fun k => X (ix3 (⟨t.val / 8, by have := lt64 t; omega⟩ : Fin 8) (⟨512 * (t.val % 8) + r.val, by omega⟩ : Fin 4096) k) := funext fun k => blk0_at X t r k
  rw [e0, e1, e2, e3]
  rfl

theorem lat_blk (X : S8x4096x1024.Idx → EReal) (D : S8x1x9216.Idx → EReal) (G : S1x1024.Idx → EReal) (W : S1024x2432.Idx → EReal) (K : S1x256.Idx → EReal) (t : Fin cfg0.N) (r : Fin 512) (q : Fin 256) :
    latentNormBlk (proj256 (hBlk (blk0 X t) (blk1 D t) (blk2 D t) (blk3 G t)) (cols256 (blk4 W t) 384 (by omega))) (blk7 K t) (ix2 r q)
      = latAt X D G W K (⟨t.val / 8, by have := lt64 t; omega⟩ : Fin 8) (⟨512 * (t.val % 8) + r.val, by omega⟩ : Fin 4096) q := by
  have e7 : (fun k => blk7 K t (ix2 (0 : Fin 1) k)) = fun k => K (ix2 (0 : Fin 1) k) := funext fun k => blk7_at K t k
  have e4 : (fun (q : Fin 256) (k : Fin 1024) => blk4 W t (ix2 k (⟨384 + q.val, by omega⟩ : Fin 2432))) = fun q k => W (ix2 k (⟨384 + q.val, by omega⟩ : Fin 2432)) :=
    funext fun q => funext fun k => blk4_at W t k _
  refine (latent_at (blk0 X t) (blk1 D t) (blk2 D t) (blk3 G t) (blk4 W t) (blk7 K t) r q).trans ?_
  rw [row_blk, e4, e7]
  rfl

theorem col_blk (W : S1024x2432.Idx → EReal) (t : Fin cfg0.N) (f : Fin 2432) :
    (fun k : Fin 1024 => blk4 W t (ix2 k f)) = fun k => W (ix2 k f) := funext fun k => blk4_at W t k f

def at_v (X : S8x4096x1024.Idx → EReal) (D : S8x1x9216.Idx → EReal) (G : S1x1024.Idx → EReal) (W : S1024x2432.Idx → EReal) (K : S1x256.Idx → EReal) (Wv : S256x512.Idx → EReal) (b : Fin 8) (r : Fin 4096) (l : Fin 512) : EReal := dot (latAt X D G W K b r) (fun q => Wv (ix2 q l))
def arr_v (X : S8x4096x1024.Idx → EReal) (D : S8x1x9216.Idx → EReal) (G : S1x1024.Idx → EReal) (W : S1024x2432.Idx → EReal) (K : S1x256.Idx → EReal) (Wv : S256x512.Idx → EReal) : S8x4096x512.Idx → EReal := fun i => at_v X D G W K Wv (i 0) (i 1) (i 2)

theorem point_v (X : S8x4096x1024.Idx → EReal) (D : S8x1x9216.Idx → EReal) (G : S1x1024.Idx → EReal) (W : S1024x2432.Idx → EReal) (K : S1x256.Idx → EReal) (Wv : S256x512.Idx → EReal) (t : Fin cfg0.N) (r : Fin 512) (l : Fin 512) :
    (store14 (valBlk (latentNormBlk (proj256 (hBlk (blk0 X t) (blk1 D t) (blk2 D t) (blk3 G t)) (cols256 (blk4 W t) 384 (by omega))) (blk7 K t)) (blk9 Wv t)) : S1x512x512.Idx → EReal) (ix3 (0 : Fin 1) r l) = at_v X D G W K Wv (⟨t.val / 8, by have := lt64 t; omega⟩ : Fin 8) (⟨512 * (t.val % 8) + r.val, by omega⟩ : Fin 4096) l := by
  refine (store14_at _ r l).trans ((valBlk_at _ _ r l).trans ?_)
  unfold at_v
  refine congrArg₂ dot (funext fun q => lat_blk X D G W K t r q) (funext fun q => blk9_at Wv t q l)

theorem block_v (X : S8x4096x1024.Idx → EReal) (D : S8x1x9216.Idx → EReal) (G : S1x1024.Idx → EReal) (W : S1024x2432.Idx → EReal) (K : S1x256.Idx → EReal) (Wv : S256x512.Idx → EReal) (t : Fin cfg0.N) :
    (cfg0.win 14).cut (grid0.coords t) (store14 (valBlk (latentNormBlk (proj256 (hBlk (blk0 X t) (blk1 D t) (blk2 D t) (blk3 G t)) (cols256 (blk4 W t) 384 (by omega))) (blk7 K t)) (blk9 Wv t)) : S1x512x512.Idx → EReal)
      = ((cfg0.win 14).blk t).view.read (Elt Ideal) (arr_v X D G W K Wv) := by
  funext (j : S1x512x512.Idx)
  show (store14 (valBlk (latentNormBlk (proj256 (hBlk (blk0 X t) (blk1 D t) (blk2 D t) (blk3 G t)) (cols256 (blk4 W t) 384 (by omega))) (blk7 K t)) (blk9 Wv t)) : S1x512x512.Idx → EReal) j = arr_v X D G W K Wv (((cfg0.win 14).blk t).view.emb j)
  rw [emb14]
  have h0 : (j 0).val < 1 := (j 0).isLt
  have h1 : (j 1).val < 512 := (j 1).isLt
  have h2 : (j 2).val < 512 := (j 2).isLt
  have hj : ix3 (0 : Fin 1) (⟨(j 1).val, h1⟩ : Fin 512) (⟨(j 2).val, h2⟩ : Fin 512) = j := by
    funext a; apply Fin.ext
    match a with
    | ⟨0, _⟩ => show 0 = (j 0).val; omega
    | ⟨1, _⟩ => rfl
    | ⟨2, _⟩ => rfl
  rw [← hj]
  exact point_v X D G W K Wv t (⟨(j 1).val, h1⟩ : Fin 512) (⟨(j 2).val, h2⟩ : Fin 512)

theorem covered_v (i : S8x4096x512.Idx) : ∃ t : Fin cfg0.N, (cfg0.win 14).flush t = true ∧ i ∈ ((cfg0.win 14).blk t).view.set := by
  have h0 : (i 0).val < 8 := (i 0).isLt
  have h1 : (i 1).val < 4096 := (i 1).isLt
  refine ⟨(⟨8 * (i 0).val + (i 1).val / 512, by show _ < 64; omega⟩ : Fin cfg0.N), flush0_14 _, ?_⟩
  have h := ((cfg0.win 14).blk (⟨8 * (i 0).val + (i 1).val / 512, by show _ < 64; omega⟩ : Fin cfg0.N)).view.emb_mem_set
    (ix3 (0 : Fin 1) (⟨(i 1).val % 512, by omega⟩ : Fin 512) (i 2))
  rw [emb14] at h
  have e : ix3 (⟨(8 * (i 0).val + (i 1).val / 512) / 8, by omega⟩ : Fin 8)
      (⟨512 * ((8 * (i 0).val + (i 1).val / 512) % 8) + (i 1).val % 512, by omega⟩ : Fin 4096) (i 2) = i := by
    funext a; apply Fin.ext
    match a with
    | ⟨0, _⟩ => show (8 * (i 0).val + (i 1).val / 512) / 8 = (i 0).val; omega
    | ⟨1, _⟩ => show 512 * ((8 * (i 0).val + (i 1).val / 512) % 8) + (i 1).val % 512 = (i 1).val; omega
    | ⟨2, _⟩ => rfl
  have e' := e ▸ h
  exact e'

def at_ckv (X : S8x4096x1024.Idx → EReal) (D : S8x1x9216.Idx → EReal) (G : S1x1024.Idx → EReal) (W : S1024x2432.Idx → EReal) (K : S1x256.Idx → EReal) (b : Fin 8) (r : Fin 4096) (l : Fin 256) : EReal := latAt X D G W K b r l
def arr_ckv (X : S8x4096x1024.Idx → EReal) (D : S8x1x9216.Idx → EReal) (G : S1x1024.Idx → EReal) (W : S1024x2432.Idx → EReal) (K : S1x256.Idx → EReal) : S8x4096x256.Idx → EReal := fun i => at_ckv X D G W K (i 0) (i 1) (i 2)

theorem point_ckv (X : S8x4096x1024.Idx → EReal) (D : S8x1x9216.Idx → EReal) (G : S1x1024.Idx → EReal) (W : S1024x2432.Idx → EReal) (K : S1x256.Idx → EReal) (t : Fin cfg0.N) (r : Fin 512) (l : Fin 256) :
    (store15 (latentNormBlk (proj256 (hBlk (blk0 X t) (blk1 D t) (blk2 D t) (blk3 G t)) (cols256 (blk4 W t) 384 (by omega))) (blk7 K t)) : S1x512x256.Idx → EReal) (ix3 (0 : Fin 1) r l) = at_ckv X D G W K (⟨t.val / 8, by have := lt64 t; omega⟩ : Fin 8) (⟨512 * (t.val % 8) + r.val, by omega⟩ : Fin 4096) l := by
  exact (store15_at _ r l).trans (lat_blk X D G W K t r l)

theorem block_ckv (X : S8x4096x1024.Idx → EReal) (D : S8x1x9216.Idx → EReal) (G : S1x1024.Idx → EReal) (W : S1024x2432.Idx → EReal) (K : S1x256.Idx → EReal) (t : Fin cfg0.N) :
    (cfg0.win 15).cut (grid0.coords t) (store15 (latentNormBlk (proj256 (hBlk (blk0 X t) (blk1 D t) (blk2 D t) (blk3 G t)) (cols256 (blk4 W t) 384 (by omega))) (blk7 K t)) : S1x512x256.Idx → EReal)
      = ((cfg0.win 15).blk t).view.read (Elt Ideal) (arr_ckv X D G W K) := by
  funext (j : S1x512x256.Idx)
  show (store15 (latentNormBlk (proj256 (hBlk (blk0 X t) (blk1 D t) (blk2 D t) (blk3 G t)) (cols256 (blk4 W t) 384 (by omega))) (blk7 K t)) : S1x512x256.Idx → EReal) j = arr_ckv X D G W K (((cfg0.win 15).blk t).view.emb j)
  rw [emb15]
  have h0 : (j 0).val < 1 := (j 0).isLt
  have h1 : (j 1).val < 512 := (j 1).isLt
  have h2 : (j 2).val < 256 := (j 2).isLt
  have hj : ix3 (0 : Fin 1) (⟨(j 1).val, h1⟩ : Fin 512) (⟨(j 2).val, h2⟩ : Fin 256) = j := by
    funext a; apply Fin.ext
    match a with
    | ⟨0, _⟩ => show 0 = (j 0).val; omega
    | ⟨1, _⟩ => rfl
    | ⟨2, _⟩ => rfl
  rw [← hj]
  exact point_ckv X D G W K t (⟨(j 1).val, h1⟩ : Fin 512) (⟨(j 2).val, h2⟩ : Fin 256)

theorem covered_ckv (i : S8x4096x256.Idx) : ∃ t : Fin cfg0.N, (cfg0.win 15).flush t = true ∧ i ∈ ((cfg0.win 15).blk t).view.set := by
  have h0 : (i 0).val < 8 := (i 0).isLt
  have h1 : (i 1).val < 4096 := (i 1).isLt
  refine ⟨(⟨8 * (i 0).val + (i 1).val / 512, by show _ < 64; omega⟩ : Fin cfg0.N), flush0_15 _, ?_⟩
  have h := ((cfg0.win 15).blk (⟨8 * (i 0).val + (i 1).val / 512, by show _ < 64; omega⟩ : Fin cfg0.N)).view.emb_mem_set
    (ix3 (0 : Fin 1) (⟨(i 1).val % 512, by omega⟩ : Fin 512) (i 2))
  rw [emb15] at h
  have e : ix3 (⟨(8 * (i 0).val + (i 1).val / 512) / 8, by omega⟩ : Fin 8)
      (⟨512 * ((8 * (i 0).val + (i 1).val / 512) % 8) + (i 1).val % 512, by omega⟩ : Fin 4096) (i 2) = i := by
    funext a; apply Fin.ext
    match a with
    | ⟨0, _⟩ => show (8 * (i 0).val + (i 1).val / 512) / 8 = (i 0).val; omega
    | ⟨1, _⟩ => show 512 * ((8 * (i 0).val + (i 1).val / 512) % 8) + (i 1).val % 512 = (i 1).val; omega
    | ⟨2, _⟩ => rfl
  have e' := e ▸ h
  exact e'

def at_dk (X : S8x4096x1024.Idx → EReal) (D : S8x1x9216.Idx → EReal) (G : S1x1024.Idx → EReal) (W : S1024x2432.Idx → EReal) (b : Fin 8) (r : Fin 4096) (l : Fin 128) : EReal := dot (rowAt X D G b r) (fun k => W (ix2 k (⟨1408 + l.val, by omega⟩ : Fin 2432)))
def arr_dk (X : S8x4096x1024.Idx → EReal) (D : S8x1x9216.Idx → EReal) (G : S1x1024.Idx → EReal) (W : S1024x2432.Idx → EReal) : S8x4096x128.Idx → EReal := fun i => at_dk X D G W (i 0) (i 1) (i 2)

theorem point_dk (X : S8x4096x1024.Idx → EReal) (D : S8x1x9216.Idx → EReal) (G : S1x1024.Idx → EReal) (W : S1024x2432.Idx → EReal) (t : Fin cfg0.N) (r : Fin 512) (l : Fin 128) :
    (store18 (proj256 (hBlk (blk0 X t) (blk1 D t) (blk2 D t) (blk3 G t)) (cols256 (blk4 W t) 1408 (by omega))) : S1x512x128.Idx → EReal) (ix3 (0 : Fin 1) r l) = at_dk X D G W (⟨t.val / 8, by have := lt64 t; omega⟩ : Fin 8) (⟨512 * (t.val % 8) + r.val, by omega⟩ : Fin 4096) l := by
  refine (store18_at _ r l).trans ((proj_at256 (blk0 X t) (blk1 D t) (blk2 D t) (blk3 G t) (blk4 W t) 1408 (by omega) r (⟨0 + l.val, by omega⟩ : Fin 256)).trans ?_)
  rw [row_blk, col_blk]
  have e : (⟨1408 + (0 + l.val), by omega⟩ : Fin 2432) = ⟨1408 + l.val, by omega⟩ := Fin.ext (by simp only; omega)
  exact congrArg (fun f : Fin 2432 => dot (rowAt X D G (⟨t.val / 8, by have := lt64 t; omega⟩ : Fin 8) (⟨512 * (t.val % 8) + r.val, by omega⟩ : Fin 4096)) (fun k => W (ix2 k f))) e

theorem block_dk (X : S8x4096x1024.Idx → EReal) (D : S8x1x9216.Idx → EReal) (G : S1x1024.Idx → EReal) (W : S1024x2432.Idx → EReal) (t : Fin cfg0.N) :
    (cfg0.win 18).cut (grid0.coords t) (store18 (proj256 (hBlk (blk0 X t) (blk1 D t) (blk2 D t) (blk3 G t)) (cols256 (blk4 W t) 1408 (by omega))) : S1x512x128.Idx → EReal)
      = ((cfg0.win 18).blk t).view.read (Elt Ideal) (arr_dk X D G W) := by
  funext (j : S1x512x128.Idx)
  show (store18 (proj256 (hBlk (blk0 X t) (blk1 D t) (blk2 D t) (blk3 G t)) (cols256 (blk4 W t) 1408 (by omega))) : S1x512x128.Idx → EReal) j = arr_dk X D G W (((cfg0.win 18).blk t).view.emb j)
  rw [emb18]
  have h0 : (j 0).val < 1 := (j 0).isLt
  have h1 : (j 1).val < 512 := (j 1).isLt
  have h2 : (j 2).val < 128 := (j 2).isLt
  have hj : ix3 (0 : Fin 1) (⟨(j 1).val, h1⟩ : Fin 512) (⟨(j 2).val, h2⟩ : Fin 128) = j := by
    funext a; apply Fin.ext
    match a with
    | ⟨0, _⟩ => show 0 = (j 0).val; omega
    | ⟨1, _⟩ => rfl
    | ⟨2, _⟩ => rfl
  rw [← hj]
  exact point_dk X D G W t (⟨(j 1).val, h1⟩ : Fin 512) (⟨(j 2).val, h2⟩ : Fin 128)

theorem covered_dk (i : S8x4096x128.Idx) : ∃ t : Fin cfg0.N, (cfg0.win 18).flush t = true ∧ i ∈ ((cfg0.win 18).blk t).view.set := by
  have h0 : (i 0).val < 8 := (i 0).isLt
  have h1 : (i 1).val < 4096 := (i 1).isLt
  refine ⟨(⟨8 * (i 0).val + (i 1).val / 512, by show _ < 64; omega⟩ : Fin cfg0.N), flush0_18 _, ?_⟩
  have h := ((cfg0.win 18).blk (⟨8 * (i 0).val + (i 1).val / 512, by show _ < 64; omega⟩ : Fin cfg0.N)).view.emb_mem_set
    (ix3 (0 : Fin 1) (⟨(i 1).val % 512, by omega⟩ : Fin 512) (i 2))
  rw [emb18] at h
  have e : ix3 (⟨(8 * (i 0).val + (i 1).val / 512) / 8, by omega⟩ : Fin 8)
      (⟨512 * ((8 * (i 0).val + (i 1).val / 512) % 8) + (i 1).val % 512, by omega⟩ : Fin 4096) (i 2) = i := by
    funext a; apply Fin.ext
    match a with
    | ⟨0, _⟩ => show (8 * (i 0).val + (i 1).val / 512) / 8 = (i 0).val; omega
    | ⟨1, _⟩ => show 512 * ((8 * (i 0).val + (i 1).val / 512) % 8) + (i 1).val % 512 = (i 1).val; omega
    | ⟨2, _⟩ => rfl
  have e' := e ▸ h
  exact e'

def at_dv (X : S8x4096x1024.Idx → EReal) (D : S8x1x9216.Idx → EReal) (G : S1x1024.Idx → EReal) (W : S1024x2432.Idx → EReal) (b : Fin 8) (r : Fin 4096) (l : Fin 128) : EReal := dot (rowAt X D G b r) (fun k => W (ix2 k (⟨1536 + l.val, by omega⟩ : Fin 2432)))
def arr_dv (X : S8x4096x1024.Idx → EReal) (D : S8x1x9216.Idx → EReal) (G : S1x1024.Idx → EReal) (W : S1024x2432.Idx → EReal) : S8x4096x128.Idx → EReal := fun i => at_dv X D G W (i 0) (i 1) (i 2)

theorem point_dv (X : S8x4096x1024.Idx → EReal) (D : S8x1x9216.Idx → EReal) (G : S1x1024.Idx → EReal) (W : S1024x2432.Idx → EReal) (t : Fin cfg0.N) (r : Fin 512) (l : Fin 128) :
    (store19 (proj256 (hBlk (blk0 X t) (blk1 D t) (blk2 D t) (blk3 G t)) (cols256 (blk4 W t) 1408 (by omega))) : S1x512x128.Idx → EReal) (ix3 (0 : Fin 1) r l) = at_dv X D G W (⟨t.val / 8, by have := lt64 t; omega⟩ : Fin 8) (⟨512 * (t.val % 8) + r.val, by omega⟩ : Fin 4096) l := by
  refine (store19_at _ r l).trans ((proj_at256 (blk0 X t) (blk1 D t) (blk2 D t) (blk3 G t) (blk4 W t) 1408 (by omega) r (⟨128 + l.val, by omega⟩ : Fin 256)).trans ?_)
  rw [row_blk, col_blk]
  have e : (⟨1408 + (128 + l.val), by omega⟩ : Fin 2432) = ⟨1536 + l.val, by omega⟩ := Fin.ext (by simp only; omega)
  exact congrArg (fun f : Fin 2432 => dot (rowAt X D G (⟨t.val / 8, by have := lt64 t; omega⟩ : Fin 8) (⟨512 * (t.val % 8) + r.val, by omega⟩ : Fin 4096)) (fun k => W (ix2 k f))) e

theorem block_dv (X : S8x4096x1024.Idx → EReal) (D : S8x1x9216.Idx → EReal) (G : S1x1024.Idx → EReal) (W : S1024x2432.Idx → EReal) (t : Fin cfg0.N) :
    (cfg0.win 19).cut (grid0.coords t) (store19 (proj256 (hBlk (blk0 X t) (blk1 D t) (blk2 D t) (blk3 G t)) (cols256 (blk4 W t) 1408 (by omega))) : S1x512x128.Idx → EReal)
      = ((cfg0.win 19).blk t).view.read (Elt Ideal) (arr_dv X D G W) := by
  funext (j : S1x512x128.Idx)
  show (store19 (proj256 (hBlk (blk0 X t) (blk1 D t) (blk2 D t) (blk3 G t)) (cols256 (blk4 W t) 1408 (by omega))) : S1x512x128.Idx → EReal) j = arr_dv X D G W (((cfg0.win 19).blk t).view.emb j)
  rw [emb19]
  have h0 : (j 0).val < 1 := (j 0).isLt
  have h1 : (j 1).val < 512 := (j 1).isLt
  have h2 : (j 2).val < 128 := (j 2).isLt
  have hj : ix3 (0 : Fin 1) (⟨(j 1).val, h1⟩ : Fin 512) (⟨(j 2).val, h2⟩ : Fin 128) = j := by
    funext a; apply Fin.ext
    match a with
    | ⟨0, _⟩ => show 0 = (j 0).val; omega
    | ⟨1, _⟩ => rfl
    | ⟨2, _⟩ => rfl
  rw [← hj]
  exact point_dv X D G W t (⟨(j 1).val, h1⟩ : Fin 512) (⟨(j 2).val, h2⟩ : Fin 128)

theorem covered_dv (i : S8x4096x128.Idx) : ∃ t : Fin cfg0.N, (cfg0.win 19).flush t = true ∧ i ∈ ((cfg0.win 19).blk t).view.set := by
  have h0 : (i 0).val < 8 := (i 0).isLt
  have h1 : (i 1).val < 4096 := (i 1).isLt
  refine ⟨(⟨8 * (i 0).val + (i 1).val / 512, by show _ < 64; omega⟩ : Fin cfg0.N), flush0_19 _, ?_⟩
  have h := ((cfg0.win 19).blk (⟨8 * (i 0).val + (i 1).val / 512, by show _ < 64; omega⟩ : Fin cfg0.N)).view.emb_mem_set
    (ix3 (0 : Fin 1) (⟨(i 1).val % 512, by omega⟩ : Fin 512) (i 2))
  rw [emb19] at h
  have e : ix3 (⟨(8 * (i 0).val + (i 1).val / 512) / 8, by omega⟩ : Fin 8)
      (⟨512 * ((8 * (i 0).val + (i 1).val / 512) % 8) + (i 1).val % 512, by omega⟩ : Fin 4096) (i 2) = i := by
    funext a; apply Fin.ext
    match a with
    | ⟨0, _⟩ => show (8 * (i 0).val + (i 1).val / 512) / 8 = (i 0).val; omega
    | ⟨1, _⟩ => show 512 * ((8 * (i 0).val + (i 1).val / 512) % 8) + (i 1).val % 512 = (i 1).val; omega
    | ⟨2, _⟩ => rfl
  have e' := e ▸ h
  exact e'

def at_iq (X : S8x4096x1024.Idx → EReal) (D : S8x1x9216.Idx → EReal) (G : S1x1024.Idx → EReal) (W : S1024x2432.Idx → EReal) (b : Fin 8) (r : Fin 4096) (l : Fin 512) : EReal := dot (rowAt X D G b r) (fun k => W (ix2 k (⟨1664 + l.val, by omega⟩ : Fin 2432)))
def arr_iq (X : S8x4096x1024.Idx → EReal) (D : S8x1x9216.Idx → EReal) (G : S1x1024.Idx → EReal) (W : S1024x2432.Idx → EReal) : S8x4096x512.Idx → EReal := fun i => at_iq X D G W (i 0) (i 1) (i 2)

theorem point_iq (X : S8x4096x1024.Idx → EReal) (D : S8x1x9216.Idx → EReal) (G : S1x1024.Idx → EReal) (W : S1024x2432.Idx → EReal) (t : Fin cfg0.N) (r : Fin 512) (l : Fin 512) :
    (store14 (proj512 (hBlk (blk0 X t) (blk1 D t) (blk2 D t) (blk3 G t)) (cols512 (blk4 W t) 1664 (by omega))) : S1x512x512.Idx → EReal) (ix3 (0 : Fin 1) r l) = at_iq X D G W (⟨t.val / 8, by have := lt64 t; omega⟩ : Fin 8) (⟨512 * (t.val % 8) + r.val, by omega⟩ : Fin 4096) l := by
  refine (store14_at _ r l).trans ((proj_at512 (blk0 X t) (blk1 D t) (blk2 D t) (blk3 G t) (blk4 W t) 1664 (by omega) r l).trans ?_)
  rw [row_blk, col_blk]
  rfl

theorem block_iq (X : S8x4096x1024.Idx → EReal) (D : S8x1x9216.Idx → EReal) (G : S1x1024.Idx → EReal) (W : S1024x2432.Idx → EReal) (t : Fin cfg0.N) :
    (cfg0.win 22).cut (grid0.coords t) (store14 (proj512 (hBlk (blk0 X t) (blk1 D t) (blk2 D t) (blk3 G t)) (cols512 (blk4 W t) 1664 (by omega))) : S1x512x512.Idx → EReal)
      = ((cfg0.win 22).blk t).view.read (Elt Ideal) (arr_iq X D G W) := by
  funext (j : S1x512x512.Idx)
  show (store14 (proj512 (hBlk (blk0 X t) (blk1 D t) (blk2 D t) (blk3 G t)) (cols512 (blk4 W t) 1664 (by omega))) : S1x512x512.Idx → EReal) j = arr_iq X D G W (((cfg0.win 22).blk t).view.emb j)
  rw [emb22]
  have h0 : (j 0).val < 1 := (j 0).isLt
  have h1 : (j 1).val < 512 := (j 1).isLt
  have h2 : (j 2).val < 512 := (j 2).isLt
  have hj : ix3 (0 : Fin 1) (⟨(j 1).val, h1⟩ : Fin 512) (⟨(j 2).val, h2⟩ : Fin 512) = j := by
    funext a; apply Fin.ext
    match a with
    | ⟨0, _⟩ => show 0 = (j 0).val; omega
    | ⟨1, _⟩ => rfl
    | ⟨2, _⟩ => rfl
  rw [← hj]
  exact point_iq X D G W t (⟨(j 1).val, h1⟩ : Fin 512) (⟨(j 2).val, h2⟩ : Fin 512)

theorem covered_iq (i : S8x4096x512.Idx) : ∃ t : Fin cfg0.N, (cfg0.win 22).flush t = true ∧ i ∈ ((cfg0.win 22).blk t).view.set := by
  have h0 : (i 0).val < 8 := (i 0).isLt
  have h1 : (i 1).val < 4096 := (i 1).isLt
  refine ⟨(⟨8 * (i 0).val + (i 1).val / 512, by show _ < 64; omega⟩ : Fin cfg0.N), flush0_22 _, ?_⟩
  have h := ((cfg0.win 22).blk (⟨8 * (i 0).val + (i 1).val / 512, by show _ < 64; omega⟩ : Fin cfg0.N)).view.emb_mem_set
    (ix3 (0 : Fin 1) (⟨(i 1).val % 512, by omega⟩ : Fin 512) (i 2))
  rw [emb22] at h
  have e : ix3 (⟨(8 * (i 0).val + (i 1).val / 512) / 8, by omega⟩ : Fin 8)
      (⟨512 * ((8 * (i 0).val + (i 1).val / 512) % 8) + (i 1).val % 512, by omega⟩ : Fin 4096) (i 2) = i := by
    funext a; apply Fin.ext
    match a with
    | ⟨0, _⟩ => show (8 * (i 0).val + (i 1).val / 512) / 8 = (i 0).val; omega
    | ⟨1, _⟩ => show 512 * ((8 * (i 0).val + (i 1).val / 512) % 8) + (i 1).val % 512 = (i 1).val; omega
    | ⟨2, _⟩ => rfl
  have e' := e ▸ h
  exact e'

def at_ik (X : S8x4096x1024.Idx → EReal) (D : S8x1x9216.Idx → EReal) (G : S1x1024.Idx → EReal) (W : S1024x2432.Idx → EReal) (b : Fin 8) (r : Fin 4096) (l : Fin 64) : EReal := dot (rowAt X D G b r) (fun k => W (ix2 k (⟨2176 + l.val, by omega⟩ : Fin 2432)))
def arr_ik (X : S8x4096x1024.Idx → EReal) (D : S8x1x9216.Idx → EReal) (G : S1x1024.Idx → EReal) (W : S1024x2432.Idx → EReal) : S8x4096x64.Idx → EReal := fun i => at_ik X D G W (i 0) (i 1) (i 2)

theorem point_ik (X : S8x4096x1024.Idx → EReal) (D : S8x1x9216.Idx → EReal) (G : S1x1024.Idx → EReal) (W : S1024x2432.Idx → EReal) (t : Fin cfg0.N) (r : Fin 512) (l : Fin 64) :
    (store23 (proj256 (hBlk (blk0 X t) (blk1 D t) (blk2 D t) (blk3 G t)) (cols256 (blk4 W t) 2176 (by omega))) : S1x512x64.Idx → EReal) (ix3 (0 : Fin 1) r l) = at_ik X D G W (⟨t.val / 8, by have := lt64 t; omega⟩ : Fin 8) (⟨512 * (t.val % 8) + r.val, by omega⟩ : Fin 4096) l := by
  refine (store23_at _ r l).trans ((proj_at256 (blk0 X t) (blk1 D t) (blk2 D t) (blk3 G t) (blk4 W t) 2176 (by omega) r (⟨0 + l.val, by omega⟩ : Fin 256)).trans ?_)
  rw [row_blk, col_blk]
  have e : (⟨2176 + (0 + l.val), by omega⟩ : Fin 2432) = ⟨2176 + l.val, by omega⟩ := Fin.ext (by simp only; omega)
  exact congrArg (fun f : Fin 2432 => dot (rowAt X D G (⟨t.val / 8, by have := lt64 t; omega⟩ : Fin 8) (⟨512 * (t.val % 8) + r.val, by omega⟩ : Fin 4096)) (fun k => W (ix2 k f))) e

theorem block_ik (X : S8x4096x1024.Idx → EReal) (D : S8x1x9216.Idx → EReal) (G : S1x1024.Idx → EReal) (W : S1024x2432.Idx → EReal) (t : Fin cfg0.N) :
    (cfg0.win 23).cut (grid0.coords t) (store23 (proj256 (hBlk (blk0 X t) (blk1 D t) (blk2 D t) (blk3 G t)) (cols256 (blk4 W t) 2176 (by omega))) : S1x512x64.Idx → EReal)
      = ((cfg0.win 23).blk t).view.read (Elt Ideal) (arr_ik X D G W) := by
  funext (j : S1x512x64.Idx)
  show (store23 (proj256 (hBlk (blk0 X t) (blk1 D t) (blk2 D t) (blk3 G t)) (cols256 (blk4 W t) 2176 (by omega))) : S1x512x64.Idx → EReal) j = arr_ik X D G W (((cfg0.win 23).blk t).view.emb j)
  rw [emb23]
  have h0 : (j 0).val < 1 := (j 0).isLt
  have h1 : (j 1).val < 512 := (j 1).isLt
  have h2 : (j 2).val < 64 := (j 2).isLt
  have hj : ix3 (0 : Fin 1) (⟨(j 1).val, h1⟩ : Fin 512) (⟨(j 2).val, h2⟩ : Fin 64) = j := by
    funext a; apply Fin.ext
    match a with
    | ⟨0, _⟩ => show 0 = (j 0).val; omega
    | ⟨1, _⟩ => rfl
    | ⟨2, _⟩ => rfl
  rw [← hj]
  exact point_ik X D G W t (⟨(j 1).val, h1⟩ : Fin 512) (⟨(j 2).val, h2⟩ : Fin 64)

theorem covered_ik (i : S8x4096x64.Idx) : ∃ t : Fin cfg0.N, (cfg0.win 23).flush t = true ∧ i ∈ ((cfg0.win 23).blk t).view.set := by
  have h0 : (i 0).val < 8 := (i 0).isLt
  have h1 : (i 1).val < 4096 := (i 1).isLt
  refine ⟨(⟨8 * (i 0).val + (i 1).val / 512, by show _ < 64; omega⟩ : Fin cfg0.N), flush0_23 _, ?_⟩
  have h := ((cfg0.win 23).blk (⟨8 * (i 0).val + (i 1).val / 512, by show _ < 64; omega⟩ : Fin cfg0.N)).view.emb_mem_set
    (ix3 (0 : Fin 1) (⟨(i 1).val % 512, by omega⟩ : Fin 512) (i 2))
  rw [emb23] at h
  have e : ix3 (⟨(8 * (i 0).val + (i 1).val / 512) / 8, by omega⟩ : Fin 8)
      (⟨512 * ((8 * (i 0).val + (i 1).val / 512) % 8) + (i 1).val % 512, by omega⟩ : Fin 4096) (i 2) = i := by
    funext a; apply Fin.ext
    match a with
    | ⟨0, _⟩ => show (8 * (i 0).val + (i 1).val / 512) / 8 = (i 0).val; omega
    | ⟨1, _⟩ => show 512 * ((8 * (i 0).val + (i 1).val / 512) % 8) + (i 1).val % 512 = (i 1).val; omega
    | ⟨2, _⟩ => rfl
  have e' := e ▸ h
  exact e'

variable (m : (ℓ : Loc nD τ sig) → Buf (Elt Ideal) ℓ) (c : Dev nD)

theorem iblk_0 (t : Fin cfg0.N) : iblk m c 0 t = blk0 (V m c main_arg0) t := rfl
theorem iblk_1 (t : Fin cfg0.N) : iblk m c 1 t = blk1 (V m c main_v22) t := rfl
theorem iblk_2 (t : Fin cfg0.N) : iblk m c 2 t = blk2 (V m c main_v22) t := rfl
theorem iblk_3 (t : Fin cfg0.N) : iblk m c 3 t = blk3 (V m c main_v67) t := rfl
theorem iblk_4 (t : Fin cfg0.N) : iblk m c 4 t = blk4 (V m c main_v44) t := rfl
theorem iblk_7 (t : Fin cfg0.N) : iblk m c 7 t = blk7 (V m c main_v64) t := rfl
theorem iblk_9 (t : Fin cfg0.N) : iblk m c 9 t = blk9 (V m c main_v66) t := rfl

theorem flushed_v (t : Fin cfg0.N) :
    (dats m 0 c).flushed 14 t = ((cfg0.win 14).blk t).view.read (Elt Ideal) (arr_v (V m c main_arg0) (V m c main_v22) (V m c main_v67) (V m c main_v44) (V m c main_v64) (V m c main_v66)) := by
  rw [Whole.flushed14 m c t, out_eq14, iblk_0, iblk_1, iblk_2, iblk_3, iblk_4, iblk_7, iblk_9]
  exact block_v (V m c main_arg0) (V m c main_v22) (V m c main_v67) (V m c main_v44) (V m c main_v64) (V m c main_v66) t

/-- The output array after the run. -/
theorem final_v : (dats m 0 c).arrAt 14 cfg0.N = arr_v (V m c main_arg0) (V m c main_v22) (V m c main_v67) (V m c main_v44) (V m c main_v64) (V m c main_v66) :=
  (dats m 0 c).arrAt_eq_of_cover 14 _ (fun t _ => flushed_v m c t) covered_v

theorem flushed_ckv (t : Fin cfg0.N) :
    (dats m 0 c).flushed 15 t = ((cfg0.win 15).blk t).view.read (Elt Ideal) (arr_ckv (V m c main_arg0) (V m c main_v22) (V m c main_v67) (V m c main_v44) (V m c main_v64)) := by
  rw [Whole.flushed15 m c t, out_eq15, iblk_0, iblk_1, iblk_2, iblk_3, iblk_4, iblk_7]
  exact block_ckv (V m c main_arg0) (V m c main_v22) (V m c main_v67) (V m c main_v44) (V m c main_v64) t

/-- The output array after the run. -/
theorem final_ckv : (dats m 0 c).arrAt 15 cfg0.N = arr_ckv (V m c main_arg0) (V m c main_v22) (V m c main_v67) (V m c main_v44) (V m c main_v64) :=
  (dats m 0 c).arrAt_eq_of_cover 15 _ (fun t _ => flushed_ckv m c t) covered_ckv

theorem flushed_dk (t : Fin cfg0.N) :
    (dats m 0 c).flushed 18 t = ((cfg0.win 18).blk t).view.read (Elt Ideal) (arr_dk (V m c main_arg0) (V m c main_v22) (V m c main_v67) (V m c main_v44)) := by
  rw [Whole.flushed18 m c t, out_eq18, iblk_0, iblk_1, iblk_2, iblk_3, iblk_4]
  exact block_dk (V m c main_arg0) (V m c main_v22) (V m c main_v67) (V m c main_v44) t

/-- The output array after the run. -/
theorem final_dk : (dats m 0 c).arrAt 18 cfg0.N = arr_dk (V m c main_arg0) (V m c main_v22) (V m c main_v67) (V m c main_v44) :=
  (dats m 0 c).arrAt_eq_of_cover 18 _ (fun t _ => flushed_dk m c t) covered_dk

theorem flushed_dv (t : Fin cfg0.N) :
    (dats m 0 c).flushed 19 t = ((cfg0.win 19).blk t).view.read (Elt Ideal) (arr_dv (V m c main_arg0) (V m c main_v22) (V m c main_v67) (V m c main_v44)) := by
  rw [Whole.flushed19 m c t, out_eq19, iblk_0, iblk_1, iblk_2, iblk_3, iblk_4]
  exact block_dv (V m c main_arg0) (V m c main_v22) (V m c main_v67) (V m c main_v44) t

/-- The output array after the run. -/
theorem final_dv : (dats m 0 c).arrAt 19 cfg0.N = arr_dv (V m c main_arg0) (V m c main_v22) (V m c main_v67) (V m c main_v44) :=
  (dats m 0 c).arrAt_eq_of_cover 19 _ (fun t _ => flushed_dv m c t) covered_dv

theorem flushed_iq (t : Fin cfg0.N) :
    (dats m 0 c).flushed 22 t = ((cfg0.win 22).blk t).view.read (Elt Ideal) (arr_iq (V m c main_arg0) (V m c main_v22) (V m c main_v67) (V m c main_v44)) := by
  rw [Whole.flushed22 m c t, out_eq22, iblk_0, iblk_1, iblk_2, iblk_3, iblk_4]
  exact block_iq (V m c main_arg0) (V m c main_v22) (V m c main_v67) (V m c main_v44) t

/-- The output array after the run. -/
theorem final_iq : (dats m 0 c).arrAt 22 cfg0.N = arr_iq (V m c main_arg0) (V m c main_v22) (V m c main_v67) (V m c main_v44) :=
  (dats m 0 c).arrAt_eq_of_cover 22 _ (fun t _ => flushed_iq m c t) covered_iq

theorem flushed_ik (t : Fin cfg0.N) :
    (dats m 0 c).flushed 23 t = ((cfg0.win 23).blk t).view.read (Elt Ideal) (arr_ik (V m c main_arg0) (V m c main_v22) (V m c main_v67) (V m c main_v44)) := by
  rw [Whole.flushed23 m c t, out_eq23, iblk_0, iblk_1, iblk_2, iblk_3, iblk_4]
  exact block_ik (V m c main_arg0) (V m c main_v22) (V m c main_v67) (V m c main_v44) t

/-- The output array after the run. -/
theorem final_ik : (dats m 0 c).arrAt 23 cfg0.N = arr_ik (V m c main_arg0) (V m c main_v22) (V m c main_v67) (V m c main_v44) :=
  (dats m 0 c).arrAt_eq_of_cover 23 _ (fun t _ => flushed_ik m c t) covered_ik

end Cert.Kernel4Ideal.Hand
-- ==== Proof.Pack4.lean ====
module

public import proofs.«01_k».proof.Proof.Array4

@[expose] public section

/-! The arrays the projection's grid reads, as the host's operations lay out the arguments. -/

set_option maxRecDepth 16384

noncomputable section

namespace Cert.Kernel4Ideal.Hand

open Cert.Kernel4Ideal Cert.Kernel4Ideal.Gen Cert.Kernel4Ideal.Whole Idealize.ShloMosaic Idealize.ShloMosaic.TcCoe Idealize.SL.Sem
open Cert.Proof.Half

def modArr (d : FVec Ideal S8x9216 .f32) : FVec Ideal S8x1x9216 .f32 := shapeCast S8x1x9216 d shapeCasts_S8x9216_S8x1x9216
def gainArr (g : FVec Ideal S1024 .f32) : FVec Ideal S1x1024 .f32 := shapeCast S1x1024 g shapeCasts_S1024_S1x1024
def narrowGain (g : FVec Ideal S256 .f32) : FVec Ideal S1x256 .f32 := shapeCast S1x256 g shapeCasts_S256_S1x256
def valCols (w : FVec Ideal S256x8x64 .f32) : FVec Ideal S256x512 .bf16 := truncf .bf16 (shapeCast S256x512 w shapeCasts_S256x8x64_S256x512) bitsLt_bf16_f32

/-- The twelve column groups side by side. -/
def groups (cq : FVec Ideal S1024x384 .f32) (ckv : FVec Ideal S1024x256 .f32) (p2 : FVec Ideal S1024x128 .f32) (p3 : FVec Ideal S1024x128 .f32) (dq : FVec Ideal S1024x512 .f32) (dk : FVec Ideal S1024x128 .f32) (dv : FVec Ideal S1024x128 .f32) (iq : FVec Ideal S1024x512 .f32) (ik : FVec Ideal S1024x64 .f32) (ik2 : FVec Ideal S1024x64 .f32) (iw : FVec Ideal S1024x8 .f32) (z : FVec Ideal S1024x120 .f32) : FVec Ideal S1024x2432 .f32 :=
  concatenate S1024x2432 1 [⟨S1024x384, cq⟩, ⟨S1024x256, ckv⟩, ⟨S1024x128, p2⟩, ⟨S1024x128, p3⟩, ⟨S1024x512, dq⟩, ⟨S1024x128, dk⟩, ⟨S1024x128, dv⟩, ⟨S1024x512, iq⟩, ⟨S1024x64, ik⟩, ⟨S1024x64, ik2⟩, ⟨S1024x8, iw⟩, ⟨S1024x120, z⟩] concatenates_S1024x384_S1024x256_S1024x128_S1024x128_S1024x512_S1024x128_S1024x128_S1024x512_S1024x64_S1024x64_S1024x8_S1024x120_S1024x2432_d1

def zeros32 : FVec Ideal S1024x32 .f32 := broadcastInDim S1024x32 ![] bcast_S_S1024x32 (constant S_ .f32 0x00000000#32)
def zeros64 : FVec Ideal S1024x64 .f32 := broadcastInDim S1024x64 ![] bcast_S_S1024x64 (constant S_ .f32 0x00000000#32)
def zeros120 : FVec Ideal S1024x120 .f32 := broadcastInDim S1024x120 ![] bcast_S_S1024x120 (constant S_ .f32 0x00000000#32)

/-- Thirty-two columns set into a group of 128, zeros about them. -/
def padded (a : FVec Ideal S1024x32 .f32) : FVec Ideal S1024x128 .f32 :=
  concatenate S1024x128 1 [⟨S1024x64, zeros64⟩, ⟨S1024x32, a⟩, ⟨S1024x32, zeros32⟩] concatenates_S1024x64_S1024x32_S1024x32_S1024x128_d1

/-- The rotated columns: the second half negated, then the first. -/
def rotated (a : FVec Ideal S1024x32 .f32) : FVec Ideal S1024x32 .f32 :=
  concatenate S1024x32 1 [⟨S1024x16, Host.negf (extractStridedSlice S1024x16 ![0, 16] a slices_S1024x32_S1024x16_0_16)⟩,
    ⟨S1024x16, extractStridedSlice S1024x16 ![0, 0] a slices_S1024x32_S1024x16_0_0⟩] concatenates_S1024x16_S1024x16_S1024x32_d1

/-- The projection's weight as the grid reads it. -/
def packW (w : FVec Ideal S1024x2024 .f32) : FVec Ideal S1024x2432 .bf16 :=
  truncf .bf16 (groups (extractStridedSlice S1024x384 ![0, 0] w slices_S1024x2024_S1024x384_0_0) (extractStridedSlice S1024x256 ![0, 384] w slices_S1024x2024_S1024x256_0_384) (padded (extractStridedSlice S1024x32 ![0, 640] w slices_S1024x2024_S1024x32_0_640)) (padded (rotated (extractStridedSlice S1024x32 ![0, 640] w slices_S1024x2024_S1024x32_0_640))) (extractStridedSlice S1024x512 ![0, 672] w slices_S1024x2024_S1024x512_0_672) (extractStridedSlice S1024x128 ![0, 1184] w slices_S1024x2024_S1024x128_0_1184) (extractStridedSlice S1024x128 ![0, 1312] w slices_S1024x2024_S1024x128_0_1312) (extractStridedSlice S1024x512 ![0, 1440] w slices_S1024x2024_S1024x512_0_1440) (extractStridedSlice S1024x64 ![0, 1952] w slices_S1024x2024_S1024x64_0_1952) (extractStridedSlice S1024x64 ![0, 1952] w slices_S1024x2024_S1024x64_0_1952) (extractStridedSlice S1024x8 ![0, 2016] w slices_S1024x2024_S1024x8_0_2016) zeros120) bitsLt_bf16_f32

theorem modArr_at (d : FVec Ideal S8x9216 .f32) (b : Fin 8) (l : Fin 9216) : modArr d (ix3 b (0 : Fin 1) l) = d (ix2 b l) := by
  pointwise [modArr]
theorem gainArr_at (g : FVec Ideal S1024 .f32) (l : Fin 1024) : gainArr g (ix2 (0 : Fin 1) l) = g (ix1 l) := by
  pointwise [gainArr]
theorem narrowGain_at (g : FVec Ideal S256 .f32) (l : Fin 256) : narrowGain g (ix2 (0 : Fin 1) l) = g (ix1 l) := by
  pointwise [narrowGain]
theorem valCols_at (w : FVec Ideal S256x8x64 .f32) (q : Fin 256) (l : Fin 512) :
    valCols w (ix2 q l) = w (ix3 q (⟨l.val / 64, by omega⟩ : Fin 8) (⟨l.val % 64, by omega⟩ : Fin 64)) := by
  pointwise [valCols]

theorem groups_at (cq : FVec Ideal S1024x384 .f32) (ckv : FVec Ideal S1024x256 .f32) (p2 : FVec Ideal S1024x128 .f32) (p3 : FVec Ideal S1024x128 .f32) (dq : FVec Ideal S1024x512 .f32) (dk : FVec Ideal S1024x128 .f32) (dv : FVec Ideal S1024x128 .f32) (iq : FVec Ideal S1024x512 .f32) (ik : FVec Ideal S1024x64 .f32) (ik2 : FVec Ideal S1024x64 .f32) (iw : FVec Ideal S1024x8 .f32) (z : FVec Ideal S1024x120 .f32) (k : Fin 1024) (j : Fin 2432) :
    groups cq ckv p2 p3 dq dk dv iq ik ik2 iw z (ix2 k j) = if h0 : j.val < 384 then cq (ix2 k (⟨j.val, h0⟩ : Fin 384))
      else if h1 : j.val - 384 < 256 then ckv (ix2 k (⟨j.val - 384, h1⟩ : Fin 256))
      else if h2 : j.val - 384 - 256 < 128 then p2 (ix2 k (⟨j.val - 384 - 256, h2⟩ : Fin 128))
      else if h3 : j.val - 384 - 256 - 128 < 128 then p3 (ix2 k (⟨j.val - 384 - 256 - 128, h3⟩ : Fin 128))
      else if h4 : j.val - 384 - 256 - 128 - 128 < 512 then dq (ix2 k (⟨j.val - 384 - 256 - 128 - 128, h4⟩ : Fin 512))
      else if h5 : j.val - 384 - 256 - 128 - 128 - 512 < 128 then dk (ix2 k (⟨j.val - 384 - 256 - 128 - 128 - 512, h5⟩ : Fin 128))
      else if h6 : j.val - 384 - 256 - 128 - 128 - 512 - 128 < 128 then dv (ix2 k (⟨j.val - 384 - 256 - 128 - 128 - 512 - 128, h6⟩ : Fin 128))
      else if h7 : j.val - 384 - 256 - 128 - 128 - 512 - 128 - 128 < 512 then iq (ix2 k (⟨j.val - 384 - 256 - 128 - 128 - 512 - 128 - 128, h7⟩ : Fin 512))
      else if h8 : j.val - 384 - 256 - 128 - 128 - 512 - 128 - 128 - 512 < 64 then ik (ix2 k (⟨j.val - 384 - 256 - 128 - 128 - 512 - 128 - 128 - 512, h8⟩ : Fin 64))
      else if h9 : j.val - 384 - 256 - 128 - 128 - 512 - 128 - 128 - 512 - 64 < 64 then ik2 (ix2 k (⟨j.val - 384 - 256 - 128 - 128 - 512 - 128 - 128 - 512 - 64, h9⟩ : Fin 64))
      else if h10 : j.val - 384 - 256 - 128 - 128 - 512 - 128 - 128 - 512 - 64 - 64 < 8 then iw (ix2 k (⟨j.val - 384 - 256 - 128 - 128 - 512 - 128 - 128 - 512 - 64 - 64, h10⟩ : Fin 8))
      else z (ix2 k (⟨j.val - 384 - 256 - 128 - 128 - 512 - 128 - 128 - 512 - 64 - 64 - 8, by omega⟩ : Fin 120)) := by
  pointwise [groups]

theorem group_ckv (cq : FVec Ideal S1024x384 .f32) (ckv : FVec Ideal S1024x256 .f32) (p2 : FVec Ideal S1024x128 .f32) (p3 : FVec Ideal S1024x128 .f32) (dq : FVec Ideal S1024x512 .f32) (dk : FVec Ideal S1024x128 .f32) (dv : FVec Ideal S1024x128 .f32) (iq : FVec Ideal S1024x512 .f32) (ik : FVec Ideal S1024x64 .f32) (ik2 : FVec Ideal S1024x64 .f32) (iw : FVec Ideal S1024x8 .f32) (z : FVec Ideal S1024x120 .f32) (k : Fin 1024) (l : Fin 256) :
    groups cq ckv p2 p3 dq dk dv iq ik ik2 iw z (ix2 k (⟨384 + l.val, by omega⟩ : Fin 2432)) = ckv (ix2 k l) := by
  rw [groups_at, dif_neg (by simp only; omega), dif_pos (by simp only; omega)]
  refine congrArg (fun q : Fin 256 => ckv (ix2 k q)) (Fin.ext ?_)
  simp only
  omega

theorem packW_ckv (w : FVec Ideal S1024x2024 .f32) (k : Fin 1024) (l : Fin 256) :
    packW w (ix2 k (⟨384 + l.val, by omega⟩ : Fin 2432)) = w (ix2 k (⟨384 + l.val, by omega⟩ : Fin 2024)) := by
  refine Eq.trans (group_ckv _ _ _ _ _ _ _ _ _ _ _ _ k l) ?_
  pointwise

theorem group_dk (cq : FVec Ideal S1024x384 .f32) (ckv : FVec Ideal S1024x256 .f32) (p2 : FVec Ideal S1024x128 .f32) (p3 : FVec Ideal S1024x128 .f32) (dq : FVec Ideal S1024x512 .f32) (dk : FVec Ideal S1024x128 .f32) (dv : FVec Ideal S1024x128 .f32) (iq : FVec Ideal S1024x512 .f32) (ik : FVec Ideal S1024x64 .f32) (ik2 : FVec Ideal S1024x64 .f32) (iw : FVec Ideal S1024x8 .f32) (z : FVec Ideal S1024x120 .f32) (k : Fin 1024) (l : Fin 128) :
    groups cq ckv p2 p3 dq dk dv iq ik ik2 iw z (ix2 k (⟨1408 + l.val, by omega⟩ : Fin 2432)) = dk (ix2 k l) := by
  rw [groups_at, dif_neg (by simp only; omega), dif_neg (by simp only; omega), dif_neg (by simp only; omega), dif_neg (by simp only; omega), dif_neg (by simp only; omega), dif_pos (by simp only; omega)]
  refine congrArg (fun q : Fin 128 => dk (ix2 k q)) (Fin.ext ?_)
  simp only
  omega

theorem packW_dk (w : FVec Ideal S1024x2024 .f32) (k : Fin 1024) (l : Fin 128) :
    packW w (ix2 k (⟨1408 + l.val, by omega⟩ : Fin 2432)) = w (ix2 k (⟨1184 + l.val, by omega⟩ : Fin 2024)) := by
  refine Eq.trans (group_dk _ _ _ _ _ _ _ _ _ _ _ _ k l) ?_
  pointwise

theorem group_dv (cq : FVec Ideal S1024x384 .f32) (ckv : FVec Ideal S1024x256 .f32) (p2 : FVec Ideal S1024x128 .f32) (p3 : FVec Ideal S1024x128 .f32) (dq : FVec Ideal S1024x512 .f32) (dk : FVec Ideal S1024x128 .f32) (dv : FVec Ideal S1024x128 .f32) (iq : FVec Ideal S1024x512 .f32) (ik : FVec Ideal S1024x64 .f32) (ik2 : FVec Ideal S1024x64 .f32) (iw : FVec Ideal S1024x8 .f32) (z : FVec Ideal S1024x120 .f32) (k : Fin 1024) (l : Fin 128) :
    groups cq ckv p2 p3 dq dk dv iq ik ik2 iw z (ix2 k (⟨1536 + l.val, by omega⟩ : Fin 2432)) = dv (ix2 k l) := by
  rw [groups_at, dif_neg (by simp only; omega), dif_neg (by simp only; omega), dif_neg (by simp only; omega), dif_neg (by simp only; omega), dif_neg (by simp only; omega), dif_neg (by simp only; omega), dif_pos (by simp only; omega)]
  refine congrArg (fun q : Fin 128 => dv (ix2 k q)) (Fin.ext ?_)
  simp only
  omega

theorem packW_dv (w : FVec Ideal S1024x2024 .f32) (k : Fin 1024) (l : Fin 128) :
    packW w (ix2 k (⟨1536 + l.val, by omega⟩ : Fin 2432)) = w (ix2 k (⟨1312 + l.val, by omega⟩ : Fin 2024)) := by
  refine Eq.trans (group_dv _ _ _ _ _ _ _ _ _ _ _ _ k l) ?_
  pointwise

theorem group_iq (cq : FVec Ideal S1024x384 .f32) (ckv : FVec Ideal S1024x256 .f32) (p2 : FVec Ideal S1024x128 .f32) (p3 : FVec Ideal S1024x128 .f32) (dq : FVec Ideal S1024x512 .f32) (dk : FVec Ideal S1024x128 .f32) (dv : FVec Ideal S1024x128 .f32) (iq : FVec Ideal S1024x512 .f32) (ik : FVec Ideal S1024x64 .f32) (ik2 : FVec Ideal S1024x64 .f32) (iw : FVec Ideal S1024x8 .f32) (z : FVec Ideal S1024x120 .f32) (k : Fin 1024) (l : Fin 512) :
    groups cq ckv p2 p3 dq dk dv iq ik ik2 iw z (ix2 k (⟨1664 + l.val, by omega⟩ : Fin 2432)) = iq (ix2 k l) := by
  rw [groups_at, dif_neg (by simp only; omega), dif_neg (by simp only; omega), dif_neg (by simp only; omega), dif_neg (by simp only; omega), dif_neg (by simp only; omega), dif_neg (by simp only; omega), dif_neg (by simp only; omega), dif_pos (by simp only; omega)]
  refine congrArg (fun q : Fin 512 => iq (ix2 k q)) (Fin.ext ?_)
  simp only
  omega

theorem packW_iq (w : FVec Ideal S1024x2024 .f32) (k : Fin 1024) (l : Fin 512) :
    packW w (ix2 k (⟨1664 + l.val, by omega⟩ : Fin 2432)) = w (ix2 k (⟨1440 + l.val, by omega⟩ : Fin 2024)) := by
  refine Eq.trans (group_iq _ _ _ _ _ _ _ _ _ _ _ _ k l) ?_
  pointwise

theorem group_ik (cq : FVec Ideal S1024x384 .f32) (ckv : FVec Ideal S1024x256 .f32) (p2 : FVec Ideal S1024x128 .f32) (p3 : FVec Ideal S1024x128 .f32) (dq : FVec Ideal S1024x512 .f32) (dk : FVec Ideal S1024x128 .f32) (dv : FVec Ideal S1024x128 .f32) (iq : FVec Ideal S1024x512 .f32) (ik : FVec Ideal S1024x64 .f32) (ik2 : FVec Ideal S1024x64 .f32) (iw : FVec Ideal S1024x8 .f32) (z : FVec Ideal S1024x120 .f32) (k : Fin 1024) (l : Fin 64) :
    groups cq ckv p2 p3 dq dk dv iq ik ik2 iw z (ix2 k (⟨2176 + l.val, by omega⟩ : Fin 2432)) = ik (ix2 k l) := by
  rw [groups_at, dif_neg (by simp only; omega), dif_neg (by simp only; omega), dif_neg (by simp only; omega), dif_neg (by simp only; omega), dif_neg (by simp only; omega), dif_neg (by simp only; omega), dif_neg (by simp only; omega), dif_neg (by simp only; omega), dif_pos (by simp only; omega)]
  refine congrArg (fun q : Fin 64 => ik (ix2 k q)) (Fin.ext ?_)
  simp only
  omega

theorem packW_ik (w : FVec Ideal S1024x2024 .f32) (k : Fin 1024) (l : Fin 64) :
    packW w (ix2 k (⟨2176 + l.val, by omega⟩ : Fin 2432)) = w (ix2 k (⟨1952 + l.val, by omega⟩ : Fin 2024)) := by
  refine Eq.trans (group_ik _ _ _ _ _ _ _ _ _ _ _ _ k l) ?_
  pointwise

theorem lanes_mod (d : FVec Ideal S8x9216 .f32) (b : Fin 8) (o : Nat) (h : o + 1024 ≤ 9216) :
    lanes (modArr d) b o h = fun l => d (ix2 b (⟨o + l.val, by omega⟩ : Fin 9216)) := funext fun l => modArr_at d b _
theorem gain_row (g : FVec Ideal S1024 .f32) : (fun k => gainArr g (ix2 (0 : Fin 1) k)) = fun k => g (ix1 k) := funext fun k => gainArr_at g k

variable (m : (ℓ : Loc nD τ sig) → Buf (Elt Ideal) ℓ) (c : Dev nD)

theorem entry_x : V m c main_arg0 = (m ((c : Thread nD τ).loc main_arg0) : FVec Ideal S8x4096x1024 .f32) := by
  show StableHlo.after hostOps0 _ (Proc.devRef .tc main_arg0) = _
  after_results

theorem entry_mod : V m c main_v22 = modArr (m ((c : Thread nD τ).loc main_arg1) : FVec Ideal S8x9216 .f32) := by
  show StableHlo.after hostOps0 _ (Proc.devRef .tc main_v22) = _
  after_results
  rfl

theorem entry_gain : V m c main_v67 = gainArr (m ((c : Thread nD τ).loc main_arg2) : FVec Ideal S1024 .f32) := by
  show StableHlo.after hostOps0 _ (Proc.devRef .tc main_v67) = _
  after_results
  rfl

theorem entry_cols : V m c main_v44 = packW (m ((c : Thread nD τ).loc main_arg3) : FVec Ideal S1024x2024 .f32) := by
  show StableHlo.after hostOps0 _ (Proc.devRef .tc main_v44) = _
  after_results
  rfl

theorem entry_narrow : V m c main_v64 = narrowGain (m ((c : Thread nD τ).loc main_arg6) : FVec Ideal S256 .f32) := by
  show StableHlo.after hostOps0 _ (Proc.devRef .tc main_v64) = _
  after_results
  rfl

theorem entry_val : V m c main_v66 = valCols (m ((c : Thread nD τ).loc main_arg8) : FVec Ideal S256x8x64 .f32) := by
  show StableHlo.after hostOps0 _ (Proc.devRef .tc main_v66) = _
  after_results
  rfl

end Cert.Kernel4Ideal.Hand
-- ==== Proof.Ref4.lean ====
module

public import proofs.«01_k».proof.Proof.Gen.Reference4Ideal.Run
public import proofs.«01_k».proof.Proof.Narrow
public import Idealize.ShloMosaic.Lib.Pointwise

@[expose] public section

/-! The reference of the projection, each result read at an index. -/

set_option maxRecDepth 16384

noncomputable section

namespace Cert.Reference4Ideal.Hand

open Cert.Reference4Ideal Cert.Reference4Ideal.Gen Cert.Reference4Ideal.Value Idealize.ShloMosaic Idealize.ShloMosaic.TcCoe
open Cert.Proof.Half

/-! The results' terms in stages. -/

def rootArr (x : FVec Ideal S8x4096x1024 .f32) : FVec Ideal S8x4096x1 .f32 :=
  Host.rsqrt (addf (Host.divf (broadcastInDim S8x4096x1 ![0, 1] bcast_S8x4096_S8x4096x1_0_1
      (Host.reduceAdd (mulf x x) (constant S_ .f32 0x00000000#32) reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x358637BD#32)))

def normArr (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2 (rootArr x)))
    (broadcastInDim S8x4096x1024 ![0, 1, 2] bcast_S1x1x1024_S8x4096x1024_0_1_2 (broadcastInDim S1x1x1024 ![2] bcast_S1024_S1x1x1024_2 g))

def spreadMod (s : FVec Ideal S8x1x1024 .f32) : FVec Ideal S8x4096x1024 .f32 :=
  broadcastInDim S8x4096x1024 ![0, 1, 2] bcast_S8x1x1024_S8x4096x1024_0_1_2 s

def modRow (M : FVec Ideal S8x9216 .f32) : FVec Ideal S8x1x9216 .f32 := broadcastInDim S8x1x9216 ![0, 2] bcast_S8x9216_S8x1x9216_0_2 M

def enterArr (n : FVec Ideal S8x4096x1024 .f32) (sc sh : FVec Ideal S8x1x1024 .f32) : FVec Ideal S8x4096x1024 .f32 :=
  addf (mulf n (spreadMod (addf (broadcastInDim S8x1x1024 ![] bcast_S_S8x1x1024 (constant S_ .f32 0x3F800000#32)) sc))) (spreadMod sh)

def hidden4 (X : FVec Ideal S8x4096x1024 .f32) (D : FVec Ideal S8x9216 .f32) (G : FVec Ideal S1024 .f32) : FVec Ideal S8x4096x1024 .f32 :=
  enterArr (normArr X G) (extractStridedSlice S8x1x1024 ![0, 0, 4096] (modRow D) slices_S8x1x9216_S8x1x1024_0_0_4096) (extractStridedSlice S8x1x1024 ![0, 0, 3072] (modRow D) slices_S8x1x9216_S8x1x1024_0_0_3072)

def allCols (h : FVec Ideal S8x4096x1024 .f32) (w : FVec Ideal S1024x2024 .f32) : FVec Ideal S8x4096x2024 .f32 :=
  Host.dotGeneral dot_S8x4096x1024_S1024x2024_S8x4096x2024_2_0_01_1_n_n none h w

def latentRoot (y : FVec Ideal S8x4096x256 .f32) : FVec Ideal S8x4096x1 .f32 :=
  Host.rsqrt (addf (Host.divf (broadcastInDim S8x4096x1 ![0, 1] bcast_S8x4096_S8x4096x1_0_1
      (Host.reduceAdd (mulf y y) (constant S_ .f32 0x00000000#32) reducesTo_S8x4096x256_S8x4096_d2 h_S_))
    (broadcastInDim S8x4096x1 ![] bcast_S_S8x4096x1 (constant S_ .f32 0x43800000#32)))
    (broadcastInDim S8x4096x1 ![] bcast_S_S8x4096x1 (constant S_ .f32 0x358637BD#32)))

def latentNorm (y : FVec Ideal S8x4096x256 .f32) (g : FVec Ideal S256 .f32) : FVec Ideal S8x4096x256 .f32 :=
  mulf (mulf y (broadcastInDim S8x4096x256 ![0, 1, 2] bcast_S8x4096x1_S8x4096x256_0_1_2 (latentRoot y)))
    (broadcastInDim S8x4096x256 ![0, 1, 2] bcast_S1x1x256_S8x4096x256_0_1_2 (broadcastInDim S1x1x256 ![2] bcast_S256_S1x1x256_2 g))

def valArr (y : FVec Ideal S8x4096x256 .f32) (w : FVec Ideal S256x8x64 .f32) : FVec Ideal S8x4096x512 .bf16 :=
  truncf .bf16 (shapeCast S8x4096x512 (Host.dotGeneral dot_S8x4096x256_S256x8x64_S8x4096x8x64_2_0_01_12_n_n none y w) shapeCasts_S8x4096x8x64_S8x4096x512) bitsLt_bf16_f32

def cut_ckv (y : FVec Ideal S8x4096x2024 .f32) : FVec Ideal S8x4096x256 .f32 :=
  extractStridedSlice S8x4096x256 ![0, 0, 384] y slices_S8x4096x2024_S8x4096x256_0_0_384

def cut_dk (y : FVec Ideal S8x4096x2024 .f32) : FVec Ideal S8x4096x128 .f32 :=
  extractStridedSlice S8x4096x128 ![0, 0, 1184] y slices_S8x4096x2024_S8x4096x128_0_0_1184

def cut_dv (y : FVec Ideal S8x4096x2024 .f32) : FVec Ideal S8x4096x128 .f32 :=
  extractStridedSlice S8x4096x128 ![0, 0, 1312] y slices_S8x4096x2024_S8x4096x128_0_0_1312

def cut_iq (y : FVec Ideal S8x4096x2024 .f32) : FVec Ideal S8x4096x512 .f32 :=
  extractStridedSlice S8x4096x512 ![0, 0, 1440] y slices_S8x4096x2024_S8x4096x512_0_0_1440

def cut_ik (y : FVec Ideal S8x4096x2024 .f32) : FVec Ideal S8x4096x64 .f32 :=
  extractStridedSlice S8x4096x64 ![0, 0, 1952] y slices_S8x4096x2024_S8x4096x64_0_0_1952

def result_ckv (X : FVec Ideal S8x4096x1024 .f32) (D : FVec Ideal S8x9216 .f32) (G : FVec Ideal S1024 .f32) (W : FVec Ideal S1024x2024 .f32) (K : FVec Ideal S256 .f32) : FVec Ideal S8x4096x256 .f32 := latentNorm (cut_ckv (allCols (hidden4 X D G) W)) K
def result_v (X : FVec Ideal S8x4096x1024 .f32) (D : FVec Ideal S8x9216 .f32) (G : FVec Ideal S1024 .f32) (W : FVec Ideal S1024x2024 .f32) (K : FVec Ideal S256 .f32) (Wv : FVec Ideal S256x8x64 .f32) : FVec Ideal S8x4096x512 .bf16 := valArr (result_ckv X D G W K) Wv
def result_dk (X : FVec Ideal S8x4096x1024 .f32) (D : FVec Ideal S8x9216 .f32) (G : FVec Ideal S1024 .f32) (W : FVec Ideal S1024x2024 .f32) : FVec Ideal S8x4096x128 .f32 := cut_dk (allCols (hidden4 X D G) W)
def result_dv (X : FVec Ideal S8x4096x1024 .f32) (D : FVec Ideal S8x9216 .f32) (G : FVec Ideal S1024 .f32) (W : FVec Ideal S1024x2024 .f32) : FVec Ideal S8x4096x128 .f32 := cut_dv (allCols (hidden4 X D G) W)
def result_iq (X : FVec Ideal S8x4096x1024 .f32) (D : FVec Ideal S8x9216 .f32) (G : FVec Ideal S1024 .f32) (W : FVec Ideal S1024x2024 .f32) : FVec Ideal S8x4096x512 .bf16 := truncf .bf16 (cut_iq (allCols (hidden4 X D G) W)) bitsLt_bf16_f32
def result_ik (X : FVec Ideal S8x4096x1024 .f32) (D : FVec Ideal S8x9216 .f32) (G : FVec Ideal S1024 .f32) (W : FVec Ideal S1024x2024 .f32) : FVec Ideal S8x4096x64 .f32 := cut_ik (allCols (hidden4 X D G) W)

theorem res_ckv (m : (ℓ : Loc nD τ sig) → Buf (Elt Ideal) ℓ) (c : Dev nD) : res_main_v51 m c = result_ckv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) := rfl

theorem res_v (m : (ℓ : Loc nD τ sig) → Buf (Elt Ideal) ℓ) (c : Dev nD) : res_main_v54 m c = result_v (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg8)) := rfl

/-! Each stage at an index. -/

theorem one_bits : Ideal.ofBits FTy.f32 0x3F800000#32 = 1 := by
  simp [Ideal.ofBits, Ideal.ieee]
  rw [← EReal.coe_mul]
  norm_num

theorem rootArr_at (x : FVec Ideal S8x4096x1024 .f32) (b : Fin 8) (r : Fin 4096) :
    rootArr x (ix3 b r (0 : Fin 1)) = root fun k => x (ix3 b r k) := by
  unfold root
  pointwise [rootArr]

theorem normArr_at (x : FVec Ideal S8x4096x1024 .f32) (g : FVec Ideal S1024 .f32) (b : Fin 8) (r : Fin 4096) (l : Fin 1024) :
    normArr x g (ix3 b r l) = normed (fun k => x (ix3 b r k)) (fun k => g (ix1 k)) l := by
  unfold normed
  rw [← rootArr_at]
  pointwise [normArr]

theorem spreadMod_at (s : FVec Ideal S8x1x1024 .f32) (b : Fin 8) (r : Fin 4096) (l : Fin 1024) :
    spreadMod s (ix3 b r l) = s (ix3 b (0 : Fin 1) l) := by
  pointwise [spreadMod]

theorem modRow_at (M : FVec Ideal S8x9216 .f32) (b : Fin 8) (l : Fin 9216) : modRow M (ix3 b (0 : Fin 1) l) = M (ix2 b l) := by
  pointwise [modRow]

theorem enterArr_at (n : FVec Ideal S8x4096x1024 .f32) (sc sh : FVec Ideal S8x1x1024 .f32) (b : Fin 8) (r : Fin 4096) (l : Fin 1024) :
    enterArr n sc sh (ix3 b r l) = (n (ix3 b r l) * (1 + sc (ix3 b (0 : Fin 1) l)) + sh (ix3 b (0 : Fin 1) l) : EReal) := by
  pointwise [enterArr, spreadMod]

theorem slice_3072_at (M : FVec Ideal S8x9216 .f32) (b : Fin 8) (l : Fin 1024) :
    extractStridedSlice S8x1x1024 ![0, 0, 3072] (modRow M) slices_S8x1x9216_S8x1x1024_0_0_3072 (ix3 b (0 : Fin 1) l) = M (ix2 b (⟨3072 + l.val, by omega⟩ : Fin 9216)) := by
  refine Eq.trans ?_ (modRow_at M b _)
  pointwise

theorem slice_4096_at (M : FVec Ideal S8x9216 .f32) (b : Fin 8) (l : Fin 1024) :
    extractStridedSlice S8x1x1024 ![0, 0, 4096] (modRow M) slices_S8x1x9216_S8x1x1024_0_0_4096 (ix3 b (0 : Fin 1) l) = M (ix2 b (⟨4096 + l.val, by omega⟩ : Fin 9216)) := by
  refine Eq.trans ?_ (modRow_at M b _)
  pointwise

/-- The row of the residual stream that enters the projection at batch `b`, position `r`. -/
def row4 (X : FVec Ideal S8x4096x1024 .f32) (D : FVec Ideal S8x9216 .f32) (G : FVec Ideal S1024 .f32) (b : Fin 8) (r : Fin 4096) : Fin 1024 → EReal :=
  entered (fun k => X (ix3 b r k)) (fun k => G (ix1 k)) (fun k => D (ix2 b (⟨4096 + k.val, by omega⟩ : Fin 9216))) (fun k => D (ix2 b (⟨3072 + k.val, by omega⟩ : Fin 9216)))

theorem hidden4_at (X : FVec Ideal S8x4096x1024 .f32) (D : FVec Ideal S8x9216 .f32) (G : FVec Ideal S1024 .f32) (b : Fin 8) (r : Fin 4096) (l : Fin 1024) :
    hidden4 X D G (ix3 b r l) = row4 X D G b r l := by
  unfold hidden4 row4 entered
  rw [enterArr_at, normArr_at, slice_4096_at, slice_3072_at]

theorem allCols_sum (h : FVec Ideal S8x4096x1024 .f32) (w : FVec Ideal S1024x2024 .f32) (b : Fin 8) (r : Fin 4096) (f : Fin 2024) :
    allCols h w (ix3 b r f) = (∑ k : Fin 1024, h (ix3 b r k) * w (ix2 k f) : EReal) := by
  pointwise [allCols]

theorem allCols_at (X : FVec Ideal S8x4096x1024 .f32) (D : FVec Ideal S8x9216 .f32) (G : FVec Ideal S1024 .f32) (W : FVec Ideal S1024x2024 .f32) (b : Fin 8) (r : Fin 4096) (f : Fin 2024) :
    allCols (hidden4 X D G) W (ix3 b r f) = dot (row4 X D G b r) (fun k => W (ix2 k f)) := by
  unfold dot
  rw [allCols_sum]
  exact Finset.sum_congr rfl fun k _ => congrArg (fun s : EReal => s * W (ix2 k f)) (hidden4_at X D G b r k)

theorem latentRoot_at (y : FVec Ideal S8x4096x256 .f32) (b : Fin 8) (r : Fin 4096) :
    latentRoot y (ix3 b r (0 : Fin 1)) = narrowRoot fun k => y (ix3 b r k) := by
  unfold narrowRoot
  pointwise [latentRoot]

theorem latentNorm_at (y : FVec Ideal S8x4096x256 .f32) (g : FVec Ideal S256 .f32) (b : Fin 8) (r : Fin 4096) (l : Fin 256) :
    latentNorm y g (ix3 b r l) = narrowNormed (fun k => y (ix3 b r k)) (fun k => g (ix1 k)) l := by
  unfold narrowNormed
  rw [← latentRoot_at]
  pointwise [latentNorm]

theorem valArr_at (y : FVec Ideal S8x4096x256 .f32) (w : FVec Ideal S256x8x64 .f32) (b : Fin 8) (r : Fin 4096) (l : Fin 512) :
    valArr y w (ix3 b r l) = dot (fun q : Fin 256 => y (ix3 b r q)) (fun q => w (ix3 q (⟨l.val / 64, by omega⟩ : Fin 8) (⟨l.val % 64, by omega⟩ : Fin 64))) := by
  unfold dot
  pointwise [valArr]

theorem cut_ckv_at (y : FVec Ideal S8x4096x2024 .f32) (b : Fin 8) (r : Fin 4096) (l : Fin 256) :
    cut_ckv y (ix3 b r l) = y (ix3 b r (⟨384 + l.val, by omega⟩ : Fin 2024)) := by
  pointwise [cut_ckv]

theorem cut_dk_at (y : FVec Ideal S8x4096x2024 .f32) (b : Fin 8) (r : Fin 4096) (l : Fin 128) :
    cut_dk y (ix3 b r l) = y (ix3 b r (⟨1184 + l.val, by omega⟩ : Fin 2024)) := by
  pointwise [cut_dk]

theorem cut_dv_at (y : FVec Ideal S8x4096x2024 .f32) (b : Fin 8) (r : Fin 4096) (l : Fin 128) :
    cut_dv y (ix3 b r l) = y (ix3 b r (⟨1312 + l.val, by omega⟩ : Fin 2024)) := by
  pointwise [cut_dv]

theorem cut_iq_at (y : FVec Ideal S8x4096x2024 .f32) (b : Fin 8) (r : Fin 4096) (l : Fin 512) :
    cut_iq y (ix3 b r l) = y (ix3 b r (⟨1440 + l.val, by omega⟩ : Fin 2024)) := by
  pointwise [cut_iq]

theorem cut_ik_at (y : FVec Ideal S8x4096x2024 .f32) (b : Fin 8) (r : Fin 4096) (l : Fin 64) :
    cut_ik y (ix3 b r l) = y (ix3 b r (⟨1952 + l.val, by omega⟩ : Fin 2024)) := by
  pointwise [cut_ik]

/-! The results at an index. -/

theorem result_dk_at (X : FVec Ideal S8x4096x1024 .f32) (D : FVec Ideal S8x9216 .f32) (G : FVec Ideal S1024 .f32) (W : FVec Ideal S1024x2024 .f32) (b : Fin 8) (r : Fin 4096) (l : Fin 128) :
    result_dk X D G W (ix3 b r l) = dot (row4 X D G b r) (fun k => W (ix2 k (⟨1184 + l.val, by omega⟩ : Fin 2024))) :=
  (cut_dk_at _ b r l).trans (allCols_at X D G W b r _)

theorem result_dv_at (X : FVec Ideal S8x4096x1024 .f32) (D : FVec Ideal S8x9216 .f32) (G : FVec Ideal S1024 .f32) (W : FVec Ideal S1024x2024 .f32) (b : Fin 8) (r : Fin 4096) (l : Fin 128) :
    result_dv X D G W (ix3 b r l) = dot (row4 X D G b r) (fun k => W (ix2 k (⟨1312 + l.val, by omega⟩ : Fin 2024))) :=
  (cut_dv_at _ b r l).trans (allCols_at X D G W b r _)

theorem result_iq_at (X : FVec Ideal S8x4096x1024 .f32) (D : FVec Ideal S8x9216 .f32) (G : FVec Ideal S1024 .f32) (W : FVec Ideal S1024x2024 .f32) (b : Fin 8) (r : Fin 4096) (l : Fin 512) :
    result_iq X D G W (ix3 b r l) = dot (row4 X D G b r) (fun k => W (ix2 k (⟨1440 + l.val, by omega⟩ : Fin 2024))) :=
  (cut_iq_at _ b r l).trans (allCols_at X D G W b r _)

theorem result_ik_at (X : FVec Ideal S8x4096x1024 .f32) (D : FVec Ideal S8x9216 .f32) (G : FVec Ideal S1024 .f32) (W : FVec Ideal S1024x2024 .f32) (b : Fin 8) (r : Fin 4096) (l : Fin 64) :
    result_ik X D G W (ix3 b r l) = dot (row4 X D G b r) (fun k => W (ix2 k (⟨1952 + l.val, by omega⟩ : Fin 2024))) :=
  (cut_ik_at _ b r l).trans (allCols_at X D G W b r _)

theorem result_ckv_at (X : FVec Ideal S8x4096x1024 .f32) (D : FVec Ideal S8x9216 .f32) (G : FVec Ideal S1024 .f32) (W : FVec Ideal S1024x2024 .f32) (K : FVec Ideal S256 .f32) (b : Fin 8) (r : Fin 4096) (l : Fin 256) :
    result_ckv X D G W K (ix3 b r l)
      = latent (row4 X D G b r) (fun q k => W (ix2 k (⟨384 + q.val, by omega⟩ : Fin 2024))) (fun k => K (ix1 k)) l := by
  refine (latentNorm_at _ K b r l).trans ?_
  unfold latent
  refine congrArg (fun y => narrowNormed y (fun k => K (ix1 k)) l) (funext fun q => ?_)
  exact (cut_ckv_at _ b r q).trans (allCols_at X D G W b r _)

theorem result_v_at (X : FVec Ideal S8x4096x1024 .f32) (D : FVec Ideal S8x9216 .f32) (G : FVec Ideal S1024 .f32) (W : FVec Ideal S1024x2024 .f32) (K : FVec Ideal S256 .f32) (Wv : FVec Ideal S256x8x64 .f32) (b : Fin 8) (r : Fin 4096) (l : Fin 512) :
    result_v X D G W K Wv (ix3 b r l)
      = dot (latent (row4 X D G b r) (fun q k => W (ix2 k (⟨384 + q.val, by omega⟩ : Fin 2024))) (fun k => K (ix1 k)))
          (fun q => Wv (ix3 q (⟨l.val / 64, by omega⟩ : Fin 8) (⟨l.val % 64, by omega⟩ : Fin 64))) := by
  refine (valArr_at _ Wv b r l).trans ?_
  refine congrArg (fun y => dot y (fun q => Wv (ix3 q (⟨l.val / 64, by omega⟩ : Fin 8) (⟨l.val % 64, by omega⟩ : Fin 64)))) (funext fun q => ?_)
  exact result_ckv_at X D G W K b r q

end Cert.Reference4Ideal.Hand
-- ==== Proof.Projection.lean ====
module

public import proofs.«01_k».proof.Defs
public import proofs.«01_k».proof.Proof.Pack4
public import proofs.«01_k».proof.Proof.Ref4

@[expose] public section

/-! The projection's kernel and its reference leave the same arrays. -/

set_option maxRecDepth 16384

noncomputable section

namespace Cert.Proof.Projection

open Idealize.ShloMosaic Idealize.ShloMosaic.TcCoe Idealize.SL.Sem
open Cert.Kernel4Ideal.Hand Cert.Proof.Half

theorem row_same (X : FVec Ideal Cert.Kernel4Ideal.S8x4096x1024 .f32) (D : FVec Ideal Cert.Kernel4Ideal.S8x9216 .f32) (G : FVec Ideal Cert.Kernel4Ideal.S1024 .f32) (b : Fin 8) (r : Fin 4096) :
    rowAt X (modArr D) (gainArr G) b r = Cert.Reference4Ideal.Hand.row4 X D G b r := by
  unfold rowAt Cert.Reference4Ideal.Hand.row4
  rw [lanes_mod, lanes_mod, gain_row]

theorem lat_same (X : FVec Ideal Cert.Kernel4Ideal.S8x4096x1024 .f32) (D : FVec Ideal Cert.Kernel4Ideal.S8x9216 .f32) (G : FVec Ideal Cert.Kernel4Ideal.S1024 .f32)
    (W : FVec Ideal Cert.Kernel4Ideal.S1024x2024 .f32) (K : FVec Ideal Cert.Kernel4Ideal.S256 .f32) (b : Fin 8) (r : Fin 4096) :
    latAt X (modArr D) (gainArr G) (packW W) (narrowGain K) b r
      = latent (Cert.Reference4Ideal.Hand.row4 X D G b r) (fun q k => W (ix2 k (⟨384 + q.val, by omega⟩ : Fin 2024))) (fun k => K (ix1 k)) := by
  have e4 : (fun (q : Fin 256) (k : Fin 1024) => packW W (ix2 k (⟨384 + q.val, by omega⟩ : Fin 2432))) = fun q k => W (ix2 k (⟨384 + q.val, by omega⟩ : Fin 2024)) :=
    funext fun q => funext fun k => packW_ckv W k q
  have e7 : (fun k => narrowGain K (ix2 (0 : Fin 1) k)) = fun k => K (ix1 k) := funext fun k => narrowGain_at K k
  unfold latAt
  rw [row_same, e4, e7]

theorem same_at_v (X : FVec Ideal Cert.Kernel4Ideal.S8x4096x1024 .f32) (D : FVec Ideal Cert.Kernel4Ideal.S8x9216 .f32) (G : FVec Ideal Cert.Kernel4Ideal.S1024 .f32)
    (W : FVec Ideal Cert.Kernel4Ideal.S1024x2024 .f32) (K : FVec Ideal Cert.Kernel4Ideal.S256 .f32) (Wv : FVec Ideal Cert.Kernel4Ideal.S256x8x64 .f32) (b : Fin 8) (r : Fin 4096) (l : Fin 512) :
    at_v X (modArr D) (gainArr G) (packW W) (narrowGain K) (valCols Wv) b r l = Cert.Reference4Ideal.Hand.result_v X D G W K Wv (ix3 b r l) := by
  refine Eq.trans ?_ (Cert.Reference4Ideal.Hand.result_v_at X D G W K Wv b r l).symm
  unfold at_v
  rw [lat_same]
  exact congrArg (fun z => dot _ z) (funext fun q => valCols_at Wv q l)

theorem same_v (X : FVec Ideal Cert.Kernel4Ideal.S8x4096x1024 .f32) (D : FVec Ideal Cert.Kernel4Ideal.S8x9216 .f32) (G : FVec Ideal Cert.Kernel4Ideal.S1024 .f32)
    (W : FVec Ideal Cert.Kernel4Ideal.S1024x2024 .f32) (K : FVec Ideal Cert.Kernel4Ideal.S256 .f32) (Wv : FVec Ideal Cert.Kernel4Ideal.S256x8x64 .f32) :
    arr_v X (modArr D) (gainArr G) (packW W) (narrowGain K) (valCols Wv) = Cert.Reference4Ideal.Hand.result_v X D G W K Wv := by
  funext (i : Cert.Kernel4Ideal.S8x4096x512.Idx)
  have hi : ix3 (i 0) (i 1) (i 2) = i := by
    funext a
    match a with
    | ⟨0, _⟩ => rfl
    | ⟨1, _⟩ => rfl
    | ⟨2, _⟩ => rfl
  exact (same_at_v X D G W K Wv (i 0) (i 1) (i 2)).trans (congrArg (Cert.Reference4Ideal.Hand.result_v X D G W K Wv) hi)

theorem same_at_ckv (X : FVec Ideal Cert.Kernel4Ideal.S8x4096x1024 .f32) (D : FVec Ideal Cert.Kernel4Ideal.S8x9216 .f32) (G : FVec Ideal Cert.Kernel4Ideal.S1024 .f32)
    (W : FVec Ideal Cert.Kernel4Ideal.S1024x2024 .f32) (K : FVec Ideal Cert.Kernel4Ideal.S256 .f32) (b : Fin 8) (r : Fin 4096) (l : Fin 256) :
    at_ckv X (modArr D) (gainArr G) (packW W) (narrowGain K) b r l = Cert.Reference4Ideal.Hand.result_ckv X D G W K (ix3 b r l) := by
  refine Eq.trans ?_ (Cert.Reference4Ideal.Hand.result_ckv_at X D G W K b r l).symm
  unfold at_ckv
  rw [lat_same]

theorem same_ckv (X : FVec Ideal Cert.Kernel4Ideal.S8x4096x1024 .f32) (D : FVec Ideal Cert.Kernel4Ideal.S8x9216 .f32) (G : FVec Ideal Cert.Kernel4Ideal.S1024 .f32)
    (W : FVec Ideal Cert.Kernel4Ideal.S1024x2024 .f32) (K : FVec Ideal Cert.Kernel4Ideal.S256 .f32) :
    arr_ckv X (modArr D) (gainArr G) (packW W) (narrowGain K) = Cert.Reference4Ideal.Hand.result_ckv X D G W K := by
  funext (i : Cert.Kernel4Ideal.S8x4096x256.Idx)
  have hi : ix3 (i 0) (i 1) (i 2) = i := by
    funext a
    match a with
    | ⟨0, _⟩ => rfl
    | ⟨1, _⟩ => rfl
    | ⟨2, _⟩ => rfl
  exact (same_at_ckv X D G W K (i 0) (i 1) (i 2)).trans (congrArg (Cert.Reference4Ideal.Hand.result_ckv X D G W K) hi)

theorem same_at_dk (X : FVec Ideal Cert.Kernel4Ideal.S8x4096x1024 .f32) (D : FVec Ideal Cert.Kernel4Ideal.S8x9216 .f32) (G : FVec Ideal Cert.Kernel4Ideal.S1024 .f32)
    (W : FVec Ideal Cert.Kernel4Ideal.S1024x2024 .f32) (b : Fin 8) (r : Fin 4096) (l : Fin 128) :
    at_dk X (modArr D) (gainArr G) (packW W) b r l = Cert.Reference4Ideal.Hand.result_dk X D G W (ix3 b r l) := by
  refine Eq.trans ?_ (Cert.Reference4Ideal.Hand.result_dk_at X D G W b r l).symm
  unfold at_dk
  rw [row_same]
  exact congrArg (fun z => dot _ z) (funext fun k => packW_dk W k l)

theorem same_dk (X : FVec Ideal Cert.Kernel4Ideal.S8x4096x1024 .f32) (D : FVec Ideal Cert.Kernel4Ideal.S8x9216 .f32) (G : FVec Ideal Cert.Kernel4Ideal.S1024 .f32)
    (W : FVec Ideal Cert.Kernel4Ideal.S1024x2024 .f32) :
    arr_dk X (modArr D) (gainArr G) (packW W) = Cert.Reference4Ideal.Hand.result_dk X D G W := by
  funext (i : Cert.Kernel4Ideal.S8x4096x128.Idx)
  have hi : ix3 (i 0) (i 1) (i 2) = i := by
    funext a
    match a with
    | ⟨0, _⟩ => rfl
    | ⟨1, _⟩ => rfl
    | ⟨2, _⟩ => rfl
  exact (same_at_dk X D G W (i 0) (i 1) (i 2)).trans (congrArg (Cert.Reference4Ideal.Hand.result_dk X D G W) hi)

theorem same_at_dv (X : FVec Ideal Cert.Kernel4Ideal.S8x4096x1024 .f32) (D : FVec Ideal Cert.Kernel4Ideal.S8x9216 .f32) (G : FVec Ideal Cert.Kernel4Ideal.S1024 .f32)
    (W : FVec Ideal Cert.Kernel4Ideal.S1024x2024 .f32) (b : Fin 8) (r : Fin 4096) (l : Fin 128) :
    at_dv X (modArr D) (gainArr G) (packW W) b r l = Cert.Reference4Ideal.Hand.result_dv X D G W (ix3 b r l) := by
  refine Eq.trans ?_ (Cert.Reference4Ideal.Hand.result_dv_at X D G W b r l).symm
  unfold at_dv
  rw [row_same]
  exact congrArg (fun z => dot _ z) (funext fun k => packW_dv W k l)

theorem same_dv (X : FVec Ideal Cert.Kernel4Ideal.S8x4096x1024 .f32) (D : FVec Ideal Cert.Kernel4Ideal.S8x9216 .f32) (G : FVec Ideal Cert.Kernel4Ideal.S1024 .f32)
    (W : FVec Ideal Cert.Kernel4Ideal.S1024x2024 .f32) :
    arr_dv X (modArr D) (gainArr G) (packW W) = Cert.Reference4Ideal.Hand.result_dv X D G W := by
  funext (i : Cert.Kernel4Ideal.S8x4096x128.Idx)
  have hi : ix3 (i 0) (i 1) (i 2) = i := by
    funext a
    match a with
    | ⟨0, _⟩ => rfl
    | ⟨1, _⟩ => rfl
    | ⟨2, _⟩ => rfl
  exact (same_at_dv X D G W (i 0) (i 1) (i 2)).trans (congrArg (Cert.Reference4Ideal.Hand.result_dv X D G W) hi)

theorem same_at_iq (X : FVec Ideal Cert.Kernel4Ideal.S8x4096x1024 .f32) (D : FVec Ideal Cert.Kernel4Ideal.S8x9216 .f32) (G : FVec Ideal Cert.Kernel4Ideal.S1024 .f32)
    (W : FVec Ideal Cert.Kernel4Ideal.S1024x2024 .f32) (b : Fin 8) (r : Fin 4096) (l : Fin 512) :
    at_iq X (modArr D) (gainArr G) (packW W) b r l = Cert.Reference4Ideal.Hand.result_iq X D G W (ix3 b r l) := by
  refine Eq.trans ?_ (Cert.Reference4Ideal.Hand.result_iq_at X D G W b r l).symm
  unfold at_iq
  rw [row_same]
  exact congrArg (fun z => dot _ z) (funext fun k => packW_iq W k l)

theorem same_iq (X : FVec Ideal Cert.Kernel4Ideal.S8x4096x1024 .f32) (D : FVec Ideal Cert.Kernel4Ideal.S8x9216 .f32) (G : FVec Ideal Cert.Kernel4Ideal.S1024 .f32)
    (W : FVec Ideal Cert.Kernel4Ideal.S1024x2024 .f32) :
    arr_iq X (modArr D) (gainArr G) (packW W) = Cert.Reference4Ideal.Hand.result_iq X D G W := by
  funext (i : Cert.Kernel4Ideal.S8x4096x512.Idx)
  have hi : ix3 (i 0) (i 1) (i 2) = i := by
    funext a
    match a with
    | ⟨0, _⟩ => rfl
    | ⟨1, _⟩ => rfl
    | ⟨2, _⟩ => rfl
  exact (same_at_iq X D G W (i 0) (i 1) (i 2)).trans (congrArg (Cert.Reference4Ideal.Hand.result_iq X D G W) hi)

theorem same_at_ik (X : FVec Ideal Cert.Kernel4Ideal.S8x4096x1024 .f32) (D : FVec Ideal Cert.Kernel4Ideal.S8x9216 .f32) (G : FVec Ideal Cert.Kernel4Ideal.S1024 .f32)
    (W : FVec Ideal Cert.Kernel4Ideal.S1024x2024 .f32) (b : Fin 8) (r : Fin 4096) (l : Fin 64) :
    at_ik X (modArr D) (gainArr G) (packW W) b r l = Cert.Reference4Ideal.Hand.result_ik X D G W (ix3 b r l) := by
  refine Eq.trans ?_ (Cert.Reference4Ideal.Hand.result_ik_at X D G W b r l).symm
  unfold at_ik
  rw [row_same]
  exact congrArg (fun z => dot _ z) (funext fun k => packW_ik W k l)

theorem same_ik (X : FVec Ideal Cert.Kernel4Ideal.S8x4096x1024 .f32) (D : FVec Ideal Cert.Kernel4Ideal.S8x9216 .f32) (G : FVec Ideal Cert.Kernel4Ideal.S1024 .f32)
    (W : FVec Ideal Cert.Kernel4Ideal.S1024x2024 .f32) :
    arr_ik X (modArr D) (gainArr G) (packW W) = Cert.Reference4Ideal.Hand.result_ik X D G W := by
  funext (i : Cert.Kernel4Ideal.S8x4096x64.Idx)
  have hi : ix3 (i 0) (i 1) (i 2) = i := by
    funext a
    match a with
    | ⟨0, _⟩ => rfl
    | ⟨1, _⟩ => rfl
    | ⟨2, _⟩ => rfl
  exact (same_at_ik X D G W (i 0) (i 1) (i 2)).trans (congrArg (Cert.Reference4Ideal.Hand.result_ik X D G W) hi)

theorem frame_ri : Cert.quiescent_Reference4Ideal := fun m ρ _ =>
  (θ_run Cert.Reference4Ideal.defs _ _).mono (fun r h => ⟨fun c => (h c).2.2.2.2.2.2, sem_eq_zero_of_no_sems (by decide) r.2⟩)
    (Cert.Reference4Ideal.Value.run (F := Ideal) m ρ)

set_option maxHeartbeats 4000000 in
theorem algebraic : Cert.algebraic_Kernel4Ideal_Reference4Ideal := by
  intro m g m' g' hpre hagree
  have k_v : ∀ c, (Cert.Kernel4Ideal.Whole.dats m 0 c).arrAt 14 Cert.Kernel4Ideal.cfg0.N
      = Cert.Reference4Ideal.Hand.result_v (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg8)) := by
    intro c
    obtain ⟨a0, a1, a2, a3, _, _, a6, _, a8⟩ := hagree c
    rw [a0, a1, a2, a3, a6, a8]
    rw [final_v m c, entry_x, entry_mod, entry_gain, entry_cols, entry_narrow, entry_val]
    exact same_v _ _ _ _ _ _
  have k_ckv : ∀ c, (Cert.Kernel4Ideal.Whole.dats m 0 c).arrAt 15 Cert.Kernel4Ideal.cfg0.N
      = Cert.Reference4Ideal.Hand.result_ckv (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg6)) := by
    intro c
    obtain ⟨a0, a1, a2, a3, _, _, a6, _, a8⟩ := hagree c
    rw [a0, a1, a2, a3, a6]
    rw [final_ckv m c, entry_x, entry_mod, entry_gain, entry_cols, entry_narrow]
    exact same_ckv _ _ _ _ _
  have k_dk : ∀ c, (Cert.Kernel4Ideal.Whole.dats m 0 c).arrAt 18 Cert.Kernel4Ideal.cfg0.N
      = Cert.Reference4Ideal.Hand.result_dk (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) := by
    intro c
    obtain ⟨a0, a1, a2, a3, _, _, a6, _, a8⟩ := hagree c
    rw [a0, a1, a2, a3]
    rw [final_dk m c, entry_x, entry_mod, entry_gain, entry_cols]
    exact same_dk _ _ _ _
  have k_dv : ∀ c, (Cert.Kernel4Ideal.Whole.dats m 0 c).arrAt 19 Cert.Kernel4Ideal.cfg0.N
      = Cert.Reference4Ideal.Hand.result_dv (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) := by
    intro c
    obtain ⟨a0, a1, a2, a3, _, _, a6, _, a8⟩ := hagree c
    rw [a0, a1, a2, a3]
    rw [final_dv m c, entry_x, entry_mod, entry_gain, entry_cols]
    exact same_dv _ _ _ _
  have k_iq : ∀ c, (Cert.Kernel4Ideal.Whole.dats m 0 c).arrAt 22 Cert.Kernel4Ideal.cfg0.N
      = Cert.Reference4Ideal.Hand.result_iq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) := by
    intro c
    obtain ⟨a0, a1, a2, a3, _, _, a6, _, a8⟩ := hagree c
    rw [a0, a1, a2, a3]
    rw [final_iq m c, entry_x, entry_mod, entry_gain, entry_cols]
    exact same_iq _ _ _ _
  have k_ik : ∀ c, (Cert.Kernel4Ideal.Whole.dats m 0 c).arrAt 23 Cert.Kernel4Ideal.cfg0.N
      = Cert.Reference4Ideal.Hand.result_ik (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) := by
    intro c
    obtain ⟨a0, a1, a2, a3, _, _, a6, _, a8⟩ := hagree c
    rw [a0, a1, a2, a3]
    rw [final_ik m c, entry_x, entry_mod, entry_gain, entry_cols]
    exact same_ik _ _ _ _
  refine ⟨fun c => Cert.Reference4Ideal.Hand.result_v (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg8)), fun c => Cert.Reference4Ideal.Hand.result_ckv (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg6)), fun c => Cert.Reference4Ideal.Hand.result_dk (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)), fun c => Cert.Reference4Ideal.Hand.result_dv (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)), fun c => Cert.Reference4Ideal.Hand.result_iq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)), fun c => Cert.Reference4Ideal.Hand.result_ik (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)), ?_, Cert.Reference4Ideal.Value.run (F := Ideal) m' g'⟩
  refine (θ_run Cert.Kernel4Ideal.defs _ _).mono (fun _ h c => ?_) (Cert.Kernel4Ideal.Whole.run_blocks (F := Ideal) m g)
  obtain ⟨o2, o3, o6, o7, o10, o11, rest⟩ := h c
  exact ⟨o2.trans (k_v c), o3.trans (k_ckv c), o6.trans (k_dk c), o7.trans (k_dv c), o10.trans (k_iq c), o11.trans (k_ik c), rest⟩

end Cert.Proof.Projection
-- ==== Proof.lean ====
/- The claims of this certificate, each by its module's theorem. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Frame4Kernel
public import proofs.«01_k».proof.Proof.Gen.Kernel4Ideal
public import proofs.«01_k».proof.Proof.Frame4
public import proofs.«01_k».proof.Proof.Gen.Reference4Ideal.Run
public import proofs.«01_k».proof.Proof.Attention
public import proofs.«01_k».proof.Proof.FirstHalf
public import proofs.«01_k».proof.Proof.SecondHalf
public import proofs.«01_k».proof.Proof.Projection

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Attention.preFacts,
  fun m ρ _ => Cert.Kernel.Gen.frame m ρ,
  fun m ρ _ => Cert.KernelIdeal.Gen.frame m ρ, fun m ρ _ => Cert.KernelIdeal.Gen.frame m ρ,
  Attention.frame_ri, fun m ρ _ => Attention.frame_ri m ρ trivial,
  fun m ρ _ => Cert.Kernel2.Gen.frame m ρ, fun m ρ _ => Cert.Kernel2Ideal.Gen.frame m ρ, FirstHalf.frame_ri,
  fun m ρ _ => Cert.Kernel3.Gen.frame m ρ, fun m ρ _ => Cert.Kernel3Ideal.Gen.frame m ρ, SecondHalf.frame_ri,
  Projection.frame_kernel, fun m ρ _ => Cert.Kernel4Ideal.Whole.frame m ρ, Projection.frame_ri,
  IdealRules.named_const.statement Cert.KernelIdeal.κ "scale2" .f32 0x3E16C740#32 _ rfl,
  Attention.algebraic, trivial, FirstHalf.algebraic, trivial, SecondHalf.algebraic, trivial, Projection.algebraic⟩

end Cert.Proof

end
